-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_qkv [hPre_finite_qkv : Cert.Pre_finite_qkv.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_qkv.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_qkv [hPre_finite_qkv : Cert.Pre_finite_qkv.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_qkv.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))) = (fun _ => 1#1)

def Pre_OutStep (m : (ℓ : Loc Cert.OutStep.nD Cert.OutStep.τ Cert.OutStep.sig) → Buf (Elt Bits) ℓ) : Prop :=
  True

def Pre_OutStepIdeal (m : (ℓ : Loc Cert.OutStepIdeal.nD Cert.OutStepIdeal.τ Cert.OutStepIdeal.sig) → Buf (Elt Ideal) ℓ) : Prop :=
  True

def Pre_OutStepReferenceIdeal (m : (ℓ : Loc Cert.OutStepReferenceIdeal.nD Cert.OutStepReferenceIdeal.τ Cert.OutStepReferenceIdeal.sig) → Buf (Elt Ideal) ℓ) : Prop :=
  True

def Pre_HeadStep (m : (ℓ : Loc Cert.HeadStep.nD Cert.HeadStep.τ Cert.HeadStep.sig) → Buf (Elt Bits) ℓ) : Prop :=
  True

def Pre_HeadStepIdeal (m : (ℓ : Loc Cert.HeadStepIdeal.nD Cert.HeadStepIdeal.τ Cert.HeadStepIdeal.sig) → Buf (Elt Ideal) ℓ) : Prop :=
  True

def Pre_HeadStepReferenceIdeal (m : (ℓ : Loc Cert.HeadStepReferenceIdeal.nD Cert.HeadStepReferenceIdeal.τ Cert.HeadStepReferenceIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepReferenceIdeal (m : (ℓ : Loc Cert.InStepReferenceIdeal.nD Cert.InStepReferenceIdeal.τ Cert.InStepReferenceIdeal.sig) → Buf (Elt Ideal) ℓ) : Prop :=
  True

def Pre_RepStep (m : (ℓ : Loc Cert.RepStep.nD Cert.RepStep.τ Cert.RepStep.sig) → Buf (Elt Bits) ℓ) : Prop :=
  True

def Pre_RepStepIdeal (m : (ℓ : Loc Cert.RepStepIdeal.nD Cert.RepStepIdeal.τ Cert.RepStepIdeal.sig) → Buf (Elt Ideal) ℓ) : Prop :=
  True

def Pre_RepStepReferenceIdeal (m : (ℓ : Loc Cert.RepStepReferenceIdeal.nD Cert.RepStepReferenceIdeal.τ Cert.RepStepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_qkv [hForwardIdeal : Cert.ForwardIdeal.Facts] [hPre_finite_qkv : Cert.Pre_finite_qkv.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_qkv m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_qkv [hForwardReferenceIdeal : Cert.ForwardReferenceIdeal.Facts] [hPre_finite_qkv : Cert.Pre_finite_qkv.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_qkv m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_OutStep [hOutStep : Cert.OutStep.Facts] : Prop :=
  ∀ (m : (ℓ : Loc Cert.OutStep.nD Cert.OutStep.τ Cert.OutStep.sig) → Buf (Elt Bits) ℓ) (g : Dev Cert.OutStep.nD → PrngReg), Pre_OutStep m →
    θ_run (Cert.OutStep.defs (F := Bits)) (onTc (τ := Cert.OutStep.τ) (Cert.OutStep.main (F := Bits))) ⟨m, fun _ => 0, g⟩ (fun r => (∀ c : Dev Cert.OutStep.nD,
      r.2.mem ((c.tc : Thread Cert.OutStep.nD Cert.OutStep.τ).loc Cert.OutStep.main_arg0) = m ((c.tc : Thread Cert.OutStep.nD Cert.OutStep.τ).loc Cert.OutStep.main_arg0)
      ∧ r.2.mem ((c.tc : Thread Cert.OutStep.nD Cert.OutStep.τ).loc Cert.OutStep.main_arg1) = m ((c.tc : Thread Cert.OutStep.nD Cert.OutStep.τ).loc Cert.OutStep.main_arg1)
      ∧ r.2.mem ((c.tc : Thread Cert.OutStep.nD Cert.OutStep.τ).loc Cert.OutStep.main_arg2) = m ((c.tc : Thread Cert.OutStep.nD Cert.OutStep.τ).loc Cert.OutStep.main_arg2)
      ∧ r.2.mem ((c.tc : Thread Cert.OutStep.nD Cert.OutStep.τ).loc Cert.OutStep.main_arg3) = m ((c.tc : Thread Cert.OutStep.nD Cert.OutStep.τ).loc Cert.OutStep.main_arg3))
      ∧ r.2.sem = fun _ => 0)

def quiescent_OutStepIdeal [hOutStepIdeal : Cert.OutStepIdeal.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ r.2.sem = fun _ => 0)

def quiescent_OutStepReferenceIdeal [hOutStepReferenceIdeal : Cert.OutStepReferenceIdeal.Facts] : Prop :=
  ∀ (m : (ℓ : Loc Cert.OutStepReferenceIdeal.nD Cert.OutStepReferenceIdeal.τ Cert.OutStepReferenceIdeal.sig) → Buf (Elt Ideal) ℓ) (g : Dev Cert.OutStepReferenceIdeal.nD → PrngReg), Pre_OutStepReferenceIdeal m →
    θ_run (Cert.OutStepReferenceIdeal.defs (F := Ideal)) (onTc (τ := Cert.OutStepReferenceIdeal.τ) (Cert.OutStepReferenceIdeal.main (F := Ideal))) ⟨m, fun _ => 0, g⟩ (fun r => (∀ c : Dev Cert.OutStepReferenceIdeal.nD,
      r.2.mem ((c.tc : Thread Cert.OutStepReferenceIdeal.nD Cert.OutStepReferenceIdeal.τ).loc Cert.OutStepReferenceIdeal.main_arg0) = m ((c.tc : Thread Cert.OutStepReferenceIdeal.nD Cert.OutStepReferenceIdeal.τ).loc Cert.OutStepReferenceIdeal.main_arg0)
      ∧ r.2.mem ((c.tc : Thread Cert.OutStepReferenceIdeal.nD Cert.OutStepReferenceIdeal.τ).loc Cert.OutStepReferenceIdeal.main_arg1) = m ((c.tc : Thread Cert.OutStepReferenceIdeal.nD Cert.OutStepReferenceIdeal.τ).loc Cert.OutStepReferenceIdeal.main_arg1)
      ∧ r.2.mem ((c.tc : Thread Cert.OutStepReferenceIdeal.nD Cert.OutStepReferenceIdeal.τ).loc Cert.OutStepReferenceIdeal.main_arg2) = m ((c.tc : Thread Cert.OutStepReferenceIdeal.nD Cert.OutStepReferenceIdeal.τ).loc Cert.OutStepReferenceIdeal.main_arg2)
      ∧ r.2.mem ((c.tc : Thread Cert.OutStepReferenceIdeal.nD Cert.OutStepReferenceIdeal.τ).loc Cert.OutStepReferenceIdeal.main_arg3) = m ((c.tc : Thread Cert.OutStepReferenceIdeal.nD Cert.OutStepReferenceIdeal.τ).loc Cert.OutStepReferenceIdeal.main_arg3))
      ∧ r.2.sem = fun _ => 0)

def quiescent_HeadStep [hHeadStep : Cert.HeadStep.Facts] : Prop :=
  ∀ (m : (ℓ : Loc Cert.HeadStep.nD Cert.HeadStep.τ Cert.HeadStep.sig) → Buf (Elt Bits) ℓ) (g : Dev Cert.HeadStep.nD → PrngReg), Pre_HeadStep m →
    θ_run (Cert.HeadStep.defs (F := Bits)) (onTc (τ := Cert.HeadStep.τ) (Cert.HeadStep.main (F := Bits))) ⟨m, fun _ => 0, g⟩ (fun r => (∀ c : Dev Cert.HeadStep.nD,
      r.2.mem ((c.tc : Thread Cert.HeadStep.nD Cert.HeadStep.τ).loc Cert.HeadStep.main_arg0) = m ((c.tc : Thread Cert.HeadStep.nD Cert.HeadStep.τ).loc Cert.HeadStep.main_arg0)
      ∧ r.2.mem ((c.tc : Thread Cert.HeadStep.nD Cert.HeadStep.τ).loc Cert.HeadStep.main_arg1) = m ((c.tc : Thread Cert.HeadStep.nD Cert.HeadStep.τ).loc Cert.HeadStep.main_arg1)
      ∧ r.2.mem ((c.tc : Thread Cert.HeadStep.nD Cert.HeadStep.τ).loc Cert.HeadStep.main_arg2) = m ((c.tc : Thread Cert.HeadStep.nD Cert.HeadStep.τ).loc Cert.HeadStep.main_arg2)
      ∧ r.2.mem ((c.tc : Thread Cert.HeadStep.nD Cert.HeadStep.τ).loc Cert.HeadStep.main_arg3) = m ((c.tc : Thread Cert.HeadStep.nD Cert.HeadStep.τ).loc Cert.HeadStep.main_arg3))
      ∧ r.2.sem = fun _ => 0)

def quiescent_HeadStepIdeal [hHeadStepIdeal : Cert.HeadStepIdeal.Facts] : Prop :=
  ∀ (m : (ℓ : Loc Cert.HeadStepIdeal.nD Cert.HeadStepIdeal.τ Cert.HeadStepIdeal.sig) → Buf (Elt Ideal) ℓ) (g : Dev Cert.HeadStepIdeal.nD → PrngReg), Pre_HeadStepIdeal m →
    θ_run (Cert.HeadStepIdeal.defs (F := Ideal)) (onTc (τ := Cert.HeadStepIdeal.τ) (Cert.HeadStepIdeal.main (F := Ideal))) ⟨m, fun _ => 0, g⟩ (fun r => (∀ c : Dev Cert.HeadStepIdeal.nD,
      r.2.mem ((c.tc : Thread Cert.HeadStepIdeal.nD Cert.HeadStepIdeal.τ).loc Cert.HeadStepIdeal.main_arg0) = m ((c.tc : Thread Cert.HeadStepIdeal.nD Cert.HeadStepIdeal.τ).loc Cert.HeadStepIdeal.main_arg0)
      ∧ r.2.mem ((c.tc : Thread Cert.HeadStepIdeal.nD Cert.HeadStepIdeal.τ).loc Cert.HeadStepIdeal.main_arg1) = m ((c.tc : Thread Cert.HeadStepIdeal.nD Cert.HeadStepIdeal.τ).loc Cert.HeadStepIdeal.main_arg1)
      ∧ r.2.mem ((c.tc : Thread Cert.HeadStepIdeal.nD Cert.HeadStepIdeal.τ).loc Cert.HeadStepIdeal.main_arg2) = m ((c.tc : Thread Cert.HeadStepIdeal.nD Cert.HeadStepIdeal.τ).loc Cert.HeadStepIdeal.main_arg2)
      ∧ r.2.mem ((c.tc : Thread Cert.HeadStepIdeal.nD Cert.HeadStepIdeal.τ).loc Cert.HeadStepIdeal.main_arg3) = m ((c.tc : Thread Cert.HeadStepIdeal.nD Cert.HeadStepIdeal.τ).loc Cert.HeadStepIdeal.main_arg3))
      ∧ r.2.sem = fun _ => 0)

def quiescent_HeadStepReferenceIdeal [hHeadStepReferenceIdeal : Cert.HeadStepReferenceIdeal.Facts] : Prop :=
  ∀ (m : (ℓ : Loc Cert.HeadStepReferenceIdeal.nD Cert.HeadStepReferenceIdeal.τ Cert.HeadStepReferenceIdeal.sig) → Buf (Elt Ideal) ℓ) (g : Dev Cert.HeadStepReferenceIdeal.nD → PrngReg), Pre_HeadStepReferenceIdeal m →
    θ_run (Cert.HeadStepReferenceIdeal.defs (F := Ideal)) (onTc (τ := Cert.HeadStepReferenceIdeal.τ) (Cert.HeadStepReferenceIdeal.main (F := Ideal))) ⟨m, fun _ => 0, g⟩ (fun r => (∀ c : Dev Cert.HeadStepReferenceIdeal.nD,
      r.2.mem ((c.tc : Thread Cert.HeadStepReferenceIdeal.nD Cert.HeadStepReferenceIdeal.τ).loc Cert.HeadStepReferenceIdeal.main_arg0) = m ((c.tc : Thread Cert.HeadStepReferenceIdeal.nD Cert.HeadStepReferenceIdeal.τ).loc Cert.HeadStepReferenceIdeal.main_arg0)
      ∧ r.2.mem ((c.tc : Thread Cert.HeadStepReferenceIdeal.nD Cert.HeadStepReferenceIdeal.τ).loc Cert.HeadStepReferenceIdeal.main_arg1) = m ((c.tc : Thread Cert.HeadStepReferenceIdeal.nD Cert.HeadStepReferenceIdeal.τ).loc Cert.HeadStepReferenceIdeal.main_arg1)
      ∧ r.2.mem ((c.tc : Thread Cert.HeadStepReferenceIdeal.nD Cert.HeadStepReferenceIdeal.τ).loc Cert.HeadStepReferenceIdeal.main_arg2) = m ((c.tc : Thread Cert.HeadStepReferenceIdeal.nD Cert.HeadStepReferenceIdeal.τ).loc Cert.HeadStepReferenceIdeal.main_arg2)
      ∧ r.2.mem ((c.tc : Thread Cert.HeadStepReferenceIdeal.nD Cert.HeadStepReferenceIdeal.τ).loc Cert.HeadStepReferenceIdeal.main_arg3) = m ((c.tc : Thread Cert.HeadStepReferenceIdeal.nD Cert.HeadStepReferenceIdeal.τ).loc Cert.HeadStepReferenceIdeal.main_arg3))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ r.2.sem = fun _ => 0)

def quiescent_InStepReferenceIdeal [hInStepReferenceIdeal : Cert.InStepReferenceIdeal.Facts] : Prop :=
  ∀ (m : (ℓ : Loc Cert.InStepReferenceIdeal.nD Cert.InStepReferenceIdeal.τ Cert.InStepReferenceIdeal.sig) → Buf (Elt Ideal) ℓ) (g : Dev Cert.InStepReferenceIdeal.nD → PrngReg), Pre_InStepReferenceIdeal m →
    θ_run (Cert.InStepReferenceIdeal.defs (F := Ideal)) (onTc (τ := Cert.InStepReferenceIdeal.τ) (Cert.InStepReferenceIdeal.main (F := Ideal))) ⟨m, fun _ => 0, g⟩ (fun r => (∀ c : Dev Cert.InStepReferenceIdeal.nD,
      r.2.mem ((c.tc : Thread Cert.InStepReferenceIdeal.nD Cert.InStepReferenceIdeal.τ).loc Cert.InStepReferenceIdeal.main_arg0) = m ((c.tc : Thread Cert.InStepReferenceIdeal.nD Cert.InStepReferenceIdeal.τ).loc Cert.InStepReferenceIdeal.main_arg0)
      ∧ r.2.mem ((c.tc : Thread Cert.InStepReferenceIdeal.nD Cert.InStepReferenceIdeal.τ).loc Cert.InStepReferenceIdeal.main_arg1) = m ((c.tc : Thread Cert.InStepReferenceIdeal.nD Cert.InStepReferenceIdeal.τ).loc Cert.InStepReferenceIdeal.main_arg1)
      ∧ r.2.mem ((c.tc : Thread Cert.InStepReferenceIdeal.nD Cert.InStepReferenceIdeal.τ).loc Cert.InStepReferenceIdeal.main_arg2) = m ((c.tc : Thread Cert.InStepReferenceIdeal.nD Cert.InStepReferenceIdeal.τ).loc Cert.InStepReferenceIdeal.main_arg2)
      ∧ r.2.mem ((c.tc : Thread Cert.InStepReferenceIdeal.nD Cert.InStepReferenceIdeal.τ).loc Cert.InStepReferenceIdeal.main_arg3) = m ((c.tc : Thread Cert.InStepReferenceIdeal.nD Cert.InStepReferenceIdeal.τ).loc Cert.InStepReferenceIdeal.main_arg3))
      ∧ r.2.sem = fun _ => 0)

def quiescent_RepStep [hRepStep : Cert.RepStep.Facts] : Prop :=
  ∀ (m : (ℓ : Loc Cert.RepStep.nD Cert.RepStep.τ Cert.RepStep.sig) → Buf (Elt Bits) ℓ) (g : Dev Cert.RepStep.nD → PrngReg), Pre_RepStep m →
    θ_run (Cert.RepStep.defs (F := Bits)) (onTc (τ := Cert.RepStep.τ) (Cert.RepStep.main (F := Bits))) ⟨m, fun _ => 0, g⟩ (fun r => (∀ c : Dev Cert.RepStep.nD,
      r.2.mem ((c.tc : Thread Cert.RepStep.nD Cert.RepStep.τ).loc Cert.RepStep.main_arg0) = m ((c.tc : Thread Cert.RepStep.nD Cert.RepStep.τ).loc Cert.RepStep.main_arg0)
      ∧ r.2.mem ((c.tc : Thread Cert.RepStep.nD Cert.RepStep.τ).loc Cert.RepStep.main_arg1) = m ((c.tc : Thread Cert.RepStep.nD Cert.RepStep.τ).loc Cert.RepStep.main_arg1)
      ∧ r.2.mem ((c.tc : Thread Cert.RepStep.nD Cert.RepStep.τ).loc Cert.RepStep.main_arg2) = m ((c.tc : Thread Cert.RepStep.nD Cert.RepStep.τ).loc Cert.RepStep.main_arg2)
      ∧ r.2.mem ((c.tc : Thread Cert.RepStep.nD Cert.RepStep.τ).loc Cert.RepStep.main_arg3) = m ((c.tc : Thread Cert.RepStep.nD Cert.RepStep.τ).loc Cert.RepStep.main_arg3)
      ∧ r.2.mem ((c.tc : Thread Cert.RepStep.nD Cert.RepStep.τ).loc Cert.RepStep.main_arg4) = m ((c.tc : Thread Cert.RepStep.nD Cert.RepStep.τ).loc Cert.RepStep.main_arg4)
      ∧ r.2.mem ((c.tc : Thread Cert.RepStep.nD Cert.RepStep.τ).loc Cert.RepStep.main_arg5) = m ((c.tc : Thread Cert.RepStep.nD Cert.RepStep.τ).loc Cert.RepStep.main_arg5)
      ∧ r.2.mem ((c.tc : Thread Cert.RepStep.nD Cert.RepStep.τ).loc Cert.RepStep.main_arg6) = m ((c.tc : Thread Cert.RepStep.nD Cert.RepStep.τ).loc Cert.RepStep.main_arg6)
      ∧ r.2.mem ((c.tc : Thread Cert.RepStep.nD Cert.RepStep.τ).loc Cert.RepStep.main_arg7) = m ((c.tc : Thread Cert.RepStep.nD Cert.RepStep.τ).loc Cert.RepStep.main_arg7)
      ∧ r.2.mem ((c.tc : Thread Cert.RepStep.nD Cert.RepStep.τ).loc Cert.RepStep.main_arg8) = m ((c.tc : Thread Cert.RepStep.nD Cert.RepStep.τ).loc Cert.RepStep.main_arg8)
      ∧ r.2.mem ((c.tc : Thread Cert.RepStep.nD Cert.RepStep.τ).loc Cert.RepStep.main_arg9) = m ((c.tc : Thread Cert.RepStep.nD Cert.RepStep.τ).loc Cert.RepStep.main_arg9)
      ∧ r.2.mem ((c.tc : Thread Cert.RepStep.nD Cert.RepStep.τ).loc Cert.RepStep.main_arg10) = m ((c.tc : Thread Cert.RepStep.nD Cert.RepStep.τ).loc Cert.RepStep.main_arg10)
      ∧ r.2.mem ((c.tc : Thread Cert.RepStep.nD Cert.RepStep.τ).loc Cert.RepStep.main_arg11) = m ((c.tc : Thread Cert.RepStep.nD Cert.RepStep.τ).loc Cert.RepStep.main_arg11)
      ∧ r.2.mem ((c.tc : Thread Cert.RepStep.nD Cert.RepStep.τ).loc Cert.RepStep.main_arg12) = m ((c.tc : Thread Cert.RepStep.nD Cert.RepStep.τ).loc Cert.RepStep.main_arg12)
      ∧ r.2.mem ((c.tc : Thread Cert.RepStep.nD Cert.RepStep.τ).loc Cert.RepStep.main_arg13) = m ((c.tc : Thread Cert.RepStep.nD Cert.RepStep.τ).loc Cert.RepStep.main_arg13)
      ∧ r.2.mem ((c.tc : Thread Cert.RepStep.nD Cert.RepStep.τ).loc Cert.RepStep.main_arg14) = m ((c.tc : Thread Cert.RepStep.nD Cert.RepStep.τ).loc Cert.RepStep.main_arg14)
      ∧ r.2.mem ((c.tc : Thread Cert.RepStep.nD Cert.RepStep.τ).loc Cert.RepStep.main_arg15) = m ((c.tc : Thread Cert.RepStep.nD Cert.RepStep.τ).loc Cert.RepStep.main_arg15)
      ∧ r.2.mem ((c.tc : Thread Cert.RepStep.nD Cert.RepStep.τ).loc Cert.RepStep.main_arg16) = m ((c.tc : Thread Cert.RepStep.nD Cert.RepStep.τ).loc Cert.RepStep.main_arg16)
      ∧ r.2.mem ((c.tc : Thread Cert.RepStep.nD Cert.RepStep.τ).loc Cert.RepStep.main_arg17) = m ((c.tc : Thread Cert.RepStep.nD Cert.RepStep.τ).loc Cert.RepStep.main_arg17)
      ∧ r.2.mem ((c.tc : Thread Cert.RepStep.nD Cert.RepStep.τ).loc Cert.RepStep.main_arg18) = m ((c.tc : Thread Cert.RepStep.nD Cert.RepStep.τ).loc Cert.RepStep.main_arg18)
      ∧ r.2.mem ((c.tc : Thread Cert.RepStep.nD Cert.RepStep.τ).loc Cert.RepStep.main_arg19) = m ((c.tc : Thread Cert.RepStep.nD Cert.RepStep.τ).loc Cert.RepStep.main_arg19)
      ∧ r.2.mem ((c.tc : Thread Cert.RepStep.nD Cert.RepStep.τ).loc Cert.RepStep.main_arg20) = m ((c.tc : Thread Cert.RepStep.nD Cert.RepStep.τ).loc Cert.RepStep.main_arg20)
      ∧ r.2.mem ((c.tc : Thread Cert.RepStep.nD Cert.RepStep.τ).loc Cert.RepStep.main_arg21) = m ((c.tc : Thread Cert.RepStep.nD Cert.RepStep.τ).loc Cert.RepStep.main_arg21)
      ∧ r.2.mem ((c.tc : Thread Cert.RepStep.nD Cert.RepStep.τ).loc Cert.RepStep.main_arg22) = m ((c.tc : Thread Cert.RepStep.nD Cert.RepStep.τ).loc Cert.RepStep.main_arg22)
      ∧ r.2.mem ((c.tc : Thread Cert.RepStep.nD Cert.RepStep.τ).loc Cert.RepStep.main_arg23) = m ((c.tc : Thread Cert.RepStep.nD Cert.RepStep.τ).loc Cert.RepStep.main_arg23)
      ∧ r.2.mem ((c.tc : Thread Cert.RepStep.nD Cert.RepStep.τ).loc Cert.RepStep.main_arg24) = m ((c.tc : Thread Cert.RepStep.nD Cert.RepStep.τ).loc Cert.RepStep.main_arg24))
      ∧ r.2.sem = fun _ => 0)

def quiescent_RepStepIdeal [hRepStepIdeal : Cert.RepStepIdeal.Facts] : Prop :=
  ∀ (m : (ℓ : Loc Cert.RepStepIdeal.nD Cert.RepStepIdeal.τ Cert.RepStepIdeal.sig) → Buf (Elt Ideal) ℓ) (g : Dev Cert.RepStepIdeal.nD → PrngReg), Pre_RepStepIdeal m →
    θ_run (Cert.RepStepIdeal.defs (F := Ideal)) (onTc (τ := Cert.RepStepIdeal.τ) (Cert.RepStepIdeal.main (F := Ideal))) ⟨m, fun _ => 0, g⟩ (fun r => (∀ c : Dev Cert.RepStepIdeal.nD,
      r.2.mem ((c.tc : Thread Cert.RepStepIdeal.nD Cert.RepStepIdeal.τ).loc Cert.RepStepIdeal.main_arg0) = m ((c.tc : Thread Cert.RepStepIdeal.nD Cert.RepStepIdeal.τ).loc Cert.RepStepIdeal.main_arg0)
      ∧ r.2.mem ((c.tc : Thread Cert.RepStepIdeal.nD Cert.RepStepIdeal.τ).loc Cert.RepStepIdeal.main_arg1) = m ((c.tc : Thread Cert.RepStepIdeal.nD Cert.RepStepIdeal.τ).loc Cert.RepStepIdeal.main_arg1)
      ∧ r.2.mem ((c.tc : Thread Cert.RepStepIdeal.nD Cert.RepStepIdeal.τ).loc Cert.RepStepIdeal.main_arg2) = m ((c.tc : Thread Cert.RepStepIdeal.nD Cert.RepStepIdeal.τ).loc Cert.RepStepIdeal.main_arg2)
      ∧ r.2.mem ((c.tc : Thread Cert.RepStepIdeal.nD Cert.RepStepIdeal.τ).loc Cert.RepStepIdeal.main_arg3) = m ((c.tc : Thread Cert.RepStepIdeal.nD Cert.RepStepIdeal.τ).loc Cert.RepStepIdeal.main_arg3)
      ∧ r.2.mem ((c.tc : Thread Cert.RepStepIdeal.nD Cert.RepStepIdeal.τ).loc Cert.RepStepIdeal.main_arg4) = m ((c.tc : Thread Cert.RepStepIdeal.nD Cert.RepStepIdeal.τ).loc Cert.RepStepIdeal.main_arg4)
      ∧ r.2.mem ((c.tc : Thread Cert.RepStepIdeal.nD Cert.RepStepIdeal.τ).loc Cert.RepStepIdeal.main_arg5) = m ((c.tc : Thread Cert.RepStepIdeal.nD Cert.RepStepIdeal.τ).loc Cert.RepStepIdeal.main_arg5)
      ∧ r.2.mem ((c.tc : Thread Cert.RepStepIdeal.nD Cert.RepStepIdeal.τ).loc Cert.RepStepIdeal.main_arg6) = m ((c.tc : Thread Cert.RepStepIdeal.nD Cert.RepStepIdeal.τ).loc Cert.RepStepIdeal.main_arg6)
      ∧ r.2.mem ((c.tc : Thread Cert.RepStepIdeal.nD Cert.RepStepIdeal.τ).loc Cert.RepStepIdeal.main_arg7) = m ((c.tc : Thread Cert.RepStepIdeal.nD Cert.RepStepIdeal.τ).loc Cert.RepStepIdeal.main_arg7)
      ∧ r.2.mem ((c.tc : Thread Cert.RepStepIdeal.nD Cert.RepStepIdeal.τ).loc Cert.RepStepIdeal.main_arg8) = m ((c.tc : Thread Cert.RepStepIdeal.nD Cert.RepStepIdeal.τ).loc Cert.RepStepIdeal.main_arg8)
      ∧ r.2.mem ((c.tc : Thread Cert.RepStepIdeal.nD Cert.RepStepIdeal.τ).loc Cert.RepStepIdeal.main_arg9) = m ((c.tc : Thread Cert.RepStepIdeal.nD Cert.RepStepIdeal.τ).loc Cert.RepStepIdeal.main_arg9)
      ∧ r.2.mem ((c.tc : Thread Cert.RepStepIdeal.nD Cert.RepStepIdeal.τ).loc Cert.RepStepIdeal.main_arg10) = m ((c.tc : Thread Cert.RepStepIdeal.nD Cert.RepStepIdeal.τ).loc Cert.RepStepIdeal.main_arg10)
      ∧ r.2.mem ((c.tc : Thread Cert.RepStepIdeal.nD Cert.RepStepIdeal.τ).loc Cert.RepStepIdeal.main_arg11) = m ((c.tc : Thread Cert.RepStepIdeal.nD Cert.RepStepIdeal.τ).loc Cert.RepStepIdeal.main_arg11)
      ∧ r.2.mem ((c.tc : Thread Cert.RepStepIdeal.nD Cert.RepStepIdeal.τ).loc Cert.RepStepIdeal.main_arg12) = m ((c.tc : Thread Cert.RepStepIdeal.nD Cert.RepStepIdeal.τ).loc Cert.RepStepIdeal.main_arg12)
      ∧ r.2.mem ((c.tc : Thread Cert.RepStepIdeal.nD Cert.RepStepIdeal.τ).loc Cert.RepStepIdeal.main_arg13) = m ((c.tc : Thread Cert.RepStepIdeal.nD Cert.RepStepIdeal.τ).loc Cert.RepStepIdeal.main_arg13)
      ∧ r.2.mem ((c.tc : Thread Cert.RepStepIdeal.nD Cert.RepStepIdeal.τ).loc Cert.RepStepIdeal.main_arg14) = m ((c.tc : Thread Cert.RepStepIdeal.nD Cert.RepStepIdeal.τ).loc Cert.RepStepIdeal.main_arg14)
      ∧ r.2.mem ((c.tc : Thread Cert.RepStepIdeal.nD Cert.RepStepIdeal.τ).loc Cert.RepStepIdeal.main_arg15) = m ((c.tc : Thread Cert.RepStepIdeal.nD Cert.RepStepIdeal.τ).loc Cert.RepStepIdeal.main_arg15)
      ∧ r.2.mem ((c.tc : Thread Cert.RepStepIdeal.nD Cert.RepStepIdeal.τ).loc Cert.RepStepIdeal.main_arg16) = m ((c.tc : Thread Cert.RepStepIdeal.nD Cert.RepStepIdeal.τ).loc Cert.RepStepIdeal.main_arg16)
      ∧ r.2.mem ((c.tc : Thread Cert.RepStepIdeal.nD Cert.RepStepIdeal.τ).loc Cert.RepStepIdeal.main_arg17) = m ((c.tc : Thread Cert.RepStepIdeal.nD Cert.RepStepIdeal.τ).loc Cert.RepStepIdeal.main_arg17)
      ∧ r.2.mem ((c.tc : Thread Cert.RepStepIdeal.nD Cert.RepStepIdeal.τ).loc Cert.RepStepIdeal.main_arg18) = m ((c.tc : Thread Cert.RepStepIdeal.nD Cert.RepStepIdeal.τ).loc Cert.RepStepIdeal.main_arg18)
      ∧ r.2.mem ((c.tc : Thread Cert.RepStepIdeal.nD Cert.RepStepIdeal.τ).loc Cert.RepStepIdeal.main_arg19) = m ((c.tc : Thread Cert.RepStepIdeal.nD Cert.RepStepIdeal.τ).loc Cert.RepStepIdeal.main_arg19)
      ∧ r.2.mem ((c.tc : Thread Cert.RepStepIdeal.nD Cert.RepStepIdeal.τ).loc Cert.RepStepIdeal.main_arg20) = m ((c.tc : Thread Cert.RepStepIdeal.nD Cert.RepStepIdeal.τ).loc Cert.RepStepIdeal.main_arg20)
      ∧ r.2.mem ((c.tc : Thread Cert.RepStepIdeal.nD Cert.RepStepIdeal.τ).loc Cert.RepStepIdeal.main_arg21) = m ((c.tc : Thread Cert.RepStepIdeal.nD Cert.RepStepIdeal.τ).loc Cert.RepStepIdeal.main_arg21)
      ∧ r.2.mem ((c.tc : Thread Cert.RepStepIdeal.nD Cert.RepStepIdeal.τ).loc Cert.RepStepIdeal.main_arg22) = m ((c.tc : Thread Cert.RepStepIdeal.nD Cert.RepStepIdeal.τ).loc Cert.RepStepIdeal.main_arg22)
      ∧ r.2.mem ((c.tc : Thread Cert.RepStepIdeal.nD Cert.RepStepIdeal.τ).loc Cert.RepStepIdeal.main_arg23) = m ((c.tc : Thread Cert.RepStepIdeal.nD Cert.RepStepIdeal.τ).loc Cert.RepStepIdeal.main_arg23)
      ∧ r.2.mem ((c.tc : Thread Cert.RepStepIdeal.nD Cert.RepStepIdeal.τ).loc Cert.RepStepIdeal.main_arg24) = m ((c.tc : Thread Cert.RepStepIdeal.nD Cert.RepStepIdeal.τ).loc Cert.RepStepIdeal.main_arg24))
      ∧ r.2.sem = fun _ => 0)

def quiescent_RepStepReferenceIdeal [hRepStepReferenceIdeal : Cert.RepStepReferenceIdeal.Facts] : Prop :=
  ∀ (m : (ℓ : Loc Cert.RepStepReferenceIdeal.nD Cert.RepStepReferenceIdeal.τ Cert.RepStepReferenceIdeal.sig) → Buf (Elt Ideal) ℓ) (g : Dev Cert.RepStepReferenceIdeal.nD → PrngReg), Pre_RepStepReferenceIdeal m →
    θ_run (Cert.RepStepReferenceIdeal.defs (F := Ideal)) (onTc (τ := Cert.RepStepReferenceIdeal.τ) (Cert.RepStepReferenceIdeal.main (F := Ideal))) ⟨m, fun _ => 0, g⟩ (fun r => (∀ c : Dev Cert.RepStepReferenceIdeal.nD,
      r.2.mem ((c.tc : Thread Cert.RepStepReferenceIdeal.nD Cert.RepStepReferenceIdeal.τ).loc Cert.RepStepReferenceIdeal.main_arg0) = m ((c.tc : Thread Cert.RepStepReferenceIdeal.nD Cert.RepStepReferenceIdeal.τ).loc Cert.RepStepReferenceIdeal.main_arg0)
      ∧ r.2.mem ((c.tc : Thread Cert.RepStepReferenceIdeal.nD Cert.RepStepReferenceIdeal.τ).loc Cert.RepStepReferenceIdeal.main_arg1) = m ((c.tc : Thread Cert.RepStepReferenceIdeal.nD Cert.RepStepReferenceIdeal.τ).loc Cert.RepStepReferenceIdeal.main_arg1)
      ∧ r.2.mem ((c.tc : Thread Cert.RepStepReferenceIdeal.nD Cert.RepStepReferenceIdeal.τ).loc Cert.RepStepReferenceIdeal.main_arg2) = m ((c.tc : Thread Cert.RepStepReferenceIdeal.nD Cert.RepStepReferenceIdeal.τ).loc Cert.RepStepReferenceIdeal.main_arg2)
      ∧ r.2.mem ((c.tc : Thread Cert.RepStepReferenceIdeal.nD Cert.RepStepReferenceIdeal.τ).loc Cert.RepStepReferenceIdeal.main_arg3) = m ((c.tc : Thread Cert.RepStepReferenceIdeal.nD Cert.RepStepReferenceIdeal.τ).loc Cert.RepStepReferenceIdeal.main_arg3)
      ∧ r.2.mem ((c.tc : Thread Cert.RepStepReferenceIdeal.nD Cert.RepStepReferenceIdeal.τ).loc Cert.RepStepReferenceIdeal.main_arg4) = m ((c.tc : Thread Cert.RepStepReferenceIdeal.nD Cert.RepStepReferenceIdeal.τ).loc Cert.RepStepReferenceIdeal.main_arg4)
      ∧ r.2.mem ((c.tc : Thread Cert.RepStepReferenceIdeal.nD Cert.RepStepReferenceIdeal.τ).loc Cert.RepStepReferenceIdeal.main_arg5) = m ((c.tc : Thread Cert.RepStepReferenceIdeal.nD Cert.RepStepReferenceIdeal.τ).loc Cert.RepStepReferenceIdeal.main_arg5)
      ∧ r.2.mem ((c.tc : Thread Cert.RepStepReferenceIdeal.nD Cert.RepStepReferenceIdeal.τ).loc Cert.RepStepReferenceIdeal.main_arg6) = m ((c.tc : Thread Cert.RepStepReferenceIdeal.nD Cert.RepStepReferenceIdeal.τ).loc Cert.RepStepReferenceIdeal.main_arg6)
      ∧ r.2.mem ((c.tc : Thread Cert.RepStepReferenceIdeal.nD Cert.RepStepReferenceIdeal.τ).loc Cert.RepStepReferenceIdeal.main_arg7) = m ((c.tc : Thread Cert.RepStepReferenceIdeal.nD Cert.RepStepReferenceIdeal.τ).loc Cert.RepStepReferenceIdeal.main_arg7)
      ∧ r.2.mem ((c.tc : Thread Cert.RepStepReferenceIdeal.nD Cert.RepStepReferenceIdeal.τ).loc Cert.RepStepReferenceIdeal.main_arg8) = m ((c.tc : Thread Cert.RepStepReferenceIdeal.nD Cert.RepStepReferenceIdeal.τ).loc Cert.RepStepReferenceIdeal.main_arg8)
      ∧ r.2.mem ((c.tc : Thread Cert.RepStepReferenceIdeal.nD Cert.RepStepReferenceIdeal.τ).loc Cert.RepStepReferenceIdeal.main_arg9) = m ((c.tc : Thread Cert.RepStepReferenceIdeal.nD Cert.RepStepReferenceIdeal.τ).loc Cert.RepStepReferenceIdeal.main_arg9)
      ∧ r.2.mem ((c.tc : Thread Cert.RepStepReferenceIdeal.nD Cert.RepStepReferenceIdeal.τ).loc Cert.RepStepReferenceIdeal.main_arg10) = m ((c.tc : Thread Cert.RepStepReferenceIdeal.nD Cert.RepStepReferenceIdeal.τ).loc Cert.RepStepReferenceIdeal.main_arg10)
      ∧ r.2.mem ((c.tc : Thread Cert.RepStepReferenceIdeal.nD Cert.RepStepReferenceIdeal.τ).loc Cert.RepStepReferenceIdeal.main_arg11) = m ((c.tc : Thread Cert.RepStepReferenceIdeal.nD Cert.RepStepReferenceIdeal.τ).loc Cert.RepStepReferenceIdeal.main_arg11)
      ∧ r.2.mem ((c.tc : Thread Cert.RepStepReferenceIdeal.nD Cert.RepStepReferenceIdeal.τ).loc Cert.RepStepReferenceIdeal.main_arg12) = m ((c.tc : Thread Cert.RepStepReferenceIdeal.nD Cert.RepStepReferenceIdeal.τ).loc Cert.RepStepReferenceIdeal.main_arg12)
      ∧ r.2.mem ((c.tc : Thread Cert.RepStepReferenceIdeal.nD Cert.RepStepReferenceIdeal.τ).loc Cert.RepStepReferenceIdeal.main_arg13) = m ((c.tc : Thread Cert.RepStepReferenceIdeal.nD Cert.RepStepReferenceIdeal.τ).loc Cert.RepStepReferenceIdeal.main_arg13)
      ∧ r.2.mem ((c.tc : Thread Cert.RepStepReferenceIdeal.nD Cert.RepStepReferenceIdeal.τ).loc Cert.RepStepReferenceIdeal.main_arg14) = m ((c.tc : Thread Cert.RepStepReferenceIdeal.nD Cert.RepStepReferenceIdeal.τ).loc Cert.RepStepReferenceIdeal.main_arg14)
      ∧ r.2.mem ((c.tc : Thread Cert.RepStepReferenceIdeal.nD Cert.RepStepReferenceIdeal.τ).loc Cert.RepStepReferenceIdeal.main_arg15) = m ((c.tc : Thread Cert.RepStepReferenceIdeal.nD Cert.RepStepReferenceIdeal.τ).loc Cert.RepStepReferenceIdeal.main_arg15)
      ∧ r.2.mem ((c.tc : Thread Cert.RepStepReferenceIdeal.nD Cert.RepStepReferenceIdeal.τ).loc Cert.RepStepReferenceIdeal.main_arg16) = m ((c.tc : Thread Cert.RepStepReferenceIdeal.nD Cert.RepStepReferenceIdeal.τ).loc Cert.RepStepReferenceIdeal.main_arg16)
      ∧ r.2.mem ((c.tc : Thread Cert.RepStepReferenceIdeal.nD Cert.RepStepReferenceIdeal.τ).loc Cert.RepStepReferenceIdeal.main_arg17) = m ((c.tc : Thread Cert.RepStepReferenceIdeal.nD Cert.RepStepReferenceIdeal.τ).loc Cert.RepStepReferenceIdeal.main_arg17)
      ∧ r.2.mem ((c.tc : Thread Cert.RepStepReferenceIdeal.nD Cert.RepStepReferenceIdeal.τ).loc Cert.RepStepReferenceIdeal.main_arg18) = m ((c.tc : Thread Cert.RepStepReferenceIdeal.nD Cert.RepStepReferenceIdeal.τ).loc Cert.RepStepReferenceIdeal.main_arg18)
      ∧ r.2.mem ((c.tc : Thread Cert.RepStepReferenceIdeal.nD Cert.RepStepReferenceIdeal.τ).loc Cert.RepStepReferenceIdeal.main_arg19) = m ((c.tc : Thread Cert.RepStepReferenceIdeal.nD Cert.RepStepReferenceIdeal.τ).loc Cert.RepStepReferenceIdeal.main_arg19)
      ∧ r.2.mem ((c.tc : Thread Cert.RepStepReferenceIdeal.nD Cert.RepStepReferenceIdeal.τ).loc Cert.RepStepReferenceIdeal.main_arg20) = m ((c.tc : Thread Cert.RepStepReferenceIdeal.nD Cert.RepStepReferenceIdeal.τ).loc Cert.RepStepReferenceIdeal.main_arg20)
      ∧ r.2.mem ((c.tc : Thread Cert.RepStepReferenceIdeal.nD Cert.RepStepReferenceIdeal.τ).loc Cert.RepStepReferenceIdeal.main_arg21) = m ((c.tc : Thread Cert.RepStepReferenceIdeal.nD Cert.RepStepReferenceIdeal.τ).loc Cert.RepStepReferenceIdeal.main_arg21)
      ∧ r.2.mem ((c.tc : Thread Cert.RepStepReferenceIdeal.nD Cert.RepStepReferenceIdeal.τ).loc Cert.RepStepReferenceIdeal.main_arg22) = m ((c.tc : Thread Cert.RepStepReferenceIdeal.nD Cert.RepStepReferenceIdeal.τ).loc Cert.RepStepReferenceIdeal.main_arg22)
      ∧ r.2.mem ((c.tc : Thread Cert.RepStepReferenceIdeal.nD Cert.RepStepReferenceIdeal.τ).loc Cert.RepStepReferenceIdeal.main_arg23) = m ((c.tc : Thread Cert.RepStepReferenceIdeal.nD Cert.RepStepReferenceIdeal.τ).loc Cert.RepStepReferenceIdeal.main_arg23)
      ∧ r.2.mem ((c.tc : Thread Cert.RepStepReferenceIdeal.nD Cert.RepStepReferenceIdeal.τ).loc Cert.RepStepReferenceIdeal.main_arg24) = m ((c.tc : Thread Cert.RepStepReferenceIdeal.nD Cert.RepStepReferenceIdeal.τ).loc Cert.RepStepReferenceIdeal.main_arg24))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  True

def algebraic_ForwardIdeal_ForwardReferenceIdeal_pre_finite_qkv [hForwardIdeal : Cert.ForwardIdeal.Facts] [hForwardReferenceIdeal : Cert.ForwardReferenceIdeal.Facts] [hPre_finite_qkv : Cert.Pre_finite_qkv.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_qkv m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v20)) (v1 : (c : Dev Cert.ForwardIdeal.nD) → Buf (Elt Ideal) ((c.tc : Thread Cert.ForwardIdeal.nD Cert.ForwardIdeal.τ).loc Cert.ForwardIdeal.main_v25)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v20) = v0 c
          ∧ r.2.mem ((c.tc : Thread Cert.ForwardIdeal.nD Cert.ForwardIdeal.τ).loc Cert.ForwardIdeal.main_v25) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v35) = v0 c
          ∧ r.2.mem ((c.tc : Thread Cert.ForwardReferenceIdeal.nD Cert.ForwardReferenceIdeal.τ).loc Cert.ForwardReferenceIdeal.main_v42) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_OutStep_OutStepIdeal : Prop :=
  True

def algebraic_OutStepIdeal_OutStepReferenceIdeal [hOutStepIdeal : Cert.OutStepIdeal.Facts] [hOutStepReferenceIdeal : Cert.OutStepReferenceIdeal.Facts] : Prop :=
  ∀ (m : (ℓ : Loc Cert.OutStepIdeal.nD Cert.OutStepIdeal.τ Cert.OutStepIdeal.sig) → Buf (Elt Ideal) ℓ) (g : Dev Cert.OutStepIdeal.nD → PrngReg)
    (m' : (ℓ : Loc Cert.OutStepReferenceIdeal.nD Cert.OutStepReferenceIdeal.τ Cert.OutStepReferenceIdeal.sig) → Buf (Elt Ideal) ℓ) (g' : Dev Cert.OutStepReferenceIdeal.nD → PrngReg), Pre_OutStepIdeal m →
    (∀ c : Dev Cert.OutStepIdeal.nD,
      m' ((c.tc : Thread Cert.OutStepReferenceIdeal.nD Cert.OutStepReferenceIdeal.τ).loc Cert.OutStepReferenceIdeal.main_arg0) = m ((c.tc : Thread Cert.OutStepIdeal.nD Cert.OutStepIdeal.τ).loc Cert.OutStepIdeal.main_arg0)
      ∧ m' ((c.tc : Thread Cert.OutStepReferenceIdeal.nD Cert.OutStepReferenceIdeal.τ).loc Cert.OutStepReferenceIdeal.main_arg1) = m ((c.tc : Thread Cert.OutStepIdeal.nD Cert.OutStepIdeal.τ).loc Cert.OutStepIdeal.main_arg1)
      ∧ m' ((c.tc : Thread Cert.OutStepReferenceIdeal.nD Cert.OutStepReferenceIdeal.τ).loc Cert.OutStepReferenceIdeal.main_arg2) = m ((c.tc : Thread Cert.OutStepIdeal.nD Cert.OutStepIdeal.τ).loc Cert.OutStepIdeal.main_arg2)
      ∧ m' ((c.tc : Thread Cert.OutStepReferenceIdeal.nD Cert.OutStepReferenceIdeal.τ).loc Cert.OutStepReferenceIdeal.main_arg3) = m ((c.tc : Thread Cert.OutStepIdeal.nD Cert.OutStepIdeal.τ).loc Cert.OutStepIdeal.main_arg3)) →
    ∃ (v0 : (c : Dev Cert.OutStepIdeal.nD) → Buf (Elt Ideal) ((c.tc : Thread Cert.OutStepIdeal.nD Cert.OutStepIdeal.τ).loc Cert.OutStepIdeal.main_v0_0)) (v1 : (c : Dev Cert.OutStepIdeal.nD) → Buf (Elt Ideal) ((c.tc : Thread Cert.OutStepIdeal.nD Cert.OutStepIdeal.τ).loc Cert.OutStepIdeal.main_v0_1)) (v2 : (c : Dev Cert.OutStepIdeal.nD) → Buf (Elt Ideal) ((c.tc : Thread Cert.OutStepIdeal.nD Cert.OutStepIdeal.τ).loc Cert.OutStepIdeal.main_v0_2)) (v3 : (c : Dev Cert.OutStepIdeal.nD) → Buf (Elt Ideal) ((c.tc : Thread Cert.OutStepIdeal.nD Cert.OutStepIdeal.τ).loc Cert.OutStepIdeal.main_v0_3)),
      θ_run (Cert.OutStepIdeal.defs (F := Ideal)) (onTc (τ := Cert.OutStepIdeal.τ) (Cert.OutStepIdeal.main (F := Ideal))) ⟨m, fun _ => 0, g⟩ (fun r => ∀ c : Dev Cert.OutStepIdeal.nD,
          r.2.mem ((c.tc : Thread Cert.OutStepIdeal.nD Cert.OutStepIdeal.τ).loc Cert.OutStepIdeal.main_v0_0) = v0 c
          ∧ r.2.mem ((c.tc : Thread Cert.OutStepIdeal.nD Cert.OutStepIdeal.τ).loc Cert.OutStepIdeal.main_v0_1) = v1 c
          ∧ r.2.mem ((c.tc : Thread Cert.OutStepIdeal.nD Cert.OutStepIdeal.τ).loc Cert.OutStepIdeal.main_v0_2) = v2 c
          ∧ r.2.mem ((c.tc : Thread Cert.OutStepIdeal.nD Cert.OutStepIdeal.τ).loc Cert.OutStepIdeal.main_v0_3) = v3 c
          ∧ r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
          ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
          ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
          ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ θ_run (Cert.OutStepReferenceIdeal.defs (F := Ideal)) (onTc (τ := Cert.OutStepReferenceIdeal.τ) (Cert.OutStepReferenceIdeal.main (F := Ideal))) ⟨m', fun _ => 0, g'⟩ (fun r => ∀ c : Dev Cert.OutStepReferenceIdeal.nD,
          r.2.mem ((c.tc : Thread Cert.OutStepReferenceIdeal.nD Cert.OutStepReferenceIdeal.τ).loc Cert.OutStepReferenceIdeal.main_v1) = v0 c
          ∧ r.2.mem ((c.tc : Thread Cert.OutStepReferenceIdeal.nD Cert.OutStepReferenceIdeal.τ).loc Cert.OutStepReferenceIdeal.main_v25) = v1 c
          ∧ r.2.mem ((c.tc : Thread Cert.OutStepReferenceIdeal.nD Cert.OutStepReferenceIdeal.τ).loc Cert.OutStepReferenceIdeal.main_v6) = v2 c
          ∧ r.2.mem ((c.tc : Thread Cert.OutStepReferenceIdeal.nD Cert.OutStepReferenceIdeal.τ).loc Cert.OutStepReferenceIdeal.main_v12) = v3 c
          ∧ r.2.mem ((c.tc : Thread Cert.OutStepReferenceIdeal.nD Cert.OutStepReferenceIdeal.τ).loc Cert.OutStepReferenceIdeal.main_arg0) = m' ((c.tc : Thread Cert.OutStepReferenceIdeal.nD Cert.OutStepReferenceIdeal.τ).loc Cert.OutStepReferenceIdeal.main_arg0)
          ∧ r.2.mem ((c.tc : Thread Cert.OutStepReferenceIdeal.nD Cert.OutStepReferenceIdeal.τ).loc Cert.OutStepReferenceIdeal.main_arg1) = m' ((c.tc : Thread Cert.OutStepReferenceIdeal.nD Cert.OutStepReferenceIdeal.τ).loc Cert.OutStepReferenceIdeal.main_arg1)
          ∧ r.2.mem ((c.tc : Thread Cert.OutStepReferenceIdeal.nD Cert.OutStepReferenceIdeal.τ).loc Cert.OutStepReferenceIdeal.main_arg2) = m' ((c.tc : Thread Cert.OutStepReferenceIdeal.nD Cert.OutStepReferenceIdeal.τ).loc Cert.OutStepReferenceIdeal.main_arg2)
          ∧ r.2.mem ((c.tc : Thread Cert.OutStepReferenceIdeal.nD Cert.OutStepReferenceIdeal.τ).loc Cert.OutStepReferenceIdeal.main_arg3) = m' ((c.tc : Thread Cert.OutStepReferenceIdeal.nD Cert.OutStepReferenceIdeal.τ).loc Cert.OutStepReferenceIdeal.main_arg3))

def preserves_HeadStep_HeadStepIdeal : Prop :=
  True

def algebraic_HeadStepIdeal_HeadStepReferenceIdeal [hHeadStepIdeal : Cert.HeadStepIdeal.Facts] [hHeadStepReferenceIdeal : Cert.HeadStepReferenceIdeal.Facts] : Prop :=
  ∀ (m : (ℓ : Loc Cert.HeadStepIdeal.nD Cert.HeadStepIdeal.τ Cert.HeadStepIdeal.sig) → Buf (Elt Ideal) ℓ) (g : Dev Cert.HeadStepIdeal.nD → PrngReg)
    (m' : (ℓ : Loc Cert.HeadStepReferenceIdeal.nD Cert.HeadStepReferenceIdeal.τ Cert.HeadStepReferenceIdeal.sig) → Buf (Elt Ideal) ℓ) (g' : Dev Cert.HeadStepReferenceIdeal.nD → PrngReg), Pre_HeadStepIdeal m →
    (∀ c : Dev Cert.HeadStepIdeal.nD,
      m' ((c.tc : Thread Cert.HeadStepReferenceIdeal.nD Cert.HeadStepReferenceIdeal.τ).loc Cert.HeadStepReferenceIdeal.main_arg0) = m ((c.tc : Thread Cert.HeadStepIdeal.nD Cert.HeadStepIdeal.τ).loc Cert.HeadStepIdeal.main_arg0)
      ∧ m' ((c.tc : Thread Cert.HeadStepReferenceIdeal.nD Cert.HeadStepReferenceIdeal.τ).loc Cert.HeadStepReferenceIdeal.main_arg1) = m ((c.tc : Thread Cert.HeadStepIdeal.nD Cert.HeadStepIdeal.τ).loc Cert.HeadStepIdeal.main_arg1)
      ∧ m' ((c.tc : Thread Cert.HeadStepReferenceIdeal.nD Cert.HeadStepReferenceIdeal.τ).loc Cert.HeadStepReferenceIdeal.main_arg2) = m ((c.tc : Thread Cert.HeadStepIdeal.nD Cert.HeadStepIdeal.τ).loc Cert.HeadStepIdeal.main_arg2)
      ∧ m' ((c.tc : Thread Cert.HeadStepReferenceIdeal.nD Cert.HeadStepReferenceIdeal.τ).loc Cert.HeadStepReferenceIdeal.main_arg3) = m ((c.tc : Thread Cert.HeadStepIdeal.nD Cert.HeadStepIdeal.τ).loc Cert.HeadStepIdeal.main_arg3)) →
    ∃ (v0 : (c : Dev Cert.HeadStepIdeal.nD) → Buf (Elt Ideal) ((c.tc : Thread Cert.HeadStepIdeal.nD Cert.HeadStepIdeal.τ).loc Cert.HeadStepIdeal.main_v0_0)) (v1 : (c : Dev Cert.HeadStepIdeal.nD) → Buf (Elt Ideal) ((c.tc : Thread Cert.HeadStepIdeal.nD Cert.HeadStepIdeal.τ).loc Cert.HeadStepIdeal.main_v0_1)) (v2 : (c : Dev Cert.HeadStepIdeal.nD) → Buf (Elt Ideal) ((c.tc : Thread Cert.HeadStepIdeal.nD Cert.HeadStepIdeal.τ).loc Cert.HeadStepIdeal.main_v0_2)) (v3 : (c : Dev Cert.HeadStepIdeal.nD) → Buf (Elt Ideal) ((c.tc : Thread Cert.HeadStepIdeal.nD Cert.HeadStepIdeal.τ).loc Cert.HeadStepIdeal.main_v0_3)),
      θ_run (Cert.HeadStepIdeal.defs (F := Ideal)) (onTc (τ := Cert.HeadStepIdeal.τ) (Cert.HeadStepIdeal.main (F := Ideal))) ⟨m, fun _ => 0, g⟩ (fun r => ∀ c : Dev Cert.HeadStepIdeal.nD,
          r.2.mem ((c.tc : Thread Cert.HeadStepIdeal.nD Cert.HeadStepIdeal.τ).loc Cert.HeadStepIdeal.main_v0_0) = v0 c
          ∧ r.2.mem ((c.tc : Thread Cert.HeadStepIdeal.nD Cert.HeadStepIdeal.τ).loc Cert.HeadStepIdeal.main_v0_1) = v1 c
          ∧ r.2.mem ((c.tc : Thread Cert.HeadStepIdeal.nD Cert.HeadStepIdeal.τ).loc Cert.HeadStepIdeal.main_v0_2) = v2 c
          ∧ r.2.mem ((c.tc : Thread Cert.HeadStepIdeal.nD Cert.HeadStepIdeal.τ).loc Cert.HeadStepIdeal.main_v0_3) = v3 c
          ∧ r.2.mem ((c.tc : Thread Cert.HeadStepIdeal.nD Cert.HeadStepIdeal.τ).loc Cert.HeadStepIdeal.main_arg0) = m ((c.tc : Thread Cert.HeadStepIdeal.nD Cert.HeadStepIdeal.τ).loc Cert.HeadStepIdeal.main_arg0)
          ∧ r.2.mem ((c.tc : Thread Cert.HeadStepIdeal.nD Cert.HeadStepIdeal.τ).loc Cert.HeadStepIdeal.main_arg1) = m ((c.tc : Thread Cert.HeadStepIdeal.nD Cert.HeadStepIdeal.τ).loc Cert.HeadStepIdeal.main_arg1)
          ∧ r.2.mem ((c.tc : Thread Cert.HeadStepIdeal.nD Cert.HeadStepIdeal.τ).loc Cert.HeadStepIdeal.main_arg2) = m ((c.tc : Thread Cert.HeadStepIdeal.nD Cert.HeadStepIdeal.τ).loc Cert.HeadStepIdeal.main_arg2)
          ∧ r.2.mem ((c.tc : Thread Cert.HeadStepIdeal.nD Cert.HeadStepIdeal.τ).loc Cert.HeadStepIdeal.main_arg3) = m ((c.tc : Thread Cert.HeadStepIdeal.nD Cert.HeadStepIdeal.τ).loc Cert.HeadStepIdeal.main_arg3))
      ∧ θ_run (Cert.HeadStepReferenceIdeal.defs (F := Ideal)) (onTc (τ := Cert.HeadStepReferenceIdeal.τ) (Cert.HeadStepReferenceIdeal.main (F := Ideal))) ⟨m', fun _ => 0, g'⟩ (fun r => ∀ c : Dev Cert.HeadStepReferenceIdeal.nD,
          r.2.mem ((c.tc : Thread Cert.HeadStepReferenceIdeal.nD Cert.HeadStepReferenceIdeal.τ).loc Cert.HeadStepReferenceIdeal.main_v0) = v0 c
          ∧ r.2.mem ((c.tc : Thread Cert.HeadStepReferenceIdeal.nD Cert.HeadStepReferenceIdeal.τ).loc Cert.HeadStepReferenceIdeal.main_v25) = v1 c
          ∧ r.2.mem ((c.tc : Thread Cert.HeadStepReferenceIdeal.nD Cert.HeadStepReferenceIdeal.τ).loc Cert.HeadStepReferenceIdeal.main_v6) = v2 c
          ∧ r.2.mem ((c.tc : Thread Cert.HeadStepReferenceIdeal.nD Cert.HeadStepReferenceIdeal.τ).loc Cert.HeadStepReferenceIdeal.main_v12) = v3 c
          ∧ r.2.mem ((c.tc : Thread Cert.HeadStepReferenceIdeal.nD Cert.HeadStepReferenceIdeal.τ).loc Cert.HeadStepReferenceIdeal.main_arg0) = m' ((c.tc : Thread Cert.HeadStepReferenceIdeal.nD Cert.HeadStepReferenceIdeal.τ).loc Cert.HeadStepReferenceIdeal.main_arg0)
          ∧ r.2.mem ((c.tc : Thread Cert.HeadStepReferenceIdeal.nD Cert.HeadStepReferenceIdeal.τ).loc Cert.HeadStepReferenceIdeal.main_arg1) = m' ((c.tc : Thread Cert.HeadStepReferenceIdeal.nD Cert.HeadStepReferenceIdeal.τ).loc Cert.HeadStepReferenceIdeal.main_arg1)
          ∧ r.2.mem ((c.tc : Thread Cert.HeadStepReferenceIdeal.nD Cert.HeadStepReferenceIdeal.τ).loc Cert.HeadStepReferenceIdeal.main_arg2) = m' ((c.tc : Thread Cert.HeadStepReferenceIdeal.nD Cert.HeadStepReferenceIdeal.τ).loc Cert.HeadStepReferenceIdeal.main_arg2)
          ∧ r.2.mem ((c.tc : Thread Cert.HeadStepReferenceIdeal.nD Cert.HeadStepReferenceIdeal.τ).loc Cert.HeadStepReferenceIdeal.main_arg3) = m' ((c.tc : Thread Cert.HeadStepReferenceIdeal.nD Cert.HeadStepReferenceIdeal.τ).loc Cert.HeadStepReferenceIdeal.main_arg3))

def preserves_InStep_InStepIdeal : Prop :=
  True

def algebraic_InStepIdeal_InStepReferenceIdeal [hInStepIdeal : Cert.InStepIdeal.Facts] [hInStepReferenceIdeal : Cert.InStepReferenceIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepReferenceIdeal.nD Cert.InStepReferenceIdeal.τ Cert.InStepReferenceIdeal.sig) → Buf (Elt Ideal) ℓ) (g' : Dev Cert.InStepReferenceIdeal.nD → PrngReg), Pre_InStepIdeal m →
    (∀ c : Dev Cert.InStepIdeal.nD,
      m' ((c.tc : Thread Cert.InStepReferenceIdeal.nD Cert.InStepReferenceIdeal.τ).loc Cert.InStepReferenceIdeal.main_arg0) = m ((c.tc : Thread Cert.InStepIdeal.nD Cert.InStepIdeal.τ).loc Cert.InStepIdeal.main_arg0)
      ∧ m' ((c.tc : Thread Cert.InStepReferenceIdeal.nD Cert.InStepReferenceIdeal.τ).loc Cert.InStepReferenceIdeal.main_arg1) = m ((c.tc : Thread Cert.InStepIdeal.nD Cert.InStepIdeal.τ).loc Cert.InStepIdeal.main_arg1)
      ∧ m' ((c.tc : Thread Cert.InStepReferenceIdeal.nD Cert.InStepReferenceIdeal.τ).loc Cert.InStepReferenceIdeal.main_arg2) = m ((c.tc : Thread Cert.InStepIdeal.nD Cert.InStepIdeal.τ).loc Cert.InStepIdeal.main_arg2)
      ∧ m' ((c.tc : Thread Cert.InStepReferenceIdeal.nD Cert.InStepReferenceIdeal.τ).loc Cert.InStepReferenceIdeal.main_arg3) = m ((c.tc : Thread Cert.InStepIdeal.nD Cert.InStepIdeal.τ).loc Cert.InStepIdeal.main_arg3)) →
    ∃ (v0 : (c : Dev Cert.InStepIdeal.nD) → Buf (Elt Ideal) ((c.tc : Thread Cert.InStepIdeal.nD Cert.InStepIdeal.τ).loc Cert.InStepIdeal.main_v0_0)) (v1 : (c : Dev Cert.InStepIdeal.nD) → Buf (Elt Ideal) ((c.tc : Thread Cert.InStepIdeal.nD Cert.InStepIdeal.τ).loc Cert.InStepIdeal.main_v0_1)) (v2 : (c : Dev Cert.InStepIdeal.nD) → Buf (Elt Ideal) ((c.tc : Thread Cert.InStepIdeal.nD Cert.InStepIdeal.τ).loc Cert.InStepIdeal.main_v0_2)) (v3 : (c : Dev Cert.InStepIdeal.nD) → Buf (Elt Ideal) ((c.tc : Thread Cert.InStepIdeal.nD Cert.InStepIdeal.τ).loc Cert.InStepIdeal.main_v0_3)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v0_0) = v0 c
          ∧ r.2.mem ((c.tc : Thread Cert.InStepIdeal.nD Cert.InStepIdeal.τ).loc Cert.InStepIdeal.main_v0_1) = v1 c
          ∧ r.2.mem ((c.tc : Thread Cert.InStepIdeal.nD Cert.InStepIdeal.τ).loc Cert.InStepIdeal.main_v0_2) = v2 c
          ∧ r.2.mem ((c.tc : Thread Cert.InStepIdeal.nD Cert.InStepIdeal.τ).loc Cert.InStepIdeal.main_v0_3) = v3 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ θ_run (Cert.InStepReferenceIdeal.defs (F := Ideal)) (onTc (τ := Cert.InStepReferenceIdeal.τ) (Cert.InStepReferenceIdeal.main (F := Ideal))) ⟨m', fun _ => 0, g'⟩ (fun r => ∀ c : Dev Cert.InStepReferenceIdeal.nD,
          r.2.mem ((c.tc : Thread Cert.InStepReferenceIdeal.nD Cert.InStepReferenceIdeal.τ).loc Cert.InStepReferenceIdeal.main_v2) = v0 c
          ∧ r.2.mem ((c.tc : Thread Cert.InStepReferenceIdeal.nD Cert.InStepReferenceIdeal.τ).loc Cert.InStepReferenceIdeal.main_v26) = v1 c
          ∧ r.2.mem ((c.tc : Thread Cert.InStepReferenceIdeal.nD Cert.InStepReferenceIdeal.τ).loc Cert.InStepReferenceIdeal.main_v7) = v2 c
          ∧ r.2.mem ((c.tc : Thread Cert.InStepReferenceIdeal.nD Cert.InStepReferenceIdeal.τ).loc Cert.InStepReferenceIdeal.main_v13) = v3 c
          ∧ r.2.mem ((c.tc : Thread Cert.InStepReferenceIdeal.nD Cert.InStepReferenceIdeal.τ).loc Cert.InStepReferenceIdeal.main_arg0) = m' ((c.tc : Thread Cert.InStepReferenceIdeal.nD Cert.InStepReferenceIdeal.τ).loc Cert.InStepReferenceIdeal.main_arg0)
          ∧ r.2.mem ((c.tc : Thread Cert.InStepReferenceIdeal.nD Cert.InStepReferenceIdeal.τ).loc Cert.InStepReferenceIdeal.main_arg1) = m' ((c.tc : Thread Cert.InStepReferenceIdeal.nD Cert.InStepReferenceIdeal.τ).loc Cert.InStepReferenceIdeal.main_arg1)
          ∧ r.2.mem ((c.tc : Thread Cert.InStepReferenceIdeal.nD Cert.InStepReferenceIdeal.τ).loc Cert.InStepReferenceIdeal.main_arg2) = m' ((c.tc : Thread Cert.InStepReferenceIdeal.nD Cert.InStepReferenceIdeal.τ).loc Cert.InStepReferenceIdeal.main_arg2)
          ∧ r.2.mem ((c.tc : Thread Cert.InStepReferenceIdeal.nD Cert.InStepReferenceIdeal.τ).loc Cert.InStepReferenceIdeal.main_arg3) = m' ((c.tc : Thread Cert.InStepReferenceIdeal.nD Cert.InStepReferenceIdeal.τ).loc Cert.InStepReferenceIdeal.main_arg3))

def preserves_RepStep_RepStepIdeal : Prop :=
  True

def algebraic_RepStepIdeal_RepStepReferenceIdeal [hRepStepIdeal : Cert.RepStepIdeal.Facts] [hRepStepReferenceIdeal : Cert.RepStepReferenceIdeal.Facts] : Prop :=
  ∀ (m : (ℓ : Loc Cert.RepStepIdeal.nD Cert.RepStepIdeal.τ Cert.RepStepIdeal.sig) → Buf (Elt Ideal) ℓ) (g : Dev Cert.RepStepIdeal.nD → PrngReg)
    (m' : (ℓ : Loc Cert.RepStepReferenceIdeal.nD Cert.RepStepReferenceIdeal.τ Cert.RepStepReferenceIdeal.sig) → Buf (Elt Ideal) ℓ) (g' : Dev Cert.RepStepReferenceIdeal.nD → PrngReg), Pre_RepStepIdeal m →
    (∀ c : Dev Cert.RepStepIdeal.nD,
      m' ((c.tc : Thread Cert.RepStepReferenceIdeal.nD Cert.RepStepReferenceIdeal.τ).loc Cert.RepStepReferenceIdeal.main_arg0) = m ((c.tc : Thread Cert.RepStepIdeal.nD Cert.RepStepIdeal.τ).loc Cert.RepStepIdeal.main_arg0)
      ∧ m' ((c.tc : Thread Cert.RepStepReferenceIdeal.nD Cert.RepStepReferenceIdeal.τ).loc Cert.RepStepReferenceIdeal.main_arg1) = m ((c.tc : Thread Cert.RepStepIdeal.nD Cert.RepStepIdeal.τ).loc Cert.RepStepIdeal.main_arg1)
      ∧ m' ((c.tc : Thread Cert.RepStepReferenceIdeal.nD Cert.RepStepReferenceIdeal.τ).loc Cert.RepStepReferenceIdeal.main_arg2) = m ((c.tc : Thread Cert.RepStepIdeal.nD Cert.RepStepIdeal.τ).loc Cert.RepStepIdeal.main_arg2)
      ∧ m' ((c.tc : Thread Cert.RepStepReferenceIdeal.nD Cert.RepStepReferenceIdeal.τ).loc Cert.RepStepReferenceIdeal.main_arg3) = m ((c.tc : Thread Cert.RepStepIdeal.nD Cert.RepStepIdeal.τ).loc Cert.RepStepIdeal.main_arg3)
      ∧ m' ((c.tc : Thread Cert.RepStepReferenceIdeal.nD Cert.RepStepReferenceIdeal.τ).loc Cert.RepStepReferenceIdeal.main_arg4) = m ((c.tc : Thread Cert.RepStepIdeal.nD Cert.RepStepIdeal.τ).loc Cert.RepStepIdeal.main_arg4)
      ∧ m' ((c.tc : Thread Cert.RepStepReferenceIdeal.nD Cert.RepStepReferenceIdeal.τ).loc Cert.RepStepReferenceIdeal.main_arg5) = m ((c.tc : Thread Cert.RepStepIdeal.nD Cert.RepStepIdeal.τ).loc Cert.RepStepIdeal.main_arg5)
      ∧ m' ((c.tc : Thread Cert.RepStepReferenceIdeal.nD Cert.RepStepReferenceIdeal.τ).loc Cert.RepStepReferenceIdeal.main_arg6) = m ((c.tc : Thread Cert.RepStepIdeal.nD Cert.RepStepIdeal.τ).loc Cert.RepStepIdeal.main_arg6)
      ∧ m' ((c.tc : Thread Cert.RepStepReferenceIdeal.nD Cert.RepStepReferenceIdeal.τ).loc Cert.RepStepReferenceIdeal.main_arg7) = m ((c.tc : Thread Cert.RepStepIdeal.nD Cert.RepStepIdeal.τ).loc Cert.RepStepIdeal.main_arg7)
      ∧ m' ((c.tc : Thread Cert.RepStepReferenceIdeal.nD Cert.RepStepReferenceIdeal.τ).loc Cert.RepStepReferenceIdeal.main_arg8) = m ((c.tc : Thread Cert.RepStepIdeal.nD Cert.RepStepIdeal.τ).loc Cert.RepStepIdeal.main_arg8)
      ∧ m' ((c.tc : Thread Cert.RepStepReferenceIdeal.nD Cert.RepStepReferenceIdeal.τ).loc Cert.RepStepReferenceIdeal.main_arg9) = m ((c.tc : Thread Cert.RepStepIdeal.nD Cert.RepStepIdeal.τ).loc Cert.RepStepIdeal.main_arg9)
      ∧ m' ((c.tc : Thread Cert.RepStepReferenceIdeal.nD Cert.RepStepReferenceIdeal.τ).loc Cert.RepStepReferenceIdeal.main_arg10) = m ((c.tc : Thread Cert.RepStepIdeal.nD Cert.RepStepIdeal.τ).loc Cert.RepStepIdeal.main_arg10)
      ∧ m' ((c.tc : Thread Cert.RepStepReferenceIdeal.nD Cert.RepStepReferenceIdeal.τ).loc Cert.RepStepReferenceIdeal.main_arg11) = m ((c.tc : Thread Cert.RepStepIdeal.nD Cert.RepStepIdeal.τ).loc Cert.RepStepIdeal.main_arg11)
      ∧ m' ((c.tc : Thread Cert.RepStepReferenceIdeal.nD Cert.RepStepReferenceIdeal.τ).loc Cert.RepStepReferenceIdeal.main_arg12) = m ((c.tc : Thread Cert.RepStepIdeal.nD Cert.RepStepIdeal.τ).loc Cert.RepStepIdeal.main_arg12)
      ∧ m' ((c.tc : Thread Cert.RepStepReferenceIdeal.nD Cert.RepStepReferenceIdeal.τ).loc Cert.RepStepReferenceIdeal.main_arg13) = m ((c.tc : Thread Cert.RepStepIdeal.nD Cert.RepStepIdeal.τ).loc Cert.RepStepIdeal.main_arg13)
      ∧ m' ((c.tc : Thread Cert.RepStepReferenceIdeal.nD Cert.RepStepReferenceIdeal.τ).loc Cert.RepStepReferenceIdeal.main_arg14) = m ((c.tc : Thread Cert.RepStepIdeal.nD Cert.RepStepIdeal.τ).loc Cert.RepStepIdeal.main_arg14)
      ∧ m' ((c.tc : Thread Cert.RepStepReferenceIdeal.nD Cert.RepStepReferenceIdeal.τ).loc Cert.RepStepReferenceIdeal.main_arg15) = m ((c.tc : Thread Cert.RepStepIdeal.nD Cert.RepStepIdeal.τ).loc Cert.RepStepIdeal.main_arg15)
      ∧ m' ((c.tc : Thread Cert.RepStepReferenceIdeal.nD Cert.RepStepReferenceIdeal.τ).loc Cert.RepStepReferenceIdeal.main_arg16) = m ((c.tc : Thread Cert.RepStepIdeal.nD Cert.RepStepIdeal.τ).loc Cert.RepStepIdeal.main_arg16)
      ∧ m' ((c.tc : Thread Cert.RepStepReferenceIdeal.nD Cert.RepStepReferenceIdeal.τ).loc Cert.RepStepReferenceIdeal.main_arg17) = m ((c.tc : Thread Cert.RepStepIdeal.nD Cert.RepStepIdeal.τ).loc Cert.RepStepIdeal.main_arg17)
      ∧ m' ((c.tc : Thread Cert.RepStepReferenceIdeal.nD Cert.RepStepReferenceIdeal.τ).loc Cert.RepStepReferenceIdeal.main_arg18) = m ((c.tc : Thread Cert.RepStepIdeal.nD Cert.RepStepIdeal.τ).loc Cert.RepStepIdeal.main_arg18)
      ∧ m' ((c.tc : Thread Cert.RepStepReferenceIdeal.nD Cert.RepStepReferenceIdeal.τ).loc Cert.RepStepReferenceIdeal.main_arg19) = m ((c.tc : Thread Cert.RepStepIdeal.nD Cert.RepStepIdeal.τ).loc Cert.RepStepIdeal.main_arg19)
      ∧ m' ((c.tc : Thread Cert.RepStepReferenceIdeal.nD Cert.RepStepReferenceIdeal.τ).loc Cert.RepStepReferenceIdeal.main_arg20) = m ((c.tc : Thread Cert.RepStepIdeal.nD Cert.RepStepIdeal.τ).loc Cert.RepStepIdeal.main_arg20)
      ∧ m' ((c.tc : Thread Cert.RepStepReferenceIdeal.nD Cert.RepStepReferenceIdeal.τ).loc Cert.RepStepReferenceIdeal.main_arg21) = m ((c.tc : Thread Cert.RepStepIdeal.nD Cert.RepStepIdeal.τ).loc Cert.RepStepIdeal.main_arg21)
      ∧ m' ((c.tc : Thread Cert.RepStepReferenceIdeal.nD Cert.RepStepReferenceIdeal.τ).loc Cert.RepStepReferenceIdeal.main_arg22) = m ((c.tc : Thread Cert.RepStepIdeal.nD Cert.RepStepIdeal.τ).loc Cert.RepStepIdeal.main_arg22)
      ∧ m' ((c.tc : Thread Cert.RepStepReferenceIdeal.nD Cert.RepStepReferenceIdeal.τ).loc Cert.RepStepReferenceIdeal.main_arg23) = m ((c.tc : Thread Cert.RepStepIdeal.nD Cert.RepStepIdeal.τ).loc Cert.RepStepIdeal.main_arg23)
      ∧ m' ((c.tc : Thread Cert.RepStepReferenceIdeal.nD Cert.RepStepReferenceIdeal.τ).loc Cert.RepStepReferenceIdeal.main_arg24) = m ((c.tc : Thread Cert.RepStepIdeal.nD Cert.RepStepIdeal.τ).loc Cert.RepStepIdeal.main_arg24)) →
    ∃ (v0 : (c : Dev Cert.RepStepIdeal.nD) → Buf (Elt Ideal) ((c.tc : Thread Cert.RepStepIdeal.nD Cert.RepStepIdeal.τ).loc Cert.RepStepIdeal.main_v0_32)) (v1 : (c : Dev Cert.RepStepIdeal.nD) → Buf (Elt Ideal) ((c.tc : Thread Cert.RepStepIdeal.nD Cert.RepStepIdeal.τ).loc Cert.RepStepIdeal.main_v0_0)) (v2 : (c : Dev Cert.RepStepIdeal.nD) → Buf (Elt Ideal) ((c.tc : Thread Cert.RepStepIdeal.nD Cert.RepStepIdeal.τ).loc Cert.RepStepIdeal.main_v0_1)) (v3 : (c : Dev Cert.RepStepIdeal.nD) → Buf (Elt Ideal) ((c.tc : Thread Cert.RepStepIdeal.nD Cert.RepStepIdeal.τ).loc Cert.RepStepIdeal.main_v0_2)) (v4 : (c : Dev Cert.RepStepIdeal.nD) → Buf (Elt Ideal) ((c.tc : Thread Cert.RepStepIdeal.nD Cert.RepStepIdeal.τ).loc Cert.RepStepIdeal.main_v0_3)) (v5 : (c : Dev Cert.RepStepIdeal.nD) → Buf (Elt Ideal) ((c.tc : Thread Cert.RepStepIdeal.nD Cert.RepStepIdeal.τ).loc Cert.RepStepIdeal.main_v0_4)) (v6 : (c : Dev Cert.RepStepIdeal.nD) → Buf (Elt Ideal) ((c.tc : Thread Cert.RepStepIdeal.nD Cert.RepStepIdeal.τ).loc Cert.RepStepIdeal.main_v0_5)) (v7 : (c : Dev Cert.RepStepIdeal.nD) → Buf (Elt Ideal) ((c.tc : Thread Cert.RepStepIdeal.nD Cert.RepStepIdeal.τ).loc Cert.RepStepIdeal.main_v0_6)) (v8 : (c : Dev Cert.RepStepIdeal.nD) → Buf (Elt Ideal) ((c.tc : Thread Cert.RepStepIdeal.nD Cert.RepStepIdeal.τ).loc Cert.RepStepIdeal.main_v0_7)) (v9 : (c : Dev Cert.RepStepIdeal.nD) → Buf (Elt Ideal) ((c.tc : Thread Cert.RepStepIdeal.nD Cert.RepStepIdeal.τ).loc Cert.RepStepIdeal.main_v0_8)) (v10 : (c : Dev Cert.RepStepIdeal.nD) → Buf (Elt Ideal) ((c.tc : Thread Cert.RepStepIdeal.nD Cert.RepStepIdeal.τ).loc Cert.RepStepIdeal.main_v0_9)) (v11 : (c : Dev Cert.RepStepIdeal.nD) → Buf (Elt Ideal) ((c.tc : Thread Cert.RepStepIdeal.nD Cert.RepStepIdeal.τ).loc Cert.RepStepIdeal.main_v0_10)) (v12 : (c : Dev Cert.RepStepIdeal.nD) → Buf (Elt Ideal) ((c.tc : Thread Cert.RepStepIdeal.nD Cert.RepStepIdeal.τ).loc Cert.RepStepIdeal.main_v0_11)) (v13 : (c : Dev Cert.RepStepIdeal.nD) → Buf (Elt Ideal) ((c.tc : Thread Cert.RepStepIdeal.nD Cert.RepStepIdeal.τ).loc Cert.RepStepIdeal.main_v0_12)) (v14 : (c : Dev Cert.RepStepIdeal.nD) → Buf (Elt Ideal) ((c.tc : Thread Cert.RepStepIdeal.nD Cert.RepStepIdeal.τ).loc Cert.RepStepIdeal.main_v0_13)) (v15 : (c : Dev Cert.RepStepIdeal.nD) → Buf (Elt Ideal) ((c.tc : Thread Cert.RepStepIdeal.nD Cert.RepStepIdeal.τ).loc Cert.RepStepIdeal.main_v0_14)) (v16 : (c : Dev Cert.RepStepIdeal.nD) → Buf (Elt Ideal) ((c.tc : Thread Cert.RepStepIdeal.nD Cert.RepStepIdeal.τ).loc Cert.RepStepIdeal.main_v0_15)) (v17 : (c : Dev Cert.RepStepIdeal.nD) → Buf (Elt Ideal) ((c.tc : Thread Cert.RepStepIdeal.nD Cert.RepStepIdeal.τ).loc Cert.RepStepIdeal.main_v0_16)) (v18 : (c : Dev Cert.RepStepIdeal.nD) → Buf (Elt Ideal) ((c.tc : Thread Cert.RepStepIdeal.nD Cert.RepStepIdeal.τ).loc Cert.RepStepIdeal.main_v0_17)) (v19 : (c : Dev Cert.RepStepIdeal.nD) → Buf (Elt Ideal) ((c.tc : Thread Cert.RepStepIdeal.nD Cert.RepStepIdeal.τ).loc Cert.RepStepIdeal.main_v0_18)) (v20 : (c : Dev Cert.RepStepIdeal.nD) → Buf (Elt Ideal) ((c.tc : Thread Cert.RepStepIdeal.nD Cert.RepStepIdeal.τ).loc Cert.RepStepIdeal.main_v0_19)) (v21 : (c : Dev Cert.RepStepIdeal.nD) → Buf (Elt Ideal) ((c.tc : Thread Cert.RepStepIdeal.nD Cert.RepStepIdeal.τ).loc Cert.RepStepIdeal.main_v0_20)) (v22 : (c : Dev Cert.RepStepIdeal.nD) → Buf (Elt Ideal) ((c.tc : Thread Cert.RepStepIdeal.nD Cert.RepStepIdeal.τ).loc Cert.RepStepIdeal.main_v0_21)) (v23 : (c : Dev Cert.RepStepIdeal.nD) → Buf (Elt Ideal) ((c.tc : Thread Cert.RepStepIdeal.nD Cert.RepStepIdeal.τ).loc Cert.RepStepIdeal.main_v0_22)) (v24 : (c : Dev Cert.RepStepIdeal.nD) → Buf (Elt Ideal) ((c.tc : Thread Cert.RepStepIdeal.nD Cert.RepStepIdeal.τ).loc Cert.RepStepIdeal.main_v0_23)) (v25 : (c : Dev Cert.RepStepIdeal.nD) → Buf (Elt Ideal) ((c.tc : Thread Cert.RepStepIdeal.nD Cert.RepStepIdeal.τ).loc Cert.RepStepIdeal.main_v0_24)) (v26 : (c : Dev Cert.RepStepIdeal.nD) → Buf (Elt Ideal) ((c.tc : Thread Cert.RepStepIdeal.nD Cert.RepStepIdeal.τ).loc Cert.RepStepIdeal.main_v0_25)) (v27 : (c : Dev Cert.RepStepIdeal.nD) → Buf (Elt Ideal) ((c.tc : Thread Cert.RepStepIdeal.nD Cert.RepStepIdeal.τ).loc Cert.RepStepIdeal.main_v0_26)) (v28 : (c : Dev Cert.RepStepIdeal.nD) → Buf (Elt Ideal) ((c.tc : Thread Cert.RepStepIdeal.nD Cert.RepStepIdeal.τ).loc Cert.RepStepIdeal.main_v0_27)) (v29 : (c : Dev Cert.RepStepIdeal.nD) → Buf (Elt Ideal) ((c.tc : Thread Cert.RepStepIdeal.nD Cert.RepStepIdeal.τ).loc Cert.RepStepIdeal.main_v0_28)) (v30 : (c : Dev Cert.RepStepIdeal.nD) → Buf (Elt Ideal) ((c.tc : Thread Cert.RepStepIdeal.nD Cert.RepStepIdeal.τ).loc Cert.RepStepIdeal.main_v0_29)) (v31 : (c : Dev Cert.RepStepIdeal.nD) → Buf (Elt Ideal) ((c.tc : Thread Cert.RepStepIdeal.nD Cert.RepStepIdeal.τ).loc Cert.RepStepIdeal.main_v0_30)) (v32 : (c : Dev Cert.RepStepIdeal.nD) → Buf (Elt Ideal) ((c.tc : Thread Cert.RepStepIdeal.nD Cert.RepStepIdeal.τ).loc Cert.RepStepIdeal.main_v0_31)),
      θ_run (Cert.RepStepIdeal.defs (F := Ideal)) (onTc (τ := Cert.RepStepIdeal.τ) (Cert.RepStepIdeal.main (F := Ideal))) ⟨m, fun _ => 0, g⟩ (fun r => ∀ c : Dev Cert.RepStepIdeal.nD,
          r.2.mem ((c.tc : Thread Cert.RepStepIdeal.nD Cert.RepStepIdeal.τ).loc Cert.RepStepIdeal.main_v0_32) = v0 c
          ∧ r.2.mem ((c.tc : Thread Cert.RepStepIdeal.nD Cert.RepStepIdeal.τ).loc Cert.RepStepIdeal.main_v0_0) = v1 c
          ∧ r.2.mem ((c.tc : Thread Cert.RepStepIdeal.nD Cert.RepStepIdeal.τ).loc Cert.RepStepIdeal.main_v0_1) = v2 c
          ∧ r.2.mem ((c.tc : Thread Cert.RepStepIdeal.nD Cert.RepStepIdeal.τ).loc Cert.RepStepIdeal.main_v0_2) = v3 c
          ∧ r.2.mem ((c.tc : Thread Cert.RepStepIdeal.nD Cert.RepStepIdeal.τ).loc Cert.RepStepIdeal.main_v0_3) = v4 c
          ∧ r.2.mem ((c.tc : Thread Cert.RepStepIdeal.nD Cert.RepStepIdeal.τ).loc Cert.RepStepIdeal.main_v0_4) = v5 c
          ∧ r.2.mem ((c.tc : Thread Cert.RepStepIdeal.nD Cert.RepStepIdeal.τ).loc Cert.RepStepIdeal.main_v0_5) = v6 c
          ∧ r.2.mem ((c.tc : Thread Cert.RepStepIdeal.nD Cert.RepStepIdeal.τ).loc Cert.RepStepIdeal.main_v0_6) = v7 c
          ∧ r.2.mem ((c.tc : Thread Cert.RepStepIdeal.nD Cert.RepStepIdeal.τ).loc Cert.RepStepIdeal.main_v0_7) = v8 c
          ∧ r.2.mem ((c.tc : Thread Cert.RepStepIdeal.nD Cert.RepStepIdeal.τ).loc Cert.RepStepIdeal.main_v0_8) = v9 c
          ∧ r.2.mem ((c.tc : Thread Cert.RepStepIdeal.nD Cert.RepStepIdeal.τ).loc Cert.RepStepIdeal.main_v0_9) = v10 c
          ∧ r.2.mem ((c.tc : Thread Cert.RepStepIdeal.nD Cert.RepStepIdeal.τ).loc Cert.RepStepIdeal.main_v0_10) = v11 c
          ∧ r.2.mem ((c.tc : Thread Cert.RepStepIdeal.nD Cert.RepStepIdeal.τ).loc Cert.RepStepIdeal.main_v0_11) = v12 c
          ∧ r.2.mem ((c.tc : Thread Cert.RepStepIdeal.nD Cert.RepStepIdeal.τ).loc Cert.RepStepIdeal.main_v0_12) = v13 c
          ∧ r.2.mem ((c.tc : Thread Cert.RepStepIdeal.nD Cert.RepStepIdeal.τ).loc Cert.RepStepIdeal.main_v0_13) = v14 c
          ∧ r.2.mem ((c.tc : Thread Cert.RepStepIdeal.nD Cert.RepStepIdeal.τ).loc Cert.RepStepIdeal.main_v0_14) = v15 c
          ∧ r.2.mem ((c.tc : Thread Cert.RepStepIdeal.nD Cert.RepStepIdeal.τ).loc Cert.RepStepIdeal.main_v0_15) = v16 c
          ∧ r.2.mem ((c.tc : Thread Cert.RepStepIdeal.nD Cert.RepStepIdeal.τ).loc Cert.RepStepIdeal.main_v0_16) = v17 c
          ∧ r.2.mem ((c.tc : Thread Cert.RepStepIdeal.nD Cert.RepStepIdeal.τ).loc Cert.RepStepIdeal.main_v0_17) = v18 c
          ∧ r.2.mem ((c.tc : Thread Cert.RepStepIdeal.nD Cert.RepStepIdeal.τ).loc Cert.RepStepIdeal.main_v0_18) = v19 c
          ∧ r.2.mem ((c.tc : Thread Cert.RepStepIdeal.nD Cert.RepStepIdeal.τ).loc Cert.RepStepIdeal.main_v0_19) = v20 c
          ∧ r.2.mem ((c.tc : Thread Cert.RepStepIdeal.nD Cert.RepStepIdeal.τ).loc Cert.RepStepIdeal.main_v0_20) = v21 c
          ∧ r.2.mem ((c.tc : Thread Cert.RepStepIdeal.nD Cert.RepStepIdeal.τ).loc Cert.RepStepIdeal.main_v0_21) = v22 c
          ∧ r.2.mem ((c.tc : Thread Cert.RepStepIdeal.nD Cert.RepStepIdeal.τ).loc Cert.RepStepIdeal.main_v0_22) = v23 c
          ∧ r.2.mem ((c.tc : Thread Cert.RepStepIdeal.nD Cert.RepStepIdeal.τ).loc Cert.RepStepIdeal.main_v0_23) = v24 c
          ∧ r.2.mem ((c.tc : Thread Cert.RepStepIdeal.nD Cert.RepStepIdeal.τ).loc Cert.RepStepIdeal.main_v0_24) = v25 c
          ∧ r.2.mem ((c.tc : Thread Cert.RepStepIdeal.nD Cert.RepStepIdeal.τ).loc Cert.RepStepIdeal.main_v0_25) = v26 c
          ∧ r.2.mem ((c.tc : Thread Cert.RepStepIdeal.nD Cert.RepStepIdeal.τ).loc Cert.RepStepIdeal.main_v0_26) = v27 c
          ∧ r.2.mem ((c.tc : Thread Cert.RepStepIdeal.nD Cert.RepStepIdeal.τ).loc Cert.RepStepIdeal.main_v0_27) = v28 c
          ∧ r.2.mem ((c.tc : Thread Cert.RepStepIdeal.nD Cert.RepStepIdeal.τ).loc Cert.RepStepIdeal.main_v0_28) = v29 c
          ∧ r.2.mem ((c.tc : Thread Cert.RepStepIdeal.nD Cert.RepStepIdeal.τ).loc Cert.RepStepIdeal.main_v0_29) = v30 c
          ∧ r.2.mem ((c.tc : Thread Cert.RepStepIdeal.nD Cert.RepStepIdeal.τ).loc Cert.RepStepIdeal.main_v0_30) = v31 c
          ∧ r.2.mem ((c.tc : Thread Cert.RepStepIdeal.nD Cert.RepStepIdeal.τ).loc Cert.RepStepIdeal.main_v0_31) = v32 c
          ∧ r.2.mem ((c.tc : Thread Cert.RepStepIdeal.nD Cert.RepStepIdeal.τ).loc Cert.RepStepIdeal.main_arg0) = m ((c.tc : Thread Cert.RepStepIdeal.nD Cert.RepStepIdeal.τ).loc Cert.RepStepIdeal.main_arg0)
          ∧ r.2.mem ((c.tc : Thread Cert.RepStepIdeal.nD Cert.RepStepIdeal.τ).loc Cert.RepStepIdeal.main_arg1) = m ((c.tc : Thread Cert.RepStepIdeal.nD Cert.RepStepIdeal.τ).loc Cert.RepStepIdeal.main_arg1)
          ∧ r.2.mem ((c.tc : Thread Cert.RepStepIdeal.nD Cert.RepStepIdeal.τ).loc Cert.RepStepIdeal.main_arg2) = m ((c.tc : Thread Cert.RepStepIdeal.nD Cert.RepStepIdeal.τ).loc Cert.RepStepIdeal.main_arg2)
          ∧ r.2.mem ((c.tc : Thread Cert.RepStepIdeal.nD Cert.RepStepIdeal.τ).loc Cert.RepStepIdeal.main_arg3) = m ((c.tc : Thread Cert.RepStepIdeal.nD Cert.RepStepIdeal.τ).loc Cert.RepStepIdeal.main_arg3)
          ∧ r.2.mem ((c.tc : Thread Cert.RepStepIdeal.nD Cert.RepStepIdeal.τ).loc Cert.RepStepIdeal.main_arg4) = m ((c.tc : Thread Cert.RepStepIdeal.nD Cert.RepStepIdeal.τ).loc Cert.RepStepIdeal.main_arg4)
          ∧ r.2.mem ((c.tc : Thread Cert.RepStepIdeal.nD Cert.RepStepIdeal.τ).loc Cert.RepStepIdeal.main_arg5) = m ((c.tc : Thread Cert.RepStepIdeal.nD Cert.RepStepIdeal.τ).loc Cert.RepStepIdeal.main_arg5)
          ∧ r.2.mem ((c.tc : Thread Cert.RepStepIdeal.nD Cert.RepStepIdeal.τ).loc Cert.RepStepIdeal.main_arg6) = m ((c.tc : Thread Cert.RepStepIdeal.nD Cert.RepStepIdeal.τ).loc Cert.RepStepIdeal.main_arg6)
          ∧ r.2.mem ((c.tc : Thread Cert.RepStepIdeal.nD Cert.RepStepIdeal.τ).loc Cert.RepStepIdeal.main_arg7) = m ((c.tc : Thread Cert.RepStepIdeal.nD Cert.RepStepIdeal.τ).loc Cert.RepStepIdeal.main_arg7)
          ∧ r.2.mem ((c.tc : Thread Cert.RepStepIdeal.nD Cert.RepStepIdeal.τ).loc Cert.RepStepIdeal.main_arg8) = m ((c.tc : Thread Cert.RepStepIdeal.nD Cert.RepStepIdeal.τ).loc Cert.RepStepIdeal.main_arg8)
          ∧ r.2.mem ((c.tc : Thread Cert.RepStepIdeal.nD Cert.RepStepIdeal.τ).loc Cert.RepStepIdeal.main_arg9) = m ((c.tc : Thread Cert.RepStepIdeal.nD Cert.RepStepIdeal.τ).loc Cert.RepStepIdeal.main_arg9)
          ∧ r.2.mem ((c.tc : Thread Cert.RepStepIdeal.nD Cert.RepStepIdeal.τ).loc Cert.RepStepIdeal.main_arg10) = m ((c.tc : Thread Cert.RepStepIdeal.nD Cert.RepStepIdeal.τ).loc Cert.RepStepIdeal.main_arg10)
          ∧ r.2.mem ((c.tc : Thread Cert.RepStepIdeal.nD Cert.RepStepIdeal.τ).loc Cert.RepStepIdeal.main_arg11) = m ((c.tc : Thread Cert.RepStepIdeal.nD Cert.RepStepIdeal.τ).loc Cert.RepStepIdeal.main_arg11)
          ∧ r.2.mem ((c.tc : Thread Cert.RepStepIdeal.nD Cert.RepStepIdeal.τ).loc Cert.RepStepIdeal.main_arg12) = m ((c.tc : Thread Cert.RepStepIdeal.nD Cert.RepStepIdeal.τ).loc Cert.RepStepIdeal.main_arg12)
          ∧ r.2.mem ((c.tc : Thread Cert.RepStepIdeal.nD Cert.RepStepIdeal.τ).loc Cert.RepStepIdeal.main_arg13) = m ((c.tc : Thread Cert.RepStepIdeal.nD Cert.RepStepIdeal.τ).loc Cert.RepStepIdeal.main_arg13)
          ∧ r.2.mem ((c.tc : Thread Cert.RepStepIdeal.nD Cert.RepStepIdeal.τ).loc Cert.RepStepIdeal.main_arg14) = m ((c.tc : Thread Cert.RepStepIdeal.nD Cert.RepStepIdeal.τ).loc Cert.RepStepIdeal.main_arg14)
          ∧ r.2.mem ((c.tc : Thread Cert.RepStepIdeal.nD Cert.RepStepIdeal.τ).loc Cert.RepStepIdeal.main_arg15) = m ((c.tc : Thread Cert.RepStepIdeal.nD Cert.RepStepIdeal.τ).loc Cert.RepStepIdeal.main_arg15)
          ∧ r.2.mem ((c.tc : Thread Cert.RepStepIdeal.nD Cert.RepStepIdeal.τ).loc Cert.RepStepIdeal.main_arg16) = m ((c.tc : Thread Cert.RepStepIdeal.nD Cert.RepStepIdeal.τ).loc Cert.RepStepIdeal.main_arg16)
          ∧ r.2.mem ((c.tc : Thread Cert.RepStepIdeal.nD Cert.RepStepIdeal.τ).loc Cert.RepStepIdeal.main_arg17) = m ((c.tc : Thread Cert.RepStepIdeal.nD Cert.RepStepIdeal.τ).loc Cert.RepStepIdeal.main_arg17)
          ∧ r.2.mem ((c.tc : Thread Cert.RepStepIdeal.nD Cert.RepStepIdeal.τ).loc Cert.RepStepIdeal.main_arg18) = m ((c.tc : Thread Cert.RepStepIdeal.nD Cert.RepStepIdeal.τ).loc Cert.RepStepIdeal.main_arg18)
          ∧ r.2.mem ((c.tc : Thread Cert.RepStepIdeal.nD Cert.RepStepIdeal.τ).loc Cert.RepStepIdeal.main_arg19) = m ((c.tc : Thread Cert.RepStepIdeal.nD Cert.RepStepIdeal.τ).loc Cert.RepStepIdeal.main_arg19)
          ∧ r.2.mem ((c.tc : Thread Cert.RepStepIdeal.nD Cert.RepStepIdeal.τ).loc Cert.RepStepIdeal.main_arg20) = m ((c.tc : Thread Cert.RepStepIdeal.nD Cert.RepStepIdeal.τ).loc Cert.RepStepIdeal.main_arg20)
          ∧ r.2.mem ((c.tc : Thread Cert.RepStepIdeal.nD Cert.RepStepIdeal.τ).loc Cert.RepStepIdeal.main_arg21) = m ((c.tc : Thread Cert.RepStepIdeal.nD Cert.RepStepIdeal.τ).loc Cert.RepStepIdeal.main_arg21)
          ∧ r.2.mem ((c.tc : Thread Cert.RepStepIdeal.nD Cert.RepStepIdeal.τ).loc Cert.RepStepIdeal.main_arg22) = m ((c.tc : Thread Cert.RepStepIdeal.nD Cert.RepStepIdeal.τ).loc Cert.RepStepIdeal.main_arg22)
          ∧ r.2.mem ((c.tc : Thread Cert.RepStepIdeal.nD Cert.RepStepIdeal.τ).loc Cert.RepStepIdeal.main_arg23) = m ((c.tc : Thread Cert.RepStepIdeal.nD Cert.RepStepIdeal.τ).loc Cert.RepStepIdeal.main_arg23)
          ∧ r.2.mem ((c.tc : Thread Cert.RepStepIdeal.nD Cert.RepStepIdeal.τ).loc Cert.RepStepIdeal.main_arg24) = m ((c.tc : Thread Cert.RepStepIdeal.nD Cert.RepStepIdeal.τ).loc Cert.RepStepIdeal.main_arg24))
      ∧ θ_run (Cert.RepStepReferenceIdeal.defs (F := Ideal)) (onTc (τ := Cert.RepStepReferenceIdeal.τ) (Cert.RepStepReferenceIdeal.main (F := Ideal))) ⟨m', fun _ => 0, g'⟩ (fun r => ∀ c : Dev Cert.RepStepReferenceIdeal.nD,
          r.2.mem ((c.tc : Thread Cert.RepStepReferenceIdeal.nD Cert.RepStepReferenceIdeal.τ).loc Cert.RepStepReferenceIdeal.main_v204) = v0 c
          ∧ r.2.mem ((c.tc : Thread Cert.RepStepReferenceIdeal.nD Cert.RepStepReferenceIdeal.τ).loc Cert.RepStepReferenceIdeal.main_v2) = v1 c
          ∧ r.2.mem ((c.tc : Thread Cert.RepStepReferenceIdeal.nD Cert.RepStepReferenceIdeal.τ).loc Cert.RepStepReferenceIdeal.main_v3) = v2 c
          ∧ r.2.mem ((c.tc : Thread Cert.RepStepReferenceIdeal.nD Cert.RepStepReferenceIdeal.τ).loc Cert.RepStepReferenceIdeal.main_v4) = v3 c
          ∧ r.2.mem ((c.tc : Thread Cert.RepStepReferenceIdeal.nD Cert.RepStepReferenceIdeal.τ).loc Cert.RepStepReferenceIdeal.main_v5) = v4 c
          ∧ r.2.mem ((c.tc : Thread Cert.RepStepReferenceIdeal.nD Cert.RepStepReferenceIdeal.τ).loc Cert.RepStepReferenceIdeal.main_v6) = v5 c
          ∧ r.2.mem ((c.tc : Thread Cert.RepStepReferenceIdeal.nD Cert.RepStepReferenceIdeal.τ).loc Cert.RepStepReferenceIdeal.main_v8) = v6 c
          ∧ r.2.mem ((c.tc : Thread Cert.RepStepReferenceIdeal.nD Cert.RepStepReferenceIdeal.τ).loc Cert.RepStepReferenceIdeal.main_v9) = v7 c
          ∧ r.2.mem ((c.tc : Thread Cert.RepStepReferenceIdeal.nD Cert.RepStepReferenceIdeal.τ).loc Cert.RepStepReferenceIdeal.main_v10) = v8 c
          ∧ r.2.mem ((c.tc : Thread Cert.RepStepReferenceIdeal.nD Cert.RepStepReferenceIdeal.τ).loc Cert.RepStepReferenceIdeal.main_v34) = v9 c
          ∧ r.2.mem ((c.tc : Thread Cert.RepStepReferenceIdeal.nD Cert.RepStepReferenceIdeal.τ).loc Cert.RepStepReferenceIdeal.main_v58) = v10 c
          ∧ r.2.mem ((c.tc : Thread Cert.RepStepReferenceIdeal.nD Cert.RepStepReferenceIdeal.τ).loc Cert.RepStepReferenceIdeal.main_v82) = v11 c
          ∧ r.2.mem ((c.tc : Thread Cert.RepStepReferenceIdeal.nD Cert.RepStepReferenceIdeal.τ).loc Cert.RepStepReferenceIdeal.main_v106) = v12 c
          ∧ r.2.mem ((c.tc : Thread Cert.RepStepReferenceIdeal.nD Cert.RepStepReferenceIdeal.τ).loc Cert.RepStepReferenceIdeal.main_v130) = v13 c
          ∧ r.2.mem ((c.tc : Thread Cert.RepStepReferenceIdeal.nD Cert.RepStepReferenceIdeal.τ).loc Cert.RepStepReferenceIdeal.main_v154) = v14 c
          ∧ r.2.mem ((c.tc : Thread Cert.RepStepReferenceIdeal.nD Cert.RepStepReferenceIdeal.τ).loc Cert.RepStepReferenceIdeal.main_v178) = v15 c
          ∧ r.2.mem ((c.tc : Thread Cert.RepStepReferenceIdeal.nD Cert.RepStepReferenceIdeal.τ).loc Cert.RepStepReferenceIdeal.main_v202) = v16 c
          ∧ r.2.mem ((c.tc : Thread Cert.RepStepReferenceIdeal.nD Cert.RepStepReferenceIdeal.τ).loc Cert.RepStepReferenceIdeal.main_v15) = v17 c
          ∧ r.2.mem ((c.tc : Thread Cert.RepStepReferenceIdeal.nD Cert.RepStepReferenceIdeal.τ).loc Cert.RepStepReferenceIdeal.main_v39) = v18 c
          ∧ r.2.mem ((c.tc : Thread Cert.RepStepReferenceIdeal.nD Cert.RepStepReferenceIdeal.τ).loc Cert.RepStepReferenceIdeal.main_v63) = v19 c
          ∧ r.2.mem ((c.tc : Thread Cert.RepStepReferenceIdeal.nD Cert.RepStepReferenceIdeal.τ).loc Cert.RepStepReferenceIdeal.main_v87) = v20 c
          ∧ r.2.mem ((c.tc : Thread Cert.RepStepReferenceIdeal.nD Cert.RepStepReferenceIdeal.τ).loc Cert.RepStepReferenceIdeal.main_v111) = v21 c
          ∧ r.2.mem ((c.tc : Thread Cert.RepStepReferenceIdeal.nD Cert.RepStepReferenceIdeal.τ).loc Cert.RepStepReferenceIdeal.main_v135) = v22 c
          ∧ r.2.mem ((c.tc : Thread Cert.RepStepReferenceIdeal.nD Cert.RepStepReferenceIdeal.τ).loc Cert.RepStepReferenceIdeal.main_v159) = v23 c
          ∧ r.2.mem ((c.tc : Thread Cert.RepStepReferenceIdeal.nD Cert.RepStepReferenceIdeal.τ).loc Cert.RepStepReferenceIdeal.main_v183) = v24 c
          ∧ r.2.mem ((c.tc : Thread Cert.RepStepReferenceIdeal.nD Cert.RepStepReferenceIdeal.τ).loc Cert.RepStepReferenceIdeal.main_v21) = v25 c
          ∧ r.2.mem ((c.tc : Thread Cert.RepStepReferenceIdeal.nD Cert.RepStepReferenceIdeal.τ).loc Cert.RepStepReferenceIdeal.main_v45) = v26 c
          ∧ r.2.mem ((c.tc : Thread Cert.RepStepReferenceIdeal.nD Cert.RepStepReferenceIdeal.τ).loc Cert.RepStepReferenceIdeal.main_v69) = v27 c
          ∧ r.2.mem ((c.tc : Thread Cert.RepStepReferenceIdeal.nD Cert.RepStepReferenceIdeal.τ).loc Cert.RepStepReferenceIdeal.main_v93) = v28 c
          ∧ r.2.mem ((c.tc : Thread Cert.RepStepReferenceIdeal.nD Cert.RepStepReferenceIdeal.τ).loc Cert.RepStepReferenceIdeal.main_v117) = v29 c
          ∧ r.2.mem ((c.tc : Thread Cert.RepStepReferenceIdeal.nD Cert.RepStepReferenceIdeal.τ).loc Cert.RepStepReferenceIdeal.main_v141) = v30 c
          ∧ r.2.mem ((c.tc : Thread Cert.RepStepReferenceIdeal.nD Cert.RepStepReferenceIdeal.τ).loc Cert.RepStepReferenceIdeal.main_v165) = v31 c
          ∧ r.2.mem ((c.tc : Thread Cert.RepStepReferenceIdeal.nD Cert.RepStepReferenceIdeal.τ).loc Cert.RepStepReferenceIdeal.main_v189) = v32 c
          ∧ r.2.mem ((c.tc : Thread Cert.RepStepReferenceIdeal.nD Cert.RepStepReferenceIdeal.τ).loc Cert.RepStepReferenceIdeal.main_arg0) = m' ((c.tc : Thread Cert.RepStepReferenceIdeal.nD Cert.RepStepReferenceIdeal.τ).loc Cert.RepStepReferenceIdeal.main_arg0)
          ∧ r.2.mem ((c.tc : Thread Cert.RepStepReferenceIdeal.nD Cert.RepStepReferenceIdeal.τ).loc Cert.RepStepReferenceIdeal.main_arg1) = m' ((c.tc : Thread Cert.RepStepReferenceIdeal.nD Cert.RepStepReferenceIdeal.τ).loc Cert.RepStepReferenceIdeal.main_arg1)
          ∧ r.2.mem ((c.tc : Thread Cert.RepStepReferenceIdeal.nD Cert.RepStepReferenceIdeal.τ).loc Cert.RepStepReferenceIdeal.main_arg2) = m' ((c.tc : Thread Cert.RepStepReferenceIdeal.nD Cert.RepStepReferenceIdeal.τ).loc Cert.RepStepReferenceIdeal.main_arg2)
          ∧ r.2.mem ((c.tc : Thread Cert.RepStepReferenceIdeal.nD Cert.RepStepReferenceIdeal.τ).loc Cert.RepStepReferenceIdeal.main_arg3) = m' ((c.tc : Thread Cert.RepStepReferenceIdeal.nD Cert.RepStepReferenceIdeal.τ).loc Cert.RepStepReferenceIdeal.main_arg3)
          ∧ r.2.mem ((c.tc : Thread Cert.RepStepReferenceIdeal.nD Cert.RepStepReferenceIdeal.τ).loc Cert.RepStepReferenceIdeal.main_arg4) = m' ((c.tc : Thread Cert.RepStepReferenceIdeal.nD Cert.RepStepReferenceIdeal.τ).loc Cert.RepStepReferenceIdeal.main_arg4)
          ∧ r.2.mem ((c.tc : Thread Cert.RepStepReferenceIdeal.nD Cert.RepStepReferenceIdeal.τ).loc Cert.RepStepReferenceIdeal.main_arg5) = m' ((c.tc : Thread Cert.RepStepReferenceIdeal.nD Cert.RepStepReferenceIdeal.τ).loc Cert.RepStepReferenceIdeal.main_arg5)
          ∧ r.2.mem ((c.tc : Thread Cert.RepStepReferenceIdeal.nD Cert.RepStepReferenceIdeal.τ).loc Cert.RepStepReferenceIdeal.main_arg6) = m' ((c.tc : Thread Cert.RepStepReferenceIdeal.nD Cert.RepStepReferenceIdeal.τ).loc Cert.RepStepReferenceIdeal.main_arg6)
          ∧ r.2.mem ((c.tc : Thread Cert.RepStepReferenceIdeal.nD Cert.RepStepReferenceIdeal.τ).loc Cert.RepStepReferenceIdeal.main_arg7) = m' ((c.tc : Thread Cert.RepStepReferenceIdeal.nD Cert.RepStepReferenceIdeal.τ).loc Cert.RepStepReferenceIdeal.main_arg7)
          ∧ r.2.mem ((c.tc : Thread Cert.RepStepReferenceIdeal.nD Cert.RepStepReferenceIdeal.τ).loc Cert.RepStepReferenceIdeal.main_arg8) = m' ((c.tc : Thread Cert.RepStepReferenceIdeal.nD Cert.RepStepReferenceIdeal.τ).loc Cert.RepStepReferenceIdeal.main_arg8)
          ∧ r.2.mem ((c.tc : Thread Cert.RepStepReferenceIdeal.nD Cert.RepStepReferenceIdeal.τ).loc Cert.RepStepReferenceIdeal.main_arg9) = m' ((c.tc : Thread Cert.RepStepReferenceIdeal.nD Cert.RepStepReferenceIdeal.τ).loc Cert.RepStepReferenceIdeal.main_arg9)
          ∧ r.2.mem ((c.tc : Thread Cert.RepStepReferenceIdeal.nD Cert.RepStepReferenceIdeal.τ).loc Cert.RepStepReferenceIdeal.main_arg10) = m' ((c.tc : Thread Cert.RepStepReferenceIdeal.nD Cert.RepStepReferenceIdeal.τ).loc Cert.RepStepReferenceIdeal.main_arg10)
          ∧ r.2.mem ((c.tc : Thread Cert.RepStepReferenceIdeal.nD Cert.RepStepReferenceIdeal.τ).loc Cert.RepStepReferenceIdeal.main_arg11) = m' ((c.tc : Thread Cert.RepStepReferenceIdeal.nD Cert.RepStepReferenceIdeal.τ).loc Cert.RepStepReferenceIdeal.main_arg11)
          ∧ r.2.mem ((c.tc : Thread Cert.RepStepReferenceIdeal.nD Cert.RepStepReferenceIdeal.τ).loc Cert.RepStepReferenceIdeal.main_arg12) = m' ((c.tc : Thread Cert.RepStepReferenceIdeal.nD Cert.RepStepReferenceIdeal.τ).loc Cert.RepStepReferenceIdeal.main_arg12)
          ∧ r.2.mem ((c.tc : Thread Cert.RepStepReferenceIdeal.nD Cert.RepStepReferenceIdeal.τ).loc Cert.RepStepReferenceIdeal.main_arg13) = m' ((c.tc : Thread Cert.RepStepReferenceIdeal.nD Cert.RepStepReferenceIdeal.τ).loc Cert.RepStepReferenceIdeal.main_arg13)
          ∧ r.2.mem ((c.tc : Thread Cert.RepStepReferenceIdeal.nD Cert.RepStepReferenceIdeal.τ).loc Cert.RepStepReferenceIdeal.main_arg14) = m' ((c.tc : Thread Cert.RepStepReferenceIdeal.nD Cert.RepStepReferenceIdeal.τ).loc Cert.RepStepReferenceIdeal.main_arg14)
          ∧ r.2.mem ((c.tc : Thread Cert.RepStepReferenceIdeal.nD Cert.RepStepReferenceIdeal.τ).loc Cert.RepStepReferenceIdeal.main_arg15) = m' ((c.tc : Thread Cert.RepStepReferenceIdeal.nD Cert.RepStepReferenceIdeal.τ).loc Cert.RepStepReferenceIdeal.main_arg15)
          ∧ r.2.mem ((c.tc : Thread Cert.RepStepReferenceIdeal.nD Cert.RepStepReferenceIdeal.τ).loc Cert.RepStepReferenceIdeal.main_arg16) = m' ((c.tc : Thread Cert.RepStepReferenceIdeal.nD Cert.RepStepReferenceIdeal.τ).loc Cert.RepStepReferenceIdeal.main_arg16)
          ∧ r.2.mem ((c.tc : Thread Cert.RepStepReferenceIdeal.nD Cert.RepStepReferenceIdeal.τ).loc Cert.RepStepReferenceIdeal.main_arg17) = m' ((c.tc : Thread Cert.RepStepReferenceIdeal.nD Cert.RepStepReferenceIdeal.τ).loc Cert.RepStepReferenceIdeal.main_arg17)
          ∧ r.2.mem ((c.tc : Thread Cert.RepStepReferenceIdeal.nD Cert.RepStepReferenceIdeal.τ).loc Cert.RepStepReferenceIdeal.main_arg18) = m' ((c.tc : Thread Cert.RepStepReferenceIdeal.nD Cert.RepStepReferenceIdeal.τ).loc Cert.RepStepReferenceIdeal.main_arg18)
          ∧ r.2.mem ((c.tc : Thread Cert.RepStepReferenceIdeal.nD Cert.RepStepReferenceIdeal.τ).loc Cert.RepStepReferenceIdeal.main_arg19) = m' ((c.tc : Thread Cert.RepStepReferenceIdeal.nD Cert.RepStepReferenceIdeal.τ).loc Cert.RepStepReferenceIdeal.main_arg19)
          ∧ r.2.mem ((c.tc : Thread Cert.RepStepReferenceIdeal.nD Cert.RepStepReferenceIdeal.τ).loc Cert.RepStepReferenceIdeal.main_arg20) = m' ((c.tc : Thread Cert.RepStepReferenceIdeal.nD Cert.RepStepReferenceIdeal.τ).loc Cert.RepStepReferenceIdeal.main_arg20)
          ∧ r.2.mem ((c.tc : Thread Cert.RepStepReferenceIdeal.nD Cert.RepStepReferenceIdeal.τ).loc Cert.RepStepReferenceIdeal.main_arg21) = m' ((c.tc : Thread Cert.RepStepReferenceIdeal.nD Cert.RepStepReferenceIdeal.τ).loc Cert.RepStepReferenceIdeal.main_arg21)
          ∧ r.2.mem ((c.tc : Thread Cert.RepStepReferenceIdeal.nD Cert.RepStepReferenceIdeal.τ).loc Cert.RepStepReferenceIdeal.main_arg22) = m' ((c.tc : Thread Cert.RepStepReferenceIdeal.nD Cert.RepStepReferenceIdeal.τ).loc Cert.RepStepReferenceIdeal.main_arg22)
          ∧ r.2.mem ((c.tc : Thread Cert.RepStepReferenceIdeal.nD Cert.RepStepReferenceIdeal.τ).loc Cert.RepStepReferenceIdeal.main_arg23) = m' ((c.tc : Thread Cert.RepStepReferenceIdeal.nD Cert.RepStepReferenceIdeal.τ).loc Cert.RepStepReferenceIdeal.main_arg23)
          ∧ r.2.mem ((c.tc : Thread Cert.RepStepReferenceIdeal.nD Cert.RepStepReferenceIdeal.τ).loc Cert.RepStepReferenceIdeal.main_arg24) = m' ((c.tc : Thread Cert.RepStepReferenceIdeal.nD Cert.RepStepReferenceIdeal.τ).loc Cert.RepStepReferenceIdeal.main_arg24))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hOutStep : Cert.OutStep.Facts) (hOutStepIdeal : Cert.OutStepIdeal.Facts) (hOutStepReferenceIdeal : Cert.OutStepReferenceIdeal.Facts) (hHeadStep : Cert.HeadStep.Facts) (hHeadStepIdeal : Cert.HeadStepIdeal.Facts) (hHeadStepReferenceIdeal : Cert.HeadStepReferenceIdeal.Facts) (hInStep : Cert.InStep.Facts) (hInStepIdeal : Cert.InStepIdeal.Facts) (hInStepReferenceIdeal : Cert.InStepReferenceIdeal.Facts) (hRepStep : Cert.RepStep.Facts) (hRepStepIdeal : Cert.RepStepIdeal.Facts) (hRepStepReferenceIdeal : Cert.RepStepReferenceIdeal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_qkv (hForwardIdeal := hForwardIdeal) (hPre_finite_qkv := hPre_finite_qkv)
    ∧ quiescent_ForwardReferenceIdeal (hForwardReferenceIdeal := hForwardReferenceIdeal)
    ∧ quiescent_ForwardReferenceIdeal_pre_finite_qkv (hForwardReferenceIdeal := hForwardReferenceIdeal) (hPre_finite_qkv := hPre_finite_qkv)
    ∧ quiescent_OutStep (hOutStep := hOutStep)
    ∧ quiescent_OutStepIdeal (hOutStepIdeal := hOutStepIdeal)
    ∧ quiescent_OutStepReferenceIdeal (hOutStepReferenceIdeal := hOutStepReferenceIdeal)
    ∧ quiescent_HeadStep (hHeadStep := hHeadStep)
    ∧ quiescent_HeadStepIdeal (hHeadStepIdeal := hHeadStepIdeal)
    ∧ quiescent_HeadStepReferenceIdeal (hHeadStepReferenceIdeal := hHeadStepReferenceIdeal)
    ∧ quiescent_InStep (hInStep := hInStep)
    ∧ quiescent_InStepIdeal (hInStepIdeal := hInStepIdeal)
    ∧ quiescent_InStepReferenceIdeal (hInStepReferenceIdeal := hInStepReferenceIdeal)
    ∧ quiescent_RepStep (hRepStep := hRepStep)
    ∧ quiescent_RepStepIdeal (hRepStepIdeal := hRepStepIdeal)
    ∧ quiescent_RepStepReferenceIdeal (hRepStepReferenceIdeal := hRepStepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_qkv (hForwardIdeal := hForwardIdeal) (hForwardReferenceIdeal := hForwardReferenceIdeal) (hPre_finite_qkv := hPre_finite_qkv)
    ∧ preserves_OutStep_OutStepIdeal
    ∧ algebraic_OutStepIdeal_OutStepReferenceIdeal (hOutStepIdeal := hOutStepIdeal) (hOutStepReferenceIdeal := hOutStepReferenceIdeal)
    ∧ preserves_HeadStep_HeadStepIdeal
    ∧ algebraic_HeadStepIdeal_HeadStepReferenceIdeal (hHeadStepIdeal := hHeadStepIdeal) (hHeadStepReferenceIdeal := hHeadStepReferenceIdeal)
    ∧ preserves_InStep_InStepIdeal
    ∧ algebraic_InStepIdeal_InStepReferenceIdeal (hInStepIdeal := hInStepIdeal) (hInStepReferenceIdeal := hInStepReferenceIdeal)
    ∧ preserves_RepStep_RepStepIdeal
    ∧ algebraic_RepStepIdeal_RepStepReferenceIdeal (hRepStepIdeal := hRepStepIdeal) (hRepStepReferenceIdeal := hRepStepReferenceIdeal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite_qkv.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn {F : FTy → Type} [FloatOps F] (main_arg0 : FVec F S8192x8x96 .f32) (main_arg1 : FVec F S8192x8x96 .f32) (main_arg2 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  main_v13
-- ==== Kernel.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩
abbrev S8x8192x96 : Shape := ⟨3, ![8, 8192, 96]⟩
abbrev S8x8192x128 : Shape := ⟨3, ![8, 8192, 128]⟩
abbrev S8x8192x64 : Shape := ⟨3, ![8, 8192, 64]⟩
abbrev S8x128x8192 : Shape := ⟨3, ![8, 128, 8192]⟩
abbrev S1x8192x128 : Shape := ⟨3, ![1, 8192, 128]⟩
abbrev S1x2048x128 : Shape := ⟨3, ![1, 2048, 128]⟩
abbrev S1x1x8192 : Shape := ⟨3, ![1, 1, 8192]⟩
abbrev S1x128x8192 : Shape := ⟨3, ![1, 128, 8192]⟩
abbrev S2048x512 : Shape := ⟨2, ![2048, 512]⟩
abbrev S128x2048 : Shape := ⟨2, ![128, 2048]⟩
abbrev S2048x128 : Shape := ⟨2, ![2048, 128]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256x256 : Shape := ⟨2, ![256, 256]⟩
abbrev S1x768x128 : Shape := ⟨3, ![1, 768, 128]⟩
abbrev S768x128 : Shape := ⟨2, ![768, 128]⟩
abbrev S768x512 : Shape := ⟨2, ![768, 512]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩
abbrev S1x1280x128 : Shape := ⟨3, ![1, 1280, 128]⟩
abbrev S1280x128 : Shape := ⟨2, ![1280, 128]⟩
abbrev S1280x512 : Shape := ⟨2, ![1280, 512]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S1x1792x128 : Shape := ⟨3, ![1, 1792, 128]⟩
abbrev S1792x128 : Shape := ⟨2, ![1792, 128]⟩
abbrev S1792x512 : Shape := ⟨2, ![1792, 512]⟩
abbrev S128x768 : Shape := ⟨2, ![128, 768]⟩
abbrev S128x1280 : Shape := ⟨2, ![128, 1280]⟩
abbrev S512x512 : Shape := ⟨2, ![512, 512]⟩
abbrev S8192x8x128 : Shape := ⟨3, ![8192, 8, 128]⟩

abbrev nBuf : Space → Nat
  | .hbm => 85
  | .vmem => 25
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x64x8192, .f32⟩
  | .hbm, ⟨32, _⟩ => ⟨S8192x8x64, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S8x1x8192, .f32⟩
  | .hbm, ⟨41, _⟩ => ⟨S8x8192x96, .f32⟩
  | .hbm, ⟨42, _⟩ => ⟨S_, .i32⟩
  | .hbm, ⟨43, _⟩ => ⟨S_, .f32⟩
  | .hbm, ⟨44, _⟩ => ⟨S8x8192x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x8192x128, .f32⟩
  | .hbm, ⟨51, _⟩ => ⟨S8x8192x128, .f32⟩
  | .hbm, ⟨52, _⟩ => ⟨S8x8192x128, .bf16⟩
  | .hbm, ⟨53, _⟩ => ⟨S8x8192x96, .f32⟩
  | .hbm, ⟨54, _⟩ => ⟨S_, .i32⟩
  | .hbm, ⟨55, _⟩ => ⟨S_, .f32⟩
  | .hbm, ⟨56, _⟩ => ⟨S8x8192x128, .f32⟩
  | .hbm, ⟨57, _⟩ => ⟨S8x8192x128, .bf16⟩
  | .hbm, ⟨58, _⟩ => ⟨S8x8192x96, .f32⟩
  | .hbm, ⟨59, _⟩ => ⟨S8x8192x64, .f32⟩
  | .hbm, ⟨60, _⟩ => ⟨S8x8192x64, .f32⟩
  | .hbm, ⟨61, _⟩ => ⟨S8x8192x128, .f32⟩
  | .hbm, ⟨62, _⟩ => ⟨S8x8192x128, .bf16⟩
  | .hbm, ⟨63, _⟩ => ⟨S8x8192x64, .f32⟩
  | .hbm, ⟨64, _⟩ => ⟨S_, .i32⟩
  | .hbm, ⟨65, _⟩ => ⟨S_, .f32⟩
  | .hbm, ⟨66, _⟩ => ⟨S8x8192x128, .f32⟩
  | .hbm, ⟨67, _⟩ => ⟨S8x8192x128, .bf16⟩
  | .hbm, ⟨68, _⟩ => ⟨S8192x8x64, .f32⟩
  | .hbm, ⟨69, _⟩ => ⟨S8x8192x64, .f32⟩
  | .hbm, ⟨70, _⟩ => ⟨S_, .f32⟩
  | .hbm, ⟨71, _⟩ => ⟨S8x8192, .f32⟩
  | .hbm, ⟨72, _⟩ => ⟨S8x1x8192, .f32⟩
  | .hbm, ⟨73, _⟩ => ⟨S8x128x8192, .f32⟩
  | .hbm, ⟨74, _⟩ => ⟨S8x8192x128, .f32⟩
  | .hbm, ⟨75, _⟩ => ⟨S8x8192x128, .f32⟩
  | .hbm, ⟨76, _⟩ => ⟨S8192x8x128, .f32⟩
  | .hbm, ⟨77, _⟩ => ⟨S8192x8x96, .f32⟩
  | .hbm, ⟨78, _⟩ => ⟨S_, .f32⟩
  | .hbm, ⟨79, _⟩ => ⟨S8192x8x96, .f32⟩
  | .hbm, ⟨80, _⟩ => ⟨S8192x8x96, .f32⟩
  | .hbm, ⟨81, _⟩ => ⟨S8192x8x128, .f32⟩
  | .hbm, ⟨82, _⟩ => ⟨S8192x8x96, .f32⟩
  | .hbm, ⟨83, _⟩ => ⟨S8192x8x128, .f32⟩
  | .hbm, ⟨84, _⟩ => ⟨S8192x8x64, .f32⟩
  | .local _ .vmem, ⟨0, _⟩ => ⟨S1x8192x128, .bf16⟩
  | .local _ .vmem, ⟨1, _⟩ => ⟨S1x8192x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1x128x8192, .f32⟩
  | .local _ .vmem, ⟨11, _⟩ => ⟨S1x128x8192, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S128x2048, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_call3_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v52_2 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32 : BitVec 32 := 512#32
  let v19 : BitVec 32 := Scalar.muli v16 c512_i32
  let c0_i32_15 : BitVec 32 := 0#32
  let v20 : BitVec 32 := Scalar.addi v19 c0_i32_15
  v20
def k0_off1 (i : grid0.Coords) : Fin 3 → Nat :=
  let c0_16 : Index := 0#32
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32 : BitVec 32 := 512#32
  let v19 : BitVec 32 := Scalar.muli v16 c512_i32
  let c0_i32_15 : BitVec 32 := 0#32
  let v20 : BitVec 32 := Scalar.addi v19 c0_i32_15
  let v21 : BitVec 32 := v20
  let v22 : Index := Scalar.indexCast v21
  let c0_17 : Index := 0#32
  ![0, v22.toNat, 0]
def k0_mult2 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_24 : BitVec 32 := 512#32
  let v31 : BitVec 32 := Scalar.muli v16 c512_i32_24
  let c0_i32_25 : BitVec 32 := 0#32
  let v32 : BitVec 32 := Scalar.addi v31 c0_i32_25
  v32
def k0_mult3 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_33 : BitVec 32 := 512#32
  let v43 : BitVec 32 := Scalar.muli v16 c512_i32_33
  let c256_i32 : BitVec 32 := 256#32
  let v44 : BitVec 32 := Scalar.addi v43 c256_i32
  v44
def k0_off2 (i : grid0.Coords) : Fin 3 → Nat :=
  let c0_34 : Index := 0#32
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_33 : BitVec 32 := 512#32
  let v43 : BitVec 32 := Scalar.muli v16 c512_i32_33
  let c256_i32 : BitVec 32 := 256#32
  let v44 : BitVec 32 := Scalar.addi v43 c256_i32
  let v45 : BitVec 32 := v44
  let v46 : Index := Scalar.indexCast v45
  let c0_35 : Index := 0#32
  ![0, v46.toNat, 0]
def k0_mult4 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_42 : BitVec 32 := 512#32
  let v55 : BitVec 32 := Scalar.muli v16 c512_i32_42
  let c256_i32_43 : BitVec 32 := 256#32
  let v56 : BitVec 32 := Scalar.addi v55 c256_i32_43
  v56
def k0_mult5 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_53 : BitVec 32 := 512#32
  let v69 : BitVec 32 := Scalar.muli v66 c512_i32_53
  let c0_i32_54 : BitVec 32 := 0#32
  let v70 : BitVec 32 := Scalar.addi v69 c0_i32_54
  v70
def k0_off3 (i : grid0.Coords) : Fin 3 → Nat :=
  let c0_55 : Index := 0#32
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_53 : BitVec 32 := 512#32
  let v69 : BitVec 32 := Scalar.muli v66 c512_i32_53
  let c0_i32_54 : BitVec 32 := 0#32
  let v70 : BitVec 32 := Scalar.addi v69 c0_i32_54
  let v71 : BitVec 32 := v70
  let v72 : Index := Scalar.indexCast v71
  let c0_56 : Index := 0#32
  ![0, v72.toNat, 0]
def k0_mult6 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_63 : BitVec 32 := 512#32
  let v81 : BitVec 32 := Scalar.muli v66 c512_i32_63
  let c0_i32_64 : BitVec 32 := 0#32
  let v82 : BitVec 32 := Scalar.addi v81 c0_i32_64
  v82
def k0_mult7 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_72 : BitVec 32 := 512#32
  let v93 : BitVec 32 := Scalar.muli v66 c512_i32_72
  let c256_i32_73 : BitVec 32 := 256#32
  let v94 : BitVec 32 := Scalar.addi v93 c256_i32_73
  v94
def k0_off4 (i : grid0.Coords) : Fin 3 → Nat :=
  let c0_74 : Index := 0#32
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_72 : BitVec 32 := 512#32
  let v93 : BitVec 32 := Scalar.muli v66 c512_i32_72
  let c256_i32_73 : BitVec 32 := 256#32
  let v94 : BitVec 32 := Scalar.addi v93 c256_i32_73
  let v95 : BitVec 32 := v94
  let v96 : Index := Scalar.indexCast v95
  let c0_75 : Index := 0#32
  ![0, v96.toNat, 0]
def k0_mult8 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_82 : BitVec 32 := 512#32
  let v105 : BitVec 32 := Scalar.muli v66 c512_i32_82
  let c256_i32_83 : BitVec 32 := 256#32
  let v106 : BitVec 32 := Scalar.addi v105 c256_i32_83
  v106
def k0_mult9 (i : grid0.Coords) : BitVec 32 :=
  let c4_i32 : BitVec 32 := 4#32
  let arg1 : BitVec 32 := BitVec.ofNat 32 (i 1).val
  let v15 : BitVec 32 := Scalar.muli c4_i32 arg1
  let c512_i32_89 : BitVec 32 := 512#32
  let v115 : BitVec 32 := Scalar.muli v15 c512_i32_89
  let c0_i32_90 : BitVec 32 := 0#32
  let v116 : BitVec 32 := Scalar.addi v115 c0_i32_90
  v116
def k0_off5 (i : grid0.Coords) : Fin 3 → Nat :=
  let c0_91 : Index := 0#32
  let c0_92 : Index := 0#32
  let c4_i32 : BitVec 32 := 4#32
  let arg1 : BitVec 32 := BitVec.ofNat 32 (i 1).val
  let v15 : BitVec 32 := Scalar.muli c4_i32 arg1
  let c512_i32_89 : BitVec 32 := 512#32
  let v115 : BitVec 32 := Scalar.muli v15 c512_i32_89
  let c0_i32_90 : BitVec 32 := 0#32
  let v116 : BitVec 32 := Scalar.addi v115 c0_i32_90
  let v117 : BitVec 32 := v116
  let v118 : Index := Scalar.indexCast v117
  ![0, 0, v118.toNat]
def k0_mult10 (i : grid0.Coords) : BitVec 32 :=
  let c4_i32 : BitVec 32 := 4#32
  let arg1 : BitVec 32 := BitVec.ofNat 32 (i 1).val
  let v15 : BitVec 32 := Scalar.muli c4_i32 arg1
  let c512_i32_93 : BitVec 32 := 512#32
  let v121 : BitVec 32 := Scalar.muli v15 c512_i32_93
  let c0_i32_94 : BitVec 32 := 0#32
  let v122 : BitVec 32 := Scalar.addi v121 c0_i32_94
  v122
def k0_mult11 (i : grid0.Coords) : BitVec 32 :=
  let c4_i32 : BitVec 32 := 4#32
  let arg1 : BitVec 32 := BitVec.ofNat 32 (i 1).val
  let v15 : BitVec 32 := Scalar.muli c4_i32 arg1
  let c512_i32_108 : BitVec 32 := 512#32
  let v152 : BitVec 32 := Scalar.muli v15 c512_i32_108
  let c256_i32_109 : BitVec 32 := 256#32
  let v153 : BitVec 32 := Scalar.addi v152 c256_i32_109
  v153
def k0_off6 (i : grid0.Coords) : Fin 3 → Nat :=
  let c0_110 : Index := 0#32
  let c0_111 : Index := 0#32
  let c4_i32 : BitVec 32 := 4#32
  let arg1 : BitVec 32 := BitVec.ofNat 32 (i 1).val
  let v15 : BitVec 32 := Scalar.muli c4_i32 arg1
  let c512_i32_108 : BitVec 32 := 512#32
  let v152 : BitVec 32 := Scalar.muli v15 c512_i32_108
  let c256_i32_109 : BitVec 32 := 256#32
  let v153 : BitVec 32 := Scalar.addi v152 c256_i32_109
  let v154 : BitVec 32 := v153
  let v155 : Index := Scalar.indexCast v154
  ![0, 0, v155.toNat]
def k0_mult12 (i : grid0.Coords) : BitVec 32 :=
  let c4_i32 : BitVec 32 := 4#32
  let arg1 : BitVec 32 := BitVec.ofNat 32 (i 1).val
  let v15 : BitVec 32 := Scalar.muli c4_i32 arg1
  let c512_i32_112 : BitVec 32 := 512#32
  let v158 : BitVec 32 := Scalar.muli v15 c512_i32_112
  let c256_i32_113 : BitVec 32 := 256#32
  let v159 : BitVec 32 := Scalar.addi v158 c256_i32_113
  v159
def k0_mult13 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_133 : BitVec 32 := 512#32
  let v194 : BitVec 32 := Scalar.muli v191 c512_i32_133
  let c0_i32_134 : BitVec 32 := 0#32
  let v195 : BitVec 32 := Scalar.addi v194 c0_i32_134
  v195
def k0_off7 (i : grid0.Coords) (c1_i32_127 : BitVec 32) : Fin 3 → Nat :=
  let c0_135 : Index := 0#32
  let c4_i32 : BitVec 32 := 4#32
  let arg1 : BitVec 32 := BitVec.ofNat 32 (i 1).val
  let v15 : BitVec 32 := Scalar.muli c4_i32 arg1
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_133 : BitVec 32 := 512#32
  let v194 : BitVec 32 := Scalar.muli v191 c512_i32_133
  let c0_i32_134 : BitVec 32 := 0#32
  let v195 : BitVec 32 := Scalar.addi v194 c0_i32_134
  let v196 : BitVec 32 := v195
  let v197 : Index := Scalar.indexCast v196
  let c0_136 : Index := 0#32
  ![0, v197.toNat, 0]
def k0_mult14 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_143 : BitVec 32 := 512#32
  let v206 : BitVec 32 := Scalar.muli v191 c512_i32_143
  let c0_i32_144 : BitVec 32 := 0#32
  let v207 : BitVec 32 := Scalar.addi v206 c0_i32_144
  v207
def k0_mult15 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_152 : BitVec 32 := 512#32
  let v218 : BitVec 32 := Scalar.muli v191 c512_i32_152
  let c256_i32_153 : BitVec 32 := 256#32
  let v219 : BitVec 32 := Scalar.addi v218 c256_i32_153
  v219
def k0_off8 (i : grid0.Coords) (c1_i32_127 : BitVec 32) : Fin 3 → Nat :=
  let c0_154 : Index := 0#32
  let c4_i32 : BitVec 32 := 4#32
  let arg1 : BitVec 32 := BitVec.ofNat 32 (i 1).val
  let v15 : BitVec 32 := Scalar.muli c4_i32 arg1
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_152 : BitVec 32 := 512#32
  let v218 : BitVec 32 := Scalar.muli v191 c512_i32_152
  let c256_i32_153 : BitVec 32 := 256#32
  let v219 : BitVec 32 := Scalar.addi v218 c256_i32_153
  let v220 : BitVec 32 := v219
  let v221 : Index := Scalar.indexCast v220
  let c0_155 : Index := 0#32
  ![0, v221.toNat, 0]
def k0_mult16 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_162 : BitVec 32 := 512#32
  let v230 : BitVec 32 := Scalar.muli v191 c512_i32_162
  let c256_i32_163 : BitVec 32 := 256#32
  let v231 : BitVec 32 := Scalar.addi v230 c256_i32_163
  v231
def k0_mult17 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_176 : BitVec 32 := 512#32
  let v245 : BitVec 32 := Scalar.muli v241 c512_i32_176
  let c0_i32_177 : BitVec 32 := 0#32
  let v246 : BitVec 32 := Scalar.addi v245 c0_i32_177
  v246
def k0_off9 (i : grid0.Coords) (c1_i32_169 : BitVec 32) : Fin 3 → Nat :=
  let c0_178 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_176 : BitVec 32 := 512#32
  let v245 : BitVec 32 := Scalar.muli v241 c512_i32_176
  let c0_i32_177 : BitVec 32 := 0#32
  let v246 : BitVec 32 := Scalar.addi v245 c0_i32_177
  let v247 : BitVec 32 := v246
  let v248 : Index := Scalar.indexCast v247
  let c0_179 : Index := 0#32
  ![0, v248.toNat, 0]
def k0_mult18 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_189 : BitVec 32 := 512#32
  let v259 : BitVec 32 := Scalar.muli v241 c512_i32_189
  let c0_i32_190 : BitVec 32 := 0#32
  let v260 : BitVec 32 := Scalar.addi v259 c0_i32_190
  v260
def k0_mult19 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_197 : BitVec 32 := 512#32
  let v270 : BitVec 32 := Scalar.muli v241 c512_i32_197
  let c0_i32_198 : BitVec 32 := 0#32
  let v271 : BitVec 32 := Scalar.addi v270 c0_i32_198
  v271
def k0_off10 (i : grid0.Coords) (c1_i32_169 : BitVec 32) : Fin 3 → Nat :=
  let c0_199 : Index := 0#32
  let c0_200 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_197 : BitVec 32 := 512#32
  let v270 : BitVec 32 := Scalar.muli v241 c512_i32_197
  let c0_i32_198 : BitVec 32 := 0#32
  let v271 : BitVec 32 := Scalar.addi v270 c0_i32_198
  let v272 : BitVec 32 := v271
  let v273 : Index := Scalar.indexCast v272
  ![0, 0, v273.toNat]
def k0_mult20 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_213 : BitVec 32 := 512#32
  let v287 : BitVec 32 := Scalar.muli v241 c512_i32_213
  let c256_i32_214 : BitVec 32 := 256#32
  let v288 : BitVec 32 := Scalar.addi v287 c256_i32_214
  v288
def k0_off11 (i : grid0.Coords) (c1_i32_169 : BitVec 32) : Fin 3 → Nat :=
  let c0_215 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_213 : BitVec 32 := 512#32
  let v287 : BitVec 32 := Scalar.muli v241 c512_i32_213
  let c256_i32_214 : BitVec 32 := 256#32
  let v288 : BitVec 32 := Scalar.addi v287 c256_i32_214
  let v289 : BitVec 32 := v288
  let v290 : Index := Scalar.indexCast v289
  let c0_216 : Index := 0#32
  ![0, v290.toNat, 0]
def k0_mult21 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_226 : BitVec 32 := 512#32
  let v301 : BitVec 32 := Scalar.muli v241 c512_i32_226
  let c256_i32_227 : BitVec 32 := 256#32
  let v302 : BitVec 32 := Scalar.addi v301 c256_i32_227
  v302
def k0_mult22 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_234 : BitVec 32 := 512#32
  let v312 : BitVec 32 := Scalar.muli v241 c512_i32_234
  let c256_i32_235 : BitVec 32 := 256#32
  let v313 : BitVec 32 := Scalar.addi v312 c256_i32_235
  v313
def k0_off12 (i : grid0.Coords) (c1_i32_169 : BitVec 32) : Fin 3 → Nat :=
  let c0_236 : Index := 0#32
  let c0_237 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_234 : BitVec 32 := 512#32
  let v312 : BitVec 32 := Scalar.muli v241 c512_i32_234
  let c256_i32_235 : BitVec 32 := 256#32
  let v313 : BitVec 32 := Scalar.addi v312 c256_i32_235
  let v314 : BitVec 32 := v313
  let v315 : Index := Scalar.indexCast v314
  ![0, 0, v315.toNat]
def k0_mult23 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_246 : BitVec 32 := 512#32
  let v327 : BitVec 32 := Scalar.muli v326 c512_i32_246
  let c0_i32_247 : BitVec 32 := 0#32
  let v328 : BitVec 32 := Scalar.addi v327 c0_i32_247
  v328
def k0_off13 (i : grid0.Coords) (c1_i32_245 : BitVec 32) : Fin 3 → Nat :=
  let c0_248 : Index := 0#32
  let c0_249 : Index := 0#32
  let c4_i32 : BitVec 32 := 4#32
  let arg1 : BitVec 32 := BitVec.ofNat 32 (i 1).val
  let v15 : BitVec 32 := Scalar.muli c4_i32 arg1
  let v326 : BitVec 32 := Scalar.addi v15 c1_i32_245
  let c512_i32_246 : BitVec 32 := 512#32
  let v327 : BitVec 32 := Scalar.muli v326 c512_i32_246
  let c0_i32_247 : BitVec 32 := 0#32
  let v328 : BitVec 32 := Scalar.addi v327 c0_i32_247
  let v329 : BitVec 32 := v328
  let v330 : Index := Scalar.indexCast v329
  ![0, 0, v330.toNat]
def k0_mult24 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_250 : BitVec 32 := 512#32
  let v333 : BitVec 32 := Scalar.muli v326 c512_i32_250
  let c0_i32_251 : BitVec 32 := 0#32
  let v334 : BitVec 32 := Scalar.addi v333 c0_i32_251
  v334
def k0_mult25 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_286 : BitVec 32 := 512#32
  let v414 : BitVec 32 := Scalar.muli v326 c512_i32_286
  let c256_i32_287 : BitVec 32 := 256#32
  let v415 : BitVec 32 := Scalar.addi v414 c256_i32_287
  v415
def k0_off14 (i : grid0.Coords) (c1_i32_245 : BitVec 32) : Fin 3 → Nat :=
  let c0_288 : Index := 0#32
  let c0_289 : Index := 0#32
  let c4_i32 : BitVec 32 := 4#32
  let arg1 : BitVec 32 := BitVec.ofNat 32 (i 1).val
  let v15 : BitVec 32 := Scalar.muli c4_i32 arg1
  let v326 : BitVec 32 := Scalar.addi v15 c1_i32_245
  let c512_i32_286 : BitVec 32 := 512#32
  let v414 : BitVec 32 := Scalar.muli v326 c512_i32_286
  let c256_i32_287 : BitVec 32 := 256#32
  let v415 : BitVec 32 := Scalar.addi v414 c256_i32_287
  let v416 : BitVec 32 := v415
  let v417 : Index := Scalar.indexCast v416
  ![0, 0, v417.toNat]
def k0_mult26 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_290 : BitVec 32 := 512#32
  let v420 : BitVec 32 := Scalar.muli v326 c512_i32_290
  let c256_i32_291 : BitVec 32 := 256#32
  let v421 : BitVec 32 := Scalar.addi v420 c256_i32_291
  v421
def k0_mult27 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_309 : BitVec 32 := 512#32
  let v456 : BitVec 32 := Scalar.muli v453 c512_i32_309
  let c0_i32_310 : BitVec 32 := 0#32
  let v457 : BitVec 32 := Scalar.addi v456 c0_i32_310
  v457
def k0_mult28 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_319 : BitVec 32 := 512#32
  let v468 : BitVec 32 := Scalar.muli v453 c512_i32_319
  let c0_i32_320 : BitVec 32 := 0#32
  let v469 : BitVec 32 := Scalar.addi v468 c0_i32_320
  v469
def k0_mult29 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_328 : BitVec 32 := 512#32
  let v480 : BitVec 32 := Scalar.muli v453 c512_i32_328
  let c256_i32_329 : BitVec 32 := 256#32
  let v481 : BitVec 32 := Scalar.addi v480 c256_i32_329
  v481
def k0_mult30 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_338 : BitVec 32 := 512#32
  let v492 : BitVec 32 := Scalar.muli v453 c512_i32_338
  let c256_i32_339 : BitVec 32 := 256#32
  let v493 : BitVec 32 := Scalar.addi v492 c256_i32_339
  v493
def k0_mult31 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_352 : BitVec 32 := 512#32
  let v507 : BitVec 32 := Scalar.muli v503 c512_i32_352
  let c0_i32_353 : BitVec 32 := 0#32
  let v508 : BitVec 32 := Scalar.addi v507 c0_i32_353
  v508
def k0_mult32 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_365 : BitVec 32 := 512#32
  let v521 : BitVec 32 := Scalar.muli v503 c512_i32_365
  let c0_i32_366 : BitVec 32 := 0#32
  let v522 : BitVec 32 := Scalar.addi v521 c0_i32_366
  v522
def k0_mult33 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_373 : BitVec 32 := 512#32
  let v532 : BitVec 32 := Scalar.muli v503 c512_i32_373
  let c0_i32_374 : BitVec 32 := 0#32
  let v533 : BitVec 32 := Scalar.addi v532 c0_i32_374
  v533
def k0_mult34 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_389 : BitVec 32 := 512#32
  let v549 : BitVec 32 := Scalar.muli v503 c512_i32_389
  let c256_i32_390 : BitVec 32 := 256#32
  let v550 : BitVec 32 := Scalar.addi v549 c256_i32_390
  v550
def k0_mult35 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_402 : BitVec 32 := 512#32
  let v563 : BitVec 32 := Scalar.muli v503 c512_i32_402
  let c256_i32_403 : BitVec 32 := 256#32
  let v564 : BitVec 32 := Scalar.addi v563 c256_i32_403
  v564
def k0_mult36 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_410 : BitVec 32 := 512#32
  let v574 : BitVec 32 := Scalar.muli v503 c512_i32_410
  let c256_i32_411 : BitVec 32 := 256#32
  let v575 : BitVec 32 := Scalar.addi v574 c256_i32_411
  v575
def k0_mult37 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_422 : BitVec 32 := 512#32
  let v589 : BitVec 32 := Scalar.muli v588 c512_i32_422
  let c0_i32_423 : BitVec 32 := 0#32
  let v590 : BitVec 32 := Scalar.addi v589 c0_i32_423
  v590
def k0_mult38 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_426 : BitVec 32 := 512#32
  let v595 : BitVec 32 := Scalar.muli v588 c512_i32_426
  let c0_i32_427 : BitVec 32 := 0#32
  let v596 : BitVec 32 := Scalar.addi v595 c0_i32_427
  v596
def k0_mult39 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_483 : BitVec 32 := 512#32
  let v726 : BitVec 32 := Scalar.muli v588 c512_i32_483
  let c256_i32_484 : BitVec 32 := 256#32
  let v727 : BitVec 32 := Scalar.addi v726 c256_i32_484
  v727
def k0_mult40 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_487 : BitVec 32 := 512#32
  let v732 : BitVec 32 := Scalar.muli v588 c512_i32_487
  let c256_i32_488 : BitVec 32 := 256#32
  let v733 : BitVec 32 := Scalar.addi v732 c256_i32_488
  v733
def k0_mult41 (i : grid0.Coords) : BitVec 32 :=
  let c4_i32 : BitVec 32 := 4#32
  let arg1 : BitVec 32 := BitVec.ofNat 32 (i 1).val
  let v15 : BitVec 32 := Scalar.muli c4_i32 arg1
  let c3_i32 : BitVec 32 := 3#32
  let v763 : BitVec 32 := Scalar.addi v15 c3_i32
  let c1_i32_501 : BitVec 32 := 1#32
  let v764 : BitVec 32 := Scalar.addi v763 c1_i32_501
  let c15_i32_502 : BitVec 32 := 15#32
  let v765 : BitVec 32 := Scalar.minsi v764 c15_i32_502
  let c512_i32_506 : BitVec 32 := 512#32
  let v768 : BitVec 32 := Scalar.muli v765 c512_i32_506
  let c0_i32_507 : BitVec 32 := 0#32
  let v769 : BitVec 32 := Scalar.addi v768 c0_i32_507
  v769
def k0_mult42 (i : grid0.Coords) : BitVec 32 :=
  let c4_i32 : BitVec 32 := 4#32
  let arg1 : BitVec 32 := BitVec.ofNat 32 (i 1).val
  let v15 : BitVec 32 := Scalar.muli c4_i32 arg1
  let c3_i32 : BitVec 32 := 3#32
  let v763 : BitVec 32 := Scalar.addi v15 c3_i32
  let c1_i32_501 : BitVec 32 := 1#32
  let v764 : BitVec 32 := Scalar.addi v763 c1_i32_501
  let c15_i32_502 : BitVec 32 := 15#32
  let v765 : BitVec 32 := Scalar.minsi v764 c15_i32_502
  let c512_i32_516 : BitVec 32 := 512#32
  let v780 : BitVec 32 := Scalar.muli v765 c512_i32_516
  let c0_i32_517 : BitVec 32 := 0#32
  let v781 : BitVec 32 := Scalar.addi v780 c0_i32_517
  v781
def k0_mult43 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_530 : BitVec 32 := 512#32
  let v795 : BitVec 32 := Scalar.muli v791 c512_i32_530
  let c0_i32_531 : BitVec 32 := 0#32
  let v796 : BitVec 32 := Scalar.addi v795 c0_i32_531
  v796
def k0_mult44 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_543 : BitVec 32 := 512#32
  let v809 : BitVec 32 := Scalar.muli v791 c512_i32_543
  let c0_i32_544 : BitVec 32 := 0#32
  let v810 : BitVec 32 := Scalar.addi v809 c0_i32_544
  v810
def k0_mult45 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_551 : BitVec 32 := 512#32
  let v820 : BitVec 32 := Scalar.muli v791 c512_i32_551
  let c0_i32_552 : BitVec 32 := 0#32
  let v821 : BitVec 32 := Scalar.addi v820 c0_i32_552
  v821
def k0_mult46 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_567 : BitVec 32 := 512#32
  let v837 : BitVec 32 := Scalar.muli v791 c512_i32_567
  let c256_i32_568 : BitVec 32 := 256#32
  let v838 : BitVec 32 := Scalar.addi v837 c256_i32_568
  v838
def k0_mult47 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_580 : BitVec 32 := 512#32
  let v851 : BitVec 32 := Scalar.muli v791 c512_i32_580
  let c256_i32_581 : BitVec 32 := 256#32
  let v852 : BitVec 32 := Scalar.addi v851 c256_i32_581
  v852
def k0_mult48 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_588 : BitVec 32 := 512#32
  let v862 : BitVec 32 := Scalar.muli v791 c512_i32_588
  let c256_i32_589 : BitVec 32 := 256#32
  let v863 : BitVec 32 := Scalar.addi v862 c256_i32_589
  v863
def k0_mult49 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_600 : BitVec 32 := 512#32
  let v877 : BitVec 32 := Scalar.muli v876 c512_i32_600
  let c0_i32_601 : BitVec 32 := 0#32
  let v878 : BitVec 32 := Scalar.addi v877 c0_i32_601
  v878
def k0_mult50 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_604 : BitVec 32 := 512#32
  let v883 : BitVec 32 := Scalar.muli v876 c512_i32_604
  let c0_i32_605 : BitVec 32 := 0#32
  let v884 : BitVec 32 := Scalar.addi v883 c0_i32_605
  v884
def k0_mult51 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_683 : BitVec 32 := 512#32
  let v1064 : BitVec 32 := Scalar.muli v876 c512_i32_683
  let c256_i32_684 : BitVec 32 := 256#32
  let v1065 : BitVec 32 := Scalar.addi v1064 c256_i32_684
  v1065
def k0_mult52 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_687 : BitVec 32 := 512#32
  let v1070 : BitVec 32 := Scalar.muli v876 c512_i32_687
  let c256_i32_688 : BitVec 32 := 256#32
  let v1071 : BitVec 32 := Scalar.addi v1070 c256_i32_688
  v1071
@[reducible] def k0_t1_loop (i : grid0.Coords) : Scf.Loop 32 :=
  let c0_i32_717 : BitVec 32 := 0#32
  let c15_i32_707 : BitVec 32 := 15#32
  let c4_i32 : BitVec 32 := 4#32
  let arg1 : BitVec 32 := BitVec.ofNat 32 (i 1).val
  let v15 : BitVec 32 := Scalar.muli c4_i32 arg1
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_720 : BitVec 32 := 1#32
  ⟨c0_i32_717, v1133, c1_i32_720⟩
def k0_mult53 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  v1187
def k0_off15 (i : grid0.Coords) (k0_t1 : Fin (k0_t1_loop i).trips) : Fin 3 → Nat :=
  let c0_771 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  let v1188 : BitVec 32 := v1187
  let v1189 : Index := Scalar.indexCast v1188
  let c0_772 : Index := 0#32
  ![0, v1189.toNat, 0]
def k0_mult54 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_779 : BitVec 32 := 512#32
  let v1198 : BitVec 32 := Scalar.muli v1183 c512_i32_779
  let c0_i32_780 : BitVec 32 := 0#32
  let v1199 : BitVec 32 := Scalar.addi v1198 c0_i32_780
  v1199
def k0_mult55 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  v1213
def k0_off16 (i : grid0.Coords) (k0_t1 : Fin (k0_t1_loop i).trips) : Fin 3 → Nat :=
  let c0_794 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  let v1214 : BitVec 32 := v1213
  let v1215 : Index := Scalar.indexCast v1214
  let c0_795 : Index := 0#32
  ![0, v1215.toNat, 0]
def k0_mult56 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_805 : BitVec 32 := 512#32
  let v1226 : BitVec 32 := Scalar.muli v1208 c512_i32_805
  let c0_i32_806 : BitVec 32 := 0#32
  let v1227 : BitVec 32 := Scalar.addi v1226 c0_i32_806
  v1227
def k0_mult57 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  v1238
def k0_off17 (i : grid0.Coords) (k0_t1 : Fin (k0_t1_loop i).trips) : Fin 3 → Nat :=
  let c0_815 : Index := 0#32
  let c0_816 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  let v1239 : BitVec 32 := v1238
  let v1240 : Index := Scalar.indexCast v1239
  ![0, 0, v1240.toNat]
def k0_mult58 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  v1252
def k0_off18 (i : grid0.Coords) (k0_t1 : Fin (k0_t1_loop i).trips) : Fin 3 → Nat :=
  let c0_826 : Index := 0#32
  let c0_827 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  let v1253 : BitVec 32 := v1252
  let v1254 : Index := Scalar.indexCast v1253
  ![0, 0, v1254.toNat]
def k0_mult59 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_828 : BitVec 32 := 512#32
  let v1257 : BitVec 32 := Scalar.muli v1181 c512_i32_828
  let c0_i32_829 : BitVec 32 := 0#32
  let v1258 : BitVec 32 := Scalar.addi v1257 c0_i32_829
  v1258
def k0_mult60 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  v1333
def k0_off19 (i : grid0.Coords) (k0_t1 : Fin (k0_t1_loop i).trips) : Fin 3 → Nat :=
  let c0_872 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  let v1334 : BitVec 32 := v1333
  let v1335 : Index := Scalar.indexCast v1334
  let c0_873 : Index := 0#32
  ![0, v1335.toNat, 0]
def k0_mult61 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_880 : BitVec 32 := 512#32
  let v1344 : BitVec 32 := Scalar.muli v1329 c512_i32_880
  let c0_i32_881 : BitVec 32 := 0#32
  let v1345 : BitVec 32 := Scalar.addi v1344 c0_i32_881
  v1345
def k0_mult62 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  v1359
def k0_off20 (i : grid0.Coords) (k0_t1 : Fin (k0_t1_loop i).trips) : Fin 3 → Nat :=
  let c0_895 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  let v1360 : BitVec 32 := v1359
  let v1361 : Index := Scalar.indexCast v1360
  let c0_896 : Index := 0#32
  ![0, v1361.toNat, 0]
def k0_mult63 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_906 : BitVec 32 := 512#32
  let v1372 : BitVec 32 := Scalar.muli v1354 c512_i32_906
  let c0_i32_907 : BitVec 32 := 0#32
  let v1373 : BitVec 32 := Scalar.addi v1372 c0_i32_907
  v1373
def k0_mult64 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  v1384
def k0_off21 (i : grid0.Coords) (k0_t1 : Fin (k0_t1_loop i).trips) : Fin 3 → Nat :=
  let c0_916 : Index := 0#32
  let c0_917 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  let v1385 : BitVec 32 := v1384
  let v1386 : Index := Scalar.indexCast v1385
  ![0, 0, v1386.toNat]
def k0_mult65 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  v1398
def k0_off22 (i : grid0.Coords) (k0_t1 : Fin (k0_t1_loop i).trips) : Fin 3 → Nat :=
  let c0_927 : Index := 0#32
  let c0_928 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  let v1399 : BitVec 32 := v1398
  let v1400 : Index := Scalar.indexCast v1399
  ![0, 0, v1400.toNat]
def k0_mult66 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_929 : BitVec 32 := 512#32
  let v1403 : BitVec 32 := Scalar.muli v1327 c512_i32_929
  let c0_i32_930 : BitVec 32 := 0#32
  let v1404 : BitVec 32 := Scalar.addi v1403 c0_i32_930
  v1404
@[reducible] def k0_t2_loop (i : grid0.Coords) : Scf.Loop 32 :=
  let c0_i32_717 : BitVec 32 := 0#32
  let c15_i32_707 : BitVec 32 := 15#32
  let c4_i32 : BitVec 32 := 4#32
  let arg1 : BitVec 32 := BitVec.ofNat 32 (i 1).val
  let v15 : BitVec 32 := Scalar.muli c4_i32 arg1
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let v1130 : BitVec 32 := Scalar.addi c0_i32_717 v1129
  let c1_i32_721 : BitVec 32 := 1#32
  ⟨v1133, v1130, c1_i32_721⟩
def k0_mult67 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  v1187
def k0_off23 (i : grid0.Coords) (k0_t2 : Fin (k0_t2_loop i).trips) : Fin 3 → Nat :=
  let c0_771 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  let v1188 : BitVec 32 := v1187
  let v1189 : Index := Scalar.indexCast v1188
  let c0_772 : Index := 0#32
  ![0, v1189.toNat, 0]
def k0_mult68 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_779 : BitVec 32 := 512#32
  let v1198 : BitVec 32 := Scalar.muli v1183 c512_i32_779
  let c0_i32_780 : BitVec 32 := 0#32
  let v1199 : BitVec 32 := Scalar.addi v1198 c0_i32_780
  v1199
def k0_mult69 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  v1213
def k0_off24 (i : grid0.Coords) (k0_t2 : Fin (k0_t2_loop i).trips) : Fin 3 → Nat :=
  let c0_794 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  let v1214 : BitVec 32 := v1213
  let v1215 : Index := Scalar.indexCast v1214
  let c0_795 : Index := 0#32
  ![0, v1215.toNat, 0]
def k0_mult70 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_805 : BitVec 32 := 512#32
  let v1226 : BitVec 32 := Scalar.muli v1208 c512_i32_805
  let c0_i32_806 : BitVec 32 := 0#32
  let v1227 : BitVec 32 := Scalar.addi v1226 c0_i32_806
  v1227
def k0_mult71 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  v1238
def k0_off25 (i : grid0.Coords) (k0_t2 : Fin (k0_t2_loop i).trips) : Fin 3 → Nat :=
  let c0_815 : Index := 0#32
  let c0_816 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  let v1239 : BitVec 32 := v1238
  let v1240 : Index := Scalar.indexCast v1239
  ![0, 0, v1240.toNat]
def k0_mult72 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  v1252
def k0_off26 (i : grid0.Coords) (k0_t2 : Fin (k0_t2_loop i).trips) : Fin 3 → Nat :=
  let c0_826 : Index := 0#32
  let c0_827 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  let v1253 : BitVec 32 := v1252
  let v1254 : Index := Scalar.indexCast v1253
  ![0, 0, v1254.toNat]
def k0_mult73 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_828 : BitVec 32 := 512#32
  let v1257 : BitVec 32 := Scalar.muli v1181 c512_i32_828
  let c0_i32_829 : BitVec 32 := 0#32
  let v1258 : BitVec 32 := Scalar.addi v1257 c0_i32_829
  v1258
def k0_mult74 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  v1333
def k0_off27 (i : grid0.Coords) (k0_t2 : Fin (k0_t2_loop i).trips) : Fin 3 → Nat :=
  let c0_872 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  let v1334 : BitVec 32 := v1333
  let v1335 : Index := Scalar.indexCast v1334
  let c0_873 : Index := 0#32
  ![0, v1335.toNat, 0]
def k0_mult75 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_880 : BitVec 32 := 512#32
  let v1344 : BitVec 32 := Scalar.muli v1329 c512_i32_880
  let c0_i32_881 : BitVec 32 := 0#32
  let v1345 : BitVec 32 := Scalar.addi v1344 c0_i32_881
  v1345
def k0_mult76 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  v1359
def k0_off28 (i : grid0.Coords) (k0_t2 : Fin (k0_t2_loop i).trips) : Fin 3 → Nat :=
  let c0_895 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  let v1360 : BitVec 32 := v1359
  let v1361 : Index := Scalar.indexCast v1360
  let c0_896 : Index := 0#32
  ![0, v1361.toNat, 0]
def k0_mult77 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_906 : BitVec 32 := 512#32
  let v1372 : BitVec 32 := Scalar.muli v1354 c512_i32_906
  let c0_i32_907 : BitVec 32 := 0#32
  let v1373 : BitVec 32 := Scalar.addi v1372 c0_i32_907
  v1373
def k0_mult78 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  v1384
def k0_off29 (i : grid0.Coords) (k0_t2 : Fin (k0_t2_loop i).trips) : Fin 3 → Nat :=
  let c0_916 : Index := 0#32
  let c0_917 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  let v1385 : BitVec 32 := v1384
  let v1386 : Index := Scalar.indexCast v1385
  ![0, 0, v1386.toNat]
def k0_mult79 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  v1398
def k0_off30 (i : grid0.Coords) (k0_t2 : Fin (k0_t2_loop i).trips) : Fin 3 → Nat :=
  let c0_927 : Index := 0#32
  let c0_928 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  let v1399 : BitVec 32 := v1398
  let v1400 : Index := Scalar.indexCast v1399
  ![0, 0, v1400.toNat]
def k0_mult80 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_929 : BitVec 32 := 512#32
  let v1403 : BitVec 32 := Scalar.muli v1327 c512_i32_929
  let c0_i32_930 : BitVec 32 := 0#32
  let v1404 : BitVec 32 := Scalar.addi v1403 c0_i32_930
  v1404
def k0_mult81 : BitVec 32 :=
  let c7680_i32 : BitVec 32 := 7680#32
  c7680_i32
def k0_mult82 : BitVec 32 :=
  let c7680_i32_738 : BitVec 32 := 7680#32
  c7680_i32_738
def k0_mult83 : BitVec 32 :=
  let c7680_i32_745 : BitVec 32 := 7680#32
  c7680_i32_745
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 90
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x64x8192, .f32⟩
  | .hbm, ⟨61, _⟩ => ⟨S8192x8x64, .f32⟩
  | .hbm, ⟨62, _⟩ => ⟨S8x64x8192, .f32⟩
  | .hbm, ⟨63, _⟩ => ⟨S8x8192x8192, .f32⟩
  | .hbm, ⟨64, _⟩ => ⟨S8x64x8192, .f32⟩
  | .hbm, ⟨65, _⟩ => ⟨S8192x8x64, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x96, .f32⟩
  | .hbm, ⟨87, _⟩ => ⟨S8192x8x96, .f32⟩
  | .hbm, ⟨88, _⟩ => ⟨S8x8192x96, .f32⟩
  | .hbm, ⟨89, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Forward.lean ====
abbrev S8192x8x96 : Shape := ⟨3, ![8192, 8, 96]⟩
abbrev S8192x8x64 : Shape := ⟨3, ![8192, 8, 64]⟩
abbrev S8x8192x96 : Shape := ⟨3, ![8, 8192, 96]⟩
abbrev S_ : Shape := ⟨0, ![]⟩
abbrev S8x8192x128 : Shape := ⟨3, ![8, 8192, 128]⟩
abbrev S8x8192x63 : Shape := ⟨3, ![8, 8192, 63]⟩
abbrev S8x8192x1 : Shape := ⟨3, ![8, 8192, 1]⟩
abbrev S8x8192x64 : Shape := ⟨3, ![8, 8192, 64]⟩
abbrev S8x128x8192 : Shape := ⟨3, ![8, 128, 8192]⟩
abbrev S8x1x8192 : Shape := ⟨3, ![8, 1, 8192]⟩
abbrev S1x2048x128 : Shape := ⟨3, ![1, 2048, 128]⟩
abbrev S1x8192x128 : Shape := ⟨3, ![1, 8192, 128]⟩
abbrev S1x128x8192 : Shape := ⟨3, ![1, 128, 8192]⟩
abbrev S1x1x2048 : Shape := ⟨3, ![1, 1, 2048]⟩
abbrev S512x2048 : Shape := ⟨2, ![512, 2048]⟩
abbrev S1x2048 : Shape := ⟨2, ![1, 2048]⟩
abbrev S80x2048 : Shape := ⟨2, ![80, 2048]⟩
abbrev S1x512x128 : Shape := ⟨3, ![1, 512, 128]⟩
abbrev S512x128 : Shape := ⟨2, ![512, 128]⟩
abbrev S2048x128 : Shape := ⟨2, ![2048, 128]⟩
abbrev S2048 : Shape := ⟨1, ![2048]⟩
abbrev S1x80x512 : Shape := ⟨3, ![1, 80, 512]⟩
abbrev S80x512 : Shape := ⟨2, ![80, 512]⟩
abbrev S1x1536x128 : Shape := ⟨3, ![1, 1536, 128]⟩
abbrev S1536x128 : Shape := ⟨2, ![1536, 128]⟩
abbrev S512x1536 : Shape := ⟨2, ![512, 1536]⟩
abbrev S1x1024x128 : Shape := ⟨3, ![1, 1024, 128]⟩
abbrev S1024x128 : Shape := ⟨2, ![1024, 128]⟩
abbrev S512x1024 : Shape := ⟨2, ![512, 1024]⟩
abbrev S1536 : Shape := ⟨1, ![1536]⟩
abbrev S1x1536 : Shape := ⟨2, ![1, 1536]⟩
abbrev S512x512 : Shape := ⟨2, ![512, 512]⟩
abbrev S80x1536 : Shape := ⟨2, ![80, 1536]⟩
abbrev S1024 : Shape := ⟨1, ![1024]⟩
abbrev S1x1024 : Shape := ⟨2, ![1, 1024]⟩
abbrev S80x1024 : Shape := ⟨2, ![80, 1024]⟩
abbrev S512 : Shape := ⟨1, ![512]⟩
abbrev S1x512 : Shape := ⟨2, ![1, 512]⟩
abbrev S64x2048 : Shape := ⟨2, ![64, 2048]⟩
abbrev S2048x64 : Shape := ⟨2, ![2048, 64]⟩
abbrev S8x8192 : Shape := ⟨2, ![8, 8192]⟩

abbrev nBuf : Space → Nat
  | .hbm => 38
  | .vmem => 19
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x96, .f32⟩
  | .hbm, ⟨4, _⟩ => ⟨S_, .i32⟩
  | .hbm, ⟨5, _⟩ => ⟨S_, .f32⟩
  | .hbm, ⟨6, _⟩ => ⟨S8x8192x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192x128, .f32⟩
  | .hbm, ⟨13, _⟩ => ⟨S8x8192x128, .f32⟩
  | .hbm, ⟨14, _⟩ => ⟨S8x8192x128, .bf16⟩
  | .hbm, ⟨15, _⟩ => ⟨S8x8192x96, .f32⟩
  | .hbm, ⟨16, _⟩ => ⟨S_, .i32⟩
  | .hbm, ⟨17, _⟩ => ⟨S_, .f32⟩
  | .hbm, ⟨18, _⟩ => ⟨S8x8192x128, .f32⟩
  | .hbm, ⟨19, _⟩ => ⟨S8x8192x128, .bf16⟩
  | .hbm, ⟨20, _⟩ => ⟨S8x8192x96, .f32⟩
  | .hbm, ⟨21, _⟩ => ⟨S8x8192x63, .f32⟩
  | .hbm, ⟨22, _⟩ => ⟨S_, .f32⟩
  | .hbm, ⟨23, _⟩ => ⟨S8x8192x1, .f32⟩
  | .hbm, ⟨24, _⟩ => ⟨S8x8192x64, .f32⟩
  | .hbm, ⟨25, _⟩ => ⟨S8x8192x128, .f32⟩
  | .hbm, ⟨26, _⟩ => ⟨S8x128x8192, .f32⟩
  | .hbm, ⟨27, _⟩ => ⟨S8x128x8192, .bf16⟩
  | .hbm, ⟨28, _⟩ => ⟨S8x8192x128, .f32⟩
  | .hbm, ⟨29, _⟩ => ⟨S8x1x8192, .f32⟩
  | .hbm, ⟨30, _⟩ => ⟨S8x8192x64, .f32⟩
  | .hbm, ⟨31, _⟩ => ⟨S8192x8x64, .f32⟩
  | .hbm, ⟨32, _⟩ => ⟨S8x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8192, .f32⟩
  | .hbm, ⟨37, _⟩ => ⟨S8x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S80x2048, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
@[reducible] def k0_t1_loop (i : grid0.Coords) : Scf.Loop 32 :=
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_23 : BitVec 32 := 1#32
  ⟨c0_i32_21, v36, c1_i32_23⟩
def k0_mult2 (i : grid0.Coords) (k0_t1 : Fin (k0_t1_loop i).trips) : BitVec 32 :=
  let c2_i32_191 : BitVec 32 := 2#32
  let c0_i32_21 : BitVec 32 := 0#32
  let c1_i32_23 : BitVec 32 := 1#32
  let arg16 : BitVec 32 := Scf.iv c0_i32_21 c1_i32_23 k0_t1
  let v312 : BitVec 32 := Scalar.muli c2_i32_191 arg16
  let c1_i32_192 : BitVec 32 := 1#32
  let v313 : BitVec 32 := Scalar.addi v312 c1_i32_192
  let c512_i32_193 : BitVec 32 := 512#32
  let v314 : BitVec 32 := Scalar.muli v313 c512_i32_193
  v314
def k0_off1 (i : grid0.Coords) (k0_t1 : Fin (k0_t1_loop i).trips) : Fin 3 → Nat :=
  let c0_194 : Index := 0#32
  let c2_i32_191 : BitVec 32 := 2#32
  let c0_i32_21 : BitVec 32 := 0#32
  let c1_i32_23 : BitVec 32 := 1#32
  let arg16 : BitVec 32 := Scf.iv c0_i32_21 c1_i32_23 k0_t1
  let v312 : BitVec 32 := Scalar.muli c2_i32_191 arg16
  let c1_i32_192 : BitVec 32 := 1#32
  let v313 : BitVec 32 := Scalar.addi v312 c1_i32_192
  let c512_i32_193 : BitVec 32 := 512#32
  let v314 : BitVec 32 := Scalar.muli v313 c512_i32_193
  let v315 : BitVec 32 := v314
  let v316 : Index := Scalar.indexCast v315
  let c0_195 : Index := 0#32
  ![0, v316.toNat, 0]
def k0_mult3 (i : grid0.Coords) (k0_t1 : Fin (k0_t1_loop i).trips) : BitVec 32 :=
  let c2_i32_191 : BitVec 32 := 2#32
  let c0_i32_21 : BitVec 32 := 0#32
  let c1_i32_23 : BitVec 32 := 1#32
  let arg16 : BitVec 32 := Scf.iv c0_i32_21 c1_i32_23 k0_t1
  let v312 : BitVec 32 := Scalar.muli c2_i32_191 arg16
  let c1_i32_209 : BitVec 32 := 1#32
  let v334 : BitVec 32 := Scalar.subi v312 c1_i32_209
  let c0_i32_210 : BitVec 32 := 0#32
  let v335 : BitVec 32 := Scalar.maxsi v334 c0_i32_210
  let c512_i32_211 : BitVec 32 := 512#32
  let v336 : BitVec 32 := Scalar.muli v335 c512_i32_211
  v336
def k0_off2 (i : grid0.Coords) (k0_t1 : Fin (k0_t1_loop i).trips) : Fin 3 → Nat :=
  let c0_212 : Index := 0#32
  let c48_213 : Index := 48#32
  let c2_i32_191 : BitVec 32 := 2#32
  let c0_i32_21 : BitVec 32 := 0#32
  let c1_i32_23 : BitVec 32 := 1#32
  let arg16 : BitVec 32 := Scf.iv c0_i32_21 c1_i32_23 k0_t1
  let v312 : BitVec 32 := Scalar.muli c2_i32_191 arg16
  let c1_i32_209 : BitVec 32 := 1#32
  let v334 : BitVec 32 := Scalar.subi v312 c1_i32_209
  let c0_i32_210 : BitVec 32 := 0#32
  let v335 : BitVec 32 := Scalar.maxsi v334 c0_i32_210
  let c512_i32_211 : BitVec 32 := 512#32
  let v336 : BitVec 32 := Scalar.muli v335 c512_i32_211
  let v337 : BitVec 32 := v336
  let v338 : Index := Scalar.indexCast v337
  ![0, 48, v338.toNat]
def k0_mult4 (i : grid0.Coords) (k0_t1 : Fin (k0_t1_loop i).trips) : BitVec 32 :=
  let c2_i32_231 : BitVec 32 := 2#32
  let c0_i32_21 : BitVec 32 := 0#32
  let c1_i32_23 : BitVec 32 := 1#32
  let arg16 : BitVec 32 := Scf.iv c0_i32_21 c1_i32_23 k0_t1
  let v366 : BitVec 32 := Scalar.muli c2_i32_231 arg16
  let c1_i32_232 : BitVec 32 := 1#32
  let v367 : BitVec 32 := Scalar.addi v366 c1_i32_232
  let c1_i32_233 : BitVec 32 := 1#32
  let v368 : BitVec 32 := Scalar.addi v367 c1_i32_233
  let c512_i32_234 : BitVec 32 := 512#32
  let v369 : BitVec 32 := Scalar.muli v368 c512_i32_234
  v369
def k0_off3 (i : grid0.Coords) (k0_t1 : Fin (k0_t1_loop i).trips) : Fin 3 → Nat :=
  let c0_235 : Index := 0#32
  let c2_i32_231 : BitVec 32 := 2#32
  let c0_i32_21 : BitVec 32 := 0#32
  let c1_i32_23 : BitVec 32 := 1#32
  let arg16 : BitVec 32 := Scf.iv c0_i32_21 c1_i32_23 k0_t1
  let v366 : BitVec 32 := Scalar.muli c2_i32_231 arg16
  let c1_i32_232 : BitVec 32 := 1#32
  let v367 : BitVec 32 := Scalar.addi v366 c1_i32_232
  let c1_i32_233 : BitVec 32 := 1#32
  let v368 : BitVec 32 := Scalar.addi v367 c1_i32_233
  let c512_i32_234 : BitVec 32 := 512#32
  let v369 : BitVec 32 := Scalar.muli v368 c512_i32_234
  let v370 : BitVec 32 := v369
  let v371 : Index := Scalar.indexCast v370
  let c0_236 : Index := 0#32
  ![0, v371.toNat, 0]
def k0_mult5 (i : grid0.Coords) (k0_t1 : Fin (k0_t1_loop i).trips) : BitVec 32 :=
  let c2_i32_231 : BitVec 32 := 2#32
  let c0_i32_21 : BitVec 32 := 0#32
  let c1_i32_23 : BitVec 32 := 1#32
  let arg16 : BitVec 32 := Scf.iv c0_i32_21 c1_i32_23 k0_t1
  let v366 : BitVec 32 := Scalar.muli c2_i32_231 arg16
  let c1_i32_232 : BitVec 32 := 1#32
  let v367 : BitVec 32 := Scalar.addi v366 c1_i32_232
  let c1_i32_250 : BitVec 32 := 1#32
  let v389 : BitVec 32 := Scalar.subi v367 c1_i32_250
  let c0_i32_251 : BitVec 32 := 0#32
  let v390 : BitVec 32 := Scalar.maxsi v389 c0_i32_251
  let c512_i32_252 : BitVec 32 := 512#32
  let v391 : BitVec 32 := Scalar.muli v390 c512_i32_252
  v391
def k0_off4 (i : grid0.Coords) (k0_t1 : Fin (k0_t1_loop i).trips) : Fin 3 → Nat :=
  let c0_253 : Index := 0#32
  let c48_254 : Index := 48#32
  let c2_i32_231 : BitVec 32 := 2#32
  let c0_i32_21 : BitVec 32 := 0#32
  let c1_i32_23 : BitVec 32 := 1#32
  let arg16 : BitVec 32 := Scf.iv c0_i32_21 c1_i32_23 k0_t1
  let v366 : BitVec 32 := Scalar.muli c2_i32_231 arg16
  let c1_i32_232 : BitVec 32 := 1#32
  let v367 : BitVec 32 := Scalar.addi v366 c1_i32_232
  let c1_i32_250 : BitVec 32 := 1#32
  let v389 : BitVec 32 := Scalar.subi v367 c1_i32_250
  let c0_i32_251 : BitVec 32 := 0#32
  let v390 : BitVec 32 := Scalar.maxsi v389 c0_i32_251
  let c512_i32_252 : BitVec 32 := 512#32
  let v391 : BitVec 32 := Scalar.muli v390 c512_i32_252
  let v392 : BitVec 32 := v391
  let v393 : Index := Scalar.indexCast v392
  ![0, 48, v393.toNat]
@[reducible] def k0_t2_loop (i : grid0.Coords) : Scf.Loop 32 :=
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let v33 : BitVec 32 := Scalar.addi c0_i32_21 v32
  let c1_i32_24 : BitVec 32 := 1#32
  ⟨v36, v33, c1_i32_24⟩
def k0_mult6 (i : grid0.Coords) (k0_t2 : Fin (k0_t2_loop i).trips) : BitVec 32 :=
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v312 : BitVec 32 := Scalar.muli c2_i32_191 arg16
  let c1_i32_192 : BitVec 32 := 1#32
  let v313 : BitVec 32 := Scalar.addi v312 c1_i32_192
  let c512_i32_193 : BitVec 32 := 512#32
  let v314 : BitVec 32 := Scalar.muli v313 c512_i32_193
  v314
def k0_off5 (i : grid0.Coords) (k0_t2 : Fin (k0_t2_loop i).trips) : Fin 3 → Nat :=
  let c0_194 : Index := 0#32
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v312 : BitVec 32 := Scalar.muli c2_i32_191 arg16
  let c1_i32_192 : BitVec 32 := 1#32
  let v313 : BitVec 32 := Scalar.addi v312 c1_i32_192
  let c512_i32_193 : BitVec 32 := 512#32
  let v314 : BitVec 32 := Scalar.muli v313 c512_i32_193
  let v315 : BitVec 32 := v314
  let v316 : Index := Scalar.indexCast v315
  let c0_195 : Index := 0#32
  ![0, v316.toNat, 0]
def k0_mult7 (i : grid0.Coords) (k0_t2 : Fin (k0_t2_loop i).trips) : BitVec 32 :=
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v312 : BitVec 32 := Scalar.muli c2_i32_191 arg16
  let c1_i32_209 : BitVec 32 := 1#32
  let v334 : BitVec 32 := Scalar.subi v312 c1_i32_209
  let c0_i32_210 : BitVec 32 := 0#32
  let v335 : BitVec 32 := Scalar.maxsi v334 c0_i32_210
  let c512_i32_211 : BitVec 32 := 512#32
  let v336 : BitVec 32 := Scalar.muli v335 c512_i32_211
  v336
def k0_off6 (i : grid0.Coords) (k0_t2 : Fin (k0_t2_loop i).trips) : Fin 3 → Nat :=
  let c0_212 : Index := 0#32
  let c48_213 : Index := 48#32
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v312 : BitVec 32 := Scalar.muli c2_i32_191 arg16
  let c1_i32_209 : BitVec 32 := 1#32
  let v334 : BitVec 32 := Scalar.subi v312 c1_i32_209
  let c0_i32_210 : BitVec 32 := 0#32
  let v335 : BitVec 32 := Scalar.maxsi v334 c0_i32_210
  let c512_i32_211 : BitVec 32 := 512#32
  let v336 : BitVec 32 := Scalar.muli v335 c512_i32_211
  let v337 : BitVec 32 := v336
  let v338 : Index := Scalar.indexCast v337
  ![0, 48, v338.toNat]
def k0_mult8 (i : grid0.Coords) (k0_t2 : Fin (k0_t2_loop i).trips) : BitVec 32 :=
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v366 : BitVec 32 := Scalar.muli c2_i32_231 arg16
  let c1_i32_232 : BitVec 32 := 1#32
  let v367 : BitVec 32 := Scalar.addi v366 c1_i32_232
  let c1_i32_233 : BitVec 32 := 1#32
  let v368 : BitVec 32 := Scalar.addi v367 c1_i32_233
  let c512_i32_234 : BitVec 32 := 512#32
  let v369 : BitVec 32 := Scalar.muli v368 c512_i32_234
  v369
def k0_off7 (i : grid0.Coords) (k0_t2 : Fin (k0_t2_loop i).trips) : Fin 3 → Nat :=
  let c0_235 : Index := 0#32
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v366 : BitVec 32 := Scalar.muli c2_i32_231 arg16
  let c1_i32_232 : BitVec 32 := 1#32
  let v367 : BitVec 32 := Scalar.addi v366 c1_i32_232
  let c1_i32_233 : BitVec 32 := 1#32
  let v368 : BitVec 32 := Scalar.addi v367 c1_i32_233
  let c512_i32_234 : BitVec 32 := 512#32
  let v369 : BitVec 32 := Scalar.muli v368 c512_i32_234
  let v370 : BitVec 32 := v369
  let v371 : Index := Scalar.indexCast v370
  let c0_236 : Index := 0#32
  ![0, v371.toNat, 0]
def k0_mult9 (i : grid0.Coords) (k0_t2 : Fin (k0_t2_loop i).trips) : BitVec 32 :=
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v366 : BitVec 32 := Scalar.muli c2_i32_231 arg16
  let c1_i32_232 : BitVec 32 := 1#32
  let v367 : BitVec 32 := Scalar.addi v366 c1_i32_232
  let c1_i32_250 : BitVec 32 := 1#32
  let v389 : BitVec 32 := Scalar.subi v367 c1_i32_250
  let c0_i32_251 : BitVec 32 := 0#32
  let v390 : BitVec 32 := Scalar.maxsi v389 c0_i32_251
  let c512_i32_252 : BitVec 32 := 512#32
  let v391 : BitVec 32 := Scalar.muli v390 c512_i32_252
  v391
def k0_off8 (i : grid0.Coords) (k0_t2 : Fin (k0_t2_loop i).trips) : Fin 3 → Nat :=
  let c0_253 : Index := 0#32
  let c48_254 : Index := 48#32
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v366 : BitVec 32 := Scalar.muli c2_i32_231 arg16
  let c1_i32_232 : BitVec 32 := 1#32
  let v367 : BitVec 32 := Scalar.addi v366 c1_i32_232
  let c1_i32_250 : BitVec 32 := 1#32
  let v389 : BitVec 32 := Scalar.subi v367 c1_i32_250
  let c0_i32_251 : BitVec 32 := 0#32
  let v390 : BitVec 32 := Scalar.maxsi v389 c0_i32_251
  let c512_i32_252 : BitVec 32 := 512#32
  let v391 : BitVec 32 := Scalar.muli v390 c512_i32_252
  let v392 : BitVec 32 := v391
  let v393 : Index := Scalar.indexCast v392
  ![0, 48, v393.toNat]
def k0_mult10 (i : grid0.Coords) : BitVec 32 :=
  let c4_i32 : BitVec 32 := 4#32
  let arg1 : BitVec 32 := BitVec.ofNat 32 (i 1).val
  let v39 : BitVec 32 := Scalar.muli c4_i32 arg1
  let c0_i32_27 : BitVec 32 := 0#32
  let v41 : BitVec 32 := Scalar.addi v39 c0_i32_27
  let c1_i32_28 : BitVec 32 := 1#32
  let v42 : BitVec 32 := Scalar.addi v41 c1_i32_28
  let c512_i32 : BitVec 32 := 512#32
  let v43 : BitVec 32 := Scalar.muli v42 c512_i32
  v43
def k0_off9 (i : grid0.Coords) (c0_i32_27 : BitVec 32) : Fin 3 → Nat :=
  let c0_29 : Index := 0#32
  let c4_i32 : BitVec 32 := 4#32
  let arg1 : BitVec 32 := BitVec.ofNat 32 (i 1).val
  let v39 : BitVec 32 := Scalar.muli c4_i32 arg1
  let v41 : BitVec 32 := Scalar.addi v39 c0_i32_27
  let c1_i32_28 : BitVec 32 := 1#32
  let v42 : BitVec 32 := Scalar.addi v41 c1_i32_28
  let c512_i32 : BitVec 32 := 512#32
  let v43 : BitVec 32 := Scalar.muli v42 c512_i32
  let v44 : BitVec 32 := v43
  let v45 : Index := Scalar.indexCast v44
  let c0_30 : Index := 0#32
  ![0, v45.toNat, 0]
def k0_mult11 (i : grid0.Coords) : BitVec 32 :=
  let c4_i32 : BitVec 32 := 4#32
  let arg1 : BitVec 32 := BitVec.ofNat 32 (i 1).val
  let v39 : BitVec 32 := Scalar.muli c4_i32 arg1
  let c0_i32_38 : BitVec 32 := 0#32
  let v57 : BitVec 32 := Scalar.addi v39 c0_i32_38
  let c1_i32_39 : BitVec 32 := 1#32
  let v58 : BitVec 32 := Scalar.subi v57 c1_i32_39
  let c0_i32_40 : BitVec 32 := 0#32
  let v59 : BitVec 32 := Scalar.maxsi v58 c0_i32_40
  let c512_i32_41 : BitVec 32 := 512#32
  let v60 : BitVec 32 := Scalar.muli v59 c512_i32_41
  v60
def k0_off10 (i : grid0.Coords) (c0_i32_38 : BitVec 32) : Fin 3 → Nat :=
  let c0_42 : Index := 0#32
  let c48 : Index := 48#32
  let c4_i32 : BitVec 32 := 4#32
  let arg1 : BitVec 32 := BitVec.ofNat 32 (i 1).val
  let v39 : BitVec 32 := Scalar.muli c4_i32 arg1
  let v57 : BitVec 32 := Scalar.addi v39 c0_i32_38
  let c1_i32_39 : BitVec 32 := 1#32
  let v58 : BitVec 32 := Scalar.subi v57 c1_i32_39
  let c0_i32_40 : BitVec 32 := 0#32
  let v59 : BitVec 32 := Scalar.maxsi v58 c0_i32_40
  let c512_i32_41 : BitVec 32 := 512#32
  let v60 : BitVec 32 := Scalar.muli v59 c512_i32_41
  let v61 : BitVec 32 := v60
  let v62 : Index := Scalar.indexCast v61
  ![0, 48, v62.toNat]
def k0_mult12 (i : grid0.Coords) : BitVec 32 :=
  let c4_i32 : BitVec 32 := 4#32
  let arg1 : BitVec 32 := BitVec.ofNat 32 (i 1).val
  let v39 : BitVec 32 := Scalar.muli c4_i32 arg1
  let c1_i32_63 : BitVec 32 := 1#32
  let v103 : BitVec 32 := Scalar.addi v39 c1_i32_63
  let c1_i32_64 : BitVec 32 := 1#32
  let v104 : BitVec 32 := Scalar.addi v103 c1_i32_64
  let c512_i32_65 : BitVec 32 := 512#32
  let v105 : BitVec 32 := Scalar.muli v104 c512_i32_65
  v105
def k0_mult13 (i : grid0.Coords) : BitVec 32 :=
  let c4_i32 : BitVec 32 := 4#32
  let arg1 : BitVec 32 := BitVec.ofNat 32 (i 1).val
  let v39 : BitVec 32 := Scalar.muli c4_i32 arg1
  let c1_i32_75 : BitVec 32 := 1#32
  let v119 : BitVec 32 := Scalar.addi v39 c1_i32_75
  let c1_i32_76 : BitVec 32 := 1#32
  let v120 : BitVec 32 := Scalar.subi v119 c1_i32_76
  let c0_i32_77 : BitVec 32 := 0#32
  let v121 : BitVec 32 := Scalar.maxsi v120 c0_i32_77
  let c512_i32_78 : BitVec 32 := 512#32
  let v122 : BitVec 32 := Scalar.muli v121 c512_i32_78
  v122
def k0_mult14 (i : grid0.Coords) : BitVec 32 :=
  let c4_i32 : BitVec 32 := 4#32
  let arg1 : BitVec 32 := BitVec.ofNat 32 (i 1).val
  let v39 : BitVec 32 := Scalar.muli c4_i32 arg1
  let c2_i32_101 : BitVec 32 := 2#32
  let v165 : BitVec 32 := Scalar.addi v39 c2_i32_101
  let c1_i32_102 : BitVec 32 := 1#32
  let v166 : BitVec 32 := Scalar.addi v165 c1_i32_102
  let c512_i32_103 : BitVec 32 := 512#32
  let v167 : BitVec 32 := Scalar.muli v166 c512_i32_103
  v167
def k0_mult15 (i : grid0.Coords) : BitVec 32 :=
  let c4_i32 : BitVec 32 := 4#32
  let arg1 : BitVec 32 := BitVec.ofNat 32 (i 1).val
  let v39 : BitVec 32 := Scalar.muli c4_i32 arg1
  let c2_i32_113 : BitVec 32 := 2#32
  let v181 : BitVec 32 := Scalar.addi v39 c2_i32_113
  let c1_i32_114 : BitVec 32 := 1#32
  let v182 : BitVec 32 := Scalar.subi v181 c1_i32_114
  let c0_i32_115 : BitVec 32 := 0#32
  let v183 : BitVec 32 := Scalar.maxsi v182 c0_i32_115
  let c512_i32_116 : BitVec 32 := 512#32
  let v184 : BitVec 32 := Scalar.muli v183 c512_i32_116
  v184
def k0_mult16 (i : grid0.Coords) : BitVec 32 :=
  let c4_i32 : BitVec 32 := 4#32
  let arg1 : BitVec 32 := BitVec.ofNat 32 (i 1).val
  let v39 : BitVec 32 := Scalar.muli c4_i32 arg1
  let c3_i32 : BitVec 32 := 3#32
  let v230 : BitVec 32 := Scalar.addi v39 c3_i32
  let c1_i32_141 : BitVec 32 := 1#32
  let v231 : BitVec 32 := Scalar.subi v230 c1_i32_141
  let c0_i32_142 : BitVec 32 := 0#32
  let v232 : BitVec 32 := Scalar.maxsi v231 c0_i32_142
  let c512_i32_143 : BitVec 32 := 512#32
  let v233 : BitVec 32 := Scalar.muli v232 c512_i32_143
  v233
def k0_mult17 (i : grid0.Coords) : BitVec 32 :=
  let c4_i32 : BitVec 32 := 4#32
  let arg1 : BitVec 32 := BitVec.ofNat 32 (i 1).val
  let v39 : BitVec 32 := Scalar.muli c4_i32 arg1
  let c4_i32_168 : BitVec 32 := 4#32
  let v279 : BitVec 32 := Scalar.addi v39 c4_i32_168
  let c1_i32_169 : BitVec 32 := 1#32
  let v280 : BitVec 32 := Scalar.subi v279 c1_i32_169
  let c0_i32_170 : BitVec 32 := 0#32
  let v281 : BitVec 32 := Scalar.maxsi v280 c0_i32_170
  let c512_i32_171 : BitVec 32 := 512#32
  let v282 : BitVec 32 := Scalar.muli v281 c512_i32_171
  v282
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S1x8192x8192, .i1⟩
  | .hbm, ⟨32, _⟩ => ⟨S_, .f32⟩
  | .hbm, ⟨33, _⟩ => ⟨S_, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x64x8192, .f32⟩
  | .hbm, ⟨52, _⟩ => ⟨S8192x8x64, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8192, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== OutStep.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutStepReferenceIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== HeadStep.lean ====
abbrev S4x520x128 : Shape := ⟨3, ![4, 520, 128]⟩
abbrev S384x128 : Shape := ⟨2, ![384, 128]⟩
abbrev S520x128 : Shape := ⟨2, ![520, 128]⟩
abbrev S1x520x128 : Shape := ⟨3, ![1, 520, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x520x128, .f32⟩
  | .hbm, ⟨1, _⟩ => ⟨S384x128, .f32⟩
  | .hbm, ⟨2, _⟩ => ⟨S384x128, .f32⟩
  | .hbm, ⟨3, _⟩ => ⟨S384x128, .f32⟩
  | .hbm, ⟨4, _⟩ => ⟨S520x128, .f32⟩
  | .hbm, ⟨5, _⟩ => ⟨S384x128, .f32⟩
  | .hbm, ⟨6, _⟩ => ⟨S384x128, .f32⟩
  | .hbm, ⟨7, _⟩ => ⟨S384x128, .f32⟩
  | .local _ .vmem, ⟨0, _⟩ => ⟨S4x520x128, .f32⟩
  | .local _ .vmem, ⟨1, _⟩ => ⟨S384x128, .f32⟩
  | .local _ .vmem, ⟨2, _⟩ => ⟨S384x128, .f32⟩
  | .local _ .vmem, ⟨3, _⟩ => ⟨S384x128, .f32⟩
  | .local _ .vmem, ⟨4, _⟩ => ⟨S520x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | _, _ => ⟨S4x520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== HeadStepReferenceIdeal.lean ====
abbrev S4x520x128 : Shape := ⟨3, ![4, 520, 128]⟩
abbrev S384x128 : Shape := ⟨2, ![384, 128]⟩
abbrev S_ : Shape := ⟨0, ![]⟩
abbrev S520x128 : Shape := ⟨2, ![520, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x520x128, .f32⟩
  | .hbm, ⟨1, _⟩ => ⟨S384x128, .f32⟩
  | .hbm, ⟨2, _⟩ => ⟨S384x128, .f32⟩
  | .hbm, ⟨3, _⟩ => ⟨S384x128, .f32⟩
  | .hbm, ⟨4, _⟩ => ⟨S_, .f32⟩
  | .hbm, ⟨5, _⟩ => ⟨S520x128, .f32⟩
  | .hbm, ⟨6, _⟩ => ⟨S384x128, .f32⟩
  | .hbm, ⟨7, _⟩ => ⟨S_, .f32⟩
  | .hbm, ⟨8, _⟩ => ⟨S384x128, .f32⟩
  | .hbm, ⟨9, _⟩ => ⟨S384x128, .f32⟩
  | .hbm, ⟨10, _⟩ => ⟨S_, .f32⟩
  | .hbm, ⟨11, _⟩ => ⟨S384x128, .f32⟩
  | .hbm, ⟨12, _⟩ => ⟨S384x128, .f32⟩
  | .hbm, ⟨13, _⟩ => ⟨S384x128, .f32⟩
  | .hbm, ⟨14, _⟩ => ⟨S_, .f32⟩
  | .hbm, ⟨15, _⟩ => ⟨S384x128, .f32⟩
  | .hbm, ⟨16, _⟩ => ⟨S384x128, .f32⟩
  | .hbm, ⟨17, _⟩ => ⟨S384x128, .f32⟩
  | .hbm, ⟨18, _⟩ => ⟨S_, .f32⟩
  | .hbm, ⟨19, _⟩ => ⟨S384x128, .f32⟩
  | .hbm, ⟨20, _⟩ => ⟨S384x128, .f32⟩
  | .hbm, ⟨21, _⟩ => ⟨S384x128, .f32⟩
  | .hbm, ⟨22, _⟩ => ⟨S_, .f32⟩
  | .hbm, ⟨23, _⟩ => ⟨S384x128, .f32⟩
  | .hbm, ⟨24, _⟩ => ⟨S384x128, .f32⟩
  | .hbm, ⟨25, _⟩ => ⟨S_, .f32⟩
  | .hbm, ⟨26, _⟩ => ⟨S384x128, .f32⟩
  | .hbm, ⟨27, _⟩ => ⟨S384x128, .f32⟩
  | .hbm, ⟨28, _⟩ => ⟨S384x128, .f32⟩
  | .hbm, ⟨29, _⟩ => ⟨S_, .f32⟩
  | .hbm, ⟨30, _⟩ => ⟨S384x128, .f32⟩
  | .hbm, ⟨31, _⟩ => ⟨S384x128, .f32⟩
  | .hbm, ⟨32, _⟩ => ⟨S384x128, .f32⟩
  | .hbm, ⟨33, _⟩ => ⟨S_, .f32⟩
  | .hbm, ⟨34, _⟩ => ⟨S384x128, .f32⟩
  | .hbm, ⟨35, _⟩ => ⟨S384x128, .f32⟩
  | .hbm, ⟨36, _⟩ => ⟨S384x128, .f32⟩
  | .hbm, ⟨37, _⟩ => ⟨S_, .f32⟩
  | .hbm, ⟨38, _⟩ => ⟨S384x128, .f32⟩
  | .hbm, ⟨39, _⟩ => ⟨S384x128, .f32⟩
  | _, _ => ⟨S4x520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== InStep.lean ====
abbrev S4x1024x308 : Shape := ⟨3, ![4, 1024, 308]⟩
abbrev S308x1024 : Shape := ⟨2, ![308, 1024]⟩
abbrev S4x512x308 : Shape := ⟨3, ![4, 512, 308]⟩
abbrev S308x512 : Shape := ⟨2, ![308, 512]⟩
abbrev S512x384 : Shape := ⟨2, ![512, 384]⟩
abbrev S1x512x308 : Shape := ⟨3, ![1, 512, 308]⟩
abbrev S512x308 : Shape := ⟨2, ![512, 308]⟩
abbrev S512x128 : Shape := ⟨2, ![512, 128]⟩
abbrev S384x512 : Shape := ⟨2, ![384, 512]⟩

abbrev nBuf : Space → Nat
  | .hbm => 8
  | .vmem => 17
  | .smem => 0
  | _ => 0

abbrev bufTy : (tb : Table) → Fin (tcTables nBuf tb) → BufTy
  | .hbm, ⟨0, _⟩ => ⟨S4x1024x308, .bf16⟩
  | .hbm, ⟨1, _⟩ => ⟨S308x1024, .f32⟩
  | .hbm, ⟨2, _⟩ => ⟨S308x1024, .f32⟩
  | .hbm, ⟨3, _⟩ => ⟨S308x1024, .f32⟩
  | .hbm, ⟨4, _⟩ => ⟨S308x1024, .f32⟩
  | .hbm, ⟨5, _⟩ => ⟨S308x1024, .f32⟩
  | .hbm, ⟨6, _⟩ => ⟨S308x1024, .f32⟩
  | .hbm, ⟨7, _⟩ => ⟨S308x1024, .f32⟩
  | .local _ .vmem, ⟨0, _⟩ => ⟨S4x512x308, .bf16⟩
  | .local _ .vmem, ⟨1, _⟩ => ⟨S4x512x308, .bf16⟩
  | .local _ .vmem, ⟨2, _⟩ => ⟨S308x512, .f32⟩
  | .local _ .vmem, ⟨3, _⟩ => ⟨S308x512, .f32⟩
  | .local _ .vmem, ⟨4, _⟩ => ⟨S308x512, .f32⟩
  | .local _ .vmem, ⟨5, _⟩ => ⟨S308x512, .f32⟩
  | .local _ .vmem, ⟨6, _⟩ => ⟨S308x512, .f32⟩
  | .local _ .vmem, ⟨7, _⟩ => ⟨S308x512, .f32⟩
  | .local _ .vmem, ⟨8, _⟩ => ⟨S308x512, .f32⟩
  | .local _ .vmem, ⟨9, _⟩ => ⟨S308x512, .f32⟩
  | .local _ .vmem, ⟨10, _⟩ => ⟨S308x512, .f32⟩
  | .local _ .vmem, ⟨11, _⟩ => ⟨S308x512, .f32⟩
  | .local _ .vmem, ⟨12, _⟩ => ⟨S308x512, .f32⟩
  | .local _ .vmem, ⟨13, _⟩ => ⟨S308x512, .f32⟩
  | .local _ .vmem, ⟨14, _⟩ => ⟨S308x512, .f32⟩
  | .local _ .vmem, ⟨15, _⟩ => ⟨S308x512, .f32⟩
  | .local _ .vmem, ⟨16, _⟩ => ⟨S512x384, .f32⟩
  | _, _ => ⟨S4x1024x308, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x512x308 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S308x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S308x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S308x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S308x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S308x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S308x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S308x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InStepReferenceIdeal.lean ====
abbrev S4x1024x308 : Shape := ⟨3, ![4, 1024, 308]⟩
abbrev S308x1024 : Shape := ⟨2, ![308, 1024]⟩
abbrev S_ : Shape := ⟨0, ![]⟩
abbrev S1024x308 : Shape := ⟨2, ![1024, 308]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x308, .bf16⟩
  | .hbm, ⟨1, _⟩ => ⟨S308x1024, .f32⟩
  | .hbm, ⟨2, _⟩ => ⟨S308x1024, .f32⟩
  | .hbm, ⟨3, _⟩ => ⟨S308x1024, .f32⟩
  | .hbm, ⟨4, _⟩ => ⟨S4x1024x308, .f32⟩
  | .hbm, ⟨5, _⟩ => ⟨S_, .f32⟩
  | .hbm, ⟨6, _⟩ => ⟨S1024x308, .f32⟩
  | .hbm, ⟨7, _⟩ => ⟨S308x1024, .f32⟩
  | .hbm, ⟨8, _⟩ => ⟨S_, .f32⟩
  | .hbm, ⟨9, _⟩ => ⟨S308x1024, .f32⟩
  | .hbm, ⟨10, _⟩ => ⟨S308x1024, .f32⟩
  | .hbm, ⟨11, _⟩ => ⟨S_, .f32⟩
  | .hbm, ⟨12, _⟩ => ⟨S308x1024, .f32⟩
  | .hbm, ⟨13, _⟩ => ⟨S308x1024, .f32⟩
  | .hbm, ⟨14, _⟩ => ⟨S308x1024, .f32⟩
  | .hbm, ⟨15, _⟩ => ⟨S_, .f32⟩
  | .hbm, ⟨16, _⟩ => ⟨S308x1024, .f32⟩
  | .hbm, ⟨17, _⟩ => ⟨S308x1024, .f32⟩
  | .hbm, ⟨18, _⟩ => ⟨S308x1024, .f32⟩
  | .hbm, ⟨19, _⟩ => ⟨S_, .f32⟩
  | .hbm, ⟨20, _⟩ => ⟨S308x1024, .f32⟩
  | .hbm, ⟨21, _⟩ => ⟨S308x1024, .f32⟩
  | .hbm, ⟨22, _⟩ => ⟨S308x1024, .f32⟩
  | .hbm, ⟨23, _⟩ => ⟨S_, .f32⟩
  | .hbm, ⟨24, _⟩ => ⟨S308x1024, .f32⟩
  | .hbm, ⟨25, _⟩ => ⟨S308x1024, .f32⟩
  | .hbm, ⟨26, _⟩ => ⟨S_, .f32⟩
  | .hbm, ⟨27, _⟩ => ⟨S308x1024, .f32⟩
  | .hbm, ⟨28, _⟩ => ⟨S308x1024, .f32⟩
  | .hbm, ⟨29, _⟩ => ⟨S308x1024, .f32⟩
  | .hbm, ⟨30, _⟩ => ⟨S_, .f32⟩
  | .hbm, ⟨31, _⟩ => ⟨S308x1024, .f32⟩
  | .hbm, ⟨32, _⟩ => ⟨S308x1024, .f32⟩
  | .hbm, ⟨33, _⟩ => ⟨S308x1024, .f32⟩
  | .hbm, ⟨34, _⟩ => ⟨S_, .f32⟩
  | .hbm, ⟨35, _⟩ => ⟨S308x1024, .f32⟩
  | .hbm, ⟨36, _⟩ => ⟨S308x1024, .f32⟩
  | .hbm, ⟨37, _⟩ => ⟨S308x1024, .f32⟩
  | .hbm, ⟨38, _⟩ => ⟨S_, .f32⟩
  | .hbm, ⟨39, _⟩ => ⟨S308x1024, .f32⟩
  | .hbm, ⟨40, _⟩ => ⟨S308x1024, .f32⟩
  | _, _ => ⟨S4x1024x308, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== RepStep.lean ====
abbrev S8x136x128 : Shape := ⟨3, ![8, 136, 128]⟩
abbrev S256 : Shape := ⟨1, ![256]⟩
abbrev S128 : Shape := ⟨1, ![128]⟩
abbrev S512 : Shape := ⟨1, ![512]⟩
abbrev S8x128x128 : Shape := ⟨3, ![8, 128, 128]⟩
abbrev S8x128 : Shape := ⟨2, ![8, 128]⟩
abbrev S1024 : Shape := ⟨1, ![1024]⟩
abbrev S1x1 : Shape := ⟨2, ![1, 1]⟩
abbrev S64x128 : Shape := ⟨2, ![64, 128]⟩
abbrev S1x8x128 : Shape := ⟨3, ![1, 8, 128]⟩
abbrev S2x128 : Shape := ⟨2, ![2, 128]⟩
abbrev S1x128 : Shape := ⟨2, ![1, 128]⟩
abbrev S4x128 : Shape := ⟨2, ![4, 128]⟩

abbrev nBuf : Space → Nat
  | .hbm => 58
  | .vmem => 59
  | .smem => 0
  | _ => 0

abbrev bufTy : (tb : Table) → Fin (tcTables nBuf tb) → BufTy
  | .hbm, ⟨0, _⟩ => ⟨S8x136x128, .f32⟩
  | .hbm, ⟨1, _⟩ => ⟨S256, .f32⟩
  | .hbm, ⟨2, _⟩ => ⟨S128, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S1024, .f32⟩
  | .hbm, ⟨9, _⟩ => ⟨S256, .f32⟩
  | .hbm, ⟨10, _⟩ => ⟨S128, .f32⟩
  | .hbm, ⟨11, _⟩ => ⟨S512, .f32⟩
  | .hbm, ⟨12, _⟩ => ⟨S512, .f32⟩
  | .hbm, ⟨13, _⟩ => ⟨S8x128x128, .f32⟩
  | .hbm, ⟨14, _⟩ => ⟨S8x128, .f32⟩
  | .hbm, ⟨15, _⟩ => ⟨S1024, .f32⟩
  | .hbm, ⟨16, _⟩ => ⟨S1024, .f32⟩
  | .hbm, ⟨17, _⟩ => ⟨S256, .f32⟩
  | .hbm, ⟨18, _⟩ => ⟨S128, .f32⟩
  | .hbm, ⟨19, _⟩ => ⟨S512, .f32⟩
  | .hbm, ⟨20, _⟩ => ⟨S512, .f32⟩
  | .hbm, ⟨21, _⟩ => ⟨S8x128x128, .f32⟩
  | .hbm, ⟨22, _⟩ => ⟨S8x128, .f32⟩
  | .hbm, ⟨23, _⟩ => ⟨S1024, .f32⟩
  | .hbm, ⟨24, _⟩ => ⟨S1024, .f32⟩
  | .hbm, ⟨25, _⟩ => ⟨S256, .f32⟩
  | .hbm, ⟨26, _⟩ => ⟨S128, .f32⟩
  | .hbm, ⟨27, _⟩ => ⟨S512, .f32⟩
  | .hbm, ⟨28, _⟩ => ⟨S512, .f32⟩
  | .hbm, ⟨29, _⟩ => ⟨S8x128x128, .f32⟩
  | .hbm, ⟨30, _⟩ => ⟨S8x128, .f32⟩
  | .hbm, ⟨31, _⟩ => ⟨S1024, .f32⟩
  | .hbm, ⟨32, _⟩ => ⟨S1024, .f32⟩
  | .hbm, ⟨33, _⟩ => ⟨S256, .f32⟩
  | .hbm, ⟨34, _⟩ => ⟨S128, .f32⟩
  | .hbm, ⟨35, _⟩ => ⟨S512, .f32⟩
  | .hbm, ⟨36, _⟩ => ⟨S512, .f32⟩
  | .hbm, ⟨37, _⟩ => ⟨S8x128x128, .f32⟩
  | .hbm, ⟨38, _⟩ => ⟨S8x128, .f32⟩
  | .hbm, ⟨39, _⟩ => ⟨S1024, .f32⟩
  | .hbm, ⟨40, _⟩ => ⟨S1024, .f32⟩
  | .hbm, ⟨41, _⟩ => ⟨S256, .f32⟩
  | .hbm, ⟨42, _⟩ => ⟨S128, .f32⟩
  | .hbm, ⟨43, _⟩ => ⟨S512, .f32⟩
  | .hbm, ⟨44, _⟩ => ⟨S512, .f32⟩
  | .hbm, ⟨45, _⟩ => ⟨S8x128x128, .f32⟩
  | .hbm, ⟨46, _⟩ => ⟨S8x128, .f32⟩
  | .hbm, ⟨47, _⟩ => ⟨S1024, .f32⟩
  | .hbm, ⟨48, _⟩ => ⟨S1024, .f32⟩
  | .hbm, ⟨49, _⟩ => ⟨S256, .f32⟩
  | .hbm, ⟨50, _⟩ => ⟨S128, .f32⟩
  | .hbm, ⟨51, _⟩ => ⟨S512, .f32⟩
  | .hbm, ⟨52, _⟩ => ⟨S512, .f32⟩
  | .hbm, ⟨53, _⟩ => ⟨S8x128x128, .f32⟩
  | .hbm, ⟨54, _⟩ => ⟨S8x128, .f32⟩
  | .hbm, ⟨55, _⟩ => ⟨S1024, .f32⟩
  | .hbm, ⟨56, _⟩ => ⟨S1024, .f32⟩
  | .hbm, ⟨57, _⟩ => ⟨S1x1, .f32⟩
  | .local _ .vmem, ⟨0, _⟩ => ⟨S8x136x128, .f32⟩
  | .local _ .vmem, ⟨1, _⟩ => ⟨S256, .f32⟩
  | .local _ .vmem, ⟨2, _⟩ => ⟨S128, .f32⟩
  | .local _ .vmem, ⟨3, _⟩ => ⟨S512, .f32⟩
  | .local _ .vmem, ⟨4, _⟩ => ⟨S512, .f32⟩
  | .local _ .vmem, ⟨5, _⟩ => ⟨S8x128x128, .f32⟩
  | .local _ .vmem, ⟨6, _⟩ => ⟨S8x128, .f32⟩
  | .local _ .vmem, ⟨7, _⟩ => ⟨S1024, .f32⟩
  | .local _ .vmem, ⟨8, _⟩ => ⟨S1024, .f32⟩
  | .local _ .vmem, ⟨9, _⟩ => ⟨S256, .f32⟩
  | .local _ .vmem, ⟨10, _⟩ => ⟨S128, .f32⟩
  | .local _ .vmem, ⟨11, _⟩ => ⟨S512, .f32⟩
  | .local _ .vmem, ⟨12, _⟩ => ⟨S512, .f32⟩
  | .local _ .vmem, ⟨13, _⟩ => ⟨S8x128x128, .f32⟩
  | .local _ .vmem, ⟨14, _⟩ => ⟨S8x128, .f32⟩
  | .local _ .vmem, ⟨15, _⟩ => ⟨S1024, .f32⟩
  | .local _ .vmem, ⟨16, _⟩ => ⟨S1024, .f32⟩
  | .local _ .vmem, ⟨17, _⟩ => ⟨S256, .f32⟩
  | .local _ .vmem, ⟨18, _⟩ => ⟨S128, .f32⟩
  | .local _ .vmem, ⟨19, _⟩ => ⟨S512, .f32⟩
  | .local _ .vmem, ⟨20, _⟩ => ⟨S512, .f32⟩
  | .local _ .vmem, ⟨21, _⟩ => ⟨S8x128x128, .f32⟩
  | .local _ .vmem, ⟨22, _⟩ => ⟨S8x128, .f32⟩
  | .local _ .vmem, ⟨23, _⟩ => ⟨S1024, .f32⟩
  | .local _ .vmem, ⟨24, _⟩ => ⟨S1024, .f32⟩
  | .local _ .vmem, ⟨25, _⟩ => ⟨S256, .f32⟩
  | .local _ .vmem, ⟨26, _⟩ => ⟨S128, .f32⟩
  | .local _ .vmem, ⟨27, _⟩ => ⟨S512, .f32⟩
  | .local _ .vmem, ⟨28, _⟩ => ⟨S512, .f32⟩
  | .local _ .vmem, ⟨29, _⟩ => ⟨S8x128x128, .f32⟩
  | .local _ .vmem, ⟨30, _⟩ => ⟨S8x128, .f32⟩
  | .local _ .vmem, ⟨31, _⟩ => ⟨S1024, .f32⟩
  | .local _ .vmem, ⟨32, _⟩ => ⟨S1024, .f32⟩
  | .local _ .vmem, ⟨33, _⟩ => ⟨S256, .f32⟩
  | .local _ .vmem, ⟨34, _⟩ => ⟨S128, .f32⟩
  | .local _ .vmem, ⟨35, _⟩ => ⟨S512, .f32⟩
  | .local _ .vmem, ⟨36, _⟩ => ⟨S512, .f32⟩
  | .local _ .vmem, ⟨37, _⟩ => ⟨S8x128x128, .f32⟩
  | .local _ .vmem, ⟨38, _⟩ => ⟨S8x128, .f32⟩
  | .local _ .vmem, ⟨39, _⟩ => ⟨S1024, .f32⟩
  | .local _ .vmem, ⟨40, _⟩ => ⟨S1024, .f32⟩
  | .local _ .vmem, ⟨41, _⟩ => ⟨S256, .f32⟩
  | .local _ .vmem, ⟨42, _⟩ => ⟨S128, .f32⟩
  | .local _ .vmem, ⟨43, _⟩ => ⟨S512, .f32⟩
  | .local _ .vmem, ⟨44, _⟩ => ⟨S512, .f32⟩
  | .local _ .vmem, ⟨45, _⟩ => ⟨S8x128x128, .f32⟩
  | .local _ .vmem, ⟨46, _⟩ => ⟨S8x128, .f32⟩
  | .local _ .vmem, ⟨47, _⟩ => ⟨S1024, .f32⟩
  | .local _ .vmem, ⟨48, _⟩ => ⟨S1024, .f32⟩
  | .local _ .vmem, ⟨49, _⟩ => ⟨S256, .f32⟩
  | .local _ .vmem, ⟨50, _⟩ => ⟨S128, .f32⟩
  | .local _ .vmem, ⟨51, _⟩ => ⟨S512, .f32⟩
  | .local _ .vmem, ⟨52, _⟩ => ⟨S512, .f32⟩
  | .local _ .vmem, ⟨53, _⟩ => ⟨S8x128x128, .f32⟩
  | .local _ .vmem, ⟨54, _⟩ => ⟨S8x128, .f32⟩
  | .local _ .vmem, ⟨55, _⟩ => ⟨S1024, .f32⟩
  | .local _ .vmem, ⟨56, _⟩ => ⟨S1024, .f32⟩
  | .local _ .vmem, ⟨57, _⟩ => ⟨S1x1, .f32⟩
  | .local _ .vmem, ⟨58, _⟩ => ⟨S64x128, .f32⟩
  | _, _ => ⟨S8x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev main_v0_25 : Ref sig .tc := ⟨.hbm, 50, rfl⟩
abbrev main_v0_26 : Ref sig .tc := ⟨.hbm, 51, rfl⟩
abbrev main_v0_27 : Ref sig .tc := ⟨.hbm, 52, rfl⟩
abbrev main_v0_28 : Ref sig .tc := ⟨.hbm, 53, rfl⟩
abbrev main_v0_29 : Ref sig .tc := ⟨.hbm, 54, rfl⟩
abbrev main_v0_30 : Ref sig .tc := ⟨.hbm, 55, rfl⟩
abbrev main_v0_31 : Ref sig .tc := ⟨.hbm, 56, rfl⟩
abbrev main_v0_32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_scratch0 : Ref sig .tc := ⟨.vmem, 58, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S8x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x128x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S512 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S8x128x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S8x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S256 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S512 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S8x128x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S8x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== RepStepReferenceIdeal.lean ====
abbrev S8x136x128 : Shape := ⟨3, ![8, 136, 128]⟩
abbrev S256 : Shape := ⟨1, ![256]⟩
abbrev S128 : Shape := ⟨1, ![128]⟩
abbrev S512 : Shape := ⟨1, ![512]⟩
abbrev S8x128x128 : Shape := ⟨3, ![8, 128, 128]⟩
abbrev S8x128 : Shape := ⟨2, ![8, 128]⟩
abbrev S1024 : Shape := ⟨1, ![1024]⟩
abbrev S8x8x128 : Shape := ⟨3, ![8, 8, 128]⟩
abbrev S8192 : Shape := ⟨1, ![8192]⟩
abbrev S_ : Shape := ⟨0, ![]⟩
abbrev S1 : Shape := ⟨1, ![1]⟩
abbrev S1x1 : Shape := ⟨2, ![1, 1]⟩

abbrev nBuf : Space → Nat
  | .hbm => 302
  | .vmem => 0
  | .smem => 0
  | _ => 0

abbrev hbmTy0_0 (i : Nat) : BufTy := match i % 128 with
  | 0 => ⟨S8x136x128, .f32⟩
  | 1 => ⟨S256, .f32⟩
  | 2 => ⟨S128, .f32⟩
  | 3 => ⟨S512, .f32⟩
  | 4 => ⟨S512, .f32⟩
  | 5 => ⟨S8x128x128, .f32⟩
  | 6 => ⟨S8x128, .f32⟩
  | 7 => ⟨S1024, .f32⟩
  | 8 => ⟨S1024, .f32⟩
  | 9 => ⟨S256, .f32⟩
  | 10 => ⟨S128, .f32⟩
  | 11 => ⟨S512, .f32⟩
  | 12 => ⟨S512, .f32⟩
  | 13 => ⟨S8x128x128, .f32⟩
  | 14 => ⟨S8x128, .f32⟩
  | 15 => ⟨S1024, .f32⟩
  | 16 => ⟨S1024, .f32⟩
  | 17 => ⟨S256, .f32⟩
  | 18 => ⟨S128, .f32⟩
  | 19 => ⟨S512, .f32⟩
  | 20 => ⟨S512, .f32⟩
  | 21 => ⟨S8x128x128, .f32⟩
  | 22 => ⟨S8x128, .f32⟩
  | 23 => ⟨S1024, .f32⟩
  | 24 => ⟨S1024, .f32⟩
  | 25 => ⟨S8x8x128, .f32⟩
  | 26 => ⟨S8192, .f32⟩
  | 27 => ⟨S256, .f32⟩
  | 28 => ⟨S128, .f32⟩
  | 29 => ⟨S512, .f32⟩
  | 30 => ⟨S512, .f32⟩
  | 31 => ⟨S8x128x128, .f32⟩
  | 32 => ⟨S1024, .f32⟩
  | 33 => ⟨S8x128, .f32⟩
  | 34 => ⟨S1024, .f32⟩
  | 35 => ⟨S1024, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S256, .f32⟩
  | 43 => ⟨S_, .f32⟩
  | 44 => ⟨S256, .f32⟩
  | 45 => ⟨S256, .f32⟩
  | 46 => ⟨S256, .f32⟩
  | 47 => ⟨S_, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S256, .f32⟩
  | 58 => ⟨S_, .f32⟩
  | 59 => ⟨S256, .f32⟩
  | 60 => ⟨S256, .f32⟩
  | 61 => ⟨S256, .f32⟩
  | 62 => ⟨S_, .f32⟩
  | 63 => ⟨S256, .f32⟩
  | 64 => ⟨S256, .f32⟩
  | 65 => ⟨S256, .f32⟩
  | 66 => ⟨S_, .f32⟩
  | 67 => ⟨S256, .f32⟩
  | 68 => ⟨S256, .f32⟩
  | 69 => ⟨S_, .f32⟩
  | 70 => ⟨S128, .f32⟩
  | 71 => ⟨S128, .f32⟩
  | 72 => ⟨S_, .f32⟩
  | 73 => ⟨S128, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S_, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S512, .f32⟩
  | 104 => ⟨S512, .f32⟩
  | 105 => ⟨S_, .f32⟩
  | 106 => ⟨S512, .f32⟩
  | 107 => ⟨S512, .f32⟩
  | 108 => ⟨S512, .f32⟩
  | 109 => ⟨S_, .f32⟩
  | 110 => ⟨S512, .f32⟩
  | 111 => ⟨S512, .f32⟩
  | 112 => ⟨S512, .f32⟩
  | 113 => ⟨S_, .f32⟩
  | 114 => ⟨S512, .f32⟩
  | 115 => ⟨S512, .f32⟩
  | 116 => ⟨S512, .f32⟩
  | 117 => ⟨S_, .f32⟩
  | 118 => ⟨S512, .f32⟩
  | 119 => ⟨S512, .f32⟩
  | 120 => ⟨S_, .f32⟩
  | 121 => ⟨S512, .f32⟩
  | 122 => ⟨S512, .f32⟩
  | 123 => ⟨S512, .f32⟩
  | 124 => ⟨S_, .f32⟩
  | 125 => ⟨S512, .f32⟩
  | 126 => ⟨S512, .f32⟩
  | 127 => ⟨S512, .f32⟩
  | _ => ⟨S8x136x128, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S_, .f32⟩
  | 5 => ⟨S512, .f32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S_, .f32⟩
  | 26 => ⟨S512, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S_, .f32⟩
  | 38 => ⟨S512, .f32⟩
  | 39 => ⟨S512, .f32⟩
  | 40 => ⟨S_, .f32⟩
  | 41 => ⟨S8x128x128, .f32⟩
  | 42 => ⟨S8x128x128, .f32⟩
  | 43 => ⟨S_, .f32⟩
  | 44 => ⟨S8x128x128, .f32⟩
  | 45 => ⟨S8x128x128, .f32⟩
  | 46 => ⟨S8x128x128, .f32⟩
  | 47 => ⟨S_, .f32⟩
  | 48 => ⟨S8x128x128, .f32⟩
  | 49 => ⟨S8x128x128, .f32⟩
  | 50 => ⟨S8x128x128, .f32⟩
  | 51 => ⟨S_, .f32⟩
  | 52 => ⟨S8x128x128, .f32⟩
  | 53 => ⟨S8x128x128, .f32⟩
  | 54 => ⟨S8x128x128, .f32⟩
  | 55 => ⟨S_, .f32⟩
  | 56 => ⟨S8x128x128, .f32⟩
  | 57 => ⟨S8x128x128, .f32⟩
  | 58 => ⟨S_, .f32⟩
  | 59 => ⟨S8x128x128, .f32⟩
  | 60 => ⟨S8x128x128, .f32⟩
  | 61 => ⟨S8x128x128, .f32⟩
  | 62 => ⟨S_, .f32⟩
  | 63 => ⟨S8x128x128, .f32⟩
  | 64 => ⟨S8x128x128, .f32⟩
  | 65 => ⟨S8x128x128, .f32⟩
  | 66 => ⟨S_, .f32⟩
  | 67 => ⟨S8x128x128, .f32⟩
  | 68 => ⟨S8x128x128, .f32⟩
  | 69 => ⟨S8x128x128, .f32⟩
  | 70 => ⟨S_, .f32⟩
  | 71 => ⟨S8x128x128, .f32⟩
  | 72 => ⟨S8x128x128, .f32⟩
  | 73 => ⟨S_, .f32⟩
  | 74 => ⟨S8x128, .f32⟩
  | 75 => ⟨S8x128, .f32⟩
  | 76 => ⟨S_, .f32⟩
  | 77 => ⟨S8x128, .f32⟩
  | 78 => ⟨S8x128, .f32⟩
  | 79 => ⟨S8x128, .f32⟩
  | 80 => ⟨S_, .f32⟩
  | 81 => ⟨S8x128, .f32⟩
  | 82 => ⟨S8x128, .f32⟩
  | 83 => ⟨S8x128, .f32⟩
  | 84 => ⟨S_, .f32⟩
  | 85 => ⟨S8x128, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S_, .f32⟩
  | 92 => ⟨S8x128, .f32⟩
  | 93 => ⟨S8x128, .f32⟩
  | 94 => ⟨S8x128, .f32⟩
  | 95 => ⟨S_, .f32⟩
  | 96 => ⟨S8x128, .f32⟩
  | 97 => ⟨S8x128, .f32⟩
  | 98 => ⟨S8x128, .f32⟩
  | 99 => ⟨S_, .f32⟩
  | 100 => ⟨S8x128, .f32⟩
  | 101 => ⟨S8x128, .f32⟩
  | 102 => ⟨S8x128, .f32⟩
  | 103 => ⟨S_, .f32⟩
  | 104 => ⟨S8x128, .f32⟩
  | 105 => ⟨S8x128, .f32⟩
  | 106 => ⟨S_, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8x136x128, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S1, .f32⟩
  | 45 => ⟨S1x1, .f32⟩
  | _ => ⟨S8x136x128, .f32⟩

abbrev hbmTy (i : Nat) : BufTy := match i / 128 with
  | 0 => hbmTy0_0 i
  | 1 => hbmTy0_1 i
  | 2 => hbmTy0_2 i
  | _ => ⟨S8x136x128, .f32⟩

abbrev bufTy : (tb : Table) → Fin (tcTables nBuf tb) → BufTy
  | .hbm, ⟨i, _⟩ => hbmTy i
  | _, _ => ⟨S8x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_16 : Ref sig .tc := ⟨.hbm, 99, rfl⟩
abbrev main_v57 : Ref sig .tc := ⟨.hbm, 100, rfl⟩
abbrev main_v58 : Ref sig .tc := ⟨.hbm, 101, rfl⟩
abbrev main_cst_17 : Ref sig .tc := ⟨.hbm, 102, rfl⟩
abbrev main_v59 : Ref sig .tc := ⟨.hbm, 103, rfl⟩
abbrev main_v60 : Ref sig .tc := ⟨.hbm, 104, rfl⟩
abbrev main_cst_18 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_19 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_20 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_21 : Ref sig .tc := ⟨.hbm, 117, rfl⟩
abbrev main_v70 : Ref sig .tc := ⟨.hbm, 118, rfl⟩
abbrev main_v71 : Ref sig .tc := ⟨.hbm, 119, rfl⟩
abbrev main_cst_22 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_23 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_24 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_25 : Ref sig .tc := ⟨.hbm, 132, rfl⟩
abbrev main_v81 : Ref sig .tc := ⟨.hbm, 133, rfl⟩
abbrev main_v82 : Ref sig .tc := ⟨.hbm, 134, rfl⟩
abbrev main_cst_26 : Ref sig .tc := ⟨.hbm, 135, rfl⟩
abbrev main_v83 : Ref sig .tc := ⟨.hbm, 136, rfl⟩
abbrev main_v84 : Ref sig .tc := ⟨.hbm, 137, rfl⟩
abbrev main_cst_27 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_28 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_29 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_30 : Ref sig .tc := ⟨.hbm, 150, rfl⟩
abbrev main_v94 : Ref sig .tc := ⟨.hbm, 151, rfl⟩
abbrev main_v95 : Ref sig .tc := ⟨.hbm, 152, rfl⟩
abbrev main_cst_31 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_32 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_33 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_34 : Ref sig .tc := ⟨.hbm, 165, rfl⟩
abbrev main_v105 : Ref sig .tc := ⟨.hbm, 166, rfl⟩
abbrev main_v106 : Ref sig .tc := ⟨.hbm, 167, rfl⟩
abbrev main_cst_35 : Ref sig .tc := ⟨.hbm, 168, rfl⟩
abbrev main_v107 : Ref sig .tc := ⟨.hbm, 169, rfl⟩
abbrev main_v108 : Ref sig .tc := ⟨.hbm, 170, rfl⟩
abbrev main_cst_36 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_37 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_38 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_39 : Ref sig .tc := ⟨.hbm, 183, rfl⟩
abbrev main_v118 : Ref sig .tc := ⟨.hbm, 184, rfl⟩
abbrev main_v119 : Ref sig .tc := ⟨.hbm, 185, rfl⟩
abbrev main_cst_40 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_41 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_42 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_cst_43 : Ref sig .tc := ⟨.hbm, 198, rfl⟩
abbrev main_v129 : Ref sig .tc := ⟨.hbm, 199, rfl⟩
abbrev main_v130 : Ref sig .tc := ⟨.hbm, 200, rfl⟩
abbrev main_cst_44 : Ref sig .tc := ⟨.hbm, 201, rfl⟩
abbrev main_v131 : Ref sig .tc := ⟨.hbm, 202, rfl⟩
abbrev main_v132 : Ref sig .tc := ⟨.hbm, 203, rfl⟩
abbrev main_cst_45 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_46 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_47 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_48 : Ref sig .tc := ⟨.hbm, 216, rfl⟩
abbrev main_v142 : Ref sig .tc := ⟨.hbm, 217, rfl⟩
abbrev main_v143 : Ref sig .tc := ⟨.hbm, 218, rfl⟩
abbrev main_cst_49 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_50 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_cst_51 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_cst_52 : Ref sig .tc := ⟨.hbm, 231, rfl⟩
abbrev main_v153 : Ref sig .tc := ⟨.hbm, 232, rfl⟩
abbrev main_v154 : Ref sig .tc := ⟨.hbm, 233, rfl⟩
abbrev main_cst_53 : Ref sig .tc := ⟨.hbm, 234, rfl⟩
abbrev main_v155 : Ref sig .tc := ⟨.hbm, 235, rfl⟩
abbrev main_v156 : Ref sig .tc := ⟨.hbm, 236, rfl⟩
abbrev main_cst_54 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_cst_55 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_cst_56 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_cst_57 : Ref sig .tc := ⟨.hbm, 249, rfl⟩
abbrev main_v166 : Ref sig .tc := ⟨.hbm, 250, rfl⟩
abbrev main_v167 : Ref sig .tc := ⟨.hbm, 251, rfl⟩
abbrev main_cst_58 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_cst_59 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_cst_60 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_cst_61 : Ref sig .tc := ⟨.hbm, 264, rfl⟩
abbrev main_v177 : Ref sig .tc := ⟨.hbm, 265, rfl⟩
abbrev main_v178 : Ref sig .tc := ⟨.hbm, 266, rfl⟩
abbrev main_cst_62 : Ref sig .tc := ⟨.hbm, 267, rfl⟩
abbrev main_v179 : Ref sig .tc := ⟨.hbm, 268, rfl⟩
abbrev main_v180 : Ref sig .tc := ⟨.hbm, 269, rfl⟩
abbrev main_cst_63 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_cst_64 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_cst_65 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_cst_66 : Ref sig .tc := ⟨.hbm, 282, rfl⟩
abbrev main_v190 : Ref sig .tc := ⟨.hbm, 283, rfl⟩
abbrev main_v191 : Ref sig .tc := ⟨.hbm, 284, rfl⟩
abbrev main_cst_67 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_cst_68 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_cst_69 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_cst_70 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩

abbrev nD : Nat := 1
abbrev τ : Topo := Topo.v7x

variable {F : FTy → Type} [FloatOps F]
-- ==== Proof.SafeLoops.lean ====
/-
  What the compiled backward kernel touches, and that its counted loops keep it.

  The kernel reads its six inputs and writes its three results and nine scratch tiles. `Bufs` owns the eighteen buffers: the
  inputs at named contents, the others at any. Both loops keep `Bufs`, one trip at a time.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eighteen buffers of one grid point: the inputs at `f2 … f7`, the results and the scratch tiles at some contents. -/
def Bufs (c : Dev nD) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32) (arg8 : Memref sig .tc .vmem S1x128x8192 .f32) (arg9 : Memref sig .tc .vmem S1x2048x128 .f32) (arg10 : Memref sig .tc .vmem S1x2048x128 .f32) (arg11 : Memref sig .tc .vmem S2048x512 .f32) (arg12 : Memref sig .tc .vmem S2048x512 .f32) (arg13 : Memref sig .tc .vmem S2048x512 .f32) (arg14 : Memref sig .tc .vmem S2048x512 .f32) (arg15 : Memref sig .tc .vmem S2048x512 .bf16) (arg16 : Memref sig .tc .vmem S2048x512 .bf16) (arg17 : Memref sig .tc .vmem S2048x512 .bf16) (arg18 : Memref sig .tc .vmem S2048x512 .bf16) (arg19 : Memref sig .tc .vmem S128x2048 .bf16)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f : Buf (Elt F) (arg8.view.loc (c : Thread nD τ)), arg8.view.loc (c : Thread nD τ) ↦[arg8.view.set]{fullShare} f) ∗ (∃ f : Buf (Elt F) (arg9.view.loc (c : Thread nD τ)), arg9.view.loc (c : Thread nD τ) ↦[arg9.view.set]{fullShare} f) ∗ (∃ f : Buf (Elt F) (arg10.view.loc (c : Thread nD τ)), arg10.view.loc (c : Thread nD τ) ↦[arg10.view.set]{fullShare} f) ∗ (∃ f : Buf (Elt F) (arg11.view.loc (c : Thread nD τ)), arg11.view.loc (c : Thread nD τ) ↦[arg11.view.set]{fullShare} f) ∗ (∃ f : Buf (Elt F) (arg12.view.loc (c : Thread nD τ)), arg12.view.loc (c : Thread nD τ) ↦[arg12.view.set]{fullShare} f) ∗ (∃ f : Buf (Elt F) (arg13.view.loc (c : Thread nD τ)), arg13.view.loc (c : Thread nD τ) ↦[arg13.view.set]{fullShare} f) ∗ (∃ f : Buf (Elt F) (arg14.view.loc (c : Thread nD τ)), arg14.view.loc (c : Thread nD τ) ↦[arg14.view.set]{fullShare} f) ∗ (∃ f : Buf (Elt F) (arg15.view.loc (c : Thread nD τ)), arg15.view.loc (c : Thread nD τ) ↦[arg15.view.set]{fullShare} f) ∗ (∃ f : Buf (Elt F) (arg16.view.loc (c : Thread nD τ)), arg16.view.loc (c : Thread nD τ) ↦[arg16.view.set]{fullShare} f) ∗ (∃ f : Buf (Elt F) (arg17.view.loc (c : Thread nD τ)), arg17.view.loc (c : Thread nD τ) ↦[arg17.view.set]{fullShare} f) ∗ (∃ f : Buf (Elt F) (arg18.view.loc (c : Thread nD τ)), arg18.view.loc (c : Thread nD τ) ↦[arg18.view.set]{fullShare} f) ∗ (∃ f : Buf (Elt F) (arg19.view.loc (c : Thread nD τ)), arg19.view.loc (c : Thread nD τ) ↦[arg19.view.set]{fullShare} f))

/-- Loop 1 keeps the buffers. -/
@[sl_loop] def loopInv_k0_t1 (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (v1105 : FVec F S256x256 .bf16) (init : BitVec 32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) :
    Cert.Kernel.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 init where
  inv := fun _ _ => Bufs c arg2 arg3 arg4 arg5 arg6 arg7 arg8 arg9 arg10 arg11 arg12 arg13 arg14 arg15 arg16 arg17 arg18 arg19 f2 f3 f4 f5 f6 f7
  step := fun k acc => by
    unfold Bufs
    iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    unfold k0_t1_body
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

/-- Loop 2 keeps the buffers. -/
@[sl_loop] def loopInv_k0_t2 (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (v1105 : FVec F S256x256 .bf16) (v1133 : BitVec 32) (init : BitVec 32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) :
    Cert.Kernel.Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 v1133 init where
  inv := fun _ _ => Bufs c arg2 arg3 arg4 arg5 arg6 arg7 arg8 arg9 arg10 arg11 arg12 arg13 arg14 arg15 arg16 arg17 arg18 arg19 f2 f3 f4 f5 f6 f7
  step := fun k acc => by
    unfold Bufs
    iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    unfold k0_t2_body
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Safe

end
-- ==== Proof.IdealSafeLoops.lean ====
/-
  What the compiled backward kernel touches, and that its counted loops keep it.

  The kernel reads its six inputs and writes its three results and nine scratch tiles. `Bufs` owns the eighteen buffers: the
  inputs at named contents, the others at any. Both loops keep `Bufs`, one trip at a time.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The eighteen buffers of one grid point: the inputs at `f2 … f7`, the results and the scratch tiles at some contents. -/
def Bufs (c : Dev nD) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32) (arg8 : Memref sig .tc .vmem S1x128x8192 .f32) (arg9 : Memref sig .tc .vmem S1x2048x128 .f32) (arg10 : Memref sig .tc .vmem S1x2048x128 .f32) (arg11 : Memref sig .tc .vmem S2048x512 .f32) (arg12 : Memref sig .tc .vmem S2048x512 .f32) (arg13 : Memref sig .tc .vmem S2048x512 .f32) (arg14 : Memref sig .tc .vmem S2048x512 .f32) (arg15 : Memref sig .tc .vmem S2048x512 .bf16) (arg16 : Memref sig .tc .vmem S2048x512 .bf16) (arg17 : Memref sig .tc .vmem S2048x512 .bf16) (arg18 : Memref sig .tc .vmem S2048x512 .bf16) (arg19 : Memref sig .tc .vmem S128x2048 .bf16)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f : Buf (Elt Ideal) (arg8.view.loc (c : Thread nD τ)), arg8.view.loc (c : Thread nD τ) ↦[arg8.view.set]{fullShare} f) ∗ (∃ f : Buf (Elt Ideal) (arg9.view.loc (c : Thread nD τ)), arg9.view.loc (c : Thread nD τ) ↦[arg9.view.set]{fullShare} f) ∗ (∃ f : Buf (Elt Ideal) (arg10.view.loc (c : Thread nD τ)), arg10.view.loc (c : Thread nD τ) ↦[arg10.view.set]{fullShare} f) ∗ (∃ f : Buf (Elt Ideal) (arg11.view.loc (c : Thread nD τ)), arg11.view.loc (c : Thread nD τ) ↦[arg11.view.set]{fullShare} f) ∗ (∃ f : Buf (Elt Ideal) (arg12.view.loc (c : Thread nD τ)), arg12.view.loc (c : Thread nD τ) ↦[arg12.view.set]{fullShare} f) ∗ (∃ f : Buf (Elt Ideal) (arg13.view.loc (c : Thread nD τ)), arg13.view.loc (c : Thread nD τ) ↦[arg13.view.set]{fullShare} f) ∗ (∃ f : Buf (Elt Ideal) (arg14.view.loc (c : Thread nD τ)), arg14.view.loc (c : Thread nD τ) ↦[arg14.view.set]{fullShare} f) ∗ (∃ f : Buf (Elt Ideal) (arg15.view.loc (c : Thread nD τ)), arg15.view.loc (c : Thread nD τ) ↦[arg15.view.set]{fullShare} f) ∗ (∃ f : Buf (Elt Ideal) (arg16.view.loc (c : Thread nD τ)), arg16.view.loc (c : Thread nD τ) ↦[arg16.view.set]{fullShare} f) ∗ (∃ f : Buf (Elt Ideal) (arg17.view.loc (c : Thread nD τ)), arg17.view.loc (c : Thread nD τ) ↦[arg17.view.set]{fullShare} f) ∗ (∃ f : Buf (Elt Ideal) (arg18.view.loc (c : Thread nD τ)), arg18.view.loc (c : Thread nD τ) ↦[arg18.view.set]{fullShare} f) ∗ (∃ f : Buf (Elt Ideal) (arg19.view.loc (c : Thread nD τ)), arg19.view.loc (c : Thread nD τ) ↦[arg19.view.set]{fullShare} f))

/-- Loop 1 keeps the buffers. -/
@[sl_loop] def loopInv_k0_t1 (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (init : BitVec 32)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) :
    Cert.KernelIdeal.Gen.LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 k0_pay213 init where
  inv := fun _ _ => Bufs c arg2 arg3 arg4 arg5 arg6 arg7 arg8 arg9 arg10 arg11 arg12 arg13 arg14 arg15 arg16 arg17 arg18 arg19 f2 f3 f4 f5 f6 f7
  step := fun k acc => by
    unfold Bufs
    iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    unfold k0_t1_body
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Safe

end
-- ==== Proof.Offsets.lean ====
/-
  Where each load and store of the backward kernel starts, as numbers of the grid point and the trip.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

namespace Cert.KernelIdeal.Value

open Cert.KernelIdeal Cert.KernelIdeal.Gen
open Idealize.ShloMosaic

theorem off1_eq : ∀ i : grid0.Coords, k0_off1 i = ![0, 512 * (4 * (i 1).val), 0] := by decide +kernel
theorem off2_eq : ∀ i : grid0.Coords, k0_off2 i = ![0, 512 * (4 * (i 1).val) + 256, 0] := by decide +kernel
theorem off3_eq : ∀ i : grid0.Coords, k0_off3 i = ![0, 512 * (4 * (i 1).val + 1), 0] := by decide +kernel
theorem off4_eq : ∀ i : grid0.Coords, k0_off4 i = ![0, 512 * (4 * (i 1).val + 1) + 256, 0] := by decide +kernel
theorem off5_eq : ∀ i : grid0.Coords, k0_off5 i = ![0, 0, 512 * (4 * (i 1).val)] := by decide +kernel
theorem off6_eq : ∀ i : grid0.Coords, k0_off6 i = ![0, 0, 512 * (4 * (i 1).val) + 256] := by decide +kernel
theorem off7_1_eq : ∀ i : grid0.Coords, k0_off7 i 1#32 = ![0, 512 * (4 * (i 1).val + 2), 0] := by decide +kernel
theorem off7_2_eq : ∀ i : grid0.Coords, k0_off7 i 2#32 = ![0, 512 * (4 * (i 1).val + 3), 0] := by decide +kernel
theorem off7_3_eq : ∀ i : grid0.Coords, k0_off7 i 3#32 = ![0, 512 * min (4 * (i 1).val + 4) 15, 0] := by decide +kernel
theorem off8_1_eq : ∀ i : grid0.Coords, k0_off8 i 1#32 = ![0, 512 * (4 * (i 1).val + 2) + 256, 0] := by decide +kernel
theorem off8_2_eq : ∀ i : grid0.Coords, k0_off8 i 2#32 = ![0, 512 * (4 * (i 1).val + 3) + 256, 0] := by decide +kernel
theorem off9_1_eq : ∀ i : grid0.Coords, k0_off9 i 1#32 = ![0, 512 * (4 * (i 1).val), 0] := by decide +kernel
theorem off9_2_eq : ∀ i : grid0.Coords, k0_off9 i 2#32 = ![0, 512 * (4 * (i 1).val + 1), 0] := by decide +kernel
theorem off9_3_eq : ∀ i : grid0.Coords, k0_off9 i 3#32 = ![0, 512 * (4 * (i 1).val + 2), 0] := by decide +kernel
theorem off10_1_eq : ∀ i : grid0.Coords, k0_off10 i 1#32 = ![0, 0, 512 * (4 * (i 1).val)] := by decide +kernel
theorem off10_2_eq : ∀ i : grid0.Coords, k0_off10 i 2#32 = ![0, 0, 512 * (4 * (i 1).val + 1)] := by decide +kernel
theorem off10_3_eq : ∀ i : grid0.Coords, k0_off10 i 3#32 = ![0, 0, 512 * (4 * (i 1).val + 2)] := by decide +kernel
theorem off11_1_eq : ∀ i : grid0.Coords, k0_off11 i 1#32 = ![0, 512 * (4 * (i 1).val) + 256, 0] := by decide +kernel
theorem off11_2_eq : ∀ i : grid0.Coords, k0_off11 i 2#32 = ![0, 512 * (4 * (i 1).val + 1) + 256, 0] := by decide +kernel
theorem off11_3_eq : ∀ i : grid0.Coords, k0_off11 i 3#32 = ![0, 512 * (4 * (i 1).val + 2) + 256, 0] := by decide +kernel
theorem off12_1_eq : ∀ i : grid0.Coords, k0_off12 i 1#32 = ![0, 0, 512 * (4 * (i 1).val) + 256] := by decide +kernel
theorem off12_2_eq : ∀ i : grid0.Coords, k0_off12 i 2#32 = ![0, 0, 512 * (4 * (i 1).val + 1) + 256] := by decide +kernel
theorem off12_3_eq : ∀ i : grid0.Coords, k0_off12 i 3#32 = ![0, 0, 512 * (4 * (i 1).val + 2) + 256] := by decide +kernel
theorem off13_1_eq : ∀ i : grid0.Coords, k0_off13 i 1#32 = ![0, 0, 512 * (4 * (i 1).val + 1)] := by decide +kernel
theorem off13_2_eq : ∀ i : grid0.Coords, k0_off13 i 2#32 = ![0, 0, 512 * (4 * (i 1).val + 2)] := by decide +kernel
theorem off13_3_eq : ∀ i : grid0.Coords, k0_off13 i 3#32 = ![0, 0, 512 * (4 * (i 1).val + 3)] := by decide +kernel
theorem off14_1_eq : ∀ i : grid0.Coords, k0_off14 i 1#32 = ![0, 0, 512 * (4 * (i 1).val + 1) + 256] := by decide +kernel
theorem off14_2_eq : ∀ i : grid0.Coords, k0_off14 i 2#32 = ![0, 0, 512 * (4 * (i 1).val + 2) + 256] := by decide +kernel
theorem off14_3_eq : ∀ i : grid0.Coords, k0_off14 i 3#32 = ![0, 0, 512 * (4 * (i 1).val + 3) + 256] := by decide +kernel

theorem trips1_eq : ∀ i : grid0.Coords, (k0_t1_loop i).trips = 6 - 2 * (i 1).val := by decide +kernel
theorem trips2_eq : ∀ i : grid0.Coords, (k0_t2_loop i).trips = 0 := by decide +kernel

theorem off15_eq : ∀ (i : grid0.Coords) (k : Fin (k0_t1_loop i).trips),
    k0_off15 i k = ![0, 512 * (4 * (i 1).val + 5 + 2 * k.val), 0] := by decide +kernel
theorem off16_eq : ∀ (i : grid0.Coords) (k : Fin (k0_t1_loop i).trips),
    k0_off16 i k = ![0, 512 * (4 * (i 1).val + 3 + 2 * k.val), 0] := by decide +kernel
theorem off17_eq : ∀ (i : grid0.Coords) (k : Fin (k0_t1_loop i).trips),
    k0_off17 i k = ![0, 0, 512 * (4 * (i 1).val + 3 + 2 * k.val)] := by decide +kernel
theorem off18_eq : ∀ (i : grid0.Coords) (k : Fin (k0_t1_loop i).trips),
    k0_off18 i k = ![0, 0, 512 * (4 * (i 1).val + 4 + 2 * k.val)] := by decide +kernel
theorem off19_eq : ∀ (i : grid0.Coords) (k : Fin (k0_t1_loop i).trips),
    k0_off19 i k = ![0, 512 * min (4 * (i 1).val + 6 + 2 * k.val) 15, 0] := by decide +kernel
theorem off20_eq : ∀ (i : grid0.Coords) (k : Fin (k0_t1_loop i).trips),
    k0_off20 i k = ![0, 512 * (4 * (i 1).val + 4 + 2 * k.val), 0] := by decide +kernel
theorem off21_eq : ∀ (i : grid0.Coords) (k : Fin (k0_t1_loop i).trips),
    k0_off21 i k = ![0, 0, 512 * (4 * (i 1).val + 4 + 2 * k.val)] := by decide +kernel
theorem off22_eq : ∀ (i : grid0.Coords) (k : Fin (k0_t1_loop i).trips),
    k0_off22 i k = ![0, 0, 512 * (4 * (i 1).val + 5 + 2 * k.val)] := by decide +kernel

end Cert.KernelIdeal.Value
-- ==== Proof.IdealSafeBody.lean ====
/-
  One grid point of the compiled backward kernel: its eighteen buffers in, its eighteen buffers out.
-/
module

public import proofs.«01_k».proof.Proof.IdealSafeLoops
public import proofs.«01_k».proof.Proof.Offsets

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body runs from the buffers to the buffers, the inputs as they were. -/
theorem body_run (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) :
    Bufs c arg2 arg3 arg4 arg5 arg6 arg7 arg8 arg9 arg10 arg11 arg12 arg13 arg14 arg15 arg16 arg17 arg18 arg19 f2 f3 f4 f5 f6 f7
      ⊢ wp frame (wpE (defs₀ (F := Ideal)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Bufs c arg2 arg3 arg4 arg5 arg6 arg7 arg8 arg9 arg10 arg11 arg12 arg13 arg14 arg15 arg16 arg17 arg18 arg19 f2 f3 f4 f5 f6 f7) := by
  rw [cc0_attn_bwd_eq_skeleton]; unfold cc0_attn_bwd_skel
  unfold Bufs
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  have htr := Value.trips2_eq i
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The same in terms of what the buffers hold read as arrays, and for any continuation. -/
theorem body_run_then (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole)
    (x2 : Vec Ideal S1x8192x128 .bf16) (x3 : Vec Ideal S1x2048x128 .bf16) (x4 : Vec Ideal S1x2048x128 .bf16) (x5 : Vec Ideal S1x8192x128 .bf16) (x6 : Vec Ideal S1x1x8192 .f32) (x7 : Vec Ideal S1x1x8192 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  iapply wp_wand_r
  isplitl [H2 H3 H4 H5 H6 H7 H8 H9 H10 H11 H12 H13 H14 H15 H16 H17 H18 H19]
  · iapply (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7)
    unfold Bufs
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  iintro %_ HB
  unfold Bufs
  icases HB with ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  iapply Hk
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists _, f8; isplitr
    swap; · iexact H8
    ipureintro; rfl
  isplitl [H9]
  · iexists _, f9; isplitr
    swap; · iexact H9
    ipureintro; rfl
  isplitl [H10]
  · iexists _, f10; isplitr
    swap; · iexact H10
    ipureintro; rfl
  isplitl [H11]
  · iexists _, f11; isplitr
    swap; · iexact H11
    ipureintro; rfl
  isplitl [H12]
  · iexists _, f12; isplitr
    swap; · iexact H12
    ipureintro; rfl
  isplitl [H13]
  · iexists _, f13; isplitr
    swap; · iexact H13
    ipureintro; rfl
  isplitl [H14]
  · iexists _, f14; isplitr
    swap; · iexact H14
    ipureintro; rfl
  isplitl [H15]
  · iexists _, f15; isplitr
    swap; · iexact H15
    ipureintro; rfl
  isplitl [H16]
  · iexists _, f16; isplitr
    swap; · iexact H16
    ipureintro; rfl
  isplitl [H17]
  · iexists _, f17; isplitr
    swap; · iexact H17
    ipureintro; rfl
  isplitl [H18]
  · iexists _, f18; isplitr
    swap; · iexact H18
    ipureintro; rfl
  iexists _, f19; isplitr
  swap; · iexact H19
  ipureintro; rfl

end Cert.KernelIdeal.Safe

end
-- ==== Proof.IdealSafeRun.lean ====
/-
  The idealized program's run: the host lines, the thirty-two grid points of the backward kernel, the host lines after it.

  The six input windows hold their blocks at every point, before and after the body. Of the three result windows nothing is
  said. Every execution ends with the four arguments as they were and with every counter at zero.
-/
module

public import proofs.«01_k».proof.Proof.IdealSafeBody
public import Idealize.ShloMosaic.Lib.Pipeline.Frame

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The three result windows are the ones of which nothing is said. -/
def forgets : Fin 9 → Bool := fun w => decide (6 ≤ w.val)

/-- The proof data: arrays as the region finds them, each input's buffer at its block after the body. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What the body is called with at point `t`: the inputs' buffers at their blocks, the results' at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- What it returns: the same, the inputs' buffers at what the proof data leaves in them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

/-- The class invariant opened: the nine scratch tiles at some contents and the generator register. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run_then c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) (iblk m c 3 t) (iblk m c 4 t) (iblk m c 5 t) _)
  isplitl [HS0 HS1 HS2 HS3 HS4 HS5 HS6 HS7 HS8 H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexists d7; iexact H7
    isplitl [H8]; · iexists d8; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The body obligation, the results forgotten. -/
theorem body_obligation (c : Dev nD) :
    BodyObligation (dats m 0 c) (defs₀ (F := Ideal)) Variants.none () Set.univ forgets := fun t => by
  rw [bigSep_W0, bigSep_W0, defs₀_row]
  exact triple_restated (sound_body m c t) rfl .rfl fun _ => .rfl

/-- What the host lines after the region write. -/
def tail : Finset (Ref sig .tc) := {main_v53, main_v54, main_cst_9, main_v55, main_v56, main_v57, main_v58, main_v59, main_v60}

theorem tail_writes : ∀ ops ∈ ([hostOps1] : List (List (HloOp τ sig (Elt Ideal)))), ∀ op ∈ ops, ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    simp only [StableHlo.nullary_writes, StableHlo.unary_writes, StableHlo.binary_writes, Finset.mem_singleton] at hb
    obtain rfl := Proc.devRef_injective .tc hb
    decide

set_option backward.isDefEq.respectTransparency.types false in
/-- The launch: every execution ends, every buffer that is no window's array and that no later host line writes is as the
    region found it, every counter at zero. -/
theorem run_main :
    θ_run defs (onTc (τ := τ) (main (F := Ideal))) (s₀ m ρ)
      (fun r => Pipeline.RDat.FramePostR (cfgs 0) (fun c => (dats m 0 c).toRForget forgets) tail (V m) r ∧ r.2.sem = fun _ => 0) :=
  Pipeline.θ_run_frame_around_T_forget (Q' := _) cfgs (dats m) (0 : Fin 1) launch0 defs₀ Variants.none forgets tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the arguments end as they were, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c), ((h.1 c).2 main_arg3 (by decide)).trans (V_main_arg3 m c)⟩, h.2⟩) (run_main m ρ)

end Cert.KernelIdeal.Safe

end
-- ==== Proof.Finite.lean ====
/-
  What the precondition says: the four arrays are arrays of reals.
-/
module

public import proofs.«01_k».proof.Pre_finite
public import Idealize.ShloMosaic.Lib.ReduceAll
public import Idealize.ShloMosaic.Lib.IdealHost

@[expose] public section

noncomputable section

namespace Cert.FiniteArgs

open Cert.Pre_finite Idealize.ShloMosaic

theorem facts : Cert.Pre_finite.Facts where
  bcast_S_S8192x8x96 := by decide
  reducesTo_S8192x8x96_S_d0_1_2 := by decide
  h_S_ := by decide
  bcast_S_S8192x8x64 := by decide
  reducesTo_S8192x8x64_S_d0_1_2 := by decide

theorem top_bits : Ideal.ofBits .f32 0x7F800000#32 = ⊤ := by
  simp [Ideal.ofBits, Ideal.ieee]

/-- A value below infinity in absolute value is a real. -/
theorem real_of (x : EReal) (h : Ideal.cmp .olt (max x (-x)) (Ideal.ofBits .f32 0x7F800000#32) = 1#1) : ((x.toReal : ℝ) : EReal) = x := by
  rw [top_bits] at h
  have hlt : max x (-x) < ⊤ := by
    by_contra hn
    simp [Ideal.cmp, hn] at h
  rw [max_lt_iff] at hlt
  refine EReal.coe_toReal hlt.1.ne fun e => ?_
  rw [e] at hlt
  exact absurd hlt.2 (by simp)

/-- An array whose entries all pass the comparison with infinity is an array of reals. -/
theorem reals {s : Shape} (x y : FVec Ideal s .f32) (hy : ∀ i, y i = Ideal.ofBits .f32 0x7F800000#32)
    (h : ∀ i, cmpf .olt (Host.absf x) y i = 1#1) : ∃ r : s.Idx → ℝ, x = fun i => ((r i : ℝ) : EReal) := by
  refine ⟨fun i => (x i).toReal, funext fun i => (real_of (x i) ?_).symm⟩
  rw [← hy i]
  exact h i

instance : Subsingleton S_.Idx := ⟨fun a b => funext fun i => i.elim0⟩

variable [Cert.Pre_finite.Facts]

/-- The four arrays of which the precondition holds are arrays of reals. -/
theorem args {q k : FVec Ideal S8192x8x96 .f32} {v t : FVec Ideal S8192x8x64 .f32} (h : fn (F := Ideal) q k v t = fun _ => 1#1) :
    (∃ r : S8192x8x96.Idx → ℝ, q = fun i => ((r i : ℝ) : EReal)) ∧ (∃ r : S8192x8x96.Idx → ℝ, k = fun i => ((r i : ℝ) : EReal))
      ∧ (∃ r : S8192x8x64.Idx → ℝ, v = fun i => ((r i : ℝ) : EReal)) ∧ (∃ r : S8192x8x64.Idx → ℝ, t = fun i => ((r i : ℝ) : EReal)) := by
  have h1 := congrFun h (fun a => a.elim0)
  unfold fn fn_part1 at h1
  obtain ⟨h2, ht⟩ := IntOp.andi_eq_one.mp h1
  obtain ⟨h3, hv⟩ := IntOp.andi_eq_one.mp h2
  obtain ⟨hq, hk⟩ := IntOp.andi_eq_one.mp h3
  exact ⟨reals q _ (fun _ => rfl) fun i => Host.reduce_andi_all _ _ _ _ _ hq i, reals k _ (fun _ => rfl) fun i => Host.reduce_andi_all _ _ _ _ _ hk i,
    reals v _ (fun _ => rfl) fun i => Host.reduce_andi_all _ _ _ _ _ hv i, reals t _ (fun _ => rfl) fun i => Host.reduce_andi_all _ _ _ _ _ ht i⟩

end Cert.FiniteArgs

end
-- ==== Proof.HostIn.lean ====
/-
  The six arrays the host lines prepare for the kernel, as terms of the four arguments.
-/
module

public import proofs.«01_k».proof.Proof.Gen.KernelIdeal.Frame
public import proofs.«01_k».proof.Proof.Gen.ReferenceIdeal.Read

@[expose] public section

set_option maxRecDepth 16384

noncomputable section

namespace Cert.KernelIdeal.HostIn

open Cert.KernelIdeal Cert.KernelIdeal.Gen
open Idealize.ShloMosaic Idealize.ShloMosaic.TcCoe Idealize.SL.Sem Idealize.ShloMosaic.StableHlo

/-- The masked scores: minus infinity above the diagonal. -/
def scores (q k : FVec Ideal S8192x8x96 .f32) : FVec Ideal S8x8192x8192 .f32 := ReferenceIdeal.Read.val_main_v10_0 (F := Ideal) q k
/-- The largest score of a row. -/
def top (q k : FVec Ideal S8192x8x96 .f32) : FVec Ideal S8x8192 .f32 := ReferenceIdeal.Read.val_main_v11 (F := Ideal) q k
def topCol (q k : FVec Ideal S8192x8x96 .f32) : FVec Ideal S8x8192x1 .f32 :=
  broadcastInDim S8x8192x1 ![0, 1] bcast_S8x8192_S8x8192x1_0_1 (top q k)
/-- The exponentials of the scores less the row's largest. -/
def expo (q k : FVec Ideal S8192x8x96 .f32) : FVec Ideal S8x8192x8192 .f32 :=
  Host.exp (subf (scores q k) (broadcastInDim S8x8192x8192 ![0, 1, 2] bcast_S8x8192x1_S8x8192x8192_0_1_2 (topCol q k)))
/-- The sum of a row's exponentials. -/
def mass (q k : FVec Ideal S8192x8x96 .f32) : FVec Ideal S8x8192 .f32 :=
  Host.reduceAdd (expo q k) (constant S_ .f32 0x00000000#32) reducesTo_S8x8192x8192_S8x8192_d2 h_S_
def massCol (q k : FVec Ideal S8192x8x96 .f32) : FVec Ideal S8x8192x1 .f32 :=
  broadcastInDim S8x8192x1 ![0, 1] bcast_S8x8192_S8x8192x1_0_1 (mass q k)
/-- The probabilities. -/
def probs (q k : FVec Ideal S8192x8x96 .f32) : FVec Ideal S8x8192x8192 .f32 :=
  Host.divf (expo q k) (broadcastInDim S8x8192x8192 ![0, 1, 2] bcast_S8x8192x1_S8x8192x8192_0_1_2 (massCol q k))
/-- The attention's output. -/
def mixed (q k : FVec Ideal S8192x8x96 .f32) (v : FVec Ideal S8192x8x64 .f32) : FVec Ideal S8x64x8192 .f32 :=
  Host.dotGeneral dot_S8192x8x64_S8x8192x8192_S8x64x8192_0_2_2_1_1_0 none v (probs q k)
def mixedT (q k : FVec Ideal S8192x8x96 .f32) (v : FVec Ideal S8192x8x64 .f32) : FVec Ideal S8192x8x64 .f32 :=
  transpose S8192x8x64 [2, 0, 1] (mixed q k v) transposes_S8x64x8192_S8192x8x64_2_0_1
/-- The logarithm of two. -/
def logTwo : FVec Ideal S_ .f32 := Host.log (constant S_ .f32 0x40000000#32)
def logMass (q k : FVec Ideal S8192x8x96 .f32) : FVec Ideal S8x8192x1 .f32 :=
  Host.divf (addf (topCol q k) (Host.log (massCol q k))) (broadcastInDim S8x8192x1 ![] bcast_S_S8x8192x1 logTwo)

/-- The logarithm to base two of a row's mass: the fifth array. -/
def lse (q k : FVec Ideal S8192x8x96 .f32) : FVec Ideal S8x1x8192 .f32 :=
  shapeCast S8x1x8192 (logMass q k) shapeCasts_S8x8192x1_S8x1x8192
/-- The padding's value. -/
def zeroPad : FVec Ideal S_ .f32 := sitofp .f32 (constantI S_ 32 0#32)
/-- The factor of the queries. -/
def factor : FVec Ideal S_ .f32 := Host.divf (constant S_ .f32 0x3DD105EC#32) logTwo
/-- The queries by head, padded and scaled: the first array. -/
def qp (q : FVec Ideal S8192x8x96 .f32) : FVec Ideal S8x8192x128 .bf16 :=
  truncf .bf16 (mulf (pad S8x8192x128 ![0, 0, 0] ![0, 0, 32] ![0, 0, 0]
      (transpose S8x8192x96 [1, 0, 2] q transposes_S8192x8x96_S8x8192x96_1_0_2) zeroPad
      pads_S8x8192x96_S8x8192x128_000_000_0320 h_S_)
    (broadcastInDim S8x8192x128 ![] bcast_S_S8x8192x128 factor)) bitsLt_bf16_f32
/-- The keys by head, padded: the second array. -/
def kp (k : FVec Ideal S8192x8x96 .f32) : FVec Ideal S8x8192x128 .bf16 :=
  truncf .bf16 (pad S8x8192x128 ![0, 0, 0] ![0, 0, 32] ![0, 0, 0]
      (transpose S8x8192x96 [1, 0, 2] k transposes_S8192x8x96_S8x8192x96_1_0_2) zeroPad
      pads_S8x8192x96_S8x8192x128_000_000_0320 h_S_) bitsLt_bf16_f32
/-- The first 64 channels of the keys beside the values: the third array. -/
def vp (k : FVec Ideal S8192x8x96 .f32) (v : FVec Ideal S8192x8x64 .f32) : FVec Ideal S8x8192x128 .bf16 :=
  truncf .bf16 (concatenate S8x8192x128 2
    [⟨S8x8192x64, extractStridedSlice S8x8192x64 ![0, 0, 0] (transpose S8x8192x96 [1, 0, 2] k transposes_S8192x8x96_S8x8192x96_1_0_2)
        slices_S8x8192x96_S8x8192x64_0_0_0⟩,
      ⟨S8x8192x64, transpose S8x8192x64 [1, 0, 2] v transposes_S8192x8x64_S8x8192x64_1_0_2⟩]
    concatenates_S8x8192x64_S8x8192x64_S8x8192x128_d2) bitsLt_bf16_f32
/-- The output gradients by head behind 64 zeros: the fourth array. -/
def op (t : FVec Ideal S8192x8x64 .f32) : FVec Ideal S8x8192x128 .bf16 :=
  truncf .bf16 (pad S8x8192x128 ![0, 0, 64] ![0, 0, 0] ![0, 0, 0]
      (transpose S8x8192x64 [1, 0, 2] t transposes_S8192x8x64_S8x8192x64_1_0_2) zeroPad
      pads_S8x8192x64_S8x8192x128_000_000_6400 h_S_) bitsLt_bf16_f32
def dotRows (q k : FVec Ideal S8192x8x96 .f32) (v t : FVec Ideal S8192x8x64 .f32) : FVec Ideal S8x8192 .f32 :=
  Host.reduceAdd (transpose S8x8192x64 [1, 0, 2] (mulf t (mixedT q k v)) transposes_S8192x8x64_S8x8192x64_1_0_2)
    (constant S_ .f32 0x00000000#32) reducesTo_S8x8192x64_S8x8192_d2 h_S_
/-- The output gradient times the output, summed over a row: the sixth array. -/
def dp (q k : FVec Ideal S8192x8x96 .f32) (v t : FVec Ideal S8192x8x64 .f32) : FVec Ideal S8x1x8192 .f32 :=
  shapeCast S8x1x8192 (dotRows q k v t) shapeCasts_S8x8192_S8x1x8192

variable (m : (ℓ : Loc nD τ sig) → Buf (Elt Ideal) ℓ) (c : Dev nD)

/-- The four arguments on a device. -/
abbrev argQ : FVec Ideal S8192x8x96 .f32 := m ((c : Thread nD τ).loc main_arg0)
abbrev argK : FVec Ideal S8192x8x96 .f32 := m ((c : Thread nD τ).loc main_arg1)
abbrev argV : FVec Ideal S8192x8x64 .f32 := m ((c : Thread nD τ).loc main_arg2)
abbrev argT : FVec Ideal S8192x8x64 .f32 := m ((c : Thread nD τ).loc main_arg3)

theorem V_q : (V m c main_v36 : FVec Ideal S8x8192x128 .bf16) = qp (argQ m c) := by
  show StableHlo.after (List.flatten [hostOps0, hostOps0_1, hostOps0_2, hostOps0_3, hostOps0_4, hostOps0_5, hostOps0_6, hostOps0_7, hostOps0_8]) (fun b => m (c, b)) (Proc.devRef .tc main_v36) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

theorem V_k : (V m c main_v39 : FVec Ideal S8x8192x128 .bf16) = kp (argK m c) := by
  show StableHlo.after (List.flatten [hostOps0, hostOps0_1, hostOps0_2, hostOps0_3, hostOps0_4, hostOps0_5, hostOps0_6, hostOps0_7, hostOps0_8]) (fun b => m (c, b)) (Proc.devRef .tc main_v39) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

theorem V_v : (V m c main_v44 : FVec Ideal S8x8192x128 .bf16) = vp (argK m c) (argV m c) := by
  show StableHlo.after (List.flatten [hostOps0, hostOps0_1, hostOps0_2, hostOps0_3, hostOps0_4, hostOps0_5, hostOps0_6, hostOps0_7, hostOps0_8]) (fun b => m (c, b)) (Proc.devRef .tc main_v44) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

theorem V_o : (V m c main_v47 : FVec Ideal S8x8192x128 .bf16) = op (argT m c) := by
  show StableHlo.after (List.flatten [hostOps0, hostOps0_1, hostOps0_2, hostOps0_3, hostOps0_4, hostOps0_5, hostOps0_6, hostOps0_7, hostOps0_8]) (fun b => m (c, b)) (Proc.devRef .tc main_v47) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

theorem V_l : (V m c main_v28 : FVec Ideal S8x1x8192 .f32) = lse (argQ m c) (argK m c) := by
  show StableHlo.after (List.flatten [hostOps0, hostOps0_1, hostOps0_2, hostOps0_3, hostOps0_4, hostOps0_5, hostOps0_6, hostOps0_7, hostOps0_8]) (fun b => m (c, b)) (Proc.devRef .tc main_v28) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

theorem V_d : (V m c main_v51 : FVec Ideal S8x1x8192 .f32) = dp (argQ m c) (argK m c) (argV m c) (argT m c) := by
  show StableHlo.after (List.flatten [hostOps0, hostOps0_1, hostOps0_2, hostOps0_3, hostOps0_4, hostOps0_5, hostOps0_6, hostOps0_7, hostOps0_8]) (fun b => m (c, b)) (Proc.devRef .tc main_v51) = _
  simp only [hostOps0, hostOps0_1, hostOps0_2, hostOps0_3, hostOps0_4, hostOps0_5, hostOps0_6, hostOps0_7, hostOps0_8, List.flatten_cons, List.flatten_nil, List.append_nil, List.cons_append,
      List.nil_append, TRef.nullary, TRef.binary, TRef.ternary, TRef.unary, TRef.toBuf, TRef.ofBuf, cast_eq]
  after_results_simp
  rfl

end Cert.KernelIdeal.HostIn

end
-- ==== Proof.Model.lean ====
/-
  The backward pass of one head and one block of keys, said by sums over numbers: the scores, the probabilities, the
  gradients of the scores, and the three gradients accumulated over the first `n` blocks of queries.
-/
module

public import Idealize.ShloMosaic.Lib.Pointwise

@[expose] public section

noncomputable section

namespace Cert.Model

open Idealize.ShloMosaic
open scoped BigOperators

/-- What the kernel sees at one grid point: queries, keys, values, output gradients, the logarithms of the row sums, the
  row sums of the gradient, and the number of the first block of 512 queries that sees the 2048 keys. -/
structure Data where
  Q : ℕ → ℕ → EReal
  K : ℕ → ℕ → EReal
  V : ℕ → ℕ → EReal
  O : ℕ → ℕ → EReal
  L : ℕ → EReal
  D : ℕ → EReal
  b0 : ℕ

variable (m : Data)

/-- The scores of query block `i`: keys in rows, queries in columns. -/
def Data.S (i a b : ℕ) : EReal := ∑ x ∈ Finset.range 128, m.K a x * m.Q (512 * i + b) x

/-- The gradient of the probabilities. -/
def Data.E (i a b : ℕ) : EReal := ∑ x ∈ Finset.range 128, m.V a x * m.O (512 * i + b) x

/-- The probabilities: a query sees the keys up to its own position. -/
def Data.P (i a b : ℕ) : EReal :=
  if 512 * m.b0 + a ≤ 512 * i + b then Ideal.exp2 (m.S i a b - m.L (512 * i + b)) else 0

/-- The gradient of the scores. -/
def Data.G (i a b : ℕ) : EReal := m.P i a b * (m.E i a b - m.D (512 * i + b))

/-- Rows accumulated over `n` blocks of queries from `b0` on. -/
def accR (T : ℕ → ℕ → ℕ → EReal) (X : ℕ → ℕ → EReal) (b0 n a d : ℕ) : EReal :=
  ∑ u ∈ Finset.range n, ∑ x ∈ Finset.range 512, T (b0 + u) a x * X (512 * (b0 + u) + x) d

def Data.dv (n a d : ℕ) : EReal := accR m.P m.O m.b0 n a d
def Data.dk (n a d : ℕ) : EReal := accR m.G m.Q m.b0 n a d

/-- One block's share of the gradient of the queries, from the first `r` keys. -/
def Data.dqB (i r d q : ℕ) : EReal := ∑ a ∈ Finset.range r, m.K a d * m.G i a (q - 512 * i)

/-- The gradient of the queries, transposed, after `n` blocks of queries, over what was there. -/
def Data.dq (X : ℕ → ℕ → EReal) (n d q : ℕ) : EReal :=
  X d q + ∑ u ∈ Finset.range n,
    if 512 * (m.b0 + u) ≤ q ∧ q < 512 * (m.b0 + u) + 512 then m.dqB (m.b0 + u) 2048 d q else 0

theorem Data.P_zero {i a b : ℕ} (h : ¬ 512 * m.b0 + a ≤ 512 * i + b) : m.P i a b = 0 := if_neg h

theorem Data.G_zero {i a b : ℕ} (h : ¬ 512 * m.b0 + a ≤ 512 * i + b) : m.G i a b = 0 := by
  rw [Data.G, m.P_zero h, zero_mul]

/-- Past the diagonal nothing is masked. -/
theorem Data.P_full (i : ℕ) {a b : ℕ} (h : 512 * m.b0 + a ≤ 512 * i + b) :
    m.P i a b = Ideal.exp2 (m.S i a b - m.L (512 * i + b)) := if_pos h

theorem Data.G_full (i : ℕ) {a b : ℕ} (h : 512 * m.b0 + a ≤ 512 * i + b) :
    m.G i a b = Ideal.exp2 (m.S i a b - m.L (512 * i + b)) * (m.E i a b - m.D (512 * i + b)) := by
  rw [Data.G, m.P_full i h]

/-- A sum whose first 256 terms vanish. -/
theorem sum_half {f : ℕ → EReal} (h : ∀ x, x < 256 → f x = 0) :
    ∑ x ∈ Finset.range 512, f x = ∑ x ∈ Finset.range 256, f (256 + x) := by
  rw [show (512 : ℕ) = 256 + 256 from rfl, Finset.sum_range_add, Finset.sum_eq_zero (fun x hx => h x (Finset.mem_range.mp hx)),
    zero_add]

/-- A sum whose terms from `r` on vanish. -/
theorem sum_head {f : ℕ → EReal} {r n : ℕ} (hr : r ≤ n) (h : ∀ x, r ≤ x → x < n → f x = 0) :
    ∑ x ∈ Finset.range n, f x = ∑ x ∈ Finset.range r, f x := by
  obtain ⟨t, rfl⟩ := Nat.exists_eq_add_of_le hr
  rw [Finset.sum_range_add, Finset.sum_eq_zero (s := Finset.range t)
    (fun x hx => h (r + x) (Nat.le_add_right _ _) (Nat.add_lt_add_left (Finset.mem_range.mp hx) r)), add_zero]

theorem accR_zero (T X) (b0 a d : ℕ) : accR T X b0 0 a d = 0 := Finset.sum_range_zero _

theorem accR_succ (T X) (b0 n a d : ℕ) :
    accR T X b0 (n + 1) a d = accR T X b0 n a d + ∑ x ∈ Finset.range 512, T (b0 + n) a x * X (512 * (b0 + n) + x) d :=
  Finset.sum_range_succ _ _

/-- Rows whose first 256 columns vanish. -/
theorem accR_half (T X) (b0 n a d : ℕ) (h : ∀ x, x < 256 → T (b0 + n) a x = 0) :
    accR T X b0 (n + 1) a d = accR T X b0 n a d
      + ∑ x ∈ Finset.range 256, T (b0 + n) a (256 + x) * X (512 * (b0 + n) + (256 + x)) d := by
  rw [accR_succ, sum_half]
  intro x hx
  rw [h x hx, zero_mul]

/-- Rows that vanish. -/
theorem accR_same (T X) (b0 n a d : ℕ) (h : ∀ x, x < 512 → T (b0 + n) a x = 0) :
    accR T X b0 (n + 1) a d = accR T X b0 n a d := by
  rw [accR_succ, Finset.sum_eq_zero, add_zero]
  intro x hx
  rw [h x (Finset.mem_range.mp hx), zero_mul]

theorem Data.dv_succ (n a d : ℕ) : m.dv (n + 1) a d = m.dv n a d
    + ∑ x ∈ Finset.range 512, m.P (m.b0 + n) a x * m.O (512 * (m.b0 + n) + x) d := accR_succ _ _ _ _ _ _

theorem Data.dk_succ (n a d : ℕ) : m.dk (n + 1) a d = m.dk n a d
    + ∑ x ∈ Finset.range 512, m.G (m.b0 + n) a x * m.Q (512 * (m.b0 + n) + x) d := accR_succ _ _ _ _ _ _

theorem Data.dv_half {n a : ℕ} (d : ℕ) (h : 512 * n + 256 ≤ a) : m.dv (n + 1) a d = m.dv n a d
    + ∑ x ∈ Finset.range 256, m.P (m.b0 + n) a (256 + x) * m.O (512 * (m.b0 + n) + (256 + x)) d :=
  accR_half _ _ _ _ _ _ fun x hx => m.P_zero (by omega)

theorem Data.dk_half {n a : ℕ} (d : ℕ) (h : 512 * n + 256 ≤ a) : m.dk (n + 1) a d = m.dk n a d
    + ∑ x ∈ Finset.range 256, m.G (m.b0 + n) a (256 + x) * m.Q (512 * (m.b0 + n) + (256 + x)) d :=
  accR_half _ _ _ _ _ _ fun x hx => m.G_zero (by omega)

theorem Data.dv_same {n a : ℕ} (d : ℕ) (h : 512 * n + 512 ≤ a) : m.dv n a d = m.dv (n + 1) a d :=
  (accR_same _ _ _ _ _ _ fun x hx => m.P_zero (by omega)).symm

theorem Data.dk_same {n a : ℕ} (d : ℕ) (h : 512 * n + 512 ≤ a) : m.dk n a d = m.dk (n + 1) a d :=
  (accR_same _ _ _ _ _ _ fun x hx => m.G_zero (by omega)).symm

theorem Data.dq_zero (X) (d q : ℕ) : m.dq X 0 d q = X d q := by
  rw [Data.dq, Finset.sum_range_zero, add_zero]

theorem Data.dq_in (X) {n d q : ℕ} (h1 : 512 * (m.b0 + n) ≤ q) (h2 : q < 512 * (m.b0 + n) + 512) :
    m.dq X (n + 1) d q = m.dq X n d q + m.dqB (m.b0 + n) 2048 d q := by
  rw [Data.dq, Data.dq, Finset.sum_range_succ, if_pos ⟨h1, h2⟩, add_assoc]

theorem Data.dq_out (X) {n d q : ℕ} (h : ¬ (512 * (m.b0 + n) ≤ q ∧ q < 512 * (m.b0 + n) + 512)) :
    m.dq X n d q = m.dq X (n + 1) d q := by
  rw [Data.dq, Data.dq, Finset.sum_range_succ, if_neg h, add_zero]

/-- Before its block is reached, a query's gradient is what was there. -/
theorem Data.dq_before (X) {n d q : ℕ} (h : 512 * (m.b0 + n) ≤ q) : m.dq X n d q = X d q := by
  rw [Data.dq, Finset.sum_eq_zero, add_zero]
  intro u hu
  have := Finset.mem_range.mp hu
  exact if_neg (by omega)

/-- The keys above the last one a block sees add nothing. -/
theorem Data.dqB_head {i r d q : ℕ} (hr : r ≤ 2048) (h : q < 512 * m.b0 + r) (hq : 512 * i ≤ q) :
    m.dqB i 2048 d q = m.dqB i r d q :=
  sum_head hr fun x h1 _ => by rw [m.G_zero (by omega), mul_zero]

/-- The share of the keys, first `r`, then `256` more. -/
theorem Data.dqB_add (i r d q : ℕ) : m.dqB i (r + 256) d q
    = m.dqB i r d q + ∑ a ∈ Finset.range 256, m.K (r + a) d * m.G i (r + a) (q - 512 * i) :=
  Finset.sum_range_add _ _ _

end Cert.Model

end
-- ==== Proof.Heads.lean ====
/-
  The backward pass of all heads, by the numbers of the arrays.

  A head's keys come in four blocks of 2048. The gradient of the queries gathers the four blocks one after another; the
  gradients of the keys and of the values of a block are complete when the block is done.
-/
module

public import proofs.«01_k».proof.Proof.Model
public import Idealize.ShloMosaic.Lib.ValueIdx

@[expose] public section

noncomputable section

namespace Cert.Model

open Idealize.ShloMosaic

/-- An array of three axes read at numbers; zero outside of it. -/
def nat3 {A B C : ℕ} (x : (⟨3, ![A, B, C]⟩ : Shape).Idx → EReal) (z a b : ℕ) : EReal :=
  if h : z < A ∧ a < B ∧ b < C then x (ValueIdx.ix3 ⟨z, h.1⟩ ⟨a, h.2.1⟩ ⟨b, h.2.2⟩) else 0

theorem nat3_ix3 {A B C : ℕ} (x : (⟨3, ![A, B, C]⟩ : Shape).Idx → EReal) (z : Fin A) (a : Fin B) (b : Fin C) :
    nat3 x z a b = x (ValueIdx.ix3 z a b) := dif_pos ⟨z.2, a.2, b.2⟩

theorem nat3_lt {A B C : ℕ} (x : (⟨3, ![A, B, C]⟩ : Shape).Idx → EReal) {z a b : ℕ} (hz : z < A) (ha : a < B) (hb : b < C) :
    nat3 x z a b = x (ValueIdx.ix3 ⟨z, hz⟩ ⟨a, ha⟩ ⟨b, hb⟩) := dif_pos ⟨hz, ha, hb⟩

/-- The six inputs: per head, the queries, keys, values and output gradients by position and channel, and two numbers a query. -/
structure Heads where
  Q : ℕ → ℕ → ℕ → EReal
  K : ℕ → ℕ → ℕ → EReal
  V : ℕ → ℕ → ℕ → EReal
  O : ℕ → ℕ → ℕ → EReal
  L : ℕ → ℕ → EReal
  D : ℕ → ℕ → EReal

variable (A : Heads)

/-- What one block of a head's keys works on. -/
def Heads.pt (h j : ℕ) : Data where
  Q := A.Q h
  K := fun a b => A.K h (2048 * j + a) b
  V := fun a b => A.V h (2048 * j + a) b
  O := A.O h
  L := A.L h
  D := A.D h
  b0 := 4 * j

/-- The gradient of the queries after the first blocks of keys. -/
def Heads.dq (h : ℕ) : ℕ → ℕ → ℕ → EReal
  | 0 => fun _ _ => 0
  | j + 1 => (A.pt h j).dq (Heads.dq h j) (16 - 4 * j)

/-- A gradient of one block of keys. -/
def Heads.dk (h j a d : ℕ) : EReal := (A.pt h j).dk (16 - 4 * j) a d * ((Real.log 2 : ℝ) : EReal)
/-- A gradient of one block of values. -/
def Heads.dv (h j a d : ℕ) : EReal := (A.pt h j).dv (16 - 4 * j) a d

end Cert.Model

end
-- ==== Proof.Attn.lean ====
/-
  One head of the attention and its gradients over the reals: the mathematics both programs are compared with.
-/
module

public import proofs.«01_k».proof.Proof.Heads

@[expose] public section

noncomputable section

namespace Cert.Attn

open Finset

/-- A head: queries, keys, values and output gradients by position and channel, and the scale of the scores. -/
structure Head where
  q : ℕ → ℕ → ℝ
  k : ℕ → ℕ → ℝ
  v : ℕ → ℕ → ℝ
  t : ℕ → ℕ → ℝ
  c : ℝ

namespace Head

variable (r : Head)

/-- The score of query `x` and key `y`. -/
def score (x y : ℕ) : ℝ := (∑ d ∈ range 96, r.q x d * r.k y d) * r.c

/-- A query's largest score among the keys it sees. -/
def peak (x : ℕ) : ℝ := (range (x + 1)).sup' nonempty_range_add_one (r.score x)

/-- The exponential of a score less the largest; zero for a key the query does not see. -/
def expo (x y : ℕ) : ℝ := if y ≤ x then Real.exp (r.score x y - r.peak x) else 0

def mass (x : ℕ) : ℝ := ∑ y ∈ range 8192, r.expo x y

def prob (x y : ℕ) : ℝ := r.expo x y / r.mass x

/-- The gradient of a probability. -/
def gain (x y : ℕ) : ℝ := ∑ d ∈ range 64, r.t x d * r.v y d

def mean (x : ℕ) : ℝ := ∑ y ∈ range 8192, r.prob x y * r.gain x y

/-- The gradient of a scaled score. -/
def slope (x y : ℕ) : ℝ := r.prob x y * (r.gain x y - r.mean x)

def dq (x d : ℕ) : ℝ := ∑ y ∈ range 8192, r.slope x y * r.c * r.k y d
def dk (y d : ℕ) : ℝ := ∑ x ∈ range 8192, r.slope x y * r.c * r.q x d
def dv (y d : ℕ) : ℝ := ∑ x ∈ range 8192, r.t x d * r.prob x y

theorem expo_nonneg (x y : ℕ) : 0 ≤ r.expo x y := by
  unfold expo; split_ifs
  · exact (Real.exp_pos _).le
  · exact le_rfl

theorem mass_pos {x : ℕ} (hx : x < 8192) : 0 < r.mass x := by
  refine sum_pos' (fun y _ => r.expo_nonneg x y) ⟨0, mem_range.mpr (by omega), ?_⟩
  rw [expo, if_pos (Nat.zero_le _)]
  exact Real.exp_pos _

theorem prob_zero {x y : ℕ} (h : ¬ y ≤ x) : r.prob x y = 0 := by rw [prob, expo, if_neg h, zero_div]

theorem slope_zero {x y : ℕ} (h : ¬ y ≤ x) : r.slope x y = 0 := by rw [slope, r.prob_zero h, zero_mul]

/-- A probability as a power of two, by the logarithm to base two of the mass. -/
theorem prob_pow {x y : ℕ} (hx : x < 8192) (h : y ≤ x) :
    Real.rpow 2 (r.score x y / Real.log 2 - (r.peak x + Real.log (r.mass x)) / Real.log 2) = r.prob x y := by
  have h2 : Real.log 2 ≠ 0 := (Real.log_pos (by norm_num)).ne'
  show (2 : ℝ) ^ (_ : ℝ) = _
  rw [Real.rpow_def_of_pos (by norm_num), ← sub_div, mul_div_cancel₀ _ h2, prob, expo, if_pos h, ← sub_sub, Real.exp_sub,
    Real.exp_log (r.mass_pos hx)]

end Head

/-- A real sum among the extended reals. -/
theorem coe_sum (n : ℕ) (f : ℕ → ℝ) : ((∑ x ∈ range n, f x : ℝ) : EReal) = ∑ x ∈ range n, (f x : EReal) := by
  induction n with
  | zero => rfl
  | succ n ih => rw [sum_range_succ, sum_range_succ, EReal.coe_add, ih]

/-- A sum by blocks. -/
theorem sum_blocks {M : Type} [AddCommMonoid M] (w n : ℕ) (f : ℕ → M) :
    ∑ x ∈ range (w * n), f x = ∑ u ∈ range n, ∑ b ∈ range w, f (w * u + b) := by
  induction n with
  | zero => rfl
  | succ n ih => rw [Nat.mul_succ, sum_range_add, ih, sum_range_succ]

/-- A sum by blocks whose first blocks vanish. -/
theorem sum_late {M : Type} [AddCommMonoid M] (w b0 n : ℕ) (f : ℕ → M) (h : ∀ x, x < w * b0 → f x = 0) :
    ∑ x ∈ range (w * (b0 + n)), f x = ∑ u ∈ range n, ∑ b ∈ range w, f (w * (b0 + u) + b) := by
  rw [Nat.mul_add, sum_range_add, sum_eq_zero (fun x hx => h x (mem_range.mp hx)), zero_add, sum_blocks]
  refine sum_congr rfl fun u _ => sum_congr rfl fun b _ => ?_
  rw [Nat.mul_add, Nat.add_assoc]

end Cert.Attn

end
-- ==== Proof.Tile.lean ====
/-
  Tiles read at their coordinates: what a two-dimensional array, a block with a leading unit axis, and a buffer after a
  list of stores hold, each said by a function of two numbers.
-/
module

public import Idealize.ShloMosaic.Lib.WritesUnit
public import Idealize.ShloMosaic.Lib.MatmulPlain
public import Idealize.ShloMosaic.Lib.ValueIdx
public import Idealize.ShloMosaic.Lib.Pipeline.Value
public import Idealize.ShloMosaic.Lib.Pipeline.FrameBody
public import Idealize.ShloMosaic.Lib.Pointwise

@[expose] public section

noncomputable section

namespace Cert.Tile

open Idealize.ShloMosaic
open scoped BigOperators

/-- The array holds `F a b` at row `a` and column `b`. -/
def Is2 {α : Type} {m n : ℕ} (w : (⟨2, ![m, n]⟩ : Shape).Idx → α) (F : ℕ → ℕ → α) : Prop :=
  ∀ (a : Fin m) (b : Fin n), w (ValueIdx.ix2 a b) = F a b

/-- The same under a leading axis of one. -/
def Is3 {α : Type} {m n : ℕ} (w : (⟨3, ![1, m, n]⟩ : Shape).Idx → α) (F : ℕ → ℕ → α) : Prop :=
  ∀ (z : Fin 1) (a : Fin m) (b : Fin n), w (ValueIdx.ix3 z a b) = F a b

section Generic
variable {α : Type} {m n : ℕ}

theorem Is2.congr {w : (⟨2, ![m, n]⟩ : Shape).Idx → α} {F G : ℕ → ℕ → α} (h : Is2 w F)
    (e : ∀ a b, a < m → b < n → F a b = G a b) : Is2 w G :=
  fun a b => (h a b).trans (e a b a.2 b.2)

theorem Is3.congr {w : (⟨3, ![1, m, n]⟩ : Shape).Idx → α} {F G : ℕ → ℕ → α} (h : Is3 w F)
    (e : ∀ a b, a < m → b < n → F a b = G a b) : Is3 w G :=
  fun z a b => (h z a b).trans (e a b a.2 b.2)

theorem Is2.self {w : (⟨2, ![m, n]⟩ : Shape).Idx → α} {F : ℕ → ℕ → α} (h : Is2 w F)
    (hc : (⟨2, ![m, n]⟩ : Shape).ShapeCasts ⟨2, ![m, n]⟩) : Is2 (shapeCast ⟨2, ![m, n]⟩ w hc) F := by
  rw [shapeCast_self]; exact h

theorem Is3.drop {w : (⟨3, ![1, m, n]⟩ : Shape).Idx → α} {F : ℕ → ℕ → α} (h : Is3 w F)
    (hc : (⟨3, ![1, m, n]⟩ : Shape).ShapeCasts ⟨2, ![m, n]⟩) : Is2 (shapeCast ⟨2, ![m, n]⟩ w hc) F := by
  intro a b
  have e := shapeCast_dropUnit_apply ![m, n] w hc (ValueIdx.ix2 a b)
  refine e.trans (Eq.trans (congrArg w ?_) (h 0 a b))
  funext x
  match x with
  | ⟨0, _⟩ => rfl
  | ⟨1, _⟩ => rfl
  | ⟨2, _⟩ => rfl

theorem Is2.add {w : (⟨2, ![m, n]⟩ : Shape).Idx → α} {F : ℕ → ℕ → α} (h : Is2 w F)
    (hc : (⟨2, ![m, n]⟩ : Shape).ShapeCasts ⟨3, ![1, m, n]⟩) : Is3 (shapeCast ⟨3, ![1, m, n]⟩ w hc) F := by
  intro z a b
  have e := shapeCast_addUnit_apply ![m, n] w hc (ValueIdx.ix3 z a b)
  refine e.trans (Eq.trans (congrArg w ?_) (h a b))
  funext x
  match x with
  | ⟨0, _⟩ => rfl
  | ⟨1, _⟩ => rfl

theorem Is2.row {w : (⟨2, ![1, n]⟩ : Shape).Idx → α} {F : ℕ → ℕ → α} (h : Is2 w F)
    (hb : (⟨2, ![1, n]⟩ : Shape).Broadcasts ⟨2, ![m, n]⟩) :
    Is2 (broadcastTo ⟨2, ![m, n]⟩ w hb) (fun _ b => F 0 b) := by
  intro a b
  refine (broadcastTo_apply w hb (ValueIdx.ix2 a b) (ValueIdx.ix2 (0 : Fin 1) b) fun ax => ?_).trans (h 0 b)
  match ax with
  | ⟨0, _⟩ => simp
  | ⟨1, _⟩ =>
    by_cases hn : n = 1
    · subst hn; simp
    · simp [hn]

end Generic

/-! ## Arithmetic over the reals with infinities -/

section Arith
variable {m n : ℕ}

theorem Is2.subf {φ : FTy} {x y : FVec Ideal ⟨2, ![m, n]⟩ φ} {F G : ℕ → ℕ → EReal} (hx : Is2 x F) (hy : Is2 y G) :
    Is2 (subf x y) (fun a b => F a b - G a b) :=
  fun a b => congrArg₂ (· - ·) (hx a b) (hy a b)

theorem Is2.addf {φ : FTy} {x y : FVec Ideal ⟨2, ![m, n]⟩ φ} {F G : ℕ → ℕ → EReal} (hx : Is2 x F) (hy : Is2 y G) :
    Is2 (addf x y) (fun a b => F a b + G a b) :=
  fun a b => congrArg₂ (· + ·) (hx a b) (hy a b)

theorem Is2.mulf {φ : FTy} {x y : FVec Ideal ⟨2, ![m, n]⟩ φ} {F G : ℕ → ℕ → EReal} (hx : Is2 x F) (hy : Is2 y G) :
    Is2 (mulf x y) (fun a b => F a b * G a b) :=
  fun a b => congrArg₂ (· * ·) (hx a b) (hy a b)

theorem Is2.exp2 {φ : FTy} {x : FVec Ideal ⟨2, ![m, n]⟩ φ} {F : ℕ → ℕ → EReal} (hx : Is2 x F) :
    Is2 (exp2 x) (fun a b => Ideal.exp2 (F a b)) :=
  fun a b => congrArg Ideal.exp2 (hx a b)

theorem Is2.truncf {φ ψ : FTy} {x : FVec Ideal ⟨2, ![m, n]⟩ φ} {F : ℕ → ℕ → EReal} (hx : Is2 x F) (h : ψ.bits < φ.bits) :
    Is2 (truncf ψ x h : FVec Ideal ⟨2, ![m, n]⟩ ψ) F := fun a b => by
  rw [← hx a b]; rfl

theorem Is2.extf {φ ψ : FTy} {x : FVec Ideal ⟨2, ![m, n]⟩ φ} {F : ℕ → ℕ → EReal} (hx : Is2 x F) (h : φ.bits < ψ.bits) :
    Is2 (extf ψ x h : FVec Ideal ⟨2, ![m, n]⟩ ψ) F := fun a b => by
  rw [← hx a b]; rfl

theorem Is2.transpose {α : Type} {x : (⟨2, ![m, n]⟩ : Shape).Idx → α} {F : ℕ → ℕ → α} (hx : Is2 x F)
    (h : (⟨2, ![m, n]⟩ : Shape).Transposes [1, 0] ⟨2, ![n, m]⟩) :
    Is2 (transpose ⟨2, ![n, m]⟩ [1, 0] x h) (fun a b => F b a) := fun a b => by
  refine (transpose_apply _ x h (ValueIdx.ix2 a b) (ValueIdx.ix2 b a) fun ax => ?_).trans (hx b a)
  match ax with
  | ⟨0, _⟩ => rfl
  | ⟨1, _⟩ => rfl

/-- A small number is itself as a signed word. -/
theorem toInt_small (x : ℕ) (h : x < 2 ^ 31) : (BitVec.ofNat 32 x).toInt = (x : ℤ) := by
  have e : (BitVec.ofNat 32 x).toNat = x := by rw [BitVec.toNat_ofNat]; exact Nat.mod_eq_of_lt (by omega)
  rw [BitVec.toInt_eq_toNat_of_lt (by rw [e]; omega), e]

/-- Scores of a triangle: where the row's position is at most the column's, the exponential; elsewhere nothing. -/
theorem Is2.causal {x : FVec Ideal ⟨2, ![m, n]⟩ .f32} {F : ℕ → ℕ → EReal} (hx : Is2 x F)
    (h0 : (⟨2, ![m, n]⟩ : Shape).Iotas .tc 32 [0]) (h1 : (⟨2, ![m, n]⟩ : Shape).Iotas .tc 32 [1])
    (q k : ℕ) (hm : m ≤ 4096) (hn : n ≤ 4096) (hq : q ≤ 4096) (hk : k ≤ 4096) (z : EReal) (hz : z = 0) :
    Is2 (select (cmpi .sge (addi (iota .tc ⟨2, ![m, n]⟩ 32 [1] h1) (broadcast ⟨2, ![m, n]⟩ (BitVec.ofNat 32 q)))
        (addi (iota .tc ⟨2, ![m, n]⟩ 32 [0] h0) (broadcast ⟨2, ![m, n]⟩ (BitVec.ofNat 32 k)))) x (broadcast ⟨2, ![m, n]⟩ z))
      (fun a b => if k + a ≤ q + b then F a b else 0) := fun a b => by
  have ha := a.2
  have hb := b.2
  show Scalar.select (Scalar.cmpi .sge (iota .tc ⟨2, ![m, n]⟩ 32 [1] h1 (ValueIdx.ix2 a b) + BitVec.ofNat 32 q)
      (iota .tc ⟨2, ![m, n]⟩ 32 [0] h0 (ValueIdx.ix2 a b) + BitVec.ofNat 32 k)) (x (ValueIdx.ix2 a b)) z = _
  have e1 : iota .tc ⟨2, ![m, n]⟩ 32 [1] h1 (ValueIdx.ix2 a b) = BitVec.ofNat 32 b.val := by simp [iota]; rfl
  have e0 : iota .tc ⟨2, ![m, n]⟩ 32 [0] h0 (ValueIdx.ix2 a b) = BitVec.ofNat 32 a.val := by simp [iota]; rfl
  rw [e1, e0, hx a b, hz]
  have hcmp : (BitVec.ofNat 32 a.val + BitVec.ofNat 32 k).sle (BitVec.ofNat 32 b.val + BitVec.ofNat 32 q)
      = decide (k + a.val ≤ q + b.val) := by
    rw [← BitVec.ofNat_add, ← BitVec.ofNat_add]
    rw [BitVec.sle, toInt_small _ (by omega), toInt_small _ (by omega)]
    refine decide_eq_decide.mpr ?_
    omega
  show Scalar.select (BitVec.ofBool ((BitVec.ofNat 32 a.val + BitVec.ofNat 32 k).sle (BitVec.ofNat 32 b.val + BitVec.ofNat 32 q))) _ _ = _
  rw [hcmp]
  by_cases h : k + a.val ≤ q + b.val
  · simp [h, Scalar.select]
  · simp [h, Scalar.select]

/-- A product with the right operand's rows contracted. -/
theorem is2_nt {M K N : ℕ} {φ₁ φ₂ : FTy} {d : DotDims ⟨2, ![M, K]⟩ ⟨2, ![N, K]⟩ ⟨2, ![M, N]⟩}
    (hd : d = DotDims.transposedRhs M K N)
    {x : FVec Ideal ⟨2, ![M, K]⟩ φ₁} {y : FVec Ideal ⟨2, ![N, K]⟩ φ₂} {F G : ℕ → ℕ → EReal} (hx : Is2 x F) (hy : Is2 y G) :
    Is2 (matmul d none x y (constant ⟨2, ![M, N]⟩ .f32 0#32)) (fun a b => ∑ k ∈ Finset.range K, F a k * G b k) := fun a b => by
  subst hd
  refine (Ideal.matmul_transposedRhs_apply none x y _ a b).trans ?_
  rw [show (constant (F := Ideal) ⟨2, ![M, N]⟩ .f32 0#32) (ValueIdx.ix2 a b) = (0 : EReal) from Ideal.ofBits_zero_f32, zero_add]
  exact (Finset.sum_congr rfl fun k _ => by rw [hx a k, hy b k]).trans (Finset.sum_range fun k => F a k * G b k).symm

/-- A plain product. -/
theorem is2_nn {M K N : ℕ} {φ₁ φ₂ : FTy} {d : DotDims ⟨2, ![M, K]⟩ ⟨2, ![K, N]⟩ ⟨2, ![M, N]⟩}
    (hd : d = DotDims.plain M K N)
    {x : FVec Ideal ⟨2, ![M, K]⟩ φ₁} {y : FVec Ideal ⟨2, ![K, N]⟩ φ₂} {F G : ℕ → ℕ → EReal} (hx : Is2 x F) (hy : Is2 y G) :
    Is2 (matmul d none x y (constant ⟨2, ![M, N]⟩ .f32 0#32)) (fun a b => ∑ k ∈ Finset.range K, F a k * G k b) := fun a b => by
  subst hd
  refine (Ideal.matmul_plain_apply none x y _ a b).trans ?_
  rw [show (constant (F := Ideal) ⟨2, ![M, N]⟩ .f32 0#32) (ValueIdx.ix2 a b) = (0 : EReal) from Ideal.ofBits_zero_f32, zero_add]
  exact (Finset.sum_congr rfl fun k _ => by rw [hx a k, hy k b]).trans (Finset.sum_range fun k => F a k * G k b).symm

end Arith

/-! ## Buffers -/

section Buffers
variable {sig : RefSig} {κ : Kind} {sp : Space} {e : EltTy} {Val : EltTy → Type} {M N : ℕ}

/-- After the stores `L` the buffer holds `F a b` wherever `R a b`, whatever it held before. -/
def Cov2 (v : View sig κ sp ⟨2, ![M, N]⟩ e) (L : List (View.Piece Val ⟨2, ![M, N]⟩ e)) (R : ℕ → ℕ → Prop)
    (F : ℕ → ℕ → Val e) : Prop :=
  ∀ (f : v.ty.Contents Val) (a : Fin M) (b : Fin N), R a b → v.read Val (v.writes Val f L) (ValueIdx.ix2 a b) = F a b

/-- The same under a leading axis of one, for the contents `f` before. -/
def Cov3 (v : View sig κ sp ⟨3, ![1, M, N]⟩ e) (L : List (View.Piece Val ⟨3, ![1, M, N]⟩ e)) (R : ℕ → ℕ → Prop)
    (F : ℕ → ℕ → Val e) : Prop :=
  ∀ (f : v.ty.Contents Val) (z : Fin 1) (a : Fin M) (b : Fin N), R a b → v.read Val (v.writes Val f L) (ValueIdx.ix3 z a b) = F a b

theorem Cov2.congr {v : View sig κ sp ⟨2, ![M, N]⟩ e} {L : List (View.Piece Val ⟨2, ![M, N]⟩ e)} {R R' : ℕ → ℕ → Prop}
    {F F' : ℕ → ℕ → Val e} (h : Cov2 v L R F) (hR : ∀ a b, a < M → b < N → R' a b → R a b)
    (hF : ∀ a b, a < M → b < N → R' a b → F a b = F' a b) : Cov2 v L R' F' :=
  fun f a b hr => (h f a b (hR a b a.2 b.2 hr)).trans (hF a b a.2 b.2 hr)

theorem Cov3.congr {v : View sig κ sp ⟨3, ![1, M, N]⟩ e} {L : List (View.Piece Val ⟨3, ![1, M, N]⟩ e)} {R R' : ℕ → ℕ → Prop}
    {F F' : ℕ → ℕ → Val e} (h : Cov3 v L R F) (hR : ∀ a b, a < M → b < N → R' a b → R a b)
    (hF : ∀ a b, a < M → b < N → R' a b → F a b = F' a b) : Cov3 v L R' F' :=
  fun f z a b hr => (h f z a b (hR a b a.2 b.2 hr)).trans (hF a b a.2 b.2 hr)

theorem cov2_nil {v : View sig κ sp ⟨2, ![M, N]⟩ e} {R : ℕ → ℕ → Prop} {F : ℕ → ℕ → Val e}
    (h : ∀ a b, a < M → b < N → ¬ R a b) : Cov2 v [] R F :=
  fun _ a b hr => absurd hr (h a b a.2 b.2)

theorem cov3_nil {v : View sig κ sp ⟨3, ![1, M, N]⟩ e} {R : ℕ → ℕ → Prop} {F : ℕ → ℕ → Val e}
    (h : ∀ a b, a < M → b < N → ¬ R a b) : Cov3 v [] R F :=
  fun _ _ a b hr => absurd hr (h a b a.2 b.2)

/-- One element read after one more store. -/
theorem read_cons2 (v : View sig κ sp ⟨2, ![M, N]⟩ e) (f : v.ty.Contents Val) {off : Fin 2 → ℕ} (o0 o1 : ℕ) {m n : ℕ} {inb}
    {w : (Rect.unit (s := ⟨2, ![M, N]⟩) off (⟨2, ![m, n]⟩ : Shape).size inb).shape.Idx → Val e}
    {L : List (View.Piece Val ⟨2, ![M, N]⟩ e)} {F : ℕ → ℕ → Val e} (hoff : off = ![o0, o1])
    (hw : Is2 (m := m) (n := n) w (fun a b => F (o0 + a) (o1 + b))) (a : Fin M) (b : Fin N)
    (hL : ¬ (o0 ≤ a.val ∧ a.val < o0 + m ∧ o1 ≤ b.val ∧ b.val < o1 + n) → v.read Val (v.writes Val f L) (ValueIdx.ix2 a b) = F a b) :
    v.read Val (v.writes Val f ((⟨Rect.unit (s := ⟨2, ![M, N]⟩) off (⟨2, ![m, n]⟩ : Shape).size inb, w⟩ :
      View.Piece Val ⟨2, ![M, N]⟩ e) :: L)) (ValueIdx.ix2 a b) = F a b := by
  by_cases hin : o0 ≤ a.val ∧ a.val < o0 + m ∧ o1 ≤ b.val ∧ b.val < o1 + n
  · have hx := View.read_writes_cons_unit_of_mem v f inb w L (ValueIdx.ix2 a b)
      (ValueIdx.ix2 (⟨a.val - o0, by omega⟩ : Fin m) (⟨b.val - o1, by omega⟩ : Fin n)) hoff (fun ax => by
        match ax with
        | ⟨0, _⟩ => show a.val = o0 + (a.val - o0); omega
        | ⟨1, _⟩ => show b.val = o1 + (b.val - o1); omega)
    refine hx.trans ((hw _ _).trans ?_)
    show F (o0 + (a.val - o0)) (o1 + (b.val - o1)) = F a b
    rw [Nat.add_sub_cancel' hin.1, Nat.add_sub_cancel' hin.2.2.1]
  · refine Eq.trans ?_ (hL hin)
    by_cases h0 : o0 ≤ a.val ∧ a.val < o0 + m
    · exact View.read_writes_cons_unit_of_not_mem v f inb w L (ValueIdx.ix2 a b) hoff (1 : Fin 2) (by
        show b.val < o1 ∨ o1 + n ≤ b.val; omega)
    · exact View.read_writes_cons_unit_of_not_mem v f inb w L (ValueIdx.ix2 a b) hoff (0 : Fin 2) (by
        show a.val < o0 ∨ o0 + m ≤ a.val; omega)

theorem read_cons3 (v : View sig κ sp ⟨3, ![1, M, N]⟩ e) (f : v.ty.Contents Val) {off : Fin 3 → ℕ} (o0 o1 : ℕ) {m n : ℕ} {inb}
    {w : (Rect.unit (s := ⟨3, ![1, M, N]⟩) off (⟨3, ![1, m, n]⟩ : Shape).size inb).shape.Idx → Val e}
    {L : List (View.Piece Val ⟨3, ![1, M, N]⟩ e)} {F : ℕ → ℕ → Val e} (hoff : off = ![0, o0, o1])
    (hw : Is3 (m := m) (n := n) w (fun a b => F (o0 + a) (o1 + b))) (z : Fin 1) (a : Fin M) (b : Fin N)
    (hL : ¬ (o0 ≤ a.val ∧ a.val < o0 + m ∧ o1 ≤ b.val ∧ b.val < o1 + n) → v.read Val (v.writes Val f L) (ValueIdx.ix3 z a b) = F a b) :
    v.read Val (v.writes Val f ((⟨Rect.unit (s := ⟨3, ![1, M, N]⟩) off (⟨3, ![1, m, n]⟩ : Shape).size inb, w⟩ :
      View.Piece Val ⟨3, ![1, M, N]⟩ e) :: L)) (ValueIdx.ix3 z a b) = F a b := by
  by_cases hin : o0 ≤ a.val ∧ a.val < o0 + m ∧ o1 ≤ b.val ∧ b.val < o1 + n
  · have hx := View.read_writes_cons_unit_of_mem v f inb w L (ValueIdx.ix3 z a b)
      (ValueIdx.ix3 z (⟨a.val - o0, by omega⟩ : Fin m) (⟨b.val - o1, by omega⟩ : Fin n)) hoff (fun ax => by
        match ax with
        | ⟨0, _⟩ => show z.val = 0 + z.val; omega
        | ⟨1, _⟩ => show a.val = o0 + (a.val - o0); omega
        | ⟨2, _⟩ => show b.val = o1 + (b.val - o1); omega)
    refine hx.trans ((hw _ _ _).trans ?_)
    show F (o0 + (a.val - o0)) (o1 + (b.val - o1)) = F a b
    rw [Nat.add_sub_cancel' hin.1, Nat.add_sub_cancel' hin.2.2.1]
  · refine Eq.trans ?_ (hL hin)
    by_cases h0 : o0 ≤ a.val ∧ a.val < o0 + m
    · exact View.read_writes_cons_unit_of_not_mem v f inb w L (ValueIdx.ix3 z a b) hoff (2 : Fin 3) (by
        show b.val < o1 ∨ o1 + n ≤ b.val; omega)
    · exact View.read_writes_cons_unit_of_not_mem v f inb w L (ValueIdx.ix3 z a b) hoff (1 : Fin 3) (by
        show a.val < o0 ∨ o0 + m ≤ a.val; omega)

theorem cov2_cons {v : View sig κ sp ⟨2, ![M, N]⟩ e} {off : Fin 2 → ℕ} (o0 o1 : ℕ) {m n : ℕ} {inb}
    {w : (Rect.unit (s := ⟨2, ![M, N]⟩) off (⟨2, ![m, n]⟩ : Shape).size inb).shape.Idx → Val e}
    {L : List (View.Piece Val ⟨2, ![M, N]⟩ e)} {R R' : ℕ → ℕ → Prop} {F : ℕ → ℕ → Val e} (hoff : off = ![o0, o1])
    (hw : Is2 (m := m) (n := n) w (fun a b => F (o0 + a) (o1 + b))) (hL : Cov2 v L R' F)
    (hR : ∀ a b, a < M → b < N → R a b → ¬ (o0 ≤ a ∧ a < o0 + m ∧ o1 ≤ b ∧ b < o1 + n) → R' a b) :
    Cov2 v ((⟨Rect.unit (s := ⟨2, ![M, N]⟩) off (⟨2, ![m, n]⟩ : Shape).size inb, w⟩ : View.Piece Val ⟨2, ![M, N]⟩ e) :: L) R F :=
  fun f a b hr => read_cons2 v f o0 o1 hoff hw a b fun hn => hL f a b (hR a b a.2 b.2 hr hn)

theorem cov3_cons {v : View sig κ sp ⟨3, ![1, M, N]⟩ e} {off : Fin 3 → ℕ} (o0 o1 : ℕ) {m n : ℕ} {inb}
    {w : (Rect.unit (s := ⟨3, ![1, M, N]⟩) off (⟨3, ![1, m, n]⟩ : Shape).size inb).shape.Idx → Val e}
    {L : List (View.Piece Val ⟨3, ![1, M, N]⟩ e)} {R R' : ℕ → ℕ → Prop} {F : ℕ → ℕ → Val e} (hoff : off = ![0, o0, o1])
    (hw : Is3 (m := m) (n := n) w (fun a b => F (o0 + a) (o1 + b))) (hL : Cov3 v L R' F)
    (hR : ∀ a b, a < M → b < N → R a b → ¬ (o0 ≤ a ∧ a < o0 + m ∧ o1 ≤ b ∧ b < o1 + n) → R' a b) :
    Cov3 v ((⟨Rect.unit (s := ⟨3, ![1, M, N]⟩) off (⟨3, ![1, m, n]⟩ : Shape).size inb, w⟩ : View.Piece Val ⟨3, ![1, M, N]⟩ e) :: L) R F :=
  fun f z a b hr => read_cons3 v f o0 o1 hoff hw z a b fun hn => hL f z a b (hR a b a.2 b.2 hr hn)

/-- A store beside the region leaves what is said of it. -/
theorem cov2_skip {v : View sig κ sp ⟨2, ![M, N]⟩ e} {off : Fin 2 → ℕ} (o0 o1 : ℕ) {m n : ℕ} {inb}
    {w : (Rect.unit (s := ⟨2, ![M, N]⟩) off (⟨2, ![m, n]⟩ : Shape).size inb).shape.Idx → Val e}
    {L : List (View.Piece Val ⟨2, ![M, N]⟩ e)} {R : ℕ → ℕ → Prop} {F : ℕ → ℕ → Val e} (hoff : off = ![o0, o1])
    (hL : Cov2 v L R F) (hR : ∀ a b, a < M → b < N → R a b → (a < o0 ∨ o0 + m ≤ a) ∨ (b < o1 ∨ o1 + n ≤ b)) :
    Cov2 v ((⟨Rect.unit (s := ⟨2, ![M, N]⟩) off (⟨2, ![m, n]⟩ : Shape).size inb, w⟩ : View.Piece Val ⟨2, ![M, N]⟩ e) :: L) R F :=
  fun f a b hr => by
    refine Eq.trans ?_ (hL f a b hr)
    rcases hR a b a.2 b.2 hr with h | h
    · exact View.read_writes_cons_unit_of_not_mem v f inb w L (ValueIdx.ix2 a b) hoff (0 : Fin 2) h
    · exact View.read_writes_cons_unit_of_not_mem v f inb w L (ValueIdx.ix2 a b) hoff (1 : Fin 2) h

theorem read_skip3 (v : View sig κ sp ⟨3, ![1, M, N]⟩ e) (f : v.ty.Contents Val) {off : Fin 3 → ℕ} (o0 o1 : ℕ) {m n : ℕ} {inb}
    {w : (Rect.unit (s := ⟨3, ![1, M, N]⟩) off (⟨3, ![1, m, n]⟩ : Shape).size inb).shape.Idx → Val e}
    {L : List (View.Piece Val ⟨3, ![1, M, N]⟩ e)} {x : Val e} (hoff : off = ![0, o0, o1]) (z : Fin 1) (a : Fin M) (b : Fin N)
    (hR : (a.val < o0 ∨ o0 + m ≤ a.val) ∨ (b.val < o1 ∨ o1 + n ≤ b.val))
    (hL : v.read Val (v.writes Val f L) (ValueIdx.ix3 z a b) = x) :
    v.read Val (v.writes Val f ((⟨Rect.unit (s := ⟨3, ![1, M, N]⟩) off (⟨3, ![1, m, n]⟩ : Shape).size inb, w⟩ :
      View.Piece Val ⟨3, ![1, M, N]⟩ e) :: L)) (ValueIdx.ix3 z a b) = x := by
  refine Eq.trans ?_ hL
  rcases hR with h | h
  · exact View.read_writes_cons_unit_of_not_mem v f inb w L (ValueIdx.ix3 z a b) hoff (1 : Fin 3) h
  · exact View.read_writes_cons_unit_of_not_mem v f inb w L (ValueIdx.ix3 z a b) hoff (2 : Fin 3) h

theorem cov3_skip {v : View sig κ sp ⟨3, ![1, M, N]⟩ e} {off : Fin 3 → ℕ} (o0 o1 : ℕ) {m n : ℕ} {inb}
    {w : (Rect.unit (s := ⟨3, ![1, M, N]⟩) off (⟨3, ![1, m, n]⟩ : Shape).size inb).shape.Idx → Val e}
    {L : List (View.Piece Val ⟨3, ![1, M, N]⟩ e)} {R : ℕ → ℕ → Prop} {F : ℕ → ℕ → Val e} (hoff : off = ![0, o0, o1])
    (hL : Cov3 v L R F) (hR : ∀ a b, a < M → b < N → R a b → (a < o0 ∨ o0 + m ≤ a) ∨ (b < o1 ∨ o1 + n ≤ b)) :
    Cov3 v ((⟨Rect.unit (s := ⟨3, ![1, M, N]⟩) off (⟨3, ![1, m, n]⟩ : Shape).size inb, w⟩ : View.Piece Val ⟨3, ![1, M, N]⟩ e) :: L) R F :=
  fun f z a b hr => read_skip3 v f o0 o1 hoff z a b (hR a b a.2 b.2 hr) (hL f z a b hr)

theorem cov3_union {v : View sig κ sp ⟨3, ![1, M, N]⟩ e} {L : List (View.Piece Val ⟨3, ![1, M, N]⟩ e)} {R R' : ℕ → ℕ → Prop}
    {F : ℕ → ℕ → Val e} (h : Cov3 v L R F) (h' : Cov3 v L R' F) : Cov3 v L (fun a b => R a b ∨ R' a b) F :=
  fun f z a b hr => hr.elim (h f z a b) (h' f z a b)

/-- Of no element everything is true. -/
theorem cov2_none {v : View sig κ sp ⟨2, ![M, N]⟩ e} {L : List (View.Piece Val ⟨2, ![M, N]⟩ e)} {F : ℕ → ℕ → Val e} :
    Cov2 v L (fun _ _ => False) F := fun _ _ _ h => h.elim

theorem cov3_none {v : View sig κ sp ⟨3, ![1, M, N]⟩ e} {L : List (View.Piece Val ⟨3, ![1, M, N]⟩ e)} {F : ℕ → ℕ → Val e} :
    Cov3 v L (fun _ _ => False) F := fun _ _ _ _ h => h.elim

/-- A load of a rectangle. -/
theorem is2_readAt (v : View sig κ sp ⟨2, ![M, N]⟩ e) (f : v.ty.Contents Val) {off : Fin 2 → ℕ} (o0 o1 : ℕ) {m n : ℕ} {inb}
    {F : ℕ → ℕ → Val e} (hoff : off = ![o0, o1])
    (h : ∀ (a : Fin M) (b : Fin N), o0 ≤ a.val → a.val < o0 + m → o1 ≤ b.val → b.val < o1 + n → v.read Val f (ValueIdx.ix2 a b) = F a b) :
    Is2 (m := m) (n := n) (v.readAt Val (Rect.unit (s := ⟨2, ![M, N]⟩) off (⟨2, ![m, n]⟩ : Shape).size inb).toLoadRect f)
      (fun a b => F (o0 + a) (o1 + b)) := by
  subst hoff
  intro a b
  have h0 : o0 + m ≤ M := inb 0
  have h1 : o1 + n ≤ N := inb 1
  have ha := a.2
  have hb := b.2
  refine Eq.trans (congrArg (v.read Val f) ?_) (h ⟨o0 + a.val, by omega⟩ ⟨o1 + b.val, by omega⟩ (Nat.le_add_right _ _)
    (by show o0 + a.val < _; omega) (Nat.le_add_right _ _) (by show o1 + b.val < _; omega))
  funext ax
  match ax with
  | ⟨0, _⟩ => exact Fin.ext (show o0 + 1 * a.val = o0 + a.val by omega)
  | ⟨1, _⟩ => exact Fin.ext (show o1 + 1 * b.val = o1 + b.val by omega)

theorem is3_readAt (v : View sig κ sp ⟨3, ![1, M, N]⟩ e) (f : v.ty.Contents Val) {off : Fin 3 → ℕ} (o0 o1 : ℕ) {m n : ℕ} {inb}
    {F : ℕ → ℕ → Val e} (hoff : off = ![0, o0, o1])
    (h : ∀ (z : Fin 1) (a : Fin M) (b : Fin N), o0 ≤ a.val → a.val < o0 + m → o1 ≤ b.val → b.val < o1 + n →
      v.read Val f (ValueIdx.ix3 z a b) = F a b) :
    Is3 (m := m) (n := n) (v.readAt Val (Rect.unit (s := ⟨3, ![1, M, N]⟩) off (⟨3, ![1, m, n]⟩ : Shape).size inb).toLoadRect f)
      (fun a b => F (o0 + a) (o1 + b)) := by
  subst hoff
  intro z a b
  have h0 : o0 + m ≤ M := inb 1
  have h1 : o1 + n ≤ N := inb 2
  have ha := a.2
  have hb := b.2
  refine Eq.trans (congrArg (v.read Val f) ?_) (h z ⟨o0 + a.val, by omega⟩ ⟨o1 + b.val, by omega⟩ (Nat.le_add_right _ _)
    (by show o0 + a.val < _; omega) (Nat.le_add_right _ _) (by show o1 + b.val < _; omega))
  funext ax
  match ax with
  | ⟨0, _⟩ => exact Fin.ext (show 0 + 1 * z.val = z.val by omega)
  | ⟨1, _⟩ => exact Fin.ext (show o0 + 1 * a.val = o0 + a.val by omega)
  | ⟨2, _⟩ => exact Fin.ext (show o1 + 1 * b.val = o1 + b.val by omega)

variable [∀ e, Nonempty (Val e)]

theorem is2_readCov {v : View sig κ sp ⟨2, ![M, N]⟩ e} {L : List (View.Piece Val ⟨2, ![M, N]⟩ e)} {R : ℕ → ℕ → Prop}
    {F : ℕ → ℕ → Val e} (hL : Cov2 v L R F) {off : Fin 2 → ℕ} (o0 o1 : ℕ) {m n : ℕ} {inb} (hoff : off = ![o0, o1])
    (hR : ∀ a b, a < M → b < N → o0 ≤ a → a < o0 + m → o1 ≤ b → b < o1 + n → R a b) :
    Is2 (m := m) (n := n) (v.readCov L (Rect.unit (s := ⟨2, ![M, N]⟩) off (⟨2, ![m, n]⟩ : Shape).size inb).toLoadRect)
      (fun a b => F (o0 + a) (o1 + b)) :=
  is2_readAt v _ o0 o1 hoff fun a b h1 h2 h3 h4 => hL _ a b (hR a b a.2 b.2 h1 h2 h3 h4)

theorem is3_readCov {v : View sig κ sp ⟨3, ![1, M, N]⟩ e} {L : List (View.Piece Val ⟨3, ![1, M, N]⟩ e)} {R : ℕ → ℕ → Prop}
    {F : ℕ → ℕ → Val e} (hL : Cov3 v L R F) {off : Fin 3 → ℕ} (o0 o1 : ℕ) {m n : ℕ} {inb} (hoff : off = ![0, o0, o1])
    (hR : ∀ a b, a < M → b < N → o0 ≤ a → a < o0 + m → o1 ≤ b → b < o1 + n → R a b) :
    Is3 (m := m) (n := n) (v.readCov L (Rect.unit (s := ⟨3, ![1, M, N]⟩) off (⟨3, ![1, m, n]⟩ : Shape).size inb).toLoadRect)
      (fun a b => F (o0 + a) (o1 + b)) :=
  is3_readAt v _ o0 o1 hoff fun z a b h1 h2 h3 h4 => hL _ z a b (hR a b a.2 b.2 h1 h2 h3 h4)

end Buffers

end Cert.Tile

end
-- ==== Proof.RefProbs.lean ====
/-
  The reference's probabilities, for arguments whose entries are reals: the masked scores, a row's largest, the exponentials,
  their sum and the quotient.
-/
module

public import proofs.«01_k».proof.Proof.Attn
public import proofs.«01_k».proof.Proof.Tile
public import proofs.«01_k».proof.Proof.Gen.ReferenceIdeal.Read
public import Idealize.ShloMosaic.Lib.IdealHost

@[expose] public section

set_option maxRecDepth 16384

noncomputable section

namespace Cert.RefValue

open Cert.ReferenceIdeal Cert.ReferenceIdeal.Gen Cert.ReferenceIdeal.Read Cert.Attn Idealize.ShloMosaic

/-- An array of reals read at numbers; zero outside of it. -/
def num3 {A B C : ℕ} (x : (⟨3, ![A, B, C]⟩ : Shape).Idx → ℝ) (a b d : ℕ) : ℝ :=
  if h : a < A ∧ b < B ∧ d < C then x (ValueIdx.ix3 ⟨a, h.1⟩ ⟨b, h.2.1⟩ ⟨d, h.2.2⟩) else 0

theorem num3_idx {A B C : ℕ} (x : (⟨3, ![A, B, C]⟩ : Shape).Idx → ℝ) (j : (⟨3, ![A, B, C]⟩ : Shape).Idx) :
    num3 x (j 0).val (j 1).val (j 2).val = x j :=
  (dif_pos ⟨(j 0).2, (j 1).2, (j 2).2⟩).trans (congrArg x (ValueIdx.eq_ix3 j).symm)

/-- The reals among the extended reals, entry by entry. -/
abbrev up {s : Shape} (x : s.Idx → ℝ) : s.Idx → EReal := fun i => ((x i : ℝ) : EReal)

/-- The scores' scale. -/
def scale : ℝ := (Ideal.ofBits .f32 0x3DD105EC#32).toReal

theorem scale_eq : Ideal.ofBits .f32 0x3DD105EC#32 = ((scale : ℝ) : EReal) := by
  have h : Ideal.ofBits .f32 0x3DD105EC#32 = ((13698540 / 134217728 : ℝ) : EReal) := by
    simp [Ideal.ofBits, Ideal.ieee, -EReal.coe_mul]; norm_num
  rw [scale, h, EReal.toReal_coe]

theorem bot_eq : Ideal.ofBits .f32 0xFF800000#32 = ⊥ := by
  simp [Ideal.ofBits, Ideal.ieee]

theorem one_eq : Ideal.ofBits .f32 0x3F800000#32 = ((1 : ℝ) : EReal) := by
  simp [Ideal.ofBits, Ideal.ieee, -EReal.coe_mul]; norm_num

theorem zero_eq : Ideal.ofBits .f32 0x00000000#32 = ((0 : ℝ) : EReal) := Ideal.ofBits_zero_f32

theorem two_eq : Ideal.ofBits .f32 0x40000000#32 = ((2 : ℝ) : EReal) := by
  simp [Ideal.ofBits, Ideal.ieee, -EReal.coe_mul]; norm_num

/-- A head of the four arguments. -/
def head (xq xk : S8192x8x96.Idx → ℝ) (xv xt : S8192x8x64.Idx → ℝ) (h : ℕ) : Head where
  q := fun x d => num3 xq x h d
  k := fun x d => num3 xk x h d
  v := fun x d => num3 xv x h d
  t := fun x d => num3 xt x h d
  c := scale

/-- A sum over coordinates of products of reals. -/
theorem sum_up {n : ℕ} {f : Fin n → EReal} (g : ℕ → ℝ) (h : ∀ k : Fin n, f k = ((g k : ℝ) : EReal)) :
    ∑ k : Fin n, f k = ((∑ k ∈ Finset.range n, g k : ℝ) : EReal) := by
  rw [coe_sum, Finset.sum_range]
  exact Finset.sum_congr rfl fun k _ => h k

variable (xq xk : S8192x8x96.Idx → ℝ) (xv xt : S8192x8x64.Idx → ℝ)

theorem score_at (i : S8x8192x8192.Idx) : val_main_v2 (F := Ideal) (up xq) (up xk) i
    = (((head xq xk xv xt (i 0).val).score (i 1).val (i 2).val : ℝ) : EReal) := by
  rw [val_main_v2_apply, val_main_v0_apply, val_main_v1_apply, val_main_cst_apply, Ideal.mulf_def,
    sum_up (fun d => num3 xq (i 1).val (i 0).val d * num3 xk (i 2).val (i 0).val d)
      (fun k => by
        rw [EReal.coe_mul]
        exact congrArg₂ (fun a b : ℝ => (a : EReal) * (b : EReal)) (num3_idx xq (lidx_main_v0 i k)).symm (num3_idx xk (ridx_main_v0 i k)).symm)]
  show _ * Ideal.ofBits .f32 0x3DD105EC#32 = _
  rw [scale_eq, ← EReal.coe_mul]
  rfl

theorem mask_at (i : S8x8192x8192.Idx) :
    val_main_v10_1 (F := Ideal) i = BitVec.ofBool (decide ((i 2).val ≤ (i 1).val)) := by
  rw [val_main_v10_1_apply, val_main_v9_apply, val_main_v8_apply, val_main_v6_apply, val_main_v7_apply, val_main_v4_apply,
    val_main_v5_apply, val_main_v3_apply, val_main_v3_apply]
  have h1 : (i 1).val < 8192 := (i 1).isLt
  have h2 : (i 2).val < 8192 := (i 2).isLt
  show BitVec.ofBool ((BitVec.ofNat 32 (i 2).val).sle (BitVec.ofNat 32 (i 1).val)) = _
  rw [BitVec.sle, Tile.toInt_small _ (by omega), Tile.toInt_small _ (by omega)]
  congr 1
  simp

theorem select_bool {α : Type} (p : Prop) [Decidable p] (a b : α) :
    Scalar.select (BitVec.ofBool (decide p)) a b = if p then a else b := by
  by_cases h : p
  · rw [decide_eq_true h, if_pos h]; rfl
  · rw [decide_eq_false h, if_neg h]; rfl

theorem scores_at (i : S8x8192x8192.Idx) : val_main_v10_0 (F := Ideal) (up xq) (up xk) i
    = if (i 2).val ≤ (i 1).val then (((head xq xk xv xt (i 0).val).score (i 1).val (i 2).val : ℝ) : EReal) else ⊥ := by
  rw [val_main_v10_0_apply, mask_at, select_bool, score_at xq xk xv xt, val_main_call0_v2_apply]
  show (if _ then _ else Ideal.ofBits .f32 0xFF800000#32) = _
  rw [bot_eq]

/-- The largest of a row's entries, of which the first ones are reals and the others minus infinity. -/
theorem fold_peak (g : ℕ → ℝ) (x : ℕ) (hx : x < 8192) (f : Fin 8192 → EReal)
    (hf : ∀ k : Fin 8192, f k = if k.val ≤ x then ((g k.val : ℝ) : EReal) else ⊥) :
    (Finset.univ : Finset (Fin 8192)).fold max (⊥ : EReal) f
      = (((Finset.range (x + 1)).sup' Finset.nonempty_range_add_one g : ℝ) : EReal) := by
  refine le_antisymm ?_ ?_
  · rw [Finset.fold_max_le]
    refine ⟨bot_le, fun k _ => ?_⟩
    rw [hf]
    split_ifs with h
    · exact EReal.coe_le_coe_iff.mpr (Finset.le_sup' g (Finset.mem_range.mpr (by omega)))
    · exact bot_le
  · obtain ⟨y, hy, e⟩ := Finset.exists_mem_eq_sup' (s := Finset.range (x + 1)) Finset.nonempty_range_add_one g
    have hy' := Finset.mem_range.mp hy
    rw [e, Finset.le_fold_max]
    refine Or.inr ⟨⟨y, by omega⟩, Finset.mem_univ _, ?_⟩
    rw [hf, if_pos (show y ≤ x by omega)]

theorem top_at (i : S8x8192.Idx) : val_main_v11 (F := Ideal) (up xq) (up xk) i
    = (((head xq xk xv xt (i 0).val).peak (i 1).val : ℝ) : EReal) := by
  unfold val_main_v11
  rw [Host.reduce_eq_fold_single (t := S8x8192) _ _ _ _ (by decide)]
  show (Finset.univ : Finset (Fin 8192)).fold max (Ideal.ofBits .f32 0xFF800000#32) _ = _
  rw [bot_eq]
  refine fold_peak ((head xq xk xv xt (i 0).val).score (i 1).val) (i 1).val (i 1).isLt _ fun k => ?_
  refine (scores_at xq xk xv xt _).trans ?_
  rfl

theorem top_max (i : S8x8192.Idx) : val_main_v18 (F := Ideal) (up xq) (up xk) i = val_main_v11 (F := Ideal) (up xq) (up xk) i := by
  rw [val_main_v18_apply, val_main_v17_apply]
  show max (Ideal.ofBits .f32 0xFF800000#32) _ = _
  rw [bot_eq]
  exact max_eq_right bot_le

theorem expo_at (i : S8x8192x8192.Idx) : val_main_v31 (F := Ideal) (up xq) (up xk) i
    = (((head xq xk xv xt (i 0).val).expo (i 1).val (i 2).val : ℝ) : EReal) := by
  rw [val_main_v31_apply, val_main_v30_apply, scores_at xq xk xv xt, val_main_v29_apply, val_main_v28_apply, top_max,
    top_at xq xk xv xt]
  show Ideal.exp ((if _ then _ else ⊥) - (((head xq xk xv xt (i 0).val).peak (i 1).val : ℝ) : EReal)) = _
  by_cases h : (i 2).val ≤ (i 1).val
  · rw [if_pos h, ← EReal.coe_sub, Ideal.exp_coe, Head.expo, if_pos h]
  · rw [if_neg h, EReal.bot_sub, Ideal.exp_bot, Head.expo, if_neg h, EReal.coe_zero]

theorem mass_at (i : S8x8192.Idx) : val_main_v32 (F := Ideal) (up xq) (up xk) i
    = (((head xq xk xv xt (i 0).val).mass (i 1).val : ℝ) : EReal) := by
  rw [val_main_v32_apply, val_main_cst_9_apply]
  show Ideal.ofBits .f32 0x00000000#32 + _ = _
  rw [zero_eq, sum_up (fun y => (head xq xk xv xt (i 0).val).expo (i 1).val y) (fun k => expo_at xq xk xv xt _), EReal.coe_zero, zero_add]
  rfl

theorem prob_at (i : S8x8192x8192.Idx) : val_main_v35 (F := Ideal) (up xq) (up xk) i
    = (((head xq xk xv xt (i 0).val).prob (i 1).val (i 2).val : ℝ) : EReal) := by
  rw [val_main_v35_apply, expo_at xq xk xv xt, val_main_v34_apply, val_main_v33_apply, mass_at xq xk xv xt]
  show Ideal.div _ (((head xq xk xv xt (i 0).val).mass (i 1).val : ℝ) : EReal) = _
  rw [Ideal.div_coe ((head xq xk xv xt (i 0).val).mass_pos (i 1).isLt).ne', ← EReal.coe_mul, mul_one_div]
  rfl

end Cert.RefValue

end
-- ==== Proof.RefGrads.lean ====
/-
  The reference's three results, for arguments whose entries are reals: the gradients of the attention.
-/
module

public import proofs.«01_k».proof.Proof.RefProbs

@[expose] public section

set_option maxRecDepth 16384

noncomputable section

namespace Cert.RefValue

open Cert.ReferenceIdeal Cert.ReferenceIdeal.Gen Cert.ReferenceIdeal.Read Cert.Attn Idealize.ShloMosaic

variable (xq xk : S8192x8x96.Idx → ℝ) (xv xt : S8192x8x64.Idx → ℝ)

theorem gain_at (i : S8x8192x8192.Idx) : val_main_v42 (F := Ideal) (up xv) (up xt) i
    = (((head xq xk xv xt (i 0).val).gain (i 1).val (i 2).val : ℝ) : EReal) := by
  rw [val_main_v42_apply,
    sum_up (fun d => num3 xt (i 1).val (i 0).val d * num3 xv (i 2).val (i 0).val d)
      (fun k => by
        rw [EReal.coe_mul, val_main_v41_apply]
        exact congrArg₂ (fun a b : ℝ => (a : EReal) * (b : EReal)) (num3_idx xt (idx_main_v41 (lidx_main_v42 i k))).symm
          (num3_idx xv (ridx_main_v42 i k)).symm)]
  rfl

theorem massCol_at (i : S8x8192x1.Idx) : val_main_v33 (F := Ideal) (up xq) (up xk) i
    = (((head xq xk xv xt (i 0).val).mass (i 1).val : ℝ) : EReal) := by
  rw [val_main_v33_apply, mass_at xq xk xv xt]

/-- The reference's correction of a row. -/
theorem corr_at (i : S8x8192.Idx) : val_main_v53 (F := Ideal) (up xq) (up xk) (up xv) (up xt) i
    = ((-(∑ y ∈ Finset.range 8192, (head xq xk xv xt (i 0).val).gain (i 1).val y
        * (1 / ((head xq xk xv xt (i 0).val).mass (i 1).val * (head xq xk xv xt (i 0).val).mass (i 1).val))
        * (head xq xk xv xt (i 0).val).expo (i 1).val y) : ℝ) : EReal) := by
  have hm := ((head xq xk xv xt (i 0).val).mass_pos (i 1).isLt).ne'
  have hrow : ∀ k : Fin 8192, val_main_v47 (F := Ideal) (up xq) (up xk) (up xv) (up xt) (idx_main_v48 i k)
      = (((head xq xk xv xt (i 0).val).gain (i 1).val k.val
        * (1 / ((head xq xk xv xt (i 0).val).mass (i 1).val * (head xq xk xv xt (i 0).val).mass (i 1).val))
        * (head xq xk xv xt (i 0).val).expo (i 1).val k.val : ℝ) : EReal) := by
    intro k
    rw [val_main_v47_apply, val_main_v46_apply, gain_at xq xk xv xt, expo_at xq xk xv xt, val_main_v45_apply, val_main_v38_apply,
      val_main_v36_apply, massCol_at xq xk xv xt, val_main_v37_apply, val_main_cst_10_apply]
    show _ * Ideal.div (Ideal.ofBits .f32 0x3F800000#32)
      ((((head xq xk xv xt (i 0).val).mass (i 1).val : ℝ) : EReal) * (((head xq xk xv xt (i 0).val).mass (i 1).val : ℝ) : EReal)) * _ = _
    rw [one_eq, ← EReal.coe_mul, Ideal.div_coe (mul_ne_zero hm hm), ← EReal.coe_mul, one_mul, ← EReal.coe_mul, ← EReal.coe_mul]
  rw [val_main_v53_apply, val_main_cst_12_apply, Fin.sum_univ_one, val_main_v50_apply, val_main_v49_apply, val_main_v48_apply,
    val_main_cst_11_apply]
  show Ideal.ofBits .f32 0x00000000#32 + -(Ideal.ofBits .f32 0x00000000#32 + ∑ k : Fin 8192,
    val_main_v47 (F := Ideal) (up xq) (up xk) (up xv) (up xt) (idx_main_v48 _ k)) = _
  rw [zero_eq, EReal.coe_zero, zero_add, zero_add, EReal.coe_neg]
  refine congrArg _ ((Finset.sum_congr rfl fun k _ => ?_).trans (sum_up _ hrow))
  refine congrArg _ (funext fun a => Fin.ext ?_)
  match a with
  | ⟨0, _⟩ => have h0 : (i 0).val < 8 := (i 0).isLt; have h1 : (i 1).val < 8192 := (i 1).isLt; show (((i 0).val * 8192 + (i 1).val) * 1 + 0) / 8192 = (i 0).val; omega
  | ⟨1, _⟩ => have h0 : (i 0).val < 8 := (i 0).isLt; have h1 : (i 1).val < 8192 := (i 1).isLt; show (((i 0).val * 8192 + (i 1).val) * 1 + 0) % 8192 = (i 1).val; omega
  | ⟨2, _⟩ => rfl

theorem slope_at (i : S8x8192x8192.Idx) : val_main_v57 (F := Ideal) (up xq) (up xk) (up xv) (up xt) i
    = (((head xq xk xv xt (i 0).val).slope (i 1).val (i 2).val : ℝ) : EReal) := by
  have hm := ((head xq xk xv xt (i 0).val).mass_pos (i 1).isLt).ne'
  rw [val_main_v57_apply, mask_at, select_bool, val_main_call1_v0_apply, val_main_call1_cst_apply]
  by_cases h : (i 2).val ≤ (i 1).val
  · rw [if_pos h, val_main_v56_apply, val_main_v55_apply, val_main_v52_apply, gain_at xq xk xv xt, expo_at xq xk xv xt,
      val_main_v51_apply, massCol_at xq xk xv xt, val_main_v54_apply, corr_at xq xk xv xt]
    show (Ideal.div _ (((head xq xk xv xt (i 0).val).mass (i 1).val : ℝ) : EReal) + _) * _ = _
    rw [Ideal.div_coe hm, ← EReal.coe_mul, ← EReal.coe_add, ← EReal.coe_mul]
    refine congrArg _ ?_
    show ((head xq xk xv xt (i 0).val).gain (i 1).val (i 2).val * (1 / (head xq xk xv xt (i 0).val).mass (i 1).val)
      + -(∑ y ∈ Finset.range 8192, (head xq xk xv xt (i 0).val).gain (i 1).val y
        * (1 / ((head xq xk xv xt (i 0).val).mass (i 1).val * (head xq xk xv xt (i 0).val).mass (i 1).val))
        * (head xq xk xv xt (i 0).val).expo (i 1).val y)) * (head xq xk xv xt (i 0).val).expo (i 1).val (i 2).val = _
    have e : ∑ y ∈ Finset.range 8192, (head xq xk xv xt (i 0).val).gain (i 1).val y
        * (1 / ((head xq xk xv xt (i 0).val).mass (i 1).val * (head xq xk xv xt (i 0).val).mass (i 1).val))
        * (head xq xk xv xt (i 0).val).expo (i 1).val y
        = (1 / (head xq xk xv xt (i 0).val).mass (i 1).val) * (head xq xk xv xt (i 0).val).mean (i 1).val := by
      rw [Head.mean, Finset.mul_sum]
      refine Finset.sum_congr rfl fun y _ => ?_
      rw [Head.prob]
      field_simp
    rw [e, Head.slope, Head.prob]
    field_simp
    ring
  · rw [if_neg h, Head.slope_zero _ h]
    exact zero_eq

theorem scaled_at (i : S8x8192x8192.Idx) : val_main_v59 (F := Ideal) (up xq) (up xk) (up xv) (up xt) i
    = (((head xq xk xv xt (i 0).val).slope (i 1).val (i 2).val * scale : ℝ) : EReal) := by
  rw [val_main_v59_apply, slope_at, val_main_v58_apply, val_main_cst_13_apply, EReal.coe_mul, ← scale_eq]
  rfl

/-- The gradient of the queries. -/
theorem dq_at (i : S8192x8x96.Idx) : val_main_v63 (F := Ideal) (up xq) (up xk) (up xv) (up xt) i
    = (((head xq xk xv xt (i 1).val).dq (i 0).val (i 2).val : ℝ) : EReal) := by
  rw [val_main_v63_apply, val_main_v62_apply]
  refine sum_up (fun y => (head xq xk xv xt (i 1).val).slope (i 0).val y * scale * num3 xk y (i 1).val (i 2).val) fun k => ?_
  rw [scaled_at, EReal.coe_mul]
  exact congrArg₂ (fun a b : EReal => a * b) rfl (congrArg _ (num3_idx xk (ridx_main_v62 (idx_main_v63 i) k)).symm)

/-- The gradient of the keys. -/
theorem dk_at (i : S8192x8x96.Idx) : val_main_v61 (F := Ideal) (up xq) (up xk) (up xv) (up xt) i
    = (((head xq xk xv xt (i 1).val).dk (i 0).val (i 2).val : ℝ) : EReal) := by
  rw [val_main_v61_apply, val_main_v60_apply]
  refine sum_up (fun x => (head xq xk xv xt (i 1).val).slope x (i 0).val * scale * num3 xq x (i 1).val (i 2).val) fun k => ?_
  rw [scaled_at, EReal.coe_mul]
  exact congrArg₂ (fun a b : EReal => a * b) rfl (congrArg _ (num3_idx xq (ridx_main_v60 (idx_main_v61 i) k)).symm)

/-- The gradient of the values. -/
theorem dv_at (i : S8192x8x64.Idx) : val_main_v44 (F := Ideal) (up xq) (up xk) (up xt) i
    = (((head xq xk xv xt (i 1).val).dv (i 0).val (i 2).val : ℝ) : EReal) := by
  rw [val_main_v44_apply, val_main_v43_apply]
  refine sum_up (fun x => num3 xt x (i 1).val (i 2).val * (head xq xk xv xt (i 1).val).prob x (i 0).val) fun k => ?_
  rw [prob_at xq xk xv xt, EReal.coe_mul, val_main_v41_apply]
  exact congrArg₂ (fun a b : EReal => a * b) (congrArg _ (num3_idx xt (idx_main_v41 (lidx_main_v43 (idx_main_v44 i) k))).symm) rfl

/-- The attention's output. -/
theorem out_at (i : S8192x8x64.Idx) : val_main_v40 (F := Ideal) (up xq) (up xk) (up xv) i
    = ((∑ y ∈ Finset.range 8192, num3 xv y (i 1).val (i 2).val * (head xq xk xv xt (i 1).val).prob (i 0).val y : ℝ) : EReal) := by
  rw [val_main_v40_apply, val_main_v39_apply]
  refine sum_up (fun y => num3 xv y (i 1).val (i 2).val * (head xq xk xv xt (i 1).val).prob (i 0).val y) fun k => ?_
  rw [prob_at xq xk xv xt, EReal.coe_mul]
  exact congrArg₂ (fun a b : EReal => a * b) (congrArg _ (num3_idx xv (lidx_main_v39 (idx_main_v40 i) k)).symm) rfl

end Cert.RefValue

end
-- ==== Proof.Regroup.lean ====
/-
  The gradients the kernel gathers block by block are the gradients of the attention: for arrays that hold a head's reals,
  padded and scaled as the host lines prepare them.
-/
module

public import proofs.«01_k».proof.Proof.Attn

@[expose] public section

noncomputable section

namespace Cert.Attn

open Finset Cert.Model Idealize.ShloMosaic

/-- The six arrays hold the head's reals. -/
structure Holds (A : Heads) (h : ℕ) (r : Head) : Prop where
  q : ∀ x < 8192, ∀ d < 128, A.Q h x d = ((if d < 96 then r.q x d * (r.c / Real.log 2) else 0 : ℝ) : EReal)
  k : ∀ y < 8192, ∀ d < 128, A.K h y d = ((if d < 96 then r.k y d else 0 : ℝ) : EReal)
  v : ∀ y < 8192, ∀ d < 128, A.V h y d = ((if d < 64 then r.k y d else r.v y (d - 64) : ℝ) : EReal)
  o : ∀ x < 8192, ∀ d < 128, A.O h x d = ((if d < 64 then 0 else r.t x (d - 64) : ℝ) : EReal)
  l : ∀ x < 8192, A.L h x = (((r.peak x + Real.log (r.mass x)) / Real.log 2 : ℝ) : EReal)
  d : ∀ x < 8192, A.D h x = ((r.mean x : ℝ) : EReal)

variable {A : Heads} {h : ℕ} {r : Head} (H : Holds A h r)
include H

theorem Holds.score {i j a b : ℕ} (hi : 512 * i + b < 8192) (ha : 2048 * j + a < 8192) :
    (A.pt h j).S i a b = ((r.score (512 * i + b) (2048 * j + a) / Real.log 2 : ℝ) : EReal) := by
  show ∑ d ∈ range 128, A.K h (2048 * j + a) d * A.Q h (512 * i + b) d = _
  have e : ∀ d ∈ range 128, A.K h (2048 * j + a) d * A.Q h (512 * i + b) d
      = (((if d < 96 then r.q (512 * i + b) d * r.k (2048 * j + a) d * (r.c / Real.log 2) else 0) : ℝ) : EReal) := by
    intro d hd
    rw [H.k _ ha d (mem_range.mp hd), H.q _ hi d (mem_range.mp hd), ← EReal.coe_mul]
    by_cases h9 : d < 96
    · simp only [if_pos h9]; congr 1; ring
    · simp only [if_neg h9]; rw [mul_zero]
  rw [sum_congr rfl e, ← coe_sum, Head.score, show (128 : ℕ) = 96 + 32 from rfl, sum_range_add,
    sum_eq_zero (s := range 32) (fun x _ => if_neg (by omega)), add_zero, sum_mul, sum_div]
  refine congrArg _ (sum_congr rfl fun d hd => ?_)
  rw [if_pos (mem_range.mp hd), mul_div_assoc]

theorem Holds.gain {i j a b : ℕ} (hi : 512 * i + b < 8192) (ha : 2048 * j + a < 8192) :
    (A.pt h j).E i a b = ((r.gain (512 * i + b) (2048 * j + a) : ℝ) : EReal) := by
  show ∑ d ∈ range 128, A.V h (2048 * j + a) d * A.O h (512 * i + b) d = _
  have e : ∀ d ∈ range 128, A.V h (2048 * j + a) d * A.O h (512 * i + b) d
      = (((if d < 64 then 0 else r.t (512 * i + b) (d - 64) * r.v (2048 * j + a) (d - 64)) : ℝ) : EReal) := by
    intro d hd
    rw [H.v _ ha d (mem_range.mp hd), H.o _ hi d (mem_range.mp hd), ← EReal.coe_mul]
    by_cases h9 : d < 64
    · simp only [if_pos h9]; rw [mul_zero]
    · simp only [if_neg h9]; rw [mul_comm]
  rw [sum_congr rfl e, ← coe_sum, Head.gain, show (128 : ℕ) = 64 + 64 from rfl, sum_range_add,
    sum_eq_zero (s := range 64) (f := fun x => if x < 64 then 0 else _) (fun x hx => if_pos (mem_range.mp hx)), zero_add]
  refine congrArg _ (sum_congr rfl fun d hd => ?_)
  rw [if_neg (by omega), Nat.add_sub_cancel_left]

theorem Holds.prob {i j a b : ℕ} (hi : 512 * i + b < 8192) (ha : 2048 * j + a < 8192) :
    (A.pt h j).P i a b = ((r.prob (512 * i + b) (2048 * j + a) : ℝ) : EReal) := by
  have hb : (512 * (A.pt h j).b0 + a ≤ 512 * i + b) ↔ 2048 * j + a ≤ 512 * i + b := by
    show 512 * (4 * j) + a ≤ _ ↔ _
    omega
  by_cases h1 : 2048 * j + a ≤ 512 * i + b
  · rw [Data.P, if_pos (hb.mpr h1), H.score hi ha, show (A.pt h j).L (512 * i + b) = _ from H.l _ hi, ← EReal.coe_sub,
      Ideal.exp2_coe, r.prob_pow hi h1]
  · rw [Data.P, if_neg (fun e => h1 (hb.mp e)), r.prob_zero h1, EReal.coe_zero]

theorem Holds.slope {i j a b : ℕ} (hi : 512 * i + b < 8192) (ha : 2048 * j + a < 8192) :
    (A.pt h j).G i a b = ((r.slope (512 * i + b) (2048 * j + a) : ℝ) : EReal) := by
  rw [Data.G, H.prob hi ha, H.gain hi ha, show (A.pt h j).D (512 * i + b) = _ from H.d _ hi, ← EReal.coe_sub, ← EReal.coe_mul]
  rfl

omit H in
/-- Rows accumulated over a block's queries are sums over all queries. -/
theorem accR_sum {T : ℕ → ℕ → ℕ → EReal} {X : ℕ → ℕ → EReal} {p : ℕ → ℝ} {s : ℕ → ℝ} {j a d : ℕ} (hj : j < 4)
    (hT : ∀ i b, 512 * i + b < 8192 → T i a b = ((p (512 * i + b) : ℝ) : EReal))
    (hX : ∀ x < 8192, X x d = ((s x : ℝ) : EReal)) (hp : ∀ x, x < 2048 * j → p x = 0) :
    accR T X (4 * j) (16 - 4 * j) a d = ((∑ x ∈ range 8192, p x * s x : ℝ) : EReal) := by
  rw [show (8192 : ℕ) = 512 * (4 * j + (16 - 4 * j)) by omega,
    sum_late 512 (4 * j) (16 - 4 * j) (fun x => p x * s x) (fun x hx => by rw [hp x (by omega), zero_mul]), accR, coe_sum]
  refine sum_congr rfl fun u hu => ?_
  rw [coe_sum]
  refine sum_congr rfl fun b hb => ?_
  have hu' := mem_range.mp hu
  have hb' := mem_range.mp hb
  have hlt : 512 * (4 * j + u) + b < 8192 := by omega
  rw [hT _ _ hlt, hX _ hlt, EReal.coe_mul]

theorem Holds.dv {y d : ℕ} (hy : y < 8192) (hd : d < 64) :
    A.dv h (y / 2048) (y % 2048) (64 + d) = ((r.dv y d : ℝ) : EReal) := by
  have e : 2048 * (y / 2048) + y % 2048 = y := Nat.div_add_mod y 2048
  show accR (A.pt h (y / 2048)).P (A.O h) (4 * (y / 2048)) (16 - 4 * (y / 2048)) (y % 2048) (64 + d) = _
  rw [accR_sum (p := fun x => r.prob x y) (s := fun x => r.t x d) (by omega)
    (fun i b hi => by rw [H.prob hi (by rw [e]; exact hy), e])
    (fun x hx => by rw [H.o x hx _ (by omega), if_neg (by omega), Nat.add_sub_cancel_left])
    (fun x hx => r.prob_zero (by omega)), Head.dv]
  refine congrArg _ (sum_congr rfl fun x _ => mul_comm _ _)

theorem Holds.dk {y d : ℕ} (hy : y < 8192) (hd : d < 96) :
    A.dk h (y / 2048) (y % 2048) d = ((r.dk y d : ℝ) : EReal) := by
  have h2 : Real.log 2 ≠ 0 := (Real.log_pos (by norm_num)).ne'
  have e : 2048 * (y / 2048) + y % 2048 = y := Nat.div_add_mod y 2048
  show accR (A.pt h (y / 2048)).G (A.Q h) (4 * (y / 2048)) (16 - 4 * (y / 2048)) (y % 2048) d * ((Real.log 2 : ℝ) : EReal) = _
  rw [accR_sum (p := fun x => r.slope x y) (s := fun x => r.q x d * (r.c / Real.log 2)) (by omega)
    (fun i b hi => by rw [H.slope hi (by rw [e]; exact hy), e])
    (fun x hx => by rw [H.q x hx _ (by omega), if_pos hd])
    (fun x hx => r.slope_zero (by omega)), ← EReal.coe_mul, Head.dk, sum_mul]
  refine congrArg _ (sum_congr rfl fun x _ => ?_)
  field_simp

/-- The gradient of the queries after `j` blocks of keys. -/
theorem Holds.dq_blocks {x d : ℕ} (hx : x < 8192) (hd : d < 96) : ∀ j ≤ 4,
    A.dq h j d x = ((∑ y ∈ range (2048 * j), r.k y d * r.slope x y : ℝ) : EReal) := by
  intro j
  induction j with
  | zero => intro _; rfl
  | succ j ih =>
    intro hj
    show A.dq h j d x + ∑ u ∈ range (16 - 4 * j), (if 512 * (4 * j + u) ≤ x ∧ x < 512 * (4 * j + u) + 512
      then (A.pt h j).dqB (4 * j + u) 2048 d x else 0) = _
    rw [ih (by omega), Nat.mul_succ, sum_range_add, EReal.coe_add]
    refine congrArg _ ?_
    by_cases hv : 2048 * j ≤ x
    · rw [sum_eq_single (x / 512 - 4 * j)]
      · rw [if_pos (by omega), Data.dqB, coe_sum]
        refine sum_congr rfl fun a ha => ?_
        have ha' := mem_range.mp ha
        have e1 : 512 * (4 * j + (x / 512 - 4 * j)) + (x - 512 * (4 * j + (x / 512 - 4 * j))) = x := by omega
        rw [show (A.pt h j).K a d = _ from H.k (2048 * j + a) (by omega) d (by omega), if_pos hd,
          H.slope (by rw [e1]; exact hx) (by omega), e1, EReal.coe_mul]
      · intro u _ hu
        exact if_neg (by omega)
      · intro hu
        exact absurd (mem_range.mpr (by omega)) hu
    · rw [sum_eq_zero (fun u _ => if_neg (by omega)), sum_eq_zero (fun a _ => by rw [r.slope_zero (by omega), mul_zero]),
        EReal.coe_zero]

theorem Holds.dq {x d : ℕ} (hx : x < 8192) (hd : d < 96) :
    A.dq h 4 d x * ((r.c : ℝ) : EReal) = ((r.dq x d : ℝ) : EReal) := by
  rw [H.dq_blocks hx hd 4 le_rfl, ← EReal.coe_mul, Head.dq, sum_mul]
  refine congrArg _ (sum_congr rfl fun y _ => ?_)
  ring

end Cert.Attn

end
-- ==== Proof.HostRead.lean ====
/-
  What the six arrays hold, for arguments whose entries are reals: every head's reals, padded and scaled.
-/
module

public import proofs.«01_k».proof.Proof.HostIn
public import proofs.«01_k».proof.Proof.RefGrads
public import proofs.«01_k».proof.Proof.Regroup
public import Idealize.ShloMosaic.Lib.KernelVsHost

@[expose] public section

set_option maxRecDepth 16384

noncomputable section

namespace Cert.KernelIdeal.HostIn

open Cert.KernelIdeal Cert.KernelIdeal.Gen Cert.Attn Cert.RefValue Cert.Model
open Idealize.ShloMosaic

variable (xq xk : S8192x8x96.Idx → ℝ) (xv xt : S8192x8x64.Idx → ℝ)

theorem zeroPad_eq (i : S_.Idx) : zeroPad i = ((0 : ℝ) : EReal) := by
  show (((0#32 : BitVec 32).toInt : ℝ) : EReal) = _
  simp

theorem logTwo_eq (i : S_.Idx) : logTwo i = ((Real.log 2 : ℝ) : EReal) := by
  show Ideal.log (Ideal.ofBits .f32 0x40000000#32) = _
  rw [two_eq, Ideal.log_coe, if_neg (by norm_num)]

theorem log_two_ne : Real.log 2 ≠ 0 := (Real.log_pos (by norm_num)).ne'

theorem factor_eq (i : S_.Idx) : factor i = ((scale / Real.log 2 : ℝ) : EReal) := by
  show Ideal.div (Ideal.ofBits .f32 0x3DD105EC#32) (logTwo i) = _
  rw [scale_eq, logTwo_eq, Ideal.div_coe log_two_ne, ← EReal.coe_mul, mul_one_div]

/-- An entry of an array moved to heads. -/
theorem heads96_at (x : S8192x8x96.Idx → ℝ) (z : Fin 8) (p : Fin 8192) (d : Fin 96) :
    transpose (s := S8192x8x96) S8x8192x96 [1, 0, 2] (up x) transposes_S8192x8x96_S8x8192x96_1_0_2 (ValueIdx.ix3 z p d)
      = ((num3 x p.val z.val d.val : ℝ) : EReal) :=
  (transpose_apply (s := S8192x8x96) (t := S8x8192x96) _ _ _ _ (ValueIdx.ix3 p z d)
    (fun a => match a with | ⟨0, _⟩ => rfl | ⟨1, _⟩ => rfl | ⟨2, _⟩ => rfl)).trans
    (congrArg _ (num3_idx x (ValueIdx.ix3 p z d)).symm)

theorem heads64_at (x : S8192x8x64.Idx → ℝ) (z : Fin 8) (p : Fin 8192) (d : Fin 64) :
    transpose (s := S8192x8x64) S8x8192x64 [1, 0, 2] (up x) transposes_S8192x8x64_S8x8192x64_1_0_2 (ValueIdx.ix3 z p d)
      = ((num3 x p.val z.val d.val : ℝ) : EReal) :=
  (transpose_apply (s := S8192x8x64) (t := S8x8192x64) _ _ _ _ (ValueIdx.ix3 p z d)
    (fun a => match a with | ⟨0, _⟩ => rfl | ⟨1, _⟩ => rfl | ⟨2, _⟩ => rfl)).trans
    (congrArg _ (num3_idx x (ValueIdx.ix3 p z d)).symm)

/-- An entry of an array moved to heads and filled up with zero channels behind. -/
theorem behind_at (x : S8192x8x96.Idx → ℝ) (z : Fin 8) (p : Fin 8192) (d : Fin 128) :
    pad (s := S8x8192x96) S8x8192x128 ![0, 0, 0] ![0, 0, 32] ![0, 0, 0]
      (transpose (s := S8192x8x96) S8x8192x96 [1, 0, 2] (up x) transposes_S8192x8x96_S8x8192x96_1_0_2) zeroPad
      pads_S8x8192x96_S8x8192x128_000_000_0320 h_S_ (ValueIdx.ix3 z p d)
      = ((if d.val < 96 then num3 x p.val z.val d.val else 0 : ℝ) : EReal) := by
  by_cases h : d.val < 96
  · rw [pad_apply_of_inside (s := S8x8192x96) (t := S8x8192x128) _ _ _ _ _ _ _ _ (ValueIdx.ix3 z p ⟨d.val, h⟩)
      (fun a => match a with
        | ⟨0, _⟩ => (by show z.val = 0 + z.val * 1; omega)
        | ⟨1, _⟩ => (by show p.val = 0 + p.val * 1; omega)
        | ⟨2, _⟩ => (by show d.val = 0 + d.val * 1; omega)), heads96_at, if_pos h]
  · rw [pad_apply_of_not_inside (s := S8x8192x96) (t := S8x8192x128) _ _ _ _ _ _ _ _ 2
      (fun e => h (by have e2 : (d.val - 0) / 1 < 96 := e.2.2; omega)), zeroPad_eq, if_neg h]

/-- The same behind 64 zero channels. -/
theorem before_at (x : S8192x8x64.Idx → ℝ) (z : Fin 8) (p : Fin 8192) (d : Fin 128) :
    pad (s := S8x8192x64) S8x8192x128 ![0, 0, 64] ![0, 0, 0] ![0, 0, 0]
      (transpose (s := S8192x8x64) S8x8192x64 [1, 0, 2] (up x) transposes_S8192x8x64_S8x8192x64_1_0_2) zeroPad
      pads_S8x8192x64_S8x8192x128_000_000_6400 h_S_ (ValueIdx.ix3 z p d)
      = ((if d.val < 64 then 0 else num3 x p.val z.val (d.val - 64) : ℝ) : EReal) := by
  have hd := d.isLt
  by_cases h : d.val < 64
  · rw [pad_apply_of_not_inside (s := S8x8192x64) (t := S8x8192x128) _ _ _ _ _ _ _ _ 2
      (fun e => absurd h (by have e2 : 64 ≤ d.val := e.1; omega)), zeroPad_eq, if_pos h]
  · rw [pad_apply_of_inside (s := S8x8192x64) (t := S8x8192x128) _ _ _ _ _ _ _ _ (ValueIdx.ix3 z p ⟨d.val - 64, by omega⟩)
      (fun a => match a with
        | ⟨0, _⟩ => (by show z.val = 0 + z.val * 1; omega)
        | ⟨1, _⟩ => (by show p.val = 0 + p.val * 1; omega)
        | ⟨2, _⟩ => (by show d.val = 64 + (d.val - 64) * 1; omega)), heads64_at, if_neg h]

theorem qp_at (z : Fin 8) (p : Fin 8192) (d : Fin 128) : qp (up xq) (ValueIdx.ix3 z p d)
    = ((if d.val < 96 then num3 xq p.val z.val d.val * (scale / Real.log 2) else 0 : ℝ) : EReal) := by
  show pad (s := S8x8192x96) S8x8192x128 _ _ _ _ _ _ _ (ValueIdx.ix3 z p d)
    * broadcastInDim (s := S_) S8x8192x128 ![] bcast_S_S8x8192x128 factor (ValueIdx.ix3 z p d) = _
  rw [behind_at, broadcastInDim_apply (s := S_) (t := S8x8192x128) _ _ _ _ (fun a => a.elim0) (fun a => a.elim0), factor_eq, ← EReal.coe_mul]
  split_ifs
  · rfl
  · rw [zero_mul]

theorem kp_at (z : Fin 8) (p : Fin 8192) (d : Fin 128) : kp (up xk) (ValueIdx.ix3 z p d)
    = ((if d.val < 96 then num3 xk p.val z.val d.val else 0 : ℝ) : EReal) := behind_at xk z p d

theorem op_at (z : Fin 8) (p : Fin 8192) (d : Fin 128) : op (up xt) (ValueIdx.ix3 z p d)
    = ((if d.val < 64 then 0 else num3 xt p.val z.val (d.val - 64) : ℝ) : EReal) := before_at xt z p d

theorem vp_at (z : Fin 8) (p : Fin 8192) (d : Fin 128) : vp (up xk) (up xv) (ValueIdx.ix3 z p d)
    = ((if d.val < 64 then num3 xk p.val z.val d.val else num3 xv p.val z.val (d.val - 64) : ℝ) : EReal) := by
  have hd := d.isLt
  show concatenate S8x8192x128 2 [⟨S8x8192x64, extractStridedSlice (s := S8x8192x96) S8x8192x64 ![0, 0, 0] _ _⟩,
    ⟨S8x8192x64, transpose (s := S8192x8x64) S8x8192x64 [1, 0, 2] (up xv) _⟩] concatenates_S8x8192x64_S8x8192x64_S8x8192x128_d2 (ValueIdx.ix3 z p d) = _
  by_cases h : d.val < 64
  · rw [concatenate_pair_apply_left (t := S8x8192x128) (s₁ := S8x8192x64) (s₂ := S8x8192x64) 2 _ _ _ _ rfl (ValueIdx.ix3 z p ⟨d.val, h⟩)
      (fun a => match a with | ⟨0, _⟩ => rfl | ⟨1, _⟩ => rfl | ⟨2, _⟩ => rfl), if_pos h,
      extractStridedSlice_apply (s := S8x8192x96) (t := S8x8192x64) _ _ _ _ (ValueIdx.ix3 z p ⟨d.val, by omega⟩)
      (fun a => match a with | ⟨0, _⟩ => (Nat.zero_add _).symm | ⟨1, _⟩ => (Nat.zero_add _).symm | ⟨2, _⟩ => (Nat.zero_add _).symm),
      heads96_at]
  · rw [concatenate_pair_apply_right (t := S8x8192x128) (s₁ := S8x8192x64) (s₂ := S8x8192x64) 2 _ _ _ _ rfl rfl
      (ValueIdx.ix3 z p ⟨d.val - 64, by omega⟩)
      (fun a => match a with | ⟨0, _⟩ => fun _ => rfl | ⟨1, _⟩ => fun _ => rfl | ⟨2, _⟩ => fun e => absurd rfl e)
      (by show d.val - 64 + 64 = d.val; omega), if_neg h, heads64_at]

theorem top_eq : ReferenceIdeal.Read.val_main_v18 (F := Ideal) (up xq) (up xk) = top (up xq) (up xk) := funext fun i => top_max xq xk i

theorem expo_eq : expo (up xq) (up xk) = ReferenceIdeal.Read.val_main_v31 (F := Ideal) (up xq) (up xk) := by
  unfold ReferenceIdeal.Read.val_main_v31 ReferenceIdeal.Read.val_main_v30 ReferenceIdeal.Read.val_main_v29 ReferenceIdeal.Read.val_main_v28
  rw [top_eq]
  rfl

theorem mass_eq : mass (up xq) (up xk) = ReferenceIdeal.Read.val_main_v32 (F := Ideal) (up xq) (up xk) := by
  unfold mass
  rw [expo_eq]
  rfl

theorem probs_eq : probs (up xq) (up xk) = ReferenceIdeal.Read.val_main_v35 (F := Ideal) (up xq) (up xk) := by
  unfold probs massCol
  rw [expo_eq, mass_eq]
  rfl

theorem mixedT_eq : mixedT (up xq) (up xk) (up xv) = ReferenceIdeal.Read.val_main_v40 (F := Ideal) (up xq) (up xk) (up xv) := by
  unfold mixedT mixed
  rw [probs_eq]
  rfl

theorem topCol_at (z : Fin 8) (p : Fin 8192) : topCol (up xq) (up xk) (ValueIdx.ix3 z p 0)
    = (((head xq xk xv xt z.val).peak p.val : ℝ) : EReal) :=
  (broadcastInDim_apply (s := S8x8192) (t := S8x8192x1) _ _ _ _ (ValueIdx.ix2 z p)
    (fun a => match a with | ⟨0, _⟩ => rfl | ⟨1, _⟩ => rfl)).trans (top_at xq xk xv xt (ValueIdx.ix2 z p))

theorem massCol_eq (z : Fin 8) (p : Fin 8192) : massCol (up xq) (up xk) (ValueIdx.ix3 z p 0)
    = (((head xq xk xv xt z.val).mass p.val : ℝ) : EReal) := by
  unfold massCol
  rw [mass_eq]
  exact (broadcastInDim_apply (s := S8x8192) (t := S8x8192x1) _ _ _ _ (ValueIdx.ix2 z p)
    (fun a => match a with | ⟨0, _⟩ => rfl | ⟨1, _⟩ => rfl)).trans (mass_at xq xk xv xt (ValueIdx.ix2 z p))

theorem div_log (a b c : FVec Ideal S8x8192x1 .f32) (i : S8x8192x1.Idx) :
    Host.divf (addf a (Host.log b)) c i = Ideal.div (a i + Ideal.log (b i)) (c i) := rfl

theorem column_at (z : Fin 8) (p : Fin 8192) (x : FVec Ideal S8x8192x1 .f32) :
    shapeCast S8x1x8192 x shapeCasts_S8x8192x1_S8x1x8192 (ValueIdx.ix3 z 0 p) = x (ValueIdx.ix3 z p 0) :=
  shapeCast_apply (s := S8x8192x1) (t := S8x1x8192) _ _ _ (ValueIdx.ix3 z p 0)
    (by rw [Shape.rowMajor_val_three, Shape.rowMajor_val_three]
        show (z.val * 8192 + p.val) * 1 + 0 = (z.val * 1 + 0) * 8192 + p.val
        omega)

theorem row_at (z : Fin 8) (p : Fin 8192) (x : FVec Ideal S8x8192 .f32) :
    shapeCast S8x1x8192 x shapeCasts_S8x8192_S8x1x8192 (ValueIdx.ix3 z 0 p) = x (ValueIdx.ix2 z p) :=
  shapeCast_apply (s := S8x8192) (t := S8x1x8192) _ _ _ (ValueIdx.ix2 z p)
    (by rw [Shape.rowMajor_val_two, Shape.rowMajor_val_three]
        show z.val * 8192 + p.val = (z.val * 1 + 0) * 8192 + p.val
        omega)

theorem logMass_at (z : Fin 8) (p : Fin 8192) : logMass (up xq) (up xk) (ValueIdx.ix3 z p 0)
    = ((((head xq xk xv xt z.val).peak p.val + Real.log ((head xq xk xv xt z.val).mass p.val)) / Real.log 2 : ℝ) : EReal) := by
  have hm := (head xq xk xv xt z.val).mass_pos p.isLt
  unfold logMass
  rw [div_log, broadcastInDim_apply (s := S_) (t := S8x8192x1) _ _ _ _ (fun a => a.elim0) (fun a => a.elim0), logTwo_eq,
    topCol_at xq xk xv xt, massCol_eq xq xk xv xt, Ideal.log_coe, if_neg (not_le.mpr hm), ← EReal.coe_add, Ideal.div_coe log_two_ne,
    ← EReal.coe_mul, mul_one_div]

theorem lse_at (z : Fin 8) (p : Fin 8192) : lse (up xq) (up xk) (ValueIdx.ix3 z 0 p)
    = ((((head xq xk xv xt z.val).peak p.val + Real.log ((head xq xk xv xt z.val).mass p.val)) / Real.log 2 : ℝ) : EReal) :=
  (column_at z p _).trans (logMass_at xq xk xv xt z p)

theorem prod_at (z : Fin 8) (p : Fin 8192) (d : Fin 64) :
    transpose (s := S8192x8x64) S8x8192x64 [1, 0, 2] (mulf (F := Ideal) (φ := .f32) (up xt) (mixedT (up xq) (up xk) (up xv)))
      transposes_S8192x8x64_S8x8192x64_1_0_2 (ValueIdx.ix3 z p d)
      = ((num3 xt p.val z.val d.val * ∑ y ∈ Finset.range 8192, num3 xv y z.val d.val * (head xq xk xv xt z.val).prob p.val y : ℝ) : EReal) := by
  rw [transpose_apply (s := S8192x8x64) (t := S8x8192x64) _ _ _ _ (ValueIdx.ix3 p z d)
    (fun a => match a with | ⟨0, _⟩ => rfl | ⟨1, _⟩ => rfl | ⟨2, _⟩ => rfl), mixedT_eq]
  show ((xt (ValueIdx.ix3 p z d) : ℝ) : EReal) * _ = _
  rw [out_at xq xk xv xt, ← num3_idx xt, ← EReal.coe_mul]

theorem dotRows_at (z : Fin 8) (p : Fin 8192) : dotRows (up xq) (up xk) (up xv) (up xt) (ValueIdx.ix2 z p)
    = (((head xq xk xv xt z.val).mean p.val : ℝ) : EReal) := by
  have e : (∑ d ∈ Finset.range 64, num3 xt p.val z.val d
      * ∑ y ∈ Finset.range 8192, num3 xv y z.val d * (head xq xk xv xt z.val).prob p.val y)
      = (head xq xk xv xt z.val).mean p.val := by
    unfold Head.mean Head.gain
    simp only [Finset.mul_sum]
    rw [Finset.sum_comm]
    refine Finset.sum_congr rfl fun y _ => Finset.sum_congr rfl fun d _ => ?_
    show num3 xt p.val z.val d * (num3 xv y z.val d * _) = _ * (num3 xt p.val z.val d * num3 xv y z.val d)
    ring
  unfold dotRows
  simp only [Host.reduceAdd, Ideal.hostReduceAdd_def]
  rw [Ideal.hostReduceAdd_single reducesTo_S8x8192x64_S8x8192_d2 (by decide), ← e]
  refine Eq.trans (congrArg₂ _ (zero_eq.trans EReal.coe_zero) (sum_up (fun d => num3 xt p.val z.val d
    * ∑ y ∈ Finset.range 8192, num3 xv y z.val d * (head xq xk xv xt z.val).prob p.val y) fun d => ?_)) (zero_add _)
  refine Eq.trans (congrArg _ (funext fun a => Fin.ext ?_)) (prod_at xq xk xv xt z p d)
  match a with
  | ⟨0, _⟩ => rfl
  | ⟨1, _⟩ => rfl
  | ⟨2, _⟩ => rfl

theorem dp_at (z : Fin 8) (p : Fin 8192) : dp (up xq) (up xk) (up xv) (up xt) (ValueIdx.ix3 z 0 p)
    = (((head xq xk xv xt z.val).mean p.val : ℝ) : EReal) :=
  (row_at z p _).trans (dotRows_at xq xk xv xt z p)

end Cert.KernelIdeal.HostIn

end
-- ==== Proof.Inputs.lean ====
/-
  What the backward kernel's inputs hold at one grid point, and where its loads start, by the numbers of the point.
-/
module

public import proofs.«01_k».proof.Proof.IdealSafeBody
public import proofs.«01_k».proof.Proof.Offsets
public import proofs.«01_k».proof.Proof.Tile
public import proofs.«01_k».proof.Proof.Model

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))}

/-- The six inputs hold the data `m`, and the point's block of keys starts with query block `m.b0`. -/
structure In (c : Dev nD) (i : grid0.Coords) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (m : Data) : Prop where
  q : ∀ (z : Fin 1) (a : Fin 8192) (b : Fin 128), arg2.view.read (Elt Ideal) f2 (ValueIdx.ix3 z a b) = m.Q a b
  k : ∀ (z : Fin 1) (a : Fin 2048) (b : Fin 128), arg3.view.read (Elt Ideal) f3 (ValueIdx.ix3 z a b) = m.K a b
  v : ∀ (z : Fin 1) (a : Fin 2048) (b : Fin 128), arg4.view.read (Elt Ideal) f4 (ValueIdx.ix3 z a b) = m.V a b
  o : ∀ (z : Fin 1) (a : Fin 8192) (b : Fin 128), arg5.view.read (Elt Ideal) f5 (ValueIdx.ix3 z a b) = m.O a b
  l : ∀ (z : Fin 1) (a : Fin 1) (b : Fin 8192), arg6.view.read (Elt Ideal) f6 (ValueIdx.ix3 z a b) = m.L b
  d : ∀ (z : Fin 1) (a : Fin 1) (b : Fin 8192), arg7.view.read (Elt Ideal) f7 (ValueIdx.ix3 z a b) = m.D b
  b : 4 * (i 1).val = m.b0

variable {m : Data}

theorem off1 (h : In c i arg2 arg3 arg4 arg5 arg6 arg7 f2 f3 f4 f5 f6 f7 m) : k0_off1 i = ![0, 512 * m.b0, 0] := by
  rw [Value.off1_eq, h.b]
theorem off2 (h : In c i arg2 arg3 arg4 arg5 arg6 arg7 f2 f3 f4 f5 f6 f7 m) : k0_off2 i = ![0, 512 * m.b0 + 256, 0] := by
  rw [Value.off2_eq, h.b]
theorem off3 (h : In c i arg2 arg3 arg4 arg5 arg6 arg7 f2 f3 f4 f5 f6 f7 m) : k0_off3 i = ![0, 512 * (m.b0 + 1), 0] := by
  rw [Value.off3_eq, h.b]
theorem off4 (h : In c i arg2 arg3 arg4 arg5 arg6 arg7 f2 f3 f4 f5 f6 f7 m) : k0_off4 i = ![0, 512 * (m.b0 + 1) + 256, 0] := by
  rw [Value.off4_eq, h.b]
theorem off5 (h : In c i arg2 arg3 arg4 arg5 arg6 arg7 f2 f3 f4 f5 f6 f7 m) : k0_off5 i = ![0, 0, 512 * m.b0] := by
  rw [Value.off5_eq, h.b]
theorem off6 (h : In c i arg2 arg3 arg4 arg5 arg6 arg7 f2 f3 f4 f5 f6 f7 m) : k0_off6 i = ![0, 0, 512 * m.b0 + 256] := by
  rw [Value.off6_eq, h.b]
theorem off7_1 (h : In c i arg2 arg3 arg4 arg5 arg6 arg7 f2 f3 f4 f5 f6 f7 m) : k0_off7 i 1#32 = ![0, 512 * (m.b0 + 2), 0] := by
  rw [Value.off7_1_eq, h.b]
theorem off7_2 (h : In c i arg2 arg3 arg4 arg5 arg6 arg7 f2 f3 f4 f5 f6 f7 m) : k0_off7 i 2#32 = ![0, 512 * (m.b0 + 3), 0] := by
  rw [Value.off7_2_eq, h.b]
theorem off7_3 (h : In c i arg2 arg3 arg4 arg5 arg6 arg7 f2 f3 f4 f5 f6 f7 m) : k0_off7 i 3#32 = ![0, 512 * min (m.b0 + 4) 15, 0] := by
  rw [Value.off7_3_eq, h.b]
theorem off8_1 (h : In c i arg2 arg3 arg4 arg5 arg6 arg7 f2 f3 f4 f5 f6 f7 m) : k0_off8 i 1#32 = ![0, 512 * (m.b0 + 2) + 256, 0] := by
  rw [Value.off8_1_eq, h.b]
theorem off8_2 (h : In c i arg2 arg3 arg4 arg5 arg6 arg7 f2 f3 f4 f5 f6 f7 m) : k0_off8 i 2#32 = ![0, 512 * (m.b0 + 3) + 256, 0] := by
  rw [Value.off8_2_eq, h.b]
theorem off9_1 (h : In c i arg2 arg3 arg4 arg5 arg6 arg7 f2 f3 f4 f5 f6 f7 m) : k0_off9 i 1#32 = ![0, 512 * m.b0, 0] := by
  rw [Value.off9_1_eq, h.b]
theorem off9_2 (h : In c i arg2 arg3 arg4 arg5 arg6 arg7 f2 f3 f4 f5 f6 f7 m) : k0_off9 i 2#32 = ![0, 512 * (m.b0 + 1), 0] := by
  rw [Value.off9_2_eq, h.b]
theorem off9_3 (h : In c i arg2 arg3 arg4 arg5 arg6 arg7 f2 f3 f4 f5 f6 f7 m) : k0_off9 i 3#32 = ![0, 512 * (m.b0 + 2), 0] := by
  rw [Value.off9_3_eq, h.b]
theorem off10_1 (h : In c i arg2 arg3 arg4 arg5 arg6 arg7 f2 f3 f4 f5 f6 f7 m) : k0_off10 i 1#32 = ![0, 0, 512 * m.b0] := by
  rw [Value.off10_1_eq, h.b]
theorem off10_2 (h : In c i arg2 arg3 arg4 arg5 arg6 arg7 f2 f3 f4 f5 f6 f7 m) : k0_off10 i 2#32 = ![0, 0, 512 * (m.b0 + 1)] := by
  rw [Value.off10_2_eq, h.b]
theorem off10_3 (h : In c i arg2 arg3 arg4 arg5 arg6 arg7 f2 f3 f4 f5 f6 f7 m) : k0_off10 i 3#32 = ![0, 0, 512 * (m.b0 + 2)] := by
  rw [Value.off10_3_eq, h.b]
theorem off11_1 (h : In c i arg2 arg3 arg4 arg5 arg6 arg7 f2 f3 f4 f5 f6 f7 m) : k0_off11 i 1#32 = ![0, 512 * m.b0 + 256, 0] := by
  rw [Value.off11_1_eq, h.b]
theorem off11_2 (h : In c i arg2 arg3 arg4 arg5 arg6 arg7 f2 f3 f4 f5 f6 f7 m) : k0_off11 i 2#32 = ![0, 512 * (m.b0 + 1) + 256, 0] := by
  rw [Value.off11_2_eq, h.b]
theorem off11_3 (h : In c i arg2 arg3 arg4 arg5 arg6 arg7 f2 f3 f4 f5 f6 f7 m) : k0_off11 i 3#32 = ![0, 512 * (m.b0 + 2) + 256, 0] := by
  rw [Value.off11_3_eq, h.b]
theorem off12_1 (h : In c i arg2 arg3 arg4 arg5 arg6 arg7 f2 f3 f4 f5 f6 f7 m) : k0_off12 i 1#32 = ![0, 0, 512 * m.b0 + 256] := by
  rw [Value.off12_1_eq, h.b]
theorem off12_2 (h : In c i arg2 arg3 arg4 arg5 arg6 arg7 f2 f3 f4 f5 f6 f7 m) : k0_off12 i 2#32 = ![0, 0, 512 * (m.b0 + 1) + 256] := by
  rw [Value.off12_2_eq, h.b]
theorem off12_3 (h : In c i arg2 arg3 arg4 arg5 arg6 arg7 f2 f3 f4 f5 f6 f7 m) : k0_off12 i 3#32 = ![0, 0, 512 * (m.b0 + 2) + 256] := by
  rw [Value.off12_3_eq, h.b]
theorem off13_1 (h : In c i arg2 arg3 arg4 arg5 arg6 arg7 f2 f3 f4 f5 f6 f7 m) : k0_off13 i 1#32 = ![0, 0, 512 * (m.b0 + 1)] := by
  rw [Value.off13_1_eq, h.b]
theorem off13_2 (h : In c i arg2 arg3 arg4 arg5 arg6 arg7 f2 f3 f4 f5 f6 f7 m) : k0_off13 i 2#32 = ![0, 0, 512 * (m.b0 + 2)] := by
  rw [Value.off13_2_eq, h.b]
theorem off13_3 (h : In c i arg2 arg3 arg4 arg5 arg6 arg7 f2 f3 f4 f5 f6 f7 m) : k0_off13 i 3#32 = ![0, 0, 512 * (m.b0 + 3)] := by
  rw [Value.off13_3_eq, h.b]
theorem off14_1 (h : In c i arg2 arg3 arg4 arg5 arg6 arg7 f2 f3 f4 f5 f6 f7 m) : k0_off14 i 1#32 = ![0, 0, 512 * (m.b0 + 1) + 256] := by
  rw [Value.off14_1_eq, h.b]
theorem off14_2 (h : In c i arg2 arg3 arg4 arg5 arg6 arg7 f2 f3 f4 f5 f6 f7 m) : k0_off14 i 2#32 = ![0, 0, 512 * (m.b0 + 2) + 256] := by
  rw [Value.off14_2_eq, h.b]
theorem off14_3 (h : In c i arg2 arg3 arg4 arg5 arg6 arg7 f2 f3 f4 f5 f6 f7 m) : k0_off14 i 3#32 = ![0, 0, 512 * (m.b0 + 3) + 256] := by
  rw [Value.off14_3_eq, h.b]

end Cert.KernelIdeal.Pre

end
-- ==== Proof.Trip.lean ====
/-
  One trip of the backward kernel's loop: two blocks of queries, each stored tile and what each buffer then holds.
-/
module

public import proofs.«01_k».proof.Proof.Inputs

@[expose] public section

set_option maxRecDepth 16384

noncomputable section

namespace Cert.KernelIdeal.Trip

open Cert.KernelIdeal Cert.KernelIdeal.Gen Cert.KernelIdeal.Safe Cert.Tile Cert.Model
open Cert.KernelIdeal.Pre (In)
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

/-- What the buffers hold when query blocks `0 … n - 1` have been added, block `n` is ready and block `n + 1` is multiplied. -/
structure Mid (c : Dev nD) (arg8 : Memref sig .tc .vmem S1x128x8192 .f32) (arg9 : Memref sig .tc .vmem S1x2048x128 .f32) (arg10 : Memref sig .tc .vmem S1x2048x128 .f32) (arg11 : Memref sig .tc .vmem S2048x512 .f32) (arg13 : Memref sig .tc .vmem S2048x512 .f32) (arg16 : Memref sig .tc .vmem S2048x512 .bf16) (arg18 : Memref sig .tc .vmem S2048x512 .bf16) (arg19 : Memref sig .tc .vmem S128x2048 .bf16)
    (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f16 : Buf (Elt Ideal) (arg16.view.loc (c : Thread nD τ))) (f18 : Buf (Elt Ideal) (arg18.view.loc (c : Thread nD τ))) (f19 : Buf (Elt Ideal) (arg19.view.loc (c : Thread nD τ)))
    (m : Data) (X : ℕ → ℕ → EReal) (n : ℕ) : Prop where
  dq : Is3 (m := 128) (n := 8192) (arg8.view.read (Elt Ideal) f8) (m.dq X n)
  dk : Is3 (m := 2048) (n := 128) (arg9.view.read (Elt Ideal) f9) (m.dk n)
  dv : Is3 (m := 2048) (n := 128) (arg10.view.read (Elt Ideal) f10) (m.dv n)
  s : Is2 (m := 2048) (n := 512) (arg11.view.read (Elt Ideal) f11) (m.S (min (m.b0 + (n + 1)) 15))
  e : Is2 (m := 2048) (n := 512) (arg13.view.read (Elt Ideal) f13) (m.E (min (m.b0 + (n + 1)) 15))
  p : Is2 (m := 2048) (n := 512) (arg16.view.read (Elt Ideal) f16) (m.P (m.b0 + n))
  g : Is2 (m := 2048) (n := 512) (arg18.view.read (Elt Ideal) f18) (m.G (m.b0 + n))
  kt : Is2 (m := 128) (n := 2048) (arg19.view.read (Elt Ideal) f19) (fun d a => m.K a d)

variable {X : ℕ → ℕ → EReal} {n : ℕ} {k : Fin (k0_t1_loop i).trips}

theorem off15 (h : In c i arg2 arg3 arg4 arg5 arg6 arg7 f2 f3 f4 f5 f6 f7 m) (hn : n = 3 + 2 * k.val) :
    k0_off15 i k = ![0, 512 * (m.b0 + (n + 2)), 0] := by
  have hb := h.b
  refine (Value.off15_eq i k).trans ?_
  rw [show 512 * (4 * (i 1).val + 5 + 2 * k.val) = 512 * (m.b0 + (n + 2)) from by omega]

theorem off16 (h : In c i arg2 arg3 arg4 arg5 arg6 arg7 f2 f3 f4 f5 f6 f7 m) (hn : n = 3 + 2 * k.val) :
    k0_off16 i k = ![0, 512 * (m.b0 + n), 0] := by
  have hb := h.b
  refine (Value.off16_eq i k).trans ?_
  rw [show 512 * (4 * (i 1).val + 3 + 2 * k.val) = 512 * (m.b0 + n) from by omega]

theorem off17 (h : In c i arg2 arg3 arg4 arg5 arg6 arg7 f2 f3 f4 f5 f6 f7 m) (hn : n = 3 + 2 * k.val) :
    k0_off17 i k = ![0, 0, 512 * (m.b0 + n)] := by
  have hb := h.b
  refine (Value.off17_eq i k).trans ?_
  rw [show 512 * (4 * (i 1).val + 3 + 2 * k.val) = 512 * (m.b0 + n) from by omega]

theorem off18 (h : In c i arg2 arg3 arg4 arg5 arg6 arg7 f2 f3 f4 f5 f6 f7 m) (hn : n = 3 + 2 * k.val) :
    k0_off18 i k = ![0, 0, 512 * (m.b0 + (n + 1))] := by
  have hb := h.b
  refine (Value.off18_eq i k).trans ?_
  rw [show 512 * (4 * (i 1).val + 4 + 2 * k.val) = 512 * (m.b0 + (n + 1)) from by omega]

theorem off19 (h : In c i arg2 arg3 arg4 arg5 arg6 arg7 f2 f3 f4 f5 f6 f7 m) (hn : n = 3 + 2 * k.val) :
    k0_off19 i k = ![0, 512 * min (m.b0 + (n + 3)) 15, 0] := by
  have hb := h.b
  refine (Value.off19_eq i k).trans ?_
  rw [show 512 * min (4 * (i 1).val + 6 + 2 * k.val) 15 = 512 * min (m.b0 + (n + 3)) 15 from by omega]

theorem off20 (h : In c i arg2 arg3 arg4 arg5 arg6 arg7 f2 f3 f4 f5 f6 f7 m) (hn : n = 3 + 2 * k.val) :
    k0_off20 i k = ![0, 512 * (m.b0 + (n + 1)), 0] := by
  have hb := h.b
  refine (Value.off20_eq i k).trans ?_
  rw [show 512 * (4 * (i 1).val + 4 + 2 * k.val) = 512 * (m.b0 + (n + 1)) from by omega]

theorem off21 (h : In c i arg2 arg3 arg4 arg5 arg6 arg7 f2 f3 f4 f5 f6 f7 m) (hn : n = 3 + 2 * k.val) :
    k0_off21 i k = ![0, 0, 512 * (m.b0 + (n + 1))] := by
  have hb := h.b
  refine (Value.off21_eq i k).trans ?_
  rw [show 512 * (4 * (i 1).val + 4 + 2 * k.val) = 512 * (m.b0 + (n + 1)) from by omega]

theorem off22 (h : In c i arg2 arg3 arg4 arg5 arg6 arg7 f2 f3 f4 f5 f6 f7 m) (hn : n = 3 + 2 * k.val) :
    k0_off22 i k = ![0, 0, 512 * (m.b0 + (n + 2))] := by
  have hb := h.b
  refine (Value.off22_eq i k).trans ?_
  rw [show 512 * (4 * (i 1).val + 5 + 2 * k.val) = 512 * (m.b0 + (n + 2)) from by omega]

/-- During the loop the next block is one of the sixteen. -/
theorem next_le (h : In c i arg2 arg3 arg4 arg5 arg6 arg7 f2 f3 f4 f5 f6 f7 m) (hn : n = 3 + 2 * k.val) :
    min (m.b0 + (n + 1)) 15 = m.b0 + (n + 1) := by
  have hk := k.2.trans_eq (Value.trips1_eq i)
  have hb := h.b
  omega

theorem s0 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) : Is2 (m := 2048) (n := 512) (arg11.view.read (Elt Ideal) f11) (m.S (m.b0 + (n + 1))) := by
  have e := hm.s; rwa [next_le h hn] at e

theorem e0 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) : Is2 (m := 2048) (n := 512) (arg13.view.read (Elt Ideal) f13) (m.E (m.b0 + (n + 1))) := by
  have e := hm.e; rwa [next_le h hn] at e

theorem v1195 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 2048) (n := 512) (loopInv_k0_t1.sl.v1195 c i arg2 arg3 f2 f3 k) (fun a b => m.S (m.b0 + (n + 2)) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off15 h hn) (fun z a b _ _ _ _ => h.q z a b)) _)) _) fun a b ha hb => by
    simp only [Data.S, Data.E, Nat.zero_add]

theorem cov12_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg12.view (loopInv_k0_t1.sl.H12_1 c i arg2 arg3 f2 f3 k) (fun a b => True) (m.S (m.b0 + (n + 2))) :=
  cov2_cons 0 0 rfl (v1195 h hm hn) cov2_none (by intro a b; intros; omega)

theorem v1207 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 2048) (n := 512) (loopInv_k0_t1.sl.v1207 c i arg4 arg5 f4 f5 k) (fun a b => m.E (m.b0 + (n + 2)) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off15 h hn) (fun z a b _ _ _ _ => h.o z a b)) _)) _) fun a b ha hb => by
    simp only [Data.S, Data.E, Nat.zero_add]

theorem cov14_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg14.view (loopInv_k0_t1.sl.H14_1 c i arg4 arg5 f4 f5 k) (fun a b => True) (m.E (m.b0 + (n + 2))) :=
  cov2_cons 0 0 rfl (v1207 h hm hn) cov2_none (by intro a b; intros; omega)

theorem v1341 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 2048) (n := 512) (loopInv_k0_t1.sl.v1341 c i arg2 arg3 f2 f3 k) (fun a b => m.S (min (m.b0 + (n + 3)) 15) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off19 h hn) (fun z a b _ _ _ _ => h.q z a b)) _)) _) fun a b ha hb => by
    simp only [Data.S, Data.E, Nat.zero_add]

theorem cov11_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg11.view (loopInv_k0_t1.sl.H11_1 c i arg2 arg3 f2 f3 k) (fun a b => True) (m.S (min (m.b0 + (n + 3)) 15)) :=
  cov2_cons 0 0 rfl (v1341 h hm hn) cov2_none (by intro a b; intros; omega)

theorem v1353 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 2048) (n := 512) (loopInv_k0_t1.sl.v1353 c i arg4 arg5 f4 f5 k) (fun a b => m.E (min (m.b0 + (n + 3)) 15) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off19 h hn) (fun z a b _ _ _ _ => h.o z a b)) _)) _) fun a b ha hb => by
    simp only [Data.S, Data.E, Nat.zero_add]

theorem cov13_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg13.view (loopInv_k0_t1.sl.H13_1 c i arg4 arg5 f4 f5 k) (fun a b => True) (m.E (min (m.b0 + (n + 3)) 15)) :=
  cov2_cons 0 0 rfl (v1353 h hm hn) cov2_none (by intro a b; intros; omega)

theorem v1270 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1270 c i arg6 arg11 f6 k f11) (fun a b => m.P (m.b0 + (n + 1)) (0 + a) (0 + b)) :=
  Is2.congr (Is2.self (Is2.truncf (ψ := .bf16) (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (by decide)) _) fun a b ha hb => by
    simp only [Nat.zero_add]; exact (m.P_full _ (by omega)).symm

theorem v1286 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1286 c i arg6 arg11 f6 k f11) (fun a b => m.P (m.b0 + (n + 1)) (512 + a) (0 + b)) :=
  Is2.congr (Is2.self (Is2.truncf (ψ := .bf16) (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (by decide)) _) fun a b ha hb => by
    simp only [Nat.zero_add]; exact (m.P_full _ (by omega)).symm

theorem v1302 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1302 c i arg6 arg11 f6 k f11) (fun a b => m.P (m.b0 + (n + 1)) (1024 + a) (0 + b)) :=
  Is2.congr (Is2.self (Is2.truncf (ψ := .bf16) (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (by decide)) _) fun a b ha hb => by
    simp only [Nat.zero_add]; exact (m.P_full _ (by omega)).symm

theorem v1318 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1318 c i arg6 arg11 f6 k f11) (fun a b => m.P (m.b0 + (n + 1)) (1536 + a) (0 + b)) :=
  Is2.congr (Is2.self (Is2.truncf (ψ := .bf16) (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (by decide)) _) fun a b ha hb => by
    simp only [Nat.zero_add]; exact (m.P_full _ (by omega)).symm

theorem cov15_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg15.view (loopInv_k0_t1.sl.H15_1 c i arg6 arg11 f6 k f11) (fun a b => a < 512) (m.P (m.b0 + (n + 1))) :=
  cov2_cons 0 0 rfl (v1270 h hm hn) cov2_none (by intro a b; intros; omega)

theorem cov15_3 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg15.view (loopInv_k0_t1.sl.H15_3 c i arg6 arg11 f6 k f11) (fun a b => a < 1536) (m.P (m.b0 + (n + 1))) :=
  cov2_cons 1024 0 rfl (v1302 h hm hn) (cov2_cons (R := fun a b => a < 1024) 512 0 rfl (v1286 h hm hn) (cov15_1 h hm hn) (by intro a b; intros; omega)) (by intro a b; intros; omega)

theorem cov15_4 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg15.view (loopInv_k0_t1.sl.H15_4 c i arg6 arg11 f6 k f11) (fun a b => True) (m.P (m.b0 + (n + 1))) :=
  cov2_cons 1536 0 rfl (v1318 h hm hn) (cov15_3 h hm hn) (by intro a b; intros; omega)

theorem v1278 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1278 c i arg6 arg7 arg11 arg13 f6 f7 k f11 f13) (fun a b => m.G (m.b0 + (n + 1)) (0 + a) (0 + b)) :=
  Is2.congr (Is2.self (Is2.truncf (ψ := .bf16) (Is2.mulf (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (Is2.subf (is2_readAt (F := (m.E (m.b0 + (n + 1)))) _ _ _ _ rfl (fun a b _ _ _ _ => (e0 h hm hn) a b)) (Is2.row (Is3.drop (is3_readAt (F := (fun _ b => m.D b)) _ _ _ _ (off18 h hn) (fun z a b _ _ _ _ => h.d z a b)) _) _))) (by decide)) _) fun a b ha hb => by
    simp only [Nat.zero_add]; exact (m.G_full _ (by omega)).symm

theorem v1294 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1294 c i arg6 arg7 arg11 arg13 f6 f7 k f11 f13) (fun a b => m.G (m.b0 + (n + 1)) (512 + a) (0 + b)) :=
  Is2.congr (Is2.self (Is2.truncf (ψ := .bf16) (Is2.mulf (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (Is2.subf (is2_readAt (F := (m.E (m.b0 + (n + 1)))) _ _ _ _ rfl (fun a b _ _ _ _ => (e0 h hm hn) a b)) (Is2.row (Is3.drop (is3_readAt (F := (fun _ b => m.D b)) _ _ _ _ (off18 h hn) (fun z a b _ _ _ _ => h.d z a b)) _) _))) (by decide)) _) fun a b ha hb => by
    simp only [Nat.zero_add]; exact (m.G_full _ (by omega)).symm

theorem v1310 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1310 c i arg6 arg7 arg11 arg13 f6 f7 k f11 f13) (fun a b => m.G (m.b0 + (n + 1)) (1024 + a) (0 + b)) :=
  Is2.congr (Is2.self (Is2.truncf (ψ := .bf16) (Is2.mulf (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (Is2.subf (is2_readAt (F := (m.E (m.b0 + (n + 1)))) _ _ _ _ rfl (fun a b _ _ _ _ => (e0 h hm hn) a b)) (Is2.row (Is3.drop (is3_readAt (F := (fun _ b => m.D b)) _ _ _ _ (off18 h hn) (fun z a b _ _ _ _ => h.d z a b)) _) _))) (by decide)) _) fun a b ha hb => by
    simp only [Nat.zero_add]; exact (m.G_full _ (by omega)).symm

theorem v1326 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1326 c i arg6 arg7 arg11 arg13 f6 f7 k f11 f13) (fun a b => m.G (m.b0 + (n + 1)) (1536 + a) (0 + b)) :=
  Is2.congr (Is2.self (Is2.truncf (ψ := .bf16) (Is2.mulf (Is2.exp2 (Is2.subf (is2_readAt (F := (m.S (m.b0 + (n + 1)))) _ _ _ _ rfl (fun a b _ _ _ _ => (s0 h hm hn) a b)) (Is2.row (Is3.drop (is3_readAt (F := (fun _ b => m.L b)) _ _ _ _ (off18 h hn) (fun z a b _ _ _ _ => h.l z a b)) _) _))) (Is2.subf (is2_readAt (F := (m.E (m.b0 + (n + 1)))) _ _ _ _ rfl (fun a b _ _ _ _ => (e0 h hm hn) a b)) (Is2.row (Is3.drop (is3_readAt (F := (fun _ b => m.D b)) _ _ _ _ (off18 h hn) (fun z a b _ _ _ _ => h.d z a b)) _) _))) (by decide)) _) fun a b ha hb => by
    simp only [Nat.zero_add]; exact (m.G_full _ (by omega)).symm

theorem cov17_3 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg17.view (loopInv_k0_t1.sl.H17_3 c i arg6 arg7 arg11 arg13 f6 f7 k f11 f13) (fun a b => a < 1536) (m.G (m.b0 + (n + 1))) :=
  cov2_cons 1024 0 rfl (v1310 h hm hn) (cov2_cons (R := fun a b => a < 1024) 512 0 rfl (v1294 h hm hn) (cov2_cons (R := fun a b => a < 512) 0 0 rfl (v1278 h hm hn) cov2_none (by intro a b; intros; omega)) (by intro a b; intros; omega)) (by intro a b; intros; omega)

theorem cov17_4 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg17.view (loopInv_k0_t1.sl.H17_4 c i arg6 arg7 arg11 arg13 f6 f7 k f11 f13) (fun a b => True) (m.G (m.b0 + (n + 1))) :=
  cov2_cons 1536 0 rfl (v1326 h hm hn) (cov17_3 h hm hn) (by intro a b; intros; omega)

theorem v1222 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 2048) (n := 128) (loopInv_k0_t1.sl.v1222 c i arg5 arg10 arg16 f5 k f10 f16) (fun a b => m.dv (n + 1) (0 + a) (0 + b)) :=
  Is3.congr (Is2.add (Is2.addf (Is3.drop (is3_readAt (F := (m.dv n)) _ _ _ _ rfl (fun z a b _ _ _ _ => hm.dv z a b)) _) (is2_nn rfl (is2_readAt (F := (m.P (m.b0 + n))) _ _ _ _ rfl (fun a b _ _ _ _ => hm.p a b)) (Is3.drop (is3_readAt (F := m.O) _ _ _ _ (off16 h hn) (fun z a b _ _ _ _ => h.o z a b)) _))) _) fun a b ha hb => by
    simp only [Nat.zero_add]; exact (m.dv_succ n _ _).symm

theorem cov10_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov3 arg10.view (loopInv_k0_t1.sl.H10_1 c i arg5 arg10 arg16 f5 k f10 f16) (fun _ _ => True) (m.dv (n + 1)) :=
  cov3_cons 0 0 rfl (v1222 h hm hn) cov3_none (by intro a b; intros; omega)

theorem v1368 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 2048) (n := 128) (loopInv_k0_t1.sl.v1368 c i arg5 arg6 arg10 arg11 arg15 arg16 f5 f6 k f10 f11 f16) (fun a b => m.dv (n + 2) (0 + a) (0 + b)) :=
  Is3.congr (Is2.add (Is2.addf (Is3.drop (is3_readCov (cov10_1 h hm hn) _ _ rfl (by intro a b; intros; first | trivial | omega)) _) (is2_nn rfl (is2_readCov (cov15_4 h hm hn) _ _ rfl (by intro a b; intros; first | trivial | omega)) (Is3.drop (is3_readAt (F := m.O) _ _ _ _ (off20 h hn) (fun z a b _ _ _ _ => h.o z a b)) _))) _) fun a b ha hb => by
    simp only [Nat.zero_add]; exact (m.dv_succ (n + 1) _ _).symm

theorem cov10_2 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov3 arg10.view (loopInv_k0_t1.sl.H10_2 c i arg5 arg6 arg10 arg11 arg15 arg16 f5 f6 k f10 f11 f16) (fun _ _ => True) (m.dv (n + 2)) :=
  cov3_cons 0 0 rfl (v1368 h hm hn) cov3_none (by intro a b; intros; omega)

theorem v1236 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 2048) (n := 128) (loopInv_k0_t1.sl.v1236 c i arg2 arg9 arg18 f2 k f9 f18) (fun a b => m.dk (n + 1) (0 + a) (0 + b)) :=
  Is3.congr (Is2.add (Is2.addf (Is3.drop (is3_readAt (F := (m.dk n)) _ _ _ _ rfl (fun z a b _ _ _ _ => hm.dk z a b)) _) (is2_nn rfl (is2_readAt (F := (m.G (m.b0 + n))) _ _ _ _ rfl (fun a b _ _ _ _ => hm.g a b)) (Is3.drop (is3_readAt (F := m.Q) _ _ _ _ (off16 h hn) (fun z a b _ _ _ _ => h.q z a b)) _))) _) fun a b ha hb => by
    simp only [Nat.zero_add]; exact (m.dk_succ n _ _).symm

theorem cov9_1 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov3 arg9.view (loopInv_k0_t1.sl.H9_1 c i arg2 arg9 arg18 f2 k f9 f18) (fun _ _ => True) (m.dk (n + 1)) :=
  cov3_cons 0 0 rfl (v1236 h hm hn) cov3_none (by intro a b; intros; omega)

theorem v1382 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 2048) (n := 128) (loopInv_k0_t1.sl.v1382 c i arg2 arg6 arg7 arg9 arg11 arg13 arg17 arg18 f2 f6 f7 k f9 f11 f13 f18) (fun a b => m.dk (n + 2) (0 + a) (0 + b)) :=
  Is3.congr (Is2.add (Is2.addf (Is3.drop (is3_readCov (cov9_1 h hm hn) _ _ rfl (by intro a b; intros; first | trivial | omega)) _) (is2_nn rfl (is2_readCov (cov17_4 h hm hn) _ _ rfl (by intro a b; intros; first | trivial | omega)) (Is3.drop (is3_readAt (F := m.Q) _ _ _ _ (off20 h hn) (fun z a b _ _ _ _ => h.q z a b)) _))) _) fun a b ha hb => by
    simp only [Nat.zero_add]; exact (m.dk_succ (n + 1) _ _).symm

theorem cov9_2 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov3 arg9.view (loopInv_k0_t1.sl.H9_2 c i arg2 arg6 arg7 arg9 arg11 arg13 arg17 arg18 f2 f6 f7 k f9 f11 f13 f18) (fun _ _ => True) (m.dk (n + 2)) :=
  cov3_cons 0 0 rfl (v1382 h hm hn) cov3_none (by intro a b; intros; omega)

theorem v1250 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 128) (n := 512) (loopInv_k0_t1.sl.v1250 c i arg8 arg18 arg19 k f8 f18 f19) (fun a b => m.dq X (n + 1) (0 + a) (512 * (m.b0 + n) + b)) :=
  Is3.congr (Is2.add (Is2.addf (Is3.drop (is3_readAt (F := (m.dq X n)) _ _ _ _ (off17 h hn) (fun z a b _ _ _ _ => hm.dq z a b)) _) (is2_nn rfl (is2_readAt (F := (fun d a => m.K a d)) _ _ _ _ rfl (fun a b _ _ _ _ => hm.kt a b)) (is2_readAt (F := (m.G (m.b0 + n))) _ _ _ _ rfl (fun a b _ _ _ _ => hm.g a b)))) _) fun a b ha hb => by
    rw [m.dq_in X (n := n) (by omega) (by omega)]
    simp only [Data.dqB, Nat.zero_add, Nat.add_sub_cancel_left]

theorem v1396 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 128) (n := 512) (loopInv_k0_t1.sl.v1396 c i arg6 arg7 arg8 arg11 arg13 arg17 arg19 f6 f7 k f8 f11 f13 f19) (fun a b => m.dq X (n + 2) (0 + a) (512 * (m.b0 + (n + 1)) + b)) :=
  Is3.congr (Is2.add (Is2.addf (Is3.drop (is3_readAt (F := (m.dq X n)) _ _ _ _ (off21 h hn) (fun z a b _ _ _ _ => hm.dq z a b)) _) (is2_nn rfl (is2_readAt (F := (fun d a => m.K a d)) _ _ _ _ rfl (fun a b _ _ _ _ => hm.kt a b)) (is2_readCov (cov17_4 h hm hn) _ _ rfl (by intro a b; intros; first | trivial | omega)))) _) fun a b ha hb => by
    rw [m.dq_in X (n := n + 1) (by omega) (by omega), ← m.dq_out X (n := n) (by omega)]
    simp only [Data.dqB, Nat.zero_add, Nat.add_sub_cancel_left]

theorem all8 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is3 (m := 128) (n := 8192) (arg8.view.read (Elt Ideal) (arg8.view.writes (Elt Ideal) f8 (loopInv_k0_t1.sl.H8_2 c i arg6 arg7 arg8 arg11 arg13 arg17 arg18 arg19 f6 f7 k f8 f11 f13 f18 f19))) (m.dq X (n + 2)) := fun z a b =>
  read_cons3 _ _ _ _ (off21 h hn) (v1396 h hm hn) z a b fun h1 =>
    read_cons3 _ _ _ _ (off17 h hn) ((v1250 h hm hn).congr fun a b _ hb => m.dq_out X (n := n + 1) (by omega)) z a b fun h2 =>
      (hm.dq z a b).trans ((m.dq_out X (by have := a.2; omega)).trans (m.dq_out X (n := n + 1) (by have := a.2; omega)))

theorem v1416 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1416 c i arg2 arg3 arg6 arg12 f2 f3 f6 k) (fun a b => m.P (m.b0 + (n + 2)) (0 + a) (0 + b)) :=
  Is2.congr (Is2.self (Is2.truncf (ψ := .bf16) (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (by decide)) _) fun a b ha hb => by
    simp only [Nat.zero_add]; exact (m.P_full _ (by omega)).symm

theorem v1432 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1432 c i arg2 arg3 arg6 arg12 f2 f3 f6 k) (fun a b => m.P (m.b0 + (n + 2)) (512 + a) (0 + b)) :=
  Is2.congr (Is2.self (Is2.truncf (ψ := .bf16) (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (by decide)) _) fun a b ha hb => by
    simp only [Nat.zero_add]; exact (m.P_full _ (by omega)).symm

theorem v1424 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1424 c i arg2 arg3 arg4 arg5 arg6 arg7 arg12 arg14 f2 f3 f4 f5 f6 f7 k) (fun a b => m.G (m.b0 + (n + 2)) (0 + a) (0 + b)) :=
  Is2.congr (Is2.self (Is2.truncf (ψ := .bf16) (Is2.mulf (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (Is2.subf (is2_readCov (cov14_1 h hm hn) _ _ rfl (by intro a b; intros; first | trivial | omega)) (Is2.row (Is3.drop (is3_readAt (F := (fun _ b => m.D b)) _ _ _ _ (off22 h hn) (fun z a b _ _ _ _ => h.d z a b)) _) _))) (by decide)) _) fun a b ha hb => by
    simp only [Nat.zero_add]; exact (m.G_full _ (by omega)).symm

theorem v1440 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (loopInv_k0_t1.sl.v1440 c i arg2 arg3 arg4 arg5 arg6 arg7 arg12 arg14 f2 f3 f4 f5 f6 f7 k) (fun a b => m.G (m.b0 + (n + 2)) (512 + a) (0 + b)) :=
  Is2.congr (Is2.self (Is2.truncf (ψ := .bf16) (Is2.mulf (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (Is2.subf (is2_readCov (cov14_1 h hm hn) _ _ rfl (by intro a b; intros; first | trivial | omega)) (Is2.row (Is3.drop (is3_readAt (F := (fun _ b => m.D b)) _ _ _ _ (off22 h hn) (fun z a b _ _ _ _ => h.d z a b)) _) _))) (by decide)) _) fun a b ha hb => by
    simp only [Nat.zero_add]; exact (m.G_full _ (by omega)).symm

theorem p1024 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (k0_pay215 (loopInv_k0_t1.sl.v1445 c i arg2 arg3 arg6 arg12 f2 f3 f6 k)) (fun a b => m.P (m.b0 + (n + 2)) (1024 + a) (0 + b)) :=
  Is2.congr (Is2.self (Is2.truncf (ψ := .bf16) (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (by decide)) _) fun a b ha hb => by
    simp only [Nat.zero_add]; exact (m.P_full _ (by omega)).symm

theorem p1536 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (k0_pay218 (loopInv_k0_t1.sl.v1402 c i arg6 f6 k) (loopInv_k0_t1.sl.v1457 c i arg2 arg3 arg12 f2 f3 k)) (fun a b => m.P (m.b0 + (n + 2)) (1536 + a) (0 + b)) :=
  Is2.congr (Is2.self (Is2.truncf (ψ := .bf16) (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (by decide)) _) fun a b ha hb => by
    simp only [Nat.zero_add]; exact (m.P_full _ (by omega)).symm

theorem g1024 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (k0_pay216 (loopInv_k0_t1.sl.v1408 c i arg7 f7 k) (loopInv_k0_t1.sl.v1444 c i arg2 arg3 arg6 arg12 f2 f3 f6 k) (loopInv_k0_t1.sl.v1449 c i arg4 arg5 arg14 f4 f5 k)) (fun a b => m.G (m.b0 + (n + 2)) (1024 + a) (0 + b)) :=
  Is2.congr (Is2.self (Is2.truncf (ψ := .bf16) (Is2.mulf (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (Is2.subf (is2_readCov (cov14_1 h hm hn) _ _ rfl (by intro a b; intros; first | trivial | omega)) (Is2.row (Is3.drop (is3_readAt (F := (fun _ b => m.D b)) _ _ _ _ (off22 h hn) (fun z a b _ _ _ _ => h.d z a b)) _) _))) (by decide)) _) fun a b ha hb => by
    simp only [Nat.zero_add]; exact (m.G_full _ (by omega)).symm

theorem g1536 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Is2 (m := 512) (n := 512) (k0_pay219 (loopInv_k0_t1.sl.v1402 c i arg6 f6 k) (loopInv_k0_t1.sl.v1408 c i arg7 f7 k) (loopInv_k0_t1.sl.v1457 c i arg2 arg3 arg12 f2 f3 k) (loopInv_k0_t1.sl.v1465 c i arg4 arg5 arg14 f4 f5 k)) (fun a b => m.G (m.b0 + (n + 2)) (1536 + a) (0 + b)) :=
  Is2.congr (Is2.self (Is2.truncf (ψ := .bf16) (Is2.mulf (Is2.exp2 (Is2.subf (is2_readCov (cov12_1 h hm hn) _ _ rfl (by intro a b; intros; first | trivial | omega)) (Is2.row (Is3.drop (is3_readAt (F := (fun _ b => m.L b)) _ _ _ _ (off22 h hn) (fun z a b _ _ _ _ => h.l z a b)) _) _))) (Is2.subf (is2_readCov (cov14_1 h hm hn) _ _ rfl (by intro a b; intros; first | trivial | omega)) (Is2.row (Is3.drop (is3_readAt (F := (fun _ b => m.D b)) _ _ _ _ (off22 h hn) (fun z a b _ _ _ _ => h.d z a b)) _) _))) (by decide)) _) fun a b ha hb => by
    simp only [Nat.zero_add]; exact (m.G_full _ (by omega)).symm

theorem all16 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg16.view ([⟨Rect.unit ![1536, 0] S512x512.size inb_S2048x512_S512x512_1536_0, k0_pay218 (loopInv_k0_t1.sl.v1402 c i arg6 f6 k) (loopInv_k0_t1.sl.v1457 c i arg2 arg3 arg12 f2 f3 k)⟩, ⟨Rect.unit ![1024, 0] S512x512.size inb_S2048x512_S512x512_1024_0, k0_pay215 (loopInv_k0_t1.sl.v1445 c i arg2 arg3 arg6 arg12 f2 f3 f6 k)⟩, ⟨Rect.unit ![512, 0] S512x512.size inb_S2048x512_S512x512_512_0, loopInv_k0_t1.sl.v1432 c i arg2 arg3 arg6 arg12 f2 f3 f6 k⟩, ⟨Rect.unit ![0, 0] S512x512.size inb_S2048x512_S512x512_0_0, loopInv_k0_t1.sl.v1416 c i arg2 arg3 arg6 arg12 f2 f3 f6 k⟩] : List (View.Piece (Elt Ideal) S2048x512 .bf16)) (fun _ _ => True) (m.P (m.b0 + (n + 2))) :=
  (cov2_cons (R := fun a b => True) (m := 512) (n := 512) 1536 0 rfl (p1536 h hm hn) (cov2_cons (R := fun a b => a < 1536) (m := 512) (n := 512) 1024 0 rfl (p1024 h hm hn) (cov2_cons (R := fun a b => a < 1024) (m := 512) (n := 512) 512 0 rfl (v1432 h hm hn) (cov2_cons (R := fun a b => a < 512) (m := 512) (n := 512) 0 0 rfl (v1416 h hm hn) cov2_none (by intro a b; intros; first | trivial | omega)) (by intro a b; intros; first | trivial | omega)) (by intro a b; intros; first | trivial | omega)) (by intro a b; intros; first | trivial | omega))

theorem all18 (h : In c i arg2 arg3 arg4 arg5 arg6 arg7 f2 f3 f4 f5 f6 f7 m)
    (hm : Mid c arg8 arg9 arg10 arg11 arg13 arg16 arg18 arg19 f8 f9 f10 f11 f13 f16 f18 f19 m X n) (hn : n = 3 + 2 * k.val) :
    Cov2 arg18.view ([⟨Rect.unit ![1536, 0] S512x512.size inb_S2048x512_S512x512_1536_0, k0_pay219 (loopInv_k0_t1.sl.v1402 c i arg6 f6 k) (loopInv_k0_t1.sl.v1408 c i arg7 f7 k) (loopInv_k0_t1.sl.v1457 c i arg2 arg3 arg12 f2 f3 k) (loopInv_k0_t1.sl.v1465 c i arg4 arg5 arg14 f4 f5 k)⟩, ⟨Rect.unit ![1024, 0] S512x512.size inb_S2048x512_S512x512_1024_0, k0_pay216 (loopInv_k0_t1.sl.v1408 c i arg7 f7 k) (loopInv_k0_t1.sl.v1444 c i arg2 arg3 arg6 arg12 f2 f3 f6 k) (loopInv_k0_t1.sl.v1449 c i arg4 arg5 arg14 f4 f5 k)⟩, ⟨Rect.unit ![512, 0] S512x512.size inb_S2048x512_S512x512_512_0, loopInv_k0_t1.sl.v1440 c i arg2 arg3 arg4 arg5 arg6 arg7 arg12 arg14 f2 f3 f4 f5 f6 f7 k⟩, ⟨Rect.unit ![0, 0] S512x512.size inb_S2048x512_S512x512_0_0, loopInv_k0_t1.sl.v1424 c i arg2 arg3 arg4 arg5 arg6 arg7 arg12 arg14 f2 f3 f4 f5 f6 f7 k⟩] : List (View.Piece (Elt Ideal) S2048x512 .bf16)) (fun _ _ => True) (m.G (m.b0 + (n + 2))) :=
  (cov2_cons (R := fun a b => True) (m := 512) (n := 512) 1536 0 rfl (g1536 h hm hn) (cov2_cons (R := fun a b => a < 1536) (m := 512) (n := 512) 1024 0 rfl (g1024 h hm hn) (cov2_cons (R := fun a b => a < 1024) (m := 512) (n := 512) 512 0 rfl (v1440 h hm hn) (cov2_cons (R := fun a b => a < 512) (m := 512) (n := 512) 0 0 rfl (v1424 h hm hn) cov2_none (by intro a b; intros; first | trivial | omega)) (by intro a b; intros; first | trivial | omega)) (by intro a b; intros; first | trivial | omega)) (by intro a b; intros; first | trivial | omega))

end Cert.KernelIdeal.Trip

end
-- ==== Proof.Loop.lean ====
/-
  The loop of the backward kernel: what the buffers hold before each trip, and that a trip keeps it.
-/
module

public import proofs.«01_k».proof.Proof.Trip

@[expose] public section

set_option maxRecDepth 16384

noncomputable section

namespace Cert.KernelIdeal.Run

open Cert.KernelIdeal Cert.KernelIdeal.Gen Cert.Tile Cert.Model
open Cert.KernelIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The eighteen buffers between two steps of the loop, `n` blocks of queries added. -/
def Stage (c : Dev nD) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32) (arg8 : Memref sig .tc .vmem S1x128x8192 .f32) (arg9 : Memref sig .tc .vmem S1x2048x128 .f32) (arg10 : Memref sig .tc .vmem S1x2048x128 .f32) (arg11 : Memref sig .tc .vmem S2048x512 .f32) (arg12 : Memref sig .tc .vmem S2048x512 .f32) (arg13 : Memref sig .tc .vmem S2048x512 .f32) (arg14 : Memref sig .tc .vmem S2048x512 .f32) (arg15 : Memref sig .tc .vmem S2048x512 .bf16) (arg16 : Memref sig .tc .vmem S2048x512 .bf16) (arg17 : Memref sig .tc .vmem S2048x512 .bf16) (arg18 : Memref sig .tc .vmem S2048x512 .bf16) (arg19 : Memref sig .tc .vmem S128x2048 .bf16)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (m : Data) (X : ℕ → ℕ → EReal) (n : ℕ) : sProp 𝕄 :=
  iprop(∃ (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))), ⌜Trip.Mid c arg8 arg9 arg10 arg11 arg13 arg16 arg18 arg19 f8 f9 f10 f11 f13 f16 f18 f19 m X n⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- The loop adds two blocks of queries a trip. -/
@[sl_loop] def loop1 (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (init : BitVec 32)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (m : Data) (X : ℕ → ℕ → EReal)
    (h : In c i arg2 arg3 arg4 arg5 arg6 arg7 f2 f3 f4 f5 f6 f7 m) :
    Cert.KernelIdeal.Gen.LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 k0_pay213 init where
  inv := fun k _ => Stage c arg2 arg3 arg4 arg5 arg6 arg7 arg8 arg9 arg10 arg11 arg12 arg13 arg14 arg15 arg16 arg17 arg18 arg19 f2 f3 f4 f5 f6 f7 m X (3 + 2 * k)
  step := fun k acc => by
    unfold Stage
    iintro ⟨%f8, %f9, %f10, %f11, %f12, %f13, %f14, %f15, %f16, %f17, %f18, %f19, %hm, H2, H3, H4, H5, H6, H7, H8, H9, H10, H11, H12, H13, H14, H15, H16, H17, H18, H19⟩
    unfold k0_t1_body
    sl_exec_parts
    sl_step
    iexists _, _, _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · ipureintro
      have hn : 3 + 2 * k.val = 3 + 2 * k.val := rfl
      rw [show 3 + 2 * (k.val + 1) = 3 + 2 * k.val + 2 from by omega]
      exact
        { dq := Trip.all8 h hm hn
          dk := fun z a b => Trip.cov9_2 h hm hn f9 z a b trivial
          dv := fun z a b => Trip.cov10_2 h hm hn f10 z a b trivial
          s := fun a b => Trip.cov11_1 h hm hn f11 a b trivial
          e := fun a b => Trip.cov13_1 h hm hn f13 a b trivial
          p := fun a b => Trip.all16 h hm hn f16 a b trivial
          g := fun a b => Trip.all18 h hm hn f18 a b trivial
          kt := hm.kt }

end Cert.KernelIdeal.Run

end
-- ==== Proof.PreScores.lean ====
/-
  The two products of every block the straight part of the backward kernel forms: each stored tile, and what each buffer
  then holds.
-/
module

public import proofs.«01_k».proof.Proof.Inputs

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

theorem v52 (h : In c i arg2 arg3 arg4 arg5 arg6 arg7 f2 f3 f4 f5 f6 f7 m) :
    Is2 (m := 256) (n := 256) (body_run.sl.v52 c i arg2 arg3 f2 f3) (fun a b => m.S m.b0 (256 + a) (256 + b)) :=
  Is2.congr (Is2.self (is2_nt rfl (Is3.drop (is3_readAt (F := m.K) _ _ _ _ rfl (fun z a b _ _ _ _ => h.k z a b)) _) (Is3.drop (is3_readAt (F := m.Q) _ _ _ _ (off2 h) (fun z a b _ _ _ _ => h.q z a b)) _)) _) fun a b ha hb => by
    simp only [Data.S, Data.E, Nat.zero_add, Nat.add_assoc]

theorem v28 (h : In c i arg2 arg3 arg4 arg5 arg6 arg7 f2 f3 f4 f5 f6 f7 m) :
    Is2 (m := 256) (n := 512) (body_run.sl.v28 c i arg2 arg3 f2 f3) (fun a b => m.S m.b0 (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off1 h) (fun z a b _ _ _ _ => h.q z a b)) _)) _) fun a b ha hb => by
    simp only [Data.S, Data.E, Nat.zero_add, Nat.add_assoc]

theorem cov11_2 (h : In c i arg2 arg3 arg4 arg5 arg6 arg7 f2 f3 f4 f5 f6 f7 m) :
    Cov2 arg11.view (body_run.sl.H11_2 c i arg2 arg3 f2 f3) (fun a b => a < 256 ∨ (a < 512 ∧ 256 ≤ b)) (m.S m.b0) :=
  cov2_cons 256 256 rfl (v52 h) (cov2_cons (R := fun a b => a < 256) 0 0 rfl (v28 h) cov2_none (by intro a b; intros; omega)) (by intro a b; intros; omega)

theorem v227 (h : In c i arg2 arg3 arg4 arg5 arg6 arg7 f2 f3 f4 f5 f6 f7 m) :
    Is2 (m := 256) (n := 256) (body_run.sl.v227 c i arg2 arg3 f2 f3) (fun a b => m.S (m.b0 + 2) (1280 + a) (256 + b)) :=
  Is2.congr (Is2.self (is2_nt rfl (Is3.drop (is3_readAt (F := m.K) _ _ _ _ rfl (fun z a b _ _ _ _ => h.k z a b)) _) (Is3.drop (is3_readAt (F := m.Q) _ _ _ _ (off8_1 h) (fun z a b _ _ _ _ => h.q z a b)) _)) _) fun a b ha hb => by
    simp only [Data.S, Data.E, Nat.zero_add, Nat.add_assoc]

theorem v203 (h : In c i arg2 arg3 arg4 arg5 arg6 arg7 f2 f3 f4 f5 f6 f7 m) :
    Is2 (m := 1280) (n := 512) (body_run.sl.v203 c i arg2 arg3 f2 f3) (fun a b => m.S (m.b0 + 2) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off7_1 h) (fun z a b _ _ _ _ => h.q z a b)) _)) _) fun a b ha hb => by
    simp only [Data.S, Data.E, Nat.zero_add, Nat.add_assoc]

theorem cov11_4 (h : In c i arg2 arg3 arg4 arg5 arg6 arg7 f2 f3 f4 f5 f6 f7 m) :
    Cov2 arg11.view (body_run.sl.H11_4 c i arg2 arg3 f2 f3) (fun a b => a < 1280 ∨ (a < 1536 ∧ 256 ≤ b)) (m.S (m.b0 + 2)) :=
  cov2_cons 1280 256 rfl (v227 h) (cov2_cons (R := fun a b => a < 1280) 0 0 rfl (v203 h) cov2_none (by intro a b; intros; omega)) (by intro a b; intros; omega)

theorem v777 (h : In c i arg2 arg3 arg4 arg5 arg6 arg7 f2 f3 f4 f5 f6 f7 m) :
    Is2 (m := 2048) (n := 512) (body_run.sl.v777 c i arg2 arg3 f2 f3) (fun a b => m.S (min (m.b0 + 4) 15) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off7_3 h) (fun z a b _ _ _ _ => h.q z a b)) _)) _) fun a b ha hb => by
    simp only [Data.S, Data.E, Nat.zero_add, Nat.add_assoc]

theorem cov11_5 (h : In c i arg2 arg3 arg4 arg5 arg6 arg7 f2 f3 f4 f5 f6 f7 m) :
    Cov2 arg11.view (body_run.sl.H11_5 c i arg2 arg3 f2 f3) (fun a b => True) (m.S (min (m.b0 + 4) 15)) :=
  cov2_cons 0 0 rfl (v777 h) cov2_none (by intro a b; intros; omega)

theorem v78 (h : In c i arg2 arg3 arg4 arg5 arg6 arg7 f2 f3 f4 f5 f6 f7 m) :
    Is2 (m := 768) (n := 512) (body_run.sl.v78 c i arg2 arg3 f2 f3) (fun a b => m.S (m.b0 + 1) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off3 h) (fun z a b _ _ _ _ => h.q z a b)) _)) _) fun a b ha hb => by
    simp only [Data.S, Data.E, Nat.zero_add, Nat.add_assoc]

theorem cov12_1 (h : In c i arg2 arg3 arg4 arg5 arg6 arg7 f2 f3 f4 f5 f6 f7 m) :
    Cov2 arg12.view (body_run.sl.H12_1 c i arg2 arg3 f2 f3) (fun a b => a < 768) (m.S (m.b0 + 1)) :=
  cov2_cons 0 0 rfl (v78 h) cov2_none (by intro a b; intros; omega)

theorem v102 (h : In c i arg2 arg3 arg4 arg5 arg6 arg7 f2 f3 f4 f5 f6 f7 m) :
    Is2 (m := 256) (n := 256) (body_run.sl.v102 c i arg2 arg3 f2 f3) (fun a b => m.S (m.b0 + 1) (768 + a) (256 + b)) :=
  Is2.congr (Is2.self (is2_nt rfl (Is3.drop (is3_readAt (F := m.K) _ _ _ _ rfl (fun z a b _ _ _ _ => h.k z a b)) _) (Is3.drop (is3_readAt (F := m.Q) _ _ _ _ (off4 h) (fun z a b _ _ _ _ => h.q z a b)) _)) _) fun a b ha hb => by
    simp only [Data.S, Data.E, Nat.zero_add, Nat.add_assoc]

theorem cov12_2 (h : In c i arg2 arg3 arg4 arg5 arg6 arg7 f2 f3 f4 f5 f6 f7 m) :
    Cov2 arg12.view (body_run.sl.H12_2 c i arg2 arg3 f2 f3) (fun a b => a < 768 ∨ (a < 1024 ∧ 256 ≤ b)) (m.S (m.b0 + 1)) :=
  cov2_cons 768 256 rfl (v102 h) (cov12_1 h) (by intro a b; intros; omega)

theorem v465 (h : In c i arg2 arg3 arg4 arg5 arg6 arg7 f2 f3 f4 f5 f6 f7 m) :
    Is2 (m := 1792) (n := 512) (body_run.sl.v465 c i arg2 arg3 f2 f3) (fun a b => m.S (m.b0 + 3) (0 + a) (0 + b)) :=
  Is2.congr (Is2.self (is2_nt rfl (Is3.drop (is3_readAt (F := m.K) _ _ _ _ rfl (fun z a b _ _ _ _ => h.k z a b)) _) (Is3.drop (is3_readAt (F := m.Q) _ _ _ _ (off7_2 h) (fun z a b _ _ _ _ => h.q z a b)) _)) _) fun a b ha hb => by
    simp only [Data.S, Data.E, Nat.zero_add, Nat.add_assoc]

theorem cov12_3 (h : In c i arg2 arg3 arg4 arg5 arg6 arg7 f2 f3 f4 f5 f6 f7 m) :
    Cov2 arg12.view (body_run.sl.H12_3 c i arg2 arg3 f2 f3) (fun a b => a < 1792) (m.S (m.b0 + 3)) :=
  cov2_cons 0 0 rfl (v465 h) cov2_none (by intro a b; intros; omega)

theorem v489 (h : In c i arg2 arg3 arg4 arg5 arg6 arg7 f2 f3 f4 f5 f6 f7 m) :
    Is2 (m := 256) (n := 256) (body_run.sl.v489 c i arg2 arg3 f2 f3) (fun a b => m.S (m.b0 + 3) (1792 + a) (256 + b)) :=
  Is2.congr (Is2.self (is2_nt rfl (Is3.drop (is3_readAt (F := m.K) _ _ _ _ rfl (fun z a b _ _ _ _ => h.k z a b)) _) (Is3.drop (is3_readAt (F := m.Q) _ _ _ _ (off8_2 h) (fun z a b _ _ _ _ => h.q z a b)) _)) _) fun a b ha hb => by
    simp only [Data.S, Data.E, Nat.zero_add, Nat.add_assoc]

theorem cov12_4 (h : In c i arg2 arg3 arg4 arg5 arg6 arg7 f2 f3 f4 f5 f6 f7 m) :
    Cov2 arg12.view (body_run.sl.H12_4 c i arg2 arg3 f2 f3) (fun a b => a < 1792 ∨ (a < 2048 ∧ 256 ≤ b)) (m.S (m.b0 + 3)) :=
  cov2_cons 1792 256 rfl (v489 h) (cov12_3 h) (by intro a b; intros; omega)

theorem v40 (h : In c i arg2 arg3 arg4 arg5 arg6 arg7 f2 f3 f4 f5 f6 f7 m) :
    Is2 (m := 256) (n := 512) (body_run.sl.v40 c i arg4 arg5 f4 f5) (fun a b => m.E m.b0 (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off1 h) (fun z a b _ _ _ _ => h.o z a b)) _)) _) fun a b ha hb => by
    simp only [Data.S, Data.E, Nat.zero_add, Nat.add_assoc]

theorem cov13_1 (h : In c i arg2 arg3 arg4 arg5 arg6 arg7 f2 f3 f4 f5 f6 f7 m) :
    Cov2 arg13.view (body_run.sl.H13_1 c i arg4 arg5 f4 f5) (fun a b => a < 256) (m.E m.b0) :=
  cov2_cons 0 0 rfl (v40 h) cov2_none (by intro a b; intros; omega)

theorem v64 (h : In c i arg2 arg3 arg4 arg5 arg6 arg7 f2 f3 f4 f5 f6 f7 m) :
    Is2 (m := 256) (n := 256) (body_run.sl.v64 c i arg4 arg5 f4 f5) (fun a b => m.E m.b0 (256 + a) (256 + b)) :=
  Is2.congr (Is2.self (is2_nt rfl (Is3.drop (is3_readAt (F := m.V) _ _ _ _ rfl (fun z a b _ _ _ _ => h.v z a b)) _) (Is3.drop (is3_readAt (F := m.O) _ _ _ _ (off2 h) (fun z a b _ _ _ _ => h.o z a b)) _)) _) fun a b ha hb => by
    simp only [Data.S, Data.E, Nat.zero_add, Nat.add_assoc]

theorem cov13_2 (h : In c i arg2 arg3 arg4 arg5 arg6 arg7 f2 f3 f4 f5 f6 f7 m) :
    Cov2 arg13.view (body_run.sl.H13_2 c i arg4 arg5 f4 f5) (fun a b => a < 256 ∨ (a < 512 ∧ 256 ≤ b)) (m.E m.b0) :=
  cov2_cons 256 256 rfl (v64 h) (cov13_1 h) (by intro a b; intros; omega)

theorem v215 (h : In c i arg2 arg3 arg4 arg5 arg6 arg7 f2 f3 f4 f5 f6 f7 m) :
    Is2 (m := 1280) (n := 512) (body_run.sl.v215 c i arg4 arg5 f4 f5) (fun a b => m.E (m.b0 + 2) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off7_1 h) (fun z a b _ _ _ _ => h.o z a b)) _)) _) fun a b ha hb => by
    simp only [Data.S, Data.E, Nat.zero_add, Nat.add_assoc]

theorem cov13_3 (h : In c i arg2 arg3 arg4 arg5 arg6 arg7 f2 f3 f4 f5 f6 f7 m) :
    Cov2 arg13.view (body_run.sl.H13_3 c i arg4 arg5 f4 f5) (fun a b => a < 1280) (m.E (m.b0 + 2)) :=
  cov2_cons 0 0 rfl (v215 h) cov2_none (by intro a b; intros; omega)

theorem v239 (h : In c i arg2 arg3 arg4 arg5 arg6 arg7 f2 f3 f4 f5 f6 f7 m) :
    Is2 (m := 256) (n := 256) (body_run.sl.v239 c i arg4 arg5 f4 f5) (fun a b => m.E (m.b0 + 2) (1280 + a) (256 + b)) :=
  Is2.congr (Is2.self (is2_nt rfl (Is3.drop (is3_readAt (F := m.V) _ _ _ _ rfl (fun z a b _ _ _ _ => h.v z a b)) _) (Is3.drop (is3_readAt (F := m.O) _ _ _ _ (off8_1 h) (fun z a b _ _ _ _ => h.o z a b)) _)) _) fun a b ha hb => by
    simp only [Data.S, Data.E, Nat.zero_add, Nat.add_assoc]

theorem cov13_4 (h : In c i arg2 arg3 arg4 arg5 arg6 arg7 f2 f3 f4 f5 f6 f7 m) :
    Cov2 arg13.view (body_run.sl.H13_4 c i arg4 arg5 f4 f5) (fun a b => a < 1280 ∨ (a < 1536 ∧ 256 ≤ b)) (m.E (m.b0 + 2)) :=
  cov2_cons 1280 256 rfl (v239 h) (cov13_3 h) (by intro a b; intros; omega)

theorem v789 (h : In c i arg2 arg3 arg4 arg5 arg6 arg7 f2 f3 f4 f5 f6 f7 m) :
    Is2 (m := 2048) (n := 512) (body_run.sl.v789 c i arg4 arg5 f4 f5) (fun a b => m.E (min (m.b0 + 4) 15) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off7_3 h) (fun z a b _ _ _ _ => h.o z a b)) _)) _) fun a b ha hb => by
    simp only [Data.S, Data.E, Nat.zero_add, Nat.add_assoc]

theorem cov13_5 (h : In c i arg2 arg3 arg4 arg5 arg6 arg7 f2 f3 f4 f5 f6 f7 m) :
    Cov2 arg13.view (body_run.sl.H13_5 c i arg4 arg5 f4 f5) (fun a b => True) (m.E (min (m.b0 + 4) 15)) :=
  cov2_cons 0 0 rfl (v789 h) cov2_none (by intro a b; intros; omega)

theorem v114 (h : In c i arg2 arg3 arg4 arg5 arg6 arg7 f2 f3 f4 f5 f6 f7 m) :
    Is2 (m := 256) (n := 256) (body_run.sl.v114 c i arg4 arg5 f4 f5) (fun a b => m.E (m.b0 + 1) (768 + a) (256 + b)) :=
  Is2.congr (Is2.self (is2_nt rfl (Is3.drop (is3_readAt (F := m.V) _ _ _ _ rfl (fun z a b _ _ _ _ => h.v z a b)) _) (Is3.drop (is3_readAt (F := m.O) _ _ _ _ (off4 h) (fun z a b _ _ _ _ => h.o z a b)) _)) _) fun a b ha hb => by
    simp only [Data.S, Data.E, Nat.zero_add, Nat.add_assoc]

theorem v90 (h : In c i arg2 arg3 arg4 arg5 arg6 arg7 f2 f3 f4 f5 f6 f7 m) :
    Is2 (m := 768) (n := 512) (body_run.sl.v90 c i arg4 arg5 f4 f5) (fun a b => m.E (m.b0 + 1) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off3 h) (fun z a b _ _ _ _ => h.o z a b)) _)) _) fun a b ha hb => by
    simp only [Data.S, Data.E, Nat.zero_add, Nat.add_assoc]

theorem cov14_2 (h : In c i arg2 arg3 arg4 arg5 arg6 arg7 f2 f3 f4 f5 f6 f7 m) :
    Cov2 arg14.view (body_run.sl.H14_2 c i arg4 arg5 f4 f5) (fun a b => a < 768 ∨ (a < 1024 ∧ 256 ≤ b)) (m.E (m.b0 + 1)) :=
  cov2_cons 768 256 rfl (v114 h) (cov2_cons (R := fun a b => a < 768) 0 0 rfl (v90 h) cov2_none (by intro a b; intros; omega)) (by intro a b; intros; omega)

theorem v477 (h : In c i arg2 arg3 arg4 arg5 arg6 arg7 f2 f3 f4 f5 f6 f7 m) :
    Is2 (m := 1792) (n := 512) (body_run.sl.v477 c i arg4 arg5 f4 f5) (fun a b => m.E (m.b0 + 3) (0 + a) (0 + b)) :=
  Is2.congr (Is2.self (is2_nt rfl (Is3.drop (is3_readAt (F := m.V) _ _ _ _ rfl (fun z a b _ _ _ _ => h.v z a b)) _) (Is3.drop (is3_readAt (F := m.O) _ _ _ _ (off7_2 h) (fun z a b _ _ _ _ => h.o z a b)) _)) _) fun a b ha hb => by
    simp only [Data.S, Data.E, Nat.zero_add, Nat.add_assoc]

theorem cov14_3 (h : In c i arg2 arg3 arg4 arg5 arg6 arg7 f2 f3 f4 f5 f6 f7 m) :
    Cov2 arg14.view (body_run.sl.H14_3 c i arg4 arg5 f4 f5) (fun a b => a < 1792) (m.E (m.b0 + 3)) :=
  cov2_cons 0 0 rfl (v477 h) cov2_none (by intro a b; intros; omega)

theorem v501 (h : In c i arg2 arg3 arg4 arg5 arg6 arg7 f2 f3 f4 f5 f6 f7 m) :
    Is2 (m := 256) (n := 256) (body_run.sl.v501 c i arg4 arg5 f4 f5) (fun a b => m.E (m.b0 + 3) (1792 + a) (256 + b)) :=
  Is2.congr (Is2.self (is2_nt rfl (Is3.drop (is3_readAt (F := m.V) _ _ _ _ rfl (fun z a b _ _ _ _ => h.v z a b)) _) (Is3.drop (is3_readAt (F := m.O) _ _ _ _ (off8_2 h) (fun z a b _ _ _ _ => h.o z a b)) _)) _) fun a b ha hb => by
    simp only [Data.S, Data.E, Nat.zero_add, Nat.add_assoc]

theorem cov14_4 (h : In c i arg2 arg3 arg4 arg5 arg6 arg7 f2 f3 f4 f5 f6 f7 m) :
    Cov2 arg14.view (body_run.sl.H14_4 c i arg4 arg5 f4 f5) (fun a b => a < 1792 ∨ (a < 2048 ∧ 256 ≤ b)) (m.E (m.b0 + 3)) :=
  cov2_cons 1792 256 rfl (v501 h) (cov14_3 h) (by intro a b; intros; omega)

end Cert.KernelIdeal.Pre

end
-- ==== Proof.PreProbs.lean ====
/-
  The masked probabilities of the blocks on the diagonal: each stored tile, and what each buffer then holds.
-/
module

public import proofs.«01_k».proof.Proof.PreScores

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

theorem v143 (h : In c i arg2 arg3 arg4 arg5 arg6 arg7 f2 f3 f4 f5 f6 f7 m) :
    Is2 (m := 256) (n := 512) (body_run.sl.v143 c i arg2 arg3 arg6 arg11 f2 f3 f6) (fun a b => m.P m.b0 (0 + a) (0 + b)) :=
  Is2.congr (Is2.self (Is2.truncf (ψ := .bf16) (Is2.causal (Is2.exp2 (Is2.subf (is2_readCov (cov11_2 h) _ _ rfl (by intro a b; intros; first | trivial | omega)) (Is2.row (Is3.drop (is3_readAt (F := (fun _ b => m.L b)) _ _ _ _ (off5 h) (fun z a b _ _ _ _ => h.l z a b)) _) _))) _ _ 0 0 (by norm_num) (by norm_num) (by norm_num) (by norm_num) _ Ideal.ofBits_zero_f32) (by decide)) _) fun a b ha hb => by
    simp only [Data.P, Nat.zero_add, Nat.add_assoc]; exact if_congr (by omega) rfl rfl

theorem cov15_1 (h : In c i arg2 arg3 arg4 arg5 arg6 arg7 f2 f3 f4 f5 f6 f7 m) :
    Cov2 arg15.view (body_run.sl.H15_1 c i arg2 arg3 arg6 arg11 f2 f3 f6) (fun a b => a < 256) (m.P m.b0) :=
  cov2_cons 0 0 rfl (v143 h) cov2_none (by intro a b; intros; omega)

theorem v180 (h : In c i arg2 arg3 arg4 arg5 arg6 arg7 f2 f3 f4 f5 f6 f7 m) :
    Is2 (m := 256) (n := 256) (body_run.sl.v180 c i arg2 arg3 arg6 arg11 f2 f3 f6) (fun a b => m.P m.b0 (256 + a) (256 + b)) :=
  Is2.congr (Is2.self (Is2.truncf (ψ := .bf16) (Is2.causal (Is2.exp2 (Is2.subf (is2_readCov (cov11_2 h) _ _ rfl (by intro a b; intros; first | trivial | omega)) (Is2.row (Is3.drop (is3_readAt (F := (fun _ b => m.L b)) _ _ _ _ (off6 h) (fun z a b _ _ _ _ => h.l z a b)) _) _))) _ _ 256 256 (by norm_num) (by norm_num) (by norm_num) (by norm_num) _ Ideal.ofBits_zero_f32) (by decide)) _) fun a b ha hb => by
    simp only [Data.P, Nat.zero_add, Nat.add_assoc]; exact if_congr (by omega) rfl rfl

theorem cov15_2 (h : In c i arg2 arg3 arg4 arg5 arg6 arg7 f2 f3 f4 f5 f6 f7 m) :
    Cov2 arg15.view (body_run.sl.H15_2 c i arg2 arg3 arg6 arg11 f2 f3 f6) (fun a b => a < 256 ∨ (a < 512 ∧ 256 ≤ b)) (m.P m.b0) :=
  cov2_cons 256 256 rfl (v180 h) (cov15_1 h) (by intro a b; intros; omega)

theorem v617 (h : In c i arg2 arg3 arg4 arg5 arg6 arg7 f2 f3 f4 f5 f6 f7 m) :
    Is2 (m := 256) (n := 512) (body_run.sl.v617 c i arg2 arg3 arg6 arg11 f2 f3 f6) (fun a b => m.P (m.b0 + 2) (0 + a) (0 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 0 (by norm_num) (by norm_num) (by norm_num) (by norm_num) _ Ideal.ofBits_zero_f32) (by decide)) _) fun a b ha hb => by
    simp only [Data.P, Nat.zero_add, Nat.add_assoc]; exact if_congr (by omega) rfl rfl

theorem cov15_3 (h : In c i arg2 arg3 arg4 arg5 arg6 arg7 f2 f3 f4 f5 f6 f7 m) :
    Cov2 arg15.view (body_run.sl.H15_3 c i arg2 arg3 arg6 arg11 f2 f3 f6) (fun a b => a < 256) (m.P (m.b0 + 2)) :=
  cov2_cons 0 0 rfl (v617 h) cov2_none (by intro a b; intros; omega)

theorem v667 (h : In c i arg2 arg3 arg4 arg5 arg6 arg7 f2 f3 f4 f5 f6 f7 m) :
    Is2 (m := 256) (n := 512) (body_run.sl.v667 c i arg2 arg3 arg6 arg11 f2 f3 f6) (fun a b => m.P (m.b0 + 2) (512 + a) (0 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 512 (by norm_num) (by norm_num) (by norm_num) (by norm_num) _ Ideal.ofBits_zero_f32) (by decide)) _) fun a b ha hb => by
    simp only [Data.P, Nat.zero_add, Nat.add_assoc]; exact if_congr (by omega) rfl rfl

theorem v642 (h : In c i arg2 arg3 arg4 arg5 arg6 arg7 f2 f3 f4 f5 f6 f7 m) :
    Is2 (m := 256) (n := 512) (body_run.sl.v642 c i arg2 arg3 arg6 arg11 f2 f3 f6) (fun a b => m.P (m.b0 + 2) (256 + a) (0 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 256 (by norm_num) (by norm_num) (by norm_num) (by norm_num) _ Ideal.ofBits_zero_f32) (by decide)) _) fun a b ha hb => by
    simp only [Data.P, Nat.zero_add, Nat.add_assoc]; exact if_congr (by omega) rfl rfl

theorem cov15_5 (h : In c i arg2 arg3 arg4 arg5 arg6 arg7 f2 f3 f4 f5 f6 f7 m) :
    Cov2 arg15.view (body_run.sl.H15_5 c i arg2 arg3 arg6 arg11 f2 f3 f6) (fun a b => a < 768) (m.P (m.b0 + 2)) :=
  cov2_cons 512 0 rfl (v667 h) (cov2_cons (R := fun a b => a < 512) 256 0 rfl (v642 h) (cov15_3 h) (by intro a b; intros; omega)) (by intro a b; intros; omega)

theorem v692 (h : In c i arg2 arg3 arg4 arg5 arg6 arg7 f2 f3 f4 f5 f6 f7 m) :
    Is2 (m := 256) (n := 512) (body_run.sl.v692 c i arg2 arg3 arg6 arg11 f2 f3 f6) (fun a b => m.P (m.b0 + 2) (768 + a) (0 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 768 (by norm_num) (by norm_num) (by norm_num) (by norm_num) _ Ideal.ofBits_zero_f32) (by decide)) _) fun a b ha hb => by
    simp only [Data.P, Nat.zero_add, Nat.add_assoc]; exact if_congr (by omega) rfl rfl

theorem cov15_6 (h : In c i arg2 arg3 arg4 arg5 arg6 arg7 f2 f3 f4 f5 f6 f7 m) :
    Cov2 arg15.view (body_run.sl.H15_6 c i arg2 arg3 arg6 arg11 f2 f3 f6) (fun a b => a < 1024) (m.P (m.b0 + 2)) :=
  cov2_cons 768 0 rfl (v692 h) (cov15_5 h) (by intro a b; intros; omega)

theorem v717 (h : In c i arg2 arg3 arg4 arg5 arg6 arg7 f2 f3 f4 f5 f6 f7 m) :
    Is2 (m := 256) (n := 512) (body_run.sl.v717 c i arg2 arg3 arg6 arg11 f2 f3 f6) (fun a b => m.P (m.b0 + 2) (1024 + a) (0 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 1024 (by norm_num) (by norm_num) (by norm_num) (by norm_num) _ Ideal.ofBits_zero_f32) (by decide)) _) fun a b ha hb => by
    simp only [Data.P, Nat.zero_add, Nat.add_assoc]; exact if_congr (by omega) rfl rfl

theorem cov15_7 (h : In c i arg2 arg3 arg4 arg5 arg6 arg7 f2 f3 f4 f5 f6 f7 m) :
    Cov2 arg15.view (body_run.sl.H15_7 c i arg2 arg3 arg6 arg11 f2 f3 f6) (fun a b => a < 1280) (m.P (m.b0 + 2)) :=
  cov2_cons 1024 0 rfl (v717 h) (cov15_6 h) (by intro a b; intros; omega)

theorem v754 (h : In c i arg2 arg3 arg4 arg5 arg6 arg7 f2 f3 f4 f5 f6 f7 m) :
    Is2 (m := 256) (n := 256) (body_run.sl.v754 c i arg2 arg3 arg6 arg11 f2 f3 f6) (fun a b => m.P (m.b0 + 2) (1280 + a) (256 + b)) :=
  Is2.congr (Is2.self (Is2.truncf (ψ := .bf16) (Is2.causal (Is2.exp2 (Is2.subf (is2_readCov (cov11_4 h) _ _ rfl (by intro a b; intros; first | trivial | omega)) (Is2.row (Is3.drop (is3_readAt (F := (fun _ b => m.L b)) _ _ _ _ (off14_2 h) (fun z a b _ _ _ _ => h.l z a b)) _) _))) _ _ 1280 1280 (by norm_num) (by norm_num) (by norm_num) (by norm_num) _ Ideal.ofBits_zero_f32) (by decide)) _) fun a b ha hb => by
    simp only [Data.P, Nat.zero_add, Nat.add_assoc]; exact if_congr (by omega) rfl rfl

theorem cov15_8 (h : In c i arg2 arg3 arg4 arg5 arg6 arg7 f2 f3 f4 f5 f6 f7 m) :
    Cov2 arg15.view (body_run.sl.H15_8 c i arg2 arg3 arg6 arg11 f2 f3 f6) (fun a b => a < 1280 ∨ (a < 1536 ∧ 256 ≤ b)) (m.P (m.b0 + 2)) :=
  cov2_cons 1280 256 rfl (v754 h) (cov15_7 h) (by intro a b; intros; omega)

theorem v355 (h : In c i arg2 arg3 arg4 arg5 arg6 arg7 f2 f3 f4 f5 f6 f7 m) :
    Is2 (m := 256) (n := 512) (body_run.sl.v355 c i arg2 arg3 arg6 arg12 f2 f3 f6) (fun a b => m.P (m.b0 + 1) (0 + a) (0 + b)) :=
  Is2.congr (Is2.self (Is2.truncf (ψ := .bf16) (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 0 (by norm_num) (by norm_num) (by norm_num) (by norm_num) _ Ideal.ofBits_zero_f32) (by decide)) _) fun a b ha hb => by
    simp only [Data.P, Nat.zero_add, Nat.add_assoc]; exact if_congr (by omega) rfl rfl

theorem cov16_1 (h : In c i arg2 arg3 arg4 arg5 arg6 arg7 f2 f3 f4 f5 f6 f7 m) :
    Cov2 arg16.view (body_run.sl.H16_1 c i arg2 arg3 arg6 arg12 f2 f3 f6) (fun a b => a < 256) (m.P (m.b0 + 1)) :=
  cov2_cons 0 0 rfl (v355 h) cov2_none (by intro a b; intros; omega)

theorem v380 (h : In c i arg2 arg3 arg4 arg5 arg6 arg7 f2 f3 f4 f5 f6 f7 m) :
    Is2 (m := 256) (n := 512) (body_run.sl.v380 c i arg2 arg3 arg6 arg12 f2 f3 f6) (fun a b => m.P (m.b0 + 1) (256 + a) (0 + b)) :=
  Is2.congr (Is2.self (Is2.truncf (ψ := .bf16) (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 256 (by norm_num) (by norm_num) (by norm_num) (by norm_num) _ Ideal.ofBits_zero_f32) (by decide)) _) fun a b ha hb => by
    simp only [Data.P, Nat.zero_add, Nat.add_assoc]; exact if_congr (by omega) rfl rfl

theorem cov16_2 (h : In c i arg2 arg3 arg4 arg5 arg6 arg7 f2 f3 f4 f5 f6 f7 m) :
    Cov2 arg16.view (body_run.sl.H16_2 c i arg2 arg3 arg6 arg12 f2 f3 f6) (fun a b => a < 512) (m.P (m.b0 + 1)) :=
  cov2_cons 256 0 rfl (v380 h) (cov16_1 h) (by intro a b; intros; omega)

theorem v405 (h : In c i arg2 arg3 arg4 arg5 arg6 arg7 f2 f3 f4 f5 f6 f7 m) :
    Is2 (m := 256) (n := 512) (body_run.sl.v405 c i arg2 arg3 arg6 arg12 f2 f3 f6) (fun a b => m.P (m.b0 + 1) (512 + a) (0 + b)) :=
  Is2.congr (Is2.self (Is2.truncf (ψ := .bf16) (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 512 (by norm_num) (by norm_num) (by norm_num) (by norm_num) _ Ideal.ofBits_zero_f32) (by decide)) _) fun a b ha hb => by
    simp only [Data.P, Nat.zero_add, Nat.add_assoc]; exact if_congr (by omega) rfl rfl

theorem cov16_3 (h : In c i arg2 arg3 arg4 arg5 arg6 arg7 f2 f3 f4 f5 f6 f7 m) :
    Cov2 arg16.view (body_run.sl.H16_3 c i arg2 arg3 arg6 arg12 f2 f3 f6) (fun a b => a < 768) (m.P (m.b0 + 1)) :=
  cov2_cons 512 0 rfl (v405 h) (cov16_2 h) (by intro a b; intros; omega)

theorem v442 (h : In c i arg2 arg3 arg4 arg5 arg6 arg7 f2 f3 f4 f5 f6 f7 m) :
    Is2 (m := 256) (n := 256) (body_run.sl.v442 c i arg2 arg3 arg6 arg12 f2 f3 f6) (fun a b => m.P (m.b0 + 1) (768 + a) (256 + b)) :=
  Is2.congr (Is2.self (Is2.truncf (ψ := .bf16) (Is2.causal (Is2.exp2 (Is2.subf (is2_readCov (cov12_2 h) _ _ rfl (by intro a b; intros; first | trivial | omega)) (Is2.row (Is3.drop (is3_readAt (F := (fun _ b => m.L b)) _ _ _ _ (off14_1 h) (fun z a b _ _ _ _ => h.l z a b)) _) _))) _ _ 768 768 (by norm_num) (by norm_num) (by norm_num) (by norm_num) _ Ideal.ofBits_zero_f32) (by decide)) _) fun a b ha hb => by
    simp only [Data.P, Nat.zero_add, Nat.add_assoc]; exact if_congr (by omega) rfl rfl

theorem cov16_4 (h : In c i arg2 arg3 arg4 arg5 arg6 arg7 f2 f3 f4 f5 f6 f7 m) :
    Cov2 arg16.view (body_run.sl.H16_4 c i arg2 arg3 arg6 arg12 f2 f3 f6) (fun a b => a < 768 ∨ (a < 1024 ∧ 256 ≤ b)) (m.P (m.b0 + 1)) :=
  cov2_cons 768 256 rfl (v442 h) (cov16_3 h) (by intro a b; intros; omega)

theorem v905 (h : In c i arg2 arg3 arg4 arg5 arg6 arg7 f2 f3 f4 f5 f6 f7 m) :
    Is2 (m := 256) (n := 512) (body_run.sl.v905 c i arg2 arg3 arg6 arg12 f2 f3 f6) (fun a b => m.P (m.b0 + 3) (0 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 0 (by norm_num) (by norm_num) (by norm_num) (by norm_num) _ Ideal.ofBits_zero_f32) (by decide)) _) fun a b ha hb => by
    simp only [Data.P, Nat.zero_add, Nat.add_assoc]; exact if_congr (by omega) rfl rfl

theorem cov16_5 (h : In c i arg2 arg3 arg4 arg5 arg6 arg7 f2 f3 f4 f5 f6 f7 m) :
    Cov2 arg16.view (body_run.sl.H16_5 c i arg2 arg3 arg6 arg12 f2 f3 f6) (fun a b => a < 256) (m.P (m.b0 + 3)) :=
  cov2_cons 0 0 rfl (v905 h) cov2_none (by intro a b; intros; omega)

theorem v930 (h : In c i arg2 arg3 arg4 arg5 arg6 arg7 f2 f3 f4 f5 f6 f7 m) :
    Is2 (m := 256) (n := 512) (body_run.sl.v930 c i arg2 arg3 arg6 arg12 f2 f3 f6) (fun a b => m.P (m.b0 + 3) (256 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 256 (by norm_num) (by norm_num) (by norm_num) (by norm_num) _ Ideal.ofBits_zero_f32) (by decide)) _) fun a b ha hb => by
    simp only [Data.P, Nat.zero_add, Nat.add_assoc]; exact if_congr (by omega) rfl rfl

theorem cov16_6 (h : In c i arg2 arg3 arg4 arg5 arg6 arg7 f2 f3 f4 f5 f6 f7 m) :
    Cov2 arg16.view (body_run.sl.H16_6 c i arg2 arg3 arg6 arg12 f2 f3 f6) (fun a b => a < 512) (m.P (m.b0 + 3)) :=
  cov2_cons 256 0 rfl (v930 h) (cov16_5 h) (by intro a b; intros; omega)

theorem v955 (h : In c i arg2 arg3 arg4 arg5 arg6 arg7 f2 f3 f4 f5 f6 f7 m) :
    Is2 (m := 256) (n := 512) (body_run.sl.v955 c i arg2 arg3 arg6 arg12 f2 f3 f6) (fun a b => m.P (m.b0 + 3) (512 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 512 (by norm_num) (by norm_num) (by norm_num) (by norm_num) _ Ideal.ofBits_zero_f32) (by decide)) _) fun a b ha hb => by
    simp only [Data.P, Nat.zero_add, Nat.add_assoc]; exact if_congr (by omega) rfl rfl

theorem cov16_7 (h : In c i arg2 arg3 arg4 arg5 arg6 arg7 f2 f3 f4 f5 f6 f7 m) :
    Cov2 arg16.view (body_run.sl.H16_7 c i arg2 arg3 arg6 arg12 f2 f3 f6) (fun a b => a < 768) (m.P (m.b0 + 3)) :=
  cov2_cons 512 0 rfl (v955 h) (cov16_6 h) (by intro a b; intros; omega)

theorem v980 (h : In c i arg2 arg3 arg4 arg5 arg6 arg7 f2 f3 f4 f5 f6 f7 m) :
    Is2 (m := 256) (n := 512) (body_run.sl.v980 c i arg2 arg3 arg6 arg12 f2 f3 f6) (fun a b => m.P (m.b0 + 3) (768 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 768 (by norm_num) (by norm_num) (by norm_num) (by norm_num) _ Ideal.ofBits_zero_f32) (by decide)) _) fun a b ha hb => by
    simp only [Data.P, Nat.zero_add, Nat.add_assoc]; exact if_congr (by omega) rfl rfl

theorem cov16_8 (h : In c i arg2 arg3 arg4 arg5 arg6 arg7 f2 f3 f4 f5 f6 f7 m) :
    Cov2 arg16.view (body_run.sl.H16_8 c i arg2 arg3 arg6 arg12 f2 f3 f6) (fun a b => a < 1024) (m.P (m.b0 + 3)) :=
  cov2_cons 768 0 rfl (v980 h) (cov16_7 h) (by intro a b; intros; omega)

theorem v1030 (h : In c i arg2 arg3 arg4 arg5 arg6 arg7 f2 f3 f4 f5 f6 f7 m) :
    Is2 (m := 256) (n := 512) (body_run.sl.v1030 c i arg2 arg3 arg6 arg12 f2 f3 f6) (fun a b => m.P (m.b0 + 3) (1280 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1280 (by norm_num) (by norm_num) (by norm_num) (by norm_num) _ Ideal.ofBits_zero_f32) (by decide)) _) fun a b ha hb => by
    simp only [Data.P, Nat.zero_add, Nat.add_assoc]; exact if_congr (by omega) rfl rfl

theorem v1005 (h : In c i arg2 arg3 arg4 arg5 arg6 arg7 f2 f3 f4 f5 f6 f7 m) :
    Is2 (m := 256) (n := 512) (body_run.sl.v1005 c i arg2 arg3 arg6 arg12 f2 f3 f6) (fun a b => m.P (m.b0 + 3) (1024 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1024 (by norm_num) (by norm_num) (by norm_num) (by norm_num) _ Ideal.ofBits_zero_f32) (by decide)) _) fun a b ha hb => by
    simp only [Data.P, Nat.zero_add, Nat.add_assoc]; exact if_congr (by omega) rfl rfl

theorem cov16_10 (h : In c i arg2 arg3 arg4 arg5 arg6 arg7 f2 f3 f4 f5 f6 f7 m) :
    Cov2 arg16.view (body_run.sl.H16_10 c i arg2 arg3 arg6 arg12 f2 f3 f6) (fun a b => a < 1536) (m.P (m.b0 + 3)) :=
  cov2_cons 1280 0 rfl (v1030 h) (cov2_cons (R := fun a b => a < 1280) 1024 0 rfl (v1005 h) (cov16_8 h) (by intro a b; intros; omega)) (by intro a b; intros; omega)

theorem v1055 (h : In c i arg2 arg3 arg4 arg5 arg6 arg7 f2 f3 f4 f5 f6 f7 m) :
    Is2 (m := 256) (n := 512) (body_run.sl.v1055 c i arg2 arg3 arg6 arg12 f2 f3 f6) (fun a b => m.P (m.b0 + 3) (1536 + a) (0 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1536 (by norm_num) (by norm_num) (by norm_num) (by norm_num) _ Ideal.ofBits_zero_f32) (by decide)) _) fun a b ha hb => by
    simp only [Data.P, Nat.zero_add, Nat.add_assoc]; exact if_congr (by omega) rfl rfl

theorem cov16_11 (h : In c i arg2 arg3 arg4 arg5 arg6 arg7 f2 f3 f4 f5 f6 f7 m) :
    Cov2 arg16.view (body_run.sl.H16_11 c i arg2 arg3 arg6 arg12 f2 f3 f6) (fun a b => a < 1792) (m.P (m.b0 + 3)) :=
  cov2_cons 1536 0 rfl (v1055 h) (cov16_10 h) (by intro a b; intros; omega)

theorem v1092 (h : In c i arg2 arg3 arg4 arg5 arg6 arg7 f2 f3 f4 f5 f6 f7 m) :
    Is2 (m := 256) (n := 256) (body_run.sl.v1092 c i arg2 arg3 arg6 arg12 f2 f3 f6) (fun a b => m.P (m.b0 + 3) (1792 + a) (256 + b)) :=
  Is2.congr (Is2.self (Is2.truncf (ψ := .bf16) (Is2.causal (Is2.exp2 (Is2.subf (is2_readCov (cov12_4 h) _ _ rfl (by intro a b; intros; first | trivial | omega)) (Is2.row (Is3.drop (is3_readAt (F := (fun _ b => m.L b)) _ _ _ _ (off14_3 h) (fun z a b _ _ _ _ => h.l z a b)) _) _))) _ _ 1792 1792 (by norm_num) (by norm_num) (by norm_num) (by norm_num) _ Ideal.ofBits_zero_f32) (by decide)) _) fun a b ha hb => by
    simp only [Data.P, Nat.zero_add, Nat.add_assoc]; exact if_congr (by omega) rfl rfl

end Cert.KernelIdeal.Pre

end
-- ==== Proof.PreGrads.lean ====
/-
  The masked gradients of the scores of the blocks on the diagonal: each stored tile, and what each buffer then holds.
-/
module

public import proofs.«01_k».proof.Proof.PreScores

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

theorem v151 (h : In c i arg2 arg3 arg4 arg5 arg6 arg7 f2 f3 f4 f5 f6 f7 m) :
    Is2 (m := 256) (n := 512) (body_run.sl.v151 c i arg2 arg3 arg4 arg5 arg6 arg7 arg11 arg13 f2 f3 f4 f5 f6 f7) (fun a b => m.G m.b0 (0 + a) (0 + b)) :=
  Is2.congr (Is2.self (Is2.truncf (ψ := .bf16) (Is2.mulf (Is2.causal (Is2.exp2 (Is2.subf (is2_readCov (cov11_2 h) _ _ rfl (by intro a b; intros; first | trivial | omega)) (Is2.row (Is3.drop (is3_readAt (F := (fun _ b => m.L b)) _ _ _ _ (off5 h) (fun z a b _ _ _ _ => h.l z a b)) _) _))) _ _ 0 0 (by norm_num) (by norm_num) (by norm_num) (by norm_num) _ Ideal.ofBits_zero_f32) (Is2.subf (is2_readCov (cov13_2 h) _ _ rfl (by intro a b; intros; first | trivial | omega)) (Is2.row (Is3.drop (is3_readAt (F := (fun _ b => m.D b)) _ _ _ _ (off5 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_1 (h : In c i arg2 arg3 arg4 arg5 arg6 arg7 f2 f3 f4 f5 f6 f7 m) :
    Cov2 arg17.view (body_run.sl.H17_1 c i arg2 arg3 arg4 arg5 arg6 arg7 arg11 arg13 f2 f3 f4 f5 f6 f7) (fun a b => a < 256) (m.G m.b0) :=
  cov2_cons 0 0 rfl (v151 h) cov2_none (by intro a b; intros; omega)

theorem v188 (h : In c i arg2 arg3 arg4 arg5 arg6 arg7 f2 f3 f4 f5 f6 f7 m) :
    Is2 (m := 256) (n := 256) (body_run.sl.v188 c i arg2 arg3 arg4 arg5 arg6 arg7 arg11 arg13 f2 f3 f4 f5 f6 f7) (fun a b => m.G m.b0 (256 + a) (256 + b)) :=
  Is2.congr (Is2.self (Is2.truncf (ψ := .bf16) (Is2.mulf (Is2.causal (Is2.exp2 (Is2.subf (is2_readCov (cov11_2 h) _ _ rfl (by intro a b; intros; first | trivial | omega)) (Is2.row (Is3.drop (is3_readAt (F := (fun _ b => m.L b)) _ _ _ _ (off6 h) (fun z a b _ _ _ _ => h.l z a b)) _) _))) _ _ 256 256 (by norm_num) (by norm_num) (by norm_num) (by norm_num) _ Ideal.ofBits_zero_f32) (Is2.subf (is2_readCov (cov13_2 h) _ _ rfl (by intro a b; intros; first | trivial | omega)) (Is2.row (Is3.drop (is3_readAt (F := (fun _ b => m.D b)) _ _ _ _ (off6 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_2 (h : In c i arg2 arg3 arg4 arg5 arg6 arg7 f2 f3 f4 f5 f6 f7 m) :
    Cov2 arg17.view (body_run.sl.H17_2 c i arg2 arg3 arg4 arg5 arg6 arg7 arg11 arg13 f2 f3 f4 f5 f6 f7) (fun a b => a < 256 ∨ (a < 512 ∧ 256 ≤ b)) (m.G m.b0) :=
  cov2_cons 256 256 rfl (v188 h) (cov17_1 h) (by intro a b; intros; omega)

theorem v625 (h : In c i arg2 arg3 arg4 arg5 arg6 arg7 f2 f3 f4 f5 f6 f7 m) :
    Is2 (m := 256) (n := 512) (body_run.sl.v625 c i arg2 arg3 arg4 arg5 arg6 arg7 arg11 arg13 f2 f3 f4 f5 f6 f7) (fun a b => m.G (m.b0 + 2) (0 + a) (0 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 0 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off13_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_3 (h : In c i arg2 arg3 arg4 arg5 arg6 arg7 f2 f3 f4 f5 f6 f7 m) :
    Cov2 arg17.view (body_run.sl.H17_3 c i arg2 arg3 arg4 arg5 arg6 arg7 arg11 arg13 f2 f3 f4 f5 f6 f7) (fun a b => a < 256) (m.G (m.b0 + 2)) :=
  cov2_cons 0 0 rfl (v625 h) cov2_none (by intro a b; intros; omega)

theorem v650 (h : In c i arg2 arg3 arg4 arg5 arg6 arg7 f2 f3 f4 f5 f6 f7 m) :
    Is2 (m := 256) (n := 512) (body_run.sl.v650 c i arg2 arg3 arg4 arg5 arg6 arg7 arg11 arg13 f2 f3 f4 f5 f6 f7) (fun a b => m.G (m.b0 + 2) (256 + a) (0 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 256 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off13_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_4 (h : In c i arg2 arg3 arg4 arg5 arg6 arg7 f2 f3 f4 f5 f6 f7 m) :
    Cov2 arg17.view (body_run.sl.H17_4 c i arg2 arg3 arg4 arg5 arg6 arg7 arg11 arg13 f2 f3 f4 f5 f6 f7) (fun a b => a < 512) (m.G (m.b0 + 2)) :=
  cov2_cons 256 0 rfl (v650 h) (cov17_3 h) (by intro a b; intros; omega)

theorem v700 (h : In c i arg2 arg3 arg4 arg5 arg6 arg7 f2 f3 f4 f5 f6 f7 m) :
    Is2 (m := 256) (n := 512) (body_run.sl.v700 c i arg2 arg3 arg4 arg5 arg6 arg7 arg11 arg13 f2 f3 f4 f5 f6 f7) (fun a b => m.G (m.b0 + 2) (768 + a) (0 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 768 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off13_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem v675 (h : In c i arg2 arg3 arg4 arg5 arg6 arg7 f2 f3 f4 f5 f6 f7 m) :
    Is2 (m := 256) (n := 512) (body_run.sl.v675 c i arg2 arg3 arg4 arg5 arg6 arg7 arg11 arg13 f2 f3 f4 f5 f6 f7) (fun a b => m.G (m.b0 + 2) (512 + a) (0 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 512 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off13_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_6 (h : In c i arg2 arg3 arg4 arg5 arg6 arg7 f2 f3 f4 f5 f6 f7 m) :
    Cov2 arg17.view (body_run.sl.H17_6 c i arg2 arg3 arg4 arg5 arg6 arg7 arg11 arg13 f2 f3 f4 f5 f6 f7) (fun a b => a < 1024) (m.G (m.b0 + 2)) :=
  cov2_cons 768 0 rfl (v700 h) (cov2_cons (R := fun a b => a < 768) 512 0 rfl (v675 h) (cov17_4 h) (by intro a b; intros; omega)) (by intro a b; intros; omega)

theorem v725 (h : In c i arg2 arg3 arg4 arg5 arg6 arg7 f2 f3 f4 f5 f6 f7 m) :
    Is2 (m := 256) (n := 512) (body_run.sl.v725 c i arg2 arg3 arg4 arg5 arg6 arg7 arg11 arg13 f2 f3 f4 f5 f6 f7) (fun a b => m.G (m.b0 + 2) (1024 + a) (0 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off13_2 h) (fun z a b _ _ _ _ => h.l z a b)) _) _))) _ _ 1024 1024 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off13_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_7 (h : In c i arg2 arg3 arg4 arg5 arg6 arg7 f2 f3 f4 f5 f6 f7 m) :
    Cov2 arg17.view (body_run.sl.H17_7 c i arg2 arg3 arg4 arg5 arg6 arg7 arg11 arg13 f2 f3 f4 f5 f6 f7) (fun a b => a < 1280) (m.G (m.b0 + 2)) :=
  cov2_cons 1024 0 rfl (v725 h) (cov17_6 h) (by intro a b; intros; omega)

theorem v762 (h : In c i arg2 arg3 arg4 arg5 arg6 arg7 f2 f3 f4 f5 f6 f7 m) :
    Is2 (m := 256) (n := 256) (body_run.sl.v762 c i arg2 arg3 arg4 arg5 arg6 arg7 arg11 arg13 f2 f3 f4 f5 f6 f7) (fun a b => m.G (m.b0 + 2) (1280 + a) (256 + b)) :=
  Is2.congr (Is2.self (Is2.truncf (ψ := .bf16) (Is2.mulf (Is2.causal (Is2.exp2 (Is2.subf (is2_readCov (cov11_4 h) _ _ rfl (by intro a b; intros; first | trivial | omega)) (Is2.row (Is3.drop (is3_readAt (F := (fun _ b => m.L b)) _ _ _ _ (off14_2 h) (fun z a b _ _ _ _ => h.l z a b)) _) _))) _ _ 1280 1280 (by norm_num) (by norm_num) (by norm_num) (by norm_num) _ Ideal.ofBits_zero_f32) (Is2.subf (is2_readCov (cov13_4 h) _ _ rfl (by intro a b; intros; first | trivial | omega)) (Is2.row (Is3.drop (is3_readAt (F := (fun _ b => m.D b)) _ _ _ _ (off14_2 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov17_8 (h : In c i arg2 arg3 arg4 arg5 arg6 arg7 f2 f3 f4 f5 f6 f7 m) :
    Cov2 arg17.view (body_run.sl.H17_8 c i arg2 arg3 arg4 arg5 arg6 arg7 arg11 arg13 f2 f3 f4 f5 f6 f7) (fun a b => a < 1280 ∨ (a < 1536 ∧ 256 ≤ b)) (m.G (m.b0 + 2)) :=
  cov2_cons 1280 256 rfl (v762 h) (cov17_7 h) (by intro a b; intros; omega)

theorem v388 (h : In c i arg2 arg3 arg4 arg5 arg6 arg7 f2 f3 f4 f5 f6 f7 m) :
    Is2 (m := 256) (n := 512) (body_run.sl.v388 c i arg2 arg3 arg4 arg5 arg6 arg7 arg12 arg14 f2 f3 f4 f5 f6 f7) (fun a b => m.G (m.b0 + 1) (256 + a) (0 + b)) :=
  Is2.congr (Is2.self (Is2.truncf (ψ := .bf16) (Is2.mulf (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 256 (by norm_num) (by norm_num) (by norm_num) (by norm_num) _ Ideal.ofBits_zero_f32) (Is2.subf (is2_readCov (cov14_2 h) _ _ rfl (by intro a b; intros; first | trivial | omega)) (Is2.row (Is3.drop (is3_readAt (F := (fun _ b => m.D b)) _ _ _ _ (off13_1 h) (fun z a b _ _ _ _ => h.d z a b)) _) _))) (by decide)) _) fun a b ha hb => by
    simp only [Data.G, Data.P, Nat.zero_add, Nat.add_assoc]; exact congrArg₂ (· * ·) (if_congr (by omega) rfl rfl) rfl

theorem v363 (h : In c i arg2 arg3 arg4 arg5 arg6 arg7 f2 f3 f4 f5 f6 f7 m) :
    Is2 (m := 256) (n := 512) (body_run.sl.v363 c i arg2 arg3 arg4 arg5 arg6 arg7 arg12 arg14 f2 f3 f4 f5 f6 f7) (fun a b => m.G (m.b0 + 1) (0 + a) (0 + b)) :=
  Is2.congr (Is2.self (Is2.truncf (ψ := .bf16) (Is2.mulf (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 0 (by norm_num) (by norm_num) (by norm_num) (by norm_num) _ Ideal.ofBits_zero_f32) (Is2.subf (is2_readCov (cov14_2 h) _ _ rfl (by intro a b; intros; first | trivial | omega)) (Is2.row (Is3.drop (is3_readAt (F := (fun _ b => m.D b)) _ _ _ _ (off13_1 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_2 (h : In c i arg2 arg3 arg4 arg5 arg6 arg7 f2 f3 f4 f5 f6 f7 m) :
    Cov2 arg18.view (body_run.sl.H18_2 c i arg2 arg3 arg4 arg5 arg6 arg7 arg12 arg14 f2 f3 f4 f5 f6 f7) (fun a b => a < 512) (m.G (m.b0 + 1)) :=
  cov2_cons 256 0 rfl (v388 h) (cov2_cons (R := fun a b => a < 256) 0 0 rfl (v363 h) cov2_none (by intro a b; intros; omega)) (by intro a b; intros; omega)

theorem v413 (h : In c i arg2 arg3 arg4 arg5 arg6 arg7 f2 f3 f4 f5 f6 f7 m) :
    Is2 (m := 256) (n := 512) (body_run.sl.v413 c i arg2 arg3 arg4 arg5 arg6 arg7 arg12 arg14 f2 f3 f4 f5 f6 f7) (fun a b => m.G (m.b0 + 1) (512 + a) (0 + b)) :=
  Is2.congr (Is2.self (Is2.truncf (ψ := .bf16) (Is2.mulf (Is2.causal (Is2.exp2 (Is2.subf (is2_readCov (cov12_2 h) _ _ rfl (by intro a b; intros; first | trivial | omega)) (Is2.row (Is3.drop (is3_readAt (F := (fun _ b => m.L b)) _ _ _ _ (off13_1 h) (fun z a b _ _ _ _ => h.l z a b)) _) _))) _ _ 512 512 (by norm_num) (by norm_num) (by norm_num) (by norm_num) _ Ideal.ofBits_zero_f32) (Is2.subf (is2_readCov (cov14_2 h) _ _ rfl (by intro a b; intros; first | trivial | omega)) (Is2.row (Is3.drop (is3_readAt (F := (fun _ b => m.D b)) _ _ _ _ (off13_1 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_3 (h : In c i arg2 arg3 arg4 arg5 arg6 arg7 f2 f3 f4 f5 f6 f7 m) :
    Cov2 arg18.view (body_run.sl.H18_3 c i arg2 arg3 arg4 arg5 arg6 arg7 arg12 arg14 f2 f3 f4 f5 f6 f7) (fun a b => a < 768) (m.G (m.b0 + 1)) :=
  cov2_cons 512 0 rfl (v413 h) (cov18_2 h) (by intro a b; intros; omega)

theorem v450 (h : In c i arg2 arg3 arg4 arg5 arg6 arg7 f2 f3 f4 f5 f6 f7 m) :
    Is2 (m := 256) (n := 256) (body_run.sl.v450 c i arg2 arg3 arg4 arg5 arg6 arg7 arg12 arg14 f2 f3 f4 f5 f6 f7) (fun a b => m.G (m.b0 + 1) (768 + a) (256 + b)) :=
  Is2.congr (Is2.self (Is2.truncf (ψ := .bf16) (Is2.mulf (Is2.causal (Is2.exp2 (Is2.subf (is2_readCov (cov12_2 h) _ _ rfl (by intro a b; intros; first | trivial | omega)) (Is2.row (Is3.drop (is3_readAt (F := (fun _ b => m.L b)) _ _ _ _ (off14_1 h) (fun z a b _ _ _ _ => h.l z a b)) _) _))) _ _ 768 768 (by norm_num) (by norm_num) (by norm_num) (by norm_num) _ Ideal.ofBits_zero_f32) (Is2.subf (is2_readCov (cov14_2 h) _ _ rfl (by intro a b; intros; first | trivial | omega)) (Is2.row (Is3.drop (is3_readAt (F := (fun _ b => m.D b)) _ _ _ _ (off14_1 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_4 (h : In c i arg2 arg3 arg4 arg5 arg6 arg7 f2 f3 f4 f5 f6 f7 m) :
    Cov2 arg18.view (body_run.sl.H18_4 c i arg2 arg3 arg4 arg5 arg6 arg7 arg12 arg14 f2 f3 f4 f5 f6 f7) (fun a b => a < 768 ∨ (a < 1024 ∧ 256 ≤ b)) (m.G (m.b0 + 1)) :=
  cov2_cons 768 256 rfl (v450 h) (cov18_3 h) (by intro a b; intros; omega)

theorem v913 (h : In c i arg2 arg3 arg4 arg5 arg6 arg7 f2 f3 f4 f5 f6 f7 m) :
    Is2 (m := 256) (n := 512) (body_run.sl.v913 c i arg2 arg3 arg4 arg5 arg6 arg7 arg12 arg14 f2 f3 f4 f5 f6 f7) (fun a b => m.G (m.b0 + 3) (0 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 0 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_5 (h : In c i arg2 arg3 arg4 arg5 arg6 arg7 f2 f3 f4 f5 f6 f7 m) :
    Cov2 arg18.view (body_run.sl.H18_5 c i arg2 arg3 arg4 arg5 arg6 arg7 arg12 arg14 f2 f3 f4 f5 f6 f7) (fun a b => a < 256) (m.G (m.b0 + 3)) :=
  cov2_cons 0 0 rfl (v913 h) cov2_none (by intro a b; intros; omega)

theorem v938 (h : In c i arg2 arg3 arg4 arg5 arg6 arg7 f2 f3 f4 f5 f6 f7 m) :
    Is2 (m := 256) (n := 512) (body_run.sl.v938 c i arg2 arg3 arg4 arg5 arg6 arg7 arg12 arg14 f2 f3 f4 f5 f6 f7) (fun a b => m.G (m.b0 + 3) (256 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 256 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_6 (h : In c i arg2 arg3 arg4 arg5 arg6 arg7 f2 f3 f4 f5 f6 f7 m) :
    Cov2 arg18.view (body_run.sl.H18_6 c i arg2 arg3 arg4 arg5 arg6 arg7 arg12 arg14 f2 f3 f4 f5 f6 f7) (fun a b => a < 512) (m.G (m.b0 + 3)) :=
  cov2_cons 256 0 rfl (v938 h) (cov18_5 h) (by intro a b; intros; omega)

theorem v963 (h : In c i arg2 arg3 arg4 arg5 arg6 arg7 f2 f3 f4 f5 f6 f7 m) :
    Is2 (m := 256) (n := 512) (body_run.sl.v963 c i arg2 arg3 arg4 arg5 arg6 arg7 arg12 arg14 f2 f3 f4 f5 f6 f7) (fun a b => m.G (m.b0 + 3) (512 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 512 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_7 (h : In c i arg2 arg3 arg4 arg5 arg6 arg7 f2 f3 f4 f5 f6 f7 m) :
    Cov2 arg18.view (body_run.sl.H18_7 c i arg2 arg3 arg4 arg5 arg6 arg7 arg12 arg14 f2 f3 f4 f5 f6 f7) (fun a b => a < 768) (m.G (m.b0 + 3)) :=
  cov2_cons 512 0 rfl (v963 h) (cov18_6 h) (by intro a b; intros; omega)

theorem v988 (h : In c i arg2 arg3 arg4 arg5 arg6 arg7 f2 f3 f4 f5 f6 f7 m) :
    Is2 (m := 256) (n := 512) (body_run.sl.v988 c i arg2 arg3 arg4 arg5 arg6 arg7 arg12 arg14 f2 f3 f4 f5 f6 f7) (fun a b => m.G (m.b0 + 3) (768 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 768 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_8 (h : In c i arg2 arg3 arg4 arg5 arg6 arg7 f2 f3 f4 f5 f6 f7 m) :
    Cov2 arg18.view (body_run.sl.H18_8 c i arg2 arg3 arg4 arg5 arg6 arg7 arg12 arg14 f2 f3 f4 f5 f6 f7) (fun a b => a < 1024) (m.G (m.b0 + 3)) :=
  cov2_cons 768 0 rfl (v988 h) (cov18_7 h) (by intro a b; intros; omega)

theorem v1013 (h : In c i arg2 arg3 arg4 arg5 arg6 arg7 f2 f3 f4 f5 f6 f7 m) :
    Is2 (m := 256) (n := 512) (body_run.sl.v1013 c i arg2 arg3 arg4 arg5 arg6 arg7 arg12 arg14 f2 f3 f4 f5 f6 f7) (fun a b => m.G (m.b0 + 3) (1024 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1024 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_9 (h : In c i arg2 arg3 arg4 arg5 arg6 arg7 f2 f3 f4 f5 f6 f7 m) :
    Cov2 arg18.view (body_run.sl.H18_9 c i arg2 arg3 arg4 arg5 arg6 arg7 arg12 arg14 f2 f3 f4 f5 f6 f7) (fun a b => a < 1280) (m.G (m.b0 + 3)) :=
  cov2_cons 1024 0 rfl (v1013 h) (cov18_8 h) (by intro a b; intros; omega)

theorem v1063 (h : In c i arg2 arg3 arg4 arg5 arg6 arg7 f2 f3 f4 f5 f6 f7 m) :
    Is2 (m := 256) (n := 512) (body_run.sl.v1063 c i arg2 arg3 arg4 arg5 arg6 arg7 arg12 arg14 f2 f3 f4 f5 f6 f7) (fun a b => m.G (m.b0 + 3) (1536 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1536 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem v1038 (h : In c i arg2 arg3 arg4 arg5 arg6 arg7 f2 f3 f4 f5 f6 f7 m) :
    Is2 (m := 256) (n := 512) (body_run.sl.v1038 c i arg2 arg3 arg4 arg5 arg6 arg7 arg12 arg14 f2 f3 f4 f5 f6 f7) (fun a b => m.G (m.b0 + 3) (1280 + a) (0 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off13_3 h) (fun z a b _ _ _ _ => h.l z a b)) _) _))) _ _ 1536 1280 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off13_3 h) (fun z a b _ _ _ _ => h.d z a b)) _) _))) (by decide)) _) fun a b ha hb => by
    simp only [Data.G, Data.P, Nat.zero_add, Nat.add_assoc]; exact congrArg₂ (· * ·) (if_congr (by omega) rfl rfl) rfl

theorem cov18_11 (h : In c i arg2 arg3 arg4 arg5 arg6 arg7 f2 f3 f4 f5 f6 f7 m) :
    Cov2 arg18.view (body_run.sl.H18_11 c i arg2 arg3 arg4 arg5 arg6 arg7 arg12 arg14 f2 f3 f4 f5 f6 f7) (fun a b => a < 1792) (m.G (m.b0 + 3)) :=
  cov2_cons 1536 0 rfl (v1063 h) (cov2_cons (R := fun a b => a < 1536) 1280 0 rfl (v1038 h) (cov18_9 h) (by intro a b; intros; omega)) (by intro a b; intros; omega)

theorem v1100 (h : In c i arg2 arg3 arg4 arg5 arg6 arg7 f2 f3 f4 f5 f6 f7 m) :
    Is2 (m := 256) (n := 256) (body_run.sl.v1100 c i arg2 arg3 arg4 arg5 arg6 arg7 arg12 arg14 f2 f3 f4 f5 f6 f7) (fun a b => m.G (m.b0 + 3) (1792 + a) (256 + b)) :=
  Is2.congr (Is2.self (Is2.truncf (ψ := .bf16) (Is2.mulf (Is2.causal (Is2.exp2 (Is2.subf (is2_readCov (cov12_4 h) _ _ rfl (by intro a b; intros; first | trivial | omega)) (Is2.row (Is3.drop (is3_readAt (F := (fun _ b => m.L b)) _ _ _ _ (off14_3 h) (fun z a b _ _ _ _ => h.l z a b)) _) _))) _ _ 1792 1792 (by norm_num) (by norm_num) (by norm_num) (by norm_num) _ Ideal.ofBits_zero_f32) (Is2.subf (is2_readCov (cov14_4 h) _ _ rfl (by intro a b; intros; first | trivial | omega)) (Is2.row (Is3.drop (is3_readAt (F := (fun _ b => m.D b)) _ _ _ _ (off14_3 h) (fun z a b _ _ _ _ => h.d z a b)) _) _))) (by decide)) _) fun a b ha hb => by
    simp only [Data.G, Data.P, Nat.zero_add, Nat.add_assoc]; exact congrArg₂ (· * ·) (if_congr (by omega) rfl rfl) rfl

end Cert.KernelIdeal.Pre

end
-- ==== Proof.PreKV.lean ====
/-
  The gradients of the keys and the values over the first three blocks of queries.
-/
module

public import proofs.«01_k».proof.Proof.PreProbs
public import proofs.«01_k».proof.Proof.PreGrads

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

/-- The transposed block of keys. -/
theorem cov19_1 (h : In c i arg2 arg3 arg4 arg5 arg6 arg7 f2 f3 f4 f5 f6 f7 m) :
    Cov2 arg19.view (body_run.sl.H19_1 c arg3 f3) (fun _ _ => True) (fun d a => m.K a d) :=
  cov2_cons 0 0 rfl (Is2.congr (Is2.self (Is2.truncf (ψ := .bf16) (Is2.transpose (Is2.extf (ψ := .f32) (Is3.drop (is3_readAt (F := m.K) _ _ _ _ rfl (fun z a b _ _ _ _ => h.k z a b)) _) (by decide)) _) (by decide)) _) fun a b _ _ => by simp only [Nat.zero_add]) cov2_none (by intro a b; intros; omega)

theorem cov10_1 (h : In c i arg2 arg3 arg4 arg5 arg6 arg7 f2 f3 f4 f5 f6 f7 m) :
    Cov3 arg10.view (body_run.sl.H9_1) (fun _ _ => True) (m.dv 0) :=
  cov3_cons 0 0 rfl (fun z a b => Ideal.ofBits_zero_f32.trans (accR_zero _ _ _ _ _).symm) cov3_none (by intro a b; intros; omega)

theorem v255 (h : In c i arg2 arg3 arg4 arg5 arg6 arg7 f2 f3 f4 f5 f6 f7 m) :
    Is3 (m := 256) (n := 128) (body_run.sl.v255 c i arg2 arg3 arg5 arg6 arg10 arg11 arg15 f2 f3 f5 f6) (fun a b => m.dv 1 (0 + a) (0 + b)) :=
  Is3.congr (Is2.add (Is2.addf (Is3.drop (is3_readCov (cov10_1 h) _ _ rfl (by intro a b; intros; first | trivial | omega)) _) (is2_nn rfl (is2_readCov (cov15_2 h) _ _ rfl (by intro a b; intros; first | trivial | omega)) (Is3.drop (is3_readAt (F := m.O) _ _ _ _ (off9_1 h) (fun z a b _ _ _ _ => h.o z a b)) _))) _) fun a b ha hb => by
    simp only [Nat.zero_add, Nat.add_assoc]; exact (m.dv_succ 0 _ _).symm

theorem cov10_2_hi (h : In c i arg2 arg3 arg4 arg5 arg6 arg7 f2 f3 f4 f5 f6 f7 m) :
    Cov3 arg10.view (body_run.sl.H10_2 c i arg2 arg3 arg5 arg6 arg10 arg11 arg15 f2 f3 f5 f6) (fun a _ => 256 ≤ a) (m.dv 0) :=
  cov3_skip 0 0 rfl ((cov10_1 h).congr (fun _ _ _ _ _ => trivial) fun _ _ _ _ _ => rfl) (by intro a b; intros; omega)

theorem cov10_2_lo (h : In c i arg2 arg3 arg4 arg5 arg6 arg7 f2 f3 f4 f5 f6 f7 m) :
    Cov3 arg10.view (body_run.sl.H10_2 c i arg2 arg3 arg5 arg6 arg10 arg11 arg15 f2 f3 f5 f6) (fun a _ => a < 256 ∨ 512 ≤ a) (m.dv 1) :=
  cov3_cons (R' := fun a _ => 512 ≤ a) 0 0 rfl (v255 h)
    ((cov10_1 h).congr (fun _ _ _ _ _ => trivial) fun a b _ _ hr => m.dv_same b hr) (by intro a b; intros; omega)

theorem v297 (h : In c i arg2 arg3 arg4 arg5 arg6 arg7 f2 f3 f4 f5 f6 f7 m) :
    Is3 (m := 256) (n := 128) (body_run.sl.v297 c i arg2 arg3 arg5 arg6 arg10 arg11 arg15 f2 f3 f5 f6) (fun a b => m.dv 1 (256 + a) (0 + b)) :=
  Is3.congr (Is2.add (Is2.addf (Is3.drop (is3_readCov (cov10_2_hi h) _ _ rfl (by intro a b; intros; first | trivial | omega)) _) (is2_nn rfl (is2_readCov (cov15_2 h) _ _ rfl (by intro a b; intros; first | trivial | omega)) (Is3.drop (is3_readAt (F := m.O) _ _ _ _ (off11_1 h) (fun z a b _ _ _ _ => h.o z a b)) _))) _) fun a b ha hb => by
    simp only [Nat.zero_add, Nat.add_assoc]; exact (m.dv_half (n := 0) (a := 256 + a) b (by omega)).symm

theorem cov10_3 (h : In c i arg2 arg3 arg4 arg5 arg6 arg7 f2 f3 f4 f5 f6 f7 m) :
    Cov3 arg10.view (body_run.sl.H10_3 c i arg2 arg3 arg5 arg6 arg10 arg11 arg15 f2 f3 f5 f6) (fun _ _ => True) (m.dv 1) :=
  cov3_cons 256 0 rfl (v297 h) (cov10_2_lo h) (by intro a b; intros; omega)

theorem v517 (h : In c i arg2 arg3 arg4 arg5 arg6 arg7 f2 f3 f4 f5 f6 f7 m) :
    Is3 (m := 768) (n := 128) (body_run.sl.v517 c i arg2 arg3 arg5 arg6 arg10 arg11 arg12 arg15 arg16 f2 f3 f5 f6) (fun a b => m.dv 2 (0 + a) (0 + b)) :=
  Is3.congr (Is2.add (Is2.addf (Is3.drop (is3_readCov (cov10_3 h) _ _ rfl (by intro a b; intros; first | trivial | omega)) _) (is2_nn rfl (is2_readCov (cov16_4 h) _ _ rfl (by intro a b; intros; first | trivial | omega)) (Is3.drop (is3_readAt (F := m.O) _ _ _ _ (off9_2 h) (fun z a b _ _ _ _ => h.o z a b)) _))) _) fun a b ha hb => by
    simp only [Nat.zero_add, Nat.add_assoc]; exact (m.dv_succ 1 _ _).symm

theorem cov10_4_hi (h : In c i arg2 arg3 arg4 arg5 arg6 arg7 f2 f3 f4 f5 f6 f7 m) :
    Cov3 arg10.view (body_run.sl.H10_4 c i arg2 arg3 arg5 arg6 arg10 arg11 arg12 arg15 arg16 f2 f3 f5 f6) (fun a _ => 768 ≤ a) (m.dv 1) :=
  cov3_skip 0 0 rfl ((cov10_3 h).congr (fun _ _ _ _ _ => trivial) fun _ _ _ _ _ => rfl) (by intro a b; intros; omega)

theorem cov10_4_lo (h : In c i arg2 arg3 arg4 arg5 arg6 arg7 f2 f3 f4 f5 f6 f7 m) :
    Cov3 arg10.view (body_run.sl.H10_4 c i arg2 arg3 arg5 arg6 arg10 arg11 arg12 arg15 arg16 f2 f3 f5 f6) (fun a _ => a < 768 ∨ 1024 ≤ a) (m.dv 2) :=
  cov3_cons (R' := fun a _ => 1024 ≤ a) 0 0 rfl (v517 h)
    ((cov10_3 h).congr (fun _ _ _ _ _ => trivial) fun a b _ _ hr => m.dv_same b hr) (by intro a b; intros; omega)

theorem v559 (h : In c i arg2 arg3 arg4 arg5 arg6 arg7 f2 f3 f4 f5 f6 f7 m) :
    Is3 (m := 256) (n := 128) (body_run.sl.v559 c i arg2 arg3 arg5 arg6 arg10 arg11 arg12 arg15 arg16 f2 f3 f5 f6) (fun a b => m.dv 2 (768 + a) (0 + b)) :=
  Is3.congr (Is2.add (Is2.addf (Is3.drop (is3_readCov (cov10_4_hi h) _ _ rfl (by intro a b; intros; first | trivial | omega)) _) (is2_nn rfl (is2_readCov (cov16_4 h) _ _ rfl (by intro a b; intros; first | trivial | omega)) (Is3.drop (is3_readAt (F := m.O) _ _ _ _ (off11_2 h) (fun z a b _ _ _ _ => h.o z a b)) _))) _) fun a b ha hb => by
    simp only [Nat.zero_add, Nat.add_assoc]; exact (m.dv_half (n := 1) (a := 768 + a) b (by omega)).symm

theorem cov10_5 (h : In c i arg2 arg3 arg4 arg5 arg6 arg7 f2 f3 f4 f5 f6 f7 m) :
    Cov3 arg10.view (body_run.sl.H10_5 c i arg2 arg3 arg5 arg6 arg10 arg11 arg12 arg15 arg16 f2 f3 f5 f6) (fun _ _ => True) (m.dv 2) :=
  cov3_cons 768 0 rfl (v559 h) (cov10_4_lo h) (by intro a b; intros; omega)

theorem v805 (h : In c i arg2 arg3 arg4 arg5 arg6 arg7 f2 f3 f4 f5 f6 f7 m) :
    Is3 (m := 1280) (n := 128) (body_run.sl.v805 c i arg2 arg3 arg5 arg6 arg10 arg11 arg12 arg15 arg16 f2 f3 f5 f6) (fun a b => m.dv 3 (0 + a) (0 + b)) :=
  Is3.congr (Is2.add (Is2.addf (Is3.drop (is3_readCov (cov10_5 h) _ _ rfl (by intro a b; intros; first | trivial | omega)) _) (is2_nn rfl (is2_readCov (cov15_8 h) _ _ rfl (by intro a b; intros; first | trivial | omega)) (Is3.drop (is3_readAt (F := m.O) _ _ _ _ (off9_3 h) (fun z a b _ _ _ _ => h.o z a b)) _))) _) fun a b ha hb => by
    simp only [Nat.zero_add, Nat.add_assoc]; exact (m.dv_succ 2 _ _).symm

theorem cov10_6_hi (h : In c i arg2 arg3 arg4 arg5 arg6 arg7 f2 f3 f4 f5 f6 f7 m) :
    Cov3 arg10.view (body_run.sl.H10_6 c i arg2 arg3 arg5 arg6 arg10 arg11 arg12 arg15 arg16 f2 f3 f5 f6) (fun a _ => 1280 ≤ a) (m.dv 2) :=
  cov3_skip 0 0 rfl ((cov10_5 h).congr (fun _ _ _ _ _ => trivial) fun _ _ _ _ _ => rfl) (by intro a b; intros; omega)

theorem cov10_6_lo (h : In c i arg2 arg3 arg4 arg5 arg6 arg7 f2 f3 f4 f5 f6 f7 m) :
    Cov3 arg10.view (body_run.sl.H10_6 c i arg2 arg3 arg5 arg6 arg10 arg11 arg12 arg15 arg16 f2 f3 f5 f6) (fun a _ => a < 1280 ∨ 1536 ≤ a) (m.dv 3) :=
  cov3_cons (R' := fun a _ => 1536 ≤ a) 0 0 rfl (v805 h)
    ((cov10_5 h).congr (fun _ _ _ _ _ => trivial) fun a b _ _ hr => m.dv_same b hr) (by intro a b; intros; omega)

theorem v847 (h : In c i arg2 arg3 arg4 arg5 arg6 arg7 f2 f3 f4 f5 f6 f7 m) :
    Is3 (m := 256) (n := 128) (body_run.sl.v847 c i arg2 arg3 arg5 arg6 arg10 arg11 arg12 arg15 arg16 f2 f3 f5 f6) (fun a b => m.dv 3 (1280 + a) (0 + b)) :=
  Is3.congr (Is2.add (Is2.addf (Is3.drop (is3_readCov (cov10_6_hi h) _ _ rfl (by intro a b; intros; first | trivial | omega)) _) (is2_nn rfl (is2_readCov (cov15_8 h) _ _ rfl (by intro a b; intros; first | trivial | omega)) (Is3.drop (is3_readAt (F := m.O) _ _ _ _ (off11_3 h) (fun z a b _ _ _ _ => h.o z a b)) _))) _) fun a b ha hb => by
    simp only [Nat.zero_add, Nat.add_assoc]; exact (m.dv_half (n := 2) (a := 1280 + a) b (by omega)).symm

theorem cov10_7 (h : In c i arg2 arg3 arg4 arg5 arg6 arg7 f2 f3 f4 f5 f6 f7 m) :
    Cov3 arg10.view (body_run.sl.H10_7 c i arg2 arg3 arg5 arg6 arg10 arg11 arg12 arg15 arg16 f2 f3 f5 f6) (fun _ _ => True) (m.dv 3) :=
  cov3_cons 1280 0 rfl (v847 h) (cov10_6_lo h) (by intro a b; intros; omega)

theorem cov9_1 (h : In c i arg2 arg3 arg4 arg5 arg6 arg7 f2 f3 f4 f5 f6 f7 m) :
    Cov3 arg9.view (body_run.sl.H9_1) (fun _ _ => True) (m.dk 0) :=
  cov3_cons 0 0 rfl (fun z a b => Ideal.ofBits_zero_f32.trans (accR_zero _ _ _ _ _).symm) cov3_none (by intro a b; intros; omega)

theorem v269 (h : In c i arg2 arg3 arg4 arg5 arg6 arg7 f2 f3 f4 f5 f6 f7 m) :
    Is3 (m := 256) (n := 128) (body_run.sl.v269 c i arg2 arg3 arg4 arg5 arg6 arg7 arg9 arg11 arg13 arg17 f2 f3 f4 f5 f6 f7) (fun a b => m.dk 1 (0 + a) (0 + b)) :=
  Is3.congr (Is2.add (Is2.addf (Is3.drop (is3_readCov (cov9_1 h) _ _ rfl (by intro a b; intros; first | trivial | omega)) _) (is2_nn rfl (is2_readCov (cov17_2 h) _ _ rfl (by intro a b; intros; first | trivial | omega)) (Is3.drop (is3_readAt (F := m.Q) _ _ _ _ (off9_1 h) (fun z a b _ _ _ _ => h.q z a b)) _))) _) fun a b ha hb => by
    simp only [Nat.zero_add, Nat.add_assoc]; exact (m.dk_succ 0 _ _).symm

theorem cov9_2_hi (h : In c i arg2 arg3 arg4 arg5 arg6 arg7 f2 f3 f4 f5 f6 f7 m) :
    Cov3 arg9.view (body_run.sl.H9_2 c i arg2 arg3 arg4 arg5 arg6 arg7 arg9 arg11 arg13 arg17 f2 f3 f4 f5 f6 f7) (fun a _ => 256 ≤ a) (m.dk 0) :=
  cov3_skip 0 0 rfl ((cov9_1 h).congr (fun _ _ _ _ _ => trivial) fun _ _ _ _ _ => rfl) (by intro a b; intros; omega)

theorem cov9_2_lo (h : In c i arg2 arg3 arg4 arg5 arg6 arg7 f2 f3 f4 f5 f6 f7 m) :
    Cov3 arg9.view (body_run.sl.H9_2 c i arg2 arg3 arg4 arg5 arg6 arg7 arg9 arg11 arg13 arg17 f2 f3 f4 f5 f6 f7) (fun a _ => a < 256 ∨ 512 ≤ a) (m.dk 1) :=
  cov3_cons (R' := fun a _ => 512 ≤ a) 0 0 rfl (v269 h)
    ((cov9_1 h).congr (fun _ _ _ _ _ => trivial) fun a b _ _ hr => m.dk_same b hr) (by intro a b; intros; omega)

theorem v311 (h : In c i arg2 arg3 arg4 arg5 arg6 arg7 f2 f3 f4 f5 f6 f7 m) :
    Is3 (m := 256) (n := 128) (body_run.sl.v311 c i arg2 arg3 arg4 arg5 arg6 arg7 arg9 arg11 arg13 arg17 f2 f3 f4 f5 f6 f7) (fun a b => m.dk 1 (256 + a) (0 + b)) :=
  Is3.congr (Is2.add (Is2.addf (Is3.drop (is3_readCov (cov9_2_hi h) _ _ rfl (by intro a b; intros; first | trivial | omega)) _) (is2_nn rfl (is2_readCov (cov17_2 h) _ _ rfl (by intro a b; intros; first | trivial | omega)) (Is3.drop (is3_readAt (F := m.Q) _ _ _ _ (off11_1 h) (fun z a b _ _ _ _ => h.q z a b)) _))) _) fun a b ha hb => by
    simp only [Nat.zero_add, Nat.add_assoc]; exact (m.dk_half (n := 0) (a := 256 + a) b (by omega)).symm

theorem cov9_3 (h : In c i arg2 arg3 arg4 arg5 arg6 arg7 f2 f3 f4 f5 f6 f7 m) :
    Cov3 arg9.view (body_run.sl.H9_3 c i arg2 arg3 arg4 arg5 arg6 arg7 arg9 arg11 arg13 arg17 f2 f3 f4 f5 f6 f7) (fun _ _ => True) (m.dk 1) :=
  cov3_cons 256 0 rfl (v311 h) (cov9_2_lo h) (by intro a b; intros; omega)

theorem v531 (h : In c i arg2 arg3 arg4 arg5 arg6 arg7 f2 f3 f4 f5 f6 f7 m) :
    Is3 (m := 768) (n := 128) (body_run.sl.v531 c i arg2 arg3 arg4 arg5 arg6 arg7 arg9 arg11 arg12 arg13 arg14 arg17 arg18 f2 f3 f4 f5 f6 f7) (fun a b => m.dk 2 (0 + a) (0 + b)) :=
  Is3.congr (Is2.add (Is2.addf (Is3.drop (is3_readCov (cov9_3 h) _ _ rfl (by intro a b; intros; first | trivial | omega)) _) (is2_nn rfl (is2_readCov (cov18_4 h) _ _ rfl (by intro a b; intros; first | trivial | omega)) (Is3.drop (is3_readAt (F := m.Q) _ _ _ _ (off9_2 h) (fun z a b _ _ _ _ => h.q z a b)) _))) _) fun a b ha hb => by
    simp only [Nat.zero_add, Nat.add_assoc]; exact (m.dk_succ 1 _ _).symm

theorem cov9_4_hi (h : In c i arg2 arg3 arg4 arg5 arg6 arg7 f2 f3 f4 f5 f6 f7 m) :
    Cov3 arg9.view (body_run.sl.H9_4 c i arg2 arg3 arg4 arg5 arg6 arg7 arg9 arg11 arg12 arg13 arg14 arg17 arg18 f2 f3 f4 f5 f6 f7) (fun a _ => 768 ≤ a) (m.dk 1) :=
  cov3_skip 0 0 rfl ((cov9_3 h).congr (fun _ _ _ _ _ => trivial) fun _ _ _ _ _ => rfl) (by intro a b; intros; omega)

theorem cov9_4_lo (h : In c i arg2 arg3 arg4 arg5 arg6 arg7 f2 f3 f4 f5 f6 f7 m) :
    Cov3 arg9.view (body_run.sl.H9_4 c i arg2 arg3 arg4 arg5 arg6 arg7 arg9 arg11 arg12 arg13 arg14 arg17 arg18 f2 f3 f4 f5 f6 f7) (fun a _ => a < 768 ∨ 1024 ≤ a) (m.dk 2) :=
  cov3_cons (R' := fun a _ => 1024 ≤ a) 0 0 rfl (v531 h)
    ((cov9_3 h).congr (fun _ _ _ _ _ => trivial) fun a b _ _ hr => m.dk_same b hr) (by intro a b; intros; omega)

theorem v573 (h : In c i arg2 arg3 arg4 arg5 arg6 arg7 f2 f3 f4 f5 f6 f7 m) :
    Is3 (m := 256) (n := 128) (body_run.sl.v573 c i arg2 arg3 arg4 arg5 arg6 arg7 arg9 arg11 arg12 arg13 arg14 arg17 arg18 f2 f3 f4 f5 f6 f7) (fun a b => m.dk 2 (768 + a) (0 + b)) :=
  Is3.congr (Is2.add (Is2.addf (Is3.drop (is3_readCov (cov9_4_hi h) _ _ rfl (by intro a b; intros; first | trivial | omega)) _) (is2_nn rfl (is2_readCov (cov18_4 h) _ _ rfl (by intro a b; intros; first | trivial | omega)) (Is3.drop (is3_readAt (F := m.Q) _ _ _ _ (off11_2 h) (fun z a b _ _ _ _ => h.q z a b)) _))) _) fun a b ha hb => by
    simp only [Nat.zero_add, Nat.add_assoc]; exact (m.dk_half (n := 1) (a := 768 + a) b (by omega)).symm

theorem cov9_5 (h : In c i arg2 arg3 arg4 arg5 arg6 arg7 f2 f3 f4 f5 f6 f7 m) :
    Cov3 arg9.view (body_run.sl.H9_5 c i arg2 arg3 arg4 arg5 arg6 arg7 arg9 arg11 arg12 arg13 arg14 arg17 arg18 f2 f3 f4 f5 f6 f7) (fun _ _ => True) (m.dk 2) :=
  cov3_cons 768 0 rfl (v573 h) (cov9_4_lo h) (by intro a b; intros; omega)

theorem v819 (h : In c i arg2 arg3 arg4 arg5 arg6 arg7 f2 f3 f4 f5 f6 f7 m) :
    Is3 (m := 1280) (n := 128) (body_run.sl.v819 c i arg2 arg3 arg4 arg5 arg6 arg7 arg9 arg11 arg12 arg13 arg14 arg17 arg18 f2 f3 f4 f5 f6 f7) (fun a b => m.dk 3 (0 + a) (0 + b)) :=
  Is3.congr (Is2.add (Is2.addf (Is3.drop (is3_readCov (cov9_5 h) _ _ rfl (by intro a b; intros; first | trivial | omega)) _) (is2_nn rfl (is2_readCov (cov17_8 h) _ _ rfl (by intro a b; intros; first | trivial | omega)) (Is3.drop (is3_readAt (F := m.Q) _ _ _ _ (off9_3 h) (fun z a b _ _ _ _ => h.q z a b)) _))) _) fun a b ha hb => by
    simp only [Nat.zero_add, Nat.add_assoc]; exact (m.dk_succ 2 _ _).symm

theorem cov9_6_hi (h : In c i arg2 arg3 arg4 arg5 arg6 arg7 f2 f3 f4 f5 f6 f7 m) :
    Cov3 arg9.view (body_run.sl.H9_6 c i arg2 arg3 arg4 arg5 arg6 arg7 arg9 arg11 arg12 arg13 arg14 arg17 arg18 f2 f3 f4 f5 f6 f7) (fun a _ => 1280 ≤ a) (m.dk 2) :=
  cov3_skip 0 0 rfl ((cov9_5 h).congr (fun _ _ _ _ _ => trivial) fun _ _ _ _ _ => rfl) (by intro a b; intros; omega)

theorem cov9_6_lo (h : In c i arg2 arg3 arg4 arg5 arg6 arg7 f2 f3 f4 f5 f6 f7 m) :
    Cov3 arg9.view (body_run.sl.H9_6 c i arg2 arg3 arg4 arg5 arg6 arg7 arg9 arg11 arg12 arg13 arg14 arg17 arg18 f2 f3 f4 f5 f6 f7) (fun a _ => a < 1280 ∨ 1536 ≤ a) (m.dk 3) :=
  cov3_cons (R' := fun a _ => 1536 ≤ a) 0 0 rfl (v819 h)
    ((cov9_5 h).congr (fun _ _ _ _ _ => trivial) fun a b _ _ hr => m.dk_same b hr) (by intro a b; intros; omega)

theorem v861 (h : In c i arg2 arg3 arg4 arg5 arg6 arg7 f2 f3 f4 f5 f6 f7 m) :
    Is3 (m := 256) (n := 128) (body_run.sl.v861 c i arg2 arg3 arg4 arg5 arg6 arg7 arg9 arg11 arg12 arg13 arg14 arg17 arg18 f2 f3 f4 f5 f6 f7) (fun a b => m.dk 3 (1280 + a) (0 + b)) :=
  Is3.congr (Is2.add (Is2.addf (Is3.drop (is3_readCov (cov9_6_hi h) _ _ rfl (by intro a b; intros; first | trivial | omega)) _) (is2_nn rfl (is2_readCov (cov17_8 h) _ _ rfl (by intro a b; intros; first | trivial | omega)) (Is3.drop (is3_readAt (F := m.Q) _ _ _ _ (off11_3 h) (fun z a b _ _ _ _ => h.q z a b)) _))) _) fun a b ha hb => by
    simp only [Nat.zero_add, Nat.add_assoc]; exact (m.dk_half (n := 2) (a := 1280 + a) b (by omega)).symm

theorem cov9_7 (h : In c i arg2 arg3 arg4 arg5 arg6 arg7 f2 f3 f4 f5 f6 f7 m) :
    Cov3 arg9.view (body_run.sl.H9_7 c i arg2 arg3 arg4 arg5 arg6 arg7 arg9 arg11 arg12 arg13 arg14 arg17 arg18 f2 f3 f4 f5 f6 f7) (fun _ _ => True) (m.dk 3) :=
  cov3_cons 1280 0 rfl (v861 h) (cov9_6_lo h) (by intro a b; intros; omega)

end Cert.KernelIdeal.Pre

end
-- ==== Proof.PreQ.lean ====
/-
  The gradient of the queries over the first three blocks of queries.
-/
module

public import proofs.«01_k».proof.Proof.PreKV

@[expose] public section

set_option maxRecDepth 16384

noncomputable section

namespace Cert.KernelIdeal.Pre

open Cert.KernelIdeal Cert.KernelIdeal.Gen Cert.KernelIdeal.Safe Cert.Tile Cert.Model
open Idealize.ShloMosaic Idealize.ShloMosaic.TcCoe

variable {c : Dev nD} {i : grid0.Coords}
variable {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))} {f18 : Buf (Elt Ideal) (arg18.view.loc (c : Thread nD τ))} {f19 : Buf (Elt Ideal) (arg19.view.loc (c : Thread nD τ))}
variable {m : Data}

/-- What the gradient of the queries holds when the products are added: nothing at a head's first point, and what the points
  before left at the others. -/
def base8 (c : Dev nD) (i : grid0.Coords) (arg8 : Memref sig .tc .vmem S1x128x8192 .f32)
    (f8 : Buf (Elt Ideal) (arg8.view.loc (c : Thread nD τ))) : Buf (Elt Ideal) (arg8.view.loc (c : Thread nD τ)) :=
  if hc : body_run.sl.v2 i = 1#1 then
    arg8.view.writes (Elt Ideal) f8 [⟨Rect.unit ![0, 0, 0] S1x128x8192.size (by decide), broadcast S1x128x8192 body_run.sl.cst_762⟩]
  else f8

variable {X : ℕ → ℕ → EReal}

theorem v283 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 512) (body_run.sl.v283 c i arg2 arg3 arg4 arg5 arg6 arg7 arg8 arg11 arg13 arg17 arg19 f2 f3 f4 f5 f6 f7 f8) (fun a b => (fun d q => m.dq X 0 d q + m.dqB m.b0 256 d q) (0 + a) (512 * m.b0 + b)) :=
  Is3.congr (Is2.add (Is2.addf (Is3.drop (is3_readAt (F := X) _ _ _ _ (off10_1 h) (fun z a b _ _ _ _ => hX z a b)) _) (is2_nn rfl (is2_readCov (cov19_1 h) _ _ rfl (by intro a b; intros; first | trivial | omega)) (is2_readCov (cov17_2 h) _ _ rfl (by intro a b; intros; first | trivial | omega)))) _) fun a b ha hb => by
    show _ = m.dq X 0 (0 + a) (512 * m.b0 + b) + m.dqB m.b0 256 (0 + a) (512 * m.b0 + b)
    rw [m.dq_before X (by omega)]
    simp only [Data.dqB, Nat.zero_add, Nat.add_sub_cancel_left]

theorem cov8_1 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_1 c i arg2 arg3 arg4 arg5 arg6 arg7 arg8 arg11 arg13 arg17 arg19 f2 f3 f4 f5 f6 f7 f8) (fun _ q => 512 * m.b0 ≤ q ∧ q < 512 * m.b0 + 512) (fun d q => m.dq X 0 d q + m.dqB m.b0 256 d q) :=
  cov3_cons 0 (512 * m.b0) (off10_1 h) (v283 h hX) cov3_none (by intro a b; intros; omega)

theorem v325 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 256) (body_run.sl.v325 c i arg2 arg3 arg4 arg5 arg6 arg7 arg8 arg11 arg13 arg17 arg19 f2 f3 f4 f5 f6 f7 f8) (fun a b => m.dq X 1 (0 + a) ((512 * m.b0 + 256) + b)) :=
  Is3.congr (Is2.add (Is2.addf (Is3.drop (is3_readCov (cov8_1 h hX) _ _ (off12_1 h) (by intro a b; intros; first | trivial | omega)) _) (is2_nn rfl (is2_readCov (cov19_1 h) _ _ rfl (by intro a b; intros; first | trivial | omega)) (is2_readCov (cov17_2 h) _ _ rfl (by intro a b; intros; first | trivial | omega)))) _) fun a b ha hb => by
    rw [m.dq_in X (n := 0) (by omega) (by omega), m.dqB_head (r := 256 + 256) (by omega) (by omega) (by omega), m.dqB_add (m.b0 + 0) 256, ← add_assoc]
    simp only [Nat.zero_add, Nat.add_zero, Nat.add_assoc, Nat.add_sub_cancel_left]

theorem cov8_2 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_2 c i arg2 arg3 arg4 arg5 arg6 arg7 arg8 arg11 arg13 arg17 arg19 f2 f3 f4 f5 f6 f7 f8) (fun _ q => 512 * m.b0 ≤ q ∧ q < 512 * m.b0 + 512) (m.dq X 1) :=
  cov3_cons 0 (512 * m.b0 + 256) (off12_1 h) (v325 h hX) ((cov8_1 h hX).congr (R' := fun _ q => 512 * m.b0 ≤ q ∧ q < 512 * m.b0 + 256) (by intro a b; intros; omega) fun a q _ _ hr => by
      rw [m.dq_in X (n := 0) (by omega) (by omega), m.dqB_head (r := 256) (by omega) (by omega) (by omega)]; rfl) (by intro a b; intros; omega)

theorem v545 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 512) (body_run.sl.v545 c i arg2 arg3 arg4 arg5 arg6 arg7 arg8 arg12 arg14 arg18 arg19 f2 f3 f4 f5 f6 f7 f8) (fun a b => (fun d q => m.dq X 1 d q + m.dqB (m.b0 + 1) 768 d q) (0 + a) (512 * (m.b0 + 1) + b)) :=
  Is3.congr (Is2.add (Is2.addf (Is3.drop (is3_readAt (F := X) _ _ _ _ (off10_2 h) (fun z a b _ _ _ _ => hX z a b)) _) (is2_nn rfl (is2_readCov (cov19_1 h) _ _ rfl (by intro a b; intros; first | trivial | omega)) (is2_readCov (cov18_4 h) _ _ rfl (by intro a b; intros; first | trivial | omega)))) _) fun a b ha hb => by
    show _ = m.dq X 1 (0 + a) (512 * (m.b0 + 1) + b) + m.dqB (m.b0 + 1) 768 (0 + a) (512 * (m.b0 + 1) + b)
    rw [m.dq_before X (by omega)]
    simp only [Data.dqB, Nat.zero_add, Nat.add_sub_cancel_left]

theorem cov8_3 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_3 c i arg2 arg3 arg4 arg5 arg6 arg7 arg8 arg11 arg12 arg13 arg14 arg17 arg18 arg19 f2 f3 f4 f5 f6 f7 f8) (fun _ q => 512 * (m.b0 + 1) ≤ q ∧ q < 512 * (m.b0 + 1) + 512) (fun d q => m.dq X 1 d q + m.dqB (m.b0 + 1) 768 d q) :=
  cov3_cons 0 (512 * (m.b0 + 1)) (off10_2 h) (v545 h hX) cov3_none (by intro a b; intros; omega)

theorem v587 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 256) (body_run.sl.v587 c i arg2 arg3 arg4 arg5 arg6 arg7 arg8 arg11 arg12 arg13 arg14 arg17 arg18 arg19 f2 f3 f4 f5 f6 f7 f8) (fun a b => m.dq X 2 (0 + a) ((512 * (m.b0 + 1) + 256) + b)) :=
  Is3.congr (Is2.add (Is2.addf (Is3.drop (is3_readCov (cov8_3 h hX) _ _ (off12_2 h) (by intro a b; intros; first | trivial | omega)) _) (is2_nn rfl (is2_readCov (cov19_1 h) _ _ rfl (by intro a b; intros; first | trivial | omega)) (is2_readCov (cov18_4 h) _ _ rfl (by intro a b; intros; first | trivial | omega)))) _) fun a b ha hb => by
    rw [m.dq_in X (n := 1) (by omega) (by omega), m.dqB_head (r := 768 + 256) (by omega) (by omega) (by omega), m.dqB_add (m.b0 + 1) 768, ← add_assoc]
    simp only [Nat.zero_add, Nat.add_zero, Nat.add_assoc, Nat.add_sub_cancel_left]

theorem cov8_4 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_4 c i arg2 arg3 arg4 arg5 arg6 arg7 arg8 arg11 arg12 arg13 arg14 arg17 arg18 arg19 f2 f3 f4 f5 f6 f7 f8) (fun _ q => 512 * m.b0 ≤ q ∧ q < 512 * (m.b0 + 1) + 512) (m.dq X 2) :=
  cov3_cons 0 (512 * (m.b0 + 1) + 256) (off12_2 h) (v587 h hX) (cov3_union
    ((cov8_3 h hX).congr (R' := fun _ q => 512 * (m.b0 + 1) ≤ q ∧ q < 512 * (m.b0 + 1) + 256) (by intro a b; intros; omega) fun a q _ _ hr => by
      rw [m.dq_in X (n := 1) (by omega) (by omega), m.dqB_head (r := 768) (by omega) (by omega) (by omega)])
    (cov3_skip 0 (512 * (m.b0 + 1)) (off10_2 h) ((cov8_2 h hX).congr (fun _ _ _ _ hr => hr) fun _ _ _ _ hr => m.dq_out X (by omega)) (by intro a b; intros; omega))) (by intro a b; intros; omega)

theorem v833 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 512) (body_run.sl.v833 c i arg2 arg3 arg4 arg5 arg6 arg7 arg8 arg11 arg13 arg17 arg19 f2 f3 f4 f5 f6 f7 f8) (fun a b => (fun d q => m.dq X 2 d q + m.dqB (m.b0 + 2) 1280 d q) (0 + a) (512 * (m.b0 + 2) + b)) :=
  Is3.congr (Is2.add (Is2.addf (Is3.drop (is3_readAt (F := X) _ _ _ _ (off10_3 h) (fun z a b _ _ _ _ => hX z a b)) _) (is2_nn rfl (is2_readCov (cov19_1 h) _ _ rfl (by intro a b; intros; first | trivial | omega)) (is2_readCov (cov17_8 h) _ _ rfl (by intro a b; intros; first | trivial | omega)))) _) fun a b ha hb => by
    show _ = m.dq X 2 (0 + a) (512 * (m.b0 + 2) + b) + m.dqB (m.b0 + 2) 1280 (0 + a) (512 * (m.b0 + 2) + b)
    rw [m.dq_before X (by omega)]
    simp only [Data.dqB, Nat.zero_add, Nat.add_sub_cancel_left]

theorem cov8_5 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_5 c i arg2 arg3 arg4 arg5 arg6 arg7 arg8 arg11 arg12 arg13 arg14 arg17 arg18 arg19 f2 f3 f4 f5 f6 f7 f8) (fun _ q => 512 * (m.b0 + 2) ≤ q ∧ q < 512 * (m.b0 + 2) + 512) (fun d q => m.dq X 2 d q + m.dqB (m.b0 + 2) 1280 d q) :=
  cov3_cons 0 (512 * (m.b0 + 2)) (off10_3 h) (v833 h hX) cov3_none (by intro a b; intros; omega)

theorem v875 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Is3 (m := 128) (n := 256) (body_run.sl.v875 c i arg2 arg3 arg4 arg5 arg6 arg7 arg8 arg11 arg12 arg13 arg14 arg17 arg18 arg19 f2 f3 f4 f5 f6 f7 f8) (fun a b => m.dq X 3 (0 + a) ((512 * (m.b0 + 2) + 256) + b)) :=
  Is3.congr (Is2.add (Is2.addf (Is3.drop (is3_readCov (cov8_5 h hX) _ _ (off12_3 h) (by intro a b; intros; first | trivial | omega)) _) (is2_nn rfl (is2_readCov (cov19_1 h) _ _ rfl (by intro a b; intros; first | trivial | omega)) (is2_readCov (cov17_8 h) _ _ rfl (by intro a b; intros; first | trivial | omega)))) _) fun a b ha hb => by
    rw [m.dq_in X (n := 2) (by omega) (by omega), m.dqB_head (r := 1280 + 256) (by omega) (by omega) (by omega), m.dqB_add (m.b0 + 2) 1280, ← add_assoc]
    simp only [Nat.zero_add, Nat.add_zero, Nat.add_assoc, Nat.add_sub_cancel_left]

theorem cov8_6 (h : In c i arg2 arg3 arg4 arg5 arg6 arg7 f2 f3 f4 f5 f6 f7 m) (hX : ∀ (z : Fin 1) (a : Fin 128) (b : Fin 8192), arg8.view.read (Elt Ideal) (base8 c i arg8 f8) (ValueIdx.ix3 z a b) = X a b) :
    Cov3 arg8.view (body_run.sl.H8_6 c i arg2 arg3 arg4 arg5 arg6 arg7 arg8 arg11 arg12 arg13 arg14 arg17 arg18 arg19 f2 f3 f4 f5 f6 f7 f8) (fun _ q => 512 * m.b0 ≤ q ∧ q < 512 * (m.b0 + 2) + 512) (m.dq X 3) :=
  cov3_cons 0 (512 * (m.b0 + 2) + 256) (off12_3 h) (v875 h hX) (cov3_union
    ((cov8_5 h hX).congr (R' := fun _ q => 512 * (m.b0 + 2) ≤ q ∧ q < 512 * (m.b0 + 2) + 256) (by intro a b; intros; omega) fun a q _ _ hr => by
      rw [m.dq_in X (n := 2) (by omega) (by omega), m.dqB_head (r := 1280) (by omega) (by omega) (by omega)])
    (cov3_skip 0 (512 * (m.b0 + 2)) (off10_3 h) ((cov8_4 h hX).congr (fun _ _ _ _ hr => hr) fun _ _ _ _ hr => m.dq_out X (by omega)) (by intro a b; intros; omega))) (by intro a b; intros; omega)

end Cert.KernelIdeal.Pre

end
-- ==== Proof.Body.lean ====
/-
  One grid point of the backward kernel: the three results from the six inputs.
-/
module

public import proofs.«01_k».proof.Proof.Loop
public import proofs.«01_k».proof.Proof.PreQ
public import proofs.«01_k».proof.Proof.PreKV

@[expose] public section

set_option maxRecDepth 16384

noncomputable section

namespace Cert.KernelIdeal.Run

open Cert.KernelIdeal Cert.KernelIdeal.Gen Cert.Tile Cert.Model
open Cert.KernelIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The bf16 zero is the number zero. -/
theorem zero_bf16 : (FloatOps.ofBits (F := Ideal) .bf16 0#16 : EReal) = 0 := Ideal.ofBits_zero_bf16

/-- A corner of zeros where everything is masked. -/
theorem corner {F : ℕ → ℕ → EReal} (hF : ∀ a b, a < 256 → b < 256 → F a b = 0) :
    Is2 (m := 256) (n := 256) (k0_pay214 (F := Ideal) k0_pay213) F :=
  Is2.self (fun a b => zero_bf16.trans (hF a b a.2 b.2).symm) _

/-- One corner stored after the rest. -/
theorem late {v : View sig .tc .vmem S2048x512 .bf16} (f : v.ty.Contents (Elt Ideal)) {L : List (View.Piece (Elt Ideal) S2048x512 .bf16)}
    {w : S256x256.Idx → EReal} {F : ℕ → ℕ → EReal} (hw : Is2 (m := 256) (n := 256) w (fun a b => F (1792 + a) (0 + b)))
    (hL : Cov2 v L (fun a b => ¬ (1792 ≤ a ∧ b < 256)) F) :
    Is2 (m := 2048) (n := 512) (v.read (Elt Ideal) (v.writes (Elt Ideal) (v.writes (Elt Ideal) f L)
      [⟨Rect.unit (s := S2048x512) ![1792, 0] S256x256.size inb_S2048x512_S256x256_1792_0, w⟩])) F := fun a b =>
  read_cons2 (m := 256) (n := 256) (L := []) v _ 1792 0 rfl hw a b fun h1 => hL f a b (by omega)

/-- The keys' gradient, scaled at the end by the natural logarithm of two. -/
theorem scaled {v : View sig .tc .vmem S1x2048x128 .f32} {L : List (View.Piece (Elt Ideal) S1x2048x128 .f32)} {F : ℕ → ℕ → EReal}
    (hL : Cov3 v L (fun _ _ => True) F) {inb} :
    Is3 (m := 2048) (n := 128) (k0_pay1 (F := Ideal) (v.readCov L (Rect.unit (s := S1x2048x128) ![0, 0, 0] S1x2048x128.size inb).toLoadRect))
      (fun a b => F (0 + a) (0 + b) * ((Real.log 2 : ℝ) : EReal)) := by
  have hb : Is2 (m := 2048) (n := 128) (broadcast S2048x128 (Named.named (F := Ideal) (φ := .f32) κ "ln2" 0x3F317218#32)) (fun _ _ => ((Real.log 2 : ℝ) : EReal)) :=
    fun a b => rfl
  exact Is2.add (Is2.mulf (Is3.drop (is3_readCov (m := 2048) (n := 128) hL 0 0 rfl (by intro a b; intros; trivial)) _) hb) _

section Corners
variable {c : Dev nD} {i : grid0.Coords} {arg2 : Memref sig .tc .vmem S1x8192x128 .bf16} {arg3 : Memref sig .tc .vmem S1x2048x128 .bf16} {arg4 : Memref sig .tc .vmem S1x2048x128 .bf16} {arg5 : Memref sig .tc .vmem S1x8192x128 .bf16} {arg6 : Memref sig .tc .vmem S1x1x8192 .f32} {arg7 : Memref sig .tc .vmem S1x1x8192 .f32} {arg8 : Memref sig .tc .vmem S1x128x8192 .f32} {arg9 : Memref sig .tc .vmem S1x2048x128 .f32} {arg10 : Memref sig .tc .vmem S1x2048x128 .f32} {arg11 : Memref sig .tc .vmem S2048x512 .f32} {arg12 : Memref sig .tc .vmem S2048x512 .f32} {arg13 : Memref sig .tc .vmem S2048x512 .f32} {arg14 : Memref sig .tc .vmem S2048x512 .f32} {arg15 : Memref sig .tc .vmem S2048x512 .bf16} {arg16 : Memref sig .tc .vmem S2048x512 .bf16} {arg17 : Memref sig .tc .vmem S2048x512 .bf16} {arg18 : Memref sig .tc .vmem S2048x512 .bf16} {arg19 : Memref sig .tc .vmem S128x2048 .bf16}
variable {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {m : Data}

/-- All of the fourth block's probabilities. -/
theorem corner16 (h : In c i arg2 arg3 arg4 arg5 arg6 arg7 f2 f3 f4 f5 f6 f7 m) :
    Cov2 arg16.view ((⟨Rect.unit (s := S2048x512) ![1792, 0] S256x256.size inb_S2048x512_S256x256_1792_0, k0_pay214 (F := Ideal) k0_pay213⟩ ::
      ⟨Rect.unit (s := S2048x512) ![1792, 256] S256x256.size (by decide), Safe.body_run.sl.v1092 c i arg2 arg3 arg6 arg12 f2 f3 f6⟩ ::
      Safe.body_run.sl.H16_11 c i arg2 arg3 arg6 arg12 f2 f3 f6 : List (View.Piece (Elt Ideal) S2048x512 .bf16))) (fun a b => True) (m.P (m.b0 + 3)) :=
  cov2_cons (m := 256) (n := 256) 1792 0 rfl (corner fun a b ha hb => m.P_zero (by omega))
    (cov2_cons (m := 256) (n := 256) (R := fun a b => ¬ (1792 ≤ a ∧ b < 256)) 1792 256 rfl (Pre.v1092 h) (Pre.cov16_11 h) (by intro a b; intros; omega)) (by intro a b; intros; omega)

/-- All of the fourth block's score gradients, the corner stored last. -/
theorem corner18 (h : In c i arg2 arg3 arg4 arg5 arg6 arg7 f2 f3 f4 f5 f6 f7 m) (f18 : Buf (Elt Ideal) (arg18.view.loc (c : Thread nD τ))) :
    Is2 (m := 2048) (n := 512) (arg18.view.read (Elt Ideal) (arg18.view.writes (Elt Ideal) (arg18.view.writes (Elt Ideal) f18
      (⟨Rect.unit (s := S2048x512) ![1792, 256] S256x256.size (by decide), Safe.body_run.sl.v1100 c i arg2 arg3 arg4 arg5 arg6 arg7 arg12 arg14 f2 f3 f4 f5 f6 f7⟩ ::
      Safe.body_run.sl.H18_11 c i arg2 arg3 arg4 arg5 arg6 arg7 arg12 arg14 f2 f3 f4 f5 f6 f7 : List (View.Piece (Elt Ideal) S2048x512 .bf16)))
      [⟨Rect.unit (s := S2048x512) ![1792, 0] S256x256.size inb_S2048x512_S256x256_1792_0, k0_pay214 (F := Ideal) k0_pay213⟩])) (m.G (m.b0 + 3)) := fun a b =>
  late _ (corner fun a b ha hb => m.G_zero (by omega))
    (cov2_cons (m := 256) (n := 256) 1792 256 rfl (Pre.v1100 h) (Pre.cov18_11 h) (by intro a b; intros; omega)) a b
end Corners
/-- The eighteen buffers when the three first blocks of queries are added and one corner of the last buffer is not written yet. -/
def Stage0 (c : Dev nD) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32) (arg8 : Memref sig .tc .vmem S1x128x8192 .f32) (arg9 : Memref sig .tc .vmem S1x2048x128 .f32) (arg10 : Memref sig .tc .vmem S1x2048x128 .f32) (arg11 : Memref sig .tc .vmem S2048x512 .f32) (arg12 : Memref sig .tc .vmem S2048x512 .f32) (arg13 : Memref sig .tc .vmem S2048x512 .f32) (arg14 : Memref sig .tc .vmem S2048x512 .f32) (arg15 : Memref sig .tc .vmem S2048x512 .bf16) (arg16 : Memref sig .tc .vmem S2048x512 .bf16) (arg17 : Memref sig .tc .vmem S2048x512 .bf16) (arg18 : Memref sig .tc .vmem S2048x512 .bf16) (arg19 : Memref sig .tc .vmem S128x2048 .bf16)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (m : Data) (X : ℕ → ℕ → EReal) : sProp 𝕄 :=
  iprop(∃ (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))), ⌜Trip.Mid c arg8 arg9 arg10 arg11 arg13 arg16 arg18 arg19 f8 f9 f10 f11 f13 f16 (arg18.view.writes (Elt Ideal) f18 [⟨Rect.unit (s := S2048x512) ![1792, 0] S256x256.size inb_S2048x512_S256x256_1792_0, k0_pay214 (F := Ideal) k0_pay213⟩]) f19 m X 3⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- The eighteen buffers at the end: the three results. -/
def Done (c : Dev nD) (arg2 : Memref sig .tc .vmem S1x8192x128 .bf16) (arg3 : Memref sig .tc .vmem S1x2048x128 .bf16) (arg4 : Memref sig .tc .vmem S1x2048x128 .bf16) (arg5 : Memref sig .tc .vmem S1x8192x128 .bf16) (arg6 : Memref sig .tc .vmem S1x1x8192 .f32) (arg7 : Memref sig .tc .vmem S1x1x8192 .f32) (arg8 : Memref sig .tc .vmem S1x128x8192 .f32) (arg9 : Memref sig .tc .vmem S1x2048x128 .f32) (arg10 : Memref sig .tc .vmem S1x2048x128 .f32) (arg11 : Memref sig .tc .vmem S2048x512 .f32) (arg12 : Memref sig .tc .vmem S2048x512 .f32) (arg13 : Memref sig .tc .vmem S2048x512 .f32) (arg14 : Memref sig .tc .vmem S2048x512 .f32) (arg15 : Memref sig .tc .vmem S2048x512 .bf16) (arg16 : Memref sig .tc .vmem S2048x512 .bf16) (arg17 : Memref sig .tc .vmem S2048x512 .bf16) (arg18 : Memref sig .tc .vmem S2048x512 .bf16) (arg19 : Memref sig .tc .vmem S128x2048 .bf16)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (m : Data) (X : ℕ → ℕ → EReal) : sProp 𝕄 :=
  iprop(∃ (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))), ⌜(∀ z a b, arg8.view.read (Elt Ideal) f8 (ValueIdx.ix3 z a b) = m.dq X (16 - m.b0) a b) ∧ (∀ z a b, arg9.view.read (Elt Ideal) f9 (ValueIdx.ix3 z a b) = m.dk (16 - m.b0) a b * ((Real.log 2 : ℝ) : EReal)) ∧ (∀ z a b, arg10.view.read (Elt Ideal) f10 (ValueIdx.ix3 z a b) = m.dv (16 - m.b0) a b)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- One grid point: from the six inputs and what the accumulator of the queries' gradient holds to the three results. -/
theorem run (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))) (m : Data) (X : ℕ → ℕ → EReal)
    (h : In c i arg2 arg3 arg4 arg5 arg6 arg7 f2 f3 f4 f5 f6 f7 m)
    (hX : ∀ z a b, arg8.view.read (Elt Ideal) (Pre.base8 c i arg8 f8) (ValueIdx.ix3 z a b) = X a b) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))
      ⊢ wp frame (wpE (defs₀ (F := Ideal)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Done c arg2 arg3 arg4 arg5 arg6 arg7 arg8 arg9 arg10 arg11 arg12 arg13 arg14 arg15 arg16 arg17 arg18 arg19 f2 f3 f4 f5 f6 f7 m X) := by
  rw [cc0_attn_bwd_eq_skeleton]; unfold cc0_attn_bwd_skel
  iintro ⟨H2, H3, H4, H5, H6, H7, H8, H9, H10, H11, H12, H13, H14, H15, H16, H17, H18, H19⟩
  set_option sl_exec.stopBefore "k0_part49" in sl_exec_parts
  refine BIBase.Entails.trans (Q := Stage0 c arg2 arg3 arg4 arg5 arg6 arg7 arg8 arg9 arg10 arg11 arg12 arg13 arg14 arg15 arg16 arg17 arg18 arg19 f2 f3 f4 f5 f6 f7 m X) ?_ ?_
  · unfold Stage0
    iintro ⟨⟨⟨⟨⟨⟨⟨⟨⟨⟨⟨⟨⟨⟨⟨⟨⟨H2, H3⟩, H4⟩, H5⟩, H6⟩, H7⟩, H9⟩, H10⟩, H11⟩, H12⟩, H13⟩, H14⟩, H15⟩, H16⟩, H17⟩, H18⟩, H19⟩, H8⟩
    iexists _, _, _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · ipureintro
      exact
        { dq := fun z a b => by
            by_cases hq : 512 * m.b0 ≤ b.val ∧ b.val < 512 * (m.b0 + 2) + 512
            · exact Pre.cov8_6 h hX _ z a b hq
            · refine Eq.trans (read_skip3 _ _ 0 (512 * (m.b0 + 2) + 256) (Pre.off12_3 h) z a b (by omega) (read_skip3 _ _ 0 (512 * (m.b0 + 2)) (Pre.off10_3 h) z a b (by omega) (read_skip3 _ _ 0 (512 * (m.b0 + 1) + 256) (Pre.off12_2 h) z a b (by omega) (read_skip3 _ _ 0 (512 * (m.b0 + 1)) (Pre.off10_2 h) z a b (by omega) (read_skip3 _ _ 0 (512 * m.b0 + 256) (Pre.off12_1 h) z a b (by omega) (read_skip3 _ _ 0 (512 * m.b0) (Pre.off10_1 h) z a b (by omega) (hX z a b))))))) ?_
              exact (m.dq_zero X _ _).symm.trans ((m.dq_out X (by omega)).trans ((m.dq_out X (by omega)).trans (m.dq_out X (by omega))))
          dk := fun z a b => Pre.cov9_7 h _ z a b trivial
          dv := fun z a b => Pre.cov10_7 h _ z a b trivial
          s := fun a b => Pre.cov11_5 h _ a b trivial
          e := fun a b => Pre.cov13_5 h _ a b trivial
          p := fun a b => corner16 h _ a b trivial
          g := corner18 h _
          kt := fun a b => Pre.cov19_1 h _ a b trivial }
  · unfold Stage0
    iintro ⟨%f8, %f9, %f10, %f11, %f12, %f13, %f14, %f15, %f16, %f17, %f18, %f19, %hm, H2, H3, H4, H5, H6, H7, H8, H9, H10, H11, H12, H13, H14, H15, H16, H17, H18, H19⟩
    let L1 := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Safe.body_run.sl.v15 i) 0#32 f2 f3 f4 f5 f6 f7 m X h
    have htr := Value.trips2_eq i
    sl_exec_parts
    obtain ⟨n, hn, hb⟩ : ∃ n, 3 + 2 * Scf.trips (k0_t1_loop i).lb (k0_t1_loop i).ub (k0_t1_loop i).st = n ∧ m.b0 + n = 15 := by
      refine ⟨_, rfl, ?_⟩
      have e1 : Scf.trips (k0_t1_loop i).lb (k0_t1_loop i).ub (k0_t1_loop i).st = 6 - 2 * (i 1).val := Value.trips1_eq i
      have hj : (i 1).val < 4 := (i 1).isLt
      have hb := h.b
      omega
    rename_i hm
    rw [hn] at hL0
    have e16 : 16 - m.b0 = n + 1 := by omega
    have e7 : 512 * (m.b0 + n) = 7680 := by omega
    sl_step
    unfold Done
    iexists _, _, _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · ipureintro
      rw [e16]
      refine ⟨fun z a b => ?_, fun z a b => ?_, fun z a b => ?_⟩
      · exact read_cons3 (m := 128) (n := 512) _ _ 0 7680 rfl
          (Is3.congr (Is2.add (Is2.addf (Is3.drop (is3_readAt (F := m.dq X n) _ _ _ _ rfl (fun z a b _ _ _ _ => hL0.dq z a b)) _)
            (is2_nn rfl (is2_readAt (F := fun d a => m.K a d) _ _ _ _ rfl (fun a b _ _ _ _ => hL0.kt a b))
              (is2_readAt (F := m.G (m.b0 + n)) _ _ _ _ rfl (fun a b _ _ _ _ => hL0.g a b)))) _) fun a b ha hb' => by
            rw [m.dq_in X (n := n) (by omega) (by omega)]
            simp only [Data.dqB, Nat.zero_add, e7, Nat.add_sub_cancel_left]) z a b
          fun h1 => (hL0.dq z a b).trans (m.dq_out X (by omega))
      · refine read_cons3 (Val := Elt Ideal) (e := .f32) (m := 2048) (n := 128) (F := fun a d => m.dk (n + 1) a d * ((Real.log 2 : ℝ) : EReal)) _ _ 0 0 rfl ?_ z a b
          (fun h1 => absurd ⟨Nat.zero_le _, by omega, Nat.zero_le _, by omega⟩ h1)
        refine scaled (F := m.dk (n + 1)) ?_
        refine cov3_cons (m := 2048) (n := 128) 0 0 rfl ?_ cov3_none (by intro a b; intros; omega)
        refine Is3.congr (Is2.add (Is2.addf (Is3.drop (is3_readAt (F := m.dk n) _ _ _ _ rfl (fun z a b _ _ _ _ => hL0.dk z a b)) _)
            (is2_nn rfl (is2_readAt (F := m.G (m.b0 + n)) _ _ _ _ rfl (fun a b _ _ _ _ => hL0.g a b))
              (Is3.drop (is3_readAt (F := m.Q) _ _ _ _ rfl (fun z a b _ _ _ _ => h.q z a b)) _))) _) ?_
        intro a b ha hb'
        simp only [Nat.zero_add, m.dk_succ, e7]
      · exact read_cons3 (m := 2048) (n := 128) _ _ 0 0 rfl
          (Is3.congr (Is2.add (Is2.addf (Is3.drop (is3_readAt (F := m.dv n) _ _ _ _ rfl (fun z a b _ _ _ _ => hL0.dv z a b)) _)
            (is2_nn rfl (is2_readAt (F := m.P (m.b0 + n)) _ _ _ _ rfl (fun a b _ _ _ _ => hL0.p a b))
              (Is3.drop (is3_readAt (F := m.O) _ _ _ _ rfl (fun z a b _ _ _ _ => h.o z a b)) _))) _) fun a b ha hb' => by
            simp only [Nat.zero_add, m.dv_succ, e7]) z a b (fun h1 => absurd ⟨Nat.zero_le _, by omega, Nat.zero_le _, by omega⟩ h1)

end Cert.KernelIdeal.Run

end
-- ==== Proof.Point.lean ====
/-
  One grid point of the backward kernel, by what its windows hold.

  The six inputs hold the data; the gradient of the queries holds what the points before it in the head left. The point leaves
  the inputs as they are, and the three results at the sums of the data.
-/
module

public import proofs.«01_k».proof.Proof.Body

@[expose] public section

set_option maxRecDepth 16384

noncomputable section

namespace Cert.KernelIdeal.Run

open Cert.KernelIdeal Cert.KernelIdeal.Gen Cert.Tile Cert.Model
open Cert.KernelIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {c : Dev nD} {i : grid0.Coords} {arg8 : Memref sig .tc .vmem S1x128x8192 .f32} {X : ℕ → ℕ → EReal}

/-- The body's test for a head's first point. -/
theorem first_iff : ∀ i : grid0.Coords, Safe.body_run.sl.v2 i = 1#1 ↔ (i 1).val = 0 := by decide +kernel

/-- A head's first point adds its products to zeros, every other to what the point before left. -/
theorem base (f8 : Buf (Elt Ideal) (arg8.view.loc (c : Thread nD τ))) {x8 : Vec Ideal S1x128x8192 .f32} (hx : arg8.view.read (Elt Ideal) f8 = x8)
    (h0 : (i 1).val = 0 → ∀ a b, X a b = 0)
    (hX : (i 1).val ≠ 0 → ∀ (z : Fin 1) (a : Fin 128) (b : Fin 8192), x8 (ValueIdx.ix3 z a b) = X a b)
    (z : Fin 1) (a : Fin 128) (b : Fin 8192) : arg8.view.read (Elt Ideal) (Pre.base8 c i arg8 f8) (ValueIdx.ix3 z a b) = X a b := by
  have hi := (i 1).isLt
  unfold Pre.base8
  by_cases hc : (i 1).val = 0
  · rw [dif_pos ((first_iff i).mpr hc), h0 hc]
    exact read_cons3 (Val := Elt Ideal) (e := .f32) (m := 128) (n := 8192) (F := fun _ _ => (0 : EReal)) _ _ 0 0 rfl
      (fun z a b => Ideal.ofBits_zero_f32) z a b (fun h1 => absurd ⟨Nat.zero_le _, by omega, Nat.zero_le _, by omega⟩ h1)
  · rw [dif_neg fun h => hc ((first_iff i).mp h), hx]
    exact hX hc z a b

/-- The point, with any continuation. -/
theorem run_then (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole)
    (x2 : Vec Ideal S1x8192x128 .bf16) (x3 : Vec Ideal S1x2048x128 .bf16) (x4 : Vec Ideal S1x2048x128 .bf16) (x5 : Vec Ideal S1x8192x128 .bf16) (x6 : Vec Ideal S1x1x8192 .f32) (x7 : Vec Ideal S1x1x8192 .f32) (x8 : Vec Ideal S1x128x8192 .f32) (m : Data) (X : ℕ → ℕ → EReal)
    (hq : ∀ (z : Fin 1) (a : Fin 8192) (b : Fin 128), x2 (ValueIdx.ix3 z a b) = m.Q a b)
    (hk : ∀ (z : Fin 1) (a : Fin 2048) (b : Fin 128), x3 (ValueIdx.ix3 z a b) = m.K a b)
    (hv : ∀ (z : Fin 1) (a : Fin 2048) (b : Fin 128), x4 (ValueIdx.ix3 z a b) = m.V a b)
    (ho : ∀ (z : Fin 1) (a : Fin 8192) (b : Fin 128), x5 (ValueIdx.ix3 z a b) = m.O a b)
    (hl : ∀ (z : Fin 1) (a : Fin 1) (b : Fin 8192), x6 (ValueIdx.ix3 z a b) = m.L b)
    (hd : ∀ (z : Fin 1) (a : Fin 1) (b : Fin 8192), x7 (ValueIdx.ix3 z a b) = m.D b)
    (hb : 4 * (i 1).val = m.b0) (h0 : (i 1).val = 0 → ∀ a b, X a b = 0)
    (hX : (i 1).val ≠ 0 → ∀ (z : Fin 1) (a : Fin 128) (b : Fin 8192), x8 (ValueIdx.ix3 z a b) = X a b)
    (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))
        ∗ (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (fun y => m.dq X (16 - m.b0) (y 1).val (y 2).val) ∗ owns (c : Thread nD τ) arg9 fullShare (fun y => m.dk (16 - m.b0) (y 1).val (y 2).val * ((Real.log 2 : ℝ) : EReal)) ∗ owns (c : Thread nD τ) arg10 fullShare (fun y => m.dv (16 - m.b0) (y 1).val (y 2).val) ∗ ((∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  have h : In c i arg2 arg3 arg4 arg5 arg6 arg7 f2 f3 f4 f5 f6 f7 m := {
    q := fun z a b => by rw [h2]; exact hq z a b
    k := fun z a b => by rw [h3]; exact hk z a b
    v := fun z a b => by rw [h4]; exact hv z a b
    o := fun z a b => by rw [h5]; exact ho z a b
    l := fun z a b => by rw [h6]; exact hl z a b
    d := fun z a b => by rw [h7]; exact hd z a b
    b := hb }
  iapply wp_wand_r
  isplitl [H2 H3 H4 H5 H6 H7 H8 H9 H10 H11 H12 H13 H14 H15 H16 H17 H18 H19]
  · iapply (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 f3 f4 f5 f6 f7 f8 f9 f10 f11 f12 f13 f14 f15 f16 f17 f18 f19 m X h (base f8 h8 h0 hX))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %_ HB
  unfold Done
  icases HB with ⟨%g8, %g9, %g10, %g11, %g12, %g13, %g14, %g15, %g16, %g17, %g18, %g19, %hp, H2, H3, H4, H5, H6, H7, H8, H9, H10, H11, H12, H13, H14, H15, H16, H17, H18, H19⟩
  iapply Hk
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists g8; isplitr
    · ipureintro; funext y; rw [ValueIdx.eq_ix3 y]; exact hp.1 _ _ _
    iexact H8
  isplitl [H9]
  · iexists g9; isplitr
    · ipureintro; funext y; rw [ValueIdx.eq_ix3 y]; exact hp.2.1 _ _ _
    iexact H9
  isplitl [H10]
  · iexists g10; isplitr
    · ipureintro; funext y; rw [ValueIdx.eq_ix3 y]; exact hp.2.2 _ _ _
    iexact H10
  isplitl [H11]
  · iexists _, g11; isplitr
    swap; · iexact H11
    ipureintro; rfl
  isplitl [H12]
  · iexists _, g12; isplitr
    swap; · iexact H12
    ipureintro; rfl
  isplitl [H13]
  · iexists _, g13; isplitr
    swap; · iexact H13
    ipureintro; rfl
  isplitl [H14]
  · iexists _, g14; isplitr
    swap; · iexact H14
    ipureintro; rfl
  isplitl [H15]
  · iexists _, g15; isplitr
    swap; · iexact H15
    ipureintro; rfl
  isplitl [H16]
  · iexists _, g16; isplitr
    swap; · iexact H16
    ipureintro; rfl
  isplitl [H17]
  · iexists _, g17; isplitr
    swap; · iexact H17
    ipureintro; rfl
  isplitl [H18]
  · iexists _, g18; isplitr
    swap; · iexact H18
    ipureintro; rfl
  iexists _, g19; isplitr
  swap; · iexact H19
  ipureintro; rfl

end Cert.KernelIdeal.Run

end
-- ==== Proof.Launched.lean ====
/-
  The idealized program's run with what its results hold: the gradients of all heads, by the six arrays the host lines prepare.
-/
module

public import proofs.«01_k».proof.Proof.Point
public import proofs.«01_k».proof.Proof.Heads
public import Idealize.ShloMosaic.Lib.Pipeline.Frame
public import Idealize.ShloMosaic.Lib.Pipeline.ValueKit

@[expose] public section

set_option maxRecDepth 16384

noncomputable section

namespace Cert.KernelIdeal.Run

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The six arrays as the region finds them. -/
def heads (c : Dev nD) : Heads where
  Q := nat3 (V m c main_v36)
  K := nat3 (V m c main_v39)
  V := nat3 (V m c main_v44)
  O := nat3 (V m c main_v47)
  L := fun h q => nat3 (V m c main_v28) h 0 q
  D := fun h q => nat3 (V m c main_v51) h 0 q

theorem coords_0 : ∀ t : Fin cfg0.N, (grid0.coords t 0).val = t.val / 4 := by decide +kernel
theorem coords_1 : ∀ t : Fin cfg0.N, (grid0.coords t 1).val = t.val % 4 := by decide +kernel

/-- The proof data: the inputs' buffers at their blocks, the results' at the gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun y => (heads m c).dq (t.val / 4) (t.val % 4 + 1) (y 1).val (y 2).val
    | ⟨7, _⟩ => fun y => (heads m c).dk (t.val / 4) (t.val % 4) (y 1).val (y 2).val
    | ⟨8, _⟩ => fun y => (heads m c).dv (t.val / 4) (t.val % 4) (y 1).val (y 2).val
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = fun y => (heads m c).dq (t.val / 4) (t.val % 4 + 1) (y 1).val (y 2).val := by dsimp only [dats]
theorem after0_7 (c : Dev nD) (t : Fin cfg0.N) : (dats m 0 c).after 7 t = fun y => (heads m c).dk (t.val / 4) (t.val % 4) (y 1).val (y 2).val := by dsimp only [dats]
theorem after0_8 (c : Dev nD) (t : Fin cfg0.N) : (dats m 0 c).after 8 t = fun y => (heads m c).dv (t.val / 4) (t.val % 4) (y 1).val (y 2).val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

theorem index_0 : ∀ t : Fin cfg0.N, win0_0.index t = ![t.val / 4, 0, 0] := by decide +kernel
theorem index_1 : ∀ t : Fin cfg0.N, win0_1.index t = ![t.val / 4, t.val % 4, 0] := by decide +kernel
theorem index_2 : ∀ t : Fin cfg0.N, win0_2.index t = ![t.val / 4, t.val % 4, 0] := by decide +kernel
theorem index_3 : ∀ t : Fin cfg0.N, win0_3.index t = ![t.val / 4, 0, 0] := by decide +kernel
theorem index_4 : ∀ t : Fin cfg0.N, win0_4.index t = ![t.val / 4, 0, 0] := by decide +kernel
theorem index_5 : ∀ t : Fin cfg0.N, win0_5.index t = ![t.val / 4, 0, 0] := by decide +kernel
theorem index_6 : ∀ t : Fin cfg0.N, win0_6.index t = ![t.val / 4, 0, 0] := by decide +kernel
theorem index_7 : ∀ t : Fin cfg0.N, win0_7.index t = ![t.val / 4, t.val % 4, 0] := by decide +kernel
theorem index_8 : ∀ t : Fin cfg0.N, win0_8.index t = ![t.val / 4, t.val % 4, 0] := by decide +kernel

/-! ## The input blocks at numbers -/

variable (c : Dev nD) (t : Fin cfg0.N)

theorem blk_0 (z : Fin 1) (a : Fin 8192) (b : Fin 128) : iblk m c 0 t (ValueIdx.ix3 z a b) = ((heads m c).pt (t.val / 4) (t.val % 4)).Q a b := by
  have ht : t.val < 32 := t.2.trans_eq N_0
  refine Eq.trans ?_ (nat3_lt (V m c main_v36) (z := t.val / 4) (a := a.val) (b := b.val) (by omega) (by omega) (by omega)).symm
  unfold iblk
  refine congrArg (V m c main_v36) ?_
  blk_ext [index_0]

theorem blk_1 (z : Fin 1) (a : Fin 2048) (b : Fin 128) : iblk m c 1 t (ValueIdx.ix3 z a b) = ((heads m c).pt (t.val / 4) (t.val % 4)).K a b := by
  have ht : t.val < 32 := t.2.trans_eq N_0
  refine Eq.trans ?_ (nat3_lt (V m c main_v39) (z := t.val / 4) (a := 2048 * (t.val % 4) + a.val) (b := b.val) (by omega) (by omega) (by omega)).symm
  unfold iblk
  refine congrArg (V m c main_v39) ?_
  blk_ext [index_1]
  show t.val % 4 * 2048 + a.val = _
  omega

theorem blk_2 (z : Fin 1) (a : Fin 2048) (b : Fin 128) : iblk m c 2 t (ValueIdx.ix3 z a b) = ((heads m c).pt (t.val / 4) (t.val % 4)).V a b := by
  have ht : t.val < 32 := t.2.trans_eq N_0
  refine Eq.trans ?_ (nat3_lt (V m c main_v44) (z := t.val / 4) (a := 2048 * (t.val % 4) + a.val) (b := b.val) (by omega) (by omega) (by omega)).symm
  unfold iblk
  refine congrArg (V m c main_v44) ?_
  blk_ext [index_2]
  show t.val % 4 * 2048 + a.val = _
  omega

theorem blk_3 (z : Fin 1) (a : Fin 8192) (b : Fin 128) : iblk m c 3 t (ValueIdx.ix3 z a b) = ((heads m c).pt (t.val / 4) (t.val % 4)).O a b := by
  have ht : t.val < 32 := t.2.trans_eq N_0
  refine Eq.trans ?_ (nat3_lt (V m c main_v47) (z := t.val / 4) (a := a.val) (b := b.val) (by omega) (by omega) (by omega)).symm
  unfold iblk
  refine congrArg (V m c main_v47) ?_
  blk_ext [index_3]

theorem blk_4 (z : Fin 1) (a : Fin 1) (b : Fin 8192) : iblk m c 4 t (ValueIdx.ix3 z a b) = ((heads m c).pt (t.val / 4) (t.val % 4)).L b := by
  have ht : t.val < 32 := t.2.trans_eq N_0
  refine Eq.trans ?_ (nat3_lt (V m c main_v28) (z := t.val / 4) (a := 0) (b := b.val) (by omega) (by omega) (by omega)).symm
  unfold iblk
  refine congrArg (V m c main_v28) ?_
  blk_ext [index_4]

theorem blk_5 (z : Fin 1) (a : Fin 1) (b : Fin 8192) : iblk m c 5 t (ValueIdx.ix3 z a b) = ((heads m c).pt (t.val / 4) (t.val % 4)).D b := by
  have ht : t.val < 32 := t.2.trans_eq N_0
  refine Eq.trans ?_ (nat3_lt (V m c main_v51) (z := t.val / 4) (a := 0) (b := b.val) (by omega) (by omega) (by omega)).symm
  unfold iblk
  refine congrArg (V m c main_v51) ?_
  blk_ext [index_5]

/-- After a head's first point the gradient of the queries still holds what the point before left. -/
theorem before0_6 (h : t.val % 4 ≠ 0) (d) : (dats m 0 c).before 6 t d = fun y => (heads m c).dq (t.val / 4) (t.val % 4) (y 1).val (y 2).val := by
  have hf : (cfg0.win 6).flush ⟨t.val - 1, Nat.lt_of_le_of_lt (Nat.sub_le _ _) t.isLt⟩ = false := by
    rw [Bool.eq_false_iff]
    intro h'
    have := (flush0_6 _).mp h'
    dsimp only at this
    omega
  rw [(dats m 0 c).before_out_kept 6 rfl t (fun h0 => h (by rw [h0])) hf (fun _ => rfl) (fun _ _ => rfl), after0_6]
  have e1 : (t.val - 1) / 4 = t.val / 4 := by omega
  have e2 : (t.val - 1) % 4 + 1 = t.val % 4 := by omega
  dsimp only
  rw [e1, e2]

/-- What the body is called with at point `t`. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The class invariant opened: the nine scratch tiles at some contents and the generator register. -/
theorem PhiA_eq :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The body at any point. -/
theorem sound_body :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_then c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) (iblk m c 3 t) (iblk m c 4 t) (iblk m c 5 t) ((dats m 0 c).before 6 t d6) ((heads m c).pt (t.val / 4) (t.val % 4)) ((heads m c).dq (t.val / 4) (t.val % 4))
    (blk_0 m c t) (blk_1 m c t) (blk_2 m c t) (blk_3 m c t) (blk_4 m c t) (blk_5 m c t)
    (congrArg (4 * ·) (coords_1 t)) (fun h0 a b => by rw [← coords_1 t, h0]; rfl)
    (fun h0 z a b => by rw [before0_6 m c t (by rwa [← coords_1 t])]; rfl) _)
  isplitl [HS0 HS1 HS2 HS3 HS4 HS5 HS6 HS7 HS8 H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row : defs₀ (F := Ideal) .tc cfg0.body (cfg0.bodyArgs t (cfg0.slots t)) = bodyAt0 t := by
  unfold defs₀; rw [Defs.onTc_tc]

/-- The body obligation. -/
theorem body_obligation :
    BodyObligation (dats m 0 c) (defs₀ (F := Ideal)) Variants.none () Set.univ := fun t => by
  rw [bigSep_W0, bigSep_W0, defs₀_row t]
  exact triple_restated (sound_body m c t) rfl .rfl fun _ => .rfl

set_option backward.isDefEq.respectTransparency.types false in
/-- The launch: every execution ends, each window's array at what the proof data says, every other buffer as the host lines after
    the region leave it, every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-! ## The result arrays -/

theorem final_6 : (dats m 0 c).arrAt 6 cfg0.N = fun y => (heads m c).dq (y 0).val 4 (y 1).val (y 2).val := by
  refine (dats m 0 c).arrAt_eq_of_covers 6 _ (by decide +kernel) fun t hf y => ?_
  have ht : t.val % 4 = 3 := (flush0_6 t).mp hf
  blk_simp [index_6]
  rw [after0_6, ht]

theorem final_7 : (dats m 0 c).arrAt 7 cfg0.N = fun y => (heads m c).dk (y 0).val ((y 1).val / 2048) ((y 1).val % 2048) (y 2).val := by
  refine (dats m 0 c).arrAt_eq_of_covers 7 _ (by decide +kernel) fun t hf y => ?_
  have h1 : (y 1).val < 2048 := (y 1).isLt
  blk_simp [index_7]
  rw [after0_7, show (t.val % 4 * 2048 + (y 1).val) / 2048 = t.val % 4 by omega,
    show (t.val % 4 * 2048 + (y 1).val) % 2048 = (y 1).val by omega]

theorem final_8 : (dats m 0 c).arrAt 8 cfg0.N = fun y => (heads m c).dv (y 0).val ((y 1).val / 2048) ((y 1).val % 2048) (y 2).val := by
  refine (dats m 0 c).arrAt_eq_of_covers 8 _ (by decide +kernel) fun t hf y => ?_
  have h1 : (y 1).val < 2048 := (y 1).isLt
  blk_simp [index_8]
  rw [after0_8, show (t.val % 4 * 2048 + (y 1).val) / 2048 = t.val % 4 by omega,
    show (t.val % 4 * 2048 + (y 1).val) % 2048 = (y 1).val by omega]

end Cert.KernelIdeal.Run

end
-- ==== Proof.HostHolds.lean ====
/-
  The call's six arrays are the padded, scaled rows of the four arguments, for arguments whose entries are reals.
-/
module

public import proofs.«01_k».proof.Proof.HostRead
public import proofs.«01_k».proof.Proof.Launched

@[expose] public section

set_option maxRecDepth 16384

noncomputable section

namespace Cert.KernelIdeal.HostIn

open Cert.KernelIdeal Cert.KernelIdeal.Gen Cert.KernelIdeal.Run Cert.Attn Cert.RefValue Cert.Model
open Idealize.ShloMosaic

theorem holds (m : (ℓ : Loc nD τ sig) → Buf (Elt Ideal) ℓ) (c : Dev nD) (xq xk : S8192x8x96.Idx → ℝ) (xv xt : S8192x8x64.Idx → ℝ)
    (eq : argQ m c = up xq) (ek : argK m c = up xk) (ev : argV m c = up xv) (et : argT m c = up xt) {h : ℕ} (hz : h < 8) :
    Holds (heads m c) h (head xq xk xv xt h) where
  q x hx d hd := by
    show nat3 (V m c main_v36) h x d = _
    rw [nat3_lt _ hz hx hd, V_q, eq]
    exact qp_at xq ⟨h, hz⟩ ⟨x, hx⟩ ⟨d, hd⟩
  k y hy d hd := by
    show nat3 (V m c main_v39) h y d = _
    rw [nat3_lt _ hz hy hd, V_k, ek]
    exact kp_at xk ⟨h, hz⟩ ⟨y, hy⟩ ⟨d, hd⟩
  v y hy d hd := by
    show nat3 (V m c main_v44) h y d = _
    rw [nat3_lt _ hz hy hd, V_v, ek, ev]
    exact vp_at xk xv ⟨h, hz⟩ ⟨y, hy⟩ ⟨d, hd⟩
  o x hx d hd := by
    show nat3 (V m c main_v47) h x d = _
    rw [nat3_lt _ hz hx hd, V_o, et]
    exact op_at xt ⟨h, hz⟩ ⟨x, hx⟩ ⟨d, hd⟩
  l x hx := by
    show nat3 (V m c main_v28) h 0 x = _
    rw [nat3_lt _ hz Nat.one_pos hx, V_l, eq, ek]
    exact lse_at xq xk xv xt ⟨h, hz⟩ ⟨x, hx⟩
  d x hx := by
    show nat3 (V m c main_v51) h 0 x = _
    rw [nat3_lt _ hz Nat.one_pos hx, V_d, eq, ek, ev, et]
    exact dp_at xq xk xv xt ⟨h, hz⟩ ⟨x, hx⟩

end Cert.KernelIdeal.HostIn

end
-- ==== Proof.Tail.lean ====
/-
  The three results of the idealized program, entry by entry: the gradients the kernel leaves, back by position, head and
  channel.
-/
module

public import proofs.«01_k».proof.Proof.Launched

@[expose] public section

set_option maxRecDepth 16384

noncomputable section

namespace Cert.KernelIdeal.Run

open Cert.KernelIdeal Cert.KernelIdeal.Gen Cert.Model
open Idealize.ShloMosaic Idealize.ShloMosaic.TcCoe Idealize.SL.Sem Idealize.ShloMosaic.StableHlo

variable (m : (ℓ : Loc nD τ sig) → Buf (Elt Ideal) ℓ) (c : Dev nD)

/-- The gradient of the queries. -/
def outQ : FVec Ideal S8192x8x96 .f32 := fun y =>
  (heads m c).dq (y 1).val 4 (y 2).val (y 0).val * Ideal.ofBits .f32 0x3DD105EC#32
/-- The gradient of the keys. -/
def outK : FVec Ideal S8192x8x96 .f32 := fun y =>
  (heads m c).dk (y 1).val ((y 0).val / 2048) ((y 0).val % 2048) (y 2).val
/-- The gradient of the values. -/
def outV : FVec Ideal S8192x8x64 .f32 := fun y =>
  (heads m c).dv (y 1).val ((y 0).val / 2048) ((y 0).val % 2048) (64 + (y 2).val)

theorem arr_inj : Function.Injective (Pipeline.arrRef spec0) := by decide

/-- The first result. -/
theorem tail_q : (Pipeline.afterTail₀ cfgs (dats m) 0 (V0 m) [hostOps1] c main_v56 : FVec Ideal S8192x8x96 .f32) = outQ m c := by
  show StableHlo.after (List.flatten [hostOps1]) (Pipeline.withArrays spec0 c (V0 m c) fun w => (dats m 0 c).arrAt w cfg0.N) (Proc.devRef .tc main_v56) = _
  simp only [hostOps1, List.flatten_cons, List.flatten_nil, List.append_nil]
  after_results_simp
  rw [show Pipeline.withArrays spec0 c (V0 m c) (fun w => (dats m 0 c).arrAt w cfg0.N) (Proc.devRef .tc main_v52_0)
    = (dats m 0 c).arrAt 6 cfg0.N from Pipeline.withArrays_arr spec0 arr_inj c (V0 m c) _ 6, final_6 m c]
  funext y
  show FloatOps.mulf (extractStridedSlice (s := S8192x8x128) S8192x8x96 ![0, 0, 0] _ _ y) (broadcastInDim (s := S_) S8192x8x96 ![] _ _ y) = _
  rw [extractStridedSlice_apply (s := S8192x8x128) _ _ _ y (ValueIdx.ix3 (y 0) (y 1) ⟨(y 2).val, by have h : (y 2).val < 96 := (y 2).isLt; show (y 2).val < 128; omega⟩)
      (fun a => match a with | ⟨0, _⟩ => (Nat.zero_add _).symm | ⟨1, _⟩ => (Nat.zero_add _).symm | ⟨2, _⟩ => (Nat.zero_add _).symm),
    transpose_apply (s := S8x128x8192) (t := S8192x8x128) _ _ _ _ (ValueIdx.ix3 (y 1) ⟨(y 2).val, by have h : (y 2).val < 96 := (y 2).isLt; show (y 2).val < 128; omega⟩ (y 0)) (fun a => match a with | ⟨0, _⟩ => rfl | ⟨1, _⟩ => rfl | ⟨2, _⟩ => rfl)]
  rfl

/-- The second result. -/
theorem tail_k : (Pipeline.afterTail₀ cfgs (dats m) 0 (V0 m) [hostOps1] c main_v58 : FVec Ideal S8192x8x96 .f32) = outK m c := by
  show StableHlo.after (List.flatten [hostOps1]) (Pipeline.withArrays spec0 c (V0 m c) fun w => (dats m 0 c).arrAt w cfg0.N) (Proc.devRef .tc main_v58) = _
  simp only [hostOps1, List.flatten_cons, List.flatten_nil, List.append_nil]
  after_results_simp
  rw [show Pipeline.withArrays spec0 c (V0 m c) (fun w => (dats m 0 c).arrAt w cfg0.N) (Proc.devRef .tc main_v52_1)
    = (dats m 0 c).arrAt 7 cfg0.N from Pipeline.withArrays_arr spec0 arr_inj c (V0 m c) _ 7, final_7 m c]
  funext y
  show extractStridedSlice (s := S8192x8x128) S8192x8x96 ![0, 0, 0] _ _ y = _
  rw [extractStridedSlice_apply (s := S8192x8x128) _ _ _ y (ValueIdx.ix3 (y 0) (y 1) ⟨(y 2).val, by have h : (y 2).val < 96 := (y 2).isLt; show (y 2).val < 128; omega⟩)
      (fun a => match a with | ⟨0, _⟩ => (Nat.zero_add _).symm | ⟨1, _⟩ => (Nat.zero_add _).symm | ⟨2, _⟩ => (Nat.zero_add _).symm),
    transpose_apply (s := S8x8192x128) (t := S8192x8x128) _ _ _ _ (ValueIdx.ix3 (y 1) (y 0) ⟨(y 2).val, by have h : (y 2).val < 96 := (y 2).isLt; show (y 2).val < 128; omega⟩) (fun a => match a with | ⟨0, _⟩ => rfl | ⟨1, _⟩ => rfl | ⟨2, _⟩ => rfl)]
  rfl

/-- The third result. -/
theorem tail_v : (Pipeline.afterTail₀ cfgs (dats m) 0 (V0 m) [hostOps1] c main_v60 : FVec Ideal S8192x8x64 .f32) = outV m c := by
  show StableHlo.after (List.flatten [hostOps1]) (Pipeline.withArrays spec0 c (V0 m c) fun w => (dats m 0 c).arrAt w cfg0.N) (Proc.devRef .tc main_v60) = _
  simp only [hostOps1, List.flatten_cons, List.flatten_nil, List.append_nil]
  after_results_simp
  rw [show Pipeline.withArrays spec0 c (V0 m c) (fun w => (dats m 0 c).arrAt w cfg0.N) (Proc.devRef .tc main_v52_2)
    = (dats m 0 c).arrAt 8 cfg0.N from Pipeline.withArrays_arr spec0 arr_inj c (V0 m c) _ 8, final_8 m c]
  funext y
  show extractStridedSlice (s := S8192x8x128) S8192x8x64 ![0, 0, 64] _ _ y = _
  rw [extractStridedSlice_apply (s := S8192x8x128) _ _ _ y (ValueIdx.ix3 (y 0) (y 1) ⟨64 + (y 2).val, by have h : (y 2).val < 64 := (y 2).isLt; show 64 + (y 2).val < 128; omega⟩)
      (fun a => match a with | ⟨0, _⟩ => (Nat.zero_add _).symm | ⟨1, _⟩ => (Nat.zero_add _).symm | ⟨2, _⟩ => rfl),
    transpose_apply (s := S8x8192x128) (t := S8192x8x128) _ _ _ _ (ValueIdx.ix3 (y 1) (y 0) ⟨64 + (y 2).val, by have h : (y 2).val < 64 := (y 2).isLt; show 64 + (y 2).val < 128; omega⟩) (fun a => match a with | ⟨0, _⟩ => rfl | ⟨1, _⟩ => rfl | ⟨2, _⟩ => rfl)]
  rfl

/-- The run: the three results, the arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v56) = outQ m c
      ∧ r.2.mem ((c.tc : Thread nD τ).loc main_v58) = outK m c
      ∧ r.2.mem ((c.tc : Thread nD τ).loc main_v60) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (((h.1 c).2 main_v56 (Pipeline.mem_restRefs_of main_v56 (by decide) (by decide))).trans (tail_q m c)),
      (((h.1 c).2 main_v58 (Pipeline.mem_restRefs_of main_v58 (by decide) (by decide))).trans (tail_k m c)),
      (((h.1 c).2 main_v60 (Pipeline.mem_restRefs_of main_v60 (by decide) (by decide))).trans (tail_v m c)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c))⟩) (run_main m ρ)

end Cert.KernelIdeal.Run

end
-- ==== Proof.Equation.lean ====
/-
  The equation: for arguments whose entries are reals, the kernel's three results are the reference's.
-/
module

public import proofs.«01_k».proof.Proof.HostHolds
public import proofs.«01_k».proof.Proof.Tail

@[expose] public section

set_option maxRecDepth 16384

noncomputable section

namespace Cert.KernelIdeal.HostIn

open Cert.KernelIdeal Cert.KernelIdeal.Gen Cert.KernelIdeal.Run Cert.Attn Cert.RefValue Cert.Model Cert.ReferenceIdeal.Read
open Idealize.ShloMosaic

variable (m : (ℓ : Loc nD τ sig) → Buf (Elt Ideal) ℓ) (c : Dev nD) (xq xk : S8192x8x96.Idx → ℝ) (xv xt : S8192x8x64.Idx → ℝ)
  (eq : argQ m c = up xq) (ek : argK m c = up xk) (ev : argV m c = up xv) (et : argT m c = up xt)

include eq ek ev et

theorem outQ_eq : outQ m c = val_main_v63 (F := Ideal) (up xq) (up xk) (up xv) (up xt) := by
  funext y
  rw [dq_at xq xk xv xt]
  show (heads m c).dq (y 1).val 4 (y 2).val (y 0).val * Ideal.ofBits .f32 0x3DD105EC#32 = _
  rw [scale_eq]
  exact (holds m c xq xk xv xt eq ek ev et (y 1).isLt).dq (y 0).isLt (y 2).isLt

theorem outK_eq : outK m c = val_main_v61 (F := Ideal) (up xq) (up xk) (up xv) (up xt) := by
  funext y
  rw [dk_at xq xk xv xt]
  exact (holds m c xq xk xv xt eq ek ev et (y 1).isLt).dk (y 0).isLt (y 2).isLt

theorem outV_eq : outV m c = val_main_v44 (F := Ideal) (up xq) (up xk) (up xt) := by
  funext y
  rw [dv_at xq xk xv xt]
  exact (holds m c xq xk xv xt eq ek ev et (y 1).isLt).dv (y 0).isLt (y 2).isLt

end Cert.KernelIdeal.HostIn

end
-- ==== Proof.FwdSafeLoops.lean ====
/-
  What the forward kernel touches, and that its counted loops keep it.

  The kernel reads its three inputs and writes its two results and nine scratch tiles. `Bufs` owns the fourteen buffers: the
  inputs at named contents, the others at any. Both loops keep `Bufs`, one trip at a time. The floats are of any kind, so that
  the run serves the compiled program and the idealized one, which are the same text.
-/
module

public import proofs.«01_k».proof.Proof.Gen.ForwardIdeal.Frame
public import proofs.«01_k».proof.Proof.Gen.ForwardIdeal.Skeleton
public import proofs.«01_k».proof.Proof.Gen.ForwardIdeal.Loops
public import Idealize.ShloMosaic.Lib.Tactic

@[expose] public section

set_option maxRecDepth 16384

noncomputable section

namespace Cert.ForwardIdeal.Safe

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The fourteen buffers of one grid point: the inputs at `f2`, `f3`, `f4`, the results and the scratch tiles at some contents. -/
def Bufs (c : Dev nD) (arg2 : Memref sig .tc .vmem S1x2048x128 .bf16) (arg3 : Memref sig .tc .vmem S1x8192x128 .bf16) (arg4 : Memref sig .tc .vmem S1x128x8192 .bf16) (arg5 : Memref sig .tc .vmem S1x2048x128 .f32) (arg6 : Memref sig .tc .vmem S1x1x2048 .f32) (arg7 : Memref sig .tc .vmem S512x2048 .f32) (arg8 : Memref sig .tc .vmem S512x2048 .f32) (arg9 : Memref sig .tc .vmem S512x2048 .bf16) (arg10 : Memref sig .tc .vmem S512x2048 .bf16) (arg11 : Memref sig .tc .vmem S1x2048 .f32) (arg12 : Memref sig .tc .vmem S1x2048 .f32) (arg13 : Memref sig .tc .vmem S1x2048 .f32) (arg14 : Memref sig .tc .vmem S1x2048 .f32) (arg15 : Memref sig .tc .vmem S80x2048 .f32)
    (f2 : Buf (Elt F) (arg2.view.loc (c : Thread nD τ))) (f3 : Buf (Elt F) (arg3.view.loc (c : Thread nD τ))) (f4 : Buf (Elt F) (arg4.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ f : Buf (Elt F) (arg5.view.loc (c : Thread nD τ)), arg5.view.loc (c : Thread nD τ) ↦[arg5.view.set]{fullShare} f) ∗ (∃ f : Buf (Elt F) (arg6.view.loc (c : Thread nD τ)), arg6.view.loc (c : Thread nD τ) ↦[arg6.view.set]{fullShare} f) ∗ (∃ f : Buf (Elt F) (arg7.view.loc (c : Thread nD τ)), arg7.view.loc (c : Thread nD τ) ↦[arg7.view.set]{fullShare} f) ∗ (∃ f : Buf (Elt F) (arg8.view.loc (c : Thread nD τ)), arg8.view.loc (c : Thread nD τ) ↦[arg8.view.set]{fullShare} f) ∗ (∃ f : Buf (Elt F) (arg9.view.loc (c : Thread nD τ)), arg9.view.loc (c : Thread nD τ) ↦[arg9.view.set]{fullShare} f) ∗ (∃ f : Buf (Elt F) (arg10.view.loc (c : Thread nD τ)), arg10.view.loc (c : Thread nD τ) ↦[arg10.view.set]{fullShare} f) ∗ (∃ f : Buf (Elt F) (arg11.view.loc (c : Thread nD τ)), arg11.view.loc (c : Thread nD τ) ↦[arg11.view.set]{fullShare} f) ∗ (∃ f : Buf (Elt F) (arg12.view.loc (c : Thread nD τ)), arg12.view.loc (c : Thread nD τ) ↦[arg12.view.set]{fullShare} f) ∗ (∃ f : Buf (Elt F) (arg13.view.loc (c : Thread nD τ)), arg13.view.loc (c : Thread nD τ) ↦[arg13.view.set]{fullShare} f) ∗ (∃ f : Buf (Elt F) (arg14.view.loc (c : Thread nD τ)), arg14.view.loc (c : Thread nD τ) ↦[arg14.view.set]{fullShare} f) ∗ (∃ f : Buf (Elt F) (arg15.view.loc (c : Thread nD τ)), arg15.view.loc (c : Thread nD τ) ↦[arg15.view.set]{fullShare} f))

/-- Loop 1 keeps the buffers. -/
@[sl_loop] def loopInv_k0_t1 (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole) (arg1 : BitVec 32) (v27 : FVec F S80x2048 .f32) (v28 : Vec F S80x2048 .f32) (init : BitVec 32)
    (f2 : Buf (Elt F) (arg2.view.loc (c : Thread nD τ))) (f3 : Buf (Elt F) (arg3.view.loc (c : Thread nD τ))) (f4 : Buf (Elt F) (arg4.view.loc (c : Thread nD τ))) :
    Cert.ForwardIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v27 v28 init where
  inv := fun _ _ => Bufs c arg2 arg3 arg4 arg5 arg6 arg7 arg8 arg9 arg10 arg11 arg12 arg13 arg14 arg15 f2 f3 f4
  step := fun k acc => by
    unfold Bufs
    iintro ⟨H2, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
    unfold k0_t1_body
    sl_exec_parts
    sl_step
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.ForwardIdeal.Safe

end
-- ==== Proof.FwdOffsets.lean ====
/-
  Where the forward kernel's memory operations point, and how often its loops run, at each of the thirty-two grid points.
-/
module

public import proofs.«01_k».proof.Proof.Gen.ForwardIdeal.Frame
public import proofs.«01_k».proof.Proof.Gen.ForwardIdeal.Skeleton
public import proofs.«01_k».proof.Proof.Gen.ForwardIdeal.Loops

@[expose] public section

set_option maxRecDepth 16384

noncomputable section

namespace Cert.ForwardIdeal.Value

open Cert.ForwardIdeal Cert.ForwardIdeal.Gen
open Idealize.ShloMosaic

theorem trips1_eq : ∀ i : grid0.Coords, (k0_t1_loop i).trips = 2 * (i 1).val := by decide +kernel
theorem trips2_eq : ∀ i : grid0.Coords, (k0_t2_loop i).trips = 0 := by decide +kernel

theorem off1_eq : ∀ (i : grid0.Coords) (k : Fin (k0_t1_loop i).trips),
    k0_off1 i k = ![0, 512 * (2 * k.val + 1), 0] := by decide +kernel
theorem off2_eq : ∀ (i : grid0.Coords) (k : Fin (k0_t1_loop i).trips),
    k0_off2 i k = ![0, 48, 512 * (2 * k.val - 1)] := by decide +kernel
theorem off3_eq : ∀ (i : grid0.Coords) (k : Fin (k0_t1_loop i).trips),
    k0_off3 i k = ![0, 512 * (2 * k.val + 2), 0] := by decide +kernel
theorem off4_eq : ∀ (i : grid0.Coords) (k : Fin (k0_t1_loop i).trips),
    k0_off4 i k = ![0, 48, 512 * (2 * k.val)] := by decide +kernel

theorem off9_0_eq : ∀ i : grid0.Coords, k0_off9 i 0#32 = ![0, 512 * (4 * (i 1).val + 0 + 1), 0] := by decide +kernel
theorem off9_1_eq : ∀ i : grid0.Coords, k0_off9 i 1#32 = ![0, 512 * (4 * (i 1).val + 1 + 1), 0] := by decide +kernel
theorem off9_2_eq : ∀ i : grid0.Coords, k0_off9 i 2#32 = ![0, 512 * (4 * (i 1).val + 2 + 1), 0] := by decide +kernel
theorem off10_0_eq : ∀ i : grid0.Coords, k0_off10 i 0#32 = ![0, 48, 512 * (4 * (i 1).val + 0 - 1)] := by decide +kernel
theorem off10_1_eq : ∀ i : grid0.Coords, k0_off10 i 1#32 = ![0, 48, 512 * (4 * (i 1).val + 1 - 1)] := by decide +kernel
theorem off10_2_eq : ∀ i : grid0.Coords, k0_off10 i 2#32 = ![0, 48, 512 * (4 * (i 1).val + 2 - 1)] := by decide +kernel
theorem off10_3_eq : ∀ i : grid0.Coords, k0_off10 i 3#32 = ![0, 48, 512 * (4 * (i 1).val + 3 - 1)] := by decide +kernel
theorem off10_4_eq : ∀ i : grid0.Coords, k0_off10 i 4#32 = ![0, 48, 512 * (4 * (i 1).val + 4 - 1)] := by decide +kernel

end Cert.ForwardIdeal.Value

end
-- ==== Proof.FwdSafeBody.lean ====
/-
  One grid point of the forward kernel: its fourteen buffers in, its fourteen buffers out.
-/
module

public import proofs.«01_k».proof.Proof.FwdSafeLoops
public import proofs.«01_k».proof.Proof.FwdOffsets

@[expose] public section

set_option maxRecDepth 16384

noncomputable section

namespace Cert.ForwardIdeal.Safe

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body runs from the buffers to the buffers, the inputs as they were. -/
theorem body_run (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole)
    (f2 : Buf (Elt F) (arg2.view.loc (c : Thread nD τ))) (f3 : Buf (Elt F) (arg3.view.loc (c : Thread nD τ))) (f4 : Buf (Elt F) (arg4.view.loc (c : Thread nD τ))) :
    Bufs c arg2 arg3 arg4 arg5 arg6 arg7 arg8 arg9 arg10 arg11 arg12 arg13 arg14 arg15 f2 f3 f4
      ⊢ wp frame (wpE (defs₀ (F := F)) Variants.none c none) Set.univ (cc0_attn_fwd i arg2 harg2 arg3 harg3 arg4 harg4 arg5 harg5 arg6 harg6 arg7 harg7 arg8 harg8 arg9 harg9 arg10 harg10 arg11 harg11 arg12 harg12 arg13 harg13 arg14 harg14 arg15 harg15)
          (fun _ => Bufs c arg2 arg3 arg4 arg5 arg6 arg7 arg8 arg9 arg10 arg11 arg12 arg13 arg14 arg15 f2 f3 f4) := by
  rw [cc0_attn_fwd_eq_skeleton]; unfold cc0_attn_fwd_skel
  unfold Bufs
  iintro ⟨H2, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  have htr := Value.trips2_eq i
  sl_exec_parts
  sl_step
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

/-- The same in terms of what the buffers hold read as arrays, and for any continuation. -/
theorem body_run_then (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole)
    (x2 : Vec F S1x2048x128 .bf16) (x3 : Vec F S1x8192x128 .bf16) (x4 : Vec F S1x128x8192 .bf16) (K : PUnit → sProp 𝕄) :
    iprop((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) ∗ ((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_attn_fwd i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  iapply wp_wand_r
  isplitl [H2 H3 H4 H5 H6 H7 H8 H9 H10 H11 H12 H13 H14 H15]
  · iapply (body_run c i arg2 harg2 arg3 harg3 arg4 harg4 arg5 harg5 arg6 harg6 arg7 harg7 arg8 harg8 arg9 harg9 arg10 harg10 arg11 harg11 arg12 harg12 arg13 harg13 arg14 harg14 arg15 harg15 f2 f3 f4)
    unfold Bufs
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  iintro %_ HB
  unfold Bufs
  icases HB with ⟨H2, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  iapply Hk
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists _, f5; isplitr
    swap; · iexact H5
    ipureintro; rfl
  isplitl [H6]
  · iexists _, f6; isplitr
    swap; · iexact H6
    ipureintro; rfl
  isplitl [H7]
  · iexists _, f7; isplitr
    swap; · iexact H7
    ipureintro; rfl
  isplitl [H8]
  · iexists _, f8; isplitr
    swap; · iexact H8
    ipureintro; rfl
  isplitl [H9]
  · iexists _, f9; isplitr
    swap; · iexact H9
    ipureintro; rfl
  isplitl [H10]
  · iexists _, f10; isplitr
    swap; · iexact H10
    ipureintro; rfl
  isplitl [H11]
  · iexists _, f11; isplitr
    swap; · iexact H11
    ipureintro; rfl
  isplitl [H12]
  · iexists _, f12; isplitr
    swap; · iexact H12
    ipureintro; rfl
  isplitl [H13]
  · iexists _, f13; isplitr
    swap; · iexact H13
    ipureintro; rfl
  isplitl [H14]
  · iexists _, f14; isplitr
    swap; · iexact H14
    ipureintro; rfl
  iexists _, f15; isplitr
  swap; · iexact H15
  ipureintro; rfl

end Cert.ForwardIdeal.Safe

end
-- ==== Proof.FwdSafeRun.lean ====
/-
  The forward program's run: the host lines, the thirty-two grid points of the forward kernel, the host lines after it.

  The three input windows hold their blocks at every point, before and after the body. Of the two result windows nothing is
  said. Every execution ends with the three arguments as they were and with every counter at zero.
-/
module

public import proofs.«01_k».proof.Proof.FwdSafeBody
public import Idealize.ShloMosaic.Lib.Pipeline.Frame

@[expose] public section

set_option maxRecDepth 16384

noncomputable section

namespace Cert.ForwardIdeal.Safe

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result windows are the ones of which nothing is said. -/
def forgets : Fin 5 → Bool := fun w => decide (3 ≤ w.val)

/-- The proof data: arrays as the region finds them, each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- What the body is called with at point `t`: the inputs' buffers at their blocks, the results' at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))

/-- What it returns: the same, the inputs' buffers at what the proof data leaves in them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d))

/-- The class invariant opened: the nine scratch tiles at some contents and the generator register. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩⟩
  iapply (body_run_then c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) _)
  isplitl [HS0 HS1 HS2 HS3 HS4 HS5 HS6 HS7 HS8 H0 H1 H2 H3 H4]
  · isplitl [H0]; · iexact H0
    isplitl [H1]; · iexact H1
    isplitl [H2]; · iexact H2
    isplitl [H3]; · iexists d3; iexact H3
    isplitl [H4]; · iexists d4; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, the results forgotten. -/
theorem body_obligation (c : Dev nD) :
    BodyObligation (dats m 0 c) (defs₀ (F := F)) Variants.none () Set.univ forgets := fun t => by
  rw [bigSep_W0, bigSep_W0, defs₀_row]
  exact triple_restated (sound_body m c t) rfl .rfl fun _ => .rfl

/-- What the host lines after the region write. -/
def tail : Finset (Ref sig .tc) := {main_v19, main_v20, main_v21, main_cst_3, main_v22, main_v23, main_v24, main_v25}

theorem tail_writes : ∀ ops ∈ ([hostOps1] : List (List (HloOp τ sig (Elt F)))), ∀ op ∈ ops, ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals
    simp only [StableHlo.nullary_writes, StableHlo.unary_writes, StableHlo.binary_writes, StableHlo.reshape_writes, Finset.mem_singleton] at hb
    obtain rfl := Proc.devRef_injective .tc hb
    decide

set_option backward.isDefEq.respectTransparency.types false in
/-- The launch: every execution ends, every buffer that is no window's array and that no later host line writes is as the
    region found it, every counter at zero. -/
theorem run_main :
    θ_run defs (onTc (τ := τ) (main (F := F))) (s₀ m ρ)
      (fun r => Pipeline.RDat.FramePostR (cfgs 0) (fun c => (dats m 0 c).toRForget forgets) tail (V m) r ∧ r.2.sem = fun _ => 0) :=
  Pipeline.θ_run_frame_around_T_forget (Q' := _) cfgs (dats m) (0 : Fin 1) launch0 defs₀ Variants.none forgets tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c)⟩, h.2⟩) (run_main m ρ)

end Cert.ForwardIdeal.Safe

end
-- ==== Proof.FwdFrame.lean ====
/-
  The frame of the compiled forward program.  Its text is the idealized program's, so the run of that one, which holds over
  any float values, is its run.
-/
module

public import proofs.«01_k».proof.Defs
public import proofs.«01_k».proof.Proof.FwdSafeRun
public import proofs.«01_k».proof.Proof.Gen.Forward

@[expose] public section

set_option maxRecDepth 16384

noncomputable section

namespace Cert.FwdFrame

open Idealize.ShloMosaic Idealize.SL.Sem

/-- The two programs' kernel bodies are one. -/
theorem defs0_eq : Cert.Forward.defs₀ (F := Bits) = Cert.ForwardIdeal.defs₀ (F := Bits) := by
  unfold Cert.Forward.defs₀ Cert.ForwardIdeal.defs₀
  refine congrArg Defs.onTc (funext fun l => funext fun a => ?_)
  match l, a with
  | 0, (t, s) => rfl
  | ⟨_ + 1, h⟩, _ => exact absurd h (Nat.not_lt.2 (Nat.le_add_left _ _))

/-- The two programs' body tables are one. -/
theorem defs_eq : Cert.Forward.defs (F := Bits) = Cert.ForwardIdeal.defs (F := Bits) :=
  congrArg (Pipeline.defs Cert.ForwardIdeal.pcfgs) defs0_eq

/-- The forward program ends with its arguments as they were and every counter at zero: its text is the idealized one's. -/
theorem frame : Cert.quiescent_Forward (hForward := Cert.Forward.Gen.facts) := fun m g _ => by
  rw [defs_eq]
  exact (θ_run Cert.ForwardIdeal.defs _ _).mono (fun _ h => h) (Cert.ForwardIdeal.Safe.frame (F := Bits) m g)

end Cert.FwdFrame

end
-- ==== Proof.FwdFinite.lean ====
/-
  What the forward program's precondition says: the three arrays are arrays of reals.
-/
module

public import proofs.«01_k».proof.Pre_finite_qkv
public import proofs.«01_k».proof.Proof.Finite

@[expose] public section

noncomputable section

namespace Cert.FiniteQkv

open Cert.Pre_finite_qkv Cert.FiniteArgs Idealize.ShloMosaic

theorem facts : Cert.Pre_finite_qkv.Facts where
  bcast_S_S8192x8x96 := by decide
  reducesTo_S8192x8x96_S_d0_1_2 := by decide
  h_S_ := by decide
  bcast_S_S8192x8x64 := by decide
  reducesTo_S8192x8x64_S_d0_1_2 := by decide

variable [Cert.Pre_finite_qkv.Facts]

/-- The three arrays of which the precondition holds are arrays of reals. -/
theorem args {q k : FVec Ideal S8192x8x96 .f32} {v : FVec Ideal S8192x8x64 .f32} (h : fn (F := Ideal) q k v = fun _ => 1#1) :
    (∃ r : S8192x8x96.Idx → ℝ, q = fun i => ((r i : ℝ) : EReal)) ∧ (∃ r : S8192x8x96.Idx → ℝ, k = fun i => ((r i : ℝ) : EReal))
      ∧ (∃ r : S8192x8x64.Idx → ℝ, v = fun i => ((r i : ℝ) : EReal)) := by
  have h1 := congrFun h (fun a => a.elim0)
  unfold fn at h1
  obtain ⟨h2, hv⟩ := IntOp.andi_eq_one.mp h1
  obtain ⟨hq, hk⟩ := IntOp.andi_eq_one.mp h2
  exact ⟨reals q _ (fun _ => rfl) fun i => Host.reduce_andi_all _ _ _ _ _ hq i, reals k _ (fun _ => rfl) fun i => Host.reduce_andi_all _ _ _ _ _ hk i,
    reals v _ (fun _ => rfl) fun i => Host.reduce_andi_all _ _ _ _ _ hv i⟩

end Cert.FiniteQkv

end
-- ==== Proof.FwdHostIn.lean ====
/-
  The three arrays the host lines prepare for the forward kernel: the queries and the keys as for the backward kernel, and the
  rows of the products: 63 channels of the keys, a row of ones, the values.
-/
module

public import proofs.«01_k».proof.Proof.Gen.ForwardIdeal.Frame
public import proofs.«01_k».proof.Proof.HostRead

@[expose] public section

set_option maxRecDepth 16384

noncomputable section

namespace Cert.ForwardIdeal.HostIn

open Cert.ForwardIdeal Cert.ForwardIdeal.Gen Cert.RefValue
open Idealize.ShloMosaic Idealize.ShloMosaic.TcCoe Idealize.SL.Sem Idealize.ShloMosaic.StableHlo

def ones : FVec Ideal S8x8192x1 .f32 := broadcastInDim S8x8192x1 ![] bcast_S_S8x8192x1 (constant (F := Ideal) S_ .f32 0x3F800000#32)
/-- The rows by position and channel. -/
def rows (k : FVec Ideal S8192x8x96 .f32) (v : FVec Ideal S8192x8x64 .f32) : FVec Ideal S8x8192x128 .f32 :=
  concatenate S8x8192x128 2
    [⟨S8x8192x63, extractStridedSlice S8x8192x63 ![0, 0, 0] (transpose S8x8192x96 [1, 0, 2] k transposes_S8192x8x96_S8x8192x96_1_0_2)
        slices_S8x8192x96_S8x8192x63_0_0_0⟩,
      ⟨S8x8192x1, ones⟩,
      ⟨S8x8192x64, transpose S8x8192x64 [1, 0, 2] v transposes_S8192x8x64_S8x8192x64_1_0_2⟩]
    concatenates_S8x8192x63_S8x8192x1_S8x8192x64_S8x8192x128_d2
/-- The same by channel and position: the third array. -/
def vt (k : FVec Ideal S8192x8x96 .f32) (v : FVec Ideal S8192x8x64 .f32) : FVec Ideal S8x128x8192 .bf16 :=
  truncf .bf16 (transpose S8x128x8192 [0, 2, 1] (rows k v) transposes_S8x8192x128_S8x128x8192_0_2_1) bitsLt_bf16_f32

variable (m : (ℓ : Loc nD τ sig) → Buf (Elt Ideal) ℓ) (c : Dev nD)

/-- The three arguments on a device. -/
abbrev argQ : FVec Ideal S8192x8x96 .f32 := m ((c : Thread nD τ).loc main_arg0)
abbrev argK : FVec Ideal S8192x8x96 .f32 := m ((c : Thread nD τ).loc main_arg1)
abbrev argV : FVec Ideal S8192x8x64 .f32 := m ((c : Thread nD τ).loc main_arg2)

theorem V_q : (V m c main_v7 : FVec Ideal S8x8192x128 .bf16) = Cert.KernelIdeal.HostIn.qp (argQ m c) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append,
      List.nil_append, TRef.nullary, TRef.binary, TRef.ternary, TRef.unary, TRef.toBuf, TRef.ofBuf, cast_eq]
  after_results_simp
  rfl

theorem V_k : (V m c main_v10 : FVec Ideal S8x8192x128 .bf16) = Cert.KernelIdeal.HostIn.kp (argK m c) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append,
      List.nil_append, TRef.nullary, TRef.binary, TRef.ternary, TRef.unary, TRef.toBuf, TRef.ofBuf, cast_eq]
  after_results_simp
  rfl

theorem V_v : (V m c main_v17 : FVec Ideal S8x128x8192 .bf16) = vt (argK m c) (argV m c) := by
  show StableHlo.after (List.flatten [hostOps0, hostOps0_1, hostOps0_2, hostOps0_3, hostOps0_4]) (fun b => m (c, b)) (Proc.devRef .tc main_v17) = _
  simp only [hostOps0, hostOps0_1, hostOps0_2, hostOps0_3, hostOps0_4, List.flatten_cons, List.flatten_nil, List.append_nil, List.cons_append,
      List.nil_append, TRef.nullary, TRef.binary, TRef.ternary, TRef.unary, TRef.toBuf, TRef.ofBuf, cast_eq]
  after_results_simp
  rfl

theorem vt_at (k : FVec Ideal S8192x8x96 .f32) (v : FVec Ideal S8192x8x64 .f32) (z : Fin 8) (d : Fin 128) (p : Fin 8192) :
    vt k v (ValueIdx.ix3 z d p) = rows k v (ValueIdx.ix3 z p d) := by
  show transpose (s := S8x8192x128) S8x128x8192 [0, 2, 1] (rows k v) transposes_S8x8192x128_S8x128x8192_0_2_1 (ValueIdx.ix3 z d p) = _
  rw [transpose_apply (s := S8x8192x128) (t := S8x128x8192) _ _ _ _ (ValueIdx.ix3 z p d)
    (fun a => match a with | ⟨0, _⟩ => rfl | ⟨1, _⟩ => rfl | ⟨2, _⟩ => rfl)]

theorem ones_at (i : S8x8192x1.Idx) : ones i = ((1 : ℝ) : EReal) := one_eq

/-- Row 63 holds ones. -/
theorem rows_one (k : FVec Ideal S8192x8x96 .f32) (v : FVec Ideal S8192x8x64 .f32) (z : Fin 8) (p : Fin 8192) :
    rows k v (ValueIdx.ix3 z p 63) = ((1 : ℝ) : EReal) := by
  unfold rows
  rw [concatenate_apply_piece (t := S8x8192x128) 2 _ _ _ 1 (by show 1 < 3; omega) S8x8192x1 ones rfl rfl 63 rfl (ValueIdx.ix3 z p 0)
    (fun a => match a with | ⟨0, _⟩ => fun _ => rfl | ⟨1, _⟩ => fun _ => rfl | ⟨2, _⟩ => fun e => absurd rfl e) rfl]
  exact ones_at _

/-- The last 64 rows hold the values. -/
theorem rows_val (k : FVec Ideal S8192x8x96 .f32) (xv : S8192x8x64.Idx → ℝ) (z : Fin 8) (p : Fin 8192) (d : Fin 64) :
    rows k (up xv) (ValueIdx.ix3 z p ⟨64 + d.val, by omega⟩) = ((num3 xv p.val z.val d.val : ℝ) : EReal) := by
  unfold rows
  rw [concatenate_apply_piece (t := S8x8192x128) 2 _ _ _ 2 (by show 2 < 3; omega) S8x8192x64 _ rfl rfl 64 rfl (ValueIdx.ix3 z p d)
    (fun a => match a with | ⟨0, _⟩ => fun _ => rfl | ⟨1, _⟩ => fun _ => rfl | ⟨2, _⟩ => fun e => absurd rfl e) rfl]
  exact Cert.KernelIdeal.HostIn.heads64_at xv z p d

end Cert.ForwardIdeal.HostIn

end
-- ==== Proof.FwdModel.lean ====
/-
  The forward kernel's mathematics at one grid point: scores block by block of keys, the running row maximum, and the running
  sums rescaled to it.
-/
module

public import proofs.«01_k».proof.Proof.Tile

@[expose] public section

noncomputable section

namespace Cert.FwdModel

open Idealize.ShloMosaic
open scoped BigOperators

/-- The inputs of one grid point: 2048 queries, the head's keys, and the rows of keys, ones and values the products are taken
    with. The point's first query stands at position `2048 * i`. -/
structure Data where
  Q : ℕ → ℕ → EReal
  K : ℕ → ℕ → EReal
  V : ℕ → ℕ → EReal
  i : ℕ

variable (m : Data)

/-- The score of key `y` for query `x`. -/
def Data.S (y x : ℕ) : EReal := ∑ e ∈ Finset.range 128, m.K y e * m.Q x e

/-- The score, `⊥` where the key comes after the query. -/
def Data.T (y x : ℕ) : EReal := if y ≤ 2048 * m.i + x then m.S y x else ⊥

/-- The largest of the block's unmasked scores. -/
def Data.top (n x : ℕ) : EReal := (Finset.range 512).sup fun a => m.S (512 * n + a) x

/-- The largest score of the first `n` blocks of keys. -/
def Data.M : ℕ → ℕ → EReal
  | 0, _ => ⊥
  | n + 1, x => max (Data.M n x) ((Finset.range 512).sup fun a => m.T (512 * n + a) x)

/-- What block `n` multiplies the earlier sums with. -/
def Data.A (n x : ℕ) : EReal := Ideal.exp2 (m.M n x - m.M (n + 1) x)

/-- The weight of key `a` of block `n`. -/
def Data.P (n a x : ℕ) : EReal := Ideal.exp2 (m.T (512 * n + a) x - m.M (n + 1) x)

/-- The weighted sums over the first `n` blocks. -/
def Data.acc : ℕ → ℕ → ℕ → EReal
  | 0, _, _ => 0
  | n + 1, r, x => m.A n x * Data.acc n r x + ∑ a ∈ Finset.range 512, m.V (48 + r) (512 * n + a) * m.P n a x

/-- The weights one block late: none before the first block. -/
def Data.Pp : ℕ → ℕ → ℕ → EReal
  | 0, _, _ => 0
  | n + 1, a, x => m.P n a x

/-- The factor one block late. -/
def Data.Ap : ℕ → ℕ → EReal
  | 0, _ => 1
  | n + 1, x => m.A n x

/-- The sums one block late. -/
def Data.accp : ℕ → ℕ → ℕ → EReal
  | 0, _, _ => 0
  | n + 1, r, x => m.acc n r x

theorem Data.accp_step (n r x : ℕ) : m.accp (n + 1) r x
    = m.Ap n x * m.accp n r x + ∑ a ∈ Finset.range 512, m.V (48 + r) (512 * (n - 1) + a) * m.Pp n a x := by
  cases n with
  | zero =>
    show (0 : EReal) = 1 * 0 + ∑ a ∈ Finset.range 512, m.V (48 + r) (512 * (0 - 1) + a) * 0
    rw [Finset.sum_eq_zero fun a _ => mul_zero _, mul_zero, add_zero]
  | succ n => rfl

theorem Data.T_full {n a x : ℕ} (ha : a < 512) (hn : n < 4 * m.i) : m.T (512 * n + a) x = m.S (512 * n + a) x :=
  if_pos (by omega)

theorem Data.M_full {n : ℕ} (x : ℕ) (hn : n < 4 * m.i) : m.M (n + 1) x = max (m.M n x) (m.top n x) :=
  congrArg (max _) (Finset.sup_congr rfl fun a ha => m.T_full (Finset.mem_range.mp ha) hn)

/-- The block after the last one query `x` sees. -/
def Data.last (x : ℕ) : ℕ := 4 * m.i + 1 + x / 512

/-- The point's result: 64 zeros, then the weighted mean of the values. -/
def Data.o (x d : ℕ) : EReal :=
  if d < 64 then 0 else Ideal.div (m.acc (m.last x) (16 + (d - 64)) x) (m.acc (m.last x) 15 x)

/-- The logarithm to base two of the row's sum of exponentials. -/
def Data.lse (x : ℕ) : EReal := m.M (m.last x) x + Ideal.div (Ideal.log (m.acc (m.last x) 15 x)) (Ideal.log (2 : ℝ))

end Cert.FwdModel

end
-- ==== Proof.FwdRegroup.lean ====
/-
  What the forward kernel gathers block by block is the attention's output and the logarithm of a row's mass: for inputs that
  hold a head's reals.

  The running maximum enters only as some real number: it cancels in both results.
-/
module

public import proofs.«01_k».proof.Proof.Attn
public import proofs.«01_k».proof.Proof.FwdModel

@[expose] public section

noncomputable section

namespace Cert.FwdModel

open Finset Cert.Attn Idealize.ShloMosaic

/-- The inputs of one block of queries hold the head's reals. -/
structure Holds (m : Data) (r : Head) : Prop where
  i : m.i < 4
  q : ∀ x < 2048, ∀ d < 128, m.Q x d = ((if d < 96 then r.q (2048 * m.i + x) d * (r.c / Real.log 2) else 0 : ℝ) : EReal)
  k : ∀ y < 8192, ∀ d < 128, m.K y d = ((if d < 96 then r.k y d else 0 : ℝ) : EReal)
  one : ∀ y < 8192, m.V 63 y = ((1 : ℝ) : EReal)
  v : ∀ y < 8192, ∀ d < 64, m.V (64 + d) y = ((r.v y d : ℝ) : EReal)

/-- The factor between a row's exponentials less its largest score and its powers of two less `μ`. -/
def gap (r : Head) (X : ℕ) (μ : ℝ) : ℝ := Real.exp (r.peak X - μ * Real.log 2)

theorem log_two_ne : Real.log 2 ≠ 0 := (Real.log_pos (by norm_num)).ne'

theorem gap_pos (r : Head) (X : ℕ) (μ : ℝ) : 0 < gap r X μ := Real.exp_pos _

theorem gap_step (r : Head) (X : ℕ) (μ ν : ℝ) : Real.rpow 2 (μ - ν) * gap r X μ = gap r X ν := by
  show (2 : ℝ) ^ (_ : ℝ) * _ = _
  rw [Real.rpow_def_of_pos (by norm_num), gap, gap, ← Real.exp_add]
  congr 1
  ring

theorem weight_gap (r : Head) {X y : ℕ} (h : y ≤ X) (μ : ℝ) :
    Real.rpow 2 (r.score X y / Real.log 2 - μ) = r.expo X y * gap r X μ := by
  show (2 : ℝ) ^ (_ : ℝ) = _
  rw [Real.rpow_def_of_pos (by norm_num), mul_sub, mul_div_cancel₀ _ log_two_ne, Head.expo, if_pos h, gap, ← Real.exp_add]
  congr 1
  ring

variable {m : Data} {r : Head} (H : Holds m r)
include H

theorem Holds.score {y x : ℕ} (hy : y < 8192) (hx : x < 2048) :
    m.S y x = ((r.score (2048 * m.i + x) y / Real.log 2 : ℝ) : EReal) := by
  have e : ∀ d ∈ range 128, m.K y d * m.Q x d
      = (((if d < 96 then r.q (2048 * m.i + x) d * r.k y d * (r.c / Real.log 2) else 0) : ℝ) : EReal) := by
    intro d hd
    rw [H.k _ hy d (mem_range.mp hd), H.q _ hx d (mem_range.mp hd), ← EReal.coe_mul]
    by_cases h9 : d < 96
    · simp only [if_pos h9]; congr 1; ring
    · simp only [if_neg h9]; rw [mul_zero]
  rw [Data.S, sum_congr rfl e, ← coe_sum, Head.score, show (128 : ℕ) = 96 + 32 from rfl, sum_range_add,
    sum_eq_zero (s := range 32) (fun x _ => if_neg (by omega)), add_zero, sum_mul, sum_div]
  refine congrArg _ (sum_congr rfl fun d hd => ?_)
  rw [if_pos (mem_range.mp hd), mul_div_assoc]

/-- The running maximum is a real after the first block: the first key is seen by every query. -/
theorem Holds.max_real {x : ℕ} (hx : x < 2048) : ∀ n < 16, ∃ μ : ℝ, m.M (n + 1) x = (μ : EReal) := by
  have hT : ∀ y < 8192, m.T y x < ⊤ := by
    intro y hy
    rw [Data.T]
    split_ifs
    · rw [H.score hy hx]; exact EReal.coe_lt_top _
    · exact bot_lt_top
  have hlt : ∀ n ≤ 16, m.M n x < ⊤ := by
    intro n
    induction n with
    | zero => intro _; exact bot_lt_top
    | succ n ih =>
      intro hn
      refine max_lt (ih (by omega)) ((Finset.sup_lt_iff bot_lt_top).mpr fun a ha => hT _ ?_)
      have := mem_range.mp ha
      omega
  have hgt : ∀ n, m.T 0 x ≤ m.M (n + 1) x := by
    intro n
    induction n with
    | zero => exact le_max_of_le_right (Finset.le_sup (f := fun a => m.T (512 * 0 + a) x) (mem_range.mpr (by omega : 0 < 512)))
    | succ n ih => exact le_max_of_le_left ih
  intro n hn
  have h0 : m.T 0 x = ((r.score (2048 * m.i + x) 0 / Real.log 2 : ℝ) : EReal) := by
    rw [Data.T, if_pos (Nat.zero_le _), H.score (by omega) hx]
  refine ⟨(m.M (n + 1) x).toReal, (EReal.coe_toReal (hlt _ hn).ne ?_).symm⟩
  have h1 := hgt n
  rw [h0] at h1
  exact (lt_of_lt_of_le (EReal.bot_lt_coe _) h1).ne'

theorem Holds.weight {n a x : ℕ} (hx : x < 2048) (ha : 512 * n + a < 8192) {μ : ℝ} (hμ : m.M (n + 1) x = (μ : EReal)) :
    m.P n a x = ((r.expo (2048 * m.i + x) (512 * n + a) * gap r (2048 * m.i + x) μ : ℝ) : EReal) := by
  rw [Data.P, hμ, Data.T]
  by_cases h : 512 * n + a ≤ 2048 * m.i + x
  · rw [if_pos h, H.score ha hx, ← EReal.coe_sub, Ideal.exp2_coe, weight_gap r h]
  · rw [if_neg h, EReal.bot_sub, Ideal.exp2_bot, Head.expo, if_neg h, zero_mul, EReal.coe_zero]

/-- A block's sum. -/
theorem Holds.block {n x R : ℕ} (hn : n < 16) (hx : x < 2048) {w : ℕ → ℝ} (hw : ∀ y < 8192, m.V (48 + R) y = ((w y : ℝ) : EReal))
    {μ : ℝ} (hμ : m.M (n + 1) x = (μ : EReal)) :
    ∑ a ∈ range 512, m.V (48 + R) (512 * n + a) * m.P n a x
      = ((∑ a ∈ range 512, w (512 * n + a) * r.expo (2048 * m.i + x) (512 * n + a) * gap r (2048 * m.i + x) μ : ℝ) : EReal) := by
  rw [coe_sum]
  refine sum_congr rfl fun a ha => ?_
  have := mem_range.mp ha
  rw [hw _ (by omega), H.weight hx (by omega) hμ, ← EReal.coe_mul, mul_assoc]

/-- The sums over the first blocks. -/
theorem Holds.sums {x R : ℕ} (hx : x < 2048) {w : ℕ → ℝ} (hw : ∀ y < 8192, m.V (48 + R) y = ((w y : ℝ) : EReal)) :
    ∀ n < 16, ∀ μ : ℝ, m.M (n + 1) x = (μ : EReal) → m.acc (n + 1) R x
      = (((∑ y ∈ range (512 * (n + 1)), w y * r.expo (2048 * m.i + x) y) * gap r (2048 * m.i + x) μ : ℝ) : EReal) := by
  intro n
  induction n with
  | zero =>
    intro hn μ hμ
    show m.A 0 x * 0 + _ = _
    rw [mul_zero, zero_add, H.block hn hx hw hμ, ← sum_mul]
    simp only [Nat.mul_zero, Nat.zero_add, Nat.mul_one]
  | succ n ih =>
    intro hn μ hμ
    obtain ⟨ν, hν⟩ := H.max_real hx n (by omega)
    show m.A (n + 1) x * m.acc (n + 1) R x + _ = _
    rw [H.block hn hx hw hμ, ih (by omega) ν hν, Data.A, hν, hμ, ← EReal.coe_sub, Ideal.exp2_coe, ← EReal.coe_mul, ← EReal.coe_add,
      ← sum_mul, Nat.mul_succ 512 (n + 1), sum_range_add, ← gap_step r (2048 * m.i + x) ν μ]
    congr 1
    ring

/-- The sums at the end: over all keys. -/
theorem Holds.total {x R : ℕ} (hx : x < 2048) {w : ℕ → ℝ} (hw : ∀ y < 8192, m.V (48 + R) y = ((w y : ℝ) : EReal))
    {μ : ℝ} (hμ : m.M (m.last x) x = (μ : EReal)) : m.acc (m.last x) R x
      = (((∑ y ∈ range 8192, w y * r.expo (2048 * m.i + x) y) * gap r (2048 * m.i + x) μ : ℝ) : EReal) := by
  have hi := H.i
  have e : m.last x = (4 * m.i + x / 512) + 1 := by rw [Data.last]; omega
  rw [e] at hμ ⊢
  rw [H.sums hx hw _ (by omega) μ hμ, show (8192 : ℕ) = 512 * (4 * m.i + x / 512 + 1) + (8192 - 512 * (4 * m.i + x / 512 + 1)) by omega,
    sum_range_add, sum_eq_zero (s := range (8192 - 512 * (4 * m.i + x / 512 + 1)))
      (fun y _ => by rw [Head.expo, if_neg (by omega), mul_zero]), add_zero]

theorem Holds.last_real {x : ℕ} (hx : x < 2048) : ∃ μ : ℝ, m.M (m.last x) x = (μ : EReal) := by
  have hi := H.i
  obtain ⟨μ, h⟩ := H.max_real hx (4 * m.i + x / 512) (by omega)
  refine ⟨μ, ?_⟩
  rw [← h, Data.last]
  congr 1
  omega

theorem Holds.mass {x : ℕ} (hx : x < 2048) {μ : ℝ} (hμ : m.M (m.last x) x = (μ : EReal)) : m.acc (m.last x) 15 x
    = ((r.mass (2048 * m.i + x) * gap r (2048 * m.i + x) μ : ℝ) : EReal) := by
  rw [H.total (w := fun _ => 1) hx H.one hμ, Head.mass]
  simp only [one_mul]

/-- The output of a query. -/
theorem Holds.out {x d : ℕ} (hx : x < 2048) (hd : d < 64) : m.o x (64 + d)
    = ((∑ y ∈ range 8192, r.v y d * r.prob (2048 * m.i + x) y : ℝ) : EReal) := by
  have hi := H.i
  obtain ⟨μ, hμ⟩ := H.last_real hx
  have hm := (r.mass_pos (x := 2048 * m.i + x) (by omega)).ne'
  have hg := (gap_pos r (2048 * m.i + x) μ).ne'
  rw [Data.o, if_neg (by omega), H.mass hx hμ, H.total (w := fun y => r.v y d) hx (fun y hy => ?_) hμ, Ideal.div_coe (mul_ne_zero hm hg),
    ← EReal.coe_mul, sum_mul, sum_mul]
  · refine congrArg _ (sum_congr rfl fun y _ => ?_)
    rw [Head.prob]
    field_simp
  · rw [show 48 + (16 + (64 + d - 64)) = 64 + d by omega]
    exact H.v y hy d hd

/-- The logarithm of a query's sum of exponentials. -/
theorem Holds.log {x : ℕ} (hx : x < 2048) : m.lse x * ((Real.log 2 : ℝ) : EReal)
    = ((r.peak (2048 * m.i + x) + Real.log (r.mass (2048 * m.i + x)) : ℝ) : EReal) := by
  have hi := H.i
  obtain ⟨μ, hμ⟩ := H.last_real hx
  have hm := r.mass_pos (x := 2048 * m.i + x) (by omega)
  have hg := gap_pos r (2048 * m.i + x) μ
  have h2 := log_two_ne
  rw [Data.lse, H.mass hx hμ, hμ, Ideal.log_coe, Ideal.log_coe, if_neg (not_le.mpr (mul_pos hm hg)), if_neg (by norm_num),
    Ideal.div_coe h2, ← EReal.coe_mul, ← EReal.coe_add, ← EReal.coe_mul, Real.log_mul hm.ne' hg.ne', gap, Real.log_exp]
  congr 1
  field_simp
  ring

end Cert.FwdModel

end
-- ==== Proof.FwdRef.lean ====
/-
  The forward reference's two results, for arguments whose entries are reals: the attention's output and the logarithm of a
  row's sum of exponentials.
-/
module

public import proofs.«01_k».proof.Proof.Gen.ForwardReferenceIdeal.Read
public import proofs.«01_k».proof.Proof.HostRead

@[expose] public section

set_option maxRecDepth 16384

noncomputable section

namespace Cert.FwdRef

open Cert.Attn Cert.RefValue Idealize.ShloMosaic
open Cert.ReferenceIdeal (S8192x8x96 S8192x8x64 S8x8192 S8x8192x8192)

variable (q k : FVec Ideal S8192x8x96 .f32) (v : FVec Ideal S8192x8x64 .f32)

theorem scores_eq : ForwardReferenceIdeal.Read.val_main_v10 (F := Ideal) q k = ReferenceIdeal.Read.val_main_v10_0 (F := Ideal) q k := rfl

theorem scores_eq' : ForwardReferenceIdeal.Read.val_main_v22 (F := Ideal) q k = ReferenceIdeal.Read.val_main_v10_0 (F := Ideal) q k := rfl

theorem top_eq : ForwardReferenceIdeal.Read.val_main_v11 (F := Ideal) q k = ReferenceIdeal.Read.val_main_v11 (F := Ideal) q k := by
  unfold ForwardReferenceIdeal.Read.val_main_v11
  rw [scores_eq]
  rfl

theorem top_eq' : ForwardReferenceIdeal.Read.val_main_v25 (F := Ideal) q k = ReferenceIdeal.Read.val_main_v18 (F := Ideal) q k := by
  unfold ForwardReferenceIdeal.Read.val_main_v25 ForwardReferenceIdeal.Read.val_main_v23
  rw [scores_eq']
  rfl

theorem expo_eq : ForwardReferenceIdeal.Read.val_main_v29 (F := Ideal) q k = ReferenceIdeal.Read.val_main_v31 (F := Ideal) q k := by
  unfold ForwardReferenceIdeal.Read.val_main_v29 ForwardReferenceIdeal.Read.val_main_v28 ForwardReferenceIdeal.Read.val_main_v27
    ForwardReferenceIdeal.Read.val_main_v26
  rw [scores_eq', top_eq']
  rfl

theorem prob_eq : ForwardReferenceIdeal.Read.val_main_v33 (F := Ideal) q k = ReferenceIdeal.Read.val_main_v35 (F := Ideal) q k := by
  unfold ForwardReferenceIdeal.Read.val_main_v33 ForwardReferenceIdeal.Read.val_main_v32 ForwardReferenceIdeal.Read.val_main_v31
    ForwardReferenceIdeal.Read.val_main_v30
  rw [expo_eq]
  rfl

theorem out_eq : ForwardReferenceIdeal.Read.val_main_v35 (F := Ideal) q k v = ReferenceIdeal.Read.val_main_v40 (F := Ideal) q k v := by
  unfold ForwardReferenceIdeal.Read.val_main_v35 ForwardReferenceIdeal.Read.val_main_v34
  rw [prob_eq]
  rfl

theorem mass_eq : ForwardReferenceIdeal.Read.val_main_v40 (F := Ideal) q k = KernelIdeal.HostIn.mass q k := by
  unfold ForwardReferenceIdeal.Read.val_main_v40 ForwardReferenceIdeal.Read.val_main_v39 ForwardReferenceIdeal.Read.val_main_v38
    ForwardReferenceIdeal.Read.val_main_v37 ForwardReferenceIdeal.Read.val_main_v36
  rw [scores_eq, top_eq]
  rfl

theorem add_log (a b : FVec Ideal S8x8192 .f32) (i : S8x8192.Idx) : addf a (Host.log b) i = a i + Ideal.log (b i) := rfl

theorem log_at (xq xk : S8192x8x96.Idx → ℝ) (xv xt : S8192x8x64.Idx → ℝ) (i : S8x8192.Idx) :
    ForwardReferenceIdeal.Read.val_main_v42 (F := Ideal) (up xq) (up xk) i
      = (((head xq xk xv xt (i 0).val).peak (i 1).val + Real.log ((head xq xk xv xt (i 0).val).mass (i 1).val) : ℝ) : EReal) := by
  have hm := (head xq xk xv xt (i 0).val).mass_pos (i 1).isLt
  unfold ForwardReferenceIdeal.Read.val_main_v42 ForwardReferenceIdeal.Read.val_main_v41
  rw [top_eq, mass_eq, KernelIdeal.HostIn.mass_eq, add_log, top_at xq xk xv xt, mass_at xq xk xv xt, Ideal.log_coe,
    if_neg (not_le.mpr hm), EReal.coe_add]

end Cert.FwdRef

end
-- ==== Proof.FwdTile.lean ====
/-
  Tiles read at their coordinates, for the forward kernel: column maxima, quotients and logarithms, and scores below the
  diagonal.
-/
module

public import proofs.«01_k».proof.Proof.Tile
public import Idealize.ShloMosaic.PureOps.Ideal.Laws

@[expose] public section

noncomputable section

namespace Cert.Tile

open Idealize.ShloMosaic
open scoped BigOperators

variable {m n : ℕ}

theorem Is2.maxf {φ : FTy} {x y : FVec Ideal ⟨2, ![m, n]⟩ φ} {F G : ℕ → ℕ → EReal} (hx : Is2 x F) (hy : Is2 y G) :
    Is2 (maximumf x y) (fun a b => max (F a b) (G a b)) :=
  fun a b => congrArg₂ max (hx a b) (hy a b)

theorem Is2.divf {φ : FTy} {x y : FVec Ideal ⟨2, ![m, n]⟩ φ} {F G : ℕ → ℕ → EReal} (hx : Is2 x F) (hy : Is2 y G) :
    Is2 (divf x y) (fun a b => Ideal.div (F a b) (G a b)) :=
  fun a b => congrArg₂ Ideal.div (hx a b) (hy a b)

theorem Is2.log {φ : FTy} {x : FVec Ideal ⟨2, ![m, n]⟩ φ} {F : ℕ → ℕ → EReal} (hx : Is2 x F) :
    Is2 (log x) (fun a b => Ideal.log (F a b)) :=
  fun a b => congrArg Ideal.log (hx a b)

/-- The largest of a function's values, folded or as a supremum. -/
theorem fold_sup (f : Fin m → EReal) (G : ℕ → EReal) (h : ∀ k : Fin m, f k = G k) :
    (Finset.univ : Finset (Fin m)).fold max ⊥ f = (Finset.range m).sup G := by
  show (Finset.univ : Finset (Fin m)).sup f = _
  refine le_antisymm (Finset.sup_le fun k _ => (le_of_eq (h k)).trans (Finset.le_sup (f := G) (Finset.mem_range.mpr k.2))) ?_
  refine Finset.sup_le fun a ha => ?_
  have ha' := Finset.mem_range.mp ha
  exact (le_of_eq (h ⟨a, ha'⟩).symm).trans (Finset.le_sup (f := f) (Finset.mem_univ (⟨a, ha'⟩ : Fin m)))

/-- A column's largest element, kept as a row. -/
theorem Is2.colmax {x : FVec Ideal ⟨2, ![m, n]⟩ .f32} {F : ℕ → ℕ → EReal} (hx : Is2 x F)
    (h : (⟨2, ![m, n]⟩ : Shape).Reduces [0] ⟨1, ![n]⟩) (hφ : FKind.Formats .f32) (hacc) (hc : (⟨1, ![n]⟩ : Shape).ShapeCasts ⟨2, ![1, n]⟩) :
    Is2 (shapeCast ⟨2, ![1, n]⟩ (multiReduction (F := Ideal) .maximumf [0] ⟨1, ![n]⟩ x 0xFF800000#32 h hφ hacc) hc)
      (fun _ b => (Finset.range m).sup fun a => F a b) := by
  intro z b
  have e := shapeCast_addUnit_apply ![n] (multiReduction (F := Ideal) .maximumf [0] ⟨1, ![n]⟩ x 0xFF800000#32 h hφ hacc) hc
    (ValueIdx.ix2 z b)
  refine e.trans ((Ideal.multiReduction_maximumf_single x _ h hφ hacc _).trans ?_)
  have hb : (FloatOps.ofBits (F := Ideal) .f32 0xFF800000#32 : EReal) = ⊥ := by
    show Ideal.ofBits .f32 0xFF800000#32 = ⊥
    simp [Ideal.ofBits, Ideal.ieee]
  rw [hb]
  refine fold_sup _ (fun a => F a b) fun k => Eq.trans (congrArg x ?_) (hx k b)
  funext ax
  match ax with
  | ⟨0, _⟩ => rfl
  | ⟨1, _⟩ => rfl

/-- Scores of a triangle: where the row is at most the column, the score; elsewhere `⊥`. -/
theorem Is2.below {x : FVec Ideal ⟨2, ![m, n]⟩ .f32} {F : ℕ → ℕ → EReal} (hx : Is2 x F)
    (h0 : (⟨2, ![m, n]⟩ : Shape).Iotas .tc 32 [0]) (h1 : (⟨2, ![m, n]⟩ : Shape).Iotas .tc 32 [1])
    (hm : m ≤ 4096) (hn : n ≤ 4096) :
    Is2 (select (cmpi .sge (iota .tc ⟨2, ![m, n]⟩ 32 [1] h1)
        (addi (iota .tc ⟨2, ![m, n]⟩ 32 [0] h0) (broadcast ⟨2, ![m, n]⟩ 0#32))) x
        (broadcast ⟨2, ![m, n]⟩ (Scalar.ofBits (F := Ideal) .f32 0xFF800000#32)))
      (fun a b => if a ≤ b then F a b else ⊥) := fun a b => by
  have ha := a.2
  have hb := b.2
  show Scalar.select (Scalar.cmpi .sge (iota .tc ⟨2, ![m, n]⟩ 32 [1] h1 (ValueIdx.ix2 a b))
      (iota .tc ⟨2, ![m, n]⟩ 32 [0] h0 (ValueIdx.ix2 a b) + 0#32)) (x (ValueIdx.ix2 a b)) (Ideal.ofBits .f32 0xFF800000#32) = _
  have e1 : iota .tc ⟨2, ![m, n]⟩ 32 [1] h1 (ValueIdx.ix2 a b) = BitVec.ofNat 32 b.val := by simp [iota]; rfl
  have e0 : iota .tc ⟨2, ![m, n]⟩ 32 [0] h0 (ValueIdx.ix2 a b) = BitVec.ofNat 32 a.val := by simp [iota]; rfl
  have hz : Ideal.ofBits .f32 0xFF800000#32 = ⊥ := by simp [Ideal.ofBits, Ideal.ieee]
  rw [e1, e0, hx a b, hz, BitVec.add_zero]
  have hcmp : (BitVec.ofNat 32 a.val).sle (BitVec.ofNat 32 b.val) = decide (a.val ≤ b.val) := by
    rw [BitVec.sle, toInt_small _ (by omega), toInt_small _ (by omega)]
    refine decide_eq_decide.mpr ?_
    omega
  show Scalar.select (BitVec.ofBool ((BitVec.ofNat 32 a.val).sle (BitVec.ofNat 32 b.val))) _ _ = _
  rw [hcmp]
  by_cases h : a.val ≤ b.val
  · simp [h, Scalar.select]
  · simp [h, Scalar.select]

/-- Two blocks side by side. -/
theorem Is2.side {α : Type} {p q : ℕ} {x : (⟨2, ![m, p]⟩ : Shape).Idx → α} {y : (⟨2, ![m, q]⟩ : Shape).Idx → α} {F G : ℕ → ℕ → α}
    (hx : Is2 x F) (hy : Is2 y G) (hn : n = p + q)
    (h : Shape.Concatenates [(⟨2, ![m, p]⟩ : Shape), ⟨2, ![m, q]⟩] ⟨2, ![m, n]⟩ 1) :
    Is2 (concatenate (⟨2, ![m, n]⟩ : Shape) 1 [⟨⟨2, ![m, p]⟩, x⟩, ⟨⟨2, ![m, q]⟩, y⟩] h) (fun a b => if b < p then F a b else G a (b - p)) := by
  subst hn
  intro a b
  have hb : b.val < p + q := b.2
  by_cases hp : b.val < p
  · exact (concatenate_pair_apply_left (t := ⟨2, ![m, p + q]⟩) (s₁ := ⟨2, ![m, p]⟩) (s₂ := ⟨2, ![m, q]⟩) 1 _ _ _ _ rfl
      (ValueIdx.ix2 a ⟨b.val, hp⟩) (fun ax => match ax with | ⟨0, _⟩ => rfl | ⟨1, _⟩ => rfl)).trans ((hx a ⟨b.val, hp⟩).trans (if_pos hp).symm)
  · exact (concatenate_pair_apply_right (t := ⟨2, ![m, p + q]⟩) (s₁ := ⟨2, ![m, p]⟩) (s₂ := ⟨2, ![m, q]⟩) 1 _ _ _ _ rfl rfl
      (ValueIdx.ix2 a ⟨b.val - p, by omega⟩)
      (fun ax => match ax with | ⟨0, _⟩ => fun _ => rfl | ⟨1, _⟩ => fun e => absurd rfl e)
      (by show b.val - p + p = b.val; omega)).trans ((hy a ⟨b.val - p, by omega⟩).trans (if_neg hp).symm)

end Cert.Tile

end
-- ==== Proof.FwdInputs.lean ====
/-
  What the forward kernel's inputs hold at one grid point.
-/
module

public import proofs.«01_k».proof.Proof.FwdSafeBody
public import proofs.«01_k».proof.Proof.FwdOffsets
public import proofs.«01_k».proof.Proof.FwdTile
public import proofs.«01_k».proof.Proof.FwdModel

@[expose] public section

set_option maxRecDepth 16384

noncomputable section

namespace Cert.ForwardIdeal.Pre

open Cert.ForwardIdeal Cert.ForwardIdeal.Gen Cert.ForwardIdeal.Safe Cert.Tile Cert.FwdModel
open Idealize.ShloMosaic Idealize.ShloMosaic.TcCoe

/-- The three inputs hold the data `m`. -/
structure In (c : Dev nD) (i : grid0.Coords) (arg2 : Memref sig .tc .vmem S1x2048x128 .bf16) (arg3 : Memref sig .tc .vmem S1x8192x128 .bf16) (arg4 : Memref sig .tc .vmem S1x128x8192 .bf16)
    (f2 : Buf (Elt Ideal) (arg2.view.loc (c : Thread nD τ))) (f3 : Buf (Elt Ideal) (arg3.view.loc (c : Thread nD τ))) (f4 : Buf (Elt Ideal) (arg4.view.loc (c : Thread nD τ))) (m : Data) : Prop where
  q : ∀ (z : Fin 1) (a : Fin 2048) (b : Fin 128), arg2.view.read (Elt Ideal) f2 (ValueIdx.ix3 z a b) = m.Q a b
  k : ∀ (z : Fin 1) (a : Fin 8192) (b : Fin 128), arg3.view.read (Elt Ideal) f3 (ValueIdx.ix3 z a b) = m.K a b
  v : ∀ (z : Fin 1) (a : Fin 128) (b : Fin 8192), arg4.view.read (Elt Ideal) f4 (ValueIdx.ix3 z a b) = m.V a b
  b : (i 1).val = m.i

variable {c : Dev nD} {i : grid0.Coords}
variable {arg2 : Memref sig .tc .vmem S1x2048x128 .bf16} {arg3 : Memref sig .tc .vmem S1x8192x128 .bf16} {arg4 : Memref sig .tc .vmem S1x128x8192 .bf16}
variable {f2 : Buf (Elt Ideal) (arg2.view.loc (c : Thread nD τ))} {f3 : Buf (Elt Ideal) (arg3.view.loc (c : Thread nD τ))} {f4 : Buf (Elt Ideal) (arg4.view.loc (c : Thread nD τ))}
variable {m : Data}

/-- The scores of a block of keys, for the queries from `x0` on. -/
theorem scores {N : ℕ} {off off' : Fin 3 → ℕ} {inb inb'} (y0 x0 : ℕ)
    {d : DotDims ⟨2, ![512, 128]⟩ ⟨2, ![N, 128]⟩ ⟨2, ![512, N]⟩} (hd : d = DotDims.transposedRhs 512 128 N) {hc hc'}
    (h : In c i arg2 arg3 arg4 f2 f3 f4 m) (hoff : off = ![0, y0, 0]) (hoff' : off' = ![0, x0, 0]) :
    Is2 (m := 512) (n := N) (matmul (F := Ideal) (φ₁ := .bf16) (φ₂ := .bf16) d none
        (shapeCast ⟨2, ![512, 128]⟩ (View.readAt (Elt Ideal) arg3.view (Rect.unit (s := S1x8192x128) off (⟨3, ![1, 512, 128]⟩ : Shape).size inb).toLoadRect f3) hc)
        (shapeCast ⟨2, ![N, 128]⟩ (View.readAt (Elt Ideal) arg2.view (Rect.unit (s := S1x2048x128) off' (⟨3, ![1, N, 128]⟩ : Shape).size inb').toLoadRect f2) hc')
        (constant ⟨2, ![512, N]⟩ .f32 0#32)) (fun a b => m.S (y0 + a) (x0 + b)) :=
  Is2.congr (is2_nt hd (Is3.drop (is3_readAt (F := m.K) _ _ y0 0 hoff (fun z a b _ _ _ _ => h.k z a b)) _)
    (Is3.drop (is3_readAt (F := m.Q) _ _ x0 0 hoff' (fun z a b _ _ _ _ => h.q z a b)) _)) fun a b ha hb => by
      simp only [Data.S, Nat.zero_add]

/-- A block of the rows the weights are multiplied with. -/
theorem rows {off : Fin 3 → ℕ} {inb} (y0 : ℕ) {hc} (h : In c i arg2 arg3 arg4 f2 f3 f4 m) (hoff : off = ![0, 48, y0]) :
    Is2 (m := 80) (n := 512) (shapeCast ⟨2, ![80, 512]⟩ (View.readAt (Elt Ideal) arg4.view
      (Rect.unit (s := S1x128x8192) off (⟨3, ![1, 80, 512]⟩ : Shape).size inb).toLoadRect f4) hc) (fun a b => m.V (48 + a) (y0 + b)) :=
  Is3.drop (is3_readAt (Val := Elt Ideal) (e := .bf16) (m := 80) (n := 512) (F := m.V) arg4.view f4 48 y0 hoff (fun z a b _ _ _ _ => h.v z a b)) hc

end Cert.ForwardIdeal.Pre

end
-- ==== Proof.FwdTrip.lean ====
/-
  One trip of the forward kernel's loop: what the scratch tiles hold after it, from what they held before.
-/
module

public import proofs.«01_k».proof.Proof.FwdInputs

@[expose] public section

set_option maxRecDepth 16384

noncomputable section

namespace Cert.ForwardIdeal.Trip

open Cert.ForwardIdeal Cert.ForwardIdeal.Gen Cert.ForwardIdeal.Safe Cert.Tile Cert.FwdModel
open Cert.ForwardIdeal.Pre (In scores rows)
open Idealize.ShloMosaic Idealize.ShloMosaic.TcCoe

/-- The tiles between two trips, `n` blocks of keys scored and `n - 1` of them added. -/
structure Mid (c : Dev nD) (arg7 : Memref sig .tc .vmem S512x2048 .f32) (arg10 : Memref sig .tc .vmem S512x2048 .bf16) (arg11 : Memref sig .tc .vmem S1x2048 .f32) (arg13 : Memref sig .tc .vmem S1x2048 .f32) (arg14 : Memref sig .tc .vmem S1x2048 .f32) (arg15 : Memref sig .tc .vmem S80x2048 .f32)
    (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (m : Data) (n : ℕ) : Prop where
  s : ∀ (a : Fin 512) (b : Fin 2048), arg7.view.read (Elt Ideal) f7 (ValueIdx.ix2 a b) = m.S (512 * n + a) b
  p : ∀ (a : Fin 512) (b : Fin 2048), arg10.view.read (Elt Ideal) f10 (ValueIdx.ix2 a b) = m.Pp n a b
  x : ∀ (a : Fin 1) (b : Fin 2048), arg11.view.read (Elt Ideal) f11 (ValueIdx.ix2 a b) = m.top n b
  mx : ∀ (a : Fin 1) (b : Fin 2048), arg13.view.read (Elt Ideal) f13 (ValueIdx.ix2 a b) = m.M n b
  a : ∀ (a : Fin 1) (b : Fin 2048), arg14.view.read (Elt Ideal) f14 (ValueIdx.ix2 a b) = m.Ap n b
  acc : ∀ (a : Fin 80) (b : Fin 2048), arg15.view.read (Elt Ideal) f15 (ValueIdx.ix2 a b) = m.accp n a b

variable {c : Dev nD} {i : grid0.Coords}
variable {arg2 : Memref sig .tc .vmem S1x2048x128 .bf16} {arg3 : Memref sig .tc .vmem S1x8192x128 .bf16} {arg4 : Memref sig .tc .vmem S1x128x8192 .bf16} {arg7 : Memref sig .tc .vmem S512x2048 .f32} {arg8 : Memref sig .tc .vmem S512x2048 .f32} {arg9 : Memref sig .tc .vmem S512x2048 .bf16} {arg10 : Memref sig .tc .vmem S512x2048 .bf16} {arg11 : Memref sig .tc .vmem S1x2048 .f32} {arg12 : Memref sig .tc .vmem S1x2048 .f32} {arg13 : Memref sig .tc .vmem S1x2048 .f32} {arg14 : Memref sig .tc .vmem S1x2048 .f32} {arg15 : Memref sig .tc .vmem S80x2048 .f32}
variable {f2 : Buf (Elt Ideal) (arg2.view.loc (c : Thread nD τ))} {f3 : Buf (Elt Ideal) (arg3.view.loc (c : Thread nD τ))} {f4 : Buf (Elt Ideal) (arg4.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))}
variable {m : Data} {k : Fin (k0_t1_loop i).trips}

section
variable (hm : Mid c arg7 arg10 arg11 arg13 arg14 arg15 f7 f10 f11 f13 f14 f15 m (2 * k.val))
include hm

omit hm in
/-- The trip's blocks lie before the point's queries. -/
theorem inside (h : In c i arg2 arg3 arg4 f2 f3 f4 m) : 2 * k.val + 1 < 4 * m.i := by
  have h1 := lt_of_lt_of_eq k.isLt (Value.trips1_eq i)
  rw [h.b] at h1
  omega

theorem ld7 : Is2 (m := 512) (n := 2048) (View.readAt (Elt Ideal) arg7.view (Rect.unit ![0, 0] S512x2048.size inb_S512x2048_S512x2048_0_0).toLoadRect f7)
    (fun a b => m.S (512 * (2 * k.val) + a) b) :=
  Is2.congr (is2_readAt (F := fun a b => m.S (512 * (2 * k.val) + a) b) _ _ 0 0 rfl (fun a b _ _ _ _ => hm.s a b)) fun a b _ _ => by
    simp only [Nat.zero_add]
theorem ld10 : Is2 (m := 512) (n := 2048) (View.readAt (Elt Ideal) arg10.view (Rect.unit ![0, 0] S512x2048.size inb_S512x2048_S512x2048_0_0).toLoadRect f10)
    (fun a b => m.Pp (2 * k.val) a b) :=
  Is2.congr (is2_readAt (F := fun a b => m.Pp (2 * k.val) a b) _ _ 0 0 rfl (fun a b _ _ _ _ => hm.p a b)) fun a b _ _ => by
    simp only [Nat.zero_add]
theorem ld11 : Is2 (m := 1) (n := 2048) (View.readAt (Elt Ideal) arg11.view (Rect.unit ![0, 0] S1x2048.size inb_S1x2048_S1x2048_0_0).toLoadRect f11)
    (fun _ b => m.top (2 * k.val) b) :=
  Is2.congr (is2_readAt (F := fun _ b => m.top (2 * k.val) b) _ _ 0 0 rfl (fun a b _ _ _ _ => hm.x a b)) fun a b _ _ => by
    simp only [Nat.zero_add]
theorem ld13 : Is2 (m := 1) (n := 2048) (View.readAt (Elt Ideal) arg13.view (Rect.unit ![0, 0] S1x2048.size inb_S1x2048_S1x2048_0_0).toLoadRect f13)
    (fun _ b => m.M (2 * k.val) b) :=
  Is2.congr (is2_readAt (F := fun _ b => m.M (2 * k.val) b) _ _ 0 0 rfl (fun a b _ _ _ _ => hm.mx a b)) fun a b _ _ => by
    simp only [Nat.zero_add]
theorem ld14 : Is2 (m := 1) (n := 2048) (View.readAt (Elt Ideal) arg14.view (Rect.unit ![0, 0] S1x2048.size inb_S1x2048_S1x2048_0_0).toLoadRect f14)
    (fun _ b => m.Ap (2 * k.val) b) :=
  Is2.congr (is2_readAt (F := fun _ b => m.Ap (2 * k.val) b) _ _ 0 0 rfl (fun a b _ _ _ _ => hm.a a b)) fun a b _ _ => by
    simp only [Nat.zero_add]
theorem ld15 : Is2 (m := 80) (n := 2048) (View.readAt (Elt Ideal) arg15.view (Rect.unit ![0, 0] S80x2048.size inb_S80x2048_S80x2048_0_0).toLoadRect f15)
    (fun a b => m.accp (2 * k.val) a b) :=
  Is2.congr (is2_readAt (F := fun a b => m.accp (2 * k.val) a b) _ _ 0 0 rfl (fun a b _ _ _ _ => hm.acc a b)) fun a b _ _ => by
    simp only [Nat.zero_add]

/-! ### The first of the trip's two blocks -/

theorem max1 (h : In c i arg2 arg3 arg4 f2 f3 f4 m) : Is2 (m := 1) (n := 2048) (k0_pay8 (F := Ideal)
    (View.readAt (Elt Ideal) arg11.view (Rect.unit ![0, 0] S1x2048.size inb_S1x2048_S1x2048_0_0).toLoadRect f11)
    (View.readAt (Elt Ideal) arg13.view (Rect.unit ![0, 0] S1x2048.size inb_S1x2048_S1x2048_0_0).toLoadRect f13))
    (fun _ b => m.M (2 * k.val + 1) b) :=
  Is2.congr (Is2.maxf (ld13 hm) (ld11 hm)) fun a b _ _ => (m.M_full b (by have := inside (k := k) h; omega)).symm

omit hm in
theorem cov8_1 (h : In c i arg2 arg3 arg4 f2 f3 f4 m) : Cov2 arg8.view (loopInv_k0_t1.sl.H8_1 (F := Ideal) c i arg2 arg3 f2 f3 k) (fun _ _ => True)
    (fun a b => m.S (512 * (2 * k.val + 1) + a) b) :=
  cov2_cons 0 0 rfl (Is2.congr (Is2.self (scores (512 * (2 * k.val + 1)) 0 rfl h (Value.off1_eq i k) rfl) _) fun a b _ _ => by
    simp only [Nat.zero_add]) cov2_none (by intro a b; intros; omega)

omit hm in
theorem cov12_1 (h : In c i arg2 arg3 arg4 f2 f3 f4 m) : Cov2 arg12.view (loopInv_k0_t1.sl.H12_1 (F := Ideal) c i arg2 arg3 f2 f3 k) (fun _ _ => True)
    (fun _ b => m.top (2 * k.val + 1) b) :=
  cov2_cons 0 0 rfl (Is2.congr (Is2.self (Is2.colmax (scores (512 * (2 * k.val + 1)) 0 rfl h (Value.off1_eq i k) rfl) _ _ _ _) _) fun a b _ _ => by
    simp only [Nat.zero_add, Data.top]) cov2_none (by intro a b; intros; omega)

theorem cov15_1 (h : In c i arg2 arg3 arg4 f2 f3 f4 m) : Cov2 arg15.view (loopInv_k0_t1.sl.H15_1 (F := Ideal) c i arg4 arg10 arg14 arg15 f4 k f10 f14 f15) (fun _ _ => True)
    (fun a b => m.accp (2 * k.val + 1) a b) :=
  cov2_cons 0 0 rfl (Is2.congr (Is2.self (Is2.addf (Is2.mulf (Is2.row (ld14 hm) _) (ld15 hm))
    (is2_nn rfl (rows (512 * (2 * k.val - 1)) h (Value.off2_eq i k)) (ld10 hm))) _) fun a b _ _ => by
    simp only [Nat.zero_add]; exact (m.accp_step _ _ _).symm) cov2_none (by intro a b; intros; omega)

theorem cov9_1 (h : In c i arg2 arg3 arg4 f2 f3 f4 m) : Cov2 arg9.view (loopInv_k0_t1.sl.H9_1 (F := Ideal) c arg7 arg11 arg13 f7 f11 f13) (fun _ _ => True)
    (fun a b => m.Pp (2 * k.val + 1) a b) :=
  cov2_cons 0 0 rfl (Is2.congr (Is2.self (Is2.truncf (ψ := .bf16) (Is2.exp2 (Is2.subf (ld7 hm) (Is2.row (max1 hm h) _))) _) _) fun a b ha _ => by
    have := inside (k := k) h
    simp only [Nat.zero_add]
    show _ = Ideal.exp2 (m.T (512 * (2 * k.val) + a) b - m.M (2 * k.val + 1) b)
    rw [m.T_full ha (by omega)]) cov2_none (by intro a b; intros; omega)

theorem cov13_1 (h : In c i arg2 arg3 arg4 f2 f3 f4 m) : Cov2 arg13.view (loopInv_k0_t1.sl.H13_1 (F := Ideal) c arg11 arg13 f11 f13) (fun _ _ => True)
    (fun _ b => m.M (2 * k.val + 1) b) :=
  cov2_cons 0 0 rfl (Is2.congr (Is2.self (max1 hm h) _) fun a b _ _ => by simp only [Nat.zero_add]) cov2_none (by intro a b; intros; omega)

theorem cov14_1 (h : In c i arg2 arg3 arg4 f2 f3 f4 m) : Cov2 arg14.view (loopInv_k0_t1.sl.H14_1 (F := Ideal) c arg11 arg13 f11 f13) (fun _ _ => True)
    (fun _ b => m.Ap (2 * k.val + 1) b) :=
  cov2_cons 0 0 rfl (Is2.congr (Is2.self (Is2.exp2 (Is2.subf (ld13 hm) (max1 hm h))) _) fun a b _ _ => by
    simp only [Nat.zero_add]; rfl) cov2_none (by intro a b; intros; omega)

/-! ### The second -/

theorem v385 (h : In c i arg2 arg3 arg4 f2 f3 f4 m) : Is2 (m := 1) (n := 2048) (loopInv_k0_t1.sl.v385 (F := Ideal) c arg11 arg13 arg14 f11 f13) (fun _ b => m.Ap (2 * k.val + 1) b) :=
  Is2.congr (is2_readCov (cov14_1 hm h) 0 0 rfl (by intros; trivial)) fun a b _ _ => by simp only [Nat.zero_add]

theorem v386 (h : In c i arg2 arg3 arg4 f2 f3 f4 m) : Is2 (m := 80) (n := 2048) (loopInv_k0_t1.sl.v386 (F := Ideal) c i arg4 arg10 arg14 arg15 f4 k f10 f14 f15) (fun a b => m.accp (2 * k.val + 1) a b) :=
  Is2.congr (is2_readCov (cov15_1 hm h) 0 0 rfl (by intros; trivial)) fun a b _ _ => by simp only [Nat.zero_add]

theorem v396 (h : In c i arg2 arg3 arg4 f2 f3 f4 m) : Is2 (m := 512) (n := 2048) (loopInv_k0_t1.sl.v396 (F := Ideal) c arg7 arg9 arg11 arg13 f7 f11 f13) (fun a b => m.Pp (2 * k.val + 1) a b) :=
  Is2.congr (is2_readCov (cov9_1 hm h) 0 0 rfl (by intros; trivial)) fun a b _ _ => by simp only [Nat.zero_add]

omit hm in
theorem v402 (h : In c i arg2 arg3 arg4 f2 f3 f4 m) : Is2 (m := 1) (n := 2048) (loopInv_k0_t1.sl.v402 (F := Ideal) c i arg2 arg3 arg12 f2 f3 k) (fun _ b => m.top (2 * k.val + 1) b) :=
  Is2.congr (is2_readCov (cov12_1 h) 0 0 rfl (by intros; trivial)) fun a b _ _ => by simp only [Nat.zero_add]

theorem v403 (h : In c i arg2 arg3 arg4 f2 f3 f4 m) : Is2 (m := 1) (n := 2048) (loopInv_k0_t1.sl.v403 (F := Ideal) c arg11 arg13 f11 f13) (fun _ b => m.M (2 * k.val + 1) b) :=
  Is2.congr (is2_readCov (cov13_1 hm h) 0 0 rfl (by intros; trivial)) fun a b _ _ => by simp only [Nat.zero_add]

omit hm in
theorem v407 (h : In c i arg2 arg3 arg4 f2 f3 f4 m) : Is2 (m := 512) (n := 2048) (loopInv_k0_t1.sl.v407 (F := Ideal) c i arg2 arg3 arg8 f2 f3 k) (fun a b => m.S (512 * (2 * k.val + 1) + a) b) :=
  Is2.congr (is2_readCov (cov8_1 h) 0 0 rfl (by intros; trivial)) fun a b _ _ => by simp only [Nat.zero_add]

theorem max2 (h : In c i arg2 arg3 arg4 f2 f3 f4 m) : Is2 (m := 1) (n := 2048) (loopInv_k0_t1.sl.r_4 (F := Ideal) c i arg2 arg3 arg11 arg12 arg13 f2 f3 k f11 f13)
    (fun _ b => m.M (2 * k.val + 2) b) :=
  Is2.congr (Is2.maxf (v403 hm h) (v402 h)) fun a b _ _ => (m.M_full b (by have := inside (k := k) h; omega)).symm

theorem fac2 (h : In c i arg2 arg3 arg4 f2 f3 f4 m) : Is2 (m := 1) (n := 2048) (loopInv_k0_t1.sl.r_5 (F := Ideal) c i arg2 arg3 arg11 arg12 arg13 f2 f3 k f11 f13)
    (fun _ b => m.Ap (2 * k.val + 2) b) :=
  Is2.congr (Is2.exp2 (Is2.subf (v403 hm h) (max2 hm h))) fun a b _ _ => rfl

omit hm in
theorem score2 (h : In c i arg2 arg3 arg4 f2 f3 f4 m) : Is2 (m := 512) (n := 2048) (k0_pay14 (F := Ideal) (loopInv_k0_t1.sl.r_2 (F := Ideal) c i arg3 f3 k) (loopInv_k0_t1.sl.r_3 (F := Ideal) c arg2 f2))
    (fun a b => m.S (512 * (2 * k.val + 2) + a) b) :=
  Is2.congr (scores (512 * (2 * k.val + 2)) 0 rfl h (Value.off3_eq i k) rfl) fun a b _ _ => by simp only [Nat.zero_add]

omit hm in
theorem top2 (h : In c i arg2 arg3 arg4 f2 f3 f4 m) : Is2 (m := 1) (n := 2048) (k0_pay16 (F := Ideal) (loopInv_k0_t1.sl.r_2 (F := Ideal) c i arg3 f3 k) (loopInv_k0_t1.sl.r_3 (F := Ideal) c arg2 f2))
    (fun _ b => m.top (2 * k.val + 2) b) :=
  Is2.self (Is2.colmax (score2 h) _ _ _ _) _

theorem weight2 (h : In c i arg2 arg3 arg4 f2 f3 f4 m) : Is2 (m := 512) (n := 2048) (k0_pay46 (F := Ideal) (loopInv_k0_t1.sl.r_4 (F := Ideal) c i arg2 arg3 arg11 arg12 arg13 f2 f3 k f11 f13) (loopInv_k0_t1.sl.v407 (F := Ideal) c i arg2 arg3 arg8 f2 f3 k))
    (fun a b => m.Pp (2 * k.val + 2) a b) :=
  Is2.congr (Is2.self (Is2.truncf (ψ := .bf16) (Is2.exp2 (Is2.subf (v407 h) (Is2.row (max2 hm h) _))) _) _) fun a b ha _ => by
    have := inside (k := k) h
    show _ = Ideal.exp2 (m.T (512 * (2 * k.val + 1) + a) b - m.M (2 * k.val + 2) b)
    rw [m.T_full ha (by omega)]

theorem sum2 (h : In c i arg2 arg3 arg4 f2 f3 f4 m) : Is2 (m := 80) (n := 2048) (k0_pay17 (F := Ideal) (loopInv_k0_t1.sl.v385 (F := Ideal) c arg11 arg13 arg14 f11 f13)
      (loopInv_k0_t1.sl.v386 (F := Ideal) c i arg4 arg10 arg14 arg15 f4 k f10 f14 f15)
      (View.readAt (Elt Ideal) arg4.view (Rect.unit (s := S1x128x8192) (k0_off4 i k) S1x80x512.size (k0_off4_inb i k)).toLoadRect f4)
      (loopInv_k0_t1.sl.v396 (F := Ideal) c arg7 arg9 arg11 arg13 f7 f11 f13))
    (fun a b => m.accp (2 * k.val + 2) a b) :=
  Is2.congr (Is2.self (Is2.addf (Is2.mulf (Is2.row (v385 hm h) _) (v386 hm h))
    (is2_nn rfl (rows (512 * (2 * k.val)) h (Value.off4_eq i k)) (v396 hm h))) _) fun a b _ _ => (m.accp_step (2 * k.val + 1) _ _).symm

end

end Cert.ForwardIdeal.Trip

end
-- ==== Proof.FwdLoop.lean ====
/-
  The loop of the forward kernel: what the buffers hold before each trip, and that a trip keeps it.
-/
module

public import proofs.«01_k».proof.Proof.FwdTrip

@[expose] public section

set_option maxRecDepth 16384

noncomputable section

namespace Cert.ForwardIdeal.Run

open Cert.ForwardIdeal Cert.ForwardIdeal.Gen Cert.Tile Cert.FwdModel
open Cert.ForwardIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section
variable {c : Dev nD} {i : grid0.Coords}
variable {arg2 : Memref sig .tc .vmem S1x2048x128 .bf16} {arg3 : Memref sig .tc .vmem S1x8192x128 .bf16} {arg4 : Memref sig .tc .vmem S1x128x8192 .bf16} {arg7 : Memref sig .tc .vmem S512x2048 .f32} {arg8 : Memref sig .tc .vmem S512x2048 .f32} {arg9 : Memref sig .tc .vmem S512x2048 .bf16} {arg10 : Memref sig .tc .vmem S512x2048 .bf16} {arg11 : Memref sig .tc .vmem S1x2048 .f32} {arg12 : Memref sig .tc .vmem S1x2048 .f32} {arg13 : Memref sig .tc .vmem S1x2048 .f32} {arg14 : Memref sig .tc .vmem S1x2048 .f32} {arg15 : Memref sig .tc .vmem S80x2048 .f32}
variable {f2 : Buf (Elt Ideal) (arg2.view.loc (c : Thread nD τ))} {f3 : Buf (Elt Ideal) (arg3.view.loc (c : Thread nD τ))} {f4 : Buf (Elt Ideal) (arg4.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))}
variable {m : Data} {k : Fin (k0_t1_loop i).trips}

theorem end7 (h : In c i arg2 arg3 arg4 f2 f3 f4 m) : Cov2 (Val := Elt Ideal) (e := .f32) arg7.view [⟨Rect.unit ![0, 0] S512x2048.size inb_S512x2048_S512x2048_0_0, k0_pay15 (Safe.loopInv_k0_t1.sl.r_2 (F := Ideal) c i arg3 f3 k) (Safe.loopInv_k0_t1.sl.r_3 (F := Ideal) c arg2 f2)⟩] (fun _ _ => True) (fun a b => m.S (512 * (2 * k.val + 2) + a) b) :=
  cov2_cons (m := 512) (n := 2048) 0 0 rfl (Is2.congr (Is2.self (Trip.score2 h) _) fun a b _ _ => by simp only [Nat.zero_add]) cov2_none (by intro a b; intros; omega)

theorem end10 (hm : Trip.Mid c arg7 arg10 arg11 arg13 arg14 arg15 f7 f10 f11 f13 f14 f15 m (2 * k.val)) (h : In c i arg2 arg3 arg4 f2 f3 f4 m) : Cov2 (Val := Elt Ideal) (e := .bf16) arg10.view [⟨Rect.unit ![0, 0] S512x2048.size inb_S512x2048_S512x2048_0_0, k0_pay46 (Safe.loopInv_k0_t1.sl.r_4 (F := Ideal) c i arg2 arg3 arg11 arg12 arg13 f2 f3 k f11 f13) (Safe.loopInv_k0_t1.sl.v407 (F := Ideal) c i arg2 arg3 arg8 f2 f3 k)⟩] (fun _ _ => True) (fun a b => m.Pp (2 * k.val + 2) a b) :=
  cov2_cons (m := 512) (n := 2048) 0 0 rfl (Is2.congr (Trip.weight2 hm h) fun a b _ _ => by simp only [Nat.zero_add]) cov2_none (by intro a b; intros; omega)

theorem end11 (h : In c i arg2 arg3 arg4 f2 f3 f4 m) : Cov2 (Val := Elt Ideal) (e := .f32) arg11.view [⟨Rect.unit ![0, 0] S1x2048.size inb_S1x2048_S1x2048_0_0, k0_pay16 (Safe.loopInv_k0_t1.sl.r_2 (F := Ideal) c i arg3 f3 k) (Safe.loopInv_k0_t1.sl.r_3 (F := Ideal) c arg2 f2)⟩] (fun _ _ => True) (fun _ b => m.top (2 * k.val + 2) b) :=
  cov2_cons (m := 1) (n := 2048) 0 0 rfl (Is2.congr (Trip.top2 h) fun a b _ _ => by simp only [Nat.zero_add]) cov2_none (by intro a b; intros; omega)

theorem end13 (hm : Trip.Mid c arg7 arg10 arg11 arg13 arg14 arg15 f7 f10 f11 f13 f14 f15 m (2 * k.val)) (h : In c i arg2 arg3 arg4 f2 f3 f4 m) {L : List (View.Piece (Elt Ideal) S1x2048 .f32)} : Cov2 (Val := Elt Ideal) (e := .f32) arg13.view (⟨Rect.unit ![0, 0] S1x2048.size inb_S1x2048_S1x2048_0_0, k0_pay47 (Safe.loopInv_k0_t1.sl.r_4 (F := Ideal) c i arg2 arg3 arg11 arg12 arg13 f2 f3 k f11 f13)⟩ :: L) (fun _ _ => True) (fun _ b => m.M (2 * k.val + 2) b) :=
  cov2_cons (m := 1) (n := 2048) 0 0 rfl (Is2.congr (Is2.self (Trip.max2 hm h) _) fun a b _ _ => by simp only [Nat.zero_add]) cov2_none (by intro a b; intros; omega)

theorem end14 (hm : Trip.Mid c arg7 arg10 arg11 arg13 arg14 arg15 f7 f10 f11 f13 f14 f15 m (2 * k.val)) (h : In c i arg2 arg3 arg4 f2 f3 f4 m) {L : List (View.Piece (Elt Ideal) S1x2048 .f32)} : Cov2 (Val := Elt Ideal) (e := .f32) arg14.view (⟨Rect.unit ![0, 0] S1x2048.size inb_S1x2048_S1x2048_0_0, k0_pay48 (Safe.loopInv_k0_t1.sl.r_5 (F := Ideal) c i arg2 arg3 arg11 arg12 arg13 f2 f3 k f11 f13)⟩ :: L) (fun _ _ => True) (fun _ b => m.Ap (2 * k.val + 2) b) :=
  cov2_cons (m := 1) (n := 2048) 0 0 rfl (Is2.congr (Is2.self (Trip.fac2 hm h) _) fun a b _ _ => by simp only [Nat.zero_add]) cov2_none (by intro a b; intros; omega)

theorem end15 (hm : Trip.Mid c arg7 arg10 arg11 arg13 arg14 arg15 f7 f10 f11 f13 f14 f15 m (2 * k.val)) (h : In c i arg2 arg3 arg4 f2 f3 f4 m) {L : List (View.Piece (Elt Ideal) S80x2048 .f32)} : Cov2 (Val := Elt Ideal) (e := .f32) arg15.view (⟨Rect.unit ![0, 0] S80x2048.size inb_S80x2048_S80x2048_0_0, k0_pay17 (Safe.loopInv_k0_t1.sl.v385 (F := Ideal) c arg11 arg13 arg14 f11 f13) (Safe.loopInv_k0_t1.sl.v386 (F := Ideal) c i arg4 arg10 arg14 arg15 f4 k f10 f14 f15) (View.readAt (Elt Ideal) arg4.view (Rect.unit (s := S1x128x8192) (k0_off4 i k) S1x80x512.size (k0_off4_inb i k)).toLoadRect f4) (Safe.loopInv_k0_t1.sl.v396 (F := Ideal) c arg7 arg9 arg11 arg13 f7 f11 f13)⟩ :: L) (fun _ _ => True) (fun a b => m.accp (2 * k.val + 2) a b) :=
  cov2_cons (m := 80) (n := 2048) 0 0 rfl (Is2.congr (Trip.sum2 hm h) fun a b _ _ => by simp only [Nat.zero_add]) cov2_none (by intro a b; intros; omega)

end

/-- The fourteen buffers between two trips, `n` blocks of keys scored. -/
def Stage (c : Dev nD) (arg2 : Memref sig .tc .vmem S1x2048x128 .bf16) (arg3 : Memref sig .tc .vmem S1x8192x128 .bf16) (arg4 : Memref sig .tc .vmem S1x128x8192 .bf16) (arg5 : Memref sig .tc .vmem S1x2048x128 .f32) (arg6 : Memref sig .tc .vmem S1x1x2048 .f32) (arg7 : Memref sig .tc .vmem S512x2048 .f32) (arg8 : Memref sig .tc .vmem S512x2048 .f32) (arg9 : Memref sig .tc .vmem S512x2048 .bf16) (arg10 : Memref sig .tc .vmem S512x2048 .bf16) (arg11 : Memref sig .tc .vmem S1x2048 .f32) (arg12 : Memref sig .tc .vmem S1x2048 .f32) (arg13 : Memref sig .tc .vmem S1x2048 .f32) (arg14 : Memref sig .tc .vmem S1x2048 .f32) (arg15 : Memref sig .tc .vmem S80x2048 .f32)
    (f2 : Buf (Elt Ideal) (arg2.view.loc (c : Thread nD τ))) (f3 : Buf (Elt Ideal) (arg3.view.loc (c : Thread nD τ))) (f4 : Buf (Elt Ideal) (arg4.view.loc (c : Thread nD τ))) (m : Data) (n : ℕ) : sProp 𝕄 :=
  iprop(∃ (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))), ⌜Trip.Mid c arg7 arg10 arg11 arg13 arg14 arg15 f7 f10 f11 f13 f14 f15 m n⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- The loop scores two blocks of keys a trip. -/
@[sl_loop] def loop1 (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole)
    (arg1 : BitVec 32) (v27 : FVec Ideal S80x2048 .f32) (v28 : Vec Ideal S80x2048 .f32) (init : BitVec 32)
    (f2 : Buf (Elt Ideal) (arg2.view.loc (c : Thread nD τ))) (f3 : Buf (Elt Ideal) (arg3.view.loc (c : Thread nD τ))) (f4 : Buf (Elt Ideal) (arg4.view.loc (c : Thread nD τ))) (m : Data)
    (h : In c i arg2 arg3 arg4 f2 f3 f4 m) :
    Cert.ForwardIdeal.Gen.LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v27 v28 init where
  inv := fun k _ => Stage c arg2 arg3 arg4 arg5 arg6 arg7 arg8 arg9 arg10 arg11 arg12 arg13 arg14 arg15 f2 f3 f4 m (2 * k)
  step := fun k acc => by
    unfold Stage
    iintro ⟨%f5, %f6, %f7, %f8, %f9, %f10, %f11, %f12, %f13, %f14, %f15, %hm, H2, H3, H4, H5, H6, H7, H8, H9, H10, H11, H12, H13, H14, H15⟩
    unfold k0_t1_body
    sl_exec_parts
    sl_step
    iexists _, _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · ipureintro
      rw [show 2 * (k.val + 1) = 2 * k.val + 2 from by omega]
      exact
        { s := fun a b => end7 h f7 a b trivial
          p := fun a b => end10 hm h f10 a b trivial
          x := fun a b => end11 h f11 a b trivial
          mx := fun a b => end13 hm h f13 a b trivial
          a := fun a b => end14 hm h f14 a b trivial
          acc := fun a b => end15 hm h f15 a b trivial }

end Cert.ForwardIdeal.Run

end
-- ==== Proof.FwdPre.lean ====
/-
  The forward kernel around its loop: the first block's scores, the four blocks on the diagonal, and the results.
-/
module

public import proofs.«01_k».proof.Proof.FwdTrip

@[expose] public section

set_option maxRecDepth 16384

noncomputable section

namespace Cert.ForwardIdeal.Pre

open Cert.ForwardIdeal Cert.ForwardIdeal.Gen Cert.ForwardIdeal.Safe Cert.Tile Cert.FwdModel
open Cert.ForwardIdeal.Trip (Mid)
open Idealize.ShloMosaic Idealize.ShloMosaic.TcCoe

variable {c : Dev nD} {i : grid0.Coords}
variable {arg2 : Memref sig .tc .vmem S1x2048x128 .bf16} {arg3 : Memref sig .tc .vmem S1x8192x128 .bf16} {arg4 : Memref sig .tc .vmem S1x128x8192 .bf16} {arg5 : Memref sig .tc .vmem S1x2048x128 .f32} {arg6 : Memref sig .tc .vmem S1x1x2048 .f32} {arg7 : Memref sig .tc .vmem S512x2048 .f32} {arg8 : Memref sig .tc .vmem S512x2048 .f32} {arg9 : Memref sig .tc .vmem S512x2048 .bf16} {arg10 : Memref sig .tc .vmem S512x2048 .bf16} {arg11 : Memref sig .tc .vmem S1x2048 .f32} {arg12 : Memref sig .tc .vmem S1x2048 .f32} {arg13 : Memref sig .tc .vmem S1x2048 .f32} {arg14 : Memref sig .tc .vmem S1x2048 .f32} {arg15 : Memref sig .tc .vmem S80x2048 .f32}
variable {f2 : Buf (Elt Ideal) (arg2.view.loc (c : Thread nD τ))} {f3 : Buf (Elt Ideal) (arg3.view.loc (c : Thread nD τ))} {f4 : Buf (Elt Ideal) (arg4.view.loc (c : Thread nD τ))}
variable {g7 : Buf (Elt Ideal) (arg7.view.loc (c : Thread nD τ))} {g8 : Buf (Elt Ideal) (arg8.view.loc (c : Thread nD τ))} {g9 : Buf (Elt Ideal) (arg9.view.loc (c : Thread nD τ))} {g10 : Buf (Elt Ideal) (arg10.view.loc (c : Thread nD τ))} {g11 : Buf (Elt Ideal) (arg11.view.loc (c : Thread nD τ))} {g12 : Buf (Elt Ideal) (arg12.view.loc (c : Thread nD τ))} {g13 : Buf (Elt Ideal) (arg13.view.loc (c : Thread nD τ))} {g14 : Buf (Elt Ideal) (arg14.view.loc (c : Thread nD τ))} {g15 : Buf (Elt Ideal) (arg15.view.loc (c : Thread nD τ))}
variable {m : Data}

theorem one32 : Ideal.ofBits .f32 0x3F800000#32 = 1 := by
  simp [Ideal.ofBits, Ideal.ieee, -EReal.coe_mul]
  norm_num

theorem bot32 : Ideal.ofBits .f32 0xFF800000#32 = ⊥ := by
  simp [Ideal.ofBits, Ideal.ieee]

theorem two32 : Ideal.ofBits .f32 0x40000000#32 = ((2 : ℝ) : EReal) := by
  simp [Ideal.ofBits, Ideal.ieee, -EReal.coe_mul]
  norm_num

theorem off9_0 (h : In c i arg2 arg3 arg4 f2 f3 f4 m) : k0_off9 i 0#32 = ![0, 512 * (4 * m.i + 1), 0] :=
  by rw [Value.off9_0_eq, h.b]

theorem off9_1 (h : In c i arg2 arg3 arg4 f2 f3 f4 m) : k0_off9 i 1#32 = ![0, 512 * (4 * m.i + 2), 0] :=
  by rw [Value.off9_1_eq, h.b]

theorem off9_2 (h : In c i arg2 arg3 arg4 f2 f3 f4 m) : k0_off9 i 2#32 = ![0, 512 * (4 * m.i + 3), 0] :=
  by rw [Value.off9_2_eq, h.b]

theorem off10_0 (h : In c i arg2 arg3 arg4 f2 f3 f4 m) : k0_off10 i 0#32 = ![0, 48, 512 * (4 * m.i - 1)] :=
  by rw [Value.off10_0_eq, h.b]; rfl

theorem off10_1 (h : In c i arg2 arg3 arg4 f2 f3 f4 m) : k0_off10 i 1#32 = ![0, 48, 512 * (4 * m.i + 0)] :=
  by rw [Value.off10_1_eq, h.b]; rfl

theorem off10_2 (h : In c i arg2 arg3 arg4 f2 f3 f4 m) : k0_off10 i 2#32 = ![0, 48, 512 * (4 * m.i + 1)] :=
  by rw [Value.off10_2_eq, h.b]; rfl

theorem off10_3 (h : In c i arg2 arg3 arg4 f2 f3 f4 m) : k0_off10 i 3#32 = ![0, 48, 512 * (4 * m.i + 2)] :=
  by rw [Value.off10_3_eq, h.b]; rfl

theorem off10_4 (h : In c i arg2 arg3 arg4 f2 f3 f4 m) : k0_off10 i 4#32 = ![0, 48, 512 * (4 * m.i + 3)] :=
  by rw [Value.off10_4_eq, h.b]; rfl

/-- On the diagonal the mask is the triangle. -/
theorem mask {u x a b : ℕ} (ha : a < 512) (hx : x = 512 * u + b) :
    (if a ≤ b then m.S (512 * (4 * m.i + u) + a) x else ⊥) = m.T (512 * (4 * m.i + u) + a) x := by
  unfold Data.T
  by_cases hab : a ≤ b
  · rw [if_pos hab, if_pos (by omega)]
  · rw [if_neg hab, if_neg (by omega)]

/-! ### Before the first block -/

theorem score0 (h : In c i arg2 arg3 arg4 f2 f3 f4 m) : Is2 (m := 512) (n := 2048) (k0_pay38 (F := Ideal) (View.readAt (Elt Ideal) arg3.view (Rect.unit (s := S1x8192x128) ![0, 0, 0] S1x512x128.size inb_S1x8192x128_S1x512x128_0_0_0).toLoadRect f3) (View.readAt (Elt Ideal) arg2.view (Rect.unit (s := S1x2048x128) ![0, 0, 0] S1x2048x128.size inb_S1x2048x128_S1x2048x128_0_0_0).toLoadRect f2)) (fun a b => m.S (512 * 0 + a) b) :=
  Is2.congr (scores 0 0 rfl h rfl rfl) fun a b _ _ => by simp only [Nat.zero_add, Nat.mul_zero]

theorem init7 (h : In c i arg2 arg3 arg4 f2 f3 f4 m) : Cov2 arg7.view (body_run.sl.H7_1 (F := Ideal) c arg2 arg3 f2 f3) (fun _ _ => True) (fun a b => m.S (512 * 0 + a) b) :=
  cov2_cons 0 0 rfl (Is2.congr (Is2.self (score0 h) _) fun a b _ _ => by simp only [Nat.zero_add]) cov2_none (by intro a b; intros; omega)

theorem init11 (h : In c i arg2 arg3 arg4 f2 f3 f4 m) : Cov2 arg11.view (body_run.sl.H11_1 (F := Ideal) c arg2 arg3 f2 f3) (fun _ _ => True) (fun _ b => m.top 0 b) :=
  cov2_cons 0 0 rfl (Is2.congr (Is2.self (Is2.colmax (score0 h) _ _ _ _) _) fun a b _ _ => by simp only [Nat.zero_add, Data.top]) cov2_none (by intro a b; intros; omega)

theorem init10 : Cov2 arg10.view (body_run.sl.H10_1 (F := Ideal)) (fun _ _ => True) (fun _ _ => (0 : EReal)) :=
  cov2_cons (Val := Elt Ideal) (e := .bf16) 0 0 rfl (Is2.self (m := 512) (n := 2048) (F := fun _ _ => (0 : EReal)) (fun a b => Ideal.ofBits_zero_bf16) _) cov2_none (by intro a b; intros; omega)

theorem init14 : Cov2 arg14.view (body_run.sl.H14_1 (F := Ideal)) (fun _ _ => True) (fun _ _ => (1 : EReal)) :=
  cov2_cons (Val := Elt Ideal) (e := .f32) 0 0 rfl (Is2.self (m := 1) (n := 2048) (F := fun _ _ => (1 : EReal)) (fun a b => one32) _) cov2_none (by intro a b; intros; omega)

theorem init13 : Cov2 arg13.view (body_run.sl.H13_1 (F := Ideal)) (fun _ _ => True) (fun _ _ => (⊥ : EReal)) :=
  cov2_cons (Val := Elt Ideal) (e := .f32) 0 0 rfl (Is2.self (m := 1) (n := 2048) (F := fun _ _ => (⊥ : EReal)) (fun a b => bot32) _) cov2_none (by intro a b; intros; omega)

theorem init15 : Cov2 arg15.view (body_run.sl.H15_1 (F := Ideal)) (fun _ _ => True) (fun _ _ => (0 : EReal)) :=
  cov2_cons (Val := Elt Ideal) (e := .f32) 0 0 rfl (Is2.self (m := 80) (n := 2048) (F := fun _ _ => (0 : EReal)) (fun a b => Ideal.ofBits_zero_f32) _) cov2_none (by intro a b; intros; omega)

/-! ### What the loop leaves -/

theorem ld7 (hm : Mid c arg7 arg10 arg11 arg13 arg14 arg15 g7 g10 g11 g13 g14 g15 m (4 * m.i)) : Is2 (m := 512) (n := 2048) (View.readAt (Elt Ideal) arg7.view (Rect.unit ![0, 0] S512x2048.size inb_S512x2048_S512x2048_0_0).toLoadRect g7) (fun a b => m.S (512 * (4 * m.i) + a) b) :=
  Is2.congr (is2_readAt (F := fun a b => m.S (512 * (4 * m.i) + a) b) _ _ 0 0 rfl (fun a b _ _ _ _ => hm.s a b)) fun a b _ _ => by simp only [Nat.zero_add]

theorem ld10 (hm : Mid c arg7 arg10 arg11 arg13 arg14 arg15 g7 g10 g11 g13 g14 g15 m (4 * m.i)) : Is2 (m := 512) (n := 2048) (View.readAt (Elt Ideal) arg10.view (Rect.unit ![0, 0] S512x2048.size inb_S512x2048_S512x2048_0_0).toLoadRect g10) (fun a b => m.Pp (4 * m.i) a b) :=
  Is2.congr (is2_readAt (F := fun a b => m.Pp (4 * m.i) a b) _ _ 0 0 rfl (fun a b _ _ _ _ => hm.p a b)) fun a b _ _ => by simp only [Nat.zero_add]

theorem ld13 (hm : Mid c arg7 arg10 arg11 arg13 arg14 arg15 g7 g10 g11 g13 g14 g15 m (4 * m.i)) : Is2 (m := 1) (n := 2048) (View.readAt (Elt Ideal) arg13.view (Rect.unit ![0, 0] S1x2048.size inb_S1x2048_S1x2048_0_0).toLoadRect g13) (fun _ b => m.M (4 * m.i) b) :=
  Is2.congr (is2_readAt (F := fun _ b => m.M (4 * m.i) b) _ _ 0 0 rfl (fun a b _ _ _ _ => hm.mx a b)) fun a b _ _ => by simp only [Nat.zero_add]

theorem ld14 (hm : Mid c arg7 arg10 arg11 arg13 arg14 arg15 g7 g10 g11 g13 g14 g15 m (4 * m.i)) : Is2 (m := 1) (n := 2048) (View.readAt (Elt Ideal) arg14.view (Rect.unit ![0, 0] S1x2048.size inb_S1x2048_S1x2048_0_0).toLoadRect g14) (fun _ b => m.Ap (4 * m.i) b) :=
  Is2.congr (is2_readAt (F := fun _ b => m.Ap (4 * m.i) b) _ _ 0 0 rfl (fun a b _ _ _ _ => hm.a a b)) fun a b _ _ => by simp only [Nat.zero_add]

theorem ld15 (hm : Mid c arg7 arg10 arg11 arg13 arg14 arg15 g7 g10 g11 g13 g14 g15 m (4 * m.i)) : Is2 (m := 80) (n := 2048) (View.readAt (Elt Ideal) arg15.view (Rect.unit ![0, 0] S80x2048.size inb_S80x2048_S80x2048_0_0).toLoadRect g15) (fun a b => m.accp (4 * m.i) a b) :=
  Is2.congr (is2_readAt (F := fun a b => m.accp (4 * m.i) a b) _ _ 0 0 rfl (fun a b _ _ _ _ => hm.acc a b)) fun a b _ _ => by simp only [Nat.zero_add]

/-! ### The scores of the diagonal's later blocks -/

theorem cov_H8_1 (h : In c i arg2 arg3 arg4 f2 f3 f4 m) : Cov2 arg8.view (body_run.sl.H8_1 (F := Ideal) c i arg2 arg3 f2 f3) (fun _ b => 512 ≤ b) (fun a b => m.S (512 * (4 * m.i + 1) + a) b) :=
  cov2_cons (R' := fun _ _ => False) 0 512 rfl (Is2.congr (Is2.self (scores (512 * (4 * m.i + 1)) 512 rfl h (off9_0 h) rfl) _) fun a b _ _ => by simp only [Nat.zero_add])
    (fun _ _ _ hr => hr.elim) (by intro a b; intros; omega)

theorem cov_H7_1_1 (h : In c i arg2 arg3 arg4 f2 f3 f4 m) : Cov2 arg7.view (body_run.sl.H7_1_1 (F := Ideal) c i arg2 arg3 f2 f3) (fun _ b => 1024 ≤ b) (fun a b => m.S (512 * (4 * m.i + 2) + a) b) :=
  cov2_cons (R' := fun _ _ => False) 0 1024 rfl (Is2.congr (Is2.self (scores (512 * (4 * m.i + 2)) 1024 rfl h (off9_1 h) rfl) _) fun a b _ _ => by simp only [Nat.zero_add])
    (fun _ _ _ hr => hr.elim) (by intro a b; intros; omega)

theorem cov_H8_2 (h : In c i arg2 arg3 arg4 f2 f3 f4 m) : Cov2 arg8.view (body_run.sl.H8_2 (F := Ideal) c i arg2 arg3 f2 f3) (fun _ b => 1536 ≤ b) (fun a b => m.S (512 * (4 * m.i + 3) + a) b) :=
  cov2_cons (R' := fun _ _ => False) 0 1536 rfl (Is2.congr (Is2.self (scores (512 * (4 * m.i + 3)) 1536 rfl h (off9_2 h) rfl) _) fun a b _ _ => by simp only [Nat.zero_add])
    (fun _ _ _ hr => hr.elim) (by intro a b; intros; omega)

theorem v133 (h : In c i arg2 arg3 arg4 f2 f3 f4 m) : Is2 (m := 512) (n := 1536) (body_run.sl.v133 (F := Ideal) c i arg2 arg3 arg8 f2 f3) (fun a b => m.S (512 * (4 * m.i + 1) + a) (512 + b)) :=
  Is2.congr (is2_readCov (cov_H8_1 h) 0 512 rfl (by intro a b; intros; omega)) fun a b _ _ => by simp only [Nat.zero_add]

theorem v195 (h : In c i arg2 arg3 arg4 f2 f3 f4 m) : Is2 (m := 512) (n := 1024) (body_run.sl.v195 (F := Ideal) c i arg2 arg3 arg7 f2 f3) (fun a b => m.S (512 * (4 * m.i + 2) + a) (1024 + b)) :=
  Is2.congr (is2_readCov (cov_H7_1_1 h) 0 1024 rfl (by intro a b; intros; omega)) fun a b _ _ => by simp only [Nat.zero_add]

theorem v244 (h : In c i arg2 arg3 arg4 f2 f3 f4 m) : Is2 (m := 512) (n := 512) (body_run.sl.v244 (F := Ideal) c i arg2 arg3 arg8 f2 f3) (fun a b => m.S (512 * (4 * m.i + 3) + a) (1536 + b)) :=
  Is2.congr (is2_readCov (cov_H8_2 h) 0 1536 rfl (by intro a b; intros; omega)) fun a b _ _ => by simp only [Nat.zero_add]

/-! ### Four blocks on the diagonal -/

theorem cov_H15_1_1 (h : In c i arg2 arg3 arg4 f2 f3 f4 m) (hm : Mid c arg7 arg10 arg11 arg13 arg14 arg15 g7 g10 g11 g13 g14 g15 m (4 * m.i)) : Cov2 arg15.view (body_run.sl.H15_1_1 (F := Ideal) c i arg4 arg10 arg14 arg15 f4 g10 g14 g15) (fun _ _ => True) (fun a b => m.acc (4 * m.i) a b) :=
  cov2_cons 0 0 rfl (Is2.congr (Is2.self (Is2.addf (Is2.mulf (Is2.row (ld14 hm) _) (ld15 hm)) (is2_nn rfl (rows (512 * (4 * m.i - 1)) h (off10_0 h)) (ld10 hm))) _) fun a b _ _ => by
    simp only [Nat.zero_add]; exact (m.accp_step _ _ _).symm) cov2_none (by intro a b; intros; omega)

theorem v116 (h : In c i arg2 arg3 arg4 f2 f3 f4 m) (hm : Mid c arg7 arg10 arg11 arg13 arg14 arg15 g7 g10 g11 g13 g14 g15 m (4 * m.i)) : Is2 (m := 80) (n := 2048) (body_run.sl.v116 (F := Ideal) c i arg4 arg10 arg14 arg15 f4 g10 g14 g15) (fun a b => m.acc (4 * m.i) a b) :=
  Is2.congr (is2_readCov (cov_H15_1_1 h hm) 0 0 rfl (by intros; trivial)) fun a b _ _ => by simp only [Nat.zero_add]

theorem max0 (h : In c i arg2 arg3 arg4 f2 f3 f4 m) (hm : Mid c arg7 arg10 arg11 arg13 arg14 arg15 g7 g10 g11 g13 g14 g15 m (4 * m.i)) : Is2 (m := 1) (n := 2048) (body_run.sl.r_2 (F := Ideal) c arg7 arg13 g7 g13) (fun _ b => m.M (4 * m.i + 1) b) :=
  Is2.congr (Is2.maxf (ld13 hm) (Is2.colmax (Is2.congr (G := fun a b => m.T (512 * (4 * m.i) + a) b) (Is2.below (ld7 hm) _ _ (by omega) (by omega)) fun a b ha _ => mask (u := 0) ha (by omega)) _ _ _ _)) fun a b _ _ => rfl

theorem fac0 (h : In c i arg2 arg3 arg4 f2 f3 f4 m) (hm : Mid c arg7 arg10 arg11 arg13 arg14 arg15 g7 g10 g11 g13 g14 g15 m (4 * m.i)) : Is2 (m := 1) (n := 2048) (body_run.sl.r_3 (F := Ideal) c arg7 arg13 g7 g13) (fun _ b => m.A (4 * m.i) b) :=
  Is2.congr (Is2.exp2 (Is2.subf (ld13 hm) (max0 h hm))) fun a b _ _ => rfl

theorem cov_H9_1 (h : In c i arg2 arg3 arg4 f2 f3 f4 m) (hm : Mid c arg7 arg10 arg11 arg13 arg14 arg15 g7 g10 g11 g13 g14 g15 m (4 * m.i)) : Cov2 arg9.view (body_run.sl.H9_1 (F := Ideal) c arg7 arg13 g7 g13) (fun _ b => 0 ≤ b) (fun a b => m.P (4 * m.i) a b) :=
  cov2_cons (R' := fun _ _ => False) 0 0 rfl (Is2.congr (Is2.self (Is2.truncf (ψ := .bf16) (Is2.exp2 (Is2.subf (Is2.congr (G := fun a b => m.T (512 * (4 * m.i) + a) b) (Is2.below (ld7 hm) _ _ (by omega) (by omega)) fun a b ha _ => mask (u := 0) ha (by omega)) (Is2.row (max0 h hm) _))) _) _) fun a b _ _ => by
    simp only [Nat.zero_add]; rfl)
    (fun _ _ _ hr => hr.elim) (by intro a b; intros; omega)

theorem cov_H13_1_1 (h : In c i arg2 arg3 arg4 f2 f3 f4 m) (hm : Mid c arg7 arg10 arg11 arg13 arg14 arg15 g7 g10 g11 g13 g14 g15 m (4 * m.i)) : Cov2 arg13.view (body_run.sl.H13_1_1 (F := Ideal) c arg7 arg13 g7 g13) (fun _ _ => True) (fun _ b => m.M (4 * m.i + 1 + min 0 (b / 512)) b) :=
  cov2_cons 0 0 rfl (Is2.congr (Is2.self (max0 h hm) _) fun a b _ _ => by simp only [Nat.zero_add, Nat.zero_min, Nat.add_zero]) cov2_none (by intro a b; intros; omega)

theorem v127 (h : In c i arg2 arg3 arg4 f2 f3 f4 m) (hm : Mid c arg7 arg10 arg11 arg13 arg14 arg15 g7 g10 g11 g13 g14 g15 m (4 * m.i)) : Is2 (m := 512) (n := 2048) (body_run.sl.v127 (F := Ideal) c arg7 arg9 arg13 g7 g13) (fun a b => m.P (4 * m.i) a b) :=
  Is2.congr (is2_readCov (cov_H9_1 h hm) 0 0 rfl (by intro a b; intros; omega)) fun a b _ _ => by simp only [Nat.zero_add]

theorem cov_H15_2 (h : In c i arg2 arg3 arg4 f2 f3 f4 m) (hm : Mid c arg7 arg10 arg11 arg13 arg14 arg15 g7 g10 g11 g13 g14 g15 m (4 * m.i)) : Cov2 arg15.view (body_run.sl.H15_2 (F := Ideal) c i arg4 arg7 arg9 arg10 arg13 arg14 arg15 f4 g7 g10 g13 g14 g15) (fun _ _ => True) (fun a b => m.acc (4 * m.i + 1 + min 0 (b / 512)) a b) :=
  cov2_cons 0 0 rfl (Is2.congr (Is2.self (Is2.addf (Is2.mulf (Is2.row (fac0 h hm) _) (v116 h hm)) (is2_nn rfl (rows (512 * (4 * m.i + 0)) h (off10_1 h)) (v127 h hm))) _) fun a b _ _ => by simp only [Nat.zero_add, Nat.zero_min, Nat.add_zero]; rfl)
    (cov_H15_1_1 h hm |>.congr (R' := fun _ _ => False) (by intros; trivial) (fun _ _ _ _ hr => hr.elim)) (by intro a b; intros; omega)

theorem v143 (h : In c i arg2 arg3 arg4 f2 f3 f4 m) (hm : Mid c arg7 arg10 arg11 arg13 arg14 arg15 g7 g10 g11 g13 g14 g15 m (4 * m.i)) : Is2 (m := 1) (n := 1536) (body_run.sl.v143 (F := Ideal) c arg7 arg13 g7 g13) (fun _ b => m.M (4 * m.i + 1) (512 + b)) :=
  Is2.congr (is2_readCov (cov_H13_1_1 h hm) 0 512 rfl (by intros; trivial)) fun a b _ hb => by rw [show 4 * m.i + 1 + min 0 ((512 + b) / 512) = 4 * m.i + 1 from by omega]

theorem max1 (h : In c i arg2 arg3 arg4 f2 f3 f4 m) (hm : Mid c arg7 arg10 arg11 arg13 arg14 arg15 g7 g10 g11 g13 g14 g15 m (4 * m.i)) : Is2 (m := 1) (n := 1536) (k0_pay62 (F := Ideal) (body_run.sl.v133 (F := Ideal) c i arg2 arg3 arg8 f2 f3) (body_run.sl.v143 (F := Ideal) c arg7 arg13 g7 g13)) (fun _ b => m.M (4 * m.i + 2) (512 + b)) :=
  Is2.congr (Is2.maxf (v143 h hm) (Is2.colmax (Is2.congr (G := fun a b => m.T (512 * (4 * m.i + 1) + a) (512 + b)) (Is2.below (v133 h) _ _ (by omega) (by omega)) fun a b ha _ => mask (u := 1) ha (by omega)) _ _ _ _)) fun a b _ _ => rfl

theorem fac1 (h : In c i arg2 arg3 arg4 f2 f3 f4 m) (hm : Mid c arg7 arg10 arg11 arg13 arg14 arg15 g7 g10 g11 g13 g14 g15 m (4 * m.i)) : Is2 (m := 1) (n := 1536) (body_run.sl.r_6 (F := Ideal) c i arg2 arg3 arg7 arg8 arg13 f2 f3 g7 g13) (fun _ b => m.A (4 * m.i + 1) (512 + b)) :=
  Is2.congr (Is2.exp2 (Is2.subf (v143 h hm) (max1 h hm))) fun a b _ _ => rfl

theorem cov_H10_1_1 (h : In c i arg2 arg3 arg4 f2 f3 f4 m) (hm : Mid c arg7 arg10 arg11 arg13 arg14 arg15 g7 g10 g11 g13 g14 g15 m (4 * m.i)) : Cov2 arg10.view (body_run.sl.H10_1_1 (F := Ideal) c i arg2 arg3 arg7 arg8 arg13 f2 f3 g7 g13) (fun _ b => 512 ≤ b) (fun a b => m.P (4 * m.i + 1) a b) :=
  cov2_cons (R' := fun _ _ => False) 0 512 rfl (Is2.congr (Is2.self (Is2.truncf (ψ := .bf16) (Is2.exp2 (Is2.subf (Is2.congr (G := fun a b => m.T (512 * (4 * m.i + 1) + a) (512 + b)) (Is2.below (v133 h) _ _ (by omega) (by omega)) fun a b ha _ => mask (u := 1) ha (by omega)) (Is2.row (max1 h hm) _))) _) _) fun a b _ _ => by
    simp only [Nat.zero_add]; rfl)
    (fun _ _ _ hr => hr.elim) (by intro a b; intros; omega)

theorem cov_H13_2 (h : In c i arg2 arg3 arg4 f2 f3 f4 m) (hm : Mid c arg7 arg10 arg11 arg13 arg14 arg15 g7 g10 g11 g13 g14 g15 m (4 * m.i)) : Cov2 arg13.view (body_run.sl.H13_2 (F := Ideal) c i arg2 arg3 arg7 arg8 arg13 f2 f3 g7 g13) (fun _ _ => True) (fun _ b => m.M (4 * m.i + 1 + min 1 (b / 512)) b) :=
  cov2_cons (R' := fun _ b => b < 512) 0 512 rfl (Is2.congr (Is2.self (max1 h hm) _) fun a b _ _ => by
      rw [show 4 * m.i + 1 + min 1 ((512 + b) / 512) = 4 * m.i + 2 from by omega])
    ((cov_H13_1_1 h hm).congr (by intros; trivial) fun a b _ _ hb => by
      rw [show 4 * m.i + 1 + min 1 (b / 512) = 4 * m.i + 1 + min 0 (b / 512) from by omega]) (by intro a b; intros; omega)

theorem v189 (h : In c i arg2 arg3 arg4 f2 f3 f4 m) (hm : Mid c arg7 arg10 arg11 arg13 arg14 arg15 g7 g10 g11 g13 g14 g15 m (4 * m.i)) : Is2 (m := 512) (n := 1536) (body_run.sl.v189 (F := Ideal) c i arg2 arg3 arg7 arg8 arg10 arg13 f2 f3 g7 g13) (fun a b => m.P (4 * m.i + 1) a (512 + b)) :=
  Is2.congr (is2_readCov (cov_H10_1_1 h hm) 0 512 rfl (by intro a b; intros; omega)) fun a b _ _ => by simp only [Nat.zero_add]

theorem v178 (h : In c i arg2 arg3 arg4 f2 f3 f4 m) (hm : Mid c arg7 arg10 arg11 arg13 arg14 arg15 g7 g10 g11 g13 g14 g15 m (4 * m.i)) : Is2 (m := 80) (n := 1536) (body_run.sl.v178 (F := Ideal) c i arg4 arg7 arg9 arg10 arg13 arg14 arg15 f4 g7 g10 g13 g14 g15) (fun a b => m.acc (4 * m.i + 1) a (512 + b)) :=
  Is2.congr (is2_readCov (cov_H15_2 h hm) 0 512 rfl (by intros; trivial)) fun a b _ hb => by rw [show 4 * m.i + 1 + min 0 ((512 + b) / 512) = 4 * m.i + 1 from by omega]; simp only [Nat.zero_add]

theorem cov_H15_3 (h : In c i arg2 arg3 arg4 f2 f3 f4 m) (hm : Mid c arg7 arg10 arg11 arg13 arg14 arg15 g7 g10 g11 g13 g14 g15 m (4 * m.i)) : Cov2 arg15.view (body_run.sl.H15_3 (F := Ideal) c i arg2 arg3 arg4 arg7 arg8 arg9 arg10 arg13 arg14 arg15 f2 f3 f4 g7 g10 g13 g14 g15) (fun _ _ => True) (fun a b => m.acc (4 * m.i + 1 + min 1 (b / 512)) a b) :=
  cov2_cons (R' := fun _ b => b < 512) 0 512 rfl (Is2.congr (Is2.self (Is2.addf (Is2.mulf (Is2.row (fac1 h hm) _) (v178 h hm)) (is2_nn rfl (rows (512 * (4 * m.i + 1)) h (off10_2 h)) (v189 h hm))) _) fun a b _ _ => by
      rw [show 4 * m.i + 1 + min 1 ((512 + b) / 512) = 4 * m.i + 1 + 1 from by omega]; simp only [Nat.zero_add]; rfl)
    ((cov_H15_2 h hm).congr (by intros; trivial) fun a b _ _ hb => by
      rw [show 4 * m.i + 1 + min 1 (b / 512) = 4 * m.i + 1 + min 0 (b / 512) from by omega]) (by intro a b; intros; omega)

theorem v205 (h : In c i arg2 arg3 arg4 f2 f3 f4 m) (hm : Mid c arg7 arg10 arg11 arg13 arg14 arg15 g7 g10 g11 g13 g14 g15 m (4 * m.i)) : Is2 (m := 1) (n := 1024) (body_run.sl.v205 (F := Ideal) c i arg2 arg3 arg7 arg8 arg13 f2 f3 g7 g13) (fun _ b => m.M (4 * m.i + 2) (1024 + b)) :=
  Is2.congr (is2_readCov (cov_H13_2 h hm) 0 1024 rfl (by intros; trivial)) fun a b _ hb => by rw [show 4 * m.i + 1 + min 1 ((1024 + b) / 512) = 4 * m.i + 2 from by omega]

theorem mask2 (h : In c i arg2 arg3 arg4 f2 f3 f4 m) : Is2 (m := 512) (n := 1024) (body_run.sl.r_7 (F := Ideal) c i arg2 arg3 arg7 f2 f3) (fun a b => m.T (512 * (4 * m.i + 2) + a) (1024 + b)) :=
  Is2.congr (G := fun a b => m.T (512 * (4 * m.i + 2) + a) (1024 + b)) (Is2.below (v195 h) _ _ (by omega) (by omega)) fun a b ha _ => mask (u := 2) ha (by omega)

theorem max2 (h : In c i arg2 arg3 arg4 f2 f3 f4 m) (hm : Mid c arg7 arg10 arg11 arg13 arg14 arg15 g7 g10 g11 g13 g14 g15 m (4 * m.i)) : Is2 (m := 1) (n := 1024) (k0_pay69 (F := Ideal) (body_run.sl.r_7 (F := Ideal) c i arg2 arg3 arg7 f2 f3) (body_run.sl.v205 (F := Ideal) c i arg2 arg3 arg7 arg8 arg13 f2 f3 g7 g13)) (fun _ b => m.M (4 * m.i + 3) (1024 + b)) :=
  Is2.congr (Is2.maxf (v205 h hm) (Is2.colmax (mask2 h) _ _ _ _)) fun a b _ _ => rfl

theorem cov_H9_2 (h : In c i arg2 arg3 arg4 f2 f3 f4 m) (hm : Mid c arg7 arg10 arg11 arg13 arg14 arg15 g7 g10 g11 g13 g14 g15 m (4 * m.i)) : Cov2 arg9.view (body_run.sl.H9_2 (F := Ideal) c i arg2 arg3 arg7 arg8 arg13 f2 f3 g7 g13) (fun _ b => 1024 ≤ b) (fun a b => m.P (4 * m.i + 2) a b) :=
  cov2_cons (R' := fun _ _ => False) 0 1024 rfl (Is2.congr (Is2.self (Is2.truncf (ψ := .bf16) (Is2.exp2 (Is2.subf (Is2.congr (G := fun a b => m.T (512 * (4 * m.i + 2) + a) (1024 + b)) (Is2.below (v195 h) _ _ (by omega) (by omega)) fun a b ha _ => mask (u := 2) ha (by omega)) (Is2.row (max2 h hm) _))) _) _) fun a b _ _ => by
    simp only [Nat.zero_add]; rfl)
    (fun _ _ _ hr => hr.elim) (by intro a b; intros; omega)

theorem cov_H13_3 (h : In c i arg2 arg3 arg4 f2 f3 f4 m) (hm : Mid c arg7 arg10 arg11 arg13 arg14 arg15 g7 g10 g11 g13 g14 g15 m (4 * m.i)) : Cov2 arg13.view (body_run.sl.H13_3 (F := Ideal) c i arg2 arg3 arg7 arg8 arg13 f2 f3 g7 g13) (fun _ _ => True) (fun _ b => m.M (4 * m.i + 1 + min 2 (b / 512)) b) :=
  cov2_cons (R' := fun _ b => b < 1024) 0 1024 rfl (Is2.congr (Is2.self (max2 h hm) _) fun a b _ _ => by
      rw [show 4 * m.i + 1 + min 2 ((1024 + b) / 512) = 4 * m.i + 3 from by omega])
    ((cov_H13_2 h hm).congr (by intros; trivial) fun a b _ _ hb => by
      rw [show 4 * m.i + 1 + min 2 (b / 512) = 4 * m.i + 1 + min 1 (b / 512) from by omega]) (by intro a b; intros; omega)

theorem v238 (h : In c i arg2 arg3 arg4 f2 f3 f4 m) (hm : Mid c arg7 arg10 arg11 arg13 arg14 arg15 g7 g10 g11 g13 g14 g15 m (4 * m.i)) : Is2 (m := 512) (n := 1024) (body_run.sl.v238 (F := Ideal) c i arg2 arg3 arg7 arg8 arg9 arg13 f2 f3 g7 g13) (fun a b => m.P (4 * m.i + 2) a (1024 + b)) :=
  Is2.congr (is2_readCov (cov_H9_2 h hm) 0 1024 rfl (by intro a b; intros; omega)) fun a b _ _ => by simp only [Nat.zero_add]

theorem v227 (h : In c i arg2 arg3 arg4 f2 f3 f4 m) (hm : Mid c arg7 arg10 arg11 arg13 arg14 arg15 g7 g10 g11 g13 g14 g15 m (4 * m.i)) : Is2 (m := 80) (n := 1024) (body_run.sl.v227 (F := Ideal) c i arg2 arg3 arg4 arg7 arg8 arg9 arg10 arg13 arg14 arg15 f2 f3 f4 g7 g10 g13 g14 g15) (fun a b => m.acc (4 * m.i + 2) a (1024 + b)) :=
  Is2.congr (is2_readCov (cov_H15_3 h hm) 0 1024 rfl (by intros; trivial)) fun a b _ hb => by rw [show 4 * m.i + 1 + min 1 ((1024 + b) / 512) = 4 * m.i + 2 from by omega]; simp only [Nat.zero_add]

theorem cov_H15_4 (h : In c i arg2 arg3 arg4 f2 f3 f4 m) (hm : Mid c arg7 arg10 arg11 arg13 arg14 arg15 g7 g10 g11 g13 g14 g15 m (4 * m.i)) : Cov2 arg15.view (body_run.sl.H15_4 (F := Ideal) c i arg2 arg3 arg4 arg7 arg8 arg9 arg10 arg13 arg14 arg15 f2 f3 f4 g7 g10 g13 g14 g15) (fun _ _ => True) (fun a b => m.acc (4 * m.i + 1 + min 2 (b / 512)) a b) :=
  cov2_cons (R' := fun _ b => b < 1024) 0 1024 rfl (Is2.congr (Is2.self (Is2.addf (Is2.mulf (Is2.row (Is2.congr (G := fun _ b => m.A (4 * m.i + 2) (1024 + b)) (Is2.exp2 (Is2.subf (v205 h hm) (max2 h hm))) fun a b _ _ => rfl) _) (v227 h hm)) (is2_nn rfl (rows (512 * (4 * m.i + 2)) h (off10_3 h)) (v238 h hm))) _) fun a b _ _ => by
      rw [show 4 * m.i + 1 + min 2 ((1024 + b) / 512) = 4 * m.i + 2 + 1 from by omega]; simp only [Nat.zero_add]; rfl)
    ((cov_H15_3 h hm).congr (by intros; trivial) fun a b _ _ hb => by
      rw [show 4 * m.i + 1 + min 2 (b / 512) = 4 * m.i + 1 + min 1 (b / 512) from by omega]) (by intro a b; intros; omega)

theorem v254 (h : In c i arg2 arg3 arg4 f2 f3 f4 m) (hm : Mid c arg7 arg10 arg11 arg13 arg14 arg15 g7 g10 g11 g13 g14 g15 m (4 * m.i)) : Is2 (m := 1) (n := 512) (body_run.sl.v254 (F := Ideal) c i arg2 arg3 arg7 arg8 arg13 f2 f3 g7 g13) (fun _ b => m.M (4 * m.i + 3) (1536 + b)) :=
  Is2.congr (is2_readCov (cov_H13_3 h hm) 0 1536 rfl (by intros; trivial)) fun a b _ hb => by rw [show 4 * m.i + 1 + min 2 ((1536 + b) / 512) = 4 * m.i + 3 from by omega]

theorem max3 (h : In c i arg2 arg3 arg4 f2 f3 f4 m) (hm : Mid c arg7 arg10 arg11 arg13 arg14 arg15 g7 g10 g11 g13 g14 g15 m (4 * m.i)) : Is2 (m := 1) (n := 512) (k0_pay75 (F := Ideal) (body_run.sl.v244 (F := Ideal) c i arg2 arg3 arg8 f2 f3) (body_run.sl.v254 (F := Ideal) c i arg2 arg3 arg7 arg8 arg13 f2 f3 g7 g13)) (fun _ b => m.M (4 * m.i + 4) (1536 + b)) :=
  Is2.congr (Is2.maxf (v254 h hm) (Is2.colmax (Is2.congr (G := fun a b => m.T (512 * (4 * m.i + 3) + a) (1536 + b)) (Is2.below (v244 h) _ _ (by omega) (by omega)) fun a b ha _ => mask (u := 3) ha (by omega)) _ _ _ _)) fun a b _ _ => rfl

theorem fac3 (h : In c i arg2 arg3 arg4 f2 f3 f4 m) (hm : Mid c arg7 arg10 arg11 arg13 arg14 arg15 g7 g10 g11 g13 g14 g15 m (4 * m.i)) : Is2 (m := 1) (n := 512) (body_run.sl.r_10 (F := Ideal) c i arg2 arg3 arg7 arg8 arg13 f2 f3 g7 g13) (fun _ b => m.A (4 * m.i + 3) (1536 + b)) :=
  Is2.congr (Is2.exp2 (Is2.subf (v254 h hm) (max3 h hm))) fun a b _ _ => rfl

theorem cov_H10_2 (h : In c i arg2 arg3 arg4 f2 f3 f4 m) (hm : Mid c arg7 arg10 arg11 arg13 arg14 arg15 g7 g10 g11 g13 g14 g15 m (4 * m.i)) : Cov2 arg10.view (body_run.sl.H10_2 (F := Ideal) c i arg2 arg3 arg7 arg8 arg13 f2 f3 g7 g13) (fun _ b => 1536 ≤ b) (fun a b => m.P (4 * m.i + 3) a b) :=
  cov2_cons (R' := fun _ _ => False) 0 1536 rfl (Is2.congr (Is2.self (Is2.truncf (ψ := .bf16) (Is2.exp2 (Is2.subf (Is2.congr (G := fun a b => m.T (512 * (4 * m.i + 3) + a) (1536 + b)) (Is2.below (v244 h) _ _ (by omega) (by omega)) fun a b ha _ => mask (u := 3) ha (by omega)) (Is2.row (max3 h hm) _))) _) _) fun a b _ _ => by
    simp only [Nat.zero_add]; rfl)
    (fun _ _ _ hr => hr.elim) (by intro a b; intros; omega)

theorem cov_H13_4 (h : In c i arg2 arg3 arg4 f2 f3 f4 m) (hm : Mid c arg7 arg10 arg11 arg13 arg14 arg15 g7 g10 g11 g13 g14 g15 m (4 * m.i)) : Cov2 arg13.view (body_run.sl.H13_4 (F := Ideal) c i arg2 arg3 arg7 arg8 arg13 f2 f3 g7 g13) (fun _ _ => True) (fun _ b => m.M (4 * m.i + 1 + min 3 (b / 512)) b) :=
  cov2_cons (R' := fun _ b => b < 1536) 0 1536 rfl (Is2.congr (Is2.self (max3 h hm) _) fun a b _ _ => by
      rw [show 4 * m.i + 1 + min 3 ((1536 + b) / 512) = 4 * m.i + 4 from by omega])
    ((cov_H13_3 h hm).congr (by intros; trivial) fun a b _ _ hb => by
      rw [show 4 * m.i + 1 + min 3 (b / 512) = 4 * m.i + 1 + min 2 (b / 512) from by omega]) (by intro a b; intros; omega)

theorem v287 (h : In c i arg2 arg3 arg4 f2 f3 f4 m) (hm : Mid c arg7 arg10 arg11 arg13 arg14 arg15 g7 g10 g11 g13 g14 g15 m (4 * m.i)) : Is2 (m := 512) (n := 512) (body_run.sl.v287 (F := Ideal) c i arg2 arg3 arg7 arg8 arg10 arg13 f2 f3 g7 g13) (fun a b => m.P (4 * m.i + 3) a (1536 + b)) :=
  Is2.congr (is2_readCov (cov_H10_2 h hm) 0 1536 rfl (by intro a b; intros; omega)) fun a b _ _ => by simp only [Nat.zero_add]

theorem v276 (h : In c i arg2 arg3 arg4 f2 f3 f4 m) (hm : Mid c arg7 arg10 arg11 arg13 arg14 arg15 g7 g10 g11 g13 g14 g15 m (4 * m.i)) : Is2 (m := 80) (n := 512) (body_run.sl.v276 (F := Ideal) c i arg2 arg3 arg4 arg7 arg8 arg9 arg10 arg13 arg14 arg15 f2 f3 f4 g7 g10 g13 g14 g15) (fun a b => m.acc (4 * m.i + 3) a (1536 + b)) :=
  Is2.congr (is2_readCov (cov_H15_4 h hm) 0 1536 rfl (by intros; trivial)) fun a b _ hb => by rw [show 4 * m.i + 1 + min 2 ((1536 + b) / 512) = 4 * m.i + 3 from by omega]; simp only [Nat.zero_add]

theorem cov_H15_5 (h : In c i arg2 arg3 arg4 f2 f3 f4 m) (hm : Mid c arg7 arg10 arg11 arg13 arg14 arg15 g7 g10 g11 g13 g14 g15 m (4 * m.i)) : Cov2 arg15.view (body_run.sl.H15_5 (F := Ideal) c i arg2 arg3 arg4 arg7 arg8 arg9 arg10 arg13 arg14 arg15 f2 f3 f4 g7 g10 g13 g14 g15) (fun _ _ => True) (fun a b => m.acc (4 * m.i + 1 + min 3 (b / 512)) a b) :=
  cov2_cons (R' := fun _ b => b < 1536) 0 1536 rfl (Is2.congr (Is2.self (Is2.addf (Is2.mulf (Is2.row (fac3 h hm) _) (v276 h hm)) (is2_nn rfl (rows (512 * (4 * m.i + 3)) h (off10_4 h)) (v287 h hm))) _) fun a b _ _ => by
      rw [show 4 * m.i + 1 + min 3 ((1536 + b) / 512) = 4 * m.i + 3 + 1 from by omega]; simp only [Nat.zero_add]; rfl)
    ((cov_H15_4 h hm).congr (by intros; trivial) fun a b _ _ hb => by
      rw [show 4 * m.i + 1 + min 3 (b / 512) = 4 * m.i + 1 + min 2 (b / 512) from by omega]) (by intro a b; intros; omega)

/-! ### The results -/

theorem v293 (h : In c i arg2 arg3 arg4 f2 f3 f4 m) (hm : Mid c arg7 arg10 arg11 arg13 arg14 arg15 g7 g10 g11 g13 g14 g15 m (4 * m.i)) : Is2 (m := 1) (n := 2048) (body_run.sl.v293 (F := Ideal) c i arg2 arg3 arg4 arg7 arg8 arg9 arg10 arg13 arg14 arg15 f2 f3 f4 g7 g10 g13 g14 g15) (fun _ b => m.acc (m.last b) 15 b) :=
  Is2.congr (is2_readCov (cov_H15_5 h hm) 15 0 rfl (by intros; trivial)) fun a b ha hb => by rw [Data.last, show 4 * m.i + 1 + min 3 ((0 + b) / 512) = 4 * m.i + 1 + b / 512 from by omega, show 15 + a = 15 from by omega]; simp only [Nat.zero_add]

theorem v294 (h : In c i arg2 arg3 arg4 f2 f3 f4 m) (hm : Mid c arg7 arg10 arg11 arg13 arg14 arg15 g7 g10 g11 g13 g14 g15 m (4 * m.i)) : Is2 (m := 64) (n := 2048) (body_run.sl.v294 (F := Ideal) c i arg2 arg3 arg4 arg7 arg8 arg9 arg10 arg13 arg14 arg15 f2 f3 f4 g7 g10 g13 g14 g15) (fun a b => m.acc (m.last b) (16 + a) b) :=
  Is2.congr (is2_readCov (cov_H15_5 h hm) 16 0 rfl (by intros; trivial)) fun a b ha hb => by rw [Data.last, show 4 * m.i + 1 + min 3 ((0 + b) / 512) = 4 * m.i + 1 + b / 512 from by omega]; simp only [Nat.zero_add]

theorem v303 (h : In c i arg2 arg3 arg4 f2 f3 f4 m) (hm : Mid c arg7 arg10 arg11 arg13 arg14 arg15 g7 g10 g11 g13 g14 g15 m (4 * m.i)) : Is2 (m := 1) (n := 2048) (body_run.sl.v303 (F := Ideal) c i arg2 arg3 arg7 arg8 arg13 f2 f3 g7 g13) (fun _ b => m.M (m.last b) b) :=
  Is2.congr (is2_readCov (cov_H13_4 h hm) 0 0 rfl (by intros; trivial)) fun a b ha hb => by rw [Data.last, show 4 * m.i + 1 + min 3 ((0 + b) / 512) = 4 * m.i + 1 + b / 512 from by omega]; simp only [Nat.zero_add]

theorem out (h : In c i arg2 arg3 arg4 f2 f3 f4 m) (hm : Mid c arg7 arg10 arg11 arg13 arg14 arg15 g7 g10 g11 g13 g14 g15 m (4 * m.i)) : Is3 (m := 2048) (n := 128) (k0_pay80 (F := Ideal) (body_run.sl.v293 (F := Ideal) c i arg2 arg3 arg4 arg7 arg8 arg9 arg10 arg13 arg14 arg15 f2 f3 f4 g7 g10 g13 g14 g15) (body_run.sl.v294 (F := Ideal) c i arg2 arg3 arg4 arg7 arg8 arg9 arg10 arg13 arg14 arg15 f2 f3 f4 g7 g10 g13 g14 g15)) m.o :=
  Is3.congr (Is2.add (Is2.side (p := 64) (q := 64) (F := fun _ _ => (0 : EReal)) (fun a b => Ideal.ofBits_zero_f32) (Is2.transpose (Is2.divf (v294 h hm) (Is2.row (v293 h hm) _)) _) rfl _) _) fun a b _ _ => rfl

theorem lse (h : In c i arg2 arg3 arg4 f2 f3 f4 m) (hm : Mid c arg7 arg10 arg11 arg13 arg14 arg15 g7 g10 g11 g13 g14 g15 m (4 * m.i)) : Is2 (m := 1) (n := 2048) (body_run.sl.r_11 (F := Ideal) c i arg2 arg3 arg4 arg7 arg8 arg9 arg10 arg13 arg14 arg15 f2 f3 f4 g7 g10 g13 g14 g15) (fun _ b => m.lse b) :=
  Is2.congr (Is2.addf (v303 h hm) (Is2.divf (Is2.log (v293 h hm)) (Is2.log (F := fun _ _ => ((2 : ℝ) : EReal)) (fun a b => two32)))) fun a b _ _ => rfl

end Cert.ForwardIdeal.Pre

end
-- ==== Proof.FwdBody.lean ====
/-
  One grid point of the forward kernel: the two results from the three inputs.
-/
module

public import proofs.«01_k».proof.Proof.FwdLoop
public import proofs.«01_k».proof.Proof.FwdPre

@[expose] public section

set_option maxRecDepth 16384

noncomputable section

namespace Cert.ForwardIdeal.Run

open Cert.ForwardIdeal Cert.ForwardIdeal.Gen Cert.Tile Cert.FwdModel
open Cert.ForwardIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The fourteen buffers before the sums are set to zero. -/
def Stage0 (c : Dev nD) (arg2 : Memref sig .tc .vmem S1x2048x128 .bf16) (arg3 : Memref sig .tc .vmem S1x8192x128 .bf16) (arg4 : Memref sig .tc .vmem S1x128x8192 .bf16) (arg5 : Memref sig .tc .vmem S1x2048x128 .f32) (arg6 : Memref sig .tc .vmem S1x1x2048 .f32) (arg7 : Memref sig .tc .vmem S512x2048 .f32) (arg8 : Memref sig .tc .vmem S512x2048 .f32) (arg9 : Memref sig .tc .vmem S512x2048 .bf16) (arg10 : Memref sig .tc .vmem S512x2048 .bf16) (arg11 : Memref sig .tc .vmem S1x2048 .f32) (arg12 : Memref sig .tc .vmem S1x2048 .f32) (arg13 : Memref sig .tc .vmem S1x2048 .f32) (arg14 : Memref sig .tc .vmem S1x2048 .f32) (arg15 : Memref sig .tc .vmem S80x2048 .f32)
    (f2 : Buf (Elt Ideal) (arg2.view.loc (c : Thread nD τ))) (f3 : Buf (Elt Ideal) (arg3.view.loc (c : Thread nD τ))) (f4 : Buf (Elt Ideal) (arg4.view.loc (c : Thread nD τ))) (f15 : Buf (Elt Ideal) (arg15.view.loc (c : Thread nD τ))) (m : Data) : sProp 𝕄 :=
  iprop(∃ (g5 : Buf (Elt Ideal) (arg5.view.loc (c : Thread nD τ))) (g6 : Buf (Elt Ideal) (arg6.view.loc (c : Thread nD τ))) (g7 : Buf (Elt Ideal) (arg7.view.loc (c : Thread nD τ))) (g8 : Buf (Elt Ideal) (arg8.view.loc (c : Thread nD τ))) (g9 : Buf (Elt Ideal) (arg9.view.loc (c : Thread nD τ))) (g10 : Buf (Elt Ideal) (arg10.view.loc (c : Thread nD τ))) (g11 : Buf (Elt Ideal) (arg11.view.loc (c : Thread nD τ))) (g12 : Buf (Elt Ideal) (arg12.view.loc (c : Thread nD τ))) (g13 : Buf (Elt Ideal) (arg13.view.loc (c : Thread nD τ))) (g14 : Buf (Elt Ideal) (arg14.view.loc (c : Thread nD τ))), ⌜Trip.Mid c arg7 arg10 arg11 arg13 arg14 arg15 g7 g10 g11 g13 g14 (arg15.view.writes (Elt Ideal) arg15.view.junk [⟨Rect.unit (s := S80x2048) ![0, 0] S80x2048.size inb_S80x2048_S80x2048_0_0, k0_pay45 (F := Ideal) k0_pay44⟩]) m (2 * 0)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} f15))

/-- The fourteen buffers at the end: the two results. -/
def Done (c : Dev nD) (arg2 : Memref sig .tc .vmem S1x2048x128 .bf16) (arg3 : Memref sig .tc .vmem S1x8192x128 .bf16) (arg4 : Memref sig .tc .vmem S1x128x8192 .bf16) (arg5 : Memref sig .tc .vmem S1x2048x128 .f32) (arg6 : Memref sig .tc .vmem S1x1x2048 .f32) (arg7 : Memref sig .tc .vmem S512x2048 .f32) (arg8 : Memref sig .tc .vmem S512x2048 .f32) (arg9 : Memref sig .tc .vmem S512x2048 .bf16) (arg10 : Memref sig .tc .vmem S512x2048 .bf16) (arg11 : Memref sig .tc .vmem S1x2048 .f32) (arg12 : Memref sig .tc .vmem S1x2048 .f32) (arg13 : Memref sig .tc .vmem S1x2048 .f32) (arg14 : Memref sig .tc .vmem S1x2048 .f32) (arg15 : Memref sig .tc .vmem S80x2048 .f32)
    (f2 : Buf (Elt Ideal) (arg2.view.loc (c : Thread nD τ))) (f3 : Buf (Elt Ideal) (arg3.view.loc (c : Thread nD τ))) (f4 : Buf (Elt Ideal) (arg4.view.loc (c : Thread nD τ))) (m : Data) : sProp 𝕄 :=
  iprop(∃ (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))), ⌜(∀ z a b, arg5.view.read (Elt Ideal) f5 (ValueIdx.ix3 z a b) = m.o a b) ∧ (∀ z a b, arg6.view.read (Elt Ideal) f6 (ValueIdx.ix3 z a b) = m.lse b)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

section
variable {c : Dev nD} {i : grid0.Coords}
variable {arg2 : Memref sig .tc .vmem S1x2048x128 .bf16} {arg3 : Memref sig .tc .vmem S1x8192x128 .bf16} {arg4 : Memref sig .tc .vmem S1x128x8192 .bf16} {arg7 : Memref sig .tc .vmem S512x2048 .f32} {arg8 : Memref sig .tc .vmem S512x2048 .f32} {arg9 : Memref sig .tc .vmem S512x2048 .bf16} {arg10 : Memref sig .tc .vmem S512x2048 .bf16} {arg11 : Memref sig .tc .vmem S1x2048 .f32} {arg12 : Memref sig .tc .vmem S1x2048 .f32} {arg13 : Memref sig .tc .vmem S1x2048 .f32} {arg14 : Memref sig .tc .vmem S1x2048 .f32} {arg15 : Memref sig .tc .vmem S80x2048 .f32}
variable {f2 : Buf (Elt Ideal) (arg2.view.loc (c : Thread nD τ))} {f3 : Buf (Elt Ideal) (arg3.view.loc (c : Thread nD τ))} {f4 : Buf (Elt Ideal) (arg4.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))}
variable {m : Data}

/-- The logarithms of the sums, as the buffer takes them. -/
theorem lse_row (h : In c i arg2 arg3 arg4 f2 f3 f4 m) (hm : Trip.Mid c arg7 arg10 arg11 arg13 arg14 arg15 f7 f10 f11 f13 f14 f15 m (4 * m.i)) {hc} :
    Is3 (m := 1) (n := 2048) (shapeCast S1x1x2048 (Safe.body_run.sl.r_11 (F := Ideal) c i arg2 arg3 arg4 arg7 arg8 arg9 arg10 arg13 arg14 arg15 f2 f3 f4 f7 f10 f13 f14 f15) hc)
      (fun a b => m.lse (0 + b)) :=
  Is3.congr (Is2.add (Pre.lse h hm) hc) fun a b _ _ => by simp only [Nat.zero_add]

end

/-- One grid point: from the three inputs to the two results. -/
theorem run (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (m : Data)
    (h : In c i arg2 arg3 arg4 f2 f3 f4 m) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
      ⊢ wp frame (wpE (defs₀ (F := Ideal)) Variants.none c none) Set.univ (cc0_attn_fwd i arg2 harg2 arg3 harg3 arg4 harg4 arg5 harg5 arg6 harg6 arg7 harg7 arg8 harg8 arg9 harg9 arg10 harg10 arg11 harg11 arg12 harg12 arg13 harg13 arg14 harg14 arg15 harg15)
          (fun _ => Done c arg2 arg3 arg4 arg5 arg6 arg7 arg8 arg9 arg10 arg11 arg12 arg13 arg14 arg15 f2 f3 f4 m) := by
  rw [cc0_attn_fwd_eq_skeleton]; unfold cc0_attn_fwd_skel
  iintro ⟨H2, H3, H4, H5, H6, H7, H8, H9, H10, H11, H12, H13, H14, H15⟩
  set_option sl_exec.stopBefore "k0_part8" in sl_exec_parts
  refine BIBase.Entails.trans (Q := Stage0 c arg2 arg3 arg4 arg5 arg6 arg7 arg8 arg9 arg10 arg11 arg12 arg13 arg14 arg15 f2 f3 f4 f15 m) ?_ ?_
  · unfold Stage0
    iintro ⟨⟨⟨⟨⟨⟨⟨⟨⟨⟨⟨⟨⟨H2, H3⟩, H4⟩, H5⟩, H6⟩, H7⟩, H8⟩, H9⟩, H10⟩, H11⟩, H12⟩, H13⟩, H14⟩, H15⟩
    iexists _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · ipureintro
      exact
        { s := fun a b => Pre.init7 h _ a b trivial
          p := fun a b => Pre.init10 _ a b trivial
          x := fun a b => Pre.init11 h _ a b trivial
          mx := fun a b => Pre.init13 _ a b trivial
          a := fun a b => Pre.init14 _ a b trivial
          acc := fun a b => Pre.init15 _ a b trivial }
  · unfold Stage0
    iintro ⟨%g5, %g6, %g7, %g8, %g9, %g10, %g11, %g12, %g13, %g14, %hm, H2, H3, H4, H5, H6, H7, H8, H9, H10, H11, H12, H13, H14, H15⟩
    let L1 := loop1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ↑(i 1)) k0_pay44 (Safe.body_run.sl.r c arg15 f15) 0#32 f2 f3 f4 m h
    have htr := Value.trips2_eq i
    sl_exec_parts
    have e1 : 2 * Scf.trips (k0_t1_loop i).lb (k0_t1_loop i).ub (k0_t1_loop i).st = 4 * m.i := by
      have e1 : Scf.trips (k0_t1_loop i).lb (k0_t1_loop i).ub (k0_t1_loop i).st = 2 * (i 1).val := Value.trips1_eq i
      have hb := h.b
      omega
    rw [e1] at hL0
    sl_step
    unfold Done
    iexists _, _, _, _, _, _, _, _, _, _, _
    isplitr
    swap
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · ipureintro
      refine ⟨fun z a b => ?_, fun z a b => ?_⟩
      · exact read_cons3 (m := 2048) (n := 128) _ _ 0 0 rfl (Is3.congr (Pre.out h hL0) fun a b _ _ => by simp only [Nat.zero_add]) z a b
          (fun h1 => absurd ⟨Nat.zero_le _, by omega, Nat.zero_le _, by omega⟩ h1)
      · exact read_cons3 (Val := Elt Ideal) (e := .f32) (m := 1) (n := 2048) (F := fun _ b => m.lse b) _ _ 0 0 rfl (lse_row h hL0) z a b
          (fun h1 => absurd ⟨Nat.zero_le _, by omega, Nat.zero_le _, by omega⟩ h1)

end Cert.ForwardIdeal.Run

end
-- ==== Proof.FwdPoint.lean ====
/-
  One grid point of the forward kernel, by what its windows hold: the three inputs hold the data, the point leaves them as they
  are and the two results at the output and at the logarithms of the sums.
-/
module

public import proofs.«01_k».proof.Proof.FwdBody

@[expose] public section

set_option maxRecDepth 16384

noncomputable section

namespace Cert.ForwardIdeal.Run

open Cert.ForwardIdeal Cert.ForwardIdeal.Gen Cert.Tile Cert.FwdModel
open Cert.ForwardIdeal.Pre (In)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The point, with any continuation. -/
theorem run_then (c : Dev nD) (i : grid0.Coords) (arg2 : Memref sig .tc .vmem S1x2048x128 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x2048x128 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S80x2048 .f32) (harg15 : arg15.IsWhole)
    (x2 : Vec Ideal S1x2048x128 .bf16) (x3 : Vec Ideal S1x8192x128 .bf16) (x4 : Vec Ideal S1x128x8192 .bf16) (m : Data)
    (hq : ∀ (z : Fin 1) (a : Fin 2048) (b : Fin 128), x2 (ValueIdx.ix3 z a b) = m.Q a b)
    (hk : ∀ (z : Fin 1) (a : Fin 8192) (b : Fin 128), x3 (ValueIdx.ix3 z a b) = m.K a b)
    (hv : ∀ (z : Fin 1) (a : Fin 128) (b : Fin 8192), x4 (ValueIdx.ix3 z a b) = m.V a b)
    (hb : (i 1).val = m.i)
    (K : PUnit → sProp 𝕄) :
    iprop((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (owns (c : Thread nD τ) arg2 fullShare x2 ∗ owns (c : Thread nD τ) arg3 fullShare x3 ∗ owns (c : Thread nD τ) arg4 fullShare x4 ∗ owns (c : Thread nD τ) arg5 fullShare (fun y => m.o (y 1).val (y 2).val) ∗ owns (c : Thread nD τ) arg6 fullShare (fun y => m.lse (y 2).val) ∗ ((∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := Ideal)) Variants.none c none) Set.univ (cc0_attn_fwd i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  have h : In c i arg2 arg3 arg4 f2 f3 f4 m := {
    q := fun z a b => by rw [h2]; exact hq z a b
    k := fun z a b => by rw [h3]; exact hk z a b
    v := fun z a b => by rw [h4]; exact hv z a b
    b := hb }
  iapply wp_wand_r
  isplitl [H2 H3 H4 H5 H6 H7 H8 H9 H10 H11 H12 H13 H14 H15]
  · iapply (run c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 m h)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ HB
  unfold Done
  icases HB with ⟨%g5, %g6, %g7, %g8, %g9, %g10, %g11, %g12, %g13, %g14, %g15, %hp, H2, H3, H4, H5, H6, H7, H8, H9, H10, H11, H12, H13, H14, H15⟩
  iapply Hk
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists g5; isplitr
    · ipureintro; funext y; rw [ValueIdx.eq_ix3 y]; exact hp.1 _ _ _
    iexact H5
  isplitl [H6]
  · iexists g6; isplitr
    · ipureintro; funext y; rw [ValueIdx.eq_ix3 y]; exact hp.2 _ _ _
    iexact H6
  isplitl [H7]
  · iexists _, g7; isplitr
    swap; · iexact H7
    ipureintro; rfl
  isplitl [H8]
  · iexists _, g8; isplitr
    swap; · iexact H8
    ipureintro; rfl
  isplitl [H9]
  · iexists _, g9; isplitr
    swap; · iexact H9
    ipureintro; rfl
  isplitl [H10]
  · iexists _, g10; isplitr
    swap; · iexact H10
    ipureintro; rfl
  isplitl [H11]
  · iexists _, g11; isplitr
    swap; · iexact H11
    ipureintro; rfl
  isplitl [H12]
  · iexists _, g12; isplitr
    swap; · iexact H12
    ipureintro; rfl
  isplitl [H13]
  · iexists _, g13; isplitr
    swap; · iexact H13
    ipureintro; rfl
  isplitl [H14]
  · iexists _, g14; isplitr
    swap; · iexact H14
    ipureintro; rfl
  iexists _, g15; isplitr
  swap; · iexact H15
  ipureintro; rfl

end Cert.ForwardIdeal.Run

end
-- ==== Proof.FwdLaunched.lean ====
/-
  The launch of the idealized forward program: the arrays of the output and of the logarithms of the sums.
-/
module

public import proofs.«01_k».proof.Proof.FwdPoint
public import proofs.«01_k».proof.Proof.Heads
public import Idealize.ShloMosaic.Lib.Pipeline.Frame
public import Idealize.ShloMosaic.Lib.Pipeline.ValueKit
@[expose] public section

set_option maxRecDepth 16384

noncomputable section

namespace Cert.ForwardIdeal.Run

open Cert.ForwardIdeal Cert.ForwardIdeal.Gen Cert.FwdModel
open Cert.Model (nat3 nat3_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Per head, the queries and keys by position and channel, the rows of the sums by channel and position. -/
structure Heads where
  Q : ℕ → ℕ → ℕ → EReal
  K : ℕ → ℕ → ℕ → EReal
  V : ℕ → ℕ → ℕ → EReal

/-- What one block of a head's queries works on. -/
def Heads.pt (A : Heads) (h j : ℕ) : Data where
  Q := fun a b => A.Q h (2048 * j + a) b
  K := A.K h
  V := A.V h
  i := j

/-- The three arrays as the region finds them. -/
def heads (c : Dev nD) : Heads where
  Q := nat3 (V m c main_v7)
  K := nat3 (V m c main_v10)
  V := nat3 (V m c main_v17)

theorem coords_1 : ∀ t : Fin cfg0.N, (grid0.coords t 1).val = t.val % 4 := by decide +kernel

/-- The proof data: the inputs' buffers at their blocks, the results' at the output and the logarithms. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun y => ((heads m c).pt (t.val / 4) (t.val % 4)).o (y 1).val (y 2).val
    | ⟨4, _⟩ => fun y => ((heads m c).pt (t.val / 4) (t.val % 4)).lse (y 2).val
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fun y => ((heads m c).pt (t.val / 4) (t.val % 4)).o (y 1).val (y 2).val := by dsimp only [dats]
theorem after0_4 (c : Dev nD) (t : Fin cfg0.N) : (dats m 0 c).after 4 t = fun y => ((heads m c).pt (t.val / 4) (t.val % 4)).lse (y 2).val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

theorem index_0 : ∀ t : Fin cfg0.N, win0_0.index t = ![t.val / 4, t.val % 4, 0] := by decide +kernel
theorem index_1 : ∀ t : Fin cfg0.N, win0_1.index t = ![t.val / 4, 0, 0] := by decide +kernel
theorem index_2 : ∀ t : Fin cfg0.N, win0_2.index t = ![t.val / 4, 0, 0] := by decide +kernel
theorem index_3 : ∀ t : Fin cfg0.N, win0_3.index t = ![t.val / 4, t.val % 4, 0] := by decide +kernel
theorem index_4 : ∀ t : Fin cfg0.N, win0_4.index t = ![t.val / 4, 0, t.val % 4] := by decide +kernel

/-! ## The input blocks at numbers -/

variable (c : Dev nD) (t : Fin cfg0.N)

theorem blk_0 (z : Fin 1) (a : Fin 2048) (b : Fin 128) : iblk m c 0 t (ValueIdx.ix3 z a b) = ((heads m c).pt (t.val / 4) (t.val % 4)).Q a b := by
  have ht : t.val < 32 := t.2.trans_eq N_0
  refine Eq.trans ?_ (nat3_lt (V m c main_v7) (z := t.val / 4) (a := 2048 * (t.val % 4) + a.val) (b := b.val) (by omega) (by omega) (by omega)).symm
  unfold iblk
  refine congrArg (V m c main_v7) ?_
  blk_ext [index_0]
  show t.val % 4 * 2048 + a.val = _
  omega

theorem blk_1 (z : Fin 1) (a : Fin 8192) (b : Fin 128) : iblk m c 1 t (ValueIdx.ix3 z a b) = ((heads m c).pt (t.val / 4) (t.val % 4)).K a b := by
  have ht : t.val < 32 := t.2.trans_eq N_0
  refine Eq.trans ?_ (nat3_lt (V m c main_v10) (z := t.val / 4) (a := a.val) (b := b.val) (by omega) (by omega) (by omega)).symm
  unfold iblk
  refine congrArg (V m c main_v10) ?_
  blk_ext [index_1]

theorem blk_2 (z : Fin 1) (a : Fin 128) (b : Fin 8192) : iblk m c 2 t (ValueIdx.ix3 z a b) = ((heads m c).pt (t.val / 4) (t.val % 4)).V a b := by
  have ht : t.val < 32 := t.2.trans_eq N_0
  refine Eq.trans ?_ (nat3_lt (V m c main_v17) (z := t.val / 4) (a := a.val) (b := b.val) (by omega) (by omega) (by omega)).symm
  unfold iblk
  refine congrArg (V m c main_v17) ?_
  blk_ext [index_2]

/-- What the body is called with at point `t`. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The class invariant opened: the nine scratch tiles at some contents and the generator register. -/
theorem PhiA_eq :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The body at any point. -/
theorem sound_body :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩⟩
  iapply (run_then c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) ((heads m c).pt (t.val / 4) (t.val % 4))
    (blk_0 m c t) (blk_1 m c t) (blk_2 m c t) (coords_1 t) _)
  isplitl [HS0 HS1 HS2 HS3 HS4 HS5 HS6 HS7 HS8 H0 H1 H2 H3 H4]
  · isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body table's row at the point is the body as `bodyAt0` spells it. -/
theorem defs₀_row : defs₀ (F := Ideal) .tc cfg0.body (cfg0.bodyArgs t (cfg0.slots t)) = bodyAt0 t := by
  unfold defs₀; rw [Defs.onTc_tc]

/-- The body obligation. -/
theorem body_obligation :
    BodyObligation (dats m 0 c) (defs₀ (F := Ideal)) Variants.none () Set.univ := fun t => by
  rw [bigSep_W0, bigSep_W0, defs₀_row t]
  exact triple_restated (sound_body m c t) rfl .rfl fun _ => .rfl

set_option backward.isDefEq.respectTransparency.types false in
/-- The launch: every execution ends, each window's array at what the proof data says, every other buffer as the host lines after
    the region leave it, every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-! ## The result arrays -/

theorem final_3 : (dats m 0 c).arrAt 3 cfg0.N = fun y => ((heads m c).pt (y 0).val ((y 1).val / 2048)).o ((y 1).val % 2048) (y 2).val := by
  refine (dats m 0 c).arrAt_eq_of_covers 3 _ (by decide +kernel) fun t hf y => ?_
  have h1 : (y 1).val < 2048 := (y 1).isLt
  blk_simp [index_3]
  rw [after0_3, show (t.val % 4 * 2048 + (y 1).val) / 2048 = t.val % 4 by omega,
    show (t.val % 4 * 2048 + (y 1).val) % 2048 = (y 1).val by omega]

theorem final_4 : (dats m 0 c).arrAt 4 cfg0.N = fun y => ((heads m c).pt (y 0).val ((y 2).val / 2048)).lse ((y 2).val % 2048) := by
  refine (dats m 0 c).arrAt_eq_of_covers 4 _ (by decide +kernel) fun t hf y => ?_
  have h1 : (y 2).val < 2048 := (y 2).isLt
  blk_simp [index_4]
  rw [after0_4, show (t.val % 4 * 2048 + (y 2).val) / 2048 = t.val % 4 by omega,
    show (t.val % 4 * 2048 + (y 2).val) % 2048 = (y 2).val by omega]

end Cert.ForwardIdeal.Run

end
-- ==== Proof.FwdTail.lean ====
/-
  The two results of the idealized forward program, entry by entry: the attention's output by position, head and channel, and
  a row's logarithm of the sum by head and position.
-/
module

public import proofs.«01_k».proof.Proof.FwdLaunched

@[expose] public section

set_option maxRecDepth 16384

noncomputable section

namespace Cert.ForwardIdeal.Run

open Cert.ForwardIdeal Cert.ForwardIdeal.Gen Cert.FwdModel
open Idealize.ShloMosaic Idealize.ShloMosaic.TcCoe Idealize.SL.Sem Idealize.ShloMosaic.StableHlo

variable (m : (ℓ : Loc nD τ sig) → Buf (Elt Ideal) ℓ) (c : Dev nD)

/-- The attention's output. -/
def outO : FVec Ideal S8192x8x64 .f32 := fun y =>
  ((heads m c).pt (y 1).val ((y 0).val / 2048)).o ((y 0).val % 2048) (64 + (y 2).val)
/-- The logarithm of a row's sum of exponentials. -/
def outL : FVec Ideal S8x8192 .f32 := fun y =>
  ((heads m c).pt (y 0).val ((y 1).val / 2048)).lse ((y 1).val % 2048) * Ideal.log (Ideal.ofBits .f32 0x40000000#32)

theorem arr_inj : Function.Injective (Pipeline.arrRef spec0) := by decide

theorem row_at (x : FVec Ideal S8x1x8192 .f32) (y : S8x8192.Idx) :
    shapeCast S8x8192 x shapeCasts_S8x1x8192_S8x8192 y = x (ValueIdx.ix3 (y 0) 0 (y 1)) :=
  shapeCast_apply (s := S8x1x8192) (t := S8x8192) _ _ _ (ValueIdx.ix3 (y 0) 0 (y 1))
    (by rw [Shape.rowMajor_val_two, Shape.rowMajor_val_three]
        show ((y 0).val * 1 + 0) * 8192 + (y 1).val = (y 0).val * 8192 + (y 1).val
        omega)

/-- The first result. -/
theorem tail_o : (Pipeline.afterTail₀ cfgs (dats m) 0 (V0 m) [hostOps1] c main_v20 : FVec Ideal S8192x8x64 .f32) = outO m c := by
  show StableHlo.after (List.flatten [hostOps1]) (Pipeline.withArrays spec0 c (V0 m c) fun w => (dats m 0 c).arrAt w cfg0.N) (Proc.devRef .tc main_v20) = _
  simp only [hostOps1, List.flatten_cons, List.flatten_nil, List.append_nil]
  after_results_simp
  rw [show Pipeline.withArrays spec0 c (V0 m c) (fun w => (dats m 0 c).arrAt w cfg0.N) (Proc.devRef .tc main_v18_0)
    = (dats m 0 c).arrAt 3 cfg0.N from Pipeline.withArrays_arr spec0 arr_inj c (V0 m c) _ 3, final_3 m c]
  funext y
  show transpose (s := S8x8192x64) S8192x8x64 [1, 0, 2] _ _ y = _
  rw [transpose_apply (s := S8x8192x64) (t := S8192x8x64) _ _ _ _ (ValueIdx.ix3 (y 1) (y 0) (y 2)) (fun a => match a with | ⟨0, _⟩ => rfl | ⟨1, _⟩ => rfl | ⟨2, _⟩ => rfl),
    extractStridedSlice_apply (s := S8x8192x128) (t := S8x8192x64) _ _ _ _ (ValueIdx.ix3 (y 1) (y 0) ⟨64 + (y 2).val, by have h : (y 2).val < 64 := (y 2).isLt; show 64 + (y 2).val < 128; omega⟩)
      (fun a => match a with | ⟨0, _⟩ => (Nat.zero_add _).symm | ⟨1, _⟩ => (Nat.zero_add _).symm | ⟨2, _⟩ => rfl)]
  rfl

/-- The second result. -/
theorem tail_l : (Pipeline.afterTail₀ cfgs (dats m) 0 (V0 m) [hostOps1] c main_v25 : FVec Ideal S8x8192 .f32) = outL m c := by
  show StableHlo.after (List.flatten [hostOps1]) (Pipeline.withArrays spec0 c (V0 m c) fun w => (dats m 0 c).arrAt w cfg0.N) (Proc.devRef .tc main_v25) = _
  simp only [hostOps1, List.flatten_cons, List.flatten_nil, List.append_nil]
  after_results_simp
  rw [show Pipeline.withArrays spec0 c (V0 m c) (fun w => (dats m 0 c).arrAt w cfg0.N) (Proc.devRef .tc main_v18_1)
    = (dats m 0 c).arrAt 4 cfg0.N from Pipeline.withArrays_arr spec0 arr_inj c (V0 m c) _ 4, final_4 m c]
  funext y
  refine Eq.trans (congrArg (fun z : EReal => z * Ideal.log (Ideal.ofBits .f32 0x40000000#32)) (row_at _ y)) ?_
  rfl

/-- The run: the two results, the arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v20) = outO m c
      ∧ r.2.mem ((c.tc : Thread nD τ).loc main_v25) = outL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((h.1 c).2 main_v20 (Pipeline.mem_restRefs_of main_v20 (by decide) (by decide))).trans (tail_o m c)),
      (((h.1 c).2 main_v25 (Pipeline.mem_restRefs_of main_v25 (by decide) (by decide))).trans (tail_l m c)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩) (run_main m ρ)

end Cert.ForwardIdeal.Run

end
-- ==== Proof.FwdEquation.lean ====
/-
  The forward equation: for arguments whose entries are reals, the forward kernel's two results are the reference's.
-/
module

public import proofs.«01_k».proof.Proof.FwdHostIn
public import proofs.«01_k».proof.Proof.FwdRegroup
public import proofs.«01_k».proof.Proof.FwdRef
public import proofs.«01_k».proof.Proof.FwdTail

@[expose] public section

set_option maxRecDepth 16384

noncomputable section

namespace Cert.ForwardIdeal.HostIn

open Cert.ForwardIdeal Cert.ForwardIdeal.Gen Cert.ForwardIdeal.Run Cert.Attn Cert.RefValue
open Cert.Model (nat3 nat3_lt)
open Idealize.ShloMosaic

variable (m : (ℓ : Loc nD τ sig) → Buf (Elt Ideal) ℓ) (c : Dev nD) (xq xk : S8192x8x96.Idx → ℝ) (xv : S8192x8x64.Idx → ℝ)
  (eq : argQ m c = up xq) (ek : argK m c = up xk) (ev : argV m c = up xv)

include eq ek ev

/-- A block of queries works on the reals of its head. -/
theorem holds {h i : ℕ} (hz : h < 8) (hi : i < 4) : FwdModel.Holds ((heads m c).pt h i) (head xq xk xv xv h) where
  i := hi
  q x hx d hd := by
    have hp : 2048 * i + x < 8192 := by omega
    show nat3 (V m c main_v7) h (2048 * i + x) d = _
    rw [nat3_lt _ hz hp hd, V_q, eq]
    exact Cert.KernelIdeal.HostIn.qp_at xq ⟨h, hz⟩ ⟨2048 * i + x, hp⟩ ⟨d, hd⟩
  k y hy d hd := by
    show nat3 (V m c main_v10) h y d = _
    rw [nat3_lt _ hz hy hd, V_k, ek]
    exact Cert.KernelIdeal.HostIn.kp_at xk ⟨h, hz⟩ ⟨y, hy⟩ ⟨d, hd⟩
  one y hy := by
    have h63 : 63 < 128 := by decide
    show nat3 (V m c main_v17) h 63 y = _
    rw [nat3_lt _ hz h63 hy, V_v]
    exact (vt_at _ _ ⟨h, hz⟩ ⟨63, h63⟩ ⟨y, hy⟩).trans (rows_one _ _ ⟨h, hz⟩ ⟨y, hy⟩)
  v y hy d hd := by
    have h64 : 64 + d < 128 := by omega
    show nat3 (V m c main_v17) h (64 + d) y = _
    rw [nat3_lt _ hz h64 hy, V_v, ev]
    exact (vt_at _ _ ⟨h, hz⟩ ⟨64 + d, h64⟩ ⟨y, hy⟩).trans (rows_val _ xv ⟨h, hz⟩ ⟨y, hy⟩ ⟨d, hd⟩)

theorem outO_eq : outO m c = ForwardReferenceIdeal.Read.val_main_v35 (F := Ideal) (up xq) (up xk) (up xv) := by
  funext y
  have h0 : (y 0).val < 8192 := (y 0).isLt
  have e : 2048 * ((y 0).val / 2048) + (y 0).val % 2048 = (y 0).val := Nat.div_add_mod _ _
  rw [FwdRef.out_eq, out_at xq xk xv xv]
  refine ((holds m c xq xk xv eq ek ev (y 1).isLt (i := (y 0).val / 2048) (by omega)).out (x := (y 0).val % 2048) (by omega) (y 2).isLt).trans ?_
  show ((∑ z ∈ Finset.range 8192, _ * (head xq xk xv xv (y 1).val).prob (2048 * ((y 0).val / 2048) + (y 0).val % 2048) z : ℝ) : EReal) = _
  rw [e]
  rfl

theorem outL_eq : outL m c = ForwardReferenceIdeal.Read.val_main_v42 (F := Ideal) (up xq) (up xk) := by
  funext y
  have h1 : (y 1).val < 8192 := (y 1).isLt
  have e : 2048 * ((y 1).val / 2048) + (y 1).val % 2048 = (y 1).val := Nat.div_add_mod _ _
  rw [FwdRef.log_at xq xk xv xv]
  show _ * Ideal.log (Ideal.ofBits .f32 0x40000000#32) = _
  rw [two_eq, Ideal.log_coe, if_neg (by norm_num)]
  refine ((holds m c xq xk xv eq ek ev (y 0).isLt (i := (y 1).val / 2048) (by omega)).log (x := (y 1).val % 2048) (by omega)).trans ?_
  show (((head xq xk xv xv (y 0).val).peak (2048 * ((y 1).val / 2048) + (y 1).val % 2048)
    + Real.log ((head xq xk xv xv (y 0).val).mass (2048 * ((y 1).val / 2048) + (y 1).val % 2048)) : ℝ) : EReal) = _
  rw [e]

end Cert.ForwardIdeal.HostIn

end
-- ==== Proof.OutStep.lean ====
/-
  The optimiser's step for the output projection: what the kernel leaves is what the reference leaves.
-/
module

public import proofs.«01_k».proof.Defs
public import proofs.«01_k».proof.Proof.Gen.OutStep.Frame
public import proofs.«01_k».proof.Proof.Gen.OutStepIdeal.Value
public import proofs.«01_k».proof.Proof.Gen.OutStepReferenceIdeal.Run
public import proofs.«01_k».proof.Proof.Gen.OutStepReferenceIdeal.Read
public import Idealize.ShloMosaic.Lib.Pipeline.ValueKit
public import Idealize.ShloMosaic.Lib.Quiescent

@[expose] public section

noncomputable section

namespace Cert.Steps.Out

open Cert.OutStepIdeal Cert.OutStepIdeal.Gen Cert.OutStepIdeal.Value
open Idealize.ShloMosaic Idealize.ShloMosaic.TcCoe Idealize.SL.Sem

variable (p : Vec Ideal S4x128x1024 .bf16) (w mo ve : Vec Ideal S128x1024 .f32)

/-- The four parts added one by one are their sum. -/
theorem gradient : k0_pay2 (View.ld p r0_0) (View.ld p r0_1) (View.ld p r0_2) (View.ld p r0_3) = Cert.OutStepReferenceIdeal.Read.val_main_v1 (F := Ideal) p := by
  funext i
  have part {off : Fin 3 → Nat} (inb) (k : Fin 4) (hk : off = ![k.val, 0, 0]) {h} :
      shapeCast S128x1024 (View.ld p (Rect.unit (s := S4x128x1024) off S1x128x1024.size inb)) h i = p (Cert.OutStepReferenceIdeal.Read.idx_main_v1 i k) := by
    subst hk
    refine (shapeCast_dropUnit_apply ![128, 1024] _ h i).trans (View.ld_unit_apply_of _ _ _ _ _ _ fun a => ?_)
    match a with
    | ⟨0, _⟩ => rfl
    | ⟨1, _⟩ => exact (Nat.zero_add _).symm
    | ⟨2, _⟩ => exact (Nat.zero_add _).symm
  rw [Cert.OutStepReferenceIdeal.Read.val_main_v1_apply, Fin.sum_univ_four]
  show ((_ + _) + _) + _ = _
  simp only [Cert.OutStepReferenceIdeal.Read.val_main_v0_apply, Cert.OutStepReferenceIdeal.Read.val_main_cst_apply]
  show _ = Ideal.ofBits .f32 0x00000000#32 + _
  rw [Ideal.ofBits_zero_f32, zero_add]
  exact congrArg₂ _ (congrArg₂ _ (congrArg₂ _ (part _ 0 rfl) (part _ 1 rfl)) (part _ 2 rfl)) (part _ 3 rfl)

/-- The first moment. -/
theorem moment : G6 p w mo ve = Cert.OutStepReferenceIdeal.Read.val_main_v6 (F := Ideal) p mo := by
  show addf (mulf (F := Ideal) _ mo) (mulf _ (k0_pay2 _ _ _ _)) = _
  rw [gradient]
  rfl

/-- The second moment. -/
theorem second : G7 p w mo ve = Cert.OutStepReferenceIdeal.Read.val_main_v12 (F := Ideal) p ve := by
  have e : G7 p w mo ve = k0_pay4 (View.ld p r0_0) (View.ld p r0_1) (View.ld p r0_2) (View.ld p r0_3) ve :=
    congrArg _ (View.ld_unit_zero (S := S128x1024) hz3 _ ve)
  rw [e]
  show addf (mulf (F := Ideal) _ ve) (mulf _ (mulf (k0_pay2 _ _ _ _) (k0_pay2 _ _ _ _))) = _
  rw [gradient]
  rfl

/-- The change of the weights. -/
theorem change : G5 p w mo ve = Cert.OutStepReferenceIdeal.Read.val_main_v25 (F := Ideal) p w mo ve := by
  show k0_pay1 w (G7 p w mo ve) (divf (G6 p w mo ve) _) _ = _
  rw [second, moment]
  rfl

/-- The kernel's four results are the reference's. -/
theorem algebraic : Cert.algebraic_OutStepIdeal_OutStepReferenceIdeal (hOutStepIdeal := Cert.OutStepIdeal.Gen.facts)
    (hOutStepReferenceIdeal := Cert.OutStepReferenceIdeal.Gen.facts) := by
  intro m g m' g' _ hargs
  refine ⟨_, _, _, _, Cert.OutStepIdeal.Value.run m g,
    (θ_run Cert.OutStepReferenceIdeal.defs _ _).mono (fun r h c => ?_) (Cert.OutStepReferenceIdeal.Value.run m' g')⟩
  obtain ⟨hg, hd, hm, hv, hrest⟩ := h c
  obtain ⟨a0, a1, a2, a3⟩ := hargs c
  refine ⟨?_, ?_, ?_, ?_, hrest⟩
  · rw [hg, Cert.OutStepReferenceIdeal.Read.val_main_v1_eq, a0]
    exact (gradient _).symm
  · rw [hd, Cert.OutStepReferenceIdeal.Read.val_main_v25_eq, a0, a1, a2, a3]
    exact (change _ _ _ _).symm
  · rw [hm, Cert.OutStepReferenceIdeal.Read.val_main_v6_eq, a0, a2]
    exact (moment _ _ _ _).symm
  · rw [hv, Cert.OutStepReferenceIdeal.Read.val_main_v12_eq, a0, a3]
    exact (second _ _ _ _).symm

/-- The reference ends with its arguments as they were and every counter at zero. -/
theorem reference_frame : Cert.quiescent_OutStepReferenceIdeal (hOutStepReferenceIdeal := Cert.OutStepReferenceIdeal.Gen.facts) :=
  fun m g _ => (θ_run Cert.OutStepReferenceIdeal.defs _ _).mono (fun r h => ⟨fun c => (h c).2.2.2.2, sem_eq_zero_of_no_sems (by decide) r.2⟩)
    (Cert.OutStepReferenceIdeal.Value.run m g)

end Cert.Steps.Out

end
-- ==== Proof.HeadStep.lean ====
/-
  The optimiser's step for the query and key-value projections: what the kernel leaves is what the reference leaves.
-/
module

public import proofs.«01_k».proof.Defs
public import proofs.«01_k».proof.Proof.Gen.HeadStep.Frame
public import proofs.«01_k».proof.Proof.Gen.HeadStepIdeal.Value
public import proofs.«01_k».proof.Proof.Gen.HeadStepReferenceIdeal.Run
public import proofs.«01_k».proof.Proof.Gen.HeadStepReferenceIdeal.Read
public import Idealize.ShloMosaic.Lib.Pipeline.ValueKit
public import Idealize.ShloMosaic.Lib.Quiescent

@[expose] public section

noncomputable section

namespace Cert.Steps.Head

open Cert.HeadStepIdeal Cert.HeadStepIdeal.Gen Cert.HeadStepIdeal.Value
open Idealize.ShloMosaic Idealize.ShloMosaic.TcCoe Idealize.SL.Sem

variable (p : Vec Ideal S4x520x128 .f32) (w mo ve : Vec Ideal S384x128 .f32)

/-- The four parts added one by one are their sum. -/
theorem gradient : k0_pay2 (View.ld p r0_0) (View.ld p r0_1) (View.ld p r0_2) (View.ld p r0_3) = Cert.HeadStepReferenceIdeal.Read.val_main_v0 (F := Ideal) p := by
  funext i
  have part {off : Fin 3 → Nat} (inb) (k : Fin 4) (hk : off = ![k.val, 0, 0]) {h} :
      shapeCast S520x128 (View.ld p (Rect.unit (s := S4x520x128) off S1x520x128.size inb)) h i = p (Cert.HeadStepReferenceIdeal.Read.idx_main_v0 i k) := by
    subst hk
    refine (shapeCast_dropUnit_apply ![520, 128] _ h i).trans (View.ld_unit_apply_of _ _ _ _ _ _ fun a => ?_)
    match a with
    | ⟨0, _⟩ => rfl
    | ⟨1, _⟩ => exact (Nat.zero_add _).symm
    | ⟨2, _⟩ => exact (Nat.zero_add _).symm
  rw [Cert.HeadStepReferenceIdeal.Read.val_main_v0_apply, Fin.sum_univ_four]
  show ((_ + _) + _) + _ = _
  simp only [Cert.HeadStepReferenceIdeal.Read.val_main_cst_apply]
  show _ = Ideal.ofBits .f32 0x00000000#32 + _
  rw [Ideal.ofBits_zero_f32, zero_add]
  exact congrArg₂ _ (congrArg₂ _ (congrArg₂ _ (part _ 0 rfl) (part _ 1 rfl)) (part _ 2 rfl)) (part _ 3 rfl)

/-- The rows the optimiser moves. -/
theorem rows : k0_pay3 (View.ld p r0_0) (View.ld p r0_1) (View.ld p r0_2) (View.ld p r0_3) = Cert.HeadStepReferenceIdeal.Read.val_main_v1 (F := Ideal) p := by
  show extractStridedSlice S384x128 ![0, 0] (k0_pay2 _ _ _ _) slices_S520x128_o0_0_S384x128 = _
  rw [gradient]
  rfl

/-- The first moment. -/
theorem moment : G6 p w mo ve = Cert.HeadStepReferenceIdeal.Read.val_main_v6 (F := Ideal) p mo := by
  show addf (mulf (F := Ideal) _ mo) (mulf _ (k0_pay3 _ _ _ _)) = _
  rw [rows]
  rfl

/-- The second moment. -/
theorem second : G7 p w mo ve = Cert.HeadStepReferenceIdeal.Read.val_main_v12 (F := Ideal) p ve := by
  show addf (mulf (F := Ideal) _ ve) (mulf _ (mulf (k0_pay3 _ _ _ _) (k0_pay3 _ _ _ _))) = _
  rw [rows]
  rfl

/-- The change of the weights. -/
theorem change : G5 p w mo ve = Cert.HeadStepReferenceIdeal.Read.val_main_v25 (F := Ideal) p w mo ve := by
  show k0_pay1 w (divf (G6 p w mo ve) _) (sqrt (divf (G7 p w mo ve) _)) = _
  rw [second, moment]
  rfl

/-- The kernel's four results are the reference's. -/
theorem algebraic : Cert.algebraic_HeadStepIdeal_HeadStepReferenceIdeal (hHeadStepIdeal := Cert.HeadStepIdeal.Gen.facts)
    (hHeadStepReferenceIdeal := Cert.HeadStepReferenceIdeal.Gen.facts) := by
  intro m g m' g' _ hargs
  refine ⟨_, _, _, _, Cert.HeadStepIdeal.Value.run m g,
    (θ_run Cert.HeadStepReferenceIdeal.defs _ _).mono (fun r h c => ?_) (Cert.HeadStepReferenceIdeal.Value.run m' g')⟩
  obtain ⟨hg, hd, hm, hv, hrest⟩ := h c
  obtain ⟨a0, a1, a2, a3⟩ := hargs c
  refine ⟨?_, ?_, ?_, ?_, hrest⟩
  · rw [hg, Cert.HeadStepReferenceIdeal.Read.val_main_v0_eq, a0]
    exact (gradient _).symm
  · rw [hd, Cert.HeadStepReferenceIdeal.Read.val_main_v25_eq, a0, a1, a2, a3]
    exact (change _ _ _ _).symm
  · rw [hm, Cert.HeadStepReferenceIdeal.Read.val_main_v6_eq, a0, a2]
    exact (moment _ _ _ _).symm
  · rw [hv, Cert.HeadStepReferenceIdeal.Read.val_main_v12_eq, a0, a3]
    exact (second _ _ _ _).symm

/-- The reference ends with its arguments as they were and every counter at zero. -/
theorem reference_frame : Cert.quiescent_HeadStepReferenceIdeal (hHeadStepReferenceIdeal := Cert.HeadStepReferenceIdeal.Gen.facts) :=
  fun m g _ => (θ_run Cert.HeadStepReferenceIdeal.defs _ _).mono (fun r h => ⟨fun c => (h c).2.2.2.2, sem_eq_zero_of_no_sems (by decide) r.2⟩)
    (Cert.HeadStepReferenceIdeal.Value.run m g)

end Cert.Steps.Head

end
-- ==== Proof.InStep.lean ====
/-
  The optimiser's step for the input projection: what the kernel leaves is what the reference leaves.
-/
module

public import proofs.«01_k».proof.Defs
public import proofs.«01_k».proof.Proof.Gen.InStep.Frame
public import proofs.«01_k».proof.Proof.Gen.InStepIdeal.Value
public import proofs.«01_k».proof.Proof.Gen.InStepReferenceIdeal.Run
public import proofs.«01_k».proof.Proof.Gen.InStepReferenceIdeal.Read
public import Idealize.ShloMosaic.Lib.Pipeline.ValueKit
public import Idealize.ShloMosaic.Lib.Quiescent

@[expose] public section

set_option maxRecDepth 16384

noncomputable section

namespace Cert.Steps.In

open Cert.InStepIdeal Cert.InStepIdeal.Gen Cert.InStepIdeal.Value
open Idealize.ShloMosaic Idealize.ShloMosaic.TcCoe Idealize.SL.Sem

open Cert.InStepReferenceIdeal.Read (val_main_v1_apply val_main_v2_apply val_main_v0_apply val_main_cst_apply idx_main_v1 idx_main_v2 val_main_v2 val_main_v7 val_main_v13 val_main_v26)

/-! ## One grid point -/

/-- The gradient's block, turned, read at an entry. -/
theorem turned (v : View sig .tc .vmem S512x384 .f32) (g : Vec Ideal S512x308 .f32) (L : List (View.Piece (Elt Ideal) S512x384 .f32)) (inb inb') (y : S308x512.Idx) :
    k0_pay6 (v.readCov (⟨Rect.unit (s := S512x384) ![0, 0] S512x308.size inb, g⟩ :: L) (Rect.unit (s := S512x384) ![0, 0] S512x384.size inb').toLoadRect) y
      = g (ValueIdx.ix2 (y 1) (y 0)) := by
  have h0 : (y 0).val < 308 := (y 0).isLt
  show extractStridedSlice S308x512 ![0, 0] (transpose S384x512 [1, 0] _ transposes_S512x384_p1_0_S384x512) slices_S384x512_o0_0_S308x512 y = _
  rw [extractStridedSlice_apply (s := S384x512) (t := S308x512) _ _ _ _ (ValueIdx.ix2 ⟨(y 0).val, by omega⟩ (y 1))
      (fun a => match a with | ⟨0, _⟩ => (Nat.zero_add _).symm | ⟨1, _⟩ => (Nat.zero_add _).symm),
    transpose_apply (s := S512x384) (t := S384x512) _ _ _ _ (ValueIdx.ix2 (y 1) ⟨(y 0).val, by omega⟩)
      (fun a => match a with | ⟨0, _⟩ => rfl | ⟨1, _⟩ => rfl),
    View.readCov_eq_canon']
  refine Eq.trans (congrArg (View.canon _) (funext fun a => Fin.ext ?_)) (View.canon_cons_emb (Rect.unit (s := S512x384) ![0, 0] S512x308.size inb) g L (ValueIdx.ix2 (y 1) (y 0)))
  match a with
  | ⟨0, _⟩ => rfl
  | ⟨1, _⟩ => rfl

/-- The sum of the four parts at an entry. -/
theorem summed (x : Vec Ideal S4x512x308 .bf16) (h0 h1 h2 h3) (a : Fin 512) (b : Fin 308) :
    k0_pay5 (F := Ideal) (View.ld x (Rect.unit (s := S4x512x308) ![0, 0, 0] S1x512x308.size h0)) (View.ld x (Rect.unit (s := S4x512x308) ![1, 0, 0] S1x512x308.size h1))
        (View.ld x (Rect.unit (s := S4x512x308) ![2, 0, 0] S1x512x308.size h2)) (View.ld x (Rect.unit (s := S4x512x308) ![3, 0, 0] S1x512x308.size h3)) (ValueIdx.ix2 a b)
      = (((x (ValueIdx.ix3 0 a b) : EReal) + (x (ValueIdx.ix3 1 a b) : EReal)) + (x (ValueIdx.ix3 2 a b) : EReal)) + (x (ValueIdx.ix3 3 a b) : EReal) := by
  have part {off : Fin 3 → Nat} (inb) (k : Fin 4) (hk : off = ![k.val, 0, 0]) {h} :
      shapeCast S512x308 (View.ld x (Rect.unit (s := S4x512x308) off S1x512x308.size inb)) h (ValueIdx.ix2 a b) = x (ValueIdx.ix3 k a b) := by
    subst hk
    refine (shapeCast_dropUnit_apply ![512, 308] _ h _).trans (View.ld_unit_apply_of _ _ _ _ _ _ fun a => ?_)
    match a with
    | ⟨0, _⟩ => rfl
    | ⟨1, _⟩ => exact (Nat.zero_add _).symm
    | ⟨2, _⟩ => exact (Nat.zero_add _).symm
  unfold k0_pay5
  refine (shapeCast_apply (s := S512x308) (t := S512x308) _ shapeCasts_S512x308_S512x308 (ValueIdx.ix2 a b) (ValueIdx.ix2 a b) rfl).trans ?_
  exact congrArg₂ _ (congrArg₂ _ (congrArg₂ _ (part _ 0 rfl) (part _ 1 rfl)) (part _ 2 rfl)) (part _ 3 rfl)

section
variable (g : FVec Ideal S308x512 .f32) (a b d : Vec Ideal S308x512 .f32) (y : S308x512.Idx)
variable (p : Vec Ideal S4x1024x308 .bf16) (w mo ve : Vec Ideal S308x1024 .f32) (i : S308x1024.Idx)

/-- The first moment at an entry. -/
theorem moment (hg : g y = val_main_v2 (F := Ideal) p i) (hm : b y = mo i) : k0_pay1 g b y = val_main_v7 (F := Ideal) p mo i :=
  calc k0_pay1 g b y = k0_pay1 (fun _ => g y) (fun _ => b y) y := rfl
    _ = k0_pay1 (fun _ => val_main_v2 (F := Ideal) p i) (fun _ => mo i) y := by rw [hg, hm]
    _ = val_main_v7 (F := Ideal) p mo i := rfl

/-- The second moment at an entry. -/
theorem second (hg : g y = val_main_v2 (F := Ideal) p i) (hv : d y = ve i) : k0_pay2 g d y = val_main_v13 (F := Ideal) p ve i :=
  calc k0_pay2 g d y = k0_pay2 (fun _ => g y) (fun _ => d y) y := rfl
    _ = k0_pay2 (fun _ => val_main_v2 (F := Ideal) p i) (fun _ => ve i) y := by rw [hg, hv]
    _ = val_main_v13 (F := Ideal) p ve i := rfl

/-- The change of the weights at an entry. -/
theorem change (hg : g y = val_main_v2 (F := Ideal) p i) (hw : a y = w i) (hm : b y = mo i) (hv : d y = ve i) :
    k0_pay3 g a b d y = val_main_v26 (F := Ideal) p w mo ve i :=
  calc k0_pay3 g a b d y = k0_pay3 (fun _ => g y) (fun _ => a y) (fun _ => b y) (fun _ => d y) y := rfl
    _ = k0_pay3 (fun _ => val_main_v2 (F := Ideal) p i) (fun _ => w i) (fun _ => mo i) (fun _ => ve i) y := by rw [hg, hw, hm, hv]
    _ = val_main_v26 (F := Ideal) p w mo ve i := rfl

end

/-! ## The arrays -/

variable (m : (ℓ : Loc nD τ sig) → Buf (Elt Ideal) ℓ) (c : Dev nD) (t : Fin cfg0.N)

theorem index_0 : ∀ t : Fin cfg0.N, win0_0.index t = ![0, t.val, 0] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel
theorem index_4 : ∀ t : Fin cfg0.N, win0_4.index t = ![0, t.val] := by decide +kernel
theorem index_5 : ∀ t : Fin cfg0.N, win0_5.index t = ![0, t.val] := by decide +kernel
theorem index_6 : ∀ t : Fin cfg0.N, win0_6.index t = ![0, t.val] := by decide +kernel
theorem index_7 : ∀ t : Fin cfg0.N, win0_7.index t = ![0, t.val] := by decide +kernel

/-- The array's entry at an entry of the point's block. -/
abbrev at_ (y : S308x512.Idx) : S308x1024.Idx :=
  ValueIdx.ix2 (y 0) ⟨t.val * 512 + (y 1).val, by
    have h : (y 1).val < 512 := (y 1).isLt
    have ht : t.val < 2 := t.2.trans_eq N_0
    omega⟩

theorem blk_0 (k : Fin 4) (y : S308x512.Idx) : iblk m c 0 t (ValueIdx.ix3 k (y 1) (y 0)) = V m c main_arg0 (idx_main_v1 (idx_main_v2 (at_ t y)) k) := by
  unfold iblk
  refine congrArg (V m c main_arg0) ?_
  blk_ext [index_0]
theorem blk_1 (y : S308x512.Idx) : iblk m c 1 t y = V m c main_arg1 (at_ t y) := by
  unfold iblk
  refine congrArg (V m c main_arg1) ?_
  blk_ext [index_1]
theorem blk_2 (y : S308x512.Idx) : iblk m c 2 t y = V m c main_arg2 (at_ t y) := by
  unfold iblk
  refine congrArg (V m c main_arg2) ?_
  blk_ext [index_2]
theorem blk_3 (y : S308x512.Idx) : iblk m c 3 t y = V m c main_arg3 (at_ t y) := by
  unfold iblk
  refine congrArg (V m c main_arg3) ?_
  blk_ext [index_3]

theorem point_4 (y : S308x512.Idx) : (outsAt0 m c t).1 y = val_main_v2 (F := Ideal) (V m c main_arg0) (at_ t y) := by
  unfold outsAt0
  frame_out
  refine (turned _ _ _ _ _ y).trans ((summed (iblk m c 0 t) _ _ _ _ (y 1) (y 0)).trans ?_)
  rw [val_main_v2_apply, val_main_v1_apply, Fin.sum_univ_four]
  simp only [val_main_v0_apply, val_main_cst_apply, blk_0]
  show _ = Ideal.ofBits .f32 0x00000000#32 + _
  rw [Ideal.ofBits_zero_f32, zero_add]
  rfl

theorem point_5 (y : S308x512.Idx) : (outsAt0 m c t).2.1 y = val_main_v26 (F := Ideal) (V m c main_arg0) (V m c main_arg1) (V m c main_arg2) (V m c main_arg3) (at_ t y) := by
  have h := point_4 m c t y
  unfold outsAt0 at h ⊢
  frame_out at h
  frame_out
  exact change _ _ _ _ y _ _ _ _ _ h (blk_1 m c t y) (blk_2 m c t y) (blk_3 m c t y)

theorem point_6 (y : S308x512.Idx) : (outsAt0 m c t).2.2.1 y = val_main_v7 (F := Ideal) (V m c main_arg0) (V m c main_arg2) (at_ t y) := by
  have h := point_4 m c t y
  unfold outsAt0 at h ⊢
  frame_out at h
  frame_out
  exact moment _ _ y _ _ _ h (blk_2 m c t y)

theorem point_7 (y : S308x512.Idx) : (outsAt0 m c t).2.2.2 y = val_main_v13 (F := Ideal) (V m c main_arg0) (V m c main_arg3) (at_ t y) := by
  have h := point_4 m c t y
  unfold outsAt0 at h ⊢
  frame_out at h
  frame_out
  exact second _ _ y _ _ _ h (blk_3 m c t y)

theorem final_4 : (dats m 0 c).arrAt 4 cfg0.N = val_main_v2 (F := Ideal) (V m c main_arg0) := by
  refine (dats m 0 c).arrAt_eq_of_covers 4 _ (by decide +kernel) fun t hf y => ?_
  rw [after0_4]
  refine (point_4 m c t y).trans (congrArg _ ?_)
  blk_ext [index_4]

theorem final_5 : (dats m 0 c).arrAt 5 cfg0.N = val_main_v26 (F := Ideal) (V m c main_arg0) (V m c main_arg1) (V m c main_arg2) (V m c main_arg3) := by
  refine (dats m 0 c).arrAt_eq_of_covers 5 _ (by decide +kernel) fun t hf y => ?_
  rw [after0_5]
  refine (point_5 m c t y).trans (congrArg _ ?_)
  blk_ext [index_5]

theorem final_6 : (dats m 0 c).arrAt 6 cfg0.N = val_main_v7 (F := Ideal) (V m c main_arg0) (V m c main_arg2) := by
  refine (dats m 0 c).arrAt_eq_of_covers 6 _ (by decide +kernel) fun t hf y => ?_
  rw [after0_6]
  refine (point_6 m c t y).trans (congrArg _ ?_)
  blk_ext [index_6]

theorem final_7 : (dats m 0 c).arrAt 7 cfg0.N = val_main_v13 (F := Ideal) (V m c main_arg0) (V m c main_arg3) := by
  refine (dats m 0 c).arrAt_eq_of_covers 7 _ (by decide +kernel) fun t hf y => ?_
  rw [after0_7]
  refine (point_7 m c t y).trans (congrArg _ ?_)
  blk_ext [index_7]

/-- The run: the four results, the arguments unchanged. -/
theorem results (ρ : Dev nD → PrngReg) : θ_run defs (onTc (τ := τ) (main (F := Ideal))) ⟨m, fun _ => 0, ρ⟩ (fun r => ∀ c : Dev nD,
      r.2.mem ((c : Thread nD τ).loc main_v0_0) = val_main_v2 (F := Ideal) (V m c main_arg0)
      ∧ r.2.mem ((c : Thread nD τ).loc main_v0_1) = val_main_v26 (F := Ideal) (V m c main_arg0) (V m c main_arg1) (V m c main_arg2) (V m c main_arg3)
      ∧ r.2.mem ((c : Thread nD τ).loc main_v0_2) = val_main_v7 (F := Ideal) (V m c main_arg0) (V m c main_arg2)
      ∧ r.2.mem ((c : Thread nD τ).loc main_v0_3) = val_main_v13 (F := Ideal) (V m c main_arg0) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h4, h5, h6, h7, hrest⟩ := h c
    exact ⟨h4.trans (final_4 m c), h5.trans (final_5 m c), h6.trans (final_6 m c), h7.trans (final_7 m c), hrest⟩) (run_blocks m ρ)

/-- The kernel's four results are the reference's. -/
theorem algebraic : Cert.algebraic_InStepIdeal_InStepReferenceIdeal (hInStepIdeal := Cert.InStepIdeal.Gen.facts)
    (hInStepReferenceIdeal := Cert.InStepReferenceIdeal.Gen.facts) := by
  intro m g m' g' _ hargs
  refine ⟨_, _, _, _, results m g,
    (θ_run Cert.InStepReferenceIdeal.defs _ _).mono (fun r h c => ?_) (Cert.InStepReferenceIdeal.Value.run m' g')⟩
  obtain ⟨hg, hd, hm, hv, hrest⟩ := h c
  obtain ⟨a0, a1, a2, a3⟩ := hargs c
  refine ⟨?_, ?_, ?_, ?_, hrest⟩
  · rw [hg, Cert.InStepReferenceIdeal.Read.val_main_v2_eq, a0]
  · rw [hd, Cert.InStepReferenceIdeal.Read.val_main_v26_eq, a0, a1, a2, a3]
  · rw [hm, Cert.InStepReferenceIdeal.Read.val_main_v7_eq, a0, a2]
  · rw [hv, Cert.InStepReferenceIdeal.Read.val_main_v13_eq, a0, a3]

/-- The reference ends with its arguments as they were and every counter at zero. -/
theorem reference_frame : Cert.quiescent_InStepReferenceIdeal (hInStepReferenceIdeal := Cert.InStepReferenceIdeal.Gen.facts) :=
  fun m g _ => (θ_run Cert.InStepReferenceIdeal.defs _ _).mono (fun r h => ⟨fun c => (h c).2.2.2.2, sem_eq_zero_of_no_sems (by decide) r.2⟩)
    (Cert.InStepReferenceIdeal.Value.run m g)

end Cert.Steps.In

end
-- ==== Proof.RepModel.lean ====
/-
  The optimiser's step for the replicated weights: one weight's step, and the slab of the small weights' gradients the kernel
  gathers from the last eight rows of every device's part.
-/
module

public import proofs.«01_k».proof.Proof.Gen.RepStepIdeal.Frame.Runs
public import Idealize.ShloMosaic.Lib.Pipeline.Frame
public import Idealize.ShloMosaic.Lib.Pipeline.ValueKit

@[expose] public section

set_option maxRecDepth 16384

noncomputable section

namespace Cert.RepStepIdeal.Run

open Cert.RepStepIdeal Cert.RepStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One weight's step -/

/-- A number at every entry. -/
abbrev con (s : Shape) (w : BitVec 32) : FVec F s .f32 := broadcast s (Scalar.ofBits .f32 w)

variable {s : Shape}

/-- The new first moment. -/
def mom (g mo : FVec F s .f32) : FVec F s .f32 := addf (mulf (con s 0x3F666666#32) mo) (mulf (con s 0x3DCCCCCD#32) g)

/-- The new second moment. -/
def sec (g ve : FVec F s .f32) : FVec F s .f32 := addf (mulf (con s 0x3F7FBE77#32) ve) (mulf (con s 0x3A83126F#32) (mulf g g))

/-- The change of the weight. -/
def step (g w mo ve : FVec F s .f32) : FVec F s .f32 :=
  mulf (con s 0xBA83126F#32) (addf (divf (divf (mom g mo) (con s 0x3F26BD02#32)) (addf (sqrt (divf (sec g ve) (con s 0x3C231ACC#32))) (con s 0x322BCC77#32)))
    (mulf (con s 0x3C23D70A#32) w))

theorem mom_congr {g g' mo mo' : FVec F s .f32} (hg : g = g') (hm : mo = mo') : mom g mo = mom g' mo' := by rw [hg, hm]
theorem sec_congr {g g' ve ve' : FVec F s .f32} (hg : g = g') (hv : ve = ve') : sec g ve = sec g' ve' := by rw [hg, hv]
theorem step_congr {g g' w w' mo mo' ve ve' : FVec F s .f32} (hg : g = g') (hw : w = w') (hm : mo = mo') (hv : ve = ve') :
    step g w mo ve = step g' w' mo' ve' := by rw [hg, hw, hm, hv]

/-! ## The slab -/

/-- The last eight rows of every device's part, one device below the other. -/
def slab (x : Vec F S8x136x128 .f32) : Vec F S64x128 .f32 := fun y =>
  x (ValueIdx.ix3 (⟨(y 0).val / 8, by have h : (y 0).val < 64 := (y 0).isLt; omega⟩ : Fin 8) (⟨128 + (y 0).val % 8, by omega⟩ : Fin 136) (y 1))

/-- The eight stores that make it. -/
def slabL (v : View sig .tc .vmem S8x136x128 .f32) (f : v.ty.Contents (Elt F)) : List (View.Piece (Elt F) S64x128 .f32) :=
  [⟨Rect.unit (s := S64x128) ![56, 0] S8x128.size inb_S64x128_S8x128_56_0, k0_pay10 (v.readAt (Elt F) (Rect.unit (s := S8x136x128) ![7, 128, 0] S1x8x128.size inb_S8x136x128_S1x8x128_7_128_0).toLoadRect f)⟩,
   ⟨Rect.unit (s := S64x128) ![48, 0] S8x128.size inb_S64x128_S8x128_48_0, k0_pay9 (v.readAt (Elt F) (Rect.unit (s := S8x136x128) ![6, 128, 0] S1x8x128.size inb_S8x136x128_S1x8x128_6_128_0).toLoadRect f)⟩,
   ⟨Rect.unit (s := S64x128) ![40, 0] S8x128.size inb_S64x128_S8x128_40_0, k0_pay8 (k0_pay7 (v.readAt (Elt F) (Rect.unit (s := S8x136x128) ![5, 128, 0] S1x8x128.size inb_S8x136x128_S1x8x128_5_128_0).toLoadRect f))⟩,
   ⟨Rect.unit (s := S64x128) ![32, 0] S8x128.size inb_S64x128_S8x128_32_0, k0_pay6 (v.readAt (Elt F) (Rect.unit (s := S8x136x128) ![4, 128, 0] S1x8x128.size inb_S8x136x128_S1x8x128_4_128_0).toLoadRect f)⟩,
   ⟨Rect.unit (s := S64x128) ![24, 0] S8x128.size inb_S64x128_S8x128_24_0, k0_pay5 (v.readAt (Elt F) (Rect.unit (s := S8x136x128) ![3, 128, 0] S1x8x128.size inb_S8x136x128_S1x8x128_3_128_0).toLoadRect f)⟩,
   ⟨Rect.unit (s := S64x128) ![16, 0] S8x128.size inb_S64x128_S8x128_16_0, k0_pay4 (v.readAt (Elt F) (Rect.unit (s := S8x136x128) ![2, 128, 0] S1x8x128.size inb_S8x136x128_S1x8x128_2_128_0).toLoadRect f)⟩,
   ⟨Rect.unit (s := S64x128) ![8, 0] S8x128.size inb_S64x128_S8x128_8_0, k0_pay3 (v.readAt (Elt F) (Rect.unit (s := S8x136x128) ![1, 128, 0] S1x8x128.size inb_S8x136x128_S1x8x128_1_128_0).toLoadRect f)⟩,
   ⟨Rect.unit (s := S64x128) ![0, 0] S8x128.size inb_S64x128_S8x128_0_0, k0_pay2 (v.readAt (Elt F) (Rect.unit (s := S8x136x128) ![0, 128, 0] S1x8x128.size inb_S8x136x128_S1x8x128_0_128_0).toLoadRect f)⟩]

variable (v : View sig .tc .vmem S8x136x128 .f32) (f : v.ty.Contents (Elt F)) (w : View sig .tc .vmem S64x128 .f32)

theorem part {off : Fin 3 → Nat} {off' : Fin 2 → Nat} (d : Fin 8) (ho : off = ![d.val, 128, 0]) (ho' : off' = ![8 * d.val, 0]) (inb inb') {h h'} (x : S8x128.Idx) :
    shapeCast S8x128 (shapeCast S8x128 (v.readAt (Elt F) (Rect.unit (s := S8x136x128) off S1x8x128.size inb).toLoadRect f) h) h' x
      = slab (v.read (Elt F) f) ((Rect.unit (s := S64x128) off' S8x128.size inb').emb x) := by
  subst ho ho'
  have h0 : (x 0).val < 8 := (x 0).isLt
  rw [shapeCast_self]
  refine (shapeCast_dropUnit_apply ![8, 128] _ h _).trans (congrArg (v.read (Elt F) f) (funext fun a => Fin.ext ?_))
  match a with
  | ⟨0, _⟩ => show d.val + 1 * 0 = (8 * d.val + 1 * (x 0).val) / 8; omega
  | ⟨1, _⟩ => show 128 + 1 * (x 0).val = 128 + (8 * d.val + 1 * (x 0).val) % 8; omega
  | ⟨2, _⟩ => rfl

theorem slab_read (fw : w.ty.Contents (Elt F)) : w.read (Elt F) (w.writes (Elt F) fw (slabL v f)) = slab (v.read (Elt F) f) := by
  funext y
  refine View.read_writes_apply_of_pieces w fw (slab (v.read (Elt F) f)) (slabL v f) (fun p hp x => ?_) y
    (View.cover_of_tiledL (slabL v f) S8x128.size (by sl_kernel_rfl) y)
  unfold slabL at hp
  simp only [List.mem_cons, List.not_mem_nil, or_false] at hp
  rcases hp with rfl | rfl | rfl | rfl | rfl | rfl | rfl | rfl
  · exact part v f (off := ![7, 128, 0]) (off' := ![56, 0]) 7 rfl rfl inb_S8x136x128_S1x8x128_7_128_0 inb_S64x128_S8x128_56_0 x
  · exact part v f (off := ![6, 128, 0]) (off' := ![48, 0]) 6 rfl rfl inb_S8x136x128_S1x8x128_6_128_0 inb_S64x128_S8x128_48_0 x
  · exact part v f (off := ![5, 128, 0]) (off' := ![40, 0]) 5 rfl rfl inb_S8x136x128_S1x8x128_5_128_0 inb_S64x128_S8x128_40_0 x
  · exact part v f (off := ![4, 128, 0]) (off' := ![32, 0]) 4 rfl rfl inb_S8x136x128_S1x8x128_4_128_0 inb_S64x128_S8x128_32_0 x
  · exact part v f (off := ![3, 128, 0]) (off' := ![24, 0]) 3 rfl rfl inb_S8x136x128_S1x8x128_3_128_0 inb_S64x128_S8x128_24_0 x
  · exact part v f (off := ![2, 128, 0]) (off' := ![16, 0]) 2 rfl rfl inb_S8x136x128_S1x8x128_2_128_0 inb_S64x128_S8x128_16_0 x
  · exact part v f (off := ![1, 128, 0]) (off' := ![8, 0]) 1 rfl rfl inb_S8x136x128_S1x8x128_1_128_0 inb_S64x128_S8x128_8_0 x
  · exact part v f (off := ![0, 128, 0]) (off' := ![0, 0]) 0 rfl rfl inb_S8x136x128_S1x8x128_0_128_0 inb_S64x128_S8x128_0_0 x

/-- A load from the slab after the stores. -/
theorem slab_load (r : Rect S64x128) : w.readCov (slabL v f) r.toLoadRect = View.ld (slab (v.read (Elt F) f)) r :=
  congrArg (fun X => View.ld X r) (slab_read v f w w.junk)

/-! ## The gradients -/

variable (x : Vec F S8x136x128 .f32)

def grad1 : FVec F S256 .f32 := shapeCast S256 (View.ld (slab x) (Rect.unit (s := S64x128) ![0, 0] S2x128.size inb_S64x128_S2x128_0_0)) shapeCasts_S2x128_S256
def grad2 : FVec F S128 .f32 := shapeCast S128 (View.ld (slab x) (Rect.unit (s := S64x128) ![2, 0] S1x128.size inb_S64x128_S1x128_2_0)) shapeCasts_S1x128_S128
def grad3 : FVec F S512 .f32 := shapeCast S512 (View.ld (slab x) (Rect.unit (s := S64x128) ![3, 0] S4x128.size inb_S64x128_S4x128_3_0)) shapeCasts_S4x128_S512
def grad4 : FVec F S512 .f32 := shapeCast S512 (View.ld (slab x) (Rect.unit (s := S64x128) ![7, 0] S4x128.size inb_S64x128_S4x128_7_0)) shapeCasts_S4x128_S512
def grad5 : FVec F S8x128x128 .f32 := View.ld x (Rect.unit (s := S8x136x128) ![0, 0, 0] S8x128x128.size inb_S8x136x128_S8x128x128_0_0_0)
def grad6 : FVec F S8x128 .f32 := View.ld (slab x) (Rect.unit (s := S64x128) ![11, 0] S8x128.size inb_S64x128_S8x128_11_0)
def grad7 : FVec F S1024 .f32 := shapeCast S1024 (View.ld (slab x) (Rect.unit (s := S64x128) ![19, 0] S8x128.size inb_S64x128_S8x128_19_0)) shapeCasts_S8x128_S1024
def grad8 : FVec F S1024 .f32 := shapeCast S1024 (View.ld (slab x) (Rect.unit (s := S64x128) ![27, 0] S8x128.size inb_S64x128_S8x128_27_0)) shapeCasts_S8x128_S1024
def loss : FVec F S1x1 .f32 := View.ld (slab x) (Rect.unit (s := S64x128) ![63, 127] S1x1.size inb_S64x128_S1x1_63_127)

theorem grad1_eq : shapeCast S256 (w.readCov (slabL v f) (Rect.unit (s := S64x128) ![0, 0] S2x128.size inb_S64x128_S2x128_0_0).toLoadRect) shapeCasts_S2x128_S256 = grad1 (v.read (Elt F) f) := congrArg (fun X => shapeCast S256 X shapeCasts_S2x128_S256) (slab_load v f w _)
theorem grad2_eq : shapeCast S128 (w.readCov (slabL v f) (Rect.unit (s := S64x128) ![2, 0] S1x128.size inb_S64x128_S1x128_2_0).toLoadRect) shapeCasts_S1x128_S128 = grad2 (v.read (Elt F) f) := congrArg (fun X => shapeCast S128 X shapeCasts_S1x128_S128) (slab_load v f w _)
theorem grad3_eq : shapeCast S512 (w.readCov (slabL v f) (Rect.unit (s := S64x128) ![3, 0] S4x128.size inb_S64x128_S4x128_3_0).toLoadRect) shapeCasts_S4x128_S512 = grad3 (v.read (Elt F) f) := congrArg (fun X => shapeCast S512 X shapeCasts_S4x128_S512) (slab_load v f w _)
theorem grad4_eq : shapeCast S512 (w.readCov (slabL v f) (Rect.unit (s := S64x128) ![7, 0] S4x128.size inb_S64x128_S4x128_7_0).toLoadRect) shapeCasts_S4x128_S512 = grad4 (v.read (Elt F) f) := congrArg (fun X => shapeCast S512 X shapeCasts_S4x128_S512) (slab_load v f w _)
theorem grad5_eq : v.readAt (Elt F) (Rect.unit (s := S8x136x128) ![0, 0, 0] S8x128x128.size inb_S8x136x128_S8x128x128_0_0_0).toLoadRect f = grad5 (v.read (Elt F) f) := rfl
theorem grad6_eq : w.readCov (slabL v f) (Rect.unit (s := S64x128) ![11, 0] S8x128.size inb_S64x128_S8x128_11_0).toLoadRect = grad6 (v.read (Elt F) f) := slab_load v f w _
theorem grad7_eq : shapeCast S1024 (w.readCov (slabL v f) (Rect.unit (s := S64x128) ![19, 0] S8x128.size inb_S64x128_S8x128_19_0).toLoadRect) shapeCasts_S8x128_S1024 = grad7 (v.read (Elt F) f) := congrArg (fun X => shapeCast S1024 X shapeCasts_S8x128_S1024) (slab_load v f w _)
theorem grad8_eq : shapeCast S1024 (w.readCov (slabL v f) (Rect.unit (s := S64x128) ![27, 0] S8x128.size inb_S64x128_S8x128_27_0).toLoadRect) shapeCasts_S8x128_S1024 = grad8 (v.read (Elt F) f) := congrArg (fun X => shapeCast S1024 X shapeCasts_S8x128_S1024) (slab_load v f w _)
theorem loss_eq : w.readCov (slabL v f) (Rect.unit (s := S64x128) ![63, 127] S1x1.size inb_S64x128_S1x1_63_127).toLoadRect = loss (v.read (Elt F) f) := slab_load v f w _

end Cert.RepStepIdeal.Run

end
-- ==== Proof.RepRun.lean ====
/-
  The body of the optimiser's step for the replicated weights: the gradients out of the slab, each weight's moments and its change.
-/
module

public import proofs.«01_k».proof.Proof.RepModel
public import Idealize.ShloMosaic.Lib.VecWindow

@[expose] public section

set_option maxRecDepth 16384

noncomputable section

namespace Cert.RepStepIdeal.Run

open Cert.RepStepIdeal Cert.RepStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The point, by the buffers' contents. -/
theorem run (c : Dev nD) (arg0 : Memref sig .tc .vmem S8x136x128 .f32) (harg0 : arg0.IsWhole) (arg1 : Memref sig .tc .vmem S256 .f32) (harg1 : arg1.IsWhole) (arg2 : Memref sig .tc .vmem S128 .f32) (harg2 : arg2.IsWhole) (arg3 : Memref sig .tc .vmem S512 .f32) (harg3 : arg3.IsWhole) (arg4 : Memref sig .tc .vmem S512 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256 .f32) (harg9 : arg9.IsWhole) (arg10 : Memref sig .tc .vmem S128 .f32) (harg10 : arg10.IsWhole) (arg11 : Memref sig .tc .vmem S512 .f32) (harg11 : arg11.IsWhole) (arg12 : Memref sig .tc .vmem S512 .f32) (harg12 : arg12.IsWhole) (arg13 : Memref sig .tc .vmem S8x128x128 .f32) (harg13 : arg13.IsWhole) (arg14 : Memref sig .tc .vmem S8x128 .f32) (harg14 : arg14.IsWhole) (arg15 : Memref sig .tc .vmem S1024 .f32) (harg15 : arg15.IsWhole) (arg16 : Memref sig .tc .vmem S1024 .f32) (harg16 : arg16.IsWhole) (arg17 : Memref sig .tc .vmem S256 .f32) (harg17 : arg17.IsWhole) (arg18 : Memref sig .tc .vmem S128 .f32) (harg18 : arg18.IsWhole) (arg19 : Memref sig .tc .vmem S512 .f32) (harg19 : arg19.IsWhole) (arg20 : Memref sig .tc .vmem S512 .f32) (harg20 : arg20.IsWhole) (arg21 : Memref sig .tc .vmem S8x128x128 .f32) (harg21 : arg21.IsWhole) (arg22 : Memref sig .tc .vmem S8x128 .f32) (harg22 : arg22.IsWhole) (arg23 : Memref sig .tc .vmem S1024 .f32) (harg23 : arg23.IsWhole) (arg24 : Memref sig .tc .vmem S1024 .f32) (harg24 : arg24.IsWhole) (arg25 : Memref sig .tc .vmem S256 .f32) (harg25 : arg25.IsWhole) (arg26 : Memref sig .tc .vmem S128 .f32) (harg26 : arg26.IsWhole) (arg27 : Memref sig .tc .vmem S512 .f32) (harg27 : arg27.IsWhole) (arg28 : Memref sig .tc .vmem S512 .f32) (harg28 : arg28.IsWhole) (arg29 : Memref sig .tc .vmem S8x128x128 .f32) (harg29 : arg29.IsWhole) (arg30 : Memref sig .tc .vmem S8x128 .f32) (harg30 : arg30.IsWhole) (arg31 : Memref sig .tc .vmem S1024 .f32) (harg31 : arg31.IsWhole) (arg32 : Memref sig .tc .vmem S1024 .f32) (harg32 : arg32.IsWhole) (arg33 : Memref sig .tc .vmem S256 .f32) (harg33 : arg33.IsWhole) (arg34 : Memref sig .tc .vmem S128 .f32) (harg34 : arg34.IsWhole) (arg35 : Memref sig .tc .vmem S512 .f32) (harg35 : arg35.IsWhole) (arg36 : Memref sig .tc .vmem S512 .f32) (harg36 : arg36.IsWhole) (arg37 : Memref sig .tc .vmem S8x128x128 .f32) (harg37 : arg37.IsWhole) (arg38 : Memref sig .tc .vmem S8x128 .f32) (harg38 : arg38.IsWhole) (arg39 : Memref sig .tc .vmem S1024 .f32) (harg39 : arg39.IsWhole) (arg40 : Memref sig .tc .vmem S1024 .f32) (harg40 : arg40.IsWhole) (arg41 : Memref sig .tc .vmem S256 .f32) (harg41 : arg41.IsWhole) (arg42 : Memref sig .tc .vmem S128 .f32) (harg42 : arg42.IsWhole) (arg43 : Memref sig .tc .vmem S512 .f32) (harg43 : arg43.IsWhole) (arg44 : Memref sig .tc .vmem S512 .f32) (harg44 : arg44.IsWhole) (arg45 : Memref sig .tc .vmem S8x128x128 .f32) (harg45 : arg45.IsWhole) (arg46 : Memref sig .tc .vmem S8x128 .f32) (harg46 : arg46.IsWhole) (arg47 : Memref sig .tc .vmem S1024 .f32) (harg47 : arg47.IsWhole) (arg48 : Memref sig .tc .vmem S1024 .f32) (harg48 : arg48.IsWhole) (arg49 : Memref sig .tc .vmem S256 .f32) (harg49 : arg49.IsWhole) (arg50 : Memref sig .tc .vmem S128 .f32) (harg50 : arg50.IsWhole) (arg51 : Memref sig .tc .vmem S512 .f32) (harg51 : arg51.IsWhole) (arg52 : Memref sig .tc .vmem S512 .f32) (harg52 : arg52.IsWhole) (arg53 : Memref sig .tc .vmem S8x128x128 .f32) (harg53 : arg53.IsWhole) (arg54 : Memref sig .tc .vmem S8x128 .f32) (harg54 : arg54.IsWhole) (arg55 : Memref sig .tc .vmem S1024 .f32) (harg55 : arg55.IsWhole) (arg56 : Memref sig .tc .vmem S1024 .f32) (harg56 : arg56.IsWhole) (arg57 : Memref sig .tc .vmem S1x1 .f32) (harg57 : arg57.IsWhole) (arg58 : Memref sig .tc .vmem S64x128 .f32) (harg58 : arg58.IsWhole) (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f31 : Buf (Elt F) (arg31.view.loc (c : Thread nD τ))) (f32 : Buf (Elt F) (arg32.view.loc (c : Thread nD τ))) (f33 : Buf (Elt F) (arg33.view.loc (c : Thread nD τ))) (f34 : Buf (Elt F) (arg34.view.loc (c : Thread nD τ))) (f35 : Buf (Elt F) (arg35.view.loc (c : Thread nD τ))) (f36 : Buf (Elt F) (arg36.view.loc (c : Thread nD τ))) (f37 : Buf (Elt F) (arg37.view.loc (c : Thread nD τ))) (f38 : Buf (Elt F) (arg38.view.loc (c : Thread nD τ))) (f39 : Buf (Elt F) (arg39.view.loc (c : Thread nD τ))) (f40 : Buf (Elt F) (arg40.view.loc (c : Thread nD τ))) (f41 : Buf (Elt F) (arg41.view.loc (c : Thread nD τ))) (f42 : Buf (Elt F) (arg42.view.loc (c : Thread nD τ))) (f43 : Buf (Elt F) (arg43.view.loc (c : Thread nD τ))) (f44 : Buf (Elt F) (arg44.view.loc (c : Thread nD τ))) (f45 : Buf (Elt F) (arg45.view.loc (c : Thread nD τ))) (f46 : Buf (Elt F) (arg46.view.loc (c : Thread nD τ))) (f47 : Buf (Elt F) (arg47.view.loc (c : Thread nD τ))) (f48 : Buf (Elt F) (arg48.view.loc (c : Thread nD τ))) (f49 : Buf (Elt F) (arg49.view.loc (c : Thread nD τ))) (f50 : Buf (Elt F) (arg50.view.loc (c : Thread nD τ))) (f51 : Buf (Elt F) (arg51.view.loc (c : Thread nD τ))) (f52 : Buf (Elt F) (arg52.view.loc (c : Thread nD τ))) (f53 : Buf (Elt F) (arg53.view.loc (c : Thread nD τ))) (f54 : Buf (Elt F) (arg54.view.loc (c : Thread nD τ))) (f55 : Buf (Elt F) (arg55.view.loc (c : Thread nD τ))) (f56 : Buf (Elt F) (arg56.view.loc (c : Thread nD τ))) (f57 : Buf (Elt F) (arg57.view.loc (c : Thread nD τ))) (f58 : Buf (Elt F) (arg58.view.loc (c : Thread nD τ)))
    (x0 : Vec F S8x136x128 .f32) (x1 : Vec F S256 .f32) (x2 : Vec F S128 .f32) (x3 : Vec F S512 .f32) (x4 : Vec F S512 .f32) (x5 : Vec F S8x128x128 .f32) (x6 : Vec F S8x128 .f32) (x7 : Vec F S1024 .f32) (x8 : Vec F S1024 .f32) (x9 : Vec F S256 .f32) (x10 : Vec F S128 .f32) (x11 : Vec F S512 .f32) (x12 : Vec F S512 .f32) (x13 : Vec F S8x128x128 .f32) (x14 : Vec F S8x128 .f32) (x15 : Vec F S1024 .f32) (x16 : Vec F S1024 .f32) (x17 : Vec F S256 .f32) (x18 : Vec F S128 .f32) (x19 : Vec F S512 .f32) (x20 : Vec F S512 .f32) (x21 : Vec F S8x128x128 .f32) (x22 : Vec F S8x128 .f32) (x23 : Vec F S1024 .f32) (x24 : Vec F S1024 .f32) (h0 : arg0.view.read (Elt F) f0 = x0) (h1 : arg1.view.read (Elt F) f1 = x1) (h2 : arg2.view.read (Elt F) f2 = x2) (h3 : arg3.view.read (Elt F) f3 = x3) (h4 : arg4.view.read (Elt F) f4 = x4) (h5 : arg5.view.read (Elt F) f5 = x5) (h6 : arg6.view.read (Elt F) f6 = x6) (h7 : arg7.view.read (Elt F) f7 = x7) (h8 : arg8.view.read (Elt F) f8 = x8) (h9 : arg9.view.read (Elt F) f9 = x9) (h10 : arg10.view.read (Elt F) f10 = x10) (h11 : arg11.view.read (Elt F) f11 = x11) (h12 : arg12.view.read (Elt F) f12 = x12) (h13 : arg13.view.read (Elt F) f13 = x13) (h14 : arg14.view.read (Elt F) f14 = x14) (h15 : arg15.view.read (Elt F) f15 = x15) (h16 : arg16.view.read (Elt F) f16 = x16) (h17 : arg17.view.read (Elt F) f17 = x17) (h18 : arg18.view.read (Elt F) f18 = x18) (h19 : arg19.view.read (Elt F) f19 = x19) (h20 : arg20.view.read (Elt F) f20 = x20) (h21 : arg21.view.read (Elt F) f21 = x21) (h22 : arg22.view.read (Elt F) f22 = x22) (h23 : arg23.view.read (Elt F) f23 = x23) (h24 : arg24.view.read (Elt F) f24 = x24) :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[arg34.view.set]{fullShare} f34) ∗ (arg35.view.loc (c : Thread nD τ) ↦[arg35.view.set]{fullShare} f35) ∗ (arg36.view.loc (c : Thread nD τ) ↦[arg36.view.set]{fullShare} f36) ∗ (arg37.view.loc (c : Thread nD τ) ↦[arg37.view.set]{fullShare} f37) ∗ (arg38.view.loc (c : Thread nD τ) ↦[arg38.view.set]{fullShare} f38) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg43.view.loc (c : Thread nD τ) ↦[arg43.view.set]{fullShare} f43) ∗ (arg44.view.loc (c : Thread nD τ) ↦[arg44.view.set]{fullShare} f44) ∗ (arg45.view.loc (c : Thread nD τ) ↦[arg45.view.set]{fullShare} f45) ∗ (arg46.view.loc (c : Thread nD τ) ↦[arg46.view.set]{fullShare} f46) ∗ (arg47.view.loc (c : Thread nD τ) ↦[arg47.view.set]{fullShare} f47) ∗ (arg48.view.loc (c : Thread nD τ) ↦[arg48.view.set]{fullShare} f48) ∗ (arg49.view.loc (c : Thread nD τ) ↦[arg49.view.set]{fullShare} f49) ∗ (arg50.view.loc (c : Thread nD τ) ↦[arg50.view.set]{fullShare} f50) ∗ (arg51.view.loc (c : Thread nD τ) ↦[arg51.view.set]{fullShare} f51) ∗ (arg52.view.loc (c : Thread nD τ) ↦[arg52.view.set]{fullShare} f52) ∗ (arg53.view.loc (c : Thread nD τ) ↦[arg53.view.set]{fullShare} f53) ∗ (arg54.view.loc (c : Thread nD τ) ↦[arg54.view.set]{fullShare} f54) ∗ (arg55.view.loc (c : Thread nD τ) ↦[arg55.view.set]{fullShare} f55) ∗ (arg56.view.loc (c : Thread nD τ) ↦[arg56.view.set]{fullShare} f56) ∗ (arg57.view.loc (c : Thread nD τ) ↦[arg57.view.set]{fullShare} f57) ∗ (arg58.view.loc (c : Thread nD τ) ↦[arg58.view.set]{fullShare} f58))
      ⊢ wp frame (wpE (defs₀ (F := F)) Variants.none c none) Set.univ (cc0_adam_rep (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58)
        (fun _ => (iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (∃ g, ⌜arg25.view.read (Elt F) g = grad1 x0⌝ ∗ (arg25.view.loc (c : Thread nD τ) ↦[arg25.view.set]{fullShare} g)) ∗ (∃ g, ⌜arg26.view.read (Elt F) g = grad2 x0⌝ ∗ (arg26.view.loc (c : Thread nD τ) ↦[arg26.view.set]{fullShare} g)) ∗ (∃ g, ⌜arg27.view.read (Elt F) g = grad3 x0⌝ ∗ (arg27.view.loc (c : Thread nD τ) ↦[arg27.view.set]{fullShare} g)) ∗ (∃ g, ⌜arg28.view.read (Elt F) g = grad4 x0⌝ ∗ (arg28.view.loc (c : Thread nD τ) ↦[arg28.view.set]{fullShare} g)) ∗ (∃ g, ⌜arg29.view.read (Elt F) g = grad5 x0⌝ ∗ (arg29.view.loc (c : Thread nD τ) ↦[arg29.view.set]{fullShare} g)) ∗ (∃ g, ⌜arg30.view.read (Elt F) g = grad6 x0⌝ ∗ (arg30.view.loc (c : Thread nD τ) ↦[arg30.view.set]{fullShare} g)) ∗ (∃ g, ⌜arg31.view.read (Elt F) g = grad7 x0⌝ ∗ (arg31.view.loc (c : Thread nD τ) ↦[arg31.view.set]{fullShare} g)) ∗ (∃ g, ⌜arg32.view.read (Elt F) g = grad8 x0⌝ ∗ (arg32.view.loc (c : Thread nD τ) ↦[arg32.view.set]{fullShare} g)) ∗ (∃ g, ⌜arg33.view.read (Elt F) g = step (grad1 x0) x1 x9 x17⌝ ∗ (arg33.view.loc (c : Thread nD τ) ↦[arg33.view.set]{fullShare} g)) ∗ (∃ g, ⌜arg34.view.read (Elt F) g = step (grad2 x0) x2 x10 x18⌝ ∗ (arg34.view.loc (c : Thread nD τ) ↦[arg34.view.set]{fullShare} g)) ∗ (∃ g, ⌜arg35.view.read (Elt F) g = step (grad3 x0) x3 x11 x19⌝ ∗ (arg35.view.loc (c : Thread nD τ) ↦[arg35.view.set]{fullShare} g)) ∗ (∃ g, ⌜arg36.view.read (Elt F) g = step (grad4 x0) x4 x12 x20⌝ ∗ (arg36.view.loc (c : Thread nD τ) ↦[arg36.view.set]{fullShare} g)) ∗ (∃ g, ⌜arg37.view.read (Elt F) g = step (grad5 x0) x5 x13 x21⌝ ∗ (arg37.view.loc (c : Thread nD τ) ↦[arg37.view.set]{fullShare} g)) ∗ (∃ g, ⌜arg38.view.read (Elt F) g = step (grad6 x0) x6 x14 x22⌝ ∗ (arg38.view.loc (c : Thread nD τ) ↦[arg38.view.set]{fullShare} g)) ∗ (∃ g, ⌜arg39.view.read (Elt F) g = step (grad7 x0) x7 x15 x23⌝ ∗ (arg39.view.loc (c : Thread nD τ) ↦[arg39.view.set]{fullShare} g)) ∗ (∃ g, ⌜arg40.view.read (Elt F) g = step (grad8 x0) x8 x16 x24⌝ ∗ (arg40.view.loc (c : Thread nD τ) ↦[arg40.view.set]{fullShare} g)) ∗ (∃ g, ⌜arg41.view.read (Elt F) g = mom (grad1 x0) x9⌝ ∗ (arg41.view.loc (c : Thread nD τ) ↦[arg41.view.set]{fullShare} g)) ∗ (∃ g, ⌜arg42.view.read (Elt F) g = mom (grad2 x0) x10⌝ ∗ (arg42.view.loc (c : Thread nD τ) ↦[arg42.view.set]{fullShare} g)) ∗ (∃ g, ⌜arg43.view.read (Elt F) g = mom (grad3 x0) x11⌝ ∗ (arg43.view.loc (c : Thread nD τ) ↦[arg43.view.set]{fullShare} g)) ∗ (∃ g, ⌜arg44.view.read (Elt F) g = mom (grad4 x0) x12⌝ ∗ (arg44.view.loc (c : Thread nD τ) ↦[arg44.view.set]{fullShare} g)) ∗ (∃ g, ⌜arg45.view.read (Elt F) g = mom (grad5 x0) x13⌝ ∗ (arg45.view.loc (c : Thread nD τ) ↦[arg45.view.set]{fullShare} g)) ∗ (∃ g, ⌜arg46.view.read (Elt F) g = mom (grad6 x0) x14⌝ ∗ (arg46.view.loc (c : Thread nD τ) ↦[arg46.view.set]{fullShare} g)) ∗ (∃ g, ⌜arg47.view.read (Elt F) g = mom (grad7 x0) x15⌝ ∗ (arg47.view.loc (c : Thread nD τ) ↦[arg47.view.set]{fullShare} g)) ∗ (∃ g, ⌜arg48.view.read (Elt F) g = mom (grad8 x0) x16⌝ ∗ (arg48.view.loc (c : Thread nD τ) ↦[arg48.view.set]{fullShare} g)) ∗ (∃ g, ⌜arg49.view.read (Elt F) g = sec (grad1 x0) x17⌝ ∗ (arg49.view.loc (c : Thread nD τ) ↦[arg49.view.set]{fullShare} g)) ∗ (∃ g, ⌜arg50.view.read (Elt F) g = sec (grad2 x0) x18⌝ ∗ (arg50.view.loc (c : Thread nD τ) ↦[arg50.view.set]{fullShare} g)) ∗ (∃ g, ⌜arg51.view.read (Elt F) g = sec (grad3 x0) x19⌝ ∗ (arg51.view.loc (c : Thread nD τ) ↦[arg51.view.set]{fullShare} g)) ∗ (∃ g, ⌜arg52.view.read (Elt F) g = sec (grad4 x0) x20⌝ ∗ (arg52.view.loc (c : Thread nD τ) ↦[arg52.view.set]{fullShare} g)) ∗ (∃ g, ⌜arg53.view.read (Elt F) g = sec (grad5 x0) x21⌝ ∗ (arg53.view.loc (c : Thread nD τ) ↦[arg53.view.set]{fullShare} g)) ∗ (∃ g, ⌜arg54.view.read (Elt F) g = sec (grad6 x0) x22⌝ ∗ (arg54.view.loc (c : Thread nD τ) ↦[arg54.view.set]{fullShare} g)) ∗ (∃ g, ⌜arg55.view.read (Elt F) g = sec (grad7 x0) x23⌝ ∗ (arg55.view.loc (c : Thread nD τ) ↦[arg55.view.set]{fullShare} g)) ∗ (∃ g, ⌜arg56.view.read (Elt F) g = sec (grad8 x0) x24⌝ ∗ (arg56.view.loc (c : Thread nD τ) ↦[arg56.view.set]{fullShare} g)) ∗ (∃ g, ⌜arg57.view.read (Elt F) g = loss x0⌝ ∗ (arg57.view.loc (c : Thread nD τ) ↦[arg57.view.set]{fullShare} g)) ∗ (∃ g, (arg58.view.loc (c : Thread nD τ) ↦[arg58.view.set]{fullShare} g))) : sProp 𝕄)) := by
  rw [cc0_adam_rep_eq_skeleton]; unfold cc0_adam_rep_skel
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58⟩
  sl_exec_parts
  sl_step
  have e1 := (grad1_eq arg0.view f0 arg58.view).trans (congrArg grad1 h0)
  have e2 := (grad2_eq arg0.view f0 arg58.view).trans (congrArg grad2 h0)
  have e3 := (grad3_eq arg0.view f0 arg58.view).trans (congrArg grad3 h0)
  have e4 := (grad4_eq arg0.view f0 arg58.view).trans (congrArg grad4 h0)
  have e5 := (grad5_eq arg0.view f0).trans (congrArg grad5 h0)
  have e6 := (grad6_eq arg0.view f0 arg58.view).trans (congrArg grad6 h0)
  have e7 := (grad7_eq arg0.view f0 arg58.view).trans (congrArg grad7 h0)
  have e8 := (grad8_eq arg0.view f0 arg58.view).trans (congrArg grad8 h0)
  have e0 := (loss_eq arg0.view f0 arg58.view).trans (congrArg loss h0)
  have r1 := (View.readAt_full arg1.view f1 (off := ![0]) inb_S256_S256_0).trans h1
  have r2 := (View.readAt_full arg2.view f2 (off := ![0]) inb_S128_S128_0).trans h2
  have r3 := (View.readAt_full arg3.view f3 (off := ![0]) inb_S512_S512_0).trans h3
  have r4 := (View.readAt_full arg4.view f4 (off := ![0]) inb_S512_S512_0).trans h4
  have r5 := (View.readAt_full arg5.view f5 (off := ![0, 0, 0]) inb_S8x128x128_S8x128x128_0_0_0).trans h5
  have r6 := (View.readAt_full arg6.view f6 (off := ![0, 0]) inb_S8x128_S8x128_0_0).trans h6
  have r7 := (View.readAt_full arg7.view f7 (off := ![0]) inb_S1024_S1024_0).trans h7
  have r8 := (View.readAt_full arg8.view f8 (off := ![0]) inb_S1024_S1024_0).trans h8
  have r9 := (View.readAt_full arg9.view f9 (off := ![0]) inb_S256_S256_0).trans h9
  have r10 := (View.readAt_full arg10.view f10 (off := ![0]) inb_S128_S128_0).trans h10
  have r11 := (View.readAt_full arg11.view f11 (off := ![0]) inb_S512_S512_0).trans h11
  have r12 := (View.readAt_full arg12.view f12 (off := ![0]) inb_S512_S512_0).trans h12
  have r13 := (View.readAt_full arg13.view f13 (off := ![0, 0, 0]) inb_S8x128x128_S8x128x128_0_0_0).trans h13
  have r14 := (View.readAt_full arg14.view f14 (off := ![0, 0]) inb_S8x128_S8x128_0_0).trans h14
  have r15 := (View.readAt_full arg15.view f15 (off := ![0]) inb_S1024_S1024_0).trans h15
  have r16 := (View.readAt_full arg16.view f16 (off := ![0]) inb_S1024_S1024_0).trans h16
  have r17 := (View.readAt_full arg17.view f17 (off := ![0]) inb_S256_S256_0).trans h17
  have r18 := (View.readAt_full arg18.view f18 (off := ![0]) inb_S128_S128_0).trans h18
  have r19 := (View.readAt_full arg19.view f19 (off := ![0]) inb_S512_S512_0).trans h19
  have r20 := (View.readAt_full arg20.view f20 (off := ![0]) inb_S512_S512_0).trans h20
  have r21 := (View.readAt_full arg21.view f21 (off := ![0, 0, 0]) inb_S8x128x128_S8x128x128_0_0_0).trans h21
  have r22 := (View.readAt_full arg22.view f22 (off := ![0, 0]) inb_S8x128_S8x128_0_0).trans h22
  have r23 := (View.readAt_full arg23.view f23 (off := ![0]) inb_S1024_S1024_0).trans h23
  have r24 := (View.readAt_full arg24.view f24 (off := ![0]) inb_S1024_S1024_0).trans h24
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · iexists _; isplitr
    swap; · iexact H25
    ipureintro; exact (View.read_writes_full _ _ _ _ _).trans (e1)
  isplitl [H26]
  · iexists _; isplitr
    swap; · iexact H26
    ipureintro; exact (View.read_writes_full _ _ _ _ _).trans (e2)
  isplitl [H27]
  · iexists _; isplitr
    swap; · iexact H27
    ipureintro; exact (View.read_writes_full _ _ _ _ _).trans (e3)
  isplitl [H28]
  · iexists _; isplitr
    swap; · iexact H28
    ipureintro; exact (View.read_writes_full _ _ _ _ _).trans (e4)
  isplitl [H29]
  · iexists _; isplitr
    swap; · iexact H29
    ipureintro; exact (View.read_writes_full _ _ _ _ _).trans (e5)
  isplitl [H30]
  · iexists _; isplitr
    swap; · iexact H30
    ipureintro; exact (View.read_writes_full _ _ _ _ _).trans (e6)
  isplitl [H31]
  · iexists _; isplitr
    swap; · iexact H31
    ipureintro; exact (View.read_writes_full _ _ _ _ _).trans (e7)
  isplitl [H32]
  · iexists _; isplitr
    swap; · iexact H32
    ipureintro; exact (View.read_writes_full _ _ _ _ _).trans (e8)
  isplitl [H33]
  · iexists _; isplitr
    swap; · iexact H33
    ipureintro; exact (View.read_writes_full _ _ _ _ _).trans (step_congr e1 r1 r9 r17)
  isplitl [H34]
  · iexists _; isplitr
    swap; · iexact H34
    ipureintro; exact (View.read_writes_full _ _ _ _ _).trans (step_congr e2 r2 r10 r18)
  isplitl [H35]
  · iexists _; isplitr
    swap; · iexact H35
    ipureintro; exact (View.read_writes_full _ _ _ _ _).trans (step_congr e3 r3 r11 r19)
  isplitl [H36]
  · iexists _; isplitr
    swap; · iexact H36
    ipureintro; exact (View.read_writes_full _ _ _ _ _).trans (step_congr e4 r4 r12 r20)
  isplitl [H37]
  · iexists _; isplitr
    swap; · iexact H37
    ipureintro; exact (View.read_writes_full _ _ _ _ _).trans (step_congr e5 r5 r13 r21)
  isplitl [H38]
  · iexists _; isplitr
    swap; · iexact H38
    ipureintro; exact (View.read_writes_full _ _ _ _ _).trans (step_congr e6 r6 r14 r22)
  isplitl [H39]
  · iexists _; isplitr
    swap; · iexact H39
    ipureintro; exact (View.read_writes_full _ _ _ _ _).trans (step_congr e7 r7 r15 r23)
  isplitl [H40]
  · iexists _; isplitr
    swap; · iexact H40
    ipureintro; exact (View.read_writes_full _ _ _ _ _).trans (step_congr e8 r8 r16 r24)
  isplitl [H41]
  · iexists _; isplitr
    swap; · iexact H41
    ipureintro; exact (View.read_writes_full _ _ _ _ _).trans (mom_congr e1 r9)
  isplitl [H42]
  · iexists _; isplitr
    swap; · iexact H42
    ipureintro; exact (View.read_writes_full _ _ _ _ _).trans (mom_congr e2 r10)
  isplitl [H43]
  · iexists _; isplitr
    swap; · iexact H43
    ipureintro; exact (View.read_writes_full _ _ _ _ _).trans (mom_congr e3 r11)
  isplitl [H44]
  · iexists _; isplitr
    swap; · iexact H44
    ipureintro; exact (View.read_writes_full _ _ _ _ _).trans (mom_congr e4 r12)
  isplitl [H45]
  · iexists _; isplitr
    swap; · iexact H45
    ipureintro; exact (View.read_writes_full _ _ _ _ _).trans (mom_congr e5 r13)
  isplitl [H46]
  · iexists _; isplitr
    swap; · iexact H46
    ipureintro; exact (View.read_writes_full _ _ _ _ _).trans (mom_congr e6 r14)
  isplitl [H47]
  · iexists _; isplitr
    swap; · iexact H47
    ipureintro; exact (View.read_writes_full _ _ _ _ _).trans (mom_congr e7 r15)
  isplitl [H48]
  · iexists _; isplitr
    swap; · iexact H48
    ipureintro; exact (View.read_writes_full _ _ _ _ _).trans (mom_congr e8 r16)
  isplitl [H49]
  · iexists _; isplitr
    swap; · iexact H49
    ipureintro; exact (View.read_writes_full _ _ _ _ _).trans (sec_congr e1 r17)
  isplitl [H50]
  · iexists _; isplitr
    swap; · iexact H50
    ipureintro; exact (View.read_writes_full _ _ _ _ _).trans (sec_congr e2 r18)
  isplitl [H51]
  · iexists _; isplitr
    swap; · iexact H51
    ipureintro; exact (View.read_writes_full _ _ _ _ _).trans (sec_congr e3 r19)
  isplitl [H52]
  · iexists _; isplitr
    swap; · iexact H52
    ipureintro; exact (View.read_writes_full _ _ _ _ _).trans (sec_congr e4 r20)
  isplitl [H53]
  · iexists _; isplitr
    swap; · iexact H53
    ipureintro; exact (View.read_writes_full _ _ _ _ _).trans (sec_congr e5 r21)
  isplitl [H54]
  · iexists _; isplitr
    swap; · iexact H54
    ipureintro; exact (View.read_writes_full _ _ _ _ _).trans (sec_congr e6 r22)
  isplitl [H55]
  · iexists _; isplitr
    swap; · iexact H55
    ipureintro; exact (View.read_writes_full _ _ _ _ _).trans (sec_congr e7 r23)
  isplitl [H56]
  · iexists _; isplitr
    swap; · iexact H56
    ipureintro; exact (View.read_writes_full _ _ _ _ _).trans (sec_congr e8 r24)
  isplitl [H57]
  · iexists _; isplitr
    swap; · iexact H57
    ipureintro; exact (View.read_writes_full _ _ _ _ _).trans (e0)
  iexists _; iexact H58

set_option maxHeartbeats 4000000 in
/-- The point, with any continuation. -/
theorem run_then (c : Dev nD) (arg0 : Memref sig .tc .vmem S8x136x128 .f32) (harg0 : arg0.IsWhole) (arg1 : Memref sig .tc .vmem S256 .f32) (harg1 : arg1.IsWhole) (arg2 : Memref sig .tc .vmem S128 .f32) (harg2 : arg2.IsWhole) (arg3 : Memref sig .tc .vmem S512 .f32) (harg3 : arg3.IsWhole) (arg4 : Memref sig .tc .vmem S512 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256 .f32) (harg9 : arg9.IsWhole) (arg10 : Memref sig .tc .vmem S128 .f32) (harg10 : arg10.IsWhole) (arg11 : Memref sig .tc .vmem S512 .f32) (harg11 : arg11.IsWhole) (arg12 : Memref sig .tc .vmem S512 .f32) (harg12 : arg12.IsWhole) (arg13 : Memref sig .tc .vmem S8x128x128 .f32) (harg13 : arg13.IsWhole) (arg14 : Memref sig .tc .vmem S8x128 .f32) (harg14 : arg14.IsWhole) (arg15 : Memref sig .tc .vmem S1024 .f32) (harg15 : arg15.IsWhole) (arg16 : Memref sig .tc .vmem S1024 .f32) (harg16 : arg16.IsWhole) (arg17 : Memref sig .tc .vmem S256 .f32) (harg17 : arg17.IsWhole) (arg18 : Memref sig .tc .vmem S128 .f32) (harg18 : arg18.IsWhole) (arg19 : Memref sig .tc .vmem S512 .f32) (harg19 : arg19.IsWhole) (arg20 : Memref sig .tc .vmem S512 .f32) (harg20 : arg20.IsWhole) (arg21 : Memref sig .tc .vmem S8x128x128 .f32) (harg21 : arg21.IsWhole) (arg22 : Memref sig .tc .vmem S8x128 .f32) (harg22 : arg22.IsWhole) (arg23 : Memref sig .tc .vmem S1024 .f32) (harg23 : arg23.IsWhole) (arg24 : Memref sig .tc .vmem S1024 .f32) (harg24 : arg24.IsWhole) (arg25 : Memref sig .tc .vmem S256 .f32) (harg25 : arg25.IsWhole) (arg26 : Memref sig .tc .vmem S128 .f32) (harg26 : arg26.IsWhole) (arg27 : Memref sig .tc .vmem S512 .f32) (harg27 : arg27.IsWhole) (arg28 : Memref sig .tc .vmem S512 .f32) (harg28 : arg28.IsWhole) (arg29 : Memref sig .tc .vmem S8x128x128 .f32) (harg29 : arg29.IsWhole) (arg30 : Memref sig .tc .vmem S8x128 .f32) (harg30 : arg30.IsWhole) (arg31 : Memref sig .tc .vmem S1024 .f32) (harg31 : arg31.IsWhole) (arg32 : Memref sig .tc .vmem S1024 .f32) (harg32 : arg32.IsWhole) (arg33 : Memref sig .tc .vmem S256 .f32) (harg33 : arg33.IsWhole) (arg34 : Memref sig .tc .vmem S128 .f32) (harg34 : arg34.IsWhole) (arg35 : Memref sig .tc .vmem S512 .f32) (harg35 : arg35.IsWhole) (arg36 : Memref sig .tc .vmem S512 .f32) (harg36 : arg36.IsWhole) (arg37 : Memref sig .tc .vmem S8x128x128 .f32) (harg37 : arg37.IsWhole) (arg38 : Memref sig .tc .vmem S8x128 .f32) (harg38 : arg38.IsWhole) (arg39 : Memref sig .tc .vmem S1024 .f32) (harg39 : arg39.IsWhole) (arg40 : Memref sig .tc .vmem S1024 .f32) (harg40 : arg40.IsWhole) (arg41 : Memref sig .tc .vmem S256 .f32) (harg41 : arg41.IsWhole) (arg42 : Memref sig .tc .vmem S128 .f32) (harg42 : arg42.IsWhole) (arg43 : Memref sig .tc .vmem S512 .f32) (harg43 : arg43.IsWhole) (arg44 : Memref sig .tc .vmem S512 .f32) (harg44 : arg44.IsWhole) (arg45 : Memref sig .tc .vmem S8x128x128 .f32) (harg45 : arg45.IsWhole) (arg46 : Memref sig .tc .vmem S8x128 .f32) (harg46 : arg46.IsWhole) (arg47 : Memref sig .tc .vmem S1024 .f32) (harg47 : arg47.IsWhole) (arg48 : Memref sig .tc .vmem S1024 .f32) (harg48 : arg48.IsWhole) (arg49 : Memref sig .tc .vmem S256 .f32) (harg49 : arg49.IsWhole) (arg50 : Memref sig .tc .vmem S128 .f32) (harg50 : arg50.IsWhole) (arg51 : Memref sig .tc .vmem S512 .f32) (harg51 : arg51.IsWhole) (arg52 : Memref sig .tc .vmem S512 .f32) (harg52 : arg52.IsWhole) (arg53 : Memref sig .tc .vmem S8x128x128 .f32) (harg53 : arg53.IsWhole) (arg54 : Memref sig .tc .vmem S8x128 .f32) (harg54 : arg54.IsWhole) (arg55 : Memref sig .tc .vmem S1024 .f32) (harg55 : arg55.IsWhole) (arg56 : Memref sig .tc .vmem S1024 .f32) (harg56 : arg56.IsWhole) (arg57 : Memref sig .tc .vmem S1x1 .f32) (harg57 : arg57.IsWhole) (arg58 : Memref sig .tc .vmem S64x128 .f32) (harg58 : arg58.IsWhole)
    (x0 : Vec F S8x136x128 .f32) (x1 : Vec F S256 .f32) (x2 : Vec F S128 .f32) (x3 : Vec F S512 .f32) (x4 : Vec F S512 .f32) (x5 : Vec F S8x128x128 .f32) (x6 : Vec F S8x128 .f32) (x7 : Vec F S1024 .f32) (x8 : Vec F S1024 .f32) (x9 : Vec F S256 .f32) (x10 : Vec F S128 .f32) (x11 : Vec F S512 .f32) (x12 : Vec F S512 .f32) (x13 : Vec F S8x128x128 .f32) (x14 : Vec F S8x128 .f32) (x15 : Vec F S1024 .f32) (x16 : Vec F S1024 .f32) (x17 : Vec F S256 .f32) (x18 : Vec F S128 .f32) (x19 : Vec F S512 .f32) (x20 : Vec F S512 .f32) (x21 : Vec F S8x128x128 .f32) (x22 : Vec F S8x128 .f32) (x23 : Vec F S1024 .f32) (x24 : Vec F S1024 .f32) (K : PUnit → sProp 𝕄) :
    iprop((owns (c : Thread nD τ) arg0 fullShare (x0) ∗ owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ owns (c : Thread nD τ) arg17 fullShare (x17) ∗ owns (c : Thread nD τ) arg18 fullShare (x18) ∗ owns (c : Thread nD τ) arg19 fullShare (x19) ∗ owns (c : Thread nD τ) arg20 fullShare (x20) ∗ owns (c : Thread nD τ) arg21 fullShare (x21) ∗ owns (c : Thread nD τ) arg22 fullShare (x22) ∗ owns (c : Thread nD τ) arg23 fullShare (x23) ∗ owns (c : Thread nD τ) arg24 fullShare (x24) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d))
        ∗ ((owns (c : Thread nD τ) arg0 fullShare (x0) ∗ owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ owns (c : Thread nD τ) arg17 fullShare (x17) ∗ owns (c : Thread nD τ) arg18 fullShare (x18) ∗ owns (c : Thread nD τ) arg19 fullShare (x19) ∗ owns (c : Thread nD τ) arg20 fullShare (x20) ∗ owns (c : Thread nD τ) arg21 fullShare (x21) ∗ owns (c : Thread nD τ) arg22 fullShare (x22) ∗ owns (c : Thread nD τ) arg23 fullShare (x23) ∗ owns (c : Thread nD τ) arg24 fullShare (x24) ∗ owns (c : Thread nD τ) arg25 fullShare (grad1 x0) ∗ owns (c : Thread nD τ) arg26 fullShare (grad2 x0) ∗ owns (c : Thread nD τ) arg27 fullShare (grad3 x0) ∗ owns (c : Thread nD τ) arg28 fullShare (grad4 x0) ∗ owns (c : Thread nD τ) arg29 fullShare (grad5 x0) ∗ owns (c : Thread nD τ) arg30 fullShare (grad6 x0) ∗ owns (c : Thread nD τ) arg31 fullShare (grad7 x0) ∗ owns (c : Thread nD τ) arg32 fullShare (grad8 x0) ∗ owns (c : Thread nD τ) arg33 fullShare (step (grad1 x0) x1 x9 x17) ∗ owns (c : Thread nD τ) arg34 fullShare (step (grad2 x0) x2 x10 x18) ∗ owns (c : Thread nD τ) arg35 fullShare (step (grad3 x0) x3 x11 x19) ∗ owns (c : Thread nD τ) arg36 fullShare (step (grad4 x0) x4 x12 x20) ∗ owns (c : Thread nD τ) arg37 fullShare (step (grad5 x0) x5 x13 x21) ∗ owns (c : Thread nD τ) arg38 fullShare (step (grad6 x0) x6 x14 x22) ∗ owns (c : Thread nD τ) arg39 fullShare (step (grad7 x0) x7 x15 x23) ∗ owns (c : Thread nD τ) arg40 fullShare (step (grad8 x0) x8 x16 x24) ∗ owns (c : Thread nD τ) arg41 fullShare (mom (grad1 x0) x9) ∗ owns (c : Thread nD τ) arg42 fullShare (mom (grad2 x0) x10) ∗ owns (c : Thread nD τ) arg43 fullShare (mom (grad3 x0) x11) ∗ owns (c : Thread nD τ) arg44 fullShare (mom (grad4 x0) x12) ∗ owns (c : Thread nD τ) arg45 fullShare (mom (grad5 x0) x13) ∗ owns (c : Thread nD τ) arg46 fullShare (mom (grad6 x0) x14) ∗ owns (c : Thread nD τ) arg47 fullShare (mom (grad7 x0) x15) ∗ owns (c : Thread nD τ) arg48 fullShare (mom (grad8 x0) x16) ∗ owns (c : Thread nD τ) arg49 fullShare (sec (grad1 x0) x17) ∗ owns (c : Thread nD τ) arg50 fullShare (sec (grad2 x0) x18) ∗ owns (c : Thread nD τ) arg51 fullShare (sec (grad3 x0) x19) ∗ owns (c : Thread nD τ) arg52 fullShare (sec (grad4 x0) x20) ∗ owns (c : Thread nD τ) arg53 fullShare (sec (grad5 x0) x21) ∗ owns (c : Thread nD τ) arg54 fullShare (sec (grad6 x0) x22) ∗ owns (c : Thread nD τ) arg55 fullShare (sec (grad7 x0) x23) ∗ owns (c : Thread nD τ) arg56 fullShare (sec (grad8 x0) x24) ∗ owns (c : Thread nD τ) arg57 fullShare (loss x0) ∗ (∃ d, owns (c : Thread nD τ) arg58 fullShare d)) -∗ K ⟨⟩))
      ⊢ wp frame (wpE (defs₀ (F := F)) Variants.none c none) Set.univ (cc0_adam_rep (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58) K := by
  unfold owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩⟩, Hk⟩
  iapply wp_wand_r
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57 H58]
  · iapply (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 f0 f1 f2 f3 f4 f5 f6 f7 f8 f9 f10 f11 f12 f13 f14 f15 f16 f17 f18 f19 f20 f21 f22 f23 f24 f25 f26 f27 f28 f29 f30 f31 f32 f33 f34 f35 f36 f37 f38 f39 f40 f41 f42 f43 f44 f45 f46 f47 f48 f49 f50 f51 f52 f53 f54 f55 f56 f57 f58 x0 x1 x2 x3 x4 x5 x6 x7 x8 x9 x10 x11 x12 x13 x14 x15 x16 x17 x18 x19 x20 x21 x22 x23 x24 h0 h1 h2 h3 h4 h5 h6 h7 h8 h9 h10 h11 h12 h13 h14 h15 h16 h17 h18 h19 h20 h21 h22 h23 h24)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [H50]; · iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    iexact H58
  iintro %_ ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, ⟨%g58, H58⟩⟩
  iapply Hk
  isplitl [H0]
  · iexists f0; isplitr
    · ipureintro; exact h0
    iexact H0
  isplitl [H1]
  · iexists f1; isplitr
    · ipureintro; exact h1
    iexact H1
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists f8; isplitr
    · ipureintro; exact h8
    iexact H8
  isplitl [H9]
  · iexists f9; isplitr
    · ipureintro; exact h9
    iexact H9
  isplitl [H10]
  · iexists f10; isplitr
    · ipureintro; exact h10
    iexact H10
  isplitl [H11]
  · iexists f11; isplitr
    · ipureintro; exact h11
    iexact H11
  isplitl [H12]
  · iexists f12; isplitr
    · ipureintro; exact h12
    iexact H12
  isplitl [H13]
  · iexists f13; isplitr
    · ipureintro; exact h13
    iexact H13
  isplitl [H14]
  · iexists f14; isplitr
    · ipureintro; exact h14
    iexact H14
  isplitl [H15]
  · iexists f15; isplitr
    · ipureintro; exact h15
    iexact H15
  isplitl [H16]
  · iexists f16; isplitr
    · ipureintro; exact h16
    iexact H16
  isplitl [H17]
  · iexists f17; isplitr
    · ipureintro; exact h17
    iexact H17
  isplitl [H18]
  · iexists f18; isplitr
    · ipureintro; exact h18
    iexact H18
  isplitl [H19]
  · iexists f19; isplitr
    · ipureintro; exact h19
    iexact H19
  isplitl [H20]
  · iexists f20; isplitr
    · ipureintro; exact h20
    iexact H20
  isplitl [H21]
  · iexists f21; isplitr
    · ipureintro; exact h21
    iexact H21
  isplitl [H22]
  · iexists f22; isplitr
    · ipureintro; exact h22
    iexact H22
  isplitl [H23]
  · iexists f23; isplitr
    · ipureintro; exact h23
    iexact H23
  isplitl [H24]
  · iexists f24; isplitr
    · ipureintro; exact h24
    iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  iexists _, g58; isplitr
  swap; · iexact H58
  ipureintro; rfl

end Cert.RepStepIdeal.Run

end
-- ==== Proof.RepLaunch.lean ====
/-
  The launch of the optimiser's step for the replicated weights: the arrays of its results as the point leaves them, and its frame.
-/
module

public import proofs.«01_k».proof.Proof.RepRun
public import Idealize.ShloMosaic.Lib.Pipeline.Frame
public import Idealize.ShloMosaic.Lib.Pipeline.ValueKit
public import Idealize.ShloMosaic.Lib.Claim

@[expose] public section

set_option maxRecDepth 16384

noncomputable section

namespace Cert.RepStepIdeal.Run

open Cert.RepStepIdeal Cert.RepStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' buffers at their blocks, the results' at the step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => grad1 (iblk m c 0 t)
    | ⟨26, _⟩ => grad2 (iblk m c 0 t)
    | ⟨27, _⟩ => grad3 (iblk m c 0 t)
    | ⟨28, _⟩ => grad4 (iblk m c 0 t)
    | ⟨29, _⟩ => grad5 (iblk m c 0 t)
    | ⟨30, _⟩ => grad6 (iblk m c 0 t)
    | ⟨31, _⟩ => grad7 (iblk m c 0 t)
    | ⟨32, _⟩ => grad8 (iblk m c 0 t)
    | ⟨33, _⟩ => step (grad1 (iblk m c 0 t)) (iblk m c 1 t) (iblk m c 9 t) (iblk m c 17 t)
    | ⟨34, _⟩ => step (grad2 (iblk m c 0 t)) (iblk m c 2 t) (iblk m c 10 t) (iblk m c 18 t)
    | ⟨35, _⟩ => step (grad3 (iblk m c 0 t)) (iblk m c 3 t) (iblk m c 11 t) (iblk m c 19 t)
    | ⟨36, _⟩ => step (grad4 (iblk m c 0 t)) (iblk m c 4 t) (iblk m c 12 t) (iblk m c 20 t)
    | ⟨37, _⟩ => step (grad5 (iblk m c 0 t)) (iblk m c 5 t) (iblk m c 13 t) (iblk m c 21 t)
    | ⟨38, _⟩ => step (grad6 (iblk m c 0 t)) (iblk m c 6 t) (iblk m c 14 t) (iblk m c 22 t)
    | ⟨39, _⟩ => step (grad7 (iblk m c 0 t)) (iblk m c 7 t) (iblk m c 15 t) (iblk m c 23 t)
    | ⟨40, _⟩ => step (grad8 (iblk m c 0 t)) (iblk m c 8 t) (iblk m c 16 t) (iblk m c 24 t)
    | ⟨41, _⟩ => mom (grad1 (iblk m c 0 t)) (iblk m c 9 t)
    | ⟨42, _⟩ => mom (grad2 (iblk m c 0 t)) (iblk m c 10 t)
    | ⟨43, _⟩ => mom (grad3 (iblk m c 0 t)) (iblk m c 11 t)
    | ⟨44, _⟩ => mom (grad4 (iblk m c 0 t)) (iblk m c 12 t)
    | ⟨45, _⟩ => mom (grad5 (iblk m c 0 t)) (iblk m c 13 t)
    | ⟨46, _⟩ => mom (grad6 (iblk m c 0 t)) (iblk m c 14 t)
    | ⟨47, _⟩ => mom (grad7 (iblk m c 0 t)) (iblk m c 15 t)
    | ⟨48, _⟩ => mom (grad8 (iblk m c 0 t)) (iblk m c 16 t)
    | ⟨49, _⟩ => sec (grad1 (iblk m c 0 t)) (iblk m c 17 t)
    | ⟨50, _⟩ => sec (grad2 (iblk m c 0 t)) (iblk m c 18 t)
    | ⟨51, _⟩ => sec (grad3 (iblk m c 0 t)) (iblk m c 19 t)
    | ⟨52, _⟩ => sec (grad4 (iblk m c 0 t)) (iblk m c 20 t)
    | ⟨53, _⟩ => sec (grad5 (iblk m c 0 t)) (iblk m c 21 t)
    | ⟨54, _⟩ => sec (grad6 (iblk m c 0 t)) (iblk m c 22 t)
    | ⟨55, _⟩ => sec (grad7 (iblk m c 0 t)) (iblk m c 23 t)
    | ⟨56, _⟩ => sec (grad8 (iblk m c 0 t)) (iblk m c 24 t)
    | ⟨57, _⟩ => loss (iblk m c 0 t)
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = grad1 (iblk m c 0 t) := by dsimp only [dats]
theorem after0_26 (c : Dev nD) (t : Fin cfg0.N) : (dats m 0 c).after 26 t = grad2 (iblk m c 0 t) := by dsimp only [dats]
theorem after0_27 (c : Dev nD) (t : Fin cfg0.N) : (dats m 0 c).after 27 t = grad3 (iblk m c 0 t) := by dsimp only [dats]
theorem after0_28 (c : Dev nD) (t : Fin cfg0.N) : (dats m 0 c).after 28 t = grad4 (iblk m c 0 t) := by dsimp only [dats]
theorem after0_29 (c : Dev nD) (t : Fin cfg0.N) : (dats m 0 c).after 29 t = grad5 (iblk m c 0 t) := by dsimp only [dats]
theorem after0_30 (c : Dev nD) (t : Fin cfg0.N) : (dats m 0 c).after 30 t = grad6 (iblk m c 0 t) := by dsimp only [dats]
theorem after0_31 (c : Dev nD) (t : Fin cfg0.N) : (dats m 0 c).after 31 t = grad7 (iblk m c 0 t) := by dsimp only [dats]
theorem after0_32 (c : Dev nD) (t : Fin cfg0.N) : (dats m 0 c).after 32 t = grad8 (iblk m c 0 t) := by dsimp only [dats]
theorem after0_33 (c : Dev nD) (t : Fin cfg0.N) : (dats m 0 c).after 33 t = step (grad1 (iblk m c 0 t)) (iblk m c 1 t) (iblk m c 9 t) (iblk m c 17 t) := by dsimp only [dats]
theorem after0_34 (c : Dev nD) (t : Fin cfg0.N) : (dats m 0 c).after 34 t = step (grad2 (iblk m c 0 t)) (iblk m c 2 t) (iblk m c 10 t) (iblk m c 18 t) := by dsimp only [dats]
theorem after0_35 (c : Dev nD) (t : Fin cfg0.N) : (dats m 0 c).after 35 t = step (grad3 (iblk m c 0 t)) (iblk m c 3 t) (iblk m c 11 t) (iblk m c 19 t) := by dsimp only [dats]
theorem after0_36 (c : Dev nD) (t : Fin cfg0.N) : (dats m 0 c).after 36 t = step (grad4 (iblk m c 0 t)) (iblk m c 4 t) (iblk m c 12 t) (iblk m c 20 t) := by dsimp only [dats]
theorem after0_37 (c : Dev nD) (t : Fin cfg0.N) : (dats m 0 c).after 37 t = step (grad5 (iblk m c 0 t)) (iblk m c 5 t) (iblk m c 13 t) (iblk m c 21 t) := by dsimp only [dats]
theorem after0_38 (c : Dev nD) (t : Fin cfg0.N) : (dats m 0 c).after 38 t = step (grad6 (iblk m c 0 t)) (iblk m c 6 t) (iblk m c 14 t) (iblk m c 22 t) := by dsimp only [dats]
theorem after0_39 (c : Dev nD) (t : Fin cfg0.N) : (dats m 0 c).after 39 t = step (grad7 (iblk m c 0 t)) (iblk m c 7 t) (iblk m c 15 t) (iblk m c 23 t) := by dsimp only [dats]
theorem after0_40 (c : Dev nD) (t : Fin cfg0.N) : (dats m 0 c).after 40 t = step (grad8 (iblk m c 0 t)) (iblk m c 8 t) (iblk m c 16 t) (iblk m c 24 t) := by dsimp only [dats]
theorem after0_41 (c : Dev nD) (t : Fin cfg0.N) : (dats m 0 c).after 41 t = mom (grad1 (iblk m c 0 t)) (iblk m c 9 t) := by dsimp only [dats]
theorem after0_42 (c : Dev nD) (t : Fin cfg0.N) : (dats m 0 c).after 42 t = mom (grad2 (iblk m c 0 t)) (iblk m c 10 t) := by dsimp only [dats]
theorem after0_43 (c : Dev nD) (t : Fin cfg0.N) : (dats m 0 c).after 43 t = mom (grad3 (iblk m c 0 t)) (iblk m c 11 t) := by dsimp only [dats]
theorem after0_44 (c : Dev nD) (t : Fin cfg0.N) : (dats m 0 c).after 44 t = mom (grad4 (iblk m c 0 t)) (iblk m c 12 t) := by dsimp only [dats]
theorem after0_45 (c : Dev nD) (t : Fin cfg0.N) : (dats m 0 c).after 45 t = mom (grad5 (iblk m c 0 t)) (iblk m c 13 t) := by dsimp only [dats]
theorem after0_46 (c : Dev nD) (t : Fin cfg0.N) : (dats m 0 c).after 46 t = mom (grad6 (iblk m c 0 t)) (iblk m c 14 t) := by dsimp only [dats]
theorem after0_47 (c : Dev nD) (t : Fin cfg0.N) : (dats m 0 c).after 47 t = mom (grad7 (iblk m c 0 t)) (iblk m c 15 t) := by dsimp only [dats]
theorem after0_48 (c : Dev nD) (t : Fin cfg0.N) : (dats m 0 c).after 48 t = mom (grad8 (iblk m c 0 t)) (iblk m c 16 t) := by dsimp only [dats]
theorem after0_49 (c : Dev nD) (t : Fin cfg0.N) : (dats m 0 c).after 49 t = sec (grad1 (iblk m c 0 t)) (iblk m c 17 t) := by dsimp only [dats]
theorem after0_50 (c : Dev nD) (t : Fin cfg0.N) : (dats m 0 c).after 50 t = sec (grad2 (iblk m c 0 t)) (iblk m c 18 t) := by dsimp only [dats]
theorem after0_51 (c : Dev nD) (t : Fin cfg0.N) : (dats m 0 c).after 51 t = sec (grad3 (iblk m c 0 t)) (iblk m c 19 t) := by dsimp only [dats]
theorem after0_52 (c : Dev nD) (t : Fin cfg0.N) : (dats m 0 c).after 52 t = sec (grad4 (iblk m c 0 t)) (iblk m c 20 t) := by dsimp only [dats]
theorem after0_53 (c : Dev nD) (t : Fin cfg0.N) : (dats m 0 c).after 53 t = sec (grad5 (iblk m c 0 t)) (iblk m c 21 t) := by dsimp only [dats]
theorem after0_54 (c : Dev nD) (t : Fin cfg0.N) : (dats m 0 c).after 54 t = sec (grad6 (iblk m c 0 t)) (iblk m c 22 t) := by dsimp only [dats]
theorem after0_55 (c : Dev nD) (t : Fin cfg0.N) : (dats m 0 c).after 55 t = sec (grad7 (iblk m c 0 t)) (iblk m c 23 t) := by dsimp only [dats]
theorem after0_56 (c : Dev nD) (t : Fin cfg0.N) : (dats m 0 c).after 56 t = sec (grad8 (iblk m c 0 t)) (iblk m c 24 t) := by dsimp only [dats]
theorem after0_57 (c : Dev nD) (t : Fin cfg0.N) : (dats m 0 c).after 57 t = loss (iblk m c 0 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d
theorem before0_16 (c : Dev nD) (t : Fin cfg0.N) (d) : (dats m 0 c).before 16 t d = iblk m c 16 t := before0_16_of m (dats m 0 c) (A_eq m c 16) (after0_16 m c) t d
theorem before0_17 (c : Dev nD) (t : Fin cfg0.N) (d) : (dats m 0 c).before 17 t d = iblk m c 17 t := before0_17_of m (dats m 0 c) (A_eq m c 17) (after0_17 m c) t d
theorem before0_18 (c : Dev nD) (t : Fin cfg0.N) (d) : (dats m 0 c).before 18 t d = iblk m c 18 t := before0_18_of m (dats m 0 c) (A_eq m c 18) (after0_18 m c) t d
theorem before0_19 (c : Dev nD) (t : Fin cfg0.N) (d) : (dats m 0 c).before 19 t d = iblk m c 19 t := before0_19_of m (dats m 0 c) (A_eq m c 19) (after0_19 m c) t d
theorem before0_20 (c : Dev nD) (t : Fin cfg0.N) (d) : (dats m 0 c).before 20 t d = iblk m c 20 t := before0_20_of m (dats m 0 c) (A_eq m c 20) (after0_20 m c) t d
theorem before0_21 (c : Dev nD) (t : Fin cfg0.N) (d) : (dats m 0 c).before 21 t d = iblk m c 21 t := before0_21_of m (dats m 0 c) (A_eq m c 21) (after0_21 m c) t d
theorem before0_22 (c : Dev nD) (t : Fin cfg0.N) (d) : (dats m 0 c).before 22 t d = iblk m c 22 t := before0_22_of m (dats m 0 c) (A_eq m c 22) (after0_22 m c) t d
theorem before0_23 (c : Dev nD) (t : Fin cfg0.N) (d) : (dats m 0 c).before 23 t d = iblk m c 23 t := before0_23_of m (dats m 0 c) (A_eq m c 23) (after0_23 m c) t d
theorem before0_24 (c : Dev nD) (t : Fin cfg0.N) (d) : (dats m 0 c).before 24 t d = iblk m c 24 t := before0_24_of m (dats m 0 c) (A_eq m c 24) (after0_24 m c) t d

variable (c : Dev nD) (t : Fin cfg0.N)

/-- What the body is called with. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d)))

/-- What it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t))

set_option maxHeartbeats 4000000 in
/-- The body at the point. -/
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩⟩
  iapply (run_then c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) (ms0_47 t) (hs0_47 t) (ms0_48 t) (hs0_48 t) (ms0_49 t) (hs0_49 t) (ms0_50 t) (hs0_50 t) (ms0_51 t) (hs0_51 t) (ms0_52 t) (hs0_52 t) (ms0_53 t) (hs0_53 t) (ms0_54 t) (hs0_54 t) (ms0_55 t) (hs0_55 t) (ms0_56 t) (hs0_56 t) (ms0_57 t) (hs0_57 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [HS H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    iexact HS
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

/-- The body table's row at the point is the body as `bodyAt0` spells it. -/
theorem defs₀_row : defs₀ (F := F) .tc cfg0.body (cfg0.bodyArgs t (cfg0.slots t)) = bodyAt0 t := by
  unfold defs₀; rw [Defs.onTc_tc]

set_option maxHeartbeats 4000000 in
/-- The body obligation. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends, each window's array at what the proof data says, every other buffer as it was, every
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are as launched. -/
abbrev Kept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)

/-- The frame: the arguments end as they were, every counter at zero. -/
theorem frame : θ_run defs (onTc (τ := τ) (main (F := F))) ⟨m, fun _ => 0, ρ⟩ (fun r => (∀ c : Dev nD, Kept m r c) ∧ r.2.sem = fun _ => 0) :=
  θ_run_and (frame_of m ρ (dats m) (A_eq m) (run_main m ρ)) ((θ_run defs _ _).mono (fun _ h => h.2) (run_main_quiescent m ρ))

end Cert.RepStepIdeal.Run

end
-- ==== Proof.RepArrays.lean ====
/-
  The arrays the optimiser's step for the replicated weights leaves.
-/
module

public import proofs.«01_k».proof.Proof.RepLaunch
public import Idealize.ShloMosaic.Lib.Pipeline.Frame
public import Idealize.ShloMosaic.Lib.Pipeline.ValueKit
public import Idealize.ShloMosaic.Lib.Claim

@[expose] public section

set_option maxRecDepth 16384

noncomputable section

namespace Cert.RepStepIdeal.Run

open Cert.RepStepIdeal Cert.RepStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

theorem index_0 : ∀ t : Fin cfg0.N, win0_0.index t = ![0, 0, 0] := by decide +kernel
theorem index_1 : ∀ t : Fin cfg0.N, win0_1.index t = ![0] := by decide +kernel
theorem index_2 : ∀ t : Fin cfg0.N, win0_2.index t = ![0] := by decide +kernel
theorem index_3 : ∀ t : Fin cfg0.N, win0_3.index t = ![0] := by decide +kernel
theorem index_4 : ∀ t : Fin cfg0.N, win0_4.index t = ![0] := by decide +kernel
theorem index_5 : ∀ t : Fin cfg0.N, win0_5.index t = ![0, 0, 0] := by decide +kernel
theorem index_6 : ∀ t : Fin cfg0.N, win0_6.index t = ![0, 0] := by decide +kernel
theorem index_7 : ∀ t : Fin cfg0.N, win0_7.index t = ![0] := by decide +kernel
theorem index_8 : ∀ t : Fin cfg0.N, win0_8.index t = ![0] := by decide +kernel
theorem index_9 : ∀ t : Fin cfg0.N, win0_9.index t = ![0] := by decide +kernel
theorem index_10 : ∀ t : Fin cfg0.N, win0_10.index t = ![0] := by decide +kernel
theorem index_11 : ∀ t : Fin cfg0.N, win0_11.index t = ![0] := by decide +kernel
theorem index_12 : ∀ t : Fin cfg0.N, win0_12.index t = ![0] := by decide +kernel
theorem index_13 : ∀ t : Fin cfg0.N, win0_13.index t = ![0, 0, 0] := by decide +kernel
theorem index_14 : ∀ t : Fin cfg0.N, win0_14.index t = ![0, 0] := by decide +kernel
theorem index_15 : ∀ t : Fin cfg0.N, win0_15.index t = ![0] := by decide +kernel
theorem index_16 : ∀ t : Fin cfg0.N, win0_16.index t = ![0] := by decide +kernel
theorem index_17 : ∀ t : Fin cfg0.N, win0_17.index t = ![0] := by decide +kernel
theorem index_18 : ∀ t : Fin cfg0.N, win0_18.index t = ![0] := by decide +kernel
theorem index_19 : ∀ t : Fin cfg0.N, win0_19.index t = ![0] := by decide +kernel
theorem index_20 : ∀ t : Fin cfg0.N, win0_20.index t = ![0] := by decide +kernel
theorem index_21 : ∀ t : Fin cfg0.N, win0_21.index t = ![0, 0, 0] := by decide +kernel
theorem index_22 : ∀ t : Fin cfg0.N, win0_22.index t = ![0, 0] := by decide +kernel
theorem index_23 : ∀ t : Fin cfg0.N, win0_23.index t = ![0] := by decide +kernel
theorem index_24 : ∀ t : Fin cfg0.N, win0_24.index t = ![0] := by decide +kernel
theorem index_25 : ∀ t : Fin cfg0.N, win0_25.index t = ![0] := by decide +kernel
theorem index_26 : ∀ t : Fin cfg0.N, win0_26.index t = ![0] := by decide +kernel
theorem index_27 : ∀ t : Fin cfg0.N, win0_27.index t = ![0] := by decide +kernel
theorem index_28 : ∀ t : Fin cfg0.N, win0_28.index t = ![0] := by decide +kernel
theorem index_29 : ∀ t : Fin cfg0.N, win0_29.index t = ![0, 0, 0] := by decide +kernel
theorem index_30 : ∀ t : Fin cfg0.N, win0_30.index t = ![0, 0] := by decide +kernel
theorem index_31 : ∀ t : Fin cfg0.N, win0_31.index t = ![0] := by decide +kernel
theorem index_32 : ∀ t : Fin cfg0.N, win0_32.index t = ![0] := by decide +kernel
theorem index_33 : ∀ t : Fin cfg0.N, win0_33.index t = ![0] := by decide +kernel
theorem index_34 : ∀ t : Fin cfg0.N, win0_34.index t = ![0] := by decide +kernel
theorem index_35 : ∀ t : Fin cfg0.N, win0_35.index t = ![0] := by decide +kernel
theorem index_36 : ∀ t : Fin cfg0.N, win0_36.index t = ![0] := by decide +kernel
theorem index_37 : ∀ t : Fin cfg0.N, win0_37.index t = ![0, 0, 0] := by decide +kernel
theorem index_38 : ∀ t : Fin cfg0.N, win0_38.index t = ![0, 0] := by decide +kernel
theorem index_39 : ∀ t : Fin cfg0.N, win0_39.index t = ![0] := by decide +kernel
theorem index_40 : ∀ t : Fin cfg0.N, win0_40.index t = ![0] := by decide +kernel
theorem index_41 : ∀ t : Fin cfg0.N, win0_41.index t = ![0] := by decide +kernel
theorem index_42 : ∀ t : Fin cfg0.N, win0_42.index t = ![0] := by decide +kernel
theorem index_43 : ∀ t : Fin cfg0.N, win0_43.index t = ![0] := by decide +kernel
theorem index_44 : ∀ t : Fin cfg0.N, win0_44.index t = ![0] := by decide +kernel
theorem index_45 : ∀ t : Fin cfg0.N, win0_45.index t = ![0, 0, 0] := by decide +kernel
theorem index_46 : ∀ t : Fin cfg0.N, win0_46.index t = ![0, 0] := by decide +kernel
theorem index_47 : ∀ t : Fin cfg0.N, win0_47.index t = ![0] := by decide +kernel
theorem index_48 : ∀ t : Fin cfg0.N, win0_48.index t = ![0] := by decide +kernel
theorem index_49 : ∀ t : Fin cfg0.N, win0_49.index t = ![0] := by decide +kernel
theorem index_50 : ∀ t : Fin cfg0.N, win0_50.index t = ![0] := by decide +kernel
theorem index_51 : ∀ t : Fin cfg0.N, win0_51.index t = ![0] := by decide +kernel
theorem index_52 : ∀ t : Fin cfg0.N, win0_52.index t = ![0] := by decide +kernel
theorem index_53 : ∀ t : Fin cfg0.N, win0_53.index t = ![0, 0, 0] := by decide +kernel
theorem index_54 : ∀ t : Fin cfg0.N, win0_54.index t = ![0, 0] := by decide +kernel
theorem index_55 : ∀ t : Fin cfg0.N, win0_55.index t = ![0] := by decide +kernel
theorem index_56 : ∀ t : Fin cfg0.N, win0_56.index t = ![0] := by decide +kernel
theorem index_57 : ∀ t : Fin cfg0.N, win0_57.index t = ![0, 0] := by decide +kernel

theorem blk_0 : iblk m c 0 t = V m c main_arg0 := by
  funext y
  unfold iblk
  refine congrArg (V m c main_arg0) ?_
  blk_ext [index_0]
theorem blk_1 : iblk m c 1 t = V m c main_arg1 := by
  funext y
  unfold iblk
  refine congrArg (V m c main_arg1) ?_
  blk_ext [index_1]
theorem blk_2 : iblk m c 2 t = V m c main_arg2 := by
  funext y
  unfold iblk
  refine congrArg (V m c main_arg2) ?_
  blk_ext [index_2]
theorem blk_3 : iblk m c 3 t = V m c main_arg3 := by
  funext y
  unfold iblk
  refine congrArg (V m c main_arg3) ?_
  blk_ext [index_3]
theorem blk_4 : iblk m c 4 t = V m c main_arg4 := by
  funext y
  unfold iblk
  refine congrArg (V m c main_arg4) ?_
  blk_ext [index_4]
theorem blk_5 : iblk m c 5 t = V m c main_arg5 := by
  funext y
  unfold iblk
  refine congrArg (V m c main_arg5) ?_
  blk_ext [index_5]
theorem blk_6 : iblk m c 6 t = V m c main_arg6 := by
  funext y
  unfold iblk
  refine congrArg (V m c main_arg6) ?_
  blk_ext [index_6]
theorem blk_7 : iblk m c 7 t = V m c main_arg7 := by
  funext y
  unfold iblk
  refine congrArg (V m c main_arg7) ?_
  blk_ext [index_7]
theorem blk_8 : iblk m c 8 t = V m c main_arg8 := by
  funext y
  unfold iblk
  refine congrArg (V m c main_arg8) ?_
  blk_ext [index_8]
theorem blk_9 : iblk m c 9 t = V m c main_arg9 := by
  funext y
  unfold iblk
  refine congrArg (V m c main_arg9) ?_
  blk_ext [index_9]
theorem blk_10 : iblk m c 10 t = V m c main_arg10 := by
  funext y
  unfold iblk
  refine congrArg (V m c main_arg10) ?_
  blk_ext [index_10]
theorem blk_11 : iblk m c 11 t = V m c main_arg11 := by
  funext y
  unfold iblk
  refine congrArg (V m c main_arg11) ?_
  blk_ext [index_11]
theorem blk_12 : iblk m c 12 t = V m c main_arg12 := by
  funext y
  unfold iblk
  refine congrArg (V m c main_arg12) ?_
  blk_ext [index_12]
theorem blk_13 : iblk m c 13 t = V m c main_arg13 := by
  funext y
  unfold iblk
  refine congrArg (V m c main_arg13) ?_
  blk_ext [index_13]
theorem blk_14 : iblk m c 14 t = V m c main_arg14 := by
  funext y
  unfold iblk
  refine congrArg (V m c main_arg14) ?_
  blk_ext [index_14]
theorem blk_15 : iblk m c 15 t = V m c main_arg15 := by
  funext y
  unfold iblk
  refine congrArg (V m c main_arg15) ?_
  blk_ext [index_15]
theorem blk_16 : iblk m c 16 t = V m c main_arg16 := by
  funext y
  unfold iblk
  refine congrArg (V m c main_arg16) ?_
  blk_ext [index_16]
theorem blk_17 : iblk m c 17 t = V m c main_arg17 := by
  funext y
  unfold iblk
  refine congrArg (V m c main_arg17) ?_
  blk_ext [index_17]
theorem blk_18 : iblk m c 18 t = V m c main_arg18 := by
  funext y
  unfold iblk
  refine congrArg (V m c main_arg18) ?_
  blk_ext [index_18]
theorem blk_19 : iblk m c 19 t = V m c main_arg19 := by
  funext y
  unfold iblk
  refine congrArg (V m c main_arg19) ?_
  blk_ext [index_19]
theorem blk_20 : iblk m c 20 t = V m c main_arg20 := by
  funext y
  unfold iblk
  refine congrArg (V m c main_arg20) ?_
  blk_ext [index_20]
theorem blk_21 : iblk m c 21 t = V m c main_arg21 := by
  funext y
  unfold iblk
  refine congrArg (V m c main_arg21) ?_
  blk_ext [index_21]
theorem blk_22 : iblk m c 22 t = V m c main_arg22 := by
  funext y
  unfold iblk
  refine congrArg (V m c main_arg22) ?_
  blk_ext [index_22]
theorem blk_23 : iblk m c 23 t = V m c main_arg23 := by
  funext y
  unfold iblk
  refine congrArg (V m c main_arg23) ?_
  blk_ext [index_23]
theorem blk_24 : iblk m c 24 t = V m c main_arg24 := by
  funext y
  unfold iblk
  refine congrArg (V m c main_arg24) ?_
  blk_ext [index_24]

theorem final_25 : (dats m 0 c).arrAt 25 cfg0.N = grad1 (V m c main_arg0) := by
  refine (dats m 0 c).arrAt_eq_of_covers 25 _ (by decide +kernel) fun t hf y => ?_
  rw [after0_25, blk_0]
  refine congrArg (grad1 (V m c main_arg0)) ?_
  blk_ext [index_25]

theorem final_26 : (dats m 0 c).arrAt 26 cfg0.N = grad2 (V m c main_arg0) := by
  refine (dats m 0 c).arrAt_eq_of_covers 26 _ (by decide +kernel) fun t hf y => ?_
  rw [after0_26, blk_0]
  refine congrArg (grad2 (V m c main_arg0)) ?_
  blk_ext [index_26]

theorem final_27 : (dats m 0 c).arrAt 27 cfg0.N = grad3 (V m c main_arg0) := by
  refine (dats m 0 c).arrAt_eq_of_covers 27 _ (by decide +kernel) fun t hf y => ?_
  rw [after0_27, blk_0]
  refine congrArg (grad3 (V m c main_arg0)) ?_
  blk_ext [index_27]

theorem final_28 : (dats m 0 c).arrAt 28 cfg0.N = grad4 (V m c main_arg0) := by
  refine (dats m 0 c).arrAt_eq_of_covers 28 _ (by decide +kernel) fun t hf y => ?_
  rw [after0_28, blk_0]
  refine congrArg (grad4 (V m c main_arg0)) ?_
  blk_ext [index_28]

theorem final_29 : (dats m 0 c).arrAt 29 cfg0.N = grad5 (V m c main_arg0) := by
  refine (dats m 0 c).arrAt_eq_of_covers 29 _ (by decide +kernel) fun t hf y => ?_
  rw [after0_29, blk_0]
  refine congrArg (grad5 (V m c main_arg0)) ?_
  blk_ext [index_29]

theorem final_30 : (dats m 0 c).arrAt 30 cfg0.N = grad6 (V m c main_arg0) := by
  refine (dats m 0 c).arrAt_eq_of_covers 30 _ (by decide +kernel) fun t hf y => ?_
  rw [after0_30, blk_0]
  refine congrArg (grad6 (V m c main_arg0)) ?_
  blk_ext [index_30]

theorem final_31 : (dats m 0 c).arrAt 31 cfg0.N = grad7 (V m c main_arg0) := by
  refine (dats m 0 c).arrAt_eq_of_covers 31 _ (by decide +kernel) fun t hf y => ?_
  rw [after0_31, blk_0]
  refine congrArg (grad7 (V m c main_arg0)) ?_
  blk_ext [index_31]

theorem final_32 : (dats m 0 c).arrAt 32 cfg0.N = grad8 (V m c main_arg0) := by
  refine (dats m 0 c).arrAt_eq_of_covers 32 _ (by decide +kernel) fun t hf y => ?_
  rw [after0_32, blk_0]
  refine congrArg (grad8 (V m c main_arg0)) ?_
  blk_ext [index_32]

theorem final_33 : (dats m 0 c).arrAt 33 cfg0.N = step (grad1 (V m c main_arg0)) (V m c main_arg1) (V m c main_arg9) (V m c main_arg17) := by
  refine (dats m 0 c).arrAt_eq_of_covers 33 _ (by decide +kernel) fun t hf y => ?_
  rw [after0_33, blk_0, blk_1, blk_9, blk_17]
  refine congrArg (step (grad1 (V m c main_arg0)) (V m c main_arg1) (V m c main_arg9) (V m c main_arg17)) ?_
  blk_ext [index_33]

theorem final_34 : (dats m 0 c).arrAt 34 cfg0.N = step (grad2 (V m c main_arg0)) (V m c main_arg2) (V m c main_arg10) (V m c main_arg18) := by
  refine (dats m 0 c).arrAt_eq_of_covers 34 _ (by decide +kernel) fun t hf y => ?_
  rw [after0_34, blk_0, blk_2, blk_10, blk_18]
  refine congrArg (step (grad2 (V m c main_arg0)) (V m c main_arg2) (V m c main_arg10) (V m c main_arg18)) ?_
  blk_ext [index_34]

theorem final_35 : (dats m 0 c).arrAt 35 cfg0.N = step (grad3 (V m c main_arg0)) (V m c main_arg3) (V m c main_arg11) (V m c main_arg19) := by
  refine (dats m 0 c).arrAt_eq_of_covers 35 _ (by decide +kernel) fun t hf y => ?_
  rw [after0_35, blk_0, blk_3, blk_11, blk_19]
  refine congrArg (step (grad3 (V m c main_arg0)) (V m c main_arg3) (V m c main_arg11) (V m c main_arg19)) ?_
  blk_ext [index_35]

theorem final_36 : (dats m 0 c).arrAt 36 cfg0.N = step (grad4 (V m c main_arg0)) (V m c main_arg4) (V m c main_arg12) (V m c main_arg20) := by
  refine (dats m 0 c).arrAt_eq_of_covers 36 _ (by decide +kernel) fun t hf y => ?_
  rw [after0_36, blk_0, blk_4, blk_12, blk_20]
  refine congrArg (step (grad4 (V m c main_arg0)) (V m c main_arg4) (V m c main_arg12) (V m c main_arg20)) ?_
  blk_ext [index_36]

theorem final_37 : (dats m 0 c).arrAt 37 cfg0.N = step (grad5 (V m c main_arg0)) (V m c main_arg5) (V m c main_arg13) (V m c main_arg21) := by
  refine (dats m 0 c).arrAt_eq_of_covers 37 _ (by decide +kernel) fun t hf y => ?_
  rw [after0_37, blk_0, blk_5, blk_13, blk_21]
  refine congrArg (step (grad5 (V m c main_arg0)) (V m c main_arg5) (V m c main_arg13) (V m c main_arg21)) ?_
  blk_ext [index_37]

theorem final_38 : (dats m 0 c).arrAt 38 cfg0.N = step (grad6 (V m c main_arg0)) (V m c main_arg6) (V m c main_arg14) (V m c main_arg22) := by
  refine (dats m 0 c).arrAt_eq_of_covers 38 _ (by decide +kernel) fun t hf y => ?_
  rw [after0_38, blk_0, blk_6, blk_14, blk_22]
  refine congrArg (step (grad6 (V m c main_arg0)) (V m c main_arg6) (V m c main_arg14) (V m c main_arg22)) ?_
  blk_ext [index_38]

theorem final_39 : (dats m 0 c).arrAt 39 cfg0.N = step (grad7 (V m c main_arg0)) (V m c main_arg7) (V m c main_arg15) (V m c main_arg23) := by
  refine (dats m 0 c).arrAt_eq_of_covers 39 _ (by decide +kernel) fun t hf y => ?_
  rw [after0_39, blk_0, blk_7, blk_15, blk_23]
  refine congrArg (step (grad7 (V m c main_arg0)) (V m c main_arg7) (V m c main_arg15) (V m c main_arg23)) ?_
  blk_ext [index_39]

theorem final_40 : (dats m 0 c).arrAt 40 cfg0.N = step (grad8 (V m c main_arg0)) (V m c main_arg8) (V m c main_arg16) (V m c main_arg24) := by
  refine (dats m 0 c).arrAt_eq_of_covers 40 _ (by decide +kernel) fun t hf y => ?_
  rw [after0_40, blk_0, blk_8, blk_16, blk_24]
  refine congrArg (step (grad8 (V m c main_arg0)) (V m c main_arg8) (V m c main_arg16) (V m c main_arg24)) ?_
  blk_ext [index_40]

theorem final_41 : (dats m 0 c).arrAt 41 cfg0.N = mom (grad1 (V m c main_arg0)) (V m c main_arg9) := by
  refine (dats m 0 c).arrAt_eq_of_covers 41 _ (by decide +kernel) fun t hf y => ?_
  rw [after0_41, blk_0, blk_9]
  refine congrArg (mom (grad1 (V m c main_arg0)) (V m c main_arg9)) ?_
  blk_ext [index_41]

theorem final_42 : (dats m 0 c).arrAt 42 cfg0.N = mom (grad2 (V m c main_arg0)) (V m c main_arg10) := by
  refine (dats m 0 c).arrAt_eq_of_covers 42 _ (by decide +kernel) fun t hf y => ?_
  rw [after0_42, blk_0, blk_10]
  refine congrArg (mom (grad2 (V m c main_arg0)) (V m c main_arg10)) ?_
  blk_ext [index_42]

theorem final_43 : (dats m 0 c).arrAt 43 cfg0.N = mom (grad3 (V m c main_arg0)) (V m c main_arg11) := by
  refine (dats m 0 c).arrAt_eq_of_covers 43 _ (by decide +kernel) fun t hf y => ?_
  rw [after0_43, blk_0, blk_11]
  refine congrArg (mom (grad3 (V m c main_arg0)) (V m c main_arg11)) ?_
  blk_ext [index_43]

theorem final_44 : (dats m 0 c).arrAt 44 cfg0.N = mom (grad4 (V m c main_arg0)) (V m c main_arg12) := by
  refine (dats m 0 c).arrAt_eq_of_covers 44 _ (by decide +kernel) fun t hf y => ?_
  rw [after0_44, blk_0, blk_12]
  refine congrArg (mom (grad4 (V m c main_arg0)) (V m c main_arg12)) ?_
  blk_ext [index_44]

theorem final_45 : (dats m 0 c).arrAt 45 cfg0.N = mom (grad5 (V m c main_arg0)) (V m c main_arg13) := by
  refine (dats m 0 c).arrAt_eq_of_covers 45 _ (by decide +kernel) fun t hf y => ?_
  rw [after0_45, blk_0, blk_13]
  refine congrArg (mom (grad5 (V m c main_arg0)) (V m c main_arg13)) ?_
  blk_ext [index_45]

theorem final_46 : (dats m 0 c).arrAt 46 cfg0.N = mom (grad6 (V m c main_arg0)) (V m c main_arg14) := by
  refine (dats m 0 c).arrAt_eq_of_covers 46 _ (by decide +kernel) fun t hf y => ?_
  rw [after0_46, blk_0, blk_14]
  refine congrArg (mom (grad6 (V m c main_arg0)) (V m c main_arg14)) ?_
  blk_ext [index_46]

theorem final_47 : (dats m 0 c).arrAt 47 cfg0.N = mom (grad7 (V m c main_arg0)) (V m c main_arg15) := by
  refine (dats m 0 c).arrAt_eq_of_covers 47 _ (by decide +kernel) fun t hf y => ?_
  rw [after0_47, blk_0, blk_15]
  refine congrArg (mom (grad7 (V m c main_arg0)) (V m c main_arg15)) ?_
  blk_ext [index_47]

theorem final_48 : (dats m 0 c).arrAt 48 cfg0.N = mom (grad8 (V m c main_arg0)) (V m c main_arg16) := by
  refine (dats m 0 c).arrAt_eq_of_covers 48 _ (by decide +kernel) fun t hf y => ?_
  rw [after0_48, blk_0, blk_16]
  refine congrArg (mom (grad8 (V m c main_arg0)) (V m c main_arg16)) ?_
  blk_ext [index_48]

theorem final_49 : (dats m 0 c).arrAt 49 cfg0.N = sec (grad1 (V m c main_arg0)) (V m c main_arg17) := by
  refine (dats m 0 c).arrAt_eq_of_covers 49 _ (by decide +kernel) fun t hf y => ?_
  rw [after0_49, blk_0, blk_17]
  refine congrArg (sec (grad1 (V m c main_arg0)) (V m c main_arg17)) ?_
  blk_ext [index_49]

theorem final_50 : (dats m 0 c).arrAt 50 cfg0.N = sec (grad2 (V m c main_arg0)) (V m c main_arg18) := by
  refine (dats m 0 c).arrAt_eq_of_covers 50 _ (by decide +kernel) fun t hf y => ?_
  rw [after0_50, blk_0, blk_18]
  refine congrArg (sec (grad2 (V m c main_arg0)) (V m c main_arg18)) ?_
  blk_ext [index_50]

theorem final_51 : (dats m 0 c).arrAt 51 cfg0.N = sec (grad3 (V m c main_arg0)) (V m c main_arg19) := by
  refine (dats m 0 c).arrAt_eq_of_covers 51 _ (by decide +kernel) fun t hf y => ?_
  rw [after0_51, blk_0, blk_19]
  refine congrArg (sec (grad3 (V m c main_arg0)) (V m c main_arg19)) ?_
  blk_ext [index_51]

theorem final_52 : (dats m 0 c).arrAt 52 cfg0.N = sec (grad4 (V m c main_arg0)) (V m c main_arg20) := by
  refine (dats m 0 c).arrAt_eq_of_covers 52 _ (by decide +kernel) fun t hf y => ?_
  rw [after0_52, blk_0, blk_20]
  refine congrArg (sec (grad4 (V m c main_arg0)) (V m c main_arg20)) ?_
  blk_ext [index_52]

theorem final_53 : (dats m 0 c).arrAt 53 cfg0.N = sec (grad5 (V m c main_arg0)) (V m c main_arg21) := by
  refine (dats m 0 c).arrAt_eq_of_covers 53 _ (by decide +kernel) fun t hf y => ?_
  rw [after0_53, blk_0, blk_21]
  refine congrArg (sec (grad5 (V m c main_arg0)) (V m c main_arg21)) ?_
  blk_ext [index_53]

theorem final_54 : (dats m 0 c).arrAt 54 cfg0.N = sec (grad6 (V m c main_arg0)) (V m c main_arg22) := by
  refine (dats m 0 c).arrAt_eq_of_covers 54 _ (by decide +kernel) fun t hf y => ?_
  rw [after0_54, blk_0, blk_22]
  refine congrArg (sec (grad6 (V m c main_arg0)) (V m c main_arg22)) ?_
  blk_ext [index_54]

theorem final_55 : (dats m 0 c).arrAt 55 cfg0.N = sec (grad7 (V m c main_arg0)) (V m c main_arg23) := by
  refine (dats m 0 c).arrAt_eq_of_covers 55 _ (by decide +kernel) fun t hf y => ?_
  rw [after0_55, blk_0, blk_23]
  refine congrArg (sec (grad7 (V m c main_arg0)) (V m c main_arg23)) ?_
  blk_ext [index_55]

theorem final_56 : (dats m 0 c).arrAt 56 cfg0.N = sec (grad8 (V m c main_arg0)) (V m c main_arg24) := by
  refine (dats m 0 c).arrAt_eq_of_covers 56 _ (by decide +kernel) fun t hf y => ?_
  rw [after0_56, blk_0, blk_24]
  refine congrArg (sec (grad8 (V m c main_arg0)) (V m c main_arg24)) ?_
  blk_ext [index_56]

theorem final_57 : (dats m 0 c).arrAt 57 cfg0.N = loss (V m c main_arg0) := by
  refine (dats m 0 c).arrAt_eq_of_covers 57 _ (by decide +kernel) fun t hf y => ?_
  rw [after0_57, blk_0]
  refine congrArg (loss (V m c main_arg0)) ?_
  blk_ext [index_57]

/-- What the run leaves. -/
abbrev Left (r : PUnit × MemSt nD τ sig (Elt F)) (c : Dev nD) : Prop :=
  r.2.mem ((c : Thread nD τ).loc main_v0_32) = loss (V m c main_arg0)
      ∧ r.2.mem ((c : Thread nD τ).loc main_v0_0) = grad1 (V m c main_arg0)
      ∧ r.2.mem ((c : Thread nD τ).loc main_v0_1) = grad2 (V m c main_arg0)
      ∧ r.2.mem ((c : Thread nD τ).loc main_v0_2) = grad3 (V m c main_arg0)
      ∧ r.2.mem ((c : Thread nD τ).loc main_v0_3) = grad4 (V m c main_arg0)
      ∧ r.2.mem ((c : Thread nD τ).loc main_v0_4) = grad5 (V m c main_arg0)
      ∧ r.2.mem ((c : Thread nD τ).loc main_v0_5) = grad6 (V m c main_arg0)
      ∧ r.2.mem ((c : Thread nD τ).loc main_v0_6) = grad7 (V m c main_arg0)
      ∧ r.2.mem ((c : Thread nD τ).loc main_v0_7) = grad8 (V m c main_arg0)
      ∧ r.2.mem ((c : Thread nD τ).loc main_v0_8) = step (grad1 (V m c main_arg0)) (V m c main_arg1) (V m c main_arg9) (V m c main_arg17)
      ∧ r.2.mem ((c : Thread nD τ).loc main_v0_9) = step (grad2 (V m c main_arg0)) (V m c main_arg2) (V m c main_arg10) (V m c main_arg18)
      ∧ r.2.mem ((c : Thread nD τ).loc main_v0_10) = step (grad3 (V m c main_arg0)) (V m c main_arg3) (V m c main_arg11) (V m c main_arg19)
      ∧ r.2.mem ((c : Thread nD τ).loc main_v0_11) = step (grad4 (V m c main_arg0)) (V m c main_arg4) (V m c main_arg12) (V m c main_arg20)
      ∧ r.2.mem ((c : Thread nD τ).loc main_v0_12) = step (grad5 (V m c main_arg0)) (V m c main_arg5) (V m c main_arg13) (V m c main_arg21)
      ∧ r.2.mem ((c : Thread nD τ).loc main_v0_13) = step (grad6 (V m c main_arg0)) (V m c main_arg6) (V m c main_arg14) (V m c main_arg22)
      ∧ r.2.mem ((c : Thread nD τ).loc main_v0_14) = step (grad7 (V m c main_arg0)) (V m c main_arg7) (V m c main_arg15) (V m c main_arg23)
      ∧ r.2.mem ((c : Thread nD τ).loc main_v0_15) = step (grad8 (V m c main_arg0)) (V m c main_arg8) (V m c main_arg16) (V m c main_arg24)
      ∧ r.2.mem ((c : Thread nD τ).loc main_v0_16) = mom (grad1 (V m c main_arg0)) (V m c main_arg9)
      ∧ r.2.mem ((c : Thread nD τ).loc main_v0_17) = mom (grad2 (V m c main_arg0)) (V m c main_arg10)
      ∧ r.2.mem ((c : Thread nD τ).loc main_v0_18) = mom (grad3 (V m c main_arg0)) (V m c main_arg11)
      ∧ r.2.mem ((c : Thread nD τ).loc main_v0_19) = mom (grad4 (V m c main_arg0)) (V m c main_arg12)
      ∧ r.2.mem ((c : Thread nD τ).loc main_v0_20) = mom (grad5 (V m c main_arg0)) (V m c main_arg13)
      ∧ r.2.mem ((c : Thread nD τ).loc main_v0_21) = mom (grad6 (V m c main_arg0)) (V m c main_arg14)
      ∧ r.2.mem ((c : Thread nD τ).loc main_v0_22) = mom (grad7 (V m c main_arg0)) (V m c main_arg15)
      ∧ r.2.mem ((c : Thread nD τ).loc main_v0_23) = mom (grad8 (V m c main_arg0)) (V m c main_arg16)
      ∧ r.2.mem ((c : Thread nD τ).loc main_v0_24) = sec (grad1 (V m c main_arg0)) (V m c main_arg17)
      ∧ r.2.mem ((c : Thread nD τ).loc main_v0_25) = sec (grad2 (V m c main_arg0)) (V m c main_arg18)
      ∧ r.2.mem ((c : Thread nD τ).loc main_v0_26) = sec (grad3 (V m c main_arg0)) (V m c main_arg19)
      ∧ r.2.mem ((c : Thread nD τ).loc main_v0_27) = sec (grad4 (V m c main_arg0)) (V m c main_arg20)
      ∧ r.2.mem ((c : Thread nD τ).loc main_v0_28) = sec (grad5 (V m c main_arg0)) (V m c main_arg21)
      ∧ r.2.mem ((c : Thread nD τ).loc main_v0_29) = sec (grad6 (V m c main_arg0)) (V m c main_arg22)
      ∧ r.2.mem ((c : Thread nD τ).loc main_v0_30) = sec (grad7 (V m c main_arg0)) (V m c main_arg23)
      ∧ r.2.mem ((c : Thread nD τ).loc main_v0_31) = sec (grad8 (V m c main_arg0)) (V m c main_arg24)

set_option maxHeartbeats 4000000 in
theorem left (r : PUnit × MemSt nD τ sig (Elt F)) (h : Pipeline.FramePost cfgs (dats m) 0 (V m) r) : Left m r c :=
  ⟨((h c).1 57).trans (final_57 m c),
    ((h c).1 25).trans (final_25 m c),
    ((h c).1 26).trans (final_26 m c),
    ((h c).1 27).trans (final_27 m c),
    ((h c).1 28).trans (final_28 m c),
    ((h c).1 29).trans (final_29 m c),
    ((h c).1 30).trans (final_30 m c),
    ((h c).1 31).trans (final_31 m c),
    ((h c).1 32).trans (final_32 m c),
    ((h c).1 33).trans (final_33 m c),
    ((h c).1 34).trans (final_34 m c),
    ((h c).1 35).trans (final_35 m c),
    ((h c).1 36).trans (final_36 m c),
    ((h c).1 37).trans (final_37 m c),
    ((h c).1 38).trans (final_38 m c),
    ((h c).1 39).trans (final_39 m c),
    ((h c).1 40).trans (final_40 m c),
    ((h c).1 41).trans (final_41 m c),
    ((h c).1 42).trans (final_42 m c),
    ((h c).1 43).trans (final_43 m c),
    ((h c).1 44).trans (final_44 m c),
    ((h c).1 45).trans (final_45 m c),
    ((h c).1 46).trans (final_46 m c),
    ((h c).1 47).trans (final_47 m c),
    ((h c).1 48).trans (final_48 m c),
    ((h c).1 49).trans (final_49 m c),
    ((h c).1 50).trans (final_50 m c),
    ((h c).1 51).trans (final_51 m c),
    ((h c).1 52).trans (final_52 m c),
    ((h c).1 53).trans (final_53 m c),
    ((h c).1 54).trans (final_54 m c),
    ((h c).1 55).trans (final_55 m c),
    ((h c).1 56).trans (final_56 m c)⟩

/-- The run: the results, the arguments unchanged. -/
theorem results : θ_run defs (onTc (τ := τ) (main (F := F))) ⟨m, fun _ => 0, ρ⟩ (fun r => ∀ c : Dev nD, Left m r c ∧ Kept m r c) :=
  (θ_run defs _ _).mono (fun r h c => ⟨left m c r h.1, h.2.1 c⟩) (θ_run_and (run_main m ρ) (frame m ρ))

end Cert.RepStepIdeal.Run

end
-- ==== Proof.RepEq.lean ====
/-
  The optimiser's step for the replicated weights: the gradients, moments and changes the kernel leaves are the reference's.
-/
module

public import proofs.«01_k».proof.Proof.RepModel
public import proofs.«01_k».proof.Proof.Gen.RepStepReferenceIdeal.Run
public import proofs.«01_k».proof.Proof.Gen.RepStepReferenceIdeal.Read
public import Idealize.ShloMosaic.Lib.Pipeline.ValueKit

@[expose] public section

set_option maxRecDepth 16384

noncomputable section

namespace Cert.Steps.Rep

open Cert.RepStepIdeal Cert.RepStepIdeal.Gen Cert.RepStepIdeal.Run
open Cert.RepStepReferenceIdeal.Read
open Idealize.ShloMosaic Idealize.ShloMosaic.TcCoe Idealize.SL.Sem

variable (x : Vec Ideal S8x136x128 .f32)

/-! ## The gradients -/

theorem grad1_ref : grad1 x = val_main_v2 (F := Ideal) x := by
  funext i
  have h0 : (i 0).val < 256 := (i 0).isLt
  unfold grad1
  rw [shapeCast_apply (s := S2x128) (t := S256) _ _ i (ValueIdx.ix2 (⟨(i 0).val / 128, by omega⟩ : Fin 2) (⟨(i 0).val % 128, by omega⟩ : Fin 128))
      (by rewrite [Shape.rowMajor_val_two, Shape.rowMajor_val_one]; show (i 0).val / 128 * 128 + (i 0).val % 128 = (i 0).val; omega),
    val_main_v2_apply, val_main_v1_apply, val_main_v0_apply]
  refine congrArg x (funext fun a => Fin.ext ?_)
  match a with
  | ⟨0, _⟩ => show (0 + 1 * ((i 0).val / 128)) / 8 = ((i 0).val) / 1024; omega
  | ⟨1, _⟩ => show 128 + (0 + 1 * ((i 0).val / 128)) % 8 = 128 + ((i 0).val) / 128 % 8; omega
  | ⟨2, _⟩ => show 0 + 1 * ((i 0).val % 128) = ((i 0).val) % 128; omega

theorem grad2_ref : grad2 x = val_main_v3 (F := Ideal) x := by
  funext i
  have h0 : (i 0).val < 128 := (i 0).isLt
  unfold grad2
  rw [shapeCast_apply (s := S1x128) (t := S128) _ _ i (ValueIdx.ix2 (⟨(i 0).val / 128, by omega⟩ : Fin 1) (⟨(i 0).val % 128, by omega⟩ : Fin 128))
      (by rewrite [Shape.rowMajor_val_two, Shape.rowMajor_val_one]; show (i 0).val / 128 * 128 + (i 0).val % 128 = (i 0).val; omega),
    val_main_v3_apply, val_main_v1_apply, val_main_v0_apply]
  refine congrArg x (funext fun a => Fin.ext ?_)
  match a with
  | ⟨0, _⟩ => show (2 + 1 * ((i 0).val / 128)) / 8 = (256 + (i 0).val) / 1024; omega
  | ⟨1, _⟩ => show 128 + (2 + 1 * ((i 0).val / 128)) % 8 = 128 + (256 + (i 0).val) / 128 % 8; omega
  | ⟨2, _⟩ => show 0 + 1 * ((i 0).val % 128) = (256 + (i 0).val) % 128; omega

theorem grad3_ref : grad3 x = val_main_v4 (F := Ideal) x := by
  funext i
  have h0 : (i 0).val < 512 := (i 0).isLt
  unfold grad3
  rw [shapeCast_apply (s := S4x128) (t := S512) _ _ i (ValueIdx.ix2 (⟨(i 0).val / 128, by omega⟩ : Fin 4) (⟨(i 0).val % 128, by omega⟩ : Fin 128))
      (by rewrite [Shape.rowMajor_val_two, Shape.rowMajor_val_one]; show (i 0).val / 128 * 128 + (i 0).val % 128 = (i 0).val; omega),
    val_main_v4_apply, val_main_v1_apply, val_main_v0_apply]
  refine congrArg x (funext fun a => Fin.ext ?_)
  match a with
  | ⟨0, _⟩ => show (3 + 1 * ((i 0).val / 128)) / 8 = (384 + (i 0).val) / 1024; omega
  | ⟨1, _⟩ => show 128 + (3 + 1 * ((i 0).val / 128)) % 8 = 128 + (384 + (i 0).val) / 128 % 8; omega
  | ⟨2, _⟩ => show 0 + 1 * ((i 0).val % 128) = (384 + (i 0).val) % 128; omega

theorem grad4_ref : grad4 x = val_main_v5 (F := Ideal) x := by
  funext i
  have h0 : (i 0).val < 512 := (i 0).isLt
  unfold grad4
  rw [shapeCast_apply (s := S4x128) (t := S512) _ _ i (ValueIdx.ix2 (⟨(i 0).val / 128, by omega⟩ : Fin 4) (⟨(i 0).val % 128, by omega⟩ : Fin 128))
      (by rewrite [Shape.rowMajor_val_two, Shape.rowMajor_val_one]; show (i 0).val / 128 * 128 + (i 0).val % 128 = (i 0).val; omega),
    val_main_v5_apply, val_main_v1_apply, val_main_v0_apply]
  refine congrArg x (funext fun a => Fin.ext ?_)
  match a with
  | ⟨0, _⟩ => show (7 + 1 * ((i 0).val / 128)) / 8 = (896 + (i 0).val) / 1024; omega
  | ⟨1, _⟩ => show 128 + (7 + 1 * ((i 0).val / 128)) % 8 = 128 + (896 + (i 0).val) / 128 % 8; omega
  | ⟨2, _⟩ => show 0 + 1 * ((i 0).val % 128) = (896 + (i 0).val) % 128; omega

theorem grad5_ref : grad5 x = val_main_v6 (F := Ideal) x := by
  funext i
  rw [val_main_v6_apply]
  refine congrArg x (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem grad6_ref : grad6 x = val_main_v8 (F := Ideal) x := by
  funext i
  have h0 : (i 0).val < 8 := (i 0).isLt
  have h1 : (i 1).val < 128 := (i 1).isLt
  rw [val_main_v8_apply, val_main_v7_apply, val_main_v1_apply, val_main_v0_apply]
  refine congrArg x (funext fun a => Fin.ext ?_)
  match a with
  | ⟨0, _⟩ => show (11 + 1 * (i 0).val) / 8 = (1408 + ((i 0).val * 128 + (i 1).val)) / 1024; omega
  | ⟨1, _⟩ => show 128 + (11 + 1 * (i 0).val) % 8 = 128 + (1408 + ((i 0).val * 128 + (i 1).val)) / 128 % 8; omega
  | ⟨2, _⟩ => show 0 + 1 * (i 1).val = (1408 + ((i 0).val * 128 + (i 1).val)) % 128; omega

theorem grad7_ref : grad7 x = val_main_v9 (F := Ideal) x := by
  funext i
  have h0 : (i 0).val < 1024 := (i 0).isLt
  unfold grad7
  rw [shapeCast_apply (s := S8x128) (t := S1024) _ _ i (ValueIdx.ix2 (⟨(i 0).val / 128, by omega⟩ : Fin 8) (⟨(i 0).val % 128, by omega⟩ : Fin 128))
      (by rewrite [Shape.rowMajor_val_two, Shape.rowMajor_val_one]; show (i 0).val / 128 * 128 + (i 0).val % 128 = (i 0).val; omega),
    val_main_v9_apply, val_main_v1_apply, val_main_v0_apply]
  refine congrArg x (funext fun a => Fin.ext ?_)
  match a with
  | ⟨0, _⟩ => show (19 + 1 * ((i 0).val / 128)) / 8 = (2432 + (i 0).val) / 1024; omega
  | ⟨1, _⟩ => show 128 + (19 + 1 * ((i 0).val / 128)) % 8 = 128 + (2432 + (i 0).val) / 128 % 8; omega
  | ⟨2, _⟩ => show 0 + 1 * ((i 0).val % 128) = (2432 + (i 0).val) % 128; omega

theorem grad8_ref : grad8 x = val_main_v10 (F := Ideal) x := by
  funext i
  have h0 : (i 0).val < 1024 := (i 0).isLt
  unfold grad8
  rw [shapeCast_apply (s := S8x128) (t := S1024) _ _ i (ValueIdx.ix2 (⟨(i 0).val / 128, by omega⟩ : Fin 8) (⟨(i 0).val % 128, by omega⟩ : Fin 128))
      (by rewrite [Shape.rowMajor_val_two, Shape.rowMajor_val_one]; show (i 0).val / 128 * 128 + (i 0).val % 128 = (i 0).val; omega),
    val_main_v10_apply, val_main_v1_apply, val_main_v0_apply]
  refine congrArg x (funext fun a => Fin.ext ?_)
  match a with
  | ⟨0, _⟩ => show (27 + 1 * ((i 0).val / 128)) / 8 = (3456 + (i 0).val) / 1024; omega
  | ⟨1, _⟩ => show 128 + (27 + 1 * ((i 0).val / 128)) % 8 = 128 + (3456 + (i 0).val) / 128 % 8; omega
  | ⟨2, _⟩ => show 0 + 1 * ((i 0).val % 128) = (3456 + (i 0).val) % 128; omega

theorem loss_ref : loss x = val_main_v204 (F := Ideal) x := by
  funext i
  have h0 : (i 0).val < 1 := (i 0).isLt
  have h1 : (i 1).val < 1 := (i 1).isLt
  rw [val_main_v204_apply, val_main_v203_apply, val_main_v1_apply, val_main_v0_apply]
  refine congrArg x (funext fun a => Fin.ext ?_)
  match a with
  | ⟨0, _⟩ => show (63 + 1 * (i 0).val) / 8 = (8191 + 0) / 1024; omega
  | ⟨1, _⟩ => show 128 + (63 + 1 * (i 0).val) % 8 = 128 + (8191 + 0) / 128 % 8; omega
  | ⟨2, _⟩ => show 127 + 1 * (i 1).val = (8191 + 0) % 128; omega

/-! ## The moments and the changes -/

theorem mom1_ref (mo : FVec Ideal S256 .f32) : mom (grad1 x) mo = val_main_v15 (F := Ideal) x mo := by
  rw [grad1_ref]
  funext i
  rfl
theorem sec1_ref (ve : FVec Ideal S256 .f32) : sec (grad1 x) ve = val_main_v21 (F := Ideal) x ve := by
  rw [grad1_ref]
  funext i
  rfl
theorem step1_ref (w mo ve : FVec Ideal S256 .f32) : step (grad1 x) w mo ve = val_main_v34 (F := Ideal) x w mo ve := by
  rw [grad1_ref]
  funext i
  rfl

theorem mom2_ref (mo : FVec Ideal S128 .f32) : mom (grad2 x) mo = val_main_v39 (F := Ideal) x mo := by
  rw [grad2_ref]
  funext i
  rfl
theorem sec2_ref (ve : FVec Ideal S128 .f32) : sec (grad2 x) ve = val_main_v45 (F := Ideal) x ve := by
  rw [grad2_ref]
  funext i
  rfl
theorem step2_ref (w mo ve : FVec Ideal S128 .f32) : step (grad2 x) w mo ve = val_main_v58 (F := Ideal) x w mo ve := by
  rw [grad2_ref]
  funext i
  rfl

theorem mom3_ref (mo : FVec Ideal S512 .f32) : mom (grad3 x) mo = val_main_v63 (F := Ideal) x mo := by
  rw [grad3_ref]
  funext i
  rfl
theorem sec3_ref (ve : FVec Ideal S512 .f32) : sec (grad3 x) ve = val_main_v69 (F := Ideal) x ve := by
  rw [grad3_ref]
  funext i
  rfl
theorem step3_ref (w mo ve : FVec Ideal S512 .f32) : step (grad3 x) w mo ve = val_main_v82 (F := Ideal) x w mo ve := by
  rw [grad3_ref]
  funext i
  rfl

theorem mom4_ref (mo : FVec Ideal S512 .f32) : mom (grad4 x) mo = val_main_v87 (F := Ideal) x mo := by
  rw [grad4_ref]
  funext i
  rfl
theorem sec4_ref (ve : FVec Ideal S512 .f32) : sec (grad4 x) ve = val_main_v93 (F := Ideal) x ve := by
  rw [grad4_ref]
  funext i
  rfl
theorem step4_ref (w mo ve : FVec Ideal S512 .f32) : step (grad4 x) w mo ve = val_main_v106 (F := Ideal) x w mo ve := by
  rw [grad4_ref]
  funext i
  rfl

theorem mom5_ref (mo : FVec Ideal S8x128x128 .f32) : mom (grad5 x) mo = val_main_v111 (F := Ideal) x mo := by
  rw [grad5_ref]
  funext i
  rfl
theorem sec5_ref (ve : FVec Ideal S8x128x128 .f32) : sec (grad5 x) ve = val_main_v117 (F := Ideal) x ve := by
  rw [grad5_ref]
  funext i
  rfl
theorem step5_ref (w mo ve : FVec Ideal S8x128x128 .f32) : step (grad5 x) w mo ve = val_main_v130 (F := Ideal) x w mo ve := by
  rw [grad5_ref]
  funext i
  rfl

theorem mom6_ref (mo : FVec Ideal S8x128 .f32) : mom (grad6 x) mo = val_main_v135 (F := Ideal) x mo := by
  rw [grad6_ref]
  funext i
  rfl
theorem sec6_ref (ve : FVec Ideal S8x128 .f32) : sec (grad6 x) ve = val_main_v141 (F := Ideal) x ve := by
  rw [grad6_ref]
  funext i
  rfl
theorem step6_ref (w mo ve : FVec Ideal S8x128 .f32) : step (grad6 x) w mo ve = val_main_v154 (F := Ideal) x w mo ve := by
  rw [grad6_ref]
  funext i
  rfl

theorem mom7_ref (mo : FVec Ideal S1024 .f32) : mom (grad7 x) mo = val_main_v159 (F := Ideal) x mo := by
  rw [grad7_ref]
  funext i
  rfl
theorem sec7_ref (ve : FVec Ideal S1024 .f32) : sec (grad7 x) ve = val_main_v165 (F := Ideal) x ve := by
  rw [grad7_ref]
  funext i
  rfl
theorem step7_ref (w mo ve : FVec Ideal S1024 .f32) : step (grad7 x) w mo ve = val_main_v178 (F := Ideal) x w mo ve := by
  rw [grad7_ref]
  funext i
  rfl

theorem mom8_ref (mo : FVec Ideal S1024 .f32) : mom (grad8 x) mo = val_main_v183 (F := Ideal) x mo := by
  rw [grad8_ref]
  funext i
  rfl
theorem sec8_ref (ve : FVec Ideal S1024 .f32) : sec (grad8 x) ve = val_main_v189 (F := Ideal) x ve := by
  rw [grad8_ref]
  funext i
  rfl
theorem step8_ref (w mo ve : FVec Ideal S1024 .f32) : step (grad8 x) w mo ve = val_main_v202 (F := Ideal) x w mo ve := by
  rw [grad8_ref]
  funext i
  rfl

end Cert.Steps.Rep

end
-- ==== Proof.RepStep.lean ====
/-
  The optimiser's step for the replicated weights: what the kernel leaves is what the reference leaves.
-/
module

public import proofs.«01_k».proof.Defs
public import proofs.«01_k».proof.Proof.RepArrays
public import proofs.«01_k».proof.Proof.RepEq
public import Idealize.ShloMosaic.Lib.Quiescent

@[expose] public section

set_option maxRecDepth 16384

noncomputable section

namespace Cert.Steps.Rep

open Cert.RepStepIdeal Cert.RepStepIdeal.Gen Cert.RepStepIdeal.Run
open Cert.RepStepReferenceIdeal.Read
open Idealize.ShloMosaic Idealize.ShloMosaic.TcCoe Idealize.SL.Sem

/-! ## The arrays -/

variable (m : (ℓ : Loc nD τ sig) → Buf (Elt Ideal) ℓ)

set_option maxHeartbeats 4000000 in
/-- The run: the results are the reference's functions of the arguments, and the arguments are unchanged. -/
theorem reads (ρ : Dev nD → PrngReg) : θ_run defs (onTc (τ := τ) (main (F := Ideal))) ⟨m, fun _ => 0, ρ⟩ (fun r => ∀ c : Dev nD,
      r.2.mem ((c : Thread nD τ).loc main_v0_32) = val_main_v204 (F := Ideal) (V m c main_arg0)
      ∧ r.2.mem ((c : Thread nD τ).loc main_v0_0) = val_main_v2 (F := Ideal) (V m c main_arg0)
      ∧ r.2.mem ((c : Thread nD τ).loc main_v0_1) = val_main_v3 (F := Ideal) (V m c main_arg0)
      ∧ r.2.mem ((c : Thread nD τ).loc main_v0_2) = val_main_v4 (F := Ideal) (V m c main_arg0)
      ∧ r.2.mem ((c : Thread nD τ).loc main_v0_3) = val_main_v5 (F := Ideal) (V m c main_arg0)
      ∧ r.2.mem ((c : Thread nD τ).loc main_v0_4) = val_main_v6 (F := Ideal) (V m c main_arg0)
      ∧ r.2.mem ((c : Thread nD τ).loc main_v0_5) = val_main_v8 (F := Ideal) (V m c main_arg0)
      ∧ r.2.mem ((c : Thread nD τ).loc main_v0_6) = val_main_v9 (F := Ideal) (V m c main_arg0)
      ∧ r.2.mem ((c : Thread nD τ).loc main_v0_7) = val_main_v10 (F := Ideal) (V m c main_arg0)
      ∧ r.2.mem ((c : Thread nD τ).loc main_v0_8) = val_main_v34 (F := Ideal) (V m c main_arg0) (V m c main_arg1) (V m c main_arg9) (V m c main_arg17)
      ∧ r.2.mem ((c : Thread nD τ).loc main_v0_9) = val_main_v58 (F := Ideal) (V m c main_arg0) (V m c main_arg2) (V m c main_arg10) (V m c main_arg18)
      ∧ r.2.mem ((c : Thread nD τ).loc main_v0_10) = val_main_v82 (F := Ideal) (V m c main_arg0) (V m c main_arg3) (V m c main_arg11) (V m c main_arg19)
      ∧ r.2.mem ((c : Thread nD τ).loc main_v0_11) = val_main_v106 (F := Ideal) (V m c main_arg0) (V m c main_arg4) (V m c main_arg12) (V m c main_arg20)
      ∧ r.2.mem ((c : Thread nD τ).loc main_v0_12) = val_main_v130 (F := Ideal) (V m c main_arg0) (V m c main_arg5) (V m c main_arg13) (V m c main_arg21)
      ∧ r.2.mem ((c : Thread nD τ).loc main_v0_13) = val_main_v154 (F := Ideal) (V m c main_arg0) (V m c main_arg6) (V m c main_arg14) (V m c main_arg22)
      ∧ r.2.mem ((c : Thread nD τ).loc main_v0_14) = val_main_v178 (F := Ideal) (V m c main_arg0) (V m c main_arg7) (V m c main_arg15) (V m c main_arg23)
      ∧ r.2.mem ((c : Thread nD τ).loc main_v0_15) = val_main_v202 (F := Ideal) (V m c main_arg0) (V m c main_arg8) (V m c main_arg16) (V m c main_arg24)
      ∧ r.2.mem ((c : Thread nD τ).loc main_v0_16) = val_main_v15 (F := Ideal) (V m c main_arg0) (V m c main_arg9)
      ∧ r.2.mem ((c : Thread nD τ).loc main_v0_17) = val_main_v39 (F := Ideal) (V m c main_arg0) (V m c main_arg10)
      ∧ r.2.mem ((c : Thread nD τ).loc main_v0_18) = val_main_v63 (F := Ideal) (V m c main_arg0) (V m c main_arg11)
      ∧ r.2.mem ((c : Thread nD τ).loc main_v0_19) = val_main_v87 (F := Ideal) (V m c main_arg0) (V m c main_arg12)
      ∧ r.2.mem ((c : Thread nD τ).loc main_v0_20) = val_main_v111 (F := Ideal) (V m c main_arg0) (V m c main_arg13)
      ∧ r.2.mem ((c : Thread nD τ).loc main_v0_21) = val_main_v135 (F := Ideal) (V m c main_arg0) (V m c main_arg14)
      ∧ r.2.mem ((c : Thread nD τ).loc main_v0_22) = val_main_v159 (F := Ideal) (V m c main_arg0) (V m c main_arg15)
      ∧ r.2.mem ((c : Thread nD τ).loc main_v0_23) = val_main_v183 (F := Ideal) (V m c main_arg0) (V m c main_arg16)
      ∧ r.2.mem ((c : Thread nD τ).loc main_v0_24) = val_main_v21 (F := Ideal) (V m c main_arg0) (V m c main_arg17)
      ∧ r.2.mem ((c : Thread nD τ).loc main_v0_25) = val_main_v45 (F := Ideal) (V m c main_arg0) (V m c main_arg18)
      ∧ r.2.mem ((c : Thread nD τ).loc main_v0_26) = val_main_v69 (F := Ideal) (V m c main_arg0) (V m c main_arg19)
      ∧ r.2.mem ((c : Thread nD τ).loc main_v0_27) = val_main_v93 (F := Ideal) (V m c main_arg0) (V m c main_arg20)
      ∧ r.2.mem ((c : Thread nD τ).loc main_v0_28) = val_main_v117 (F := Ideal) (V m c main_arg0) (V m c main_arg21)
      ∧ r.2.mem ((c : Thread nD τ).loc main_v0_29) = val_main_v141 (F := Ideal) (V m c main_arg0) (V m c main_arg22)
      ∧ r.2.mem ((c : Thread nD τ).loc main_v0_30) = val_main_v165 (F := Ideal) (V m c main_arg0) (V m c main_arg23)
      ∧ r.2.mem ((c : Thread nD τ).loc main_v0_31) = val_main_v189 (F := Ideal) (V m c main_arg0) (V m c main_arg24)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)) :=
  (θ_run defs _ _).mono (fun r h c => by
    obtain ⟨⟨h0, h1, h2, h3, h4, h5, h6, h7, h8, h9, h10, h11, h12, h13, h14, h15, h16, h17, h18, h19, h20, h21, h22, h23, h24, h25, h26, h27, h28, h29, h30, h31, h32⟩, hrest⟩ := h c
    exact ⟨h0.trans (loss_ref _),
      h1.trans (grad1_ref _),
      h2.trans (grad2_ref _),
      h3.trans (grad3_ref _),
      h4.trans (grad4_ref _),
      h5.trans (grad5_ref _),
      h6.trans (grad6_ref _),
      h7.trans (grad7_ref _),
      h8.trans (grad8_ref _),
      h9.trans (step1_ref _ _ _ _),
      h10.trans (step2_ref _ _ _ _),
      h11.trans (step3_ref _ _ _ _),
      h12.trans (step4_ref _ _ _ _),
      h13.trans (step5_ref _ _ _ _),
      h14.trans (step6_ref _ _ _ _),
      h15.trans (step7_ref _ _ _ _),
      h16.trans (step8_ref _ _ _ _),
      h17.trans (mom1_ref _ _),
      h18.trans (mom2_ref _ _),
      h19.trans (mom3_ref _ _),
      h20.trans (mom4_ref _ _),
      h21.trans (mom5_ref _ _),
      h22.trans (mom6_ref _ _),
      h23.trans (mom7_ref _ _),
      h24.trans (mom8_ref _ _),
      h25.trans (sec1_ref _ _),
      h26.trans (sec2_ref _ _),
      h27.trans (sec3_ref _ _),
      h28.trans (sec4_ref _ _),
      h29.trans (sec5_ref _ _),
      h30.trans (sec6_ref _ _),
      h31.trans (sec7_ref _ _),
      h32.trans (sec8_ref _ _),
      hrest⟩) (results m ρ)

set_option maxHeartbeats 4000000 in
/-- The kernel's results are the reference's. -/
theorem algebraic : Cert.algebraic_RepStepIdeal_RepStepReferenceIdeal (hRepStepIdeal := Cert.RepStepIdeal.Gen.facts)
    (hRepStepReferenceIdeal := Cert.RepStepReferenceIdeal.Gen.facts) := by
  intro m g m' g' _ hargs
  refine ⟨fun c => val_main_v204 (F := Ideal) (V m c main_arg0),
    fun c => val_main_v2 (F := Ideal) (V m c main_arg0),
    fun c => val_main_v3 (F := Ideal) (V m c main_arg0),
    fun c => val_main_v4 (F := Ideal) (V m c main_arg0),
    fun c => val_main_v5 (F := Ideal) (V m c main_arg0),
    fun c => val_main_v6 (F := Ideal) (V m c main_arg0),
    fun c => val_main_v8 (F := Ideal) (V m c main_arg0),
    fun c => val_main_v9 (F := Ideal) (V m c main_arg0),
    fun c => val_main_v10 (F := Ideal) (V m c main_arg0),
    fun c => val_main_v34 (F := Ideal) (V m c main_arg0) (V m c main_arg1) (V m c main_arg9) (V m c main_arg17),
    fun c => val_main_v58 (F := Ideal) (V m c main_arg0) (V m c main_arg2) (V m c main_arg10) (V m c main_arg18),
    fun c => val_main_v82 (F := Ideal) (V m c main_arg0) (V m c main_arg3) (V m c main_arg11) (V m c main_arg19),
    fun c => val_main_v106 (F := Ideal) (V m c main_arg0) (V m c main_arg4) (V m c main_arg12) (V m c main_arg20),
    fun c => val_main_v130 (F := Ideal) (V m c main_arg0) (V m c main_arg5) (V m c main_arg13) (V m c main_arg21),
    fun c => val_main_v154 (F := Ideal) (V m c main_arg0) (V m c main_arg6) (V m c main_arg14) (V m c main_arg22),
    fun c => val_main_v178 (F := Ideal) (V m c main_arg0) (V m c main_arg7) (V m c main_arg15) (V m c main_arg23),
    fun c => val_main_v202 (F := Ideal) (V m c main_arg0) (V m c main_arg8) (V m c main_arg16) (V m c main_arg24),
    fun c => val_main_v15 (F := Ideal) (V m c main_arg0) (V m c main_arg9),
    fun c => val_main_v39 (F := Ideal) (V m c main_arg0) (V m c main_arg10),
    fun c => val_main_v63 (F := Ideal) (V m c main_arg0) (V m c main_arg11),
    fun c => val_main_v87 (F := Ideal) (V m c main_arg0) (V m c main_arg12),
    fun c => val_main_v111 (F := Ideal) (V m c main_arg0) (V m c main_arg13),
    fun c => val_main_v135 (F := Ideal) (V m c main_arg0) (V m c main_arg14),
    fun c => val_main_v159 (F := Ideal) (V m c main_arg0) (V m c main_arg15),
    fun c => val_main_v183 (F := Ideal) (V m c main_arg0) (V m c main_arg16),
    fun c => val_main_v21 (F := Ideal) (V m c main_arg0) (V m c main_arg17),
    fun c => val_main_v45 (F := Ideal) (V m c main_arg0) (V m c main_arg18),
    fun c => val_main_v69 (F := Ideal) (V m c main_arg0) (V m c main_arg19),
    fun c => val_main_v93 (F := Ideal) (V m c main_arg0) (V m c main_arg20),
    fun c => val_main_v117 (F := Ideal) (V m c main_arg0) (V m c main_arg21),
    fun c => val_main_v141 (F := Ideal) (V m c main_arg0) (V m c main_arg22),
    fun c => val_main_v165 (F := Ideal) (V m c main_arg0) (V m c main_arg23),
    fun c => val_main_v189 (F := Ideal) (V m c main_arg0) (V m c main_arg24),
    reads m g, (θ_run Cert.RepStepReferenceIdeal.defs _ _).mono (fun r h c => ?_) (Cert.RepStepReferenceIdeal.Value.run m' g')⟩
  obtain ⟨h0, h1, h2, h3, h4, h5, h6, h7, h8, h9, h10, h11, h12, h13, h14, h15, h16, h17, h18, h19, h20, h21, h22, h23, h24, h25, h26, h27, h28, h29, h30, h31, h32, hrest⟩ := h c
  obtain ⟨a0, a1, a2, a3, a4, a5, a6, a7, a8, a9, a10, a11, a12, a13, a14, a15, a16, a17, a18, a19, a20, a21, a22, a23, a24⟩ := hargs c
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, hrest⟩
  · exact (h0.trans (Cert.RepStepReferenceIdeal.Read.val_main_v204_eq _)).trans (congrArg (val_main_v204 (F := Ideal)) a0)
  · exact (h1.trans (Cert.RepStepReferenceIdeal.Read.val_main_v2_eq _)).trans (congrArg (val_main_v2 (F := Ideal)) a0)
  · exact (h2.trans (Cert.RepStepReferenceIdeal.Read.val_main_v3_eq _)).trans (congrArg (val_main_v3 (F := Ideal)) a0)
  · exact (h3.trans (Cert.RepStepReferenceIdeal.Read.val_main_v4_eq _)).trans (congrArg (val_main_v4 (F := Ideal)) a0)
  · exact (h4.trans (Cert.RepStepReferenceIdeal.Read.val_main_v5_eq _)).trans (congrArg (val_main_v5 (F := Ideal)) a0)
  · exact (h5.trans (Cert.RepStepReferenceIdeal.Read.val_main_v6_eq _)).trans (congrArg (val_main_v6 (F := Ideal)) a0)
  · exact (h6.trans (Cert.RepStepReferenceIdeal.Read.val_main_v8_eq _)).trans (congrArg (val_main_v8 (F := Ideal)) a0)
  · exact (h7.trans (Cert.RepStepReferenceIdeal.Read.val_main_v9_eq _)).trans (congrArg (val_main_v9 (F := Ideal)) a0)
  · exact (h8.trans (Cert.RepStepReferenceIdeal.Read.val_main_v10_eq _)).trans (congrArg (val_main_v10 (F := Ideal)) a0)
  · exact (h9.trans (Cert.RepStepReferenceIdeal.Read.val_main_v34_eq _)).trans (congr (congr (congr (congrArg (val_main_v34 (F := Ideal)) a0) a1) a9) a17)
  · exact (h10.trans (Cert.RepStepReferenceIdeal.Read.val_main_v58_eq _)).trans (congr (congr (congr (congrArg (val_main_v58 (F := Ideal)) a0) a2) a10) a18)
  · exact (h11.trans (Cert.RepStepReferenceIdeal.Read.val_main_v82_eq _)).trans (congr (congr (congr (congrArg (val_main_v82 (F := Ideal)) a0) a3) a11) a19)
  · exact (h12.trans (Cert.RepStepReferenceIdeal.Read.val_main_v106_eq _)).trans (congr (congr (congr (congrArg (val_main_v106 (F := Ideal)) a0) a4) a12) a20)
  · exact (h13.trans (Cert.RepStepReferenceIdeal.Read.val_main_v130_eq _)).trans (congr (congr (congr (congrArg (val_main_v130 (F := Ideal)) a0) a5) a13) a21)
  · exact (h14.trans (Cert.RepStepReferenceIdeal.Read.val_main_v154_eq _)).trans (congr (congr (congr (congrArg (val_main_v154 (F := Ideal)) a0) a6) a14) a22)
  · exact (h15.trans (Cert.RepStepReferenceIdeal.Read.val_main_v178_eq _)).trans (congr (congr (congr (congrArg (val_main_v178 (F := Ideal)) a0) a7) a15) a23)
  · exact (h16.trans (Cert.RepStepReferenceIdeal.Read.val_main_v202_eq _)).trans (congr (congr (congr (congrArg (val_main_v202 (F := Ideal)) a0) a8) a16) a24)
  · exact (h17.trans (Cert.RepStepReferenceIdeal.Read.val_main_v15_eq _)).trans (congr (congrArg (val_main_v15 (F := Ideal)) a0) a9)
  · exact (h18.trans (Cert.RepStepReferenceIdeal.Read.val_main_v39_eq _)).trans (congr (congrArg (val_main_v39 (F := Ideal)) a0) a10)
  · exact (h19.trans (Cert.RepStepReferenceIdeal.Read.val_main_v63_eq _)).trans (congr (congrArg (val_main_v63 (F := Ideal)) a0) a11)
  · exact (h20.trans (Cert.RepStepReferenceIdeal.Read.val_main_v87_eq _)).trans (congr (congrArg (val_main_v87 (F := Ideal)) a0) a12)
  · exact (h21.trans (Cert.RepStepReferenceIdeal.Read.val_main_v111_eq _)).trans (congr (congrArg (val_main_v111 (F := Ideal)) a0) a13)
  · exact (h22.trans (Cert.RepStepReferenceIdeal.Read.val_main_v135_eq _)).trans (congr (congrArg (val_main_v135 (F := Ideal)) a0) a14)
  · exact (h23.trans (Cert.RepStepReferenceIdeal.Read.val_main_v159_eq _)).trans (congr (congrArg (val_main_v159 (F := Ideal)) a0) a15)
  · exact (h24.trans (Cert.RepStepReferenceIdeal.Read.val_main_v183_eq _)).trans (congr (congrArg (val_main_v183 (F := Ideal)) a0) a16)
  · exact (h25.trans (Cert.RepStepReferenceIdeal.Read.val_main_v21_eq _)).trans (congr (congrArg (val_main_v21 (F := Ideal)) a0) a17)
  · exact (h26.trans (Cert.RepStepReferenceIdeal.Read.val_main_v45_eq _)).trans (congr (congrArg (val_main_v45 (F := Ideal)) a0) a18)
  · exact (h27.trans (Cert.RepStepReferenceIdeal.Read.val_main_v69_eq _)).trans (congr (congrArg (val_main_v69 (F := Ideal)) a0) a19)
  · exact (h28.trans (Cert.RepStepReferenceIdeal.Read.val_main_v93_eq _)).trans (congr (congrArg (val_main_v93 (F := Ideal)) a0) a20)
  · exact (h29.trans (Cert.RepStepReferenceIdeal.Read.val_main_v117_eq _)).trans (congr (congrArg (val_main_v117 (F := Ideal)) a0) a21)
  · exact (h30.trans (Cert.RepStepReferenceIdeal.Read.val_main_v141_eq _)).trans (congr (congrArg (val_main_v141 (F := Ideal)) a0) a22)
  · exact (h31.trans (Cert.RepStepReferenceIdeal.Read.val_main_v165_eq _)).trans (congr (congrArg (val_main_v165 (F := Ideal)) a0) a23)
  · exact (h32.trans (Cert.RepStepReferenceIdeal.Read.val_main_v189_eq _)).trans (congr (congrArg (val_main_v189 (F := Ideal)) a0) a24)

/-- The reference ends with its arguments as they were and every counter at zero. -/
theorem reference_frame : Cert.quiescent_RepStepReferenceIdeal (hRepStepReferenceIdeal := Cert.RepStepReferenceIdeal.Gen.facts) :=
  fun m g _ => (θ_run Cert.RepStepReferenceIdeal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.RepStepReferenceIdeal.Value.run m g)

end Cert.Steps.Rep

end
-- ==== Proof.RepFrame.lean ====
/-
  The frame of the compiled program of the optimiser's step for the replicated weights.  Its text is the idealized program's, so the run of
  that one, which holds over any float values, is its run.
-/
module

public import proofs.«01_k».proof.Defs
public import proofs.«01_k».proof.Proof.RepLaunch
public import proofs.«01_k».proof.Proof.Gen.RepStep

@[expose] public section

set_option maxRecDepth 16384

noncomputable section

namespace Cert.Steps.Rep

open Idealize.ShloMosaic Idealize.ShloMosaic.TcCoe Idealize.SL.Sem

open Cert.RepStepIdeal in
set_option maxHeartbeats 16000000 in
/-- What is claimed of the compiled program is what the run gives. -/
theorem same : Cert.quiescent_RepStep (hRepStep := Cert.RepStep.Gen.facts)
    = ∀ (m : (ℓ : Loc nD τ sig) → Buf (Elt Bits) ℓ) (g : Dev nD → PrngReg), True →
        θ_run (defs (F := Bits)) (onTc (τ := τ) (main (F := Bits))) ⟨m, fun _ => 0, g⟩
          (fun r => (∀ c : Dev nD, Cert.RepStepIdeal.Run.Kept m r c) ∧ r.2.sem = fun _ => 0) := by sl_kernel_rfl

set_option maxHeartbeats 16000000 in
/-- Every run ends, with the arguments as they were and every counter at zero. -/
theorem frame : Cert.quiescent_RepStep (hRepStep := Cert.RepStep.Gen.facts) :=
  Eq.mpr same (fun m g _ => Cert.RepStepIdeal.Run.frame (F := Bits) m g)

end Cert.Steps.Rep

end
-- ==== Proof.lean ====
/-
  The claims about the backward and the forward kernel of causal attention, assembled.

  The compiled program and the idealized one end with their arguments as they were and every counter at zero
  (`Proof/SafeRun`, `Proof/IdealSafeRun`); the reference runs as a list of host operations; the one named constant of the
  idealized kernel is the logarithm of two.  For arguments whose entries are reals (`Proof/Finite`), what the idealized
  kernel leaves in its three results (`Proof/Tail`) is what the reference leaves in its own (`Proof/Equation`).

  The forward program's text is the idealized one's, so one run gives both frames (`Proof/FwdSafeRun`, `Proof/FwdFrame`).  For arguments whose
  entries are reals (`Proof/FwdFinite`), what the forward kernel leaves in its two results (`Proof/FwdTail`) is what its
  reference leaves in its own (`Proof/FwdEquation`).

  The four calls of the optimiser (`Proof/OutStep`, `Proof/HeadStep`, `Proof/InStep`, `Proof/RepStep`) need nothing of their arguments.
-/
module

public import proofs.«01_k».proof.Defs
public import proofs.«01_k».proof.Proof.SafeRun
public import proofs.«01_k».proof.Proof.IdealSafeRun
public import proofs.«01_k».proof.Proof.Finite
public import proofs.«01_k».proof.Proof.Equation
public import proofs.«01_k».proof.Proof.Gen.ReferenceIdeal.Run
public import proofs.«01_k».proof.Proof.Gen.ReferenceIdeal.Read
public import proofs.«01_k».proof.Proof.FwdFrame
public import proofs.«01_k».proof.Proof.FwdFinite
public import proofs.«01_k».proof.Proof.FwdEquation
public import proofs.«01_k».proof.Proof.Gen.ForwardReferenceIdeal.Run
public import proofs.«01_k».proof.Proof.Gen.ForwardReferenceIdeal.Read
public import proofs.«01_k».proof.Proof.OutStep
public import proofs.«01_k».proof.Proof.HeadStep
public import proofs.«01_k».proof.Proof.InStep
public import proofs.«01_k».proof.Proof.RepStep
public import proofs.«01_k».proof.Proof.RepFrame
public import Idealize.ShloMosaic.Adequacy
public import Idealize.ShloMosaic.Init
public import Idealize.ShloMosaic.Lib.Quiescent

@[expose] public section

noncomputable section

namespace Cert.Proof

open Idealize.ShloMosaic Idealize.SL.Sem

/-- The named constant is the logarithm of two. -/
theorem preserves : Cert.preserves_Kernel_KernelIdeal :=
  IdealRules.named_const.statement Cert.KernelIdeal.κ "ln2" .f32 0x3F317218#32 ((Real.log 2 : ℝ) : EReal) rfl

/-- The kernel's three gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.FiniteArgs.facts) := by
  intro m g m' g' hpre hargs
  refine ⟨Cert.KernelIdeal.Run.outQ m, Cert.KernelIdeal.Run.outK m, Cert.KernelIdeal.Run.outV m, Cert.KernelIdeal.Run.results m g,
    (θ_run Cert.ReferenceIdeal.defs _ _).mono (fun r h c => ?_) (Cert.ReferenceIdeal.Value.run m' g')⟩
  obtain ⟨⟨xq, eq⟩, ⟨xk, ek⟩, ⟨xv, ev⟩, ⟨xt, et⟩⟩ := @Cert.FiniteArgs.args Cert.FiniteArgs.facts _ _ _ _ (hpre c)
  obtain ⟨hq, hk, hv, hrest⟩ := h c
  obtain ⟨a0, a1, a2, a3⟩ := hargs c
  refine ⟨?_, ?_, ?_, hrest⟩
  · rw [hq, Cert.ReferenceIdeal.Read.val_main_v63_eq, a0, a1, a2, a3, eq, ek, ev, et]
    exact (Cert.KernelIdeal.HostIn.outQ_eq m c xq xk xv xt eq ek ev et).symm
  · rw [hk, Cert.ReferenceIdeal.Read.val_main_v61_eq, a0, a1, a2, a3, eq, ek, ev, et]
    exact (Cert.KernelIdeal.HostIn.outK_eq m c xq xk xv xt eq ek ev et).symm
  · rw [hv, Cert.ReferenceIdeal.Read.val_main_v44_eq, a0, a1, a3, eq, ek, et]
    exact (Cert.KernelIdeal.HostIn.outV_eq m c xq xk xv xt eq ek ev et).symm

/-- The reference ends with its arguments as they were and every counter at zero. -/
theorem reference_frame : Cert.quiescent_ReferenceIdeal (hReferenceIdeal := Cert.ReferenceIdeal.Gen.facts) :=
  fun m g _ => (θ_run Cert.ReferenceIdeal.defs _ _).mono (fun r h => ⟨fun c => (h c).2.2.2, sem_eq_zero_of_no_sems (by decide) r.2⟩)
    (Cert.ReferenceIdeal.Value.run m g)

/-- The forward kernel's two results are the reference's. -/
theorem forward_algebraic : Cert.algebraic_ForwardIdeal_ForwardReferenceIdeal_pre_finite_qkv (hForwardIdeal := Cert.ForwardIdeal.Gen.facts)
    (hForwardReferenceIdeal := Cert.ForwardReferenceIdeal.Gen.facts) (hPre_finite_qkv := Cert.FiniteQkv.facts) := by
  intro m g m' g' hpre hargs
  refine ⟨Cert.ForwardIdeal.Run.outO m, Cert.ForwardIdeal.Run.outL m, Cert.ForwardIdeal.Run.results m g,
    (θ_run Cert.ForwardReferenceIdeal.defs _ _).mono (fun r h c => ?_) (Cert.ForwardReferenceIdeal.Value.run m' g')⟩
  obtain ⟨⟨xq, eq⟩, ⟨xk, ek⟩, ⟨xv, ev⟩⟩ := @Cert.FiniteQkv.args Cert.FiniteQkv.facts _ _ _ (hpre c)
  obtain ⟨ho, hl, hrest⟩ := h c
  obtain ⟨a0, a1, a2⟩ := hargs c
  refine ⟨?_, ?_, hrest⟩
  · rw [ho, Cert.ForwardReferenceIdeal.Read.val_main_v35_eq, a0, a1, a2, eq, ek, ev]
    exact (Cert.ForwardIdeal.HostIn.outO_eq m c xq xk xv eq ek ev).symm
  · rw [hl, Cert.ForwardReferenceIdeal.Read.val_main_v42_eq, a0, a1, eq, ek]
    exact (Cert.ForwardIdeal.HostIn.outL_eq m c xq xk xv eq ek ev).symm

/-- The forward reference ends with its arguments as they were and every counter at zero. -/
theorem forward_reference_frame : Cert.quiescent_ForwardReferenceIdeal (hForwardReferenceIdeal := Cert.ForwardReferenceIdeal.Gen.facts) :=
  fun m g _ => (θ_run Cert.ForwardReferenceIdeal.defs _ _).mono (fun r h => ⟨fun c => (h c).2.2, sem_eq_zero_of_no_sems (by decide) r.2⟩)
    (Cert.ForwardReferenceIdeal.Value.run m g)

theorem claim : Cert.Claim :=
  ⟨Cert.Kernel.Gen.facts, Cert.KernelIdeal.Gen.facts, Cert.ReferenceIdeal.Gen.facts, Cert.Forward.Gen.facts, Cert.ForwardIdeal.Gen.facts,
    Cert.ForwardReferenceIdeal.Gen.facts, Cert.OutStep.Gen.facts, Cert.OutStepIdeal.Gen.facts, Cert.OutStepReferenceIdeal.Gen.facts,
    Cert.HeadStep.Gen.facts, Cert.HeadStepIdeal.Gen.facts, Cert.HeadStepReferenceIdeal.Gen.facts,
    Cert.InStep.Gen.facts, Cert.InStepIdeal.Gen.facts, Cert.InStepReferenceIdeal.Gen.facts,
    Cert.RepStep.Gen.facts, Cert.RepStepIdeal.Gen.facts, Cert.RepStepReferenceIdeal.Gen.facts, Cert.FiniteArgs.facts, Cert.FiniteQkv.facts,
    fun m g _ => Cert.Kernel.Safe.frame m g, fun m g _ => Cert.KernelIdeal.Safe.frame m g, fun m g _ => Cert.KernelIdeal.Safe.frame m g,
    reference_frame, fun m g _ => reference_frame m g trivial,
    Cert.FwdFrame.frame, fun m g _ => Cert.ForwardIdeal.Safe.frame m g, fun m g _ => Cert.ForwardIdeal.Safe.frame m g,
    forward_reference_frame, fun m g _ => forward_reference_frame m g trivial,
    fun m g _ => Cert.OutStep.Gen.frame m g, fun m g _ => Cert.OutStepIdeal.Gen.frame m g, Cert.Steps.Out.reference_frame,
    fun m g _ => Cert.HeadStep.Gen.frame m g, fun m g _ => Cert.HeadStepIdeal.Gen.frame m g, Cert.Steps.Head.reference_frame,
    fun m g _ => Cert.InStep.Gen.frame m g, fun m g _ => Cert.InStepIdeal.Gen.frame m g, Cert.Steps.In.reference_frame,
    Cert.Steps.Rep.frame, fun m g _ => Cert.RepStepIdeal.Run.frame m g, Cert.Steps.Rep.reference_frame,
    preserves, algebraic, trivial, forward_algebraic,
    trivial, Cert.Steps.Out.algebraic, trivial, Cert.Steps.Head.algebraic, trivial, Cert.Steps.In.algebraic,
    trivial, Cert.Steps.Rep.algebraic⟩

end Cert.Proof

end
